-- ==== Defs.lean ====
def Pre_ConvPostBwd (m : (ℓ : Loc Cert.ConvPostBwd.nD Cert.ConvPostBwd.τ Cert.ConvPostBwd.sig) → Buf (Elt Bits) ℓ) : Prop :=
  True

def Pre_ConvPostBwdIdeal (m : (ℓ : Loc Cert.ConvPostBwdIdeal.nD Cert.ConvPostBwdIdeal.τ Cert.ConvPostBwdIdeal.sig) → Buf (Elt Ideal) ℓ) : Prop :=
  True

def Pre_ConvPostBwdIdeal_all_finite3 [hPre_all_finite3 : Cert.Pre_all_finite3.Facts] (m : (ℓ : Loc Cert.ConvPostBwdIdeal.nD Cert.ConvPostBwdIdeal.τ Cert.ConvPostBwdIdeal.sig) → Buf (Elt Ideal) ℓ) : Prop :=
  ∀ c : Dev Cert.ConvPostBwdIdeal.nD,
    (Cert.Pre_all_finite3.fn (F := Ideal) (m ((c.tc : Thread Cert.ConvPostBwdIdeal.nD Cert.ConvPostBwdIdeal.τ).loc Cert.ConvPostBwdIdeal.main_arg0)) (m ((c.tc : Thread Cert.ConvPostBwdIdeal.nD Cert.ConvPostBwdIdeal.τ).loc Cert.ConvPostBwdIdeal.main_arg1)) (m ((c.tc : Thread Cert.ConvPostBwdIdeal.nD Cert.ConvPostBwdIdeal.τ).loc Cert.ConvPostBwdIdeal.main_arg2)) (m ((c.tc : Thread Cert.ConvPostBwdIdeal.nD Cert.ConvPostBwdIdeal.τ).loc Cert.ConvPostBwdIdeal.main_arg3)) (m ((c.tc : Thread Cert.ConvPostBwdIdeal.nD Cert.ConvPostBwdIdeal.τ).loc Cert.ConvPostBwdIdeal.main_arg4)) (m ((c.tc : Thread Cert.ConvPostBwdIdeal.nD Cert.ConvPostBwdIdeal.τ).loc Cert.ConvPostBwdIdeal.main_arg5))).1 = (fun _ => 1#1)
    ∧ (Cert.Pre_all_finite3.fn (F := Ideal) (m ((c.tc : Thread Cert.ConvPostBwdIdeal.nD Cert.ConvPostBwdIdeal.τ).loc Cert.ConvPostBwdIdeal.main_arg0)) (m ((c.tc : Thread Cert.ConvPostBwdIdeal.nD Cert.ConvPostBwdIdeal.τ).loc Cert.ConvPostBwdIdeal.main_arg1)) (m ((c.tc : Thread Cert.ConvPostBwdIdeal.nD Cert.ConvPostBwdIdeal.τ).loc Cert.ConvPostBwdIdeal.main_arg2)) (m ((c.tc : Thread Cert.ConvPostBwdIdeal.nD Cert.ConvPostBwdIdeal.τ).loc Cert.ConvPostBwdIdeal.main_arg3)) (m ((c.tc : Thread Cert.ConvPostBwdIdeal.nD Cert.ConvPostBwdIdeal.τ).loc Cert.ConvPostBwdIdeal.main_arg4)) (m ((c.tc : Thread Cert.ConvPostBwdIdeal.nD Cert.ConvPostBwdIdeal.τ).loc Cert.ConvPostBwdIdeal.main_arg5))).2.1 = (fun _ => 1#1)
    ∧ (Cert.Pre_all_finite3.fn (F := Ideal) (m ((c.tc : Thread Cert.ConvPostBwdIdeal.nD Cert.ConvPostBwdIdeal.τ).loc Cert.ConvPostBwdIdeal.main_arg0)) (m ((c.tc : Thread Cert.ConvPostBwdIdeal.nD Cert.ConvPostBwdIdeal.τ).loc Cert.ConvPostBwdIdeal.main_arg1)) (m ((c.tc : Thread Cert.ConvPostBwdIdeal.nD Cert.ConvPostBwdIdeal.τ).loc Cert.ConvPostBwdIdeal.main_arg2)) (m ((c.tc : Thread Cert.ConvPostBwdIdeal.nD Cert.ConvPostBwdIdeal.τ).loc Cert.ConvPostBwdIdeal.main_arg3)) (m ((c.tc : Thread Cert.ConvPostBwdIdeal.nD Cert.ConvPostBwdIdeal.τ).loc Cert.ConvPostBwdIdeal.main_arg4)) (m ((c.tc : Thread Cert.ConvPostBwdIdeal.nD Cert.ConvPostBwdIdeal.τ).loc Cert.ConvPostBwdIdeal.main_arg5))).2.2.1 = (fun _ => 1#1)
    ∧ (Cert.Pre_all_finite3.fn (F := Ideal) (m ((c.tc : Thread Cert.ConvPostBwdIdeal.nD Cert.ConvPostBwdIdeal.τ).loc Cert.ConvPostBwdIdeal.main_arg0)) (m ((c.tc : Thread Cert.ConvPostBwdIdeal.nD Cert.ConvPostBwdIdeal.τ).loc Cert.ConvPostBwdIdeal.main_arg1)) (m ((c.tc : Thread Cert.ConvPostBwdIdeal.nD Cert.ConvPostBwdIdeal.τ).loc Cert.ConvPostBwdIdeal.main_arg2)) (m ((c.tc : Thread Cert.ConvPostBwdIdeal.nD Cert.ConvPostBwdIdeal.τ).loc Cert.ConvPostBwdIdeal.main_arg3)) (m ((c.tc : Thread Cert.ConvPostBwdIdeal.nD Cert.ConvPostBwdIdeal.τ).loc Cert.ConvPostBwdIdeal.main_arg4)) (m ((c.tc : Thread Cert.ConvPostBwdIdeal.nD Cert.ConvPostBwdIdeal.τ).loc Cert.ConvPostBwdIdeal.main_arg5))).2.2.2.1 = (fun _ => 1#1)
    ∧ (Cert.Pre_all_finite3.fn (F := Ideal) (m ((c.tc : Thread Cert.ConvPostBwdIdeal.nD Cert.ConvPostBwdIdeal.τ).loc Cert.ConvPostBwdIdeal.main_arg0)) (m ((c.tc : Thread Cert.ConvPostBwdIdeal.nD Cert.ConvPostBwdIdeal.τ).loc Cert.ConvPostBwdIdeal.main_arg1)) (m ((c.tc : Thread Cert.ConvPostBwdIdeal.nD Cert.ConvPostBwdIdeal.τ).loc Cert.ConvPostBwdIdeal.main_arg2)) (m ((c.tc : Thread Cert.ConvPostBwdIdeal.nD Cert.ConvPostBwdIdeal.τ).loc Cert.ConvPostBwdIdeal.main_arg3)) (m ((c.tc : Thread Cert.ConvPostBwdIdeal.nD Cert.ConvPostBwdIdeal.τ).loc Cert.ConvPostBwdIdeal.main_arg4)) (m ((c.tc : Thread Cert.ConvPostBwdIdeal.nD Cert.ConvPostBwdIdeal.τ).loc Cert.ConvPostBwdIdeal.main_arg5))).2.2.2.2.1 = (fun _ => 1#1)
    ∧ (Cert.Pre_all_finite3.fn (F := Ideal) (m ((c.tc : Thread Cert.ConvPostBwdIdeal.nD Cert.ConvPostBwdIdeal.τ).loc Cert.ConvPostBwdIdeal.main_arg0)) (m ((c.tc : Thread Cert.ConvPostBwdIdeal.nD Cert.ConvPostBwdIdeal.τ).loc Cert.ConvPostBwdIdeal.main_arg1)) (m ((c.tc : Thread Cert.ConvPostBwdIdeal.nD Cert.ConvPostBwdIdeal.τ).loc Cert.ConvPostBwdIdeal.main_arg2)) (m ((c.tc : Thread Cert.ConvPostBwdIdeal.nD Cert.ConvPostBwdIdeal.τ).loc Cert.ConvPostBwdIdeal.main_arg3)) (m ((c.tc : Thread Cert.ConvPostBwdIdeal.nD Cert.ConvPostBwdIdeal.τ).loc Cert.ConvPostBwdIdeal.main_arg4)) (m ((c.tc : Thread Cert.ConvPostBwdIdeal.nD Cert.ConvPostBwdIdeal.τ).loc Cert.ConvPostBwdIdeal.main_arg5))).2.2.2.2.2 = (fun _ => 1#1)

def Pre_ConvPostBwdRefIdeal (m : (ℓ : Loc Cert.ConvPostBwdRefIdeal.nD Cert.ConvPostBwdRefIdeal.τ Cert.ConvPostBwdRefIdeal.sig) → Buf (Elt Ideal) ℓ) : Prop :=
  True

def Pre_ConvPostBwdRefIdeal_all_finite3 [hPre_all_finite3 : Cert.Pre_all_finite3.Facts] (m : (ℓ : Loc Cert.ConvPostBwdRefIdeal.nD Cert.ConvPostBwdRefIdeal.τ Cert.ConvPostBwdRefIdeal.sig) → Buf (Elt Ideal) ℓ) : Prop :=
  ∀ c : Dev Cert.ConvPostBwdRefIdeal.nD,
    (Cert.Pre_all_finite3.fn (F := Ideal) (m ((c.tc : Thread Cert.ConvPostBwdRefIdeal.nD Cert.ConvPostBwdRefIdeal.τ).loc Cert.ConvPostBwdRefIdeal.main_arg0)) (m ((c.tc : Thread Cert.ConvPostBwdRefIdeal.nD Cert.ConvPostBwdRefIdeal.τ).loc Cert.ConvPostBwdRefIdeal.main_arg1)) (m ((c.tc : Thread Cert.ConvPostBwdRefIdeal.nD Cert.ConvPostBwdRefIdeal.τ).loc Cert.ConvPostBwdRefIdeal.main_arg2)) (m ((c.tc : Thread Cert.ConvPostBwdRefIdeal.nD Cert.ConvPostBwdRefIdeal.τ).loc Cert.ConvPostBwdRefIdeal.main_arg3)) (m ((c.tc : Thread Cert.ConvPostBwdRefIdeal.nD Cert.ConvPostBwdRefIdeal.τ).loc Cert.ConvPostBwdRefIdeal.main_arg4)) (m ((c.tc : Thread Cert.ConvPostBwdRefIdeal.nD Cert.ConvPostBwdRefIdeal.τ).loc Cert.ConvPostBwdRefIdeal.main_arg5))).1 = (fun _ => 1#1)
    ∧ (Cert.Pre_all_finite3.fn (F := Ideal) (m ((c.tc : Thread Cert.ConvPostBwdRefIdeal.nD Cert.ConvPostBwdRefIdeal.τ).loc Cert.ConvPostBwdRefIdeal.main_arg0)) (m ((c.tc : Thread Cert.ConvPostBwdRefIdeal.nD Cert.ConvPostBwdRefIdeal.τ).loc Cert.ConvPostBwdRefIdeal.main_arg1)) (m ((c.tc : Thread Cert.ConvPostBwdRefIdeal.nD Cert.ConvPostBwdRefIdeal.τ).loc Cert.ConvPostBwdRefIdeal.main_arg2)) (m ((c.tc : Thread Cert.ConvPostBwdRefIdeal.nD Cert.ConvPostBwdRefIdeal.τ).loc Cert.ConvPostBwdRefIdeal.main_arg3)) (m ((c.tc : Thread Cert.ConvPostBwdRefIdeal.nD Cert.ConvPostBwdRefIdeal.τ).loc Cert.ConvPostBwdRefIdeal.main_arg4)) (m ((c.tc : Thread Cert.ConvPostBwdRefIdeal.nD Cert.ConvPostBwdRefIdeal.τ).loc Cert.ConvPostBwdRefIdeal.main_arg5))).2.1 = (fun _ => 1#1)
    ∧ (Cert.Pre_all_finite3.fn (F := Ideal) (m ((c.tc : Thread Cert.ConvPostBwdRefIdeal.nD Cert.ConvPostBwdRefIdeal.τ).loc Cert.ConvPostBwdRefIdeal.main_arg0)) (m ((c.tc : Thread Cert.ConvPostBwdRefIdeal.nD Cert.ConvPostBwdRefIdeal.τ).loc Cert.ConvPostBwdRefIdeal.main_arg1)) (m ((c.tc : Thread Cert.ConvPostBwdRefIdeal.nD Cert.ConvPostBwdRefIdeal.τ).loc Cert.ConvPostBwdRefIdeal.main_arg2)) (m ((c.tc : Thread Cert.ConvPostBwdRefIdeal.nD Cert.ConvPostBwdRefIdeal.τ).loc Cert.ConvPostBwdRefIdeal.main_arg3)) (m ((c.tc : Thread Cert.ConvPostBwdRefIdeal.nD Cert.ConvPostBwdRefIdeal.τ).loc Cert.ConvPostBwdRefIdeal.main_arg4)) (m ((c.tc : Thread Cert.ConvPostBwdRefIdeal.nD Cert.ConvPostBwdRefIdeal.τ).loc Cert.ConvPostBwdRefIdeal.main_arg5))).2.2.1 = (fun _ => 1#1)
    ∧ (Cert.Pre_all_finite3.fn (F := Ideal) (m ((c.tc : Thread Cert.ConvPostBwdRefIdeal.nD Cert.ConvPostBwdRefIdeal.τ).loc Cert.ConvPostBwdRefIdeal.main_arg0)) (m ((c.tc : Thread Cert.ConvPostBwdRefIdeal.nD Cert.ConvPostBwdRefIdeal.τ).loc Cert.ConvPostBwdRefIdeal.main_arg1)) (m ((c.tc : Thread Cert.ConvPostBwdRefIdeal.nD Cert.ConvPostBwdRefIdeal.τ).loc Cert.ConvPostBwdRefIdeal.main_arg2)) (m ((c.tc : Thread Cert.ConvPostBwdRefIdeal.nD Cert.ConvPostBwdRefIdeal.τ).loc Cert.ConvPostBwdRefIdeal.main_arg3)) (m ((c.tc : Thread Cert.ConvPostBwdRefIdeal.nD Cert.ConvPostBwdRefIdeal.τ).loc Cert.ConvPostBwdRefIdeal.main_arg4)) (m ((c.tc : Thread Cert.ConvPostBwdRefIdeal.nD Cert.ConvPostBwdRefIdeal.τ).loc Cert.ConvPostBwdRefIdeal.main_arg5))).2.2.2.1 = (fun _ => 1#1)
    ∧ (Cert.Pre_all_finite3.fn (F := Ideal) (m ((c.tc : Thread Cert.ConvPostBwdRefIdeal.nD Cert.ConvPostBwdRefIdeal.τ).loc Cert.ConvPostBwdRefIdeal.main_arg0)) (m ((c.tc : Thread Cert.ConvPostBwdRefIdeal.nD Cert.ConvPostBwdRefIdeal.τ).loc Cert.ConvPostBwdRefIdeal.main_arg1)) (m ((c.tc : Thread Cert.ConvPostBwdRefIdeal.nD Cert.ConvPostBwdRefIdeal.τ).loc Cert.ConvPostBwdRefIdeal.main_arg2)) (m ((c.tc : Thread Cert.ConvPostBwdRefIdeal.nD Cert.ConvPostBwdRefIdeal.τ).loc Cert.ConvPostBwdRefIdeal.main_arg3)) (m ((c.tc : Thread Cert.ConvPostBwdRefIdeal.nD Cert.ConvPostBwdRefIdeal.τ).loc Cert.ConvPostBwdRefIdeal.main_arg4)) (m ((c.tc : Thread Cert.ConvPostBwdRefIdeal.nD Cert.ConvPostBwdRefIdeal.τ).loc Cert.ConvPostBwdRefIdeal.main_arg5))).2.2.2.2.1 = (fun _ => 1#1)
    ∧ (Cert.Pre_all_finite3.fn (F := Ideal) (m ((c.tc : Thread Cert.ConvPostBwdRefIdeal.nD Cert.ConvPostBwdRefIdeal.τ).loc Cert.ConvPostBwdRefIdeal.main_arg0)) (m ((c.tc : Thread Cert.ConvPostBwdRefIdeal.nD Cert.ConvPostBwdRefIdeal.τ).loc Cert.ConvPostBwdRefIdeal.main_arg1)) (m ((c.tc : Thread Cert.ConvPostBwdRefIdeal.nD Cert.ConvPostBwdRefIdeal.τ).loc Cert.ConvPostBwdRefIdeal.main_arg2)) (m ((c.tc : Thread Cert.ConvPostBwdRefIdeal.nD Cert.ConvPostBwdRefIdeal.τ).loc Cert.ConvPostBwdRefIdeal.main_arg3)) (m ((c.tc : Thread Cert.ConvPostBwdRefIdeal.nD Cert.ConvPostBwdRefIdeal.τ).loc Cert.ConvPostBwdRefIdeal.main_arg4)) (m ((c.tc : Thread Cert.ConvPostBwdRefIdeal.nD Cert.ConvPostBwdRefIdeal.τ).loc Cert.ConvPostBwdRefIdeal.main_arg5))).2.2.2.2.2 = (fun _ => 1#1)

def Pre_ConvPreBwd (m : (ℓ : Loc Cert.ConvPreBwd.nD Cert.ConvPreBwd.τ Cert.ConvPreBwd.sig) → Buf (Elt Bits) ℓ) : Prop :=
  True

def Pre_ConvPreBwdIdeal (m : (ℓ : Loc Cert.ConvPreBwdIdeal.nD Cert.ConvPreBwdIdeal.τ Cert.ConvPreBwdIdeal.sig) → Buf (Elt Ideal) ℓ) : Prop :=
  True

def Pre_ConvPreBwdIdeal_finite2 [hPre_finite2 : Cert.Pre_finite2.Facts] (m : (ℓ : Loc Cert.ConvPreBwdIdeal.nD Cert.ConvPreBwdIdeal.τ Cert.ConvPreBwdIdeal.sig) → Buf (Elt Ideal) ℓ) : Prop :=
  ∀ c : Dev Cert.ConvPreBwdIdeal.nD,
    (Cert.Pre_finite2.fn (F := Ideal) (m ((c.tc : Thread Cert.ConvPreBwdIdeal.nD Cert.ConvPreBwdIdeal.τ).loc Cert.ConvPreBwdIdeal.main_arg0)) (m ((c.tc : Thread Cert.ConvPreBwdIdeal.nD Cert.ConvPreBwdIdeal.τ).loc Cert.ConvPreBwdIdeal.main_arg1)) (m ((c.tc : Thread Cert.ConvPreBwdIdeal.nD Cert.ConvPreBwdIdeal.τ).loc Cert.ConvPreBwdIdeal.main_arg2)) (m ((c.tc : Thread Cert.ConvPreBwdIdeal.nD Cert.ConvPreBwdIdeal.τ).loc Cert.ConvPreBwdIdeal.main_arg3)) (m ((c.tc : Thread Cert.ConvPreBwdIdeal.nD Cert.ConvPreBwdIdeal.τ).loc Cert.ConvPreBwdIdeal.main_arg4)) (m ((c.tc : Thread Cert.ConvPreBwdIdeal.nD Cert.ConvPreBwdIdeal.τ).loc Cert.ConvPreBwdIdeal.main_arg5))).1 = (fun _ => 1#1)
    ∧ (Cert.Pre_finite2.fn (F := Ideal) (m ((c.tc : Thread Cert.ConvPreBwdIdeal.nD Cert.ConvPreBwdIdeal.τ).loc Cert.ConvPreBwdIdeal.main_arg0)) (m ((c.tc : Thread Cert.ConvPreBwdIdeal.nD Cert.ConvPreBwdIdeal.τ).loc Cert.ConvPreBwdIdeal.main_arg1)) (m ((c.tc : Thread Cert.ConvPreBwdIdeal.nD Cert.ConvPreBwdIdeal.τ).loc Cert.ConvPreBwdIdeal.main_arg2)) (m ((c.tc : Thread Cert.ConvPreBwdIdeal.nD Cert.ConvPreBwdIdeal.τ).loc Cert.ConvPreBwdIdeal.main_arg3)) (m ((c.tc : Thread Cert.ConvPreBwdIdeal.nD Cert.ConvPreBwdIdeal.τ).loc Cert.ConvPreBwdIdeal.main_arg4)) (m ((c.tc : Thread Cert.ConvPreBwdIdeal.nD Cert.ConvPreBwdIdeal.τ).loc Cert.ConvPreBwdIdeal.main_arg5))).2.1 = (fun _ => 1#1)
    ∧ (Cert.Pre_finite2.fn (F := Ideal) (m ((c.tc : Thread Cert.ConvPreBwdIdeal.nD Cert.ConvPreBwdIdeal.τ).loc Cert.ConvPreBwdIdeal.main_arg0)) (m ((c.tc : Thread Cert.ConvPreBwdIdeal.nD Cert.ConvPreBwdIdeal.τ).loc Cert.ConvPreBwdIdeal.main_arg1)) (m ((c.tc : Thread Cert.ConvPreBwdIdeal.nD Cert.ConvPreBwdIdeal.τ).loc Cert.ConvPreBwdIdeal.main_arg2)) (m ((c.tc : Thread Cert.ConvPreBwdIdeal.nD Cert.ConvPreBwdIdeal.τ).loc Cert.ConvPreBwdIdeal.main_arg3)) (m ((c.tc : Thread Cert.ConvPreBwdIdeal.nD Cert.ConvPreBwdIdeal.τ).loc Cert.ConvPreBwdIdeal.main_arg4)) (m ((c.tc : Thread Cert.ConvPreBwdIdeal.nD Cert.ConvPreBwdIdeal.τ).loc Cert.ConvPreBwdIdeal.main_arg5))).2.2.1 = (fun _ => 1#1)
    ∧ (Cert.Pre_finite2.fn (F := Ideal) (m ((c.tc : Thread Cert.ConvPreBwdIdeal.nD Cert.ConvPreBwdIdeal.τ).loc Cert.ConvPreBwdIdeal.main_arg0)) (m ((c.tc : Thread Cert.ConvPreBwdIdeal.nD Cert.ConvPreBwdIdeal.τ).loc Cert.ConvPreBwdIdeal.main_arg1)) (m ((c.tc : Thread Cert.ConvPreBwdIdeal.nD Cert.ConvPreBwdIdeal.τ).loc Cert.ConvPreBwdIdeal.main_arg2)) (m ((c.tc : Thread Cert.ConvPreBwdIdeal.nD Cert.ConvPreBwdIdeal.τ).loc Cert.ConvPreBwdIdeal.main_arg3)) (m ((c.tc : Thread Cert.ConvPreBwdIdeal.nD Cert.ConvPreBwdIdeal.τ).loc Cert.ConvPreBwdIdeal.main_arg4)) (m ((c.tc : Thread Cert.ConvPreBwdIdeal.nD Cert.ConvPreBwdIdeal.τ).loc Cert.ConvPreBwdIdeal.main_arg5))).2.2.2.1 = (fun _ => 1#1)
    ∧ (Cert.Pre_finite2.fn (F := Ideal) (m ((c.tc : Thread Cert.ConvPreBwdIdeal.nD Cert.ConvPreBwdIdeal.τ).loc Cert.ConvPreBwdIdeal.main_arg0)) (m ((c.tc : Thread Cert.ConvPreBwdIdeal.nD Cert.ConvPreBwdIdeal.τ).loc Cert.ConvPreBwdIdeal.main_arg1)) (m ((c.tc : Thread Cert.ConvPreBwdIdeal.nD Cert.ConvPreBwdIdeal.τ).loc Cert.ConvPreBwdIdeal.main_arg2)) (m ((c.tc : Thread Cert.ConvPreBwdIdeal.nD Cert.ConvPreBwdIdeal.τ).loc Cert.ConvPreBwdIdeal.main_arg3)) (m ((c.tc : Thread Cert.ConvPreBwdIdeal.nD Cert.ConvPreBwdIdeal.τ).loc Cert.ConvPreBwdIdeal.main_arg4)) (m ((c.tc : Thread Cert.ConvPreBwdIdeal.nD Cert.ConvPreBwdIdeal.τ).loc Cert.ConvPreBwdIdeal.main_arg5))).2.2.2.2.1 = (fun _ => 1#1)
    ∧ (Cert.Pre_finite2.fn (F := Ideal) (m ((c.tc : Thread Cert.ConvPreBwdIdeal.nD Cert.ConvPreBwdIdeal.τ).loc Cert.ConvPreBwdIdeal.main_arg0)) (m ((c.tc : Thread Cert.ConvPreBwdIdeal.nD Cert.ConvPreBwdIdeal.τ).loc Cert.ConvPreBwdIdeal.main_arg1)) (m ((c.tc : Thread Cert.ConvPreBwdIdeal.nD Cert.ConvPreBwdIdeal.τ).loc Cert.ConvPreBwdIdeal.main_arg2)) (m ((c.tc : Thread Cert.ConvPreBwdIdeal.nD Cert.ConvPreBwdIdeal.τ).loc Cert.ConvPreBwdIdeal.main_arg3)) (m ((c.tc : Thread Cert.ConvPreBwdIdeal.nD Cert.ConvPreBwdIdeal.τ).loc Cert.ConvPreBwdIdeal.main_arg4)) (m ((c.tc : Thread Cert.ConvPreBwdIdeal.nD Cert.ConvPreBwdIdeal.τ).loc Cert.ConvPreBwdIdeal.main_arg5))).2.2.2.2.2 = (fun _ => 1#1)

def Pre_ConvPreBwdRefIdeal (m : (ℓ : Loc Cert.ConvPreBwdRefIdeal.nD Cert.ConvPreBwdRefIdeal.τ Cert.ConvPreBwdRefIdeal.sig) → Buf (Elt Ideal) ℓ) : Prop :=
  True

def Pre_ConvPreBwdRefIdeal_finite2 [hPre_finite2 : Cert.Pre_finite2.Facts] (m : (ℓ : Loc Cert.ConvPreBwdRefIdeal.nD Cert.ConvPreBwdRefIdeal.τ Cert.ConvPreBwdRefIdeal.sig) → Buf (Elt Ideal) ℓ) : Prop :=
  ∀ c : Dev Cert.ConvPreBwdRefIdeal.nD,
    (Cert.Pre_finite2.fn (F := Ideal) (m ((c.tc : Thread Cert.ConvPreBwdRefIdeal.nD Cert.ConvPreBwdRefIdeal.τ).loc Cert.ConvPreBwdRefIdeal.main_arg0)) (m ((c.tc : Thread Cert.ConvPreBwdRefIdeal.nD Cert.ConvPreBwdRefIdeal.τ).loc Cert.ConvPreBwdRefIdeal.main_arg1)) (m ((c.tc : Thread Cert.ConvPreBwdRefIdeal.nD Cert.ConvPreBwdRefIdeal.τ).loc Cert.ConvPreBwdRefIdeal.main_arg2)) (m ((c.tc : Thread Cert.ConvPreBwdRefIdeal.nD Cert.ConvPreBwdRefIdeal.τ).loc Cert.ConvPreBwdRefIdeal.main_arg3)) (m ((c.tc : Thread Cert.ConvPreBwdRefIdeal.nD Cert.ConvPreBwdRefIdeal.τ).loc Cert.ConvPreBwdRefIdeal.main_arg4)) (m ((c.tc : Thread Cert.ConvPreBwdRefIdeal.nD Cert.ConvPreBwdRefIdeal.τ).loc Cert.ConvPreBwdRefIdeal.main_arg5))).1 = (fun _ => 1#1)
    ∧ (Cert.Pre_finite2.fn (F := Ideal) (m ((c.tc : Thread Cert.ConvPreBwdRefIdeal.nD Cert.ConvPreBwdRefIdeal.τ).loc Cert.ConvPreBwdRefIdeal.main_arg0)) (m ((c.tc : Thread Cert.ConvPreBwdRefIdeal.nD Cert.ConvPreBwdRefIdeal.τ).loc Cert.ConvPreBwdRefIdeal.main_arg1)) (m ((c.tc : Thread Cert.ConvPreBwdRefIdeal.nD Cert.ConvPreBwdRefIdeal.τ).loc Cert.ConvPreBwdRefIdeal.main_arg2)) (m ((c.tc : Thread Cert.ConvPreBwdRefIdeal.nD Cert.ConvPreBwdRefIdeal.τ).loc Cert.ConvPreBwdRefIdeal.main_arg3)) (m ((c.tc : Thread Cert.ConvPreBwdRefIdeal.nD Cert.ConvPreBwdRefIdeal.τ).loc Cert.ConvPreBwdRefIdeal.main_arg4)) (m ((c.tc : Thread Cert.ConvPreBwdRefIdeal.nD Cert.ConvPreBwdRefIdeal.τ).loc Cert.ConvPreBwdRefIdeal.main_arg5))).2.1 = (fun _ => 1#1)
    ∧ (Cert.Pre_finite2.fn (F := Ideal) (m ((c.tc : Thread Cert.ConvPreBwdRefIdeal.nD Cert.ConvPreBwdRefIdeal.τ).loc Cert.ConvPreBwdRefIdeal.main_arg0)) (m ((c.tc : Thread Cert.ConvPreBwdRefIdeal.nD Cert.ConvPreBwdRefIdeal.τ).loc Cert.ConvPreBwdRefIdeal.main_arg1)) (m ((c.tc : Thread Cert.ConvPreBwdRefIdeal.nD Cert.ConvPreBwdRefIdeal.τ).loc Cert.ConvPreBwdRefIdeal.main_arg2)) (m ((c.tc : Thread Cert.ConvPreBwdRefIdeal.nD Cert.ConvPreBwdRefIdeal.τ).loc Cert.ConvPreBwdRefIdeal.main_arg3)) (m ((c.tc : Thread Cert.ConvPreBwdRefIdeal.nD Cert.ConvPreBwdRefIdeal.τ).loc Cert.ConvPreBwdRefIdeal.main_arg4)) (m ((c.tc : Thread Cert.ConvPreBwdRefIdeal.nD Cert.ConvPreBwdRefIdeal.τ).loc Cert.ConvPreBwdRefIdeal.main_arg5))).2.2.1 = (fun _ => 1#1)
    ∧ (Cert.Pre_finite2.fn (F := Ideal) (m ((c.tc : Thread Cert.ConvPreBwdRefIdeal.nD Cert.ConvPreBwdRefIdeal.τ).loc Cert.ConvPreBwdRefIdeal.main_arg0)) (m ((c.tc : Thread Cert.ConvPreBwdRefIdeal.nD Cert.ConvPreBwdRefIdeal.τ).loc Cert.ConvPreBwdRefIdeal.main_arg1)) (m ((c.tc : Thread Cert.ConvPreBwdRefIdeal.nD Cert.ConvPreBwdRefIdeal.τ).loc Cert.ConvPreBwdRefIdeal.main_arg2)) (m ((c.tc : Thread Cert.ConvPreBwdRefIdeal.nD Cert.ConvPreBwdRefIdeal.τ).loc Cert.ConvPreBwdRefIdeal.main_arg3)) (m ((c.tc : Thread Cert.ConvPreBwdRefIdeal.nD Cert.ConvPreBwdRefIdeal.τ).loc Cert.ConvPreBwdRefIdeal.main_arg4)) (m ((c.tc : Thread Cert.ConvPreBwdRefIdeal.nD Cert.ConvPreBwdRefIdeal.τ).loc Cert.ConvPreBwdRefIdeal.main_arg5))).2.2.2.1 = (fun _ => 1#1)
    ∧ (Cert.Pre_finite2.fn (F := Ideal) (m ((c.tc : Thread Cert.ConvPreBwdRefIdeal.nD Cert.ConvPreBwdRefIdeal.τ).loc Cert.ConvPreBwdRefIdeal.main_arg0)) (m ((c.tc : Thread Cert.ConvPreBwdRefIdeal.nD Cert.ConvPreBwdRefIdeal.τ).loc Cert.ConvPreBwdRefIdeal.main_arg1)) (m ((c.tc : Thread Cert.ConvPreBwdRefIdeal.nD Cert.ConvPreBwdRefIdeal.τ).loc Cert.ConvPreBwdRefIdeal.main_arg2)) (m ((c.tc : Thread Cert.ConvPreBwdRefIdeal.nD Cert.ConvPreBwdRefIdeal.τ).loc Cert.ConvPreBwdRefIdeal.main_arg3)) (m ((c.tc : Thread Cert.ConvPreBwdRefIdeal.nD Cert.ConvPreBwdRefIdeal.τ).loc Cert.ConvPreBwdRefIdeal.main_arg4)) (m ((c.tc : Thread Cert.ConvPreBwdRefIdeal.nD Cert.ConvPreBwdRefIdeal.τ).loc Cert.ConvPreBwdRefIdeal.main_arg5))).2.2.2.2.1 = (fun _ => 1#1)
    ∧ (Cert.Pre_finite2.fn (F := Ideal) (m ((c.tc : Thread Cert.ConvPreBwdRefIdeal.nD Cert.ConvPreBwdRefIdeal.τ).loc Cert.ConvPreBwdRefIdeal.main_arg0)) (m ((c.tc : Thread Cert.ConvPreBwdRefIdeal.nD Cert.ConvPreBwdRefIdeal.τ).loc Cert.ConvPreBwdRefIdeal.main_arg1)) (m ((c.tc : Thread Cert.ConvPreBwdRefIdeal.nD Cert.ConvPreBwdRefIdeal.τ).loc Cert.ConvPreBwdRefIdeal.main_arg2)) (m ((c.tc : Thread Cert.ConvPreBwdRefIdeal.nD Cert.ConvPreBwdRefIdeal.τ).loc Cert.ConvPreBwdRefIdeal.main_arg3)) (m ((c.tc : Thread Cert.ConvPreBwdRefIdeal.nD Cert.ConvPreBwdRefIdeal.τ).loc Cert.ConvPreBwdRefIdeal.main_arg4)) (m ((c.tc : Thread Cert.ConvPreBwdRefIdeal.nD Cert.ConvPreBwdRefIdeal.τ).loc Cert.ConvPreBwdRefIdeal.main_arg5))).2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite4 [hPre_finite4 : Cert.Pre_finite4.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite4.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_finite4.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_finite4.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_finite4.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_finite4.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite4 [hPre_finite4 : Cert.Pre_finite4.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite4.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_finite4.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_finite4.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_finite4.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_finite4.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_FfnBwdOut (m : (ℓ : Loc Cert.FfnBwdOut.nD Cert.FfnBwdOut.τ Cert.FfnBwdOut.sig) → Buf (Elt Bits) ℓ) : Prop :=
  True

def Pre_FfnBwdOutIdeal (m : (ℓ : Loc Cert.FfnBwdOutIdeal.nD Cert.FfnBwdOutIdeal.τ Cert.FfnBwdOutIdeal.sig) → Buf (Elt Ideal) ℓ) : Prop :=
  True

def Pre_FfnBwdOutIdeal_finite6 [hPre_finite6 : Cert.Pre_finite6.Facts] (m : (ℓ : Loc Cert.FfnBwdOutIdeal.nD Cert.FfnBwdOutIdeal.τ Cert.FfnBwdOutIdeal.sig) → Buf (Elt Ideal) ℓ) : Prop :=
  ∀ c : Dev Cert.FfnBwdOutIdeal.nD,
    (Cert.Pre_finite6.fn (F := Ideal) (m ((c.tc : Thread Cert.FfnBwdOutIdeal.nD Cert.FfnBwdOutIdeal.τ).loc Cert.FfnBwdOutIdeal.main_arg0)) (m ((c.tc : Thread Cert.FfnBwdOutIdeal.nD Cert.FfnBwdOutIdeal.τ).loc Cert.FfnBwdOutIdeal.main_arg1)) (m ((c.tc : Thread Cert.FfnBwdOutIdeal.nD Cert.FfnBwdOutIdeal.τ).loc Cert.FfnBwdOutIdeal.main_arg2)) (m ((c.tc : Thread Cert.FfnBwdOutIdeal.nD Cert.FfnBwdOutIdeal.τ).loc Cert.FfnBwdOutIdeal.main_arg3)) (m ((c.tc : Thread Cert.FfnBwdOutIdeal.nD Cert.FfnBwdOutIdeal.τ).loc Cert.FfnBwdOutIdeal.main_arg4)) (m ((c.tc : Thread Cert.FfnBwdOutIdeal.nD Cert.FfnBwdOutIdeal.τ).loc Cert.FfnBwdOutIdeal.main_arg5))).1 = (fun _ => 1#1)
    ∧ (Cert.Pre_finite6.fn (F := Ideal) (m ((c.tc : Thread Cert.FfnBwdOutIdeal.nD Cert.FfnBwdOutIdeal.τ).loc Cert.FfnBwdOutIdeal.main_arg0)) (m ((c.tc : Thread Cert.FfnBwdOutIdeal.nD Cert.FfnBwdOutIdeal.τ).loc Cert.FfnBwdOutIdeal.main_arg1)) (m ((c.tc : Thread Cert.FfnBwdOutIdeal.nD Cert.FfnBwdOutIdeal.τ).loc Cert.FfnBwdOutIdeal.main_arg2)) (m ((c.tc : Thread Cert.FfnBwdOutIdeal.nD Cert.FfnBwdOutIdeal.τ).loc Cert.FfnBwdOutIdeal.main_arg3)) (m ((c.tc : Thread Cert.FfnBwdOutIdeal.nD Cert.FfnBwdOutIdeal.τ).loc Cert.FfnBwdOutIdeal.main_arg4)) (m ((c.tc : Thread Cert.FfnBwdOutIdeal.nD Cert.FfnBwdOutIdeal.τ).loc Cert.FfnBwdOutIdeal.main_arg5))).2.1 = (fun _ => 1#1)
    ∧ (Cert.Pre_finite6.fn (F := Ideal) (m ((c.tc : Thread Cert.FfnBwdOutIdeal.nD Cert.FfnBwdOutIdeal.τ).loc Cert.FfnBwdOutIdeal.main_arg0)) (m ((c.tc : Thread Cert.FfnBwdOutIdeal.nD Cert.FfnBwdOutIdeal.τ).loc Cert.FfnBwdOutIdeal.main_arg1)) (m ((c.tc : Thread Cert.FfnBwdOutIdeal.nD Cert.FfnBwdOutIdeal.τ).loc Cert.FfnBwdOutIdeal.main_arg2)) (m ((c.tc : Thread Cert.FfnBwdOutIdeal.nD Cert.FfnBwdOutIdeal.τ).loc Cert.FfnBwdOutIdeal.main_arg3)) (m ((c.tc : Thread Cert.FfnBwdOutIdeal.nD Cert.FfnBwdOutIdeal.τ).loc Cert.FfnBwdOutIdeal.main_arg4)) (m ((c.tc : Thread Cert.FfnBwdOutIdeal.nD Cert.FfnBwdOutIdeal.τ).loc Cert.FfnBwdOutIdeal.main_arg5))).2.2.1 = (fun _ => 1#1)
    ∧ (Cert.Pre_finite6.fn (F := Ideal) (m ((c.tc : Thread Cert.FfnBwdOutIdeal.nD Cert.FfnBwdOutIdeal.τ).loc Cert.FfnBwdOutIdeal.main_arg0)) (m ((c.tc : Thread Cert.FfnBwdOutIdeal.nD Cert.FfnBwdOutIdeal.τ).loc Cert.FfnBwdOutIdeal.main_arg1)) (m ((c.tc : Thread Cert.FfnBwdOutIdeal.nD Cert.FfnBwdOutIdeal.τ).loc Cert.FfnBwdOutIdeal.main_arg2)) (m ((c.tc : Thread Cert.FfnBwdOutIdeal.nD Cert.FfnBwdOutIdeal.τ).loc Cert.FfnBwdOutIdeal.main_arg3)) (m ((c.tc : Thread Cert.FfnBwdOutIdeal.nD Cert.FfnBwdOutIdeal.τ).loc Cert.FfnBwdOutIdeal.main_arg4)) (m ((c.tc : Thread Cert.FfnBwdOutIdeal.nD Cert.FfnBwdOutIdeal.τ).loc Cert.FfnBwdOutIdeal.main_arg5))).2.2.2.1 = (fun _ => 1#1)
    ∧ (Cert.Pre_finite6.fn (F := Ideal) (m ((c.tc : Thread Cert.FfnBwdOutIdeal.nD Cert.FfnBwdOutIdeal.τ).loc Cert.FfnBwdOutIdeal.main_arg0)) (m ((c.tc : Thread Cert.FfnBwdOutIdeal.nD Cert.FfnBwdOutIdeal.τ).loc Cert.FfnBwdOutIdeal.main_arg1)) (m ((c.tc : Thread Cert.FfnBwdOutIdeal.nD Cert.FfnBwdOutIdeal.τ).loc Cert.FfnBwdOutIdeal.main_arg2)) (m ((c.tc : Thread Cert.FfnBwdOutIdeal.nD Cert.FfnBwdOutIdeal.τ).loc Cert.FfnBwdOutIdeal.main_arg3)) (m ((c.tc : Thread Cert.FfnBwdOutIdeal.nD Cert.FfnBwdOutIdeal.τ).loc Cert.FfnBwdOutIdeal.main_arg4)) (m ((c.tc : Thread Cert.FfnBwdOutIdeal.nD Cert.FfnBwdOutIdeal.τ).loc Cert.FfnBwdOutIdeal.main_arg5))).2.2.2.2.1 = (fun _ => 1#1)
    ∧ (Cert.Pre_finite6.fn (F := Ideal) (m ((c.tc : Thread Cert.FfnBwdOutIdeal.nD Cert.FfnBwdOutIdeal.τ).loc Cert.FfnBwdOutIdeal.main_arg0)) (m ((c.tc : Thread Cert.FfnBwdOutIdeal.nD Cert.FfnBwdOutIdeal.τ).loc Cert.FfnBwdOutIdeal.main_arg1)) (m ((c.tc : Thread Cert.FfnBwdOutIdeal.nD Cert.FfnBwdOutIdeal.τ).loc Cert.FfnBwdOutIdeal.main_arg2)) (m ((c.tc : Thread Cert.FfnBwdOutIdeal.nD Cert.FfnBwdOutIdeal.τ).loc Cert.FfnBwdOutIdeal.main_arg3)) (m ((c.tc : Thread Cert.FfnBwdOutIdeal.nD Cert.FfnBwdOutIdeal.τ).loc Cert.FfnBwdOutIdeal.main_arg4)) (m ((c.tc : Thread Cert.FfnBwdOutIdeal.nD Cert.FfnBwdOutIdeal.τ).loc Cert.FfnBwdOutIdeal.main_arg5))).2.2.2.2.2 = (fun _ => 1#1)

def Pre_FfnBwdOutRefIdeal (m : (ℓ : Loc Cert.FfnBwdOutRefIdeal.nD Cert.FfnBwdOutRefIdeal.τ Cert.FfnBwdOutRefIdeal.sig) → Buf (Elt Ideal) ℓ) : Prop :=
  True

def Pre_FfnBwdOutRefIdeal_finite6 [hPre_finite6 : Cert.Pre_finite6.Facts] (m : (ℓ : Loc Cert.FfnBwdOutRefIdeal.nD Cert.FfnBwdOutRefIdeal.τ Cert.FfnBwdOutRefIdeal.sig) → Buf (Elt Ideal) ℓ) : Prop :=
  ∀ c : Dev Cert.FfnBwdOutRefIdeal.nD,
    (Cert.Pre_finite6.fn (F := Ideal) (m ((c.tc : Thread Cert.FfnBwdOutRefIdeal.nD Cert.FfnBwdOutRefIdeal.τ).loc Cert.FfnBwdOutRefIdeal.main_arg0)) (m ((c.tc : Thread Cert.FfnBwdOutRefIdeal.nD Cert.FfnBwdOutRefIdeal.τ).loc Cert.FfnBwdOutRefIdeal.main_arg1)) (m ((c.tc : Thread Cert.FfnBwdOutRefIdeal.nD Cert.FfnBwdOutRefIdeal.τ).loc Cert.FfnBwdOutRefIdeal.main_arg2)) (m ((c.tc : Thread Cert.FfnBwdOutRefIdeal.nD Cert.FfnBwdOutRefIdeal.τ).loc Cert.FfnBwdOutRefIdeal.main_arg3)) (m ((c.tc : Thread Cert.FfnBwdOutRefIdeal.nD Cert.FfnBwdOutRefIdeal.τ).loc Cert.FfnBwdOutRefIdeal.main_arg4)) (m ((c.tc : Thread Cert.FfnBwdOutRefIdeal.nD Cert.FfnBwdOutRefIdeal.τ).loc Cert.FfnBwdOutRefIdeal.main_arg5))).1 = (fun _ => 1#1)
    ∧ (Cert.Pre_finite6.fn (F := Ideal) (m ((c.tc : Thread Cert.FfnBwdOutRefIdeal.nD Cert.FfnBwdOutRefIdeal.τ).loc Cert.FfnBwdOutRefIdeal.main_arg0)) (m ((c.tc : Thread Cert.FfnBwdOutRefIdeal.nD Cert.FfnBwdOutRefIdeal.τ).loc Cert.FfnBwdOutRefIdeal.main_arg1)) (m ((c.tc : Thread Cert.FfnBwdOutRefIdeal.nD Cert.FfnBwdOutRefIdeal.τ).loc Cert.FfnBwdOutRefIdeal.main_arg2)) (m ((c.tc : Thread Cert.FfnBwdOutRefIdeal.nD Cert.FfnBwdOutRefIdeal.τ).loc Cert.FfnBwdOutRefIdeal.main_arg3)) (m ((c.tc : Thread Cert.FfnBwdOutRefIdeal.nD Cert.FfnBwdOutRefIdeal.τ).loc Cert.FfnBwdOutRefIdeal.main_arg4)) (m ((c.tc : Thread Cert.FfnBwdOutRefIdeal.nD Cert.FfnBwdOutRefIdeal.τ).loc Cert.FfnBwdOutRefIdeal.main_arg5))).2.1 = (fun _ => 1#1)
    ∧ (Cert.Pre_finite6.fn (F := Ideal) (m ((c.tc : Thread Cert.FfnBwdOutRefIdeal.nD Cert.FfnBwdOutRefIdeal.τ).loc Cert.FfnBwdOutRefIdeal.main_arg0)) (m ((c.tc : Thread Cert.FfnBwdOutRefIdeal.nD Cert.FfnBwdOutRefIdeal.τ).loc Cert.FfnBwdOutRefIdeal.main_arg1)) (m ((c.tc : Thread Cert.FfnBwdOutRefIdeal.nD Cert.FfnBwdOutRefIdeal.τ).loc Cert.FfnBwdOutRefIdeal.main_arg2)) (m ((c.tc : Thread Cert.FfnBwdOutRefIdeal.nD Cert.FfnBwdOutRefIdeal.τ).loc Cert.FfnBwdOutRefIdeal.main_arg3)) (m ((c.tc : Thread Cert.FfnBwdOutRefIdeal.nD Cert.FfnBwdOutRefIdeal.τ).loc Cert.FfnBwdOutRefIdeal.main_arg4)) (m ((c.tc : Thread Cert.FfnBwdOutRefIdeal.nD Cert.FfnBwdOutRefIdeal.τ).loc Cert.FfnBwdOutRefIdeal.main_arg5))).2.2.1 = (fun _ => 1#1)
    ∧ (Cert.Pre_finite6.fn (F := Ideal) (m ((c.tc : Thread Cert.FfnBwdOutRefIdeal.nD Cert.FfnBwdOutRefIdeal.τ).loc Cert.FfnBwdOutRefIdeal.main_arg0)) (m ((c.tc : Thread Cert.FfnBwdOutRefIdeal.nD Cert.FfnBwdOutRefIdeal.τ).loc Cert.FfnBwdOutRefIdeal.main_arg1)) (m ((c.tc : Thread Cert.FfnBwdOutRefIdeal.nD Cert.FfnBwdOutRefIdeal.τ).loc Cert.FfnBwdOutRefIdeal.main_arg2)) (m ((c.tc : Thread Cert.FfnBwdOutRefIdeal.nD Cert.FfnBwdOutRefIdeal.τ).loc Cert.FfnBwdOutRefIdeal.main_arg3)) (m ((c.tc : Thread Cert.FfnBwdOutRefIdeal.nD Cert.FfnBwdOutRefIdeal.τ).loc Cert.FfnBwdOutRefIdeal.main_arg4)) (m ((c.tc : Thread Cert.FfnBwdOutRefIdeal.nD Cert.FfnBwdOutRefIdeal.τ).loc Cert.FfnBwdOutRefIdeal.main_arg5))).2.2.2.1 = (fun _ => 1#1)
    ∧ (Cert.Pre_finite6.fn (F := Ideal) (m ((c.tc : Thread Cert.FfnBwdOutRefIdeal.nD Cert.FfnBwdOutRefIdeal.τ).loc Cert.FfnBwdOutRefIdeal.main_arg0)) (m ((c.tc : Thread Cert.FfnBwdOutRefIdeal.nD Cert.FfnBwdOutRefIdeal.τ).loc Cert.FfnBwdOutRefIdeal.main_arg1)) (m ((c.tc : Thread Cert.FfnBwdOutRefIdeal.nD Cert.FfnBwdOutRefIdeal.τ).loc Cert.FfnBwdOutRefIdeal.main_arg2)) (m ((c.tc : Thread Cert.FfnBwdOutRefIdeal.nD Cert.FfnBwdOutRefIdeal.τ).loc Cert.FfnBwdOutRefIdeal.main_arg3)) (m ((c.tc : Thread Cert.FfnBwdOutRefIdeal.nD Cert.FfnBwdOutRefIdeal.τ).loc Cert.FfnBwdOutRefIdeal.main_arg4)) (m ((c.tc : Thread Cert.FfnBwdOutRefIdeal.nD Cert.FfnBwdOutRefIdeal.τ).loc Cert.FfnBwdOutRefIdeal.main_arg5))).2.2.2.2.1 = (fun _ => 1#1)
    ∧ (Cert.Pre_finite6.fn (F := Ideal) (m ((c.tc : Thread Cert.FfnBwdOutRefIdeal.nD Cert.FfnBwdOutRefIdeal.τ).loc Cert.FfnBwdOutRefIdeal.main_arg0)) (m ((c.tc : Thread Cert.FfnBwdOutRefIdeal.nD Cert.FfnBwdOutRefIdeal.τ).loc Cert.FfnBwdOutRefIdeal.main_arg1)) (m ((c.tc : Thread Cert.FfnBwdOutRefIdeal.nD Cert.FfnBwdOutRefIdeal.τ).loc Cert.FfnBwdOutRefIdeal.main_arg2)) (m ((c.tc : Thread Cert.FfnBwdOutRefIdeal.nD Cert.FfnBwdOutRefIdeal.τ).loc Cert.FfnBwdOutRefIdeal.main_arg3)) (m ((c.tc : Thread Cert.FfnBwdOutRefIdeal.nD Cert.FfnBwdOutRefIdeal.τ).loc Cert.FfnBwdOutRefIdeal.main_arg4)) (m ((c.tc : Thread Cert.FfnBwdOutRefIdeal.nD Cert.FfnBwdOutRefIdeal.τ).loc Cert.FfnBwdOutRefIdeal.main_arg5))).2.2.2.2.2 = (fun _ => 1#1)

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalIdeal_finite8 [hPre_finite8 : Cert.Pre_finite8.Facts] (m : (ℓ : Loc Cert.FfnFinalIdeal.nD Cert.FfnFinalIdeal.τ Cert.FfnFinalIdeal.sig) → Buf (Elt Ideal) ℓ) : Prop :=
  ∀ c : Dev Cert.FfnFinalIdeal.nD,
    (Cert.Pre_finite8.fn (F := Ideal) (m ((c.tc : Thread Cert.FfnFinalIdeal.nD Cert.FfnFinalIdeal.τ).loc Cert.FfnFinalIdeal.main_arg0)) (m ((c.tc : Thread Cert.FfnFinalIdeal.nD Cert.FfnFinalIdeal.τ).loc Cert.FfnFinalIdeal.main_arg1)) (m ((c.tc : Thread Cert.FfnFinalIdeal.nD Cert.FfnFinalIdeal.τ).loc Cert.FfnFinalIdeal.main_arg2)) (m ((c.tc : Thread Cert.FfnFinalIdeal.nD Cert.FfnFinalIdeal.τ).loc Cert.FfnFinalIdeal.main_arg3)) (m ((c.tc : Thread Cert.FfnFinalIdeal.nD Cert.FfnFinalIdeal.τ).loc Cert.FfnFinalIdeal.main_arg4)) (m ((c.tc : Thread Cert.FfnFinalIdeal.nD Cert.FfnFinalIdeal.τ).loc Cert.FfnFinalIdeal.main_arg5))).1 = (fun _ => 1#1)
    ∧ (Cert.Pre_finite8.fn (F := Ideal) (m ((c.tc : Thread Cert.FfnFinalIdeal.nD Cert.FfnFinalIdeal.τ).loc Cert.FfnFinalIdeal.main_arg0)) (m ((c.tc : Thread Cert.FfnFinalIdeal.nD Cert.FfnFinalIdeal.τ).loc Cert.FfnFinalIdeal.main_arg1)) (m ((c.tc : Thread Cert.FfnFinalIdeal.nD Cert.FfnFinalIdeal.τ).loc Cert.FfnFinalIdeal.main_arg2)) (m ((c.tc : Thread Cert.FfnFinalIdeal.nD Cert.FfnFinalIdeal.τ).loc Cert.FfnFinalIdeal.main_arg3)) (m ((c.tc : Thread Cert.FfnFinalIdeal.nD Cert.FfnFinalIdeal.τ).loc Cert.FfnFinalIdeal.main_arg4)) (m ((c.tc : Thread Cert.FfnFinalIdeal.nD Cert.FfnFinalIdeal.τ).loc Cert.FfnFinalIdeal.main_arg5))).2.1 = (fun _ => 1#1)
    ∧ (Cert.Pre_finite8.fn (F := Ideal) (m ((c.tc : Thread Cert.FfnFinalIdeal.nD Cert.FfnFinalIdeal.τ).loc Cert.FfnFinalIdeal.main_arg0)) (m ((c.tc : Thread Cert.FfnFinalIdeal.nD Cert.FfnFinalIdeal.τ).loc Cert.FfnFinalIdeal.main_arg1)) (m ((c.tc : Thread Cert.FfnFinalIdeal.nD Cert.FfnFinalIdeal.τ).loc Cert.FfnFinalIdeal.main_arg2)) (m ((c.tc : Thread Cert.FfnFinalIdeal.nD Cert.FfnFinalIdeal.τ).loc Cert.FfnFinalIdeal.main_arg3)) (m ((c.tc : Thread Cert.FfnFinalIdeal.nD Cert.FfnFinalIdeal.τ).loc Cert.FfnFinalIdeal.main_arg4)) (m ((c.tc : Thread Cert.FfnFinalIdeal.nD Cert.FfnFinalIdeal.τ).loc Cert.FfnFinalIdeal.main_arg5))).2.2.1 = (fun _ => 1#1)
    ∧ (Cert.Pre_finite8.fn (F := Ideal) (m ((c.tc : Thread Cert.FfnFinalIdeal.nD Cert.FfnFinalIdeal.τ).loc Cert.FfnFinalIdeal.main_arg0)) (m ((c.tc : Thread Cert.FfnFinalIdeal.nD Cert.FfnFinalIdeal.τ).loc Cert.FfnFinalIdeal.main_arg1)) (m ((c.tc : Thread Cert.FfnFinalIdeal.nD Cert.FfnFinalIdeal.τ).loc Cert.FfnFinalIdeal.main_arg2)) (m ((c.tc : Thread Cert.FfnFinalIdeal.nD Cert.FfnFinalIdeal.τ).loc Cert.FfnFinalIdeal.main_arg3)) (m ((c.tc : Thread Cert.FfnFinalIdeal.nD Cert.FfnFinalIdeal.τ).loc Cert.FfnFinalIdeal.main_arg4)) (m ((c.tc : Thread Cert.FfnFinalIdeal.nD Cert.FfnFinalIdeal.τ).loc Cert.FfnFinalIdeal.main_arg5))).2.2.2.1 = (fun _ => 1#1)
    ∧ (Cert.Pre_finite8.fn (F := Ideal) (m ((c.tc : Thread Cert.FfnFinalIdeal.nD Cert.FfnFinalIdeal.τ).loc Cert.FfnFinalIdeal.main_arg0)) (m ((c.tc : Thread Cert.FfnFinalIdeal.nD Cert.FfnFinalIdeal.τ).loc Cert.FfnFinalIdeal.main_arg1)) (m ((c.tc : Thread Cert.FfnFinalIdeal.nD Cert.FfnFinalIdeal.τ).loc Cert.FfnFinalIdeal.main_arg2)) (m ((c.tc : Thread Cert.FfnFinalIdeal.nD Cert.FfnFinalIdeal.τ).loc Cert.FfnFinalIdeal.main_arg3)) (m ((c.tc : Thread Cert.FfnFinalIdeal.nD Cert.FfnFinalIdeal.τ).loc Cert.FfnFinalIdeal.main_arg4)) (m ((c.tc : Thread Cert.FfnFinalIdeal.nD Cert.FfnFinalIdeal.τ).loc Cert.FfnFinalIdeal.main_arg5))).2.2.2.2.1 = (fun _ => 1#1)
    ∧ (Cert.Pre_finite8.fn (F := Ideal) (m ((c.tc : Thread Cert.FfnFinalIdeal.nD Cert.FfnFinalIdeal.τ).loc Cert.FfnFinalIdeal.main_arg0)) (m ((c.tc : Thread Cert.FfnFinalIdeal.nD Cert.FfnFinalIdeal.τ).loc Cert.FfnFinalIdeal.main_arg1)) (m ((c.tc : Thread Cert.FfnFinalIdeal.nD Cert.FfnFinalIdeal.τ).loc Cert.FfnFinalIdeal.main_arg2)) (m ((c.tc : Thread Cert.FfnFinalIdeal.nD Cert.FfnFinalIdeal.τ).loc Cert.FfnFinalIdeal.main_arg3)) (m ((c.tc : Thread Cert.FfnFinalIdeal.nD Cert.FfnFinalIdeal.τ).loc Cert.FfnFinalIdeal.main_arg4)) (m ((c.tc : Thread Cert.FfnFinalIdeal.nD Cert.FfnFinalIdeal.τ).loc Cert.FfnFinalIdeal.main_arg5))).2.2.2.2.2 = (fun _ => 1#1)

def Pre_FfnFinalRefIdeal (m : (ℓ : Loc Cert.FfnFinalRefIdeal.nD Cert.FfnFinalRefIdeal.τ Cert.FfnFinalRefIdeal.sig) → Buf (Elt Ideal) ℓ) : Prop :=
  True

def Pre_FfnFinalRefIdeal_finite8 [hPre_finite8 : Cert.Pre_finite8.Facts] (m : (ℓ : Loc Cert.FfnFinalRefIdeal.nD Cert.FfnFinalRefIdeal.τ Cert.FfnFinalRefIdeal.sig) → Buf (Elt Ideal) ℓ) : Prop :=
  ∀ c : Dev Cert.FfnFinalRefIdeal.nD,
    (Cert.Pre_finite8.fn (F := Ideal) (m ((c.tc : Thread Cert.FfnFinalRefIdeal.nD Cert.FfnFinalRefIdeal.τ).loc Cert.FfnFinalRefIdeal.main_arg0)) (m ((c.tc : Thread Cert.FfnFinalRefIdeal.nD Cert.FfnFinalRefIdeal.τ).loc Cert.FfnFinalRefIdeal.main_arg1)) (m ((c.tc : Thread Cert.FfnFinalRefIdeal.nD Cert.FfnFinalRefIdeal.τ).loc Cert.FfnFinalRefIdeal.main_arg2)) (m ((c.tc : Thread Cert.FfnFinalRefIdeal.nD Cert.FfnFinalRefIdeal.τ).loc Cert.FfnFinalRefIdeal.main_arg3)) (m ((c.tc : Thread Cert.FfnFinalRefIdeal.nD Cert.FfnFinalRefIdeal.τ).loc Cert.FfnFinalRefIdeal.main_arg4)) (m ((c.tc : Thread Cert.FfnFinalRefIdeal.nD Cert.FfnFinalRefIdeal.τ).loc Cert.FfnFinalRefIdeal.main_arg5))).1 = (fun _ => 1#1)
    ∧ (Cert.Pre_finite8.fn (F := Ideal) (m ((c.tc : Thread Cert.FfnFinalRefIdeal.nD Cert.FfnFinalRefIdeal.τ).loc Cert.FfnFinalRefIdeal.main_arg0)) (m ((c.tc : Thread Cert.FfnFinalRefIdeal.nD Cert.FfnFinalRefIdeal.τ).loc Cert.FfnFinalRefIdeal.main_arg1)) (m ((c.tc : Thread Cert.FfnFinalRefIdeal.nD Cert.FfnFinalRefIdeal.τ).loc Cert.FfnFinalRefIdeal.main_arg2)) (m ((c.tc : Thread Cert.FfnFinalRefIdeal.nD Cert.FfnFinalRefIdeal.τ).loc Cert.FfnFinalRefIdeal.main_arg3)) (m ((c.tc : Thread Cert.FfnFinalRefIdeal.nD Cert.FfnFinalRefIdeal.τ).loc Cert.FfnFinalRefIdeal.main_arg4)) (m ((c.tc : Thread Cert.FfnFinalRefIdeal.nD Cert.FfnFinalRefIdeal.τ).loc Cert.FfnFinalRefIdeal.main_arg5))).2.1 = (fun _ => 1#1)
    ∧ (Cert.Pre_finite8.fn (F := Ideal) (m ((c.tc : Thread Cert.FfnFinalRefIdeal.nD Cert.FfnFinalRefIdeal.τ).loc Cert.FfnFinalRefIdeal.main_arg0)) (m ((c.tc : Thread Cert.FfnFinalRefIdeal.nD Cert.FfnFinalRefIdeal.τ).loc Cert.FfnFinalRefIdeal.main_arg1)) (m ((c.tc : Thread Cert.FfnFinalRefIdeal.nD Cert.FfnFinalRefIdeal.τ).loc Cert.FfnFinalRefIdeal.main_arg2)) (m ((c.tc : Thread Cert.FfnFinalRefIdeal.nD Cert.FfnFinalRefIdeal.τ).loc Cert.FfnFinalRefIdeal.main_arg3)) (m ((c.tc : Thread Cert.FfnFinalRefIdeal.nD Cert.FfnFinalRefIdeal.τ).loc Cert.FfnFinalRefIdeal.main_arg4)) (m ((c.tc : Thread Cert.FfnFinalRefIdeal.nD Cert.FfnFinalRefIdeal.τ).loc Cert.FfnFinalRefIdeal.main_arg5))).2.2.1 = (fun _ => 1#1)
    ∧ (Cert.Pre_finite8.fn (F := Ideal) (m ((c.tc : Thread Cert.FfnFinalRefIdeal.nD Cert.FfnFinalRefIdeal.τ).loc Cert.FfnFinalRefIdeal.main_arg0)) (m ((c.tc : Thread Cert.FfnFinalRefIdeal.nD Cert.FfnFinalRefIdeal.τ).loc Cert.FfnFinalRefIdeal.main_arg1)) (m ((c.tc : Thread Cert.FfnFinalRefIdeal.nD Cert.FfnFinalRefIdeal.τ).loc Cert.FfnFinalRefIdeal.main_arg2)) (m ((c.tc : Thread Cert.FfnFinalRefIdeal.nD Cert.FfnFinalRefIdeal.τ).loc Cert.FfnFinalRefIdeal.main_arg3)) (m ((c.tc : Thread Cert.FfnFinalRefIdeal.nD Cert.FfnFinalRefIdeal.τ).loc Cert.FfnFinalRefIdeal.main_arg4)) (m ((c.tc : Thread Cert.FfnFinalRefIdeal.nD Cert.FfnFinalRefIdeal.τ).loc Cert.FfnFinalRefIdeal.main_arg5))).2.2.2.1 = (fun _ => 1#1)
    ∧ (Cert.Pre_finite8.fn (F := Ideal) (m ((c.tc : Thread Cert.FfnFinalRefIdeal.nD Cert.FfnFinalRefIdeal.τ).loc Cert.FfnFinalRefIdeal.main_arg0)) (m ((c.tc : Thread Cert.FfnFinalRefIdeal.nD Cert.FfnFinalRefIdeal.τ).loc Cert.FfnFinalRefIdeal.main_arg1)) (m ((c.tc : Thread Cert.FfnFinalRefIdeal.nD Cert.FfnFinalRefIdeal.τ).loc Cert.FfnFinalRefIdeal.main_arg2)) (m ((c.tc : Thread Cert.FfnFinalRefIdeal.nD Cert.FfnFinalRefIdeal.τ).loc Cert.FfnFinalRefIdeal.main_arg3)) (m ((c.tc : Thread Cert.FfnFinalRefIdeal.nD Cert.FfnFinalRefIdeal.τ).loc Cert.FfnFinalRefIdeal.main_arg4)) (m ((c.tc : Thread Cert.FfnFinalRefIdeal.nD Cert.FfnFinalRefIdeal.τ).loc Cert.FfnFinalRefIdeal.main_arg5))).2.2.2.2.1 = (fun _ => 1#1)
    ∧ (Cert.Pre_finite8.fn (F := Ideal) (m ((c.tc : Thread Cert.FfnFinalRefIdeal.nD Cert.FfnFinalRefIdeal.τ).loc Cert.FfnFinalRefIdeal.main_arg0)) (m ((c.tc : Thread Cert.FfnFinalRefIdeal.nD Cert.FfnFinalRefIdeal.τ).loc Cert.FfnFinalRefIdeal.main_arg1)) (m ((c.tc : Thread Cert.FfnFinalRefIdeal.nD Cert.FfnFinalRefIdeal.τ).loc Cert.FfnFinalRefIdeal.main_arg2)) (m ((c.tc : Thread Cert.FfnFinalRefIdeal.nD Cert.FfnFinalRefIdeal.τ).loc Cert.FfnFinalRefIdeal.main_arg3)) (m ((c.tc : Thread Cert.FfnFinalRefIdeal.nD Cert.FfnFinalRefIdeal.τ).loc Cert.FfnFinalRefIdeal.main_arg4)) (m ((c.tc : Thread Cert.FfnFinalRefIdeal.nD Cert.FfnFinalRefIdeal.τ).loc Cert.FfnFinalRefIdeal.main_arg5))).2.2.2.2.2 = (fun _ => 1#1)

def Pre_AttnPreBwd (m : (ℓ : Loc Cert.AttnPreBwd.nD Cert.AttnPreBwd.τ Cert.AttnPreBwd.sig) → Buf (Elt Bits) ℓ) : Prop :=
  True

def Pre_AttnPreBwdIdeal (m : (ℓ : Loc Cert.AttnPreBwdIdeal.nD Cert.AttnPreBwdIdeal.τ Cert.AttnPreBwdIdeal.sig) → Buf (Elt Ideal) ℓ) : Prop :=
  True

def Pre_AttnPreBwdIdeal_finite7 [hPre_finite7 : Cert.Pre_finite7.Facts] (m : (ℓ : Loc Cert.AttnPreBwdIdeal.nD Cert.AttnPreBwdIdeal.τ Cert.AttnPreBwdIdeal.sig) → Buf (Elt Ideal) ℓ) : Prop :=
  ∀ c : Dev Cert.AttnPreBwdIdeal.nD,
    (Cert.Pre_finite7.fn (F := Ideal) (m ((c.tc : Thread Cert.AttnPreBwdIdeal.nD Cert.AttnPreBwdIdeal.τ).loc Cert.AttnPreBwdIdeal.main_arg0)) (m ((c.tc : Thread Cert.AttnPreBwdIdeal.nD Cert.AttnPreBwdIdeal.τ).loc Cert.AttnPreBwdIdeal.main_arg1)) (m ((c.tc : Thread Cert.AttnPreBwdIdeal.nD Cert.AttnPreBwdIdeal.τ).loc Cert.AttnPreBwdIdeal.main_arg2)) (m ((c.tc : Thread Cert.AttnPreBwdIdeal.nD Cert.AttnPreBwdIdeal.τ).loc Cert.AttnPreBwdIdeal.main_arg3)) (m ((c.tc : Thread Cert.AttnPreBwdIdeal.nD Cert.AttnPreBwdIdeal.τ).loc Cert.AttnPreBwdIdeal.main_arg4)) (m ((c.tc : Thread Cert.AttnPreBwdIdeal.nD Cert.AttnPreBwdIdeal.τ).loc Cert.AttnPreBwdIdeal.main_arg5)) (m ((c.tc : Thread Cert.AttnPreBwdIdeal.nD Cert.AttnPreBwdIdeal.τ).loc Cert.AttnPreBwdIdeal.main_arg6))).1 = (fun _ => 1#1)
    ∧ (Cert.Pre_finite7.fn (F := Ideal) (m ((c.tc : Thread Cert.AttnPreBwdIdeal.nD Cert.AttnPreBwdIdeal.τ).loc Cert.AttnPreBwdIdeal.main_arg0)) (m ((c.tc : Thread Cert.AttnPreBwdIdeal.nD Cert.AttnPreBwdIdeal.τ).loc Cert.AttnPreBwdIdeal.main_arg1)) (m ((c.tc : Thread Cert.AttnPreBwdIdeal.nD Cert.AttnPreBwdIdeal.τ).loc Cert.AttnPreBwdIdeal.main_arg2)) (m ((c.tc : Thread Cert.AttnPreBwdIdeal.nD Cert.AttnPreBwdIdeal.τ).loc Cert.AttnPreBwdIdeal.main_arg3)) (m ((c.tc : Thread Cert.AttnPreBwdIdeal.nD Cert.AttnPreBwdIdeal.τ).loc Cert.AttnPreBwdIdeal.main_arg4)) (m ((c.tc : Thread Cert.AttnPreBwdIdeal.nD Cert.AttnPreBwdIdeal.τ).loc Cert.AttnPreBwdIdeal.main_arg5)) (m ((c.tc : Thread Cert.AttnPreBwdIdeal.nD Cert.AttnPreBwdIdeal.τ).loc Cert.AttnPreBwdIdeal.main_arg6))).2.1 = (fun _ => 1#1)
    ∧ (Cert.Pre_finite7.fn (F := Ideal) (m ((c.tc : Thread Cert.AttnPreBwdIdeal.nD Cert.AttnPreBwdIdeal.τ).loc Cert.AttnPreBwdIdeal.main_arg0)) (m ((c.tc : Thread Cert.AttnPreBwdIdeal.nD Cert.AttnPreBwdIdeal.τ).loc Cert.AttnPreBwdIdeal.main_arg1)) (m ((c.tc : Thread Cert.AttnPreBwdIdeal.nD Cert.AttnPreBwdIdeal.τ).loc Cert.AttnPreBwdIdeal.main_arg2)) (m ((c.tc : Thread Cert.AttnPreBwdIdeal.nD Cert.AttnPreBwdIdeal.τ).loc Cert.AttnPreBwdIdeal.main_arg3)) (m ((c.tc : Thread Cert.AttnPreBwdIdeal.nD Cert.AttnPreBwdIdeal.τ).loc Cert.AttnPreBwdIdeal.main_arg4)) (m ((c.tc : Thread Cert.AttnPreBwdIdeal.nD Cert.AttnPreBwdIdeal.τ).loc Cert.AttnPreBwdIdeal.main_arg5)) (m ((c.tc : Thread Cert.AttnPreBwdIdeal.nD Cert.AttnPreBwdIdeal.τ).loc Cert.AttnPreBwdIdeal.main_arg6))).2.2.1 = (fun _ => 1#1)
    ∧ (Cert.Pre_finite7.fn (F := Ideal) (m ((c.tc : Thread Cert.AttnPreBwdIdeal.nD Cert.AttnPreBwdIdeal.τ).loc Cert.AttnPreBwdIdeal.main_arg0)) (m ((c.tc : Thread Cert.AttnPreBwdIdeal.nD Cert.AttnPreBwdIdeal.τ).loc Cert.AttnPreBwdIdeal.main_arg1)) (m ((c.tc : Thread Cert.AttnPreBwdIdeal.nD Cert.AttnPreBwdIdeal.τ).loc Cert.AttnPreBwdIdeal.main_arg2)) (m ((c.tc : Thread Cert.AttnPreBwdIdeal.nD Cert.AttnPreBwdIdeal.τ).loc Cert.AttnPreBwdIdeal.main_arg3)) (m ((c.tc : Thread Cert.AttnPreBwdIdeal.nD Cert.AttnPreBwdIdeal.τ).loc Cert.AttnPreBwdIdeal.main_arg4)) (m ((c.tc : Thread Cert.AttnPreBwdIdeal.nD Cert.AttnPreBwdIdeal.τ).loc Cert.AttnPreBwdIdeal.main_arg5)) (m ((c.tc : Thread Cert.AttnPreBwdIdeal.nD Cert.AttnPreBwdIdeal.τ).loc Cert.AttnPreBwdIdeal.main_arg6))).2.2.2.1 = (fun _ => 1#1)
    ∧ (Cert.Pre_finite7.fn (F := Ideal) (m ((c.tc : Thread Cert.AttnPreBwdIdeal.nD Cert.AttnPreBwdIdeal.τ).loc Cert.AttnPreBwdIdeal.main_arg0)) (m ((c.tc : Thread Cert.AttnPreBwdIdeal.nD Cert.AttnPreBwdIdeal.τ).loc Cert.AttnPreBwdIdeal.main_arg1)) (m ((c.tc : Thread Cert.AttnPreBwdIdeal.nD Cert.AttnPreBwdIdeal.τ).loc Cert.AttnPreBwdIdeal.main_arg2)) (m ((c.tc : Thread Cert.AttnPreBwdIdeal.nD Cert.AttnPreBwdIdeal.τ).loc Cert.AttnPreBwdIdeal.main_arg3)) (m ((c.tc : Thread Cert.AttnPreBwdIdeal.nD Cert.AttnPreBwdIdeal.τ).loc Cert.AttnPreBwdIdeal.main_arg4)) (m ((c.tc : Thread Cert.AttnPreBwdIdeal.nD Cert.AttnPreBwdIdeal.τ).loc Cert.AttnPreBwdIdeal.main_arg5)) (m ((c.tc : Thread Cert.AttnPreBwdIdeal.nD Cert.AttnPreBwdIdeal.τ).loc Cert.AttnPreBwdIdeal.main_arg6))).2.2.2.2.1 = (fun _ => 1#1)
    ∧ (Cert.Pre_finite7.fn (F := Ideal) (m ((c.tc : Thread Cert.AttnPreBwdIdeal.nD Cert.AttnPreBwdIdeal.τ).loc Cert.AttnPreBwdIdeal.main_arg0)) (m ((c.tc : Thread Cert.AttnPreBwdIdeal.nD Cert.AttnPreBwdIdeal.τ).loc Cert.AttnPreBwdIdeal.main_arg1)) (m ((c.tc : Thread Cert.AttnPreBwdIdeal.nD Cert.AttnPreBwdIdeal.τ).loc Cert.AttnPreBwdIdeal.main_arg2)) (m ((c.tc : Thread Cert.AttnPreBwdIdeal.nD Cert.AttnPreBwdIdeal.τ).loc Cert.AttnPreBwdIdeal.main_arg3)) (m ((c.tc : Thread Cert.AttnPreBwdIdeal.nD Cert.AttnPreBwdIdeal.τ).loc Cert.AttnPreBwdIdeal.main_arg4)) (m ((c.tc : Thread Cert.AttnPreBwdIdeal.nD Cert.AttnPreBwdIdeal.τ).loc Cert.AttnPreBwdIdeal.main_arg5)) (m ((c.tc : Thread Cert.AttnPreBwdIdeal.nD Cert.AttnPreBwdIdeal.τ).loc Cert.AttnPreBwdIdeal.main_arg6))).2.2.2.2.2.1 = (fun _ => 1#1)
    ∧ (Cert.Pre_finite7.fn (F := Ideal) (m ((c.tc : Thread Cert.AttnPreBwdIdeal.nD Cert.AttnPreBwdIdeal.τ).loc Cert.AttnPreBwdIdeal.main_arg0)) (m ((c.tc : Thread Cert.AttnPreBwdIdeal.nD Cert.AttnPreBwdIdeal.τ).loc Cert.AttnPreBwdIdeal.main_arg1)) (m ((c.tc : Thread Cert.AttnPreBwdIdeal.nD Cert.AttnPreBwdIdeal.τ).loc Cert.AttnPreBwdIdeal.main_arg2)) (m ((c.tc : Thread Cert.AttnPreBwdIdeal.nD Cert.AttnPreBwdIdeal.τ).loc Cert.AttnPreBwdIdeal.main_arg3)) (m ((c.tc : Thread Cert.AttnPreBwdIdeal.nD Cert.AttnPreBwdIdeal.τ).loc Cert.AttnPreBwdIdeal.main_arg4)) (m ((c.tc : Thread Cert.AttnPreBwdIdeal.nD Cert.AttnPreBwdIdeal.τ).loc Cert.AttnPreBwdIdeal.main_arg5)) (m ((c.tc : Thread Cert.AttnPreBwdIdeal.nD Cert.AttnPreBwdIdeal.τ).loc Cert.AttnPreBwdIdeal.main_arg6))).2.2.2.2.2.2 = (fun _ => 1#1)

def Pre_AttnPreBwdRefIdeal (m : (ℓ : Loc Cert.AttnPreBwdRefIdeal.nD Cert.AttnPreBwdRefIdeal.τ Cert.AttnPreBwdRefIdeal.sig) → Buf (Elt Ideal) ℓ) : Prop :=
  True

def Pre_AttnPreBwdRefIdeal_finite7 [hPre_finite7 : Cert.Pre_finite7.Facts] (m : (ℓ : Loc Cert.AttnPreBwdRefIdeal.nD Cert.AttnPreBwdRefIdeal.τ Cert.AttnPreBwdRefIdeal.sig) → Buf (Elt Ideal) ℓ) : Prop :=
  ∀ c : Dev Cert.AttnPreBwdRefIdeal.nD,
    (Cert.Pre_finite7.fn (F := Ideal) (m ((c.tc : Thread Cert.AttnPreBwdRefIdeal.nD Cert.AttnPreBwdRefIdeal.τ).loc Cert.AttnPreBwdRefIdeal.main_arg0)) (m ((c.tc : Thread Cert.AttnPreBwdRefIdeal.nD Cert.AttnPreBwdRefIdeal.τ).loc Cert.AttnPreBwdRefIdeal.main_arg1)) (m ((c.tc : Thread Cert.AttnPreBwdRefIdeal.nD Cert.AttnPreBwdRefIdeal.τ).loc Cert.AttnPreBwdRefIdeal.main_arg2)) (m ((c.tc : Thread Cert.AttnPreBwdRefIdeal.nD Cert.AttnPreBwdRefIdeal.τ).loc Cert.AttnPreBwdRefIdeal.main_arg3)) (m ((c.tc : Thread Cert.AttnPreBwdRefIdeal.nD Cert.AttnPreBwdRefIdeal.τ).loc Cert.AttnPreBwdRefIdeal.main_arg4)) (m ((c.tc : Thread Cert.AttnPreBwdRefIdeal.nD Cert.AttnPreBwdRefIdeal.τ).loc Cert.AttnPreBwdRefIdeal.main_arg5)) (m ((c.tc : Thread Cert.AttnPreBwdRefIdeal.nD Cert.AttnPreBwdRefIdeal.τ).loc Cert.AttnPreBwdRefIdeal.main_arg6))).1 = (fun _ => 1#1)
    ∧ (Cert.Pre_finite7.fn (F := Ideal) (m ((c.tc : Thread Cert.AttnPreBwdRefIdeal.nD Cert.AttnPreBwdRefIdeal.τ).loc Cert.AttnPreBwdRefIdeal.main_arg0)) (m ((c.tc : Thread Cert.AttnPreBwdRefIdeal.nD Cert.AttnPreBwdRefIdeal.τ).loc Cert.AttnPreBwdRefIdeal.main_arg1)) (m ((c.tc : Thread Cert.AttnPreBwdRefIdeal.nD Cert.AttnPreBwdRefIdeal.τ).loc Cert.AttnPreBwdRefIdeal.main_arg2)) (m ((c.tc : Thread Cert.AttnPreBwdRefIdeal.nD Cert.AttnPreBwdRefIdeal.τ).loc Cert.AttnPreBwdRefIdeal.main_arg3)) (m ((c.tc : Thread Cert.AttnPreBwdRefIdeal.nD Cert.AttnPreBwdRefIdeal.τ).loc Cert.AttnPreBwdRefIdeal.main_arg4)) (m ((c.tc : Thread Cert.AttnPreBwdRefIdeal.nD Cert.AttnPreBwdRefIdeal.τ).loc Cert.AttnPreBwdRefIdeal.main_arg5)) (m ((c.tc : Thread Cert.AttnPreBwdRefIdeal.nD Cert.AttnPreBwdRefIdeal.τ).loc Cert.AttnPreBwdRefIdeal.main_arg6))).2.1 = (fun _ => 1#1)
    ∧ (Cert.Pre_finite7.fn (F := Ideal) (m ((c.tc : Thread Cert.AttnPreBwdRefIdeal.nD Cert.AttnPreBwdRefIdeal.τ).loc Cert.AttnPreBwdRefIdeal.main_arg0)) (m ((c.tc : Thread Cert.AttnPreBwdRefIdeal.nD Cert.AttnPreBwdRefIdeal.τ).loc Cert.AttnPreBwdRefIdeal.main_arg1)) (m ((c.tc : Thread Cert.AttnPreBwdRefIdeal.nD Cert.AttnPreBwdRefIdeal.τ).loc Cert.AttnPreBwdRefIdeal.main_arg2)) (m ((c.tc : Thread Cert.AttnPreBwdRefIdeal.nD Cert.AttnPreBwdRefIdeal.τ).loc Cert.AttnPreBwdRefIdeal.main_arg3)) (m ((c.tc : Thread Cert.AttnPreBwdRefIdeal.nD Cert.AttnPreBwdRefIdeal.τ).loc Cert.AttnPreBwdRefIdeal.main_arg4)) (m ((c.tc : Thread Cert.AttnPreBwdRefIdeal.nD Cert.AttnPreBwdRefIdeal.τ).loc Cert.AttnPreBwdRefIdeal.main_arg5)) (m ((c.tc : Thread Cert.AttnPreBwdRefIdeal.nD Cert.AttnPreBwdRefIdeal.τ).loc Cert.AttnPreBwdRefIdeal.main_arg6))).2.2.1 = (fun _ => 1#1)
    ∧ (Cert.Pre_finite7.fn (F := Ideal) (m ((c.tc : Thread Cert.AttnPreBwdRefIdeal.nD Cert.AttnPreBwdRefIdeal.τ).loc Cert.AttnPreBwdRefIdeal.main_arg0)) (m ((c.tc : Thread Cert.AttnPreBwdRefIdeal.nD Cert.AttnPreBwdRefIdeal.τ).loc Cert.AttnPreBwdRefIdeal.main_arg1)) (m ((c.tc : Thread Cert.AttnPreBwdRefIdeal.nD Cert.AttnPreBwdRefIdeal.τ).loc Cert.AttnPreBwdRefIdeal.main_arg2)) (m ((c.tc : Thread Cert.AttnPreBwdRefIdeal.nD Cert.AttnPreBwdRefIdeal.τ).loc Cert.AttnPreBwdRefIdeal.main_arg3)) (m ((c.tc : Thread Cert.AttnPreBwdRefIdeal.nD Cert.AttnPreBwdRefIdeal.τ).loc Cert.AttnPreBwdRefIdeal.main_arg4)) (m ((c.tc : Thread Cert.AttnPreBwdRefIdeal.nD Cert.AttnPreBwdRefIdeal.τ).loc Cert.AttnPreBwdRefIdeal.main_arg5)) (m ((c.tc : Thread Cert.AttnPreBwdRefIdeal.nD Cert.AttnPreBwdRefIdeal.τ).loc Cert.AttnPreBwdRefIdeal.main_arg6))).2.2.2.1 = (fun _ => 1#1)
    ∧ (Cert.Pre_finite7.fn (F := Ideal) (m ((c.tc : Thread Cert.AttnPreBwdRefIdeal.nD Cert.AttnPreBwdRefIdeal.τ).loc Cert.AttnPreBwdRefIdeal.main_arg0)) (m ((c.tc : Thread Cert.AttnPreBwdRefIdeal.nD Cert.AttnPreBwdRefIdeal.τ).loc Cert.AttnPreBwdRefIdeal.main_arg1)) (m ((c.tc : Thread Cert.AttnPreBwdRefIdeal.nD Cert.AttnPreBwdRefIdeal.τ).loc Cert.AttnPreBwdRefIdeal.main_arg2)) (m ((c.tc : Thread Cert.AttnPreBwdRefIdeal.nD Cert.AttnPreBwdRefIdeal.τ).loc Cert.AttnPreBwdRefIdeal.main_arg3)) (m ((c.tc : Thread Cert.AttnPreBwdRefIdeal.nD Cert.AttnPreBwdRefIdeal.τ).loc Cert.AttnPreBwdRefIdeal.main_arg4)) (m ((c.tc : Thread Cert.AttnPreBwdRefIdeal.nD Cert.AttnPreBwdRefIdeal.τ).loc Cert.AttnPreBwdRefIdeal.main_arg5)) (m ((c.tc : Thread Cert.AttnPreBwdRefIdeal.nD Cert.AttnPreBwdRefIdeal.τ).loc Cert.AttnPreBwdRefIdeal.main_arg6))).2.2.2.2.1 = (fun _ => 1#1)
    ∧ (Cert.Pre_finite7.fn (F := Ideal) (m ((c.tc : Thread Cert.AttnPreBwdRefIdeal.nD Cert.AttnPreBwdRefIdeal.τ).loc Cert.AttnPreBwdRefIdeal.main_arg0)) (m ((c.tc : Thread Cert.AttnPreBwdRefIdeal.nD Cert.AttnPreBwdRefIdeal.τ).loc Cert.AttnPreBwdRefIdeal.main_arg1)) (m ((c.tc : Thread Cert.AttnPreBwdRefIdeal.nD Cert.AttnPreBwdRefIdeal.τ).loc Cert.AttnPreBwdRefIdeal.main_arg2)) (m ((c.tc : Thread Cert.AttnPreBwdRefIdeal.nD Cert.AttnPreBwdRefIdeal.τ).loc Cert.AttnPreBwdRefIdeal.main_arg3)) (m ((c.tc : Thread Cert.AttnPreBwdRefIdeal.nD Cert.AttnPreBwdRefIdeal.τ).loc Cert.AttnPreBwdRefIdeal.main_arg4)) (m ((c.tc : Thread Cert.AttnPreBwdRefIdeal.nD Cert.AttnPreBwdRefIdeal.τ).loc Cert.AttnPreBwdRefIdeal.main_arg5)) (m ((c.tc : Thread Cert.AttnPreBwdRefIdeal.nD Cert.AttnPreBwdRefIdeal.τ).loc Cert.AttnPreBwdRefIdeal.main_arg6))).2.2.2.2.2.1 = (fun _ => 1#1)
    ∧ (Cert.Pre_finite7.fn (F := Ideal) (m ((c.tc : Thread Cert.AttnPreBwdRefIdeal.nD Cert.AttnPreBwdRefIdeal.τ).loc Cert.AttnPreBwdRefIdeal.main_arg0)) (m ((c.tc : Thread Cert.AttnPreBwdRefIdeal.nD Cert.AttnPreBwdRefIdeal.τ).loc Cert.AttnPreBwdRefIdeal.main_arg1)) (m ((c.tc : Thread Cert.AttnPreBwdRefIdeal.nD Cert.AttnPreBwdRefIdeal.τ).loc Cert.AttnPreBwdRefIdeal.main_arg2)) (m ((c.tc : Thread Cert.AttnPreBwdRefIdeal.nD Cert.AttnPreBwdRefIdeal.τ).loc Cert.AttnPreBwdRefIdeal.main_arg3)) (m ((c.tc : Thread Cert.AttnPreBwdRefIdeal.nD Cert.AttnPreBwdRefIdeal.τ).loc Cert.AttnPreBwdRefIdeal.main_arg4)) (m ((c.tc : Thread Cert.AttnPreBwdRefIdeal.nD Cert.AttnPreBwdRefIdeal.τ).loc Cert.AttnPreBwdRefIdeal.main_arg5)) (m ((c.tc : Thread Cert.AttnPreBwdRefIdeal.nD Cert.AttnPreBwdRefIdeal.τ).loc Cert.AttnPreBwdRefIdeal.main_arg6))).2.2.2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite5 [hPre_finite5 : Cert.Pre_finite5.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite5.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).1 = (fun _ => 1#1)
    ∧ (Cert.Pre_finite5.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.1 = (fun _ => 1#1)
    ∧ (Cert.Pre_finite5.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.1 = (fun _ => 1#1)
    ∧ (Cert.Pre_finite5.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.1 = (fun _ => 1#1)
    ∧ (Cert.Pre_finite5.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite5 [hPre_finite5 : Cert.Pre_finite5.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite5.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).1 = (fun _ => 1#1)
    ∧ (Cert.Pre_finite5.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.1 = (fun _ => 1#1)
    ∧ (Cert.Pre_finite5.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.1 = (fun _ => 1#1)
    ∧ (Cert.Pre_finite5.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.1 = (fun _ => 1#1)
    ∧ (Cert.Pre_finite5.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite9 [hPre_finite9 : Cert.Pre_finite9.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite9.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_finite9.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_finite9.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.1 = (fun _ => 1#1)
    ∧ (Cert.Pre_finite9.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite9 [hPre_finite9 : Cert.Pre_finite9.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite9.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_finite9.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_finite9.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.1 = (fun _ => 1#1)
    ∧ (Cert.Pre_finite9.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.2 = (fun _ => 1#1)

def Pre_ConvPre (m : (ℓ : Loc Cert.ConvPre.nD Cert.ConvPre.τ Cert.ConvPre.sig) → Buf (Elt Bits) ℓ) : Prop :=
  True

def Pre_ConvPreIdeal (m : (ℓ : Loc Cert.ConvPreIdeal.nD Cert.ConvPreIdeal.τ Cert.ConvPreIdeal.sig) → Buf (Elt Ideal) ℓ) : Prop :=
  True

def Pre_ConvPreRefIdeal (m : (ℓ : Loc Cert.ConvPreRefIdeal.nD Cert.ConvPreRefIdeal.τ Cert.ConvPreRefIdeal.sig) → Buf (Elt Ideal) ℓ) : Prop :=
  True

def Pre_ConvPost (m : (ℓ : Loc Cert.ConvPost.nD Cert.ConvPost.τ Cert.ConvPost.sig) → Buf (Elt Bits) ℓ) : Prop :=
  True

def Pre_ConvPostIdeal (m : (ℓ : Loc Cert.ConvPostIdeal.nD Cert.ConvPostIdeal.τ Cert.ConvPostIdeal.sig) → Buf (Elt Ideal) ℓ) : Prop :=
  True

def Pre_ConvPostRefIdeal (m : (ℓ : Loc Cert.ConvPostRefIdeal.nD Cert.ConvPostRefIdeal.τ Cert.ConvPostRefIdeal.sig) → Buf (Elt Ideal) ℓ) : Prop :=
  True

def Pre_FfnFwdAttn (m : (ℓ : Loc Cert.FfnFwdAttn.nD Cert.FfnFwdAttn.τ Cert.FfnFwdAttn.sig) → Buf (Elt Bits) ℓ) : Prop :=
  True

def Pre_FfnFwdAttnIdeal (m : (ℓ : Loc Cert.FfnFwdAttnIdeal.nD Cert.FfnFwdAttnIdeal.τ Cert.FfnFwdAttnIdeal.sig) → Buf (Elt Ideal) ℓ) : Prop :=
  True

def Pre_FfnFwdAttnIdeal_finite11 [hPre_finite11 : Cert.Pre_finite11.Facts] (m : (ℓ : Loc Cert.FfnFwdAttnIdeal.nD Cert.FfnFwdAttnIdeal.τ Cert.FfnFwdAttnIdeal.sig) → Buf (Elt Ideal) ℓ) : Prop :=
  ∀ c : Dev Cert.FfnFwdAttnIdeal.nD,
    (Cert.Pre_finite11.fn (F := Ideal) (m ((c.tc : Thread Cert.FfnFwdAttnIdeal.nD Cert.FfnFwdAttnIdeal.τ).loc Cert.FfnFwdAttnIdeal.main_arg0)) (m ((c.tc : Thread Cert.FfnFwdAttnIdeal.nD Cert.FfnFwdAttnIdeal.τ).loc Cert.FfnFwdAttnIdeal.main_arg1)) (m ((c.tc : Thread Cert.FfnFwdAttnIdeal.nD Cert.FfnFwdAttnIdeal.τ).loc Cert.FfnFwdAttnIdeal.main_arg2)) (m ((c.tc : Thread Cert.FfnFwdAttnIdeal.nD Cert.FfnFwdAttnIdeal.τ).loc Cert.FfnFwdAttnIdeal.main_arg3)) (m ((c.tc : Thread Cert.FfnFwdAttnIdeal.nD Cert.FfnFwdAttnIdeal.τ).loc Cert.FfnFwdAttnIdeal.main_arg4)) (m ((c.tc : Thread Cert.FfnFwdAttnIdeal.nD Cert.FfnFwdAttnIdeal.τ).loc Cert.FfnFwdAttnIdeal.main_arg5))).1 = (fun _ => 1#1)
    ∧ (Cert.Pre_finite11.fn (F := Ideal) (m ((c.tc : Thread Cert.FfnFwdAttnIdeal.nD Cert.FfnFwdAttnIdeal.τ).loc Cert.FfnFwdAttnIdeal.main_arg0)) (m ((c.tc : Thread Cert.FfnFwdAttnIdeal.nD Cert.FfnFwdAttnIdeal.τ).loc Cert.FfnFwdAttnIdeal.main_arg1)) (m ((c.tc : Thread Cert.FfnFwdAttnIdeal.nD Cert.FfnFwdAttnIdeal.τ).loc Cert.FfnFwdAttnIdeal.main_arg2)) (m ((c.tc : Thread Cert.FfnFwdAttnIdeal.nD Cert.FfnFwdAttnIdeal.τ).loc Cert.FfnFwdAttnIdeal.main_arg3)) (m ((c.tc : Thread Cert.FfnFwdAttnIdeal.nD Cert.FfnFwdAttnIdeal.τ).loc Cert.FfnFwdAttnIdeal.main_arg4)) (m ((c.tc : Thread Cert.FfnFwdAttnIdeal.nD Cert.FfnFwdAttnIdeal.τ).loc Cert.FfnFwdAttnIdeal.main_arg5))).2.1 = (fun _ => 1#1)
    ∧ (Cert.Pre_finite11.fn (F := Ideal) (m ((c.tc : Thread Cert.FfnFwdAttnIdeal.nD Cert.FfnFwdAttnIdeal.τ).loc Cert.FfnFwdAttnIdeal.main_arg0)) (m ((c.tc : Thread Cert.FfnFwdAttnIdeal.nD Cert.FfnFwdAttnIdeal.τ).loc Cert.FfnFwdAttnIdeal.main_arg1)) (m ((c.tc : Thread Cert.FfnFwdAttnIdeal.nD Cert.FfnFwdAttnIdeal.τ).loc Cert.FfnFwdAttnIdeal.main_arg2)) (m ((c.tc : Thread Cert.FfnFwdAttnIdeal.nD Cert.FfnFwdAttnIdeal.τ).loc Cert.FfnFwdAttnIdeal.main_arg3)) (m ((c.tc : Thread Cert.FfnFwdAttnIdeal.nD Cert.FfnFwdAttnIdeal.τ).loc Cert.FfnFwdAttnIdeal.main_arg4)) (m ((c.tc : Thread Cert.FfnFwdAttnIdeal.nD Cert.FfnFwdAttnIdeal.τ).loc Cert.FfnFwdAttnIdeal.main_arg5))).2.2.1 = (fun _ => 1#1)
    ∧ (Cert.Pre_finite11.fn (F := Ideal) (m ((c.tc : Thread Cert.FfnFwdAttnIdeal.nD Cert.FfnFwdAttnIdeal.τ).loc Cert.FfnFwdAttnIdeal.main_arg0)) (m ((c.tc : Thread Cert.FfnFwdAttnIdeal.nD Cert.FfnFwdAttnIdeal.τ).loc Cert.FfnFwdAttnIdeal.main_arg1)) (m ((c.tc : Thread Cert.FfnFwdAttnIdeal.nD Cert.FfnFwdAttnIdeal.τ).loc Cert.FfnFwdAttnIdeal.main_arg2)) (m ((c.tc : Thread Cert.FfnFwdAttnIdeal.nD Cert.FfnFwdAttnIdeal.τ).loc Cert.FfnFwdAttnIdeal.main_arg3)) (m ((c.tc : Thread Cert.FfnFwdAttnIdeal.nD Cert.FfnFwdAttnIdeal.τ).loc Cert.FfnFwdAttnIdeal.main_arg4)) (m ((c.tc : Thread Cert.FfnFwdAttnIdeal.nD Cert.FfnFwdAttnIdeal.τ).loc Cert.FfnFwdAttnIdeal.main_arg5))).2.2.2.1 = (fun _ => 1#1)
    ∧ (Cert.Pre_finite11.fn (F := Ideal) (m ((c.tc : Thread Cert.FfnFwdAttnIdeal.nD Cert.FfnFwdAttnIdeal.τ).loc Cert.FfnFwdAttnIdeal.main_arg0)) (m ((c.tc : Thread Cert.FfnFwdAttnIdeal.nD Cert.FfnFwdAttnIdeal.τ).loc Cert.FfnFwdAttnIdeal.main_arg1)) (m ((c.tc : Thread Cert.FfnFwdAttnIdeal.nD Cert.FfnFwdAttnIdeal.τ).loc Cert.FfnFwdAttnIdeal.main_arg2)) (m ((c.tc : Thread Cert.FfnFwdAttnIdeal.nD Cert.FfnFwdAttnIdeal.τ).loc Cert.FfnFwdAttnIdeal.main_arg3)) (m ((c.tc : Thread Cert.FfnFwdAttnIdeal.nD Cert.FfnFwdAttnIdeal.τ).loc Cert.FfnFwdAttnIdeal.main_arg4)) (m ((c.tc : Thread Cert.FfnFwdAttnIdeal.nD Cert.FfnFwdAttnIdeal.τ).loc Cert.FfnFwdAttnIdeal.main_arg5))).2.2.2.2.1 = (fun _ => 1#1)
    ∧ (Cert.Pre_finite11.fn (F := Ideal) (m ((c.tc : Thread Cert.FfnFwdAttnIdeal.nD Cert.FfnFwdAttnIdeal.τ).loc Cert.FfnFwdAttnIdeal.main_arg0)) (m ((c.tc : Thread Cert.FfnFwdAttnIdeal.nD Cert.FfnFwdAttnIdeal.τ).loc Cert.FfnFwdAttnIdeal.main_arg1)) (m ((c.tc : Thread Cert.FfnFwdAttnIdeal.nD Cert.FfnFwdAttnIdeal.τ).loc Cert.FfnFwdAttnIdeal.main_arg2)) (m ((c.tc : Thread Cert.FfnFwdAttnIdeal.nD Cert.FfnFwdAttnIdeal.τ).loc Cert.FfnFwdAttnIdeal.main_arg3)) (m ((c.tc : Thread Cert.FfnFwdAttnIdeal.nD Cert.FfnFwdAttnIdeal.τ).loc Cert.FfnFwdAttnIdeal.main_arg4)) (m ((c.tc : Thread Cert.FfnFwdAttnIdeal.nD Cert.FfnFwdAttnIdeal.τ).loc Cert.FfnFwdAttnIdeal.main_arg5))).2.2.2.2.2 = (fun _ => 1#1)

def Pre_FfnFwdAttnRefIdeal (m : (ℓ : Loc Cert.FfnFwdAttnRefIdeal.nD Cert.FfnFwdAttnRefIdeal.τ Cert.FfnFwdAttnRefIdeal.sig) → Buf (Elt Ideal) ℓ) : Prop :=
  True

def Pre_FfnFwdAttnRefIdeal_finite11 [hPre_finite11 : Cert.Pre_finite11.Facts] (m : (ℓ : Loc Cert.FfnFwdAttnRefIdeal.nD Cert.FfnFwdAttnRefIdeal.τ Cert.FfnFwdAttnRefIdeal.sig) → Buf (Elt Ideal) ℓ) : Prop :=
  ∀ c : Dev Cert.FfnFwdAttnRefIdeal.nD,
    (Cert.Pre_finite11.fn (F := Ideal) (m ((c.tc : Thread Cert.FfnFwdAttnRefIdeal.nD Cert.FfnFwdAttnRefIdeal.τ).loc Cert.FfnFwdAttnRefIdeal.main_arg0)) (m ((c.tc : Thread Cert.FfnFwdAttnRefIdeal.nD Cert.FfnFwdAttnRefIdeal.τ).loc Cert.FfnFwdAttnRefIdeal.main_arg1)) (m ((c.tc : Thread Cert.FfnFwdAttnRefIdeal.nD Cert.FfnFwdAttnRefIdeal.τ).loc Cert.FfnFwdAttnRefIdeal.main_arg2)) (m ((c.tc : Thread Cert.FfnFwdAttnRefIdeal.nD Cert.FfnFwdAttnRefIdeal.τ).loc Cert.FfnFwdAttnRefIdeal.main_arg3)) (m ((c.tc : Thread Cert.FfnFwdAttnRefIdeal.nD Cert.FfnFwdAttnRefIdeal.τ).loc Cert.FfnFwdAttnRefIdeal.main_arg4)) (m ((c.tc : Thread Cert.FfnFwdAttnRefIdeal.nD Cert.FfnFwdAttnRefIdeal.τ).loc Cert.FfnFwdAttnRefIdeal.main_arg5))).1 = (fun _ => 1#1)
    ∧ (Cert.Pre_finite11.fn (F := Ideal) (m ((c.tc : Thread Cert.FfnFwdAttnRefIdeal.nD Cert.FfnFwdAttnRefIdeal.τ).loc Cert.FfnFwdAttnRefIdeal.main_arg0)) (m ((c.tc : Thread Cert.FfnFwdAttnRefIdeal.nD Cert.FfnFwdAttnRefIdeal.τ).loc Cert.FfnFwdAttnRefIdeal.main_arg1)) (m ((c.tc : Thread Cert.FfnFwdAttnRefIdeal.nD Cert.FfnFwdAttnRefIdeal.τ).loc Cert.FfnFwdAttnRefIdeal.main_arg2)) (m ((c.tc : Thread Cert.FfnFwdAttnRefIdeal.nD Cert.FfnFwdAttnRefIdeal.τ).loc Cert.FfnFwdAttnRefIdeal.main_arg3)) (m ((c.tc : Thread Cert.FfnFwdAttnRefIdeal.nD Cert.FfnFwdAttnRefIdeal.τ).loc Cert.FfnFwdAttnRefIdeal.main_arg4)) (m ((c.tc : Thread Cert.FfnFwdAttnRefIdeal.nD Cert.FfnFwdAttnRefIdeal.τ).loc Cert.FfnFwdAttnRefIdeal.main_arg5))).2.1 = (fun _ => 1#1)
    ∧ (Cert.Pre_finite11.fn (F := Ideal) (m ((c.tc : Thread Cert.FfnFwdAttnRefIdeal.nD Cert.FfnFwdAttnRefIdeal.τ).loc Cert.FfnFwdAttnRefIdeal.main_arg0)) (m ((c.tc : Thread Cert.FfnFwdAttnRefIdeal.nD Cert.FfnFwdAttnRefIdeal.τ).loc Cert.FfnFwdAttnRefIdeal.main_arg1)) (m ((c.tc : Thread Cert.FfnFwdAttnRefIdeal.nD Cert.FfnFwdAttnRefIdeal.τ).loc Cert.FfnFwdAttnRefIdeal.main_arg2)) (m ((c.tc : Thread Cert.FfnFwdAttnRefIdeal.nD Cert.FfnFwdAttnRefIdeal.τ).loc Cert.FfnFwdAttnRefIdeal.main_arg3)) (m ((c.tc : Thread Cert.FfnFwdAttnRefIdeal.nD Cert.FfnFwdAttnRefIdeal.τ).loc Cert.FfnFwdAttnRefIdeal.main_arg4)) (m ((c.tc : Thread Cert.FfnFwdAttnRefIdeal.nD Cert.FfnFwdAttnRefIdeal.τ).loc Cert.FfnFwdAttnRefIdeal.main_arg5))).2.2.1 = (fun _ => 1#1)
    ∧ (Cert.Pre_finite11.fn (F := Ideal) (m ((c.tc : Thread Cert.FfnFwdAttnRefIdeal.nD Cert.FfnFwdAttnRefIdeal.τ).loc Cert.FfnFwdAttnRefIdeal.main_arg0)) (m ((c.tc : Thread Cert.FfnFwdAttnRefIdeal.nD Cert.FfnFwdAttnRefIdeal.τ).loc Cert.FfnFwdAttnRefIdeal.main_arg1)) (m ((c.tc : Thread Cert.FfnFwdAttnRefIdeal.nD Cert.FfnFwdAttnRefIdeal.τ).loc Cert.FfnFwdAttnRefIdeal.main_arg2)) (m ((c.tc : Thread Cert.FfnFwdAttnRefIdeal.nD Cert.FfnFwdAttnRefIdeal.τ).loc Cert.FfnFwdAttnRefIdeal.main_arg3)) (m ((c.tc : Thread Cert.FfnFwdAttnRefIdeal.nD Cert.FfnFwdAttnRefIdeal.τ).loc Cert.FfnFwdAttnRefIdeal.main_arg4)) (m ((c.tc : Thread Cert.FfnFwdAttnRefIdeal.nD Cert.FfnFwdAttnRefIdeal.τ).loc Cert.FfnFwdAttnRefIdeal.main_arg5))).2.2.2.1 = (fun _ => 1#1)
    ∧ (Cert.Pre_finite11.fn (F := Ideal) (m ((c.tc : Thread Cert.FfnFwdAttnRefIdeal.nD Cert.FfnFwdAttnRefIdeal.τ).loc Cert.FfnFwdAttnRefIdeal.main_arg0)) (m ((c.tc : Thread Cert.FfnFwdAttnRefIdeal.nD Cert.FfnFwdAttnRefIdeal.τ).loc Cert.FfnFwdAttnRefIdeal.main_arg1)) (m ((c.tc : Thread Cert.FfnFwdAttnRefIdeal.nD Cert.FfnFwdAttnRefIdeal.τ).loc Cert.FfnFwdAttnRefIdeal.main_arg2)) (m ((c.tc : Thread Cert.FfnFwdAttnRefIdeal.nD Cert.FfnFwdAttnRefIdeal.τ).loc Cert.FfnFwdAttnRefIdeal.main_arg3)) (m ((c.tc : Thread Cert.FfnFwdAttnRefIdeal.nD Cert.FfnFwdAttnRefIdeal.τ).loc Cert.FfnFwdAttnRefIdeal.main_arg4)) (m ((c.tc : Thread Cert.FfnFwdAttnRefIdeal.nD Cert.FfnFwdAttnRefIdeal.τ).loc Cert.FfnFwdAttnRefIdeal.main_arg5))).2.2.2.2.1 = (fun _ => 1#1)
    ∧ (Cert.Pre_finite11.fn (F := Ideal) (m ((c.tc : Thread Cert.FfnFwdAttnRefIdeal.nD Cert.FfnFwdAttnRefIdeal.τ).loc Cert.FfnFwdAttnRefIdeal.main_arg0)) (m ((c.tc : Thread Cert.FfnFwdAttnRefIdeal.nD Cert.FfnFwdAttnRefIdeal.τ).loc Cert.FfnFwdAttnRefIdeal.main_arg1)) (m ((c.tc : Thread Cert.FfnFwdAttnRefIdeal.nD Cert.FfnFwdAttnRefIdeal.τ).loc Cert.FfnFwdAttnRefIdeal.main_arg2)) (m ((c.tc : Thread Cert.FfnFwdAttnRefIdeal.nD Cert.FfnFwdAttnRefIdeal.τ).loc Cert.FfnFwdAttnRefIdeal.main_arg3)) (m ((c.tc : Thread Cert.FfnFwdAttnRefIdeal.nD Cert.FfnFwdAttnRefIdeal.τ).loc Cert.FfnFwdAttnRefIdeal.main_arg4)) (m ((c.tc : Thread Cert.FfnFwdAttnRefIdeal.nD Cert.FfnFwdAttnRefIdeal.τ).loc Cert.FfnFwdAttnRefIdeal.main_arg5))).2.2.2.2.2 = (fun _ => 1#1)

def quiescent_ConvPostBwd [hConvPostBwd : Cert.ConvPostBwd.Facts] : Prop :=
  ∀ (m : (ℓ : Loc Cert.ConvPostBwd.nD Cert.ConvPostBwd.τ Cert.ConvPostBwd.sig) → Buf (Elt Bits) ℓ) (g : Dev Cert.ConvPostBwd.nD → PrngReg), Pre_ConvPostBwd m →
    θ_run (Cert.ConvPostBwd.defs (F := Bits)) (onTc (τ := Cert.ConvPostBwd.τ) (Cert.ConvPostBwd.main (F := Bits))) ⟨m, fun _ => 0, g⟩ (fun r => (∀ c : Dev Cert.ConvPostBwd.nD,
      r.2.mem ((c.tc : Thread Cert.ConvPostBwd.nD Cert.ConvPostBwd.τ).loc Cert.ConvPostBwd.main_arg0) = m ((c.tc : Thread Cert.ConvPostBwd.nD Cert.ConvPostBwd.τ).loc Cert.ConvPostBwd.main_arg0)
      ∧ r.2.mem ((c.tc : Thread Cert.ConvPostBwd.nD Cert.ConvPostBwd.τ).loc Cert.ConvPostBwd.main_arg1) = m ((c.tc : Thread Cert.ConvPostBwd.nD Cert.ConvPostBwd.τ).loc Cert.ConvPostBwd.main_arg1)
      ∧ r.2.mem ((c.tc : Thread Cert.ConvPostBwd.nD Cert.ConvPostBwd.τ).loc Cert.ConvPostBwd.main_arg2) = m ((c.tc : Thread Cert.ConvPostBwd.nD Cert.ConvPostBwd.τ).loc Cert.ConvPostBwd.main_arg2)
      ∧ r.2.mem ((c.tc : Thread Cert.ConvPostBwd.nD Cert.ConvPostBwd.τ).loc Cert.ConvPostBwd.main_arg3) = m ((c.tc : Thread Cert.ConvPostBwd.nD Cert.ConvPostBwd.τ).loc Cert.ConvPostBwd.main_arg3)
      ∧ r.2.mem ((c.tc : Thread Cert.ConvPostBwd.nD Cert.ConvPostBwd.τ).loc Cert.ConvPostBwd.main_arg4) = m ((c.tc : Thread Cert.ConvPostBwd.nD Cert.ConvPostBwd.τ).loc Cert.ConvPostBwd.main_arg4)
      ∧ r.2.mem ((c.tc : Thread Cert.ConvPostBwd.nD Cert.ConvPostBwd.τ).loc Cert.ConvPostBwd.main_arg5) = m ((c.tc : Thread Cert.ConvPostBwd.nD Cert.ConvPostBwd.τ).loc Cert.ConvPostBwd.main_arg5))
      ∧ r.2.sem = fun _ => 0)

def quiescent_ConvPostBwdIdeal [hConvPostBwdIdeal : Cert.ConvPostBwdIdeal.Facts] : Prop :=
  ∀ (m : (ℓ : Loc Cert.ConvPostBwdIdeal.nD Cert.ConvPostBwdIdeal.τ Cert.ConvPostBwdIdeal.sig) → Buf (Elt Ideal) ℓ) (g : Dev Cert.ConvPostBwdIdeal.nD → PrngReg), Pre_ConvPostBwdIdeal m →
    θ_run (Cert.ConvPostBwdIdeal.defs (F := Ideal)) (onTc (τ := Cert.ConvPostBwdIdeal.τ) (Cert.ConvPostBwdIdeal.main (F := Ideal))) ⟨m, fun _ => 0, g⟩ (fun r => (∀ c : Dev Cert.ConvPostBwdIdeal.nD,
      r.2.mem ((c.tc : Thread Cert.ConvPostBwdIdeal.nD Cert.ConvPostBwdIdeal.τ).loc Cert.ConvPostBwdIdeal.main_arg0) = m ((c.tc : Thread Cert.ConvPostBwdIdeal.nD Cert.ConvPostBwdIdeal.τ).loc Cert.ConvPostBwdIdeal.main_arg0)
      ∧ r.2.mem ((c.tc : Thread Cert.ConvPostBwdIdeal.nD Cert.ConvPostBwdIdeal.τ).loc Cert.ConvPostBwdIdeal.main_arg1) = m ((c.tc : Thread Cert.ConvPostBwdIdeal.nD Cert.ConvPostBwdIdeal.τ).loc Cert.ConvPostBwdIdeal.main_arg1)
      ∧ r.2.mem ((c.tc : Thread Cert.ConvPostBwdIdeal.nD Cert.ConvPostBwdIdeal.τ).loc Cert.ConvPostBwdIdeal.main_arg2) = m ((c.tc : Thread Cert.ConvPostBwdIdeal.nD Cert.ConvPostBwdIdeal.τ).loc Cert.ConvPostBwdIdeal.main_arg2)
      ∧ r.2.mem ((c.tc : Thread Cert.ConvPostBwdIdeal.nD Cert.ConvPostBwdIdeal.τ).loc Cert.ConvPostBwdIdeal.main_arg3) = m ((c.tc : Thread Cert.ConvPostBwdIdeal.nD Cert.ConvPostBwdIdeal.τ).loc Cert.ConvPostBwdIdeal.main_arg3)
      ∧ r.2.mem ((c.tc : Thread Cert.ConvPostBwdIdeal.nD Cert.ConvPostBwdIdeal.τ).loc Cert.ConvPostBwdIdeal.main_arg4) = m ((c.tc : Thread Cert.ConvPostBwdIdeal.nD Cert.ConvPostBwdIdeal.τ).loc Cert.ConvPostBwdIdeal.main_arg4)
      ∧ r.2.mem ((c.tc : Thread Cert.ConvPostBwdIdeal.nD Cert.ConvPostBwdIdeal.τ).loc Cert.ConvPostBwdIdeal.main_arg5) = m ((c.tc : Thread Cert.ConvPostBwdIdeal.nD Cert.ConvPostBwdIdeal.τ).loc Cert.ConvPostBwdIdeal.main_arg5))
      ∧ r.2.sem = fun _ => 0)

def quiescent_ConvPostBwdIdeal_pre_all_finite3 [hConvPostBwdIdeal : Cert.ConvPostBwdIdeal.Facts] [hPre_all_finite3 : Cert.Pre_all_finite3.Facts] : Prop :=
  ∀ (m : (ℓ : Loc Cert.ConvPostBwdIdeal.nD Cert.ConvPostBwdIdeal.τ Cert.ConvPostBwdIdeal.sig) → Buf (Elt Ideal) ℓ) (g : Dev Cert.ConvPostBwdIdeal.nD → PrngReg), Pre_ConvPostBwdIdeal_all_finite3 m →
    θ_run (Cert.ConvPostBwdIdeal.defs (F := Ideal)) (onTc (τ := Cert.ConvPostBwdIdeal.τ) (Cert.ConvPostBwdIdeal.main (F := Ideal))) ⟨m, fun _ => 0, g⟩ (fun r => (∀ c : Dev Cert.ConvPostBwdIdeal.nD,
      r.2.mem ((c.tc : Thread Cert.ConvPostBwdIdeal.nD Cert.ConvPostBwdIdeal.τ).loc Cert.ConvPostBwdIdeal.main_arg0) = m ((c.tc : Thread Cert.ConvPostBwdIdeal.nD Cert.ConvPostBwdIdeal.τ).loc Cert.ConvPostBwdIdeal.main_arg0)
      ∧ r.2.mem ((c.tc : Thread Cert.ConvPostBwdIdeal.nD Cert.ConvPostBwdIdeal.τ).loc Cert.ConvPostBwdIdeal.main_arg1) = m ((c.tc : Thread Cert.ConvPostBwdIdeal.nD Cert.ConvPostBwdIdeal.τ).loc Cert.ConvPostBwdIdeal.main_arg1)
      ∧ r.2.mem ((c.tc : Thread Cert.ConvPostBwdIdeal.nD Cert.ConvPostBwdIdeal.τ).loc Cert.ConvPostBwdIdeal.main_arg2) = m ((c.tc : Thread Cert.ConvPostBwdIdeal.nD Cert.ConvPostBwdIdeal.τ).loc Cert.ConvPostBwdIdeal.main_arg2)
      ∧ r.2.mem ((c.tc : Thread Cert.ConvPostBwdIdeal.nD Cert.ConvPostBwdIdeal.τ).loc Cert.ConvPostBwdIdeal.main_arg3) = m ((c.tc : Thread Cert.ConvPostBwdIdeal.nD Cert.ConvPostBwdIdeal.τ).loc Cert.ConvPostBwdIdeal.main_arg3)
      ∧ r.2.mem ((c.tc : Thread Cert.ConvPostBwdIdeal.nD Cert.ConvPostBwdIdeal.τ).loc Cert.ConvPostBwdIdeal.main_arg4) = m ((c.tc : Thread Cert.ConvPostBwdIdeal.nD Cert.ConvPostBwdIdeal.τ).loc Cert.ConvPostBwdIdeal.main_arg4)
      ∧ r.2.mem ((c.tc : Thread Cert.ConvPostBwdIdeal.nD Cert.ConvPostBwdIdeal.τ).loc Cert.ConvPostBwdIdeal.main_arg5) = m ((c.tc : Thread Cert.ConvPostBwdIdeal.nD Cert.ConvPostBwdIdeal.τ).loc Cert.ConvPostBwdIdeal.main_arg5))
      ∧ r.2.sem = fun _ => 0)

def quiescent_ConvPostBwdRefIdeal [hConvPostBwdRefIdeal : Cert.ConvPostBwdRefIdeal.Facts] : Prop :=
  ∀ (m : (ℓ : Loc Cert.ConvPostBwdRefIdeal.nD Cert.ConvPostBwdRefIdeal.τ Cert.ConvPostBwdRefIdeal.sig) → Buf (Elt Ideal) ℓ) (g : Dev Cert.ConvPostBwdRefIdeal.nD → PrngReg), Pre_ConvPostBwdRefIdeal m →
    θ_run (Cert.ConvPostBwdRefIdeal.defs (F := Ideal)) (onTc (τ := Cert.ConvPostBwdRefIdeal.τ) (Cert.ConvPostBwdRefIdeal.main (F := Ideal))) ⟨m, fun _ => 0, g⟩ (fun r => (∀ c : Dev Cert.ConvPostBwdRefIdeal.nD,
      r.2.mem ((c.tc : Thread Cert.ConvPostBwdRefIdeal.nD Cert.ConvPostBwdRefIdeal.τ).loc Cert.ConvPostBwdRefIdeal.main_arg0) = m ((c.tc : Thread Cert.ConvPostBwdRefIdeal.nD Cert.ConvPostBwdRefIdeal.τ).loc Cert.ConvPostBwdRefIdeal.main_arg0)
      ∧ r.2.mem ((c.tc : Thread Cert.ConvPostBwdRefIdeal.nD Cert.ConvPostBwdRefIdeal.τ).loc Cert.ConvPostBwdRefIdeal.main_arg1) = m ((c.tc : Thread Cert.ConvPostBwdRefIdeal.nD Cert.ConvPostBwdRefIdeal.τ).loc Cert.ConvPostBwdRefIdeal.main_arg1)
      ∧ r.2.mem ((c.tc : Thread Cert.ConvPostBwdRefIdeal.nD Cert.ConvPostBwdRefIdeal.τ).loc Cert.ConvPostBwdRefIdeal.main_arg2) = m ((c.tc : Thread Cert.ConvPostBwdRefIdeal.nD Cert.ConvPostBwdRefIdeal.τ).loc Cert.ConvPostBwdRefIdeal.main_arg2)
      ∧ r.2.mem ((c.tc : Thread Cert.ConvPostBwdRefIdeal.nD Cert.ConvPostBwdRefIdeal.τ).loc Cert.ConvPostBwdRefIdeal.main_arg3) = m ((c.tc : Thread Cert.ConvPostBwdRefIdeal.nD Cert.ConvPostBwdRefIdeal.τ).loc Cert.ConvPostBwdRefIdeal.main_arg3)
      ∧ r.2.mem ((c.tc : Thread Cert.ConvPostBwdRefIdeal.nD Cert.ConvPostBwdRefIdeal.τ).loc Cert.ConvPostBwdRefIdeal.main_arg4) = m ((c.tc : Thread Cert.ConvPostBwdRefIdeal.nD Cert.ConvPostBwdRefIdeal.τ).loc Cert.ConvPostBwdRefIdeal.main_arg4)
      ∧ r.2.mem ((c.tc : Thread Cert.ConvPostBwdRefIdeal.nD Cert.ConvPostBwdRefIdeal.τ).loc Cert.ConvPostBwdRefIdeal.main_arg5) = m ((c.tc : Thread Cert.ConvPostBwdRefIdeal.nD Cert.ConvPostBwdRefIdeal.τ).loc Cert.ConvPostBwdRefIdeal.main_arg5))
      ∧ r.2.sem = fun _ => 0)

def quiescent_ConvPostBwdRefIdeal_pre_all_finite3 [hConvPostBwdRefIdeal : Cert.ConvPostBwdRefIdeal.Facts] [hPre_all_finite3 : Cert.Pre_all_finite3.Facts] : Prop :=
  ∀ (m : (ℓ : Loc Cert.ConvPostBwdRefIdeal.nD Cert.ConvPostBwdRefIdeal.τ Cert.ConvPostBwdRefIdeal.sig) → Buf (Elt Ideal) ℓ) (g : Dev Cert.ConvPostBwdRefIdeal.nD → PrngReg), Pre_ConvPostBwdRefIdeal_all_finite3 m →
    θ_run (Cert.ConvPostBwdRefIdeal.defs (F := Ideal)) (onTc (τ := Cert.ConvPostBwdRefIdeal.τ) (Cert.ConvPostBwdRefIdeal.main (F := Ideal))) ⟨m, fun _ => 0, g⟩ (fun r => (∀ c : Dev Cert.ConvPostBwdRefIdeal.nD,
      r.2.mem ((c.tc : Thread Cert.ConvPostBwdRefIdeal.nD Cert.ConvPostBwdRefIdeal.τ).loc Cert.ConvPostBwdRefIdeal.main_arg0) = m ((c.tc : Thread Cert.ConvPostBwdRefIdeal.nD Cert.ConvPostBwdRefIdeal.τ).loc Cert.ConvPostBwdRefIdeal.main_arg0)
      ∧ r.2.mem ((c.tc : Thread Cert.ConvPostBwdRefIdeal.nD Cert.ConvPostBwdRefIdeal.τ).loc Cert.ConvPostBwdRefIdeal.main_arg1) = m ((c.tc : Thread Cert.ConvPostBwdRefIdeal.nD Cert.ConvPostBwdRefIdeal.τ).loc Cert.ConvPostBwdRefIdeal.main_arg1)
      ∧ r.2.mem ((c.tc : Thread Cert.ConvPostBwdRefIdeal.nD Cert.ConvPostBwdRefIdeal.τ).loc Cert.ConvPostBwdRefIdeal.main_arg2) = m ((c.tc : Thread Cert.ConvPostBwdRefIdeal.nD Cert.ConvPostBwdRefIdeal.τ).loc Cert.ConvPostBwdRefIdeal.main_arg2)
      ∧ r.2.mem ((c.tc : Thread Cert.ConvPostBwdRefIdeal.nD Cert.ConvPostBwdRefIdeal.τ).loc Cert.ConvPostBwdRefIdeal.main_arg3) = m ((c.tc : Thread Cert.ConvPostBwdRefIdeal.nD Cert.ConvPostBwdRefIdeal.τ).loc Cert.ConvPostBwdRefIdeal.main_arg3)
      ∧ r.2.mem ((c.tc : Thread Cert.ConvPostBwdRefIdeal.nD Cert.ConvPostBwdRefIdeal.τ).loc Cert.ConvPostBwdRefIdeal.main_arg4) = m ((c.tc : Thread Cert.ConvPostBwdRefIdeal.nD Cert.ConvPostBwdRefIdeal.τ).loc Cert.ConvPostBwdRefIdeal.main_arg4)
      ∧ r.2.mem ((c.tc : Thread Cert.ConvPostBwdRefIdeal.nD Cert.ConvPostBwdRefIdeal.τ).loc Cert.ConvPostBwdRefIdeal.main_arg5) = m ((c.tc : Thread Cert.ConvPostBwdRefIdeal.nD Cert.ConvPostBwdRefIdeal.τ).loc Cert.ConvPostBwdRefIdeal.main_arg5))
      ∧ r.2.sem = fun _ => 0)

def quiescent_ConvPreBwd [hConvPreBwd : Cert.ConvPreBwd.Facts] : Prop :=
  ∀ (m : (ℓ : Loc Cert.ConvPreBwd.nD Cert.ConvPreBwd.τ Cert.ConvPreBwd.sig) → Buf (Elt Bits) ℓ) (g : Dev Cert.ConvPreBwd.nD → PrngReg), Pre_ConvPreBwd m →
    θ_run (Cert.ConvPreBwd.defs (F := Bits)) (onTc (τ := Cert.ConvPreBwd.τ) (Cert.ConvPreBwd.main (F := Bits))) ⟨m, fun _ => 0, g⟩ (fun r => (∀ c : Dev Cert.ConvPreBwd.nD,
      r.2.mem ((c.tc : Thread Cert.ConvPreBwd.nD Cert.ConvPreBwd.τ).loc Cert.ConvPreBwd.main_arg0) = m ((c.tc : Thread Cert.ConvPreBwd.nD Cert.ConvPreBwd.τ).loc Cert.ConvPreBwd.main_arg0)
      ∧ r.2.mem ((c.tc : Thread Cert.ConvPreBwd.nD Cert.ConvPreBwd.τ).loc Cert.ConvPreBwd.main_arg1) = m ((c.tc : Thread Cert.ConvPreBwd.nD Cert.ConvPreBwd.τ).loc Cert.ConvPreBwd.main_arg1)
      ∧ r.2.mem ((c.tc : Thread Cert.ConvPreBwd.nD Cert.ConvPreBwd.τ).loc Cert.ConvPreBwd.main_arg2) = m ((c.tc : Thread Cert.ConvPreBwd.nD Cert.ConvPreBwd.τ).loc Cert.ConvPreBwd.main_arg2)
      ∧ r.2.mem ((c.tc : Thread Cert.ConvPreBwd.nD Cert.ConvPreBwd.τ).loc Cert.ConvPreBwd.main_arg3) = m ((c.tc : Thread Cert.ConvPreBwd.nD Cert.ConvPreBwd.τ).loc Cert.ConvPreBwd.main_arg3)
      ∧ r.2.mem ((c.tc : Thread Cert.ConvPreBwd.nD Cert.ConvPreBwd.τ).loc Cert.ConvPreBwd.main_arg4) = m ((c.tc : Thread Cert.ConvPreBwd.nD Cert.ConvPreBwd.τ).loc Cert.ConvPreBwd.main_arg4)
      ∧ r.2.mem ((c.tc : Thread Cert.ConvPreBwd.nD Cert.ConvPreBwd.τ).loc Cert.ConvPreBwd.main_arg5) = m ((c.tc : Thread Cert.ConvPreBwd.nD Cert.ConvPreBwd.τ).loc Cert.ConvPreBwd.main_arg5))
      ∧ r.2.sem = fun _ => 0)

def quiescent_ConvPreBwdIdeal [hConvPreBwdIdeal : Cert.ConvPreBwdIdeal.Facts] : Prop :=
  ∀ (m : (ℓ : Loc Cert.ConvPreBwdIdeal.nD Cert.ConvPreBwdIdeal.τ Cert.ConvPreBwdIdeal.sig) → Buf (Elt Ideal) ℓ) (g : Dev Cert.ConvPreBwdIdeal.nD → PrngReg), Pre_ConvPreBwdIdeal m →
    θ_run (Cert.ConvPreBwdIdeal.defs (F := Ideal)) (onTc (τ := Cert.ConvPreBwdIdeal.τ) (Cert.ConvPreBwdIdeal.main (F := Ideal))) ⟨m, fun _ => 0, g⟩ (fun r => (∀ c : Dev Cert.ConvPreBwdIdeal.nD,
      r.2.mem ((c.tc : Thread Cert.ConvPreBwdIdeal.nD Cert.ConvPreBwdIdeal.τ).loc Cert.ConvPreBwdIdeal.main_arg0) = m ((c.tc : Thread Cert.ConvPreBwdIdeal.nD Cert.ConvPreBwdIdeal.τ).loc Cert.ConvPreBwdIdeal.main_arg0)
      ∧ r.2.mem ((c.tc : Thread Cert.ConvPreBwdIdeal.nD Cert.ConvPreBwdIdeal.τ).loc Cert.ConvPreBwdIdeal.main_arg1) = m ((c.tc : Thread Cert.ConvPreBwdIdeal.nD Cert.ConvPreBwdIdeal.τ).loc Cert.ConvPreBwdIdeal.main_arg1)
      ∧ r.2.mem ((c.tc : Thread Cert.ConvPreBwdIdeal.nD Cert.ConvPreBwdIdeal.τ).loc Cert.ConvPreBwdIdeal.main_arg2) = m ((c.tc : Thread Cert.ConvPreBwdIdeal.nD Cert.ConvPreBwdIdeal.τ).loc Cert.ConvPreBwdIdeal.main_arg2)
      ∧ r.2.mem ((c.tc : Thread Cert.ConvPreBwdIdeal.nD Cert.ConvPreBwdIdeal.τ).loc Cert.ConvPreBwdIdeal.main_arg3) = m ((c.tc : Thread Cert.ConvPreBwdIdeal.nD Cert.ConvPreBwdIdeal.τ).loc Cert.ConvPreBwdIdeal.main_arg3)
      ∧ r.2.mem ((c.tc : Thread Cert.ConvPreBwdIdeal.nD Cert.ConvPreBwdIdeal.τ).loc Cert.ConvPreBwdIdeal.main_arg4) = m ((c.tc : Thread Cert.ConvPreBwdIdeal.nD Cert.ConvPreBwdIdeal.τ).loc Cert.ConvPreBwdIdeal.main_arg4)
      ∧ r.2.mem ((c.tc : Thread Cert.ConvPreBwdIdeal.nD Cert.ConvPreBwdIdeal.τ).loc Cert.ConvPreBwdIdeal.main_arg5) = m ((c.tc : Thread Cert.ConvPreBwdIdeal.nD Cert.ConvPreBwdIdeal.τ).loc Cert.ConvPreBwdIdeal.main_arg5))
      ∧ r.2.sem = fun _ => 0)

def quiescent_ConvPreBwdIdeal_pre_finite2 [hConvPreBwdIdeal : Cert.ConvPreBwdIdeal.Facts] [hPre_finite2 : Cert.Pre_finite2.Facts] : Prop :=
  ∀ (m : (ℓ : Loc Cert.ConvPreBwdIdeal.nD Cert.ConvPreBwdIdeal.τ Cert.ConvPreBwdIdeal.sig) → Buf (Elt Ideal) ℓ) (g : Dev Cert.ConvPreBwdIdeal.nD → PrngReg), Pre_ConvPreBwdIdeal_finite2 m →
    θ_run (Cert.ConvPreBwdIdeal.defs (F := Ideal)) (onTc (τ := Cert.ConvPreBwdIdeal.τ) (Cert.ConvPreBwdIdeal.main (F := Ideal))) ⟨m, fun _ => 0, g⟩ (fun r => (∀ c : Dev Cert.ConvPreBwdIdeal.nD,
      r.2.mem ((c.tc : Thread Cert.ConvPreBwdIdeal.nD Cert.ConvPreBwdIdeal.τ).loc Cert.ConvPreBwdIdeal.main_arg0) = m ((c.tc : Thread Cert.ConvPreBwdIdeal.nD Cert.ConvPreBwdIdeal.τ).loc Cert.ConvPreBwdIdeal.main_arg0)
      ∧ r.2.mem ((c.tc : Thread Cert.ConvPreBwdIdeal.nD Cert.ConvPreBwdIdeal.τ).loc Cert.ConvPreBwdIdeal.main_arg1) = m ((c.tc : Thread Cert.ConvPreBwdIdeal.nD Cert.ConvPreBwdIdeal.τ).loc Cert.ConvPreBwdIdeal.main_arg1)
      ∧ r.2.mem ((c.tc : Thread Cert.ConvPreBwdIdeal.nD Cert.ConvPreBwdIdeal.τ).loc Cert.ConvPreBwdIdeal.main_arg2) = m ((c.tc : Thread Cert.ConvPreBwdIdeal.nD Cert.ConvPreBwdIdeal.τ).loc Cert.ConvPreBwdIdeal.main_arg2)
      ∧ r.2.mem ((c.tc : Thread Cert.ConvPreBwdIdeal.nD Cert.ConvPreBwdIdeal.τ).loc Cert.ConvPreBwdIdeal.main_arg3) = m ((c.tc : Thread Cert.ConvPreBwdIdeal.nD Cert.ConvPreBwdIdeal.τ).loc Cert.ConvPreBwdIdeal.main_arg3)
      ∧ r.2.mem ((c.tc : Thread Cert.ConvPreBwdIdeal.nD Cert.ConvPreBwdIdeal.τ).loc Cert.ConvPreBwdIdeal.main_arg4) = m ((c.tc : Thread Cert.ConvPreBwdIdeal.nD Cert.ConvPreBwdIdeal.τ).loc Cert.ConvPreBwdIdeal.main_arg4)
      ∧ r.2.mem ((c.tc : Thread Cert.ConvPreBwdIdeal.nD Cert.ConvPreBwdIdeal.τ).loc Cert.ConvPreBwdIdeal.main_arg5) = m ((c.tc : Thread Cert.ConvPreBwdIdeal.nD Cert.ConvPreBwdIdeal.τ).loc Cert.ConvPreBwdIdeal.main_arg5))
      ∧ r.2.sem = fun _ => 0)

def quiescent_ConvPreBwdRefIdeal [hConvPreBwdRefIdeal : Cert.ConvPreBwdRefIdeal.Facts] : Prop :=
  ∀ (m : (ℓ : Loc Cert.ConvPreBwdRefIdeal.nD Cert.ConvPreBwdRefIdeal.τ Cert.ConvPreBwdRefIdeal.sig) → Buf (Elt Ideal) ℓ) (g : Dev Cert.ConvPreBwdRefIdeal.nD → PrngReg), Pre_ConvPreBwdRefIdeal m →
    θ_run (Cert.ConvPreBwdRefIdeal.defs (F := Ideal)) (onTc (τ := Cert.ConvPreBwdRefIdeal.τ) (Cert.ConvPreBwdRefIdeal.main (F := Ideal))) ⟨m, fun _ => 0, g⟩ (fun r => (∀ c : Dev Cert.ConvPreBwdRefIdeal.nD,
      r.2.mem ((c.tc : Thread Cert.ConvPreBwdRefIdeal.nD Cert.ConvPreBwdRefIdeal.τ).loc Cert.ConvPreBwdRefIdeal.main_arg0) = m ((c.tc : Thread Cert.ConvPreBwdRefIdeal.nD Cert.ConvPreBwdRefIdeal.τ).loc Cert.ConvPreBwdRefIdeal.main_arg0)
      ∧ r.2.mem ((c.tc : Thread Cert.ConvPreBwdRefIdeal.nD Cert.ConvPreBwdRefIdeal.τ).loc Cert.ConvPreBwdRefIdeal.main_arg1) = m ((c.tc : Thread Cert.ConvPreBwdRefIdeal.nD Cert.ConvPreBwdRefIdeal.τ).loc Cert.ConvPreBwdRefIdeal.main_arg1)
      ∧ r.2.mem ((c.tc : Thread Cert.ConvPreBwdRefIdeal.nD Cert.ConvPreBwdRefIdeal.τ).loc Cert.ConvPreBwdRefIdeal.main_arg2) = m ((c.tc : Thread Cert.ConvPreBwdRefIdeal.nD Cert.ConvPreBwdRefIdeal.τ).loc Cert.ConvPreBwdRefIdeal.main_arg2)
      ∧ r.2.mem ((c.tc : Thread Cert.ConvPreBwdRefIdeal.nD Cert.ConvPreBwdRefIdeal.τ).loc Cert.ConvPreBwdRefIdeal.main_arg3) = m ((c.tc : Thread Cert.ConvPreBwdRefIdeal.nD Cert.ConvPreBwdRefIdeal.τ).loc Cert.ConvPreBwdRefIdeal.main_arg3)
      ∧ r.2.mem ((c.tc : Thread Cert.ConvPreBwdRefIdeal.nD Cert.ConvPreBwdRefIdeal.τ).loc Cert.ConvPreBwdRefIdeal.main_arg4) = m ((c.tc : Thread Cert.ConvPreBwdRefIdeal.nD Cert.ConvPreBwdRefIdeal.τ).loc Cert.ConvPreBwdRefIdeal.main_arg4)
      ∧ r.2.mem ((c.tc : Thread Cert.ConvPreBwdRefIdeal.nD Cert.ConvPreBwdRefIdeal.τ).loc Cert.ConvPreBwdRefIdeal.main_arg5) = m ((c.tc : Thread Cert.ConvPreBwdRefIdeal.nD Cert.ConvPreBwdRefIdeal.τ).loc Cert.ConvPreBwdRefIdeal.main_arg5))
      ∧ r.2.sem = fun _ => 0)

def quiescent_ConvPreBwdRefIdeal_pre_finite2 [hConvPreBwdRefIdeal : Cert.ConvPreBwdRefIdeal.Facts] [hPre_finite2 : Cert.Pre_finite2.Facts] : Prop :=
  ∀ (m : (ℓ : Loc Cert.ConvPreBwdRefIdeal.nD Cert.ConvPreBwdRefIdeal.τ Cert.ConvPreBwdRefIdeal.sig) → Buf (Elt Ideal) ℓ) (g : Dev Cert.ConvPreBwdRefIdeal.nD → PrngReg), Pre_ConvPreBwdRefIdeal_finite2 m →
    θ_run (Cert.ConvPreBwdRefIdeal.defs (F := Ideal)) (onTc (τ := Cert.ConvPreBwdRefIdeal.τ) (Cert.ConvPreBwdRefIdeal.main (F := Ideal))) ⟨m, fun _ => 0, g⟩ (fun r => (∀ c : Dev Cert.ConvPreBwdRefIdeal.nD,
      r.2.mem ((c.tc : Thread Cert.ConvPreBwdRefIdeal.nD Cert.ConvPreBwdRefIdeal.τ).loc Cert.ConvPreBwdRefIdeal.main_arg0) = m ((c.tc : Thread Cert.ConvPreBwdRefIdeal.nD Cert.ConvPreBwdRefIdeal.τ).loc Cert.ConvPreBwdRefIdeal.main_arg0)
      ∧ r.2.mem ((c.tc : Thread Cert.ConvPreBwdRefIdeal.nD Cert.ConvPreBwdRefIdeal.τ).loc Cert.ConvPreBwdRefIdeal.main_arg1) = m ((c.tc : Thread Cert.ConvPreBwdRefIdeal.nD Cert.ConvPreBwdRefIdeal.τ).loc Cert.ConvPreBwdRefIdeal.main_arg1)
      ∧ r.2.mem ((c.tc : Thread Cert.ConvPreBwdRefIdeal.nD Cert.ConvPreBwdRefIdeal.τ).loc Cert.ConvPreBwdRefIdeal.main_arg2) = m ((c.tc : Thread Cert.ConvPreBwdRefIdeal.nD Cert.ConvPreBwdRefIdeal.τ).loc Cert.ConvPreBwdRefIdeal.main_arg2)
      ∧ r.2.mem ((c.tc : Thread Cert.ConvPreBwdRefIdeal.nD Cert.ConvPreBwdRefIdeal.τ).loc Cert.ConvPreBwdRefIdeal.main_arg3) = m ((c.tc : Thread Cert.ConvPreBwdRefIdeal.nD Cert.ConvPreBwdRefIdeal.τ).loc Cert.ConvPreBwdRefIdeal.main_arg3)
      ∧ r.2.mem ((c.tc : Thread Cert.ConvPreBwdRefIdeal.nD Cert.ConvPreBwdRefIdeal.τ).loc Cert.ConvPreBwdRefIdeal.main_arg4) = m ((c.tc : Thread Cert.ConvPreBwdRefIdeal.nD Cert.ConvPreBwdRefIdeal.τ).loc Cert.ConvPreBwdRefIdeal.main_arg4)
      ∧ r.2.mem ((c.tc : Thread Cert.ConvPreBwdRefIdeal.nD Cert.ConvPreBwdRefIdeal.τ).loc Cert.ConvPreBwdRefIdeal.main_arg5) = m ((c.tc : Thread Cert.ConvPreBwdRefIdeal.nD Cert.ConvPreBwdRefIdeal.τ).loc Cert.ConvPreBwdRefIdeal.main_arg5))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite4 [hFfnBwdIdeal : Cert.FfnBwdIdeal.Facts] [hPre_finite4 : Cert.Pre_finite4.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite4 m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite4 [hFfnBwdRefIdeal : Cert.FfnBwdRefIdeal.Facts] [hPre_finite4 : Cert.Pre_finite4.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite4 m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdOut [hFfnBwdOut : Cert.FfnBwdOut.Facts] : Prop :=
  ∀ (m : (ℓ : Loc Cert.FfnBwdOut.nD Cert.FfnBwdOut.τ Cert.FfnBwdOut.sig) → Buf (Elt Bits) ℓ) (g : Dev Cert.FfnBwdOut.nD → PrngReg), Pre_FfnBwdOut m →
    θ_run (Cert.FfnBwdOut.defs (F := Bits)) (onTc (τ := Cert.FfnBwdOut.τ) (Cert.FfnBwdOut.main (F := Bits))) ⟨m, fun _ => 0, g⟩ (fun r => (∀ c : Dev Cert.FfnBwdOut.nD,
      r.2.mem ((c.tc : Thread Cert.FfnBwdOut.nD Cert.FfnBwdOut.τ).loc Cert.FfnBwdOut.main_arg0) = m ((c.tc : Thread Cert.FfnBwdOut.nD Cert.FfnBwdOut.τ).loc Cert.FfnBwdOut.main_arg0)
      ∧ r.2.mem ((c.tc : Thread Cert.FfnBwdOut.nD Cert.FfnBwdOut.τ).loc Cert.FfnBwdOut.main_arg1) = m ((c.tc : Thread Cert.FfnBwdOut.nD Cert.FfnBwdOut.τ).loc Cert.FfnBwdOut.main_arg1)
      ∧ r.2.mem ((c.tc : Thread Cert.FfnBwdOut.nD Cert.FfnBwdOut.τ).loc Cert.FfnBwdOut.main_arg2) = m ((c.tc : Thread Cert.FfnBwdOut.nD Cert.FfnBwdOut.τ).loc Cert.FfnBwdOut.main_arg2)
      ∧ r.2.mem ((c.tc : Thread Cert.FfnBwdOut.nD Cert.FfnBwdOut.τ).loc Cert.FfnBwdOut.main_arg3) = m ((c.tc : Thread Cert.FfnBwdOut.nD Cert.FfnBwdOut.τ).loc Cert.FfnBwdOut.main_arg3)
      ∧ r.2.mem ((c.tc : Thread Cert.FfnBwdOut.nD Cert.FfnBwdOut.τ).loc Cert.FfnBwdOut.main_arg4) = m ((c.tc : Thread Cert.FfnBwdOut.nD Cert.FfnBwdOut.τ).loc Cert.FfnBwdOut.main_arg4)
      ∧ r.2.mem ((c.tc : Thread Cert.FfnBwdOut.nD Cert.FfnBwdOut.τ).loc Cert.FfnBwdOut.main_arg5) = m ((c.tc : Thread Cert.FfnBwdOut.nD Cert.FfnBwdOut.τ).loc Cert.FfnBwdOut.main_arg5))
      ∧ r.2.sem = fun _ => 0)

def quiescent_FfnBwdOutIdeal [hFfnBwdOutIdeal : Cert.FfnBwdOutIdeal.Facts] : Prop :=
  ∀ (m : (ℓ : Loc Cert.FfnBwdOutIdeal.nD Cert.FfnBwdOutIdeal.τ Cert.FfnBwdOutIdeal.sig) → Buf (Elt Ideal) ℓ) (g : Dev Cert.FfnBwdOutIdeal.nD → PrngReg), Pre_FfnBwdOutIdeal m →
    θ_run (Cert.FfnBwdOutIdeal.defs (F := Ideal)) (onTc (τ := Cert.FfnBwdOutIdeal.τ) (Cert.FfnBwdOutIdeal.main (F := Ideal))) ⟨m, fun _ => 0, g⟩ (fun r => (∀ c : Dev Cert.FfnBwdOutIdeal.nD,
      r.2.mem ((c.tc : Thread Cert.FfnBwdOutIdeal.nD Cert.FfnBwdOutIdeal.τ).loc Cert.FfnBwdOutIdeal.main_arg0) = m ((c.tc : Thread Cert.FfnBwdOutIdeal.nD Cert.FfnBwdOutIdeal.τ).loc Cert.FfnBwdOutIdeal.main_arg0)
      ∧ r.2.mem ((c.tc : Thread Cert.FfnBwdOutIdeal.nD Cert.FfnBwdOutIdeal.τ).loc Cert.FfnBwdOutIdeal.main_arg1) = m ((c.tc : Thread Cert.FfnBwdOutIdeal.nD Cert.FfnBwdOutIdeal.τ).loc Cert.FfnBwdOutIdeal.main_arg1)
      ∧ r.2.mem ((c.tc : Thread Cert.FfnBwdOutIdeal.nD Cert.FfnBwdOutIdeal.τ).loc Cert.FfnBwdOutIdeal.main_arg2) = m ((c.tc : Thread Cert.FfnBwdOutIdeal.nD Cert.FfnBwdOutIdeal.τ).loc Cert.FfnBwdOutIdeal.main_arg2)
      ∧ r.2.mem ((c.tc : Thread Cert.FfnBwdOutIdeal.nD Cert.FfnBwdOutIdeal.τ).loc Cert.FfnBwdOutIdeal.main_arg3) = m ((c.tc : Thread Cert.FfnBwdOutIdeal.nD Cert.FfnBwdOutIdeal.τ).loc Cert.FfnBwdOutIdeal.main_arg3)
      ∧ r.2.mem ((c.tc : Thread Cert.FfnBwdOutIdeal.nD Cert.FfnBwdOutIdeal.τ).loc Cert.FfnBwdOutIdeal.main_arg4) = m ((c.tc : Thread Cert.FfnBwdOutIdeal.nD Cert.FfnBwdOutIdeal.τ).loc Cert.FfnBwdOutIdeal.main_arg4)
      ∧ r.2.mem ((c.tc : Thread Cert.FfnBwdOutIdeal.nD Cert.FfnBwdOutIdeal.τ).loc Cert.FfnBwdOutIdeal.main_arg5) = m ((c.tc : Thread Cert.FfnBwdOutIdeal.nD Cert.FfnBwdOutIdeal.τ).loc Cert.FfnBwdOutIdeal.main_arg5))
      ∧ r.2.sem = fun _ => 0)

def quiescent_FfnBwdOutIdeal_pre_finite6 [hFfnBwdOutIdeal : Cert.FfnBwdOutIdeal.Facts] [hPre_finite6 : Cert.Pre_finite6.Facts] : Prop :=
  ∀ (m : (ℓ : Loc Cert.FfnBwdOutIdeal.nD Cert.FfnBwdOutIdeal.τ Cert.FfnBwdOutIdeal.sig) → Buf (Elt Ideal) ℓ) (g : Dev Cert.FfnBwdOutIdeal.nD → PrngReg), Pre_FfnBwdOutIdeal_finite6 m →
    θ_run (Cert.FfnBwdOutIdeal.defs (F := Ideal)) (onTc (τ := Cert.FfnBwdOutIdeal.τ) (Cert.FfnBwdOutIdeal.main (F := Ideal))) ⟨m, fun _ => 0, g⟩ (fun r => (∀ c : Dev Cert.FfnBwdOutIdeal.nD,
      r.2.mem ((c.tc : Thread Cert.FfnBwdOutIdeal.nD Cert.FfnBwdOutIdeal.τ).loc Cert.FfnBwdOutIdeal.main_arg0) = m ((c.tc : Thread Cert.FfnBwdOutIdeal.nD Cert.FfnBwdOutIdeal.τ).loc Cert.FfnBwdOutIdeal.main_arg0)
      ∧ r.2.mem ((c.tc : Thread Cert.FfnBwdOutIdeal.nD Cert.FfnBwdOutIdeal.τ).loc Cert.FfnBwdOutIdeal.main_arg1) = m ((c.tc : Thread Cert.FfnBwdOutIdeal.nD Cert.FfnBwdOutIdeal.τ).loc Cert.FfnBwdOutIdeal.main_arg1)
      ∧ r.2.mem ((c.tc : Thread Cert.FfnBwdOutIdeal.nD Cert.FfnBwdOutIdeal.τ).loc Cert.FfnBwdOutIdeal.main_arg2) = m ((c.tc : Thread Cert.FfnBwdOutIdeal.nD Cert.FfnBwdOutIdeal.τ).loc Cert.FfnBwdOutIdeal.main_arg2)
      ∧ r.2.mem ((c.tc : Thread Cert.FfnBwdOutIdeal.nD Cert.FfnBwdOutIdeal.τ).loc Cert.FfnBwdOutIdeal.main_arg3) = m ((c.tc : Thread Cert.FfnBwdOutIdeal.nD Cert.FfnBwdOutIdeal.τ).loc Cert.FfnBwdOutIdeal.main_arg3)
      ∧ r.2.mem ((c.tc : Thread Cert.FfnBwdOutIdeal.nD Cert.FfnBwdOutIdeal.τ).loc Cert.FfnBwdOutIdeal.main_arg4) = m ((c.tc : Thread Cert.FfnBwdOutIdeal.nD Cert.FfnBwdOutIdeal.τ).loc Cert.FfnBwdOutIdeal.main_arg4)
      ∧ r.2.mem ((c.tc : Thread Cert.FfnBwdOutIdeal.nD Cert.FfnBwdOutIdeal.τ).loc Cert.FfnBwdOutIdeal.main_arg5) = m ((c.tc : Thread Cert.FfnBwdOutIdeal.nD Cert.FfnBwdOutIdeal.τ).loc Cert.FfnBwdOutIdeal.main_arg5))
      ∧ r.2.sem = fun _ => 0)

def quiescent_FfnBwdOutRefIdeal [hFfnBwdOutRefIdeal : Cert.FfnBwdOutRefIdeal.Facts] : Prop :=
  ∀ (m : (ℓ : Loc Cert.FfnBwdOutRefIdeal.nD Cert.FfnBwdOutRefIdeal.τ Cert.FfnBwdOutRefIdeal.sig) → Buf (Elt Ideal) ℓ) (g : Dev Cert.FfnBwdOutRefIdeal.nD → PrngReg), Pre_FfnBwdOutRefIdeal m →
    θ_run (Cert.FfnBwdOutRefIdeal.defs (F := Ideal)) (onTc (τ := Cert.FfnBwdOutRefIdeal.τ) (Cert.FfnBwdOutRefIdeal.main (F := Ideal))) ⟨m, fun _ => 0, g⟩ (fun r => (∀ c : Dev Cert.FfnBwdOutRefIdeal.nD,
      r.2.mem ((c.tc : Thread Cert.FfnBwdOutRefIdeal.nD Cert.FfnBwdOutRefIdeal.τ).loc Cert.FfnBwdOutRefIdeal.main_arg0) = m ((c.tc : Thread Cert.FfnBwdOutRefIdeal.nD Cert.FfnBwdOutRefIdeal.τ).loc Cert.FfnBwdOutRefIdeal.main_arg0)
      ∧ r.2.mem ((c.tc : Thread Cert.FfnBwdOutRefIdeal.nD Cert.FfnBwdOutRefIdeal.τ).loc Cert.FfnBwdOutRefIdeal.main_arg1) = m ((c.tc : Thread Cert.FfnBwdOutRefIdeal.nD Cert.FfnBwdOutRefIdeal.τ).loc Cert.FfnBwdOutRefIdeal.main_arg1)
      ∧ r.2.mem ((c.tc : Thread Cert.FfnBwdOutRefIdeal.nD Cert.FfnBwdOutRefIdeal.τ).loc Cert.FfnBwdOutRefIdeal.main_arg2) = m ((c.tc : Thread Cert.FfnBwdOutRefIdeal.nD Cert.FfnBwdOutRefIdeal.τ).loc Cert.FfnBwdOutRefIdeal.main_arg2)
      ∧ r.2.mem ((c.tc : Thread Cert.FfnBwdOutRefIdeal.nD Cert.FfnBwdOutRefIdeal.τ).loc Cert.FfnBwdOutRefIdeal.main_arg3) = m ((c.tc : Thread Cert.FfnBwdOutRefIdeal.nD Cert.FfnBwdOutRefIdeal.τ).loc Cert.FfnBwdOutRefIdeal.main_arg3)
      ∧ r.2.mem ((c.tc : Thread Cert.FfnBwdOutRefIdeal.nD Cert.FfnBwdOutRefIdeal.τ).loc Cert.FfnBwdOutRefIdeal.main_arg4) = m ((c.tc : Thread Cert.FfnBwdOutRefIdeal.nD Cert.FfnBwdOutRefIdeal.τ).loc Cert.FfnBwdOutRefIdeal.main_arg4)
      ∧ r.2.mem ((c.tc : Thread Cert.FfnBwdOutRefIdeal.nD Cert.FfnBwdOutRefIdeal.τ).loc Cert.FfnBwdOutRefIdeal.main_arg5) = m ((c.tc : Thread Cert.FfnBwdOutRefIdeal.nD Cert.FfnBwdOutRefIdeal.τ).loc Cert.FfnBwdOutRefIdeal.main_arg5))
      ∧ r.2.sem = fun _ => 0)

def quiescent_FfnBwdOutRefIdeal_pre_finite6 [hFfnBwdOutRefIdeal : Cert.FfnBwdOutRefIdeal.Facts] [hPre_finite6 : Cert.Pre_finite6.Facts] : Prop :=
  ∀ (m : (ℓ : Loc Cert.FfnBwdOutRefIdeal.nD Cert.FfnBwdOutRefIdeal.τ Cert.FfnBwdOutRefIdeal.sig) → Buf (Elt Ideal) ℓ) (g : Dev Cert.FfnBwdOutRefIdeal.nD → PrngReg), Pre_FfnBwdOutRefIdeal_finite6 m →
    θ_run (Cert.FfnBwdOutRefIdeal.defs (F := Ideal)) (onTc (τ := Cert.FfnBwdOutRefIdeal.τ) (Cert.FfnBwdOutRefIdeal.main (F := Ideal))) ⟨m, fun _ => 0, g⟩ (fun r => (∀ c : Dev Cert.FfnBwdOutRefIdeal.nD,
      r.2.mem ((c.tc : Thread Cert.FfnBwdOutRefIdeal.nD Cert.FfnBwdOutRefIdeal.τ).loc Cert.FfnBwdOutRefIdeal.main_arg0) = m ((c.tc : Thread Cert.FfnBwdOutRefIdeal.nD Cert.FfnBwdOutRefIdeal.τ).loc Cert.FfnBwdOutRefIdeal.main_arg0)
      ∧ r.2.mem ((c.tc : Thread Cert.FfnBwdOutRefIdeal.nD Cert.FfnBwdOutRefIdeal.τ).loc Cert.FfnBwdOutRefIdeal.main_arg1) = m ((c.tc : Thread Cert.FfnBwdOutRefIdeal.nD Cert.FfnBwdOutRefIdeal.τ).loc Cert.FfnBwdOutRefIdeal.main_arg1)
      ∧ r.2.mem ((c.tc : Thread Cert.FfnBwdOutRefIdeal.nD Cert.FfnBwdOutRefIdeal.τ).loc Cert.FfnBwdOutRefIdeal.main_arg2) = m ((c.tc : Thread Cert.FfnBwdOutRefIdeal.nD Cert.FfnBwdOutRefIdeal.τ).loc Cert.FfnBwdOutRefIdeal.main_arg2)
      ∧ r.2.mem ((c.tc : Thread Cert.FfnBwdOutRefIdeal.nD Cert.FfnBwdOutRefIdeal.τ).loc Cert.FfnBwdOutRefIdeal.main_arg3) = m ((c.tc : Thread Cert.FfnBwdOutRefIdeal.nD Cert.FfnBwdOutRefIdeal.τ).loc Cert.FfnBwdOutRefIdeal.main_arg3)
      ∧ r.2.mem ((c.tc : Thread Cert.FfnBwdOutRefIdeal.nD Cert.FfnBwdOutRefIdeal.τ).loc Cert.FfnBwdOutRefIdeal.main_arg4) = m ((c.tc : Thread Cert.FfnBwdOutRefIdeal.nD Cert.FfnBwdOutRefIdeal.τ).loc Cert.FfnBwdOutRefIdeal.main_arg4)
      ∧ r.2.mem ((c.tc : Thread Cert.FfnBwdOutRefIdeal.nD Cert.FfnBwdOutRefIdeal.τ).loc Cert.FfnBwdOutRefIdeal.main_arg5) = m ((c.tc : Thread Cert.FfnBwdOutRefIdeal.nD Cert.FfnBwdOutRefIdeal.τ).loc Cert.FfnBwdOutRefIdeal.main_arg5))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalIdeal_pre_finite8 [hFfnFinalIdeal : Cert.FfnFinalIdeal.Facts] [hPre_finite8 : Cert.Pre_finite8.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal_finite8 m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_FfnFinalRefIdeal_pre_finite8 [hFfnFinalRefIdeal : Cert.FfnFinalRefIdeal.Facts] [hPre_finite8 : Cert.Pre_finite8.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal_finite8 m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_AttnPreBwd [hAttnPreBwd : Cert.AttnPreBwd.Facts] : Prop :=
  ∀ (m : (ℓ : Loc Cert.AttnPreBwd.nD Cert.AttnPreBwd.τ Cert.AttnPreBwd.sig) → Buf (Elt Bits) ℓ) (g : Dev Cert.AttnPreBwd.nD → PrngReg), Pre_AttnPreBwd m →
    θ_run (Cert.AttnPreBwd.defs (F := Bits)) (onTc (τ := Cert.AttnPreBwd.τ) (Cert.AttnPreBwd.main (F := Bits))) ⟨m, fun _ => 0, g⟩ (fun r => (∀ c : Dev Cert.AttnPreBwd.nD,
      r.2.mem ((c.tc : Thread Cert.AttnPreBwd.nD Cert.AttnPreBwd.τ).loc Cert.AttnPreBwd.main_arg0) = m ((c.tc : Thread Cert.AttnPreBwd.nD Cert.AttnPreBwd.τ).loc Cert.AttnPreBwd.main_arg0)
      ∧ r.2.mem ((c.tc : Thread Cert.AttnPreBwd.nD Cert.AttnPreBwd.τ).loc Cert.AttnPreBwd.main_arg1) = m ((c.tc : Thread Cert.AttnPreBwd.nD Cert.AttnPreBwd.τ).loc Cert.AttnPreBwd.main_arg1)
      ∧ r.2.mem ((c.tc : Thread Cert.AttnPreBwd.nD Cert.AttnPreBwd.τ).loc Cert.AttnPreBwd.main_arg2) = m ((c.tc : Thread Cert.AttnPreBwd.nD Cert.AttnPreBwd.τ).loc Cert.AttnPreBwd.main_arg2)
      ∧ r.2.mem ((c.tc : Thread Cert.AttnPreBwd.nD Cert.AttnPreBwd.τ).loc Cert.AttnPreBwd.main_arg3) = m ((c.tc : Thread Cert.AttnPreBwd.nD Cert.AttnPreBwd.τ).loc Cert.AttnPreBwd.main_arg3)
      ∧ r.2.mem ((c.tc : Thread Cert.AttnPreBwd.nD Cert.AttnPreBwd.τ).loc Cert.AttnPreBwd.main_arg4) = m ((c.tc : Thread Cert.AttnPreBwd.nD Cert.AttnPreBwd.τ).loc Cert.AttnPreBwd.main_arg4)
      ∧ r.2.mem ((c.tc : Thread Cert.AttnPreBwd.nD Cert.AttnPreBwd.τ).loc Cert.AttnPreBwd.main_arg5) = m ((c.tc : Thread Cert.AttnPreBwd.nD Cert.AttnPreBwd.τ).loc Cert.AttnPreBwd.main_arg5)
      ∧ r.2.mem ((c.tc : Thread Cert.AttnPreBwd.nD Cert.AttnPreBwd.τ).loc Cert.AttnPreBwd.main_arg6) = m ((c.tc : Thread Cert.AttnPreBwd.nD Cert.AttnPreBwd.τ).loc Cert.AttnPreBwd.main_arg6))
      ∧ r.2.sem = fun _ => 0)

def quiescent_AttnPreBwdIdeal [hAttnPreBwdIdeal : Cert.AttnPreBwdIdeal.Facts] : Prop :=
  ∀ (m : (ℓ : Loc Cert.AttnPreBwdIdeal.nD Cert.AttnPreBwdIdeal.τ Cert.AttnPreBwdIdeal.sig) → Buf (Elt Ideal) ℓ) (g : Dev Cert.AttnPreBwdIdeal.nD → PrngReg), Pre_AttnPreBwdIdeal m →
    θ_run (Cert.AttnPreBwdIdeal.defs (F := Ideal)) (onTc (τ := Cert.AttnPreBwdIdeal.τ) (Cert.AttnPreBwdIdeal.main (F := Ideal))) ⟨m, fun _ => 0, g⟩ (fun r => (∀ c : Dev Cert.AttnPreBwdIdeal.nD,
      r.2.mem ((c.tc : Thread Cert.AttnPreBwdIdeal.nD Cert.AttnPreBwdIdeal.τ).loc Cert.AttnPreBwdIdeal.main_arg0) = m ((c.tc : Thread Cert.AttnPreBwdIdeal.nD Cert.AttnPreBwdIdeal.τ).loc Cert.AttnPreBwdIdeal.main_arg0)
      ∧ r.2.mem ((c.tc : Thread Cert.AttnPreBwdIdeal.nD Cert.AttnPreBwdIdeal.τ).loc Cert.AttnPreBwdIdeal.main_arg1) = m ((c.tc : Thread Cert.AttnPreBwdIdeal.nD Cert.AttnPreBwdIdeal.τ).loc Cert.AttnPreBwdIdeal.main_arg1)
      ∧ r.2.mem ((c.tc : Thread Cert.AttnPreBwdIdeal.nD Cert.AttnPreBwdIdeal.τ).loc Cert.AttnPreBwdIdeal.main_arg2) = m ((c.tc : Thread Cert.AttnPreBwdIdeal.nD Cert.AttnPreBwdIdeal.τ).loc Cert.AttnPreBwdIdeal.main_arg2)
      ∧ r.2.mem ((c.tc : Thread Cert.AttnPreBwdIdeal.nD Cert.AttnPreBwdIdeal.τ).loc Cert.AttnPreBwdIdeal.main_arg3) = m ((c.tc : Thread Cert.AttnPreBwdIdeal.nD Cert.AttnPreBwdIdeal.τ).loc Cert.AttnPreBwdIdeal.main_arg3)
      ∧ r.2.mem ((c.tc : Thread Cert.AttnPreBwdIdeal.nD Cert.AttnPreBwdIdeal.τ).loc Cert.AttnPreBwdIdeal.main_arg4) = m ((c.tc : Thread Cert.AttnPreBwdIdeal.nD Cert.AttnPreBwdIdeal.τ).loc Cert.AttnPreBwdIdeal.main_arg4)
      ∧ r.2.mem ((c.tc : Thread Cert.AttnPreBwdIdeal.nD Cert.AttnPreBwdIdeal.τ).loc Cert.AttnPreBwdIdeal.main_arg5) = m ((c.tc : Thread Cert.AttnPreBwdIdeal.nD Cert.AttnPreBwdIdeal.τ).loc Cert.AttnPreBwdIdeal.main_arg5)
      ∧ r.2.mem ((c.tc : Thread Cert.AttnPreBwdIdeal.nD Cert.AttnPreBwdIdeal.τ).loc Cert.AttnPreBwdIdeal.main_arg6) = m ((c.tc : Thread Cert.AttnPreBwdIdeal.nD Cert.AttnPreBwdIdeal.τ).loc Cert.AttnPreBwdIdeal.main_arg6))
      ∧ r.2.sem = fun _ => 0)

def quiescent_AttnPreBwdIdeal_pre_finite7 [hAttnPreBwdIdeal : Cert.AttnPreBwdIdeal.Facts] [hPre_finite7 : Cert.Pre_finite7.Facts] : Prop :=
  ∀ (m : (ℓ : Loc Cert.AttnPreBwdIdeal.nD Cert.AttnPreBwdIdeal.τ Cert.AttnPreBwdIdeal.sig) → Buf (Elt Ideal) ℓ) (g : Dev Cert.AttnPreBwdIdeal.nD → PrngReg), Pre_AttnPreBwdIdeal_finite7 m →
    θ_run (Cert.AttnPreBwdIdeal.defs (F := Ideal)) (onTc (τ := Cert.AttnPreBwdIdeal.τ) (Cert.AttnPreBwdIdeal.main (F := Ideal))) ⟨m, fun _ => 0, g⟩ (fun r => (∀ c : Dev Cert.AttnPreBwdIdeal.nD,
      r.2.mem ((c.tc : Thread Cert.AttnPreBwdIdeal.nD Cert.AttnPreBwdIdeal.τ).loc Cert.AttnPreBwdIdeal.main_arg0) = m ((c.tc : Thread Cert.AttnPreBwdIdeal.nD Cert.AttnPreBwdIdeal.τ).loc Cert.AttnPreBwdIdeal.main_arg0)
      ∧ r.2.mem ((c.tc : Thread Cert.AttnPreBwdIdeal.nD Cert.AttnPreBwdIdeal.τ).loc Cert.AttnPreBwdIdeal.main_arg1) = m ((c.tc : Thread Cert.AttnPreBwdIdeal.nD Cert.AttnPreBwdIdeal.τ).loc Cert.AttnPreBwdIdeal.main_arg1)
      ∧ r.2.mem ((c.tc : Thread Cert.AttnPreBwdIdeal.nD Cert.AttnPreBwdIdeal.τ).loc Cert.AttnPreBwdIdeal.main_arg2) = m ((c.tc : Thread Cert.AttnPreBwdIdeal.nD Cert.AttnPreBwdIdeal.τ).loc Cert.AttnPreBwdIdeal.main_arg2)
      ∧ r.2.mem ((c.tc : Thread Cert.AttnPreBwdIdeal.nD Cert.AttnPreBwdIdeal.τ).loc Cert.AttnPreBwdIdeal.main_arg3) = m ((c.tc : Thread Cert.AttnPreBwdIdeal.nD Cert.AttnPreBwdIdeal.τ).loc Cert.AttnPreBwdIdeal.main_arg3)
      ∧ r.2.mem ((c.tc : Thread Cert.AttnPreBwdIdeal.nD Cert.AttnPreBwdIdeal.τ).loc Cert.AttnPreBwdIdeal.main_arg4) = m ((c.tc : Thread Cert.AttnPreBwdIdeal.nD Cert.AttnPreBwdIdeal.τ).loc Cert.AttnPreBwdIdeal.main_arg4)
      ∧ r.2.mem ((c.tc : Thread Cert.AttnPreBwdIdeal.nD Cert.AttnPreBwdIdeal.τ).loc Cert.AttnPreBwdIdeal.main_arg5) = m ((c.tc : Thread Cert.AttnPreBwdIdeal.nD Cert.AttnPreBwdIdeal.τ).loc Cert.AttnPreBwdIdeal.main_arg5)
      ∧ r.2.mem ((c.tc : Thread Cert.AttnPreBwdIdeal.nD Cert.AttnPreBwdIdeal.τ).loc Cert.AttnPreBwdIdeal.main_arg6) = m ((c.tc : Thread Cert.AttnPreBwdIdeal.nD Cert.AttnPreBwdIdeal.τ).loc Cert.AttnPreBwdIdeal.main_arg6))
      ∧ r.2.sem = fun _ => 0)

def quiescent_AttnPreBwdRefIdeal [hAttnPreBwdRefIdeal : Cert.AttnPreBwdRefIdeal.Facts] : Prop :=
  ∀ (m : (ℓ : Loc Cert.AttnPreBwdRefIdeal.nD Cert.AttnPreBwdRefIdeal.τ Cert.AttnPreBwdRefIdeal.sig) → Buf (Elt Ideal) ℓ) (g : Dev Cert.AttnPreBwdRefIdeal.nD → PrngReg), Pre_AttnPreBwdRefIdeal m →
    θ_run (Cert.AttnPreBwdRefIdeal.defs (F := Ideal)) (onTc (τ := Cert.AttnPreBwdRefIdeal.τ) (Cert.AttnPreBwdRefIdeal.main (F := Ideal))) ⟨m, fun _ => 0, g⟩ (fun r => (∀ c : Dev Cert.AttnPreBwdRefIdeal.nD,
      r.2.mem ((c.tc : Thread Cert.AttnPreBwdRefIdeal.nD Cert.AttnPreBwdRefIdeal.τ).loc Cert.AttnPreBwdRefIdeal.main_arg0) = m ((c.tc : Thread Cert.AttnPreBwdRefIdeal.nD Cert.AttnPreBwdRefIdeal.τ).loc Cert.AttnPreBwdRefIdeal.main_arg0)
      ∧ r.2.mem ((c.tc : Thread Cert.AttnPreBwdRefIdeal.nD Cert.AttnPreBwdRefIdeal.τ).loc Cert.AttnPreBwdRefIdeal.main_arg1) = m ((c.tc : Thread Cert.AttnPreBwdRefIdeal.nD Cert.AttnPreBwdRefIdeal.τ).loc Cert.AttnPreBwdRefIdeal.main_arg1)
      ∧ r.2.mem ((c.tc : Thread Cert.AttnPreBwdRefIdeal.nD Cert.AttnPreBwdRefIdeal.τ).loc Cert.AttnPreBwdRefIdeal.main_arg2) = m ((c.tc : Thread Cert.AttnPreBwdRefIdeal.nD Cert.AttnPreBwdRefIdeal.τ).loc Cert.AttnPreBwdRefIdeal.main_arg2)
      ∧ r.2.mem ((c.tc : Thread Cert.AttnPreBwdRefIdeal.nD Cert.AttnPreBwdRefIdeal.τ).loc Cert.AttnPreBwdRefIdeal.main_arg3) = m ((c.tc : Thread Cert.AttnPreBwdRefIdeal.nD Cert.AttnPreBwdRefIdeal.τ).loc Cert.AttnPreBwdRefIdeal.main_arg3)
      ∧ r.2.mem ((c.tc : Thread Cert.AttnPreBwdRefIdeal.nD Cert.AttnPreBwdRefIdeal.τ).loc Cert.AttnPreBwdRefIdeal.main_arg4) = m ((c.tc : Thread Cert.AttnPreBwdRefIdeal.nD Cert.AttnPreBwdRefIdeal.τ).loc Cert.AttnPreBwdRefIdeal.main_arg4)
      ∧ r.2.mem ((c.tc : Thread Cert.AttnPreBwdRefIdeal.nD Cert.AttnPreBwdRefIdeal.τ).loc Cert.AttnPreBwdRefIdeal.main_arg5) = m ((c.tc : Thread Cert.AttnPreBwdRefIdeal.nD Cert.AttnPreBwdRefIdeal.τ).loc Cert.AttnPreBwdRefIdeal.main_arg5)
      ∧ r.2.mem ((c.tc : Thread Cert.AttnPreBwdRefIdeal.nD Cert.AttnPreBwdRefIdeal.τ).loc Cert.AttnPreBwdRefIdeal.main_arg6) = m ((c.tc : Thread Cert.AttnPreBwdRefIdeal.nD Cert.AttnPreBwdRefIdeal.τ).loc Cert.AttnPreBwdRefIdeal.main_arg6))
      ∧ r.2.sem = fun _ => 0)

def quiescent_AttnPreBwdRefIdeal_pre_finite7 [hAttnPreBwdRefIdeal : Cert.AttnPreBwdRefIdeal.Facts] [hPre_finite7 : Cert.Pre_finite7.Facts] : Prop :=
  ∀ (m : (ℓ : Loc Cert.AttnPreBwdRefIdeal.nD Cert.AttnPreBwdRefIdeal.τ Cert.AttnPreBwdRefIdeal.sig) → Buf (Elt Ideal) ℓ) (g : Dev Cert.AttnPreBwdRefIdeal.nD → PrngReg), Pre_AttnPreBwdRefIdeal_finite7 m →
    θ_run (Cert.AttnPreBwdRefIdeal.defs (F := Ideal)) (onTc (τ := Cert.AttnPreBwdRefIdeal.τ) (Cert.AttnPreBwdRefIdeal.main (F := Ideal))) ⟨m, fun _ => 0, g⟩ (fun r => (∀ c : Dev Cert.AttnPreBwdRefIdeal.nD,
      r.2.mem ((c.tc : Thread Cert.AttnPreBwdRefIdeal.nD Cert.AttnPreBwdRefIdeal.τ).loc Cert.AttnPreBwdRefIdeal.main_arg0) = m ((c.tc : Thread Cert.AttnPreBwdRefIdeal.nD Cert.AttnPreBwdRefIdeal.τ).loc Cert.AttnPreBwdRefIdeal.main_arg0)
      ∧ r.2.mem ((c.tc : Thread Cert.AttnPreBwdRefIdeal.nD Cert.AttnPreBwdRefIdeal.τ).loc Cert.AttnPreBwdRefIdeal.main_arg1) = m ((c.tc : Thread Cert.AttnPreBwdRefIdeal.nD Cert.AttnPreBwdRefIdeal.τ).loc Cert.AttnPreBwdRefIdeal.main_arg1)
      ∧ r.2.mem ((c.tc : Thread Cert.AttnPreBwdRefIdeal.nD Cert.AttnPreBwdRefIdeal.τ).loc Cert.AttnPreBwdRefIdeal.main_arg2) = m ((c.tc : Thread Cert.AttnPreBwdRefIdeal.nD Cert.AttnPreBwdRefIdeal.τ).loc Cert.AttnPreBwdRefIdeal.main_arg2)
      ∧ r.2.mem ((c.tc : Thread Cert.AttnPreBwdRefIdeal.nD Cert.AttnPreBwdRefIdeal.τ).loc Cert.AttnPreBwdRefIdeal.main_arg3) = m ((c.tc : Thread Cert.AttnPreBwdRefIdeal.nD Cert.AttnPreBwdRefIdeal.τ).loc Cert.AttnPreBwdRefIdeal.main_arg3)
      ∧ r.2.mem ((c.tc : Thread Cert.AttnPreBwdRefIdeal.nD Cert.AttnPreBwdRefIdeal.τ).loc Cert.AttnPreBwdRefIdeal.main_arg4) = m ((c.tc : Thread Cert.AttnPreBwdRefIdeal.nD Cert.AttnPreBwdRefIdeal.τ).loc Cert.AttnPreBwdRefIdeal.main_arg4)
      ∧ r.2.mem ((c.tc : Thread Cert.AttnPreBwdRefIdeal.nD Cert.AttnPreBwdRefIdeal.τ).loc Cert.AttnPreBwdRefIdeal.main_arg5) = m ((c.tc : Thread Cert.AttnPreBwdRefIdeal.nD Cert.AttnPreBwdRefIdeal.τ).loc Cert.AttnPreBwdRefIdeal.main_arg5)
      ∧ r.2.mem ((c.tc : Thread Cert.AttnPreBwdRefIdeal.nD Cert.AttnPreBwdRefIdeal.τ).loc Cert.AttnPreBwdRefIdeal.main_arg6) = m ((c.tc : Thread Cert.AttnPreBwdRefIdeal.nD Cert.AttnPreBwdRefIdeal.τ).loc Cert.AttnPreBwdRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_finite5 [hAttnBwdIdeal : Cert.AttnBwdIdeal.Facts] [hPre_finite5 : Cert.Pre_finite5.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite5 m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_finite5 [hAttnBwdRefIdeal : Cert.AttnBwdRefIdeal.Facts] [hPre_finite5 : Cert.Pre_finite5.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite5 m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite9 [hAttnFwdIdeal : Cert.AttnFwdIdeal.Facts] [hPre_finite9 : Cert.Pre_finite9.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite9 m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite9 [hAttnFwdRefIdeal : Cert.AttnFwdRefIdeal.Facts] [hPre_finite9 : Cert.Pre_finite9.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite9 m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_ConvPre [hConvPre : Cert.ConvPre.Facts] : Prop :=
  ∀ (m : (ℓ : Loc Cert.ConvPre.nD Cert.ConvPre.τ Cert.ConvPre.sig) → Buf (Elt Bits) ℓ) (g : Dev Cert.ConvPre.nD → PrngReg), Pre_ConvPre m →
    θ_run (Cert.ConvPre.defs (F := Bits)) (onTc (τ := Cert.ConvPre.τ) (Cert.ConvPre.main (F := Bits))) ⟨m, fun _ => 0, g⟩ (fun r => (∀ c : Dev Cert.ConvPre.nD,
      r.2.mem ((c.tc : Thread Cert.ConvPre.nD Cert.ConvPre.τ).loc Cert.ConvPre.main_arg0) = m ((c.tc : Thread Cert.ConvPre.nD Cert.ConvPre.τ).loc Cert.ConvPre.main_arg0)
      ∧ r.2.mem ((c.tc : Thread Cert.ConvPre.nD Cert.ConvPre.τ).loc Cert.ConvPre.main_arg1) = m ((c.tc : Thread Cert.ConvPre.nD Cert.ConvPre.τ).loc Cert.ConvPre.main_arg1)
      ∧ r.2.mem ((c.tc : Thread Cert.ConvPre.nD Cert.ConvPre.τ).loc Cert.ConvPre.main_arg2) = m ((c.tc : Thread Cert.ConvPre.nD Cert.ConvPre.τ).loc Cert.ConvPre.main_arg2)
      ∧ r.2.mem ((c.tc : Thread Cert.ConvPre.nD Cert.ConvPre.τ).loc Cert.ConvPre.main_arg3) = m ((c.tc : Thread Cert.ConvPre.nD Cert.ConvPre.τ).loc Cert.ConvPre.main_arg3))
      ∧ r.2.sem = fun _ => 0)

def quiescent_ConvPreIdeal [hConvPreIdeal : Cert.ConvPreIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg), Pre_ConvPreIdeal m →
    θ_run (Cert.ConvPreIdeal.defs (F := Ideal)) (onTc (τ := Cert.ConvPreIdeal.τ) (Cert.ConvPreIdeal.main (F := Ideal))) ⟨m, fun _ => 0, g⟩ (fun r => (∀ c : Dev Cert.ConvPreIdeal.nD,
      r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
      ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
      ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
      ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3))
      ∧ r.2.sem = fun _ => 0)

def quiescent_ConvPreRefIdeal [hConvPreRefIdeal : Cert.ConvPreRefIdeal.Facts] : Prop :=
  ∀ (m : (ℓ : Loc Cert.ConvPreRefIdeal.nD Cert.ConvPreRefIdeal.τ Cert.ConvPreRefIdeal.sig) → Buf (Elt Ideal) ℓ) (g : Dev Cert.ConvPreRefIdeal.nD → PrngReg), Pre_ConvPreRefIdeal m →
    θ_run (Cert.ConvPreRefIdeal.defs (F := Ideal)) (onTc (τ := Cert.ConvPreRefIdeal.τ) (Cert.ConvPreRefIdeal.main (F := Ideal))) ⟨m, fun _ => 0, g⟩ (fun r => (∀ c : Dev Cert.ConvPreRefIdeal.nD,
      r.2.mem ((c.tc : Thread Cert.ConvPreRefIdeal.nD Cert.ConvPreRefIdeal.τ).loc Cert.ConvPreRefIdeal.main_arg0) = m ((c.tc : Thread Cert.ConvPreRefIdeal.nD Cert.ConvPreRefIdeal.τ).loc Cert.ConvPreRefIdeal.main_arg0)
      ∧ r.2.mem ((c.tc : Thread Cert.ConvPreRefIdeal.nD Cert.ConvPreRefIdeal.τ).loc Cert.ConvPreRefIdeal.main_arg1) = m ((c.tc : Thread Cert.ConvPreRefIdeal.nD Cert.ConvPreRefIdeal.τ).loc Cert.ConvPreRefIdeal.main_arg1)
      ∧ r.2.mem ((c.tc : Thread Cert.ConvPreRefIdeal.nD Cert.ConvPreRefIdeal.τ).loc Cert.ConvPreRefIdeal.main_arg2) = m ((c.tc : Thread Cert.ConvPreRefIdeal.nD Cert.ConvPreRefIdeal.τ).loc Cert.ConvPreRefIdeal.main_arg2)
      ∧ r.2.mem ((c.tc : Thread Cert.ConvPreRefIdeal.nD Cert.ConvPreRefIdeal.τ).loc Cert.ConvPreRefIdeal.main_arg3) = m ((c.tc : Thread Cert.ConvPreRefIdeal.nD Cert.ConvPreRefIdeal.τ).loc Cert.ConvPreRefIdeal.main_arg3))
      ∧ r.2.sem = fun _ => 0)

def quiescent_ConvPost [hConvPost : Cert.ConvPost.Facts] : Prop :=
  ∀ (m : (ℓ : Loc Cert.ConvPost.nD Cert.ConvPost.τ Cert.ConvPost.sig) → Buf (Elt Bits) ℓ) (g : Dev Cert.ConvPost.nD → PrngReg), Pre_ConvPost m →
    θ_run (Cert.ConvPost.defs (F := Bits)) (onTc (τ := Cert.ConvPost.τ) (Cert.ConvPost.main (F := Bits))) ⟨m, fun _ => 0, g⟩ (fun r => (∀ c : Dev Cert.ConvPost.nD,
      r.2.mem ((c.tc : Thread Cert.ConvPost.nD Cert.ConvPost.τ).loc Cert.ConvPost.main_arg0) = m ((c.tc : Thread Cert.ConvPost.nD Cert.ConvPost.τ).loc Cert.ConvPost.main_arg0)
      ∧ r.2.mem ((c.tc : Thread Cert.ConvPost.nD Cert.ConvPost.τ).loc Cert.ConvPost.main_arg1) = m ((c.tc : Thread Cert.ConvPost.nD Cert.ConvPost.τ).loc Cert.ConvPost.main_arg1)
      ∧ r.2.mem ((c.tc : Thread Cert.ConvPost.nD Cert.ConvPost.τ).loc Cert.ConvPost.main_arg2) = m ((c.tc : Thread Cert.ConvPost.nD Cert.ConvPost.τ).loc Cert.ConvPost.main_arg2)
      ∧ r.2.mem ((c.tc : Thread Cert.ConvPost.nD Cert.ConvPost.τ).loc Cert.ConvPost.main_arg3) = m ((c.tc : Thread Cert.ConvPost.nD Cert.ConvPost.τ).loc Cert.ConvPost.main_arg3)
      ∧ r.2.mem ((c.tc : Thread Cert.ConvPost.nD Cert.ConvPost.τ).loc Cert.ConvPost.main_arg4) = m ((c.tc : Thread Cert.ConvPost.nD Cert.ConvPost.τ).loc Cert.ConvPost.main_arg4)
      ∧ r.2.mem ((c.tc : Thread Cert.ConvPost.nD Cert.ConvPost.τ).loc Cert.ConvPost.main_arg5) = m ((c.tc : Thread Cert.ConvPost.nD Cert.ConvPost.τ).loc Cert.ConvPost.main_arg5)
      ∧ r.2.mem ((c.tc : Thread Cert.ConvPost.nD Cert.ConvPost.τ).loc Cert.ConvPost.main_arg6) = m ((c.tc : Thread Cert.ConvPost.nD Cert.ConvPost.τ).loc Cert.ConvPost.main_arg6))
      ∧ r.2.sem = fun _ => 0)

def quiescent_ConvPostIdeal [hConvPostIdeal : Cert.ConvPostIdeal.Facts] : Prop :=
  ∀ (m : (ℓ : Loc Cert.ConvPostIdeal.nD Cert.ConvPostIdeal.τ Cert.ConvPostIdeal.sig) → Buf (Elt Ideal) ℓ) (g : Dev Cert.ConvPostIdeal.nD → PrngReg), Pre_ConvPostIdeal m →
    θ_run (Cert.ConvPostIdeal.defs (F := Ideal)) (onTc (τ := Cert.ConvPostIdeal.τ) (Cert.ConvPostIdeal.main (F := Ideal))) ⟨m, fun _ => 0, g⟩ (fun r => (∀ c : Dev Cert.ConvPostIdeal.nD,
      r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
      ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
      ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
      ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3)
      ∧ r.2.mem ((c.tc : Thread Cert.ConvPostIdeal.nD Cert.ConvPostIdeal.τ).loc Cert.ConvPostIdeal.main_arg4) = m ((c.tc : Thread Cert.ConvPostIdeal.nD Cert.ConvPostIdeal.τ).loc Cert.ConvPostIdeal.main_arg4)
      ∧ r.2.mem ((c.tc : Thread Cert.ConvPostIdeal.nD Cert.ConvPostIdeal.τ).loc Cert.ConvPostIdeal.main_arg5) = m ((c.tc : Thread Cert.ConvPostIdeal.nD Cert.ConvPostIdeal.τ).loc Cert.ConvPostIdeal.main_arg5)
      ∧ r.2.mem ((c.tc : Thread Cert.ConvPostIdeal.nD Cert.ConvPostIdeal.τ).loc Cert.ConvPostIdeal.main_arg6) = m ((c.tc : Thread Cert.ConvPostIdeal.nD Cert.ConvPostIdeal.τ).loc Cert.ConvPostIdeal.main_arg6))
      ∧ r.2.sem = fun _ => 0)

def quiescent_ConvPostRefIdeal [hConvPostRefIdeal : Cert.ConvPostRefIdeal.Facts] : Prop :=
  ∀ (m : (ℓ : Loc Cert.ConvPostRefIdeal.nD Cert.ConvPostRefIdeal.τ Cert.ConvPostRefIdeal.sig) → Buf (Elt Ideal) ℓ) (g : Dev Cert.ConvPostRefIdeal.nD → PrngReg), Pre_ConvPostRefIdeal m →
    θ_run (Cert.ConvPostRefIdeal.defs (F := Ideal)) (onTc (τ := Cert.ConvPostRefIdeal.τ) (Cert.ConvPostRefIdeal.main (F := Ideal))) ⟨m, fun _ => 0, g⟩ (fun r => (∀ c : Dev Cert.ConvPostRefIdeal.nD,
      r.2.mem ((c.tc : Thread Cert.ConvPostRefIdeal.nD Cert.ConvPostRefIdeal.τ).loc Cert.ConvPostRefIdeal.main_arg0) = m ((c.tc : Thread Cert.ConvPostRefIdeal.nD Cert.ConvPostRefIdeal.τ).loc Cert.ConvPostRefIdeal.main_arg0)
      ∧ r.2.mem ((c.tc : Thread Cert.ConvPostRefIdeal.nD Cert.ConvPostRefIdeal.τ).loc Cert.ConvPostRefIdeal.main_arg1) = m ((c.tc : Thread Cert.ConvPostRefIdeal.nD Cert.ConvPostRefIdeal.τ).loc Cert.ConvPostRefIdeal.main_arg1)
      ∧ r.2.mem ((c.tc : Thread Cert.ConvPostRefIdeal.nD Cert.ConvPostRefIdeal.τ).loc Cert.ConvPostRefIdeal.main_arg2) = m ((c.tc : Thread Cert.ConvPostRefIdeal.nD Cert.ConvPostRefIdeal.τ).loc Cert.ConvPostRefIdeal.main_arg2)
      ∧ r.2.mem ((c.tc : Thread Cert.ConvPostRefIdeal.nD Cert.ConvPostRefIdeal.τ).loc Cert.ConvPostRefIdeal.main_arg3) = m ((c.tc : Thread Cert.ConvPostRefIdeal.nD Cert.ConvPostRefIdeal.τ).loc Cert.ConvPostRefIdeal.main_arg3)
      ∧ r.2.mem ((c.tc : Thread Cert.ConvPostRefIdeal.nD Cert.ConvPostRefIdeal.τ).loc Cert.ConvPostRefIdeal.main_arg4) = m ((c.tc : Thread Cert.ConvPostRefIdeal.nD Cert.ConvPostRefIdeal.τ).loc Cert.ConvPostRefIdeal.main_arg4)
      ∧ r.2.mem ((c.tc : Thread Cert.ConvPostRefIdeal.nD Cert.ConvPostRefIdeal.τ).loc Cert.ConvPostRefIdeal.main_arg5) = m ((c.tc : Thread Cert.ConvPostRefIdeal.nD Cert.ConvPostRefIdeal.τ).loc Cert.ConvPostRefIdeal.main_arg5)
      ∧ r.2.mem ((c.tc : Thread Cert.ConvPostRefIdeal.nD Cert.ConvPostRefIdeal.τ).loc Cert.ConvPostRefIdeal.main_arg6) = m ((c.tc : Thread Cert.ConvPostRefIdeal.nD Cert.ConvPostRefIdeal.τ).loc Cert.ConvPostRefIdeal.main_arg6))
      ∧ r.2.sem = fun _ => 0)

def quiescent_FfnFwdAttn [hFfnFwdAttn : Cert.FfnFwdAttn.Facts] : Prop :=
  ∀ (m : (ℓ : Loc Cert.FfnFwdAttn.nD Cert.FfnFwdAttn.τ Cert.FfnFwdAttn.sig) → Buf (Elt Bits) ℓ) (g : Dev Cert.FfnFwdAttn.nD → PrngReg), Pre_FfnFwdAttn m →
    θ_run (Cert.FfnFwdAttn.defs (F := Bits)) (onTc (τ := Cert.FfnFwdAttn.τ) (Cert.FfnFwdAttn.main (F := Bits))) ⟨m, fun _ => 0, g⟩ (fun r => (∀ c : Dev Cert.FfnFwdAttn.nD,
      r.2.mem ((c.tc : Thread Cert.FfnFwdAttn.nD Cert.FfnFwdAttn.τ).loc Cert.FfnFwdAttn.main_arg0) = m ((c.tc : Thread Cert.FfnFwdAttn.nD Cert.FfnFwdAttn.τ).loc Cert.FfnFwdAttn.main_arg0)
      ∧ r.2.mem ((c.tc : Thread Cert.FfnFwdAttn.nD Cert.FfnFwdAttn.τ).loc Cert.FfnFwdAttn.main_arg1) = m ((c.tc : Thread Cert.FfnFwdAttn.nD Cert.FfnFwdAttn.τ).loc Cert.FfnFwdAttn.main_arg1)
      ∧ r.2.mem ((c.tc : Thread Cert.FfnFwdAttn.nD Cert.FfnFwdAttn.τ).loc Cert.FfnFwdAttn.main_arg2) = m ((c.tc : Thread Cert.FfnFwdAttn.nD Cert.FfnFwdAttn.τ).loc Cert.FfnFwdAttn.main_arg2)
      ∧ r.2.mem ((c.tc : Thread Cert.FfnFwdAttn.nD Cert.FfnFwdAttn.τ).loc Cert.FfnFwdAttn.main_arg3) = m ((c.tc : Thread Cert.FfnFwdAttn.nD Cert.FfnFwdAttn.τ).loc Cert.FfnFwdAttn.main_arg3)
      ∧ r.2.mem ((c.tc : Thread Cert.FfnFwdAttn.nD Cert.FfnFwdAttn.τ).loc Cert.FfnFwdAttn.main_arg4) = m ((c.tc : Thread Cert.FfnFwdAttn.nD Cert.FfnFwdAttn.τ).loc Cert.FfnFwdAttn.main_arg4)
      ∧ r.2.mem ((c.tc : Thread Cert.FfnFwdAttn.nD Cert.FfnFwdAttn.τ).loc Cert.FfnFwdAttn.main_arg5) = m ((c.tc : Thread Cert.FfnFwdAttn.nD Cert.FfnFwdAttn.τ).loc Cert.FfnFwdAttn.main_arg5))
      ∧ r.2.sem = fun _ => 0)

def quiescent_FfnFwdAttnIdeal [hFfnFwdAttnIdeal : Cert.FfnFwdAttnIdeal.Facts] : Prop :=
  ∀ (m : (ℓ : Loc Cert.FfnFwdAttnIdeal.nD Cert.FfnFwdAttnIdeal.τ Cert.FfnFwdAttnIdeal.sig) → Buf (Elt Ideal) ℓ) (g : Dev Cert.FfnFwdAttnIdeal.nD → PrngReg), Pre_FfnFwdAttnIdeal m →
    θ_run (Cert.FfnFwdAttnIdeal.defs (F := Ideal)) (onTc (τ := Cert.FfnFwdAttnIdeal.τ) (Cert.FfnFwdAttnIdeal.main (F := Ideal))) ⟨m, fun _ => 0, g⟩ (fun r => (∀ c : Dev Cert.FfnFwdAttnIdeal.nD,
      r.2.mem ((c.tc : Thread Cert.FfnFwdAttnIdeal.nD Cert.FfnFwdAttnIdeal.τ).loc Cert.FfnFwdAttnIdeal.main_arg0) = m ((c.tc : Thread Cert.FfnFwdAttnIdeal.nD Cert.FfnFwdAttnIdeal.τ).loc Cert.FfnFwdAttnIdeal.main_arg0)
      ∧ r.2.mem ((c.tc : Thread Cert.FfnFwdAttnIdeal.nD Cert.FfnFwdAttnIdeal.τ).loc Cert.FfnFwdAttnIdeal.main_arg1) = m ((c.tc : Thread Cert.FfnFwdAttnIdeal.nD Cert.FfnFwdAttnIdeal.τ).loc Cert.FfnFwdAttnIdeal.main_arg1)
      ∧ r.2.mem ((c.tc : Thread Cert.FfnFwdAttnIdeal.nD Cert.FfnFwdAttnIdeal.τ).loc Cert.FfnFwdAttnIdeal.main_arg2) = m ((c.tc : Thread Cert.FfnFwdAttnIdeal.nD Cert.FfnFwdAttnIdeal.τ).loc Cert.FfnFwdAttnIdeal.main_arg2)
      ∧ r.2.mem ((c.tc : Thread Cert.FfnFwdAttnIdeal.nD Cert.FfnFwdAttnIdeal.τ).loc Cert.FfnFwdAttnIdeal.main_arg3) = m ((c.tc : Thread Cert.FfnFwdAttnIdeal.nD Cert.FfnFwdAttnIdeal.τ).loc Cert.FfnFwdAttnIdeal.main_arg3)
      ∧ r.2.mem ((c.tc : Thread Cert.FfnFwdAttnIdeal.nD Cert.FfnFwdAttnIdeal.τ).loc Cert.FfnFwdAttnIdeal.main_arg4) = m ((c.tc : Thread Cert.FfnFwdAttnIdeal.nD Cert.FfnFwdAttnIdeal.τ).loc Cert.FfnFwdAttnIdeal.main_arg4)
      ∧ r.2.mem ((c.tc : Thread Cert.FfnFwdAttnIdeal.nD Cert.FfnFwdAttnIdeal.τ).loc Cert.FfnFwdAttnIdeal.main_arg5) = m ((c.tc : Thread Cert.FfnFwdAttnIdeal.nD Cert.FfnFwdAttnIdeal.τ).loc Cert.FfnFwdAttnIdeal.main_arg5))
      ∧ r.2.sem = fun _ => 0)

def quiescent_FfnFwdAttnIdeal_pre_finite11 [hFfnFwdAttnIdeal : Cert.FfnFwdAttnIdeal.Facts] [hPre_finite11 : Cert.Pre_finite11.Facts] : Prop :=
  ∀ (m : (ℓ : Loc Cert.FfnFwdAttnIdeal.nD Cert.FfnFwdAttnIdeal.τ Cert.FfnFwdAttnIdeal.sig) → Buf (Elt Ideal) ℓ) (g : Dev Cert.FfnFwdAttnIdeal.nD → PrngReg), Pre_FfnFwdAttnIdeal_finite11 m →
    θ_run (Cert.FfnFwdAttnIdeal.defs (F := Ideal)) (onTc (τ := Cert.FfnFwdAttnIdeal.τ) (Cert.FfnFwdAttnIdeal.main (F := Ideal))) ⟨m, fun _ => 0, g⟩ (fun r => (∀ c : Dev Cert.FfnFwdAttnIdeal.nD,
      r.2.mem ((c.tc : Thread Cert.FfnFwdAttnIdeal.nD Cert.FfnFwdAttnIdeal.τ).loc Cert.FfnFwdAttnIdeal.main_arg0) = m ((c.tc : Thread Cert.FfnFwdAttnIdeal.nD Cert.FfnFwdAttnIdeal.τ).loc Cert.FfnFwdAttnIdeal.main_arg0)
      ∧ r.2.mem ((c.tc : Thread Cert.FfnFwdAttnIdeal.nD Cert.FfnFwdAttnIdeal.τ).loc Cert.FfnFwdAttnIdeal.main_arg1) = m ((c.tc : Thread Cert.FfnFwdAttnIdeal.nD Cert.FfnFwdAttnIdeal.τ).loc Cert.FfnFwdAttnIdeal.main_arg1)
      ∧ r.2.mem ((c.tc : Thread Cert.FfnFwdAttnIdeal.nD Cert.FfnFwdAttnIdeal.τ).loc Cert.FfnFwdAttnIdeal.main_arg2) = m ((c.tc : Thread Cert.FfnFwdAttnIdeal.nD Cert.FfnFwdAttnIdeal.τ).loc Cert.FfnFwdAttnIdeal.main_arg2)
      ∧ r.2.mem ((c.tc : Thread Cert.FfnFwdAttnIdeal.nD Cert.FfnFwdAttnIdeal.τ).loc Cert.FfnFwdAttnIdeal.main_arg3) = m ((c.tc : Thread Cert.FfnFwdAttnIdeal.nD Cert.FfnFwdAttnIdeal.τ).loc Cert.FfnFwdAttnIdeal.main_arg3)
      ∧ r.2.mem ((c.tc : Thread Cert.FfnFwdAttnIdeal.nD Cert.FfnFwdAttnIdeal.τ).loc Cert.FfnFwdAttnIdeal.main_arg4) = m ((c.tc : Thread Cert.FfnFwdAttnIdeal.nD Cert.FfnFwdAttnIdeal.τ).loc Cert.FfnFwdAttnIdeal.main_arg4)
      ∧ r.2.mem ((c.tc : Thread Cert.FfnFwdAttnIdeal.nD Cert.FfnFwdAttnIdeal.τ).loc Cert.FfnFwdAttnIdeal.main_arg5) = m ((c.tc : Thread Cert.FfnFwdAttnIdeal.nD Cert.FfnFwdAttnIdeal.τ).loc Cert.FfnFwdAttnIdeal.main_arg5))
      ∧ r.2.sem = fun _ => 0)

def quiescent_FfnFwdAttnRefIdeal [hFfnFwdAttnRefIdeal : Cert.FfnFwdAttnRefIdeal.Facts] : Prop :=
  ∀ (m : (ℓ : Loc Cert.FfnFwdAttnRefIdeal.nD Cert.FfnFwdAttnRefIdeal.τ Cert.FfnFwdAttnRefIdeal.sig) → Buf (Elt Ideal) ℓ) (g : Dev Cert.FfnFwdAttnRefIdeal.nD → PrngReg), Pre_FfnFwdAttnRefIdeal m →
    θ_run (Cert.FfnFwdAttnRefIdeal.defs (F := Ideal)) (onTc (τ := Cert.FfnFwdAttnRefIdeal.τ) (Cert.FfnFwdAttnRefIdeal.main (F := Ideal))) ⟨m, fun _ => 0, g⟩ (fun r => (∀ c : Dev Cert.FfnFwdAttnRefIdeal.nD,
      r.2.mem ((c.tc : Thread Cert.FfnFwdAttnRefIdeal.nD Cert.FfnFwdAttnRefIdeal.τ).loc Cert.FfnFwdAttnRefIdeal.main_arg0) = m ((c.tc : Thread Cert.FfnFwdAttnRefIdeal.nD Cert.FfnFwdAttnRefIdeal.τ).loc Cert.FfnFwdAttnRefIdeal.main_arg0)
      ∧ r.2.mem ((c.tc : Thread Cert.FfnFwdAttnRefIdeal.nD Cert.FfnFwdAttnRefIdeal.τ).loc Cert.FfnFwdAttnRefIdeal.main_arg1) = m ((c.tc : Thread Cert.FfnFwdAttnRefIdeal.nD Cert.FfnFwdAttnRefIdeal.τ).loc Cert.FfnFwdAttnRefIdeal.main_arg1)
      ∧ r.2.mem ((c.tc : Thread Cert.FfnFwdAttnRefIdeal.nD Cert.FfnFwdAttnRefIdeal.τ).loc Cert.FfnFwdAttnRefIdeal.main_arg2) = m ((c.tc : Thread Cert.FfnFwdAttnRefIdeal.nD Cert.FfnFwdAttnRefIdeal.τ).loc Cert.FfnFwdAttnRefIdeal.main_arg2)
      ∧ r.2.mem ((c.tc : Thread Cert.FfnFwdAttnRefIdeal.nD Cert.FfnFwdAttnRefIdeal.τ).loc Cert.FfnFwdAttnRefIdeal.main_arg3) = m ((c.tc : Thread Cert.FfnFwdAttnRefIdeal.nD Cert.FfnFwdAttnRefIdeal.τ).loc Cert.FfnFwdAttnRefIdeal.main_arg3)
      ∧ r.2.mem ((c.tc : Thread Cert.FfnFwdAttnRefIdeal.nD Cert.FfnFwdAttnRefIdeal.τ).loc Cert.FfnFwdAttnRefIdeal.main_arg4) = m ((c.tc : Thread Cert.FfnFwdAttnRefIdeal.nD Cert.FfnFwdAttnRefIdeal.τ).loc Cert.FfnFwdAttnRefIdeal.main_arg4)
      ∧ r.2.mem ((c.tc : Thread Cert.FfnFwdAttnRefIdeal.nD Cert.FfnFwdAttnRefIdeal.τ).loc Cert.FfnFwdAttnRefIdeal.main_arg5) = m ((c.tc : Thread Cert.FfnFwdAttnRefIdeal.nD Cert.FfnFwdAttnRefIdeal.τ).loc Cert.FfnFwdAttnRefIdeal.main_arg5))
      ∧ r.2.sem = fun _ => 0)

def quiescent_FfnFwdAttnRefIdeal_pre_finite11 [hFfnFwdAttnRefIdeal : Cert.FfnFwdAttnRefIdeal.Facts] [hPre_finite11 : Cert.Pre_finite11.Facts] : Prop :=
  ∀ (m : (ℓ : Loc Cert.FfnFwdAttnRefIdeal.nD Cert.FfnFwdAttnRefIdeal.τ Cert.FfnFwdAttnRefIdeal.sig) → Buf (Elt Ideal) ℓ) (g : Dev Cert.FfnFwdAttnRefIdeal.nD → PrngReg), Pre_FfnFwdAttnRefIdeal_finite11 m →
    θ_run (Cert.FfnFwdAttnRefIdeal.defs (F := Ideal)) (onTc (τ := Cert.FfnFwdAttnRefIdeal.τ) (Cert.FfnFwdAttnRefIdeal.main (F := Ideal))) ⟨m, fun _ => 0, g⟩ (fun r => (∀ c : Dev Cert.FfnFwdAttnRefIdeal.nD,
      r.2.mem ((c.tc : Thread Cert.FfnFwdAttnRefIdeal.nD Cert.FfnFwdAttnRefIdeal.τ).loc Cert.FfnFwdAttnRefIdeal.main_arg0) = m ((c.tc : Thread Cert.FfnFwdAttnRefIdeal.nD Cert.FfnFwdAttnRefIdeal.τ).loc Cert.FfnFwdAttnRefIdeal.main_arg0)
      ∧ r.2.mem ((c.tc : Thread Cert.FfnFwdAttnRefIdeal.nD Cert.FfnFwdAttnRefIdeal.τ).loc Cert.FfnFwdAttnRefIdeal.main_arg1) = m ((c.tc : Thread Cert.FfnFwdAttnRefIdeal.nD Cert.FfnFwdAttnRefIdeal.τ).loc Cert.FfnFwdAttnRefIdeal.main_arg1)
      ∧ r.2.mem ((c.tc : Thread Cert.FfnFwdAttnRefIdeal.nD Cert.FfnFwdAttnRefIdeal.τ).loc Cert.FfnFwdAttnRefIdeal.main_arg2) = m ((c.tc : Thread Cert.FfnFwdAttnRefIdeal.nD Cert.FfnFwdAttnRefIdeal.τ).loc Cert.FfnFwdAttnRefIdeal.main_arg2)
      ∧ r.2.mem ((c.tc : Thread Cert.FfnFwdAttnRefIdeal.nD Cert.FfnFwdAttnRefIdeal.τ).loc Cert.FfnFwdAttnRefIdeal.main_arg3) = m ((c.tc : Thread Cert.FfnFwdAttnRefIdeal.nD Cert.FfnFwdAttnRefIdeal.τ).loc Cert.FfnFwdAttnRefIdeal.main_arg3)
      ∧ r.2.mem ((c.tc : Thread Cert.FfnFwdAttnRefIdeal.nD Cert.FfnFwdAttnRefIdeal.τ).loc Cert.FfnFwdAttnRefIdeal.main_arg4) = m ((c.tc : Thread Cert.FfnFwdAttnRefIdeal.nD Cert.FfnFwdAttnRefIdeal.τ).loc Cert.FfnFwdAttnRefIdeal.main_arg4)
      ∧ r.2.mem ((c.tc : Thread Cert.FfnFwdAttnRefIdeal.nD Cert.FfnFwdAttnRefIdeal.τ).loc Cert.FfnFwdAttnRefIdeal.main_arg5) = m ((c.tc : Thread Cert.FfnFwdAttnRefIdeal.nD Cert.FfnFwdAttnRefIdeal.τ).loc Cert.FfnFwdAttnRefIdeal.main_arg5))
      ∧ r.2.sem = fun _ => 0)

def preserves_ConvPostBwd_ConvPostBwdIdeal : Prop :=
  True

def algebraic_ConvPostBwdIdeal_ConvPostBwdRefIdeal_pre_all_finite3 [hConvPostBwdIdeal : Cert.ConvPostBwdIdeal.Facts] [hConvPostBwdRefIdeal : Cert.ConvPostBwdRefIdeal.Facts] [hPre_all_finite3 : Cert.Pre_all_finite3.Facts] : Prop :=
  ∀ (m : (ℓ : Loc Cert.ConvPostBwdIdeal.nD Cert.ConvPostBwdIdeal.τ Cert.ConvPostBwdIdeal.sig) → Buf (Elt Ideal) ℓ) (g : Dev Cert.ConvPostBwdIdeal.nD → PrngReg)
    (m' : (ℓ : Loc Cert.ConvPostBwdRefIdeal.nD Cert.ConvPostBwdRefIdeal.τ Cert.ConvPostBwdRefIdeal.sig) → Buf (Elt Ideal) ℓ) (g' : Dev Cert.ConvPostBwdRefIdeal.nD → PrngReg), Pre_ConvPostBwdIdeal_all_finite3 m →
    (∀ c : Dev Cert.ConvPostBwdIdeal.nD,
      m' ((c.tc : Thread Cert.ConvPostBwdRefIdeal.nD Cert.ConvPostBwdRefIdeal.τ).loc Cert.ConvPostBwdRefIdeal.main_arg0) = m ((c.tc : Thread Cert.ConvPostBwdIdeal.nD Cert.ConvPostBwdIdeal.τ).loc Cert.ConvPostBwdIdeal.main_arg0)
      ∧ m' ((c.tc : Thread Cert.ConvPostBwdRefIdeal.nD Cert.ConvPostBwdRefIdeal.τ).loc Cert.ConvPostBwdRefIdeal.main_arg1) = m ((c.tc : Thread Cert.ConvPostBwdIdeal.nD Cert.ConvPostBwdIdeal.τ).loc Cert.ConvPostBwdIdeal.main_arg1)
      ∧ m' ((c.tc : Thread Cert.ConvPostBwdRefIdeal.nD Cert.ConvPostBwdRefIdeal.τ).loc Cert.ConvPostBwdRefIdeal.main_arg2) = m ((c.tc : Thread Cert.ConvPostBwdIdeal.nD Cert.ConvPostBwdIdeal.τ).loc Cert.ConvPostBwdIdeal.main_arg2)
      ∧ m' ((c.tc : Thread Cert.ConvPostBwdRefIdeal.nD Cert.ConvPostBwdRefIdeal.τ).loc Cert.ConvPostBwdRefIdeal.main_arg3) = m ((c.tc : Thread Cert.ConvPostBwdIdeal.nD Cert.ConvPostBwdIdeal.τ).loc Cert.ConvPostBwdIdeal.main_arg3)
      ∧ m' ((c.tc : Thread Cert.ConvPostBwdRefIdeal.nD Cert.ConvPostBwdRefIdeal.τ).loc Cert.ConvPostBwdRefIdeal.main_arg4) = m ((c.tc : Thread Cert.ConvPostBwdIdeal.nD Cert.ConvPostBwdIdeal.τ).loc Cert.ConvPostBwdIdeal.main_arg4)
      ∧ m' ((c.tc : Thread Cert.ConvPostBwdRefIdeal.nD Cert.ConvPostBwdRefIdeal.τ).loc Cert.ConvPostBwdRefIdeal.main_arg5) = m ((c.tc : Thread Cert.ConvPostBwdIdeal.nD Cert.ConvPostBwdIdeal.τ).loc Cert.ConvPostBwdIdeal.main_arg5)) →
    ∃ (v0 : (c : Dev Cert.ConvPostBwdIdeal.nD) → Buf (Elt Ideal) ((c.tc : Thread Cert.ConvPostBwdIdeal.nD Cert.ConvPostBwdIdeal.τ).loc Cert.ConvPostBwdIdeal.main_v6_0)) (v1 : (c : Dev Cert.ConvPostBwdIdeal.nD) → Buf (Elt Ideal) ((c.tc : Thread Cert.ConvPostBwdIdeal.nD Cert.ConvPostBwdIdeal.τ).loc Cert.ConvPostBwdIdeal.main_v6_1)),
      θ_run (Cert.ConvPostBwdIdeal.defs (F := Ideal)) (onTc (τ := Cert.ConvPostBwdIdeal.τ) (Cert.ConvPostBwdIdeal.main (F := Ideal))) ⟨m, fun _ => 0, g⟩ (fun r => ∀ c : Dev Cert.ConvPostBwdIdeal.nD,
          r.2.mem ((c.tc : Thread Cert.ConvPostBwdIdeal.nD Cert.ConvPostBwdIdeal.τ).loc Cert.ConvPostBwdIdeal.main_v6_0) = v0 c
          ∧ r.2.mem ((c.tc : Thread Cert.ConvPostBwdIdeal.nD Cert.ConvPostBwdIdeal.τ).loc Cert.ConvPostBwdIdeal.main_v6_1) = v1 c
          ∧ r.2.mem ((c.tc : Thread Cert.ConvPostBwdIdeal.nD Cert.ConvPostBwdIdeal.τ).loc Cert.ConvPostBwdIdeal.main_arg0) = m ((c.tc : Thread Cert.ConvPostBwdIdeal.nD Cert.ConvPostBwdIdeal.τ).loc Cert.ConvPostBwdIdeal.main_arg0)
          ∧ r.2.mem ((c.tc : Thread Cert.ConvPostBwdIdeal.nD Cert.ConvPostBwdIdeal.τ).loc Cert.ConvPostBwdIdeal.main_arg1) = m ((c.tc : Thread Cert.ConvPostBwdIdeal.nD Cert.ConvPostBwdIdeal.τ).loc Cert.ConvPostBwdIdeal.main_arg1)
          ∧ r.2.mem ((c.tc : Thread Cert.ConvPostBwdIdeal.nD Cert.ConvPostBwdIdeal.τ).loc Cert.ConvPostBwdIdeal.main_arg2) = m ((c.tc : Thread Cert.ConvPostBwdIdeal.nD Cert.ConvPostBwdIdeal.τ).loc Cert.ConvPostBwdIdeal.main_arg2)
          ∧ r.2.mem ((c.tc : Thread Cert.ConvPostBwdIdeal.nD Cert.ConvPostBwdIdeal.τ).loc Cert.ConvPostBwdIdeal.main_arg3) = m ((c.tc : Thread Cert.ConvPostBwdIdeal.nD Cert.ConvPostBwdIdeal.τ).loc Cert.ConvPostBwdIdeal.main_arg3)
          ∧ r.2.mem ((c.tc : Thread Cert.ConvPostBwdIdeal.nD Cert.ConvPostBwdIdeal.τ).loc Cert.ConvPostBwdIdeal.main_arg4) = m ((c.tc : Thread Cert.ConvPostBwdIdeal.nD Cert.ConvPostBwdIdeal.τ).loc Cert.ConvPostBwdIdeal.main_arg4)
          ∧ r.2.mem ((c.tc : Thread Cert.ConvPostBwdIdeal.nD Cert.ConvPostBwdIdeal.τ).loc Cert.ConvPostBwdIdeal.main_arg5) = m ((c.tc : Thread Cert.ConvPostBwdIdeal.nD Cert.ConvPostBwdIdeal.τ).loc Cert.ConvPostBwdIdeal.main_arg5))
      ∧ θ_run (Cert.ConvPostBwdRefIdeal.defs (F := Ideal)) (onTc (τ := Cert.ConvPostBwdRefIdeal.τ) (Cert.ConvPostBwdRefIdeal.main (F := Ideal))) ⟨m', fun _ => 0, g'⟩ (fun r => ∀ c : Dev Cert.ConvPostBwdRefIdeal.nD,
          r.2.mem ((c.tc : Thread Cert.ConvPostBwdRefIdeal.nD Cert.ConvPostBwdRefIdeal.τ).loc Cert.ConvPostBwdRefIdeal.main_v76) = v0 c
          ∧ r.2.mem ((c.tc : Thread Cert.ConvPostBwdRefIdeal.nD Cert.ConvPostBwdRefIdeal.τ).loc Cert.ConvPostBwdRefIdeal.main_v86) = v1 c
          ∧ r.2.mem ((c.tc : Thread Cert.ConvPostBwdRefIdeal.nD Cert.ConvPostBwdRefIdeal.τ).loc Cert.ConvPostBwdRefIdeal.main_arg0) = m' ((c.tc : Thread Cert.ConvPostBwdRefIdeal.nD Cert.ConvPostBwdRefIdeal.τ).loc Cert.ConvPostBwdRefIdeal.main_arg0)
          ∧ r.2.mem ((c.tc : Thread Cert.ConvPostBwdRefIdeal.nD Cert.ConvPostBwdRefIdeal.τ).loc Cert.ConvPostBwdRefIdeal.main_arg1) = m' ((c.tc : Thread Cert.ConvPostBwdRefIdeal.nD Cert.ConvPostBwdRefIdeal.τ).loc Cert.ConvPostBwdRefIdeal.main_arg1)
          ∧ r.2.mem ((c.tc : Thread Cert.ConvPostBwdRefIdeal.nD Cert.ConvPostBwdRefIdeal.τ).loc Cert.ConvPostBwdRefIdeal.main_arg2) = m' ((c.tc : Thread Cert.ConvPostBwdRefIdeal.nD Cert.ConvPostBwdRefIdeal.τ).loc Cert.ConvPostBwdRefIdeal.main_arg2)
          ∧ r.2.mem ((c.tc : Thread Cert.ConvPostBwdRefIdeal.nD Cert.ConvPostBwdRefIdeal.τ).loc Cert.ConvPostBwdRefIdeal.main_arg3) = m' ((c.tc : Thread Cert.ConvPostBwdRefIdeal.nD Cert.ConvPostBwdRefIdeal.τ).loc Cert.ConvPostBwdRefIdeal.main_arg3)
          ∧ r.2.mem ((c.tc : Thread Cert.ConvPostBwdRefIdeal.nD Cert.ConvPostBwdRefIdeal.τ).loc Cert.ConvPostBwdRefIdeal.main_arg4) = m' ((c.tc : Thread Cert.ConvPostBwdRefIdeal.nD Cert.ConvPostBwdRefIdeal.τ).loc Cert.ConvPostBwdRefIdeal.main_arg4)
          ∧ r.2.mem ((c.tc : Thread Cert.ConvPostBwdRefIdeal.nD Cert.ConvPostBwdRefIdeal.τ).loc Cert.ConvPostBwdRefIdeal.main_arg5) = m' ((c.tc : Thread Cert.ConvPostBwdRefIdeal.nD Cert.ConvPostBwdRefIdeal.τ).loc Cert.ConvPostBwdRefIdeal.main_arg5))

def preserves_ConvPreBwd_ConvPreBwdIdeal : Prop :=
  True

def algebraic_ConvPreBwdIdeal_ConvPreBwdRefIdeal_pre_finite2 [hConvPreBwdIdeal : Cert.ConvPreBwdIdeal.Facts] [hConvPreBwdRefIdeal : Cert.ConvPreBwdRefIdeal.Facts] [hPre_finite2 : Cert.Pre_finite2.Facts] : Prop :=
  ∀ (m : (ℓ : Loc Cert.ConvPreBwdIdeal.nD Cert.ConvPreBwdIdeal.τ Cert.ConvPreBwdIdeal.sig) → Buf (Elt Ideal) ℓ) (g : Dev Cert.ConvPreBwdIdeal.nD → PrngReg)
    (m' : (ℓ : Loc Cert.ConvPreBwdRefIdeal.nD Cert.ConvPreBwdRefIdeal.τ Cert.ConvPreBwdRefIdeal.sig) → Buf (Elt Ideal) ℓ) (g' : Dev Cert.ConvPreBwdRefIdeal.nD → PrngReg), Pre_ConvPreBwdIdeal_finite2 m →
    (∀ c : Dev Cert.ConvPreBwdIdeal.nD,
      m' ((c.tc : Thread Cert.ConvPreBwdRefIdeal.nD Cert.ConvPreBwdRefIdeal.τ).loc Cert.ConvPreBwdRefIdeal.main_arg0) = m ((c.tc : Thread Cert.ConvPreBwdIdeal.nD Cert.ConvPreBwdIdeal.τ).loc Cert.ConvPreBwdIdeal.main_arg0)
      ∧ m' ((c.tc : Thread Cert.ConvPreBwdRefIdeal.nD Cert.ConvPreBwdRefIdeal.τ).loc Cert.ConvPreBwdRefIdeal.main_arg1) = m ((c.tc : Thread Cert.ConvPreBwdIdeal.nD Cert.ConvPreBwdIdeal.τ).loc Cert.ConvPreBwdIdeal.main_arg1)
      ∧ m' ((c.tc : Thread Cert.ConvPreBwdRefIdeal.nD Cert.ConvPreBwdRefIdeal.τ).loc Cert.ConvPreBwdRefIdeal.main_arg2) = m ((c.tc : Thread Cert.ConvPreBwdIdeal.nD Cert.ConvPreBwdIdeal.τ).loc Cert.ConvPreBwdIdeal.main_arg2)
      ∧ m' ((c.tc : Thread Cert.ConvPreBwdRefIdeal.nD Cert.ConvPreBwdRefIdeal.τ).loc Cert.ConvPreBwdRefIdeal.main_arg3) = m ((c.tc : Thread Cert.ConvPreBwdIdeal.nD Cert.ConvPreBwdIdeal.τ).loc Cert.ConvPreBwdIdeal.main_arg3)
      ∧ m' ((c.tc : Thread Cert.ConvPreBwdRefIdeal.nD Cert.ConvPreBwdRefIdeal.τ).loc Cert.ConvPreBwdRefIdeal.main_arg4) = m ((c.tc : Thread Cert.ConvPreBwdIdeal.nD Cert.ConvPreBwdIdeal.τ).loc Cert.ConvPreBwdIdeal.main_arg4)
      ∧ m' ((c.tc : Thread Cert.ConvPreBwdRefIdeal.nD Cert.ConvPreBwdRefIdeal.τ).loc Cert.ConvPreBwdRefIdeal.main_arg5) = m ((c.tc : Thread Cert.ConvPreBwdIdeal.nD Cert.ConvPreBwdIdeal.τ).loc Cert.ConvPreBwdIdeal.main_arg5)) →
    ∃ (v0 : (c : Dev Cert.ConvPreBwdIdeal.nD) → Buf (Elt Ideal) ((c.tc : Thread Cert.ConvPreBwdIdeal.nD Cert.ConvPreBwdIdeal.τ).loc Cert.ConvPreBwdIdeal.main_v24_0)) (v1 : (c : Dev Cert.ConvPreBwdIdeal.nD) → Buf (Elt Ideal) ((c.tc : Thread Cert.ConvPreBwdIdeal.nD Cert.ConvPreBwdIdeal.τ).loc Cert.ConvPreBwdIdeal.main_v24_1)) (v2 : (c : Dev Cert.ConvPreBwdIdeal.nD) → Buf (Elt Ideal) ((c.tc : Thread Cert.ConvPreBwdIdeal.nD Cert.ConvPreBwdIdeal.τ).loc Cert.ConvPreBwdIdeal.main_v24_2)) (v3 : (c : Dev Cert.ConvPreBwdIdeal.nD) → Buf (Elt Ideal) ((c.tc : Thread Cert.ConvPreBwdIdeal.nD Cert.ConvPreBwdIdeal.τ).loc Cert.ConvPreBwdIdeal.main_v24_3)) (v4 : (c : Dev Cert.ConvPreBwdIdeal.nD) → Buf (Elt Ideal) ((c.tc : Thread Cert.ConvPreBwdIdeal.nD Cert.ConvPreBwdIdeal.τ).loc Cert.ConvPreBwdIdeal.main_v24_4)) (v5 : (c : Dev Cert.ConvPreBwdIdeal.nD) → Buf (Elt Ideal) ((c.tc : Thread Cert.ConvPreBwdIdeal.nD Cert.ConvPreBwdIdeal.τ).loc Cert.ConvPreBwdIdeal.main_v24_5)),
      θ_run (Cert.ConvPreBwdIdeal.defs (F := Ideal)) (onTc (τ := Cert.ConvPreBwdIdeal.τ) (Cert.ConvPreBwdIdeal.main (F := Ideal))) ⟨m, fun _ => 0, g⟩ (fun r => ∀ c : Dev Cert.ConvPreBwdIdeal.nD,
          r.2.mem ((c.tc : Thread Cert.ConvPreBwdIdeal.nD Cert.ConvPreBwdIdeal.τ).loc Cert.ConvPreBwdIdeal.main_v24_0) = v0 c
          ∧ r.2.mem ((c.tc : Thread Cert.ConvPreBwdIdeal.nD Cert.ConvPreBwdIdeal.τ).loc Cert.ConvPreBwdIdeal.main_v24_1) = v1 c
          ∧ r.2.mem ((c.tc : Thread Cert.ConvPreBwdIdeal.nD Cert.ConvPreBwdIdeal.τ).loc Cert.ConvPreBwdIdeal.main_v24_2) = v2 c
          ∧ r.2.mem ((c.tc : Thread Cert.ConvPreBwdIdeal.nD Cert.ConvPreBwdIdeal.τ).loc Cert.ConvPreBwdIdeal.main_v24_3) = v3 c
          ∧ r.2.mem ((c.tc : Thread Cert.ConvPreBwdIdeal.nD Cert.ConvPreBwdIdeal.τ).loc Cert.ConvPreBwdIdeal.main_v24_4) = v4 c
          ∧ r.2.mem ((c.tc : Thread Cert.ConvPreBwdIdeal.nD Cert.ConvPreBwdIdeal.τ).loc Cert.ConvPreBwdIdeal.main_v24_5) = v5 c
          ∧ r.2.mem ((c.tc : Thread Cert.ConvPreBwdIdeal.nD Cert.ConvPreBwdIdeal.τ).loc Cert.ConvPreBwdIdeal.main_arg0) = m ((c.tc : Thread Cert.ConvPreBwdIdeal.nD Cert.ConvPreBwdIdeal.τ).loc Cert.ConvPreBwdIdeal.main_arg0)
          ∧ r.2.mem ((c.tc : Thread Cert.ConvPreBwdIdeal.nD Cert.ConvPreBwdIdeal.τ).loc Cert.ConvPreBwdIdeal.main_arg1) = m ((c.tc : Thread Cert.ConvPreBwdIdeal.nD Cert.ConvPreBwdIdeal.τ).loc Cert.ConvPreBwdIdeal.main_arg1)
          ∧ r.2.mem ((c.tc : Thread Cert.ConvPreBwdIdeal.nD Cert.ConvPreBwdIdeal.τ).loc Cert.ConvPreBwdIdeal.main_arg2) = m ((c.tc : Thread Cert.ConvPreBwdIdeal.nD Cert.ConvPreBwdIdeal.τ).loc Cert.ConvPreBwdIdeal.main_arg2)
          ∧ r.2.mem ((c.tc : Thread Cert.ConvPreBwdIdeal.nD Cert.ConvPreBwdIdeal.τ).loc Cert.ConvPreBwdIdeal.main_arg3) = m ((c.tc : Thread Cert.ConvPreBwdIdeal.nD Cert.ConvPreBwdIdeal.τ).loc Cert.ConvPreBwdIdeal.main_arg3)
          ∧ r.2.mem ((c.tc : Thread Cert.ConvPreBwdIdeal.nD Cert.ConvPreBwdIdeal.τ).loc Cert.ConvPreBwdIdeal.main_arg4) = m ((c.tc : Thread Cert.ConvPreBwdIdeal.nD Cert.ConvPreBwdIdeal.τ).loc Cert.ConvPreBwdIdeal.main_arg4)
          ∧ r.2.mem ((c.tc : Thread Cert.ConvPreBwdIdeal.nD Cert.ConvPreBwdIdeal.τ).loc Cert.ConvPreBwdIdeal.main_arg5) = m ((c.tc : Thread Cert.ConvPreBwdIdeal.nD Cert.ConvPreBwdIdeal.τ).loc Cert.ConvPreBwdIdeal.main_arg5))
      ∧ θ_run (Cert.ConvPreBwdRefIdeal.defs (F := Ideal)) (onTc (τ := Cert.ConvPreBwdRefIdeal.τ) (Cert.ConvPreBwdRefIdeal.main (F := Ideal))) ⟨m', fun _ => 0, g'⟩ (fun r => ∀ c : Dev Cert.ConvPreBwdRefIdeal.nD,
          r.2.mem ((c.tc : Thread Cert.ConvPreBwdRefIdeal.nD Cert.ConvPreBwdRefIdeal.τ).loc Cert.ConvPreBwdRefIdeal.main_v65) = v0 c
          ∧ r.2.mem ((c.tc : Thread Cert.ConvPreBwdRefIdeal.nD Cert.ConvPreBwdRefIdeal.τ).loc Cert.ConvPreBwdRefIdeal.main_v67) = v1 c
          ∧ r.2.mem ((c.tc : Thread Cert.ConvPreBwdRefIdeal.nD Cert.ConvPreBwdRefIdeal.τ).loc Cert.ConvPreBwdRefIdeal.main_v62) = v2 c
          ∧ r.2.mem ((c.tc : Thread Cert.ConvPreBwdRefIdeal.nD Cert.ConvPreBwdRefIdeal.τ).loc Cert.ConvPreBwdRefIdeal.main_v68) = v3 c
          ∧ r.2.mem ((c.tc : Thread Cert.ConvPreBwdRefIdeal.nD Cert.ConvPreBwdRefIdeal.τ).loc Cert.ConvPreBwdRefIdeal.main_v69) = v4 c
          ∧ r.2.mem ((c.tc : Thread Cert.ConvPreBwdRefIdeal.nD Cert.ConvPreBwdRefIdeal.τ).loc Cert.ConvPreBwdRefIdeal.main_v70) = v5 c
          ∧ r.2.mem ((c.tc : Thread Cert.ConvPreBwdRefIdeal.nD Cert.ConvPreBwdRefIdeal.τ).loc Cert.ConvPreBwdRefIdeal.main_arg0) = m' ((c.tc : Thread Cert.ConvPreBwdRefIdeal.nD Cert.ConvPreBwdRefIdeal.τ).loc Cert.ConvPreBwdRefIdeal.main_arg0)
          ∧ r.2.mem ((c.tc : Thread Cert.ConvPreBwdRefIdeal.nD Cert.ConvPreBwdRefIdeal.τ).loc Cert.ConvPreBwdRefIdeal.main_arg1) = m' ((c.tc : Thread Cert.ConvPreBwdRefIdeal.nD Cert.ConvPreBwdRefIdeal.τ).loc Cert.ConvPreBwdRefIdeal.main_arg1)
          ∧ r.2.mem ((c.tc : Thread Cert.ConvPreBwdRefIdeal.nD Cert.ConvPreBwdRefIdeal.τ).loc Cert.ConvPreBwdRefIdeal.main_arg2) = m' ((c.tc : Thread Cert.ConvPreBwdRefIdeal.nD Cert.ConvPreBwdRefIdeal.τ).loc Cert.ConvPreBwdRefIdeal.main_arg2)
          ∧ r.2.mem ((c.tc : Thread Cert.ConvPreBwdRefIdeal.nD Cert.ConvPreBwdRefIdeal.τ).loc Cert.ConvPreBwdRefIdeal.main_arg3) = m' ((c.tc : Thread Cert.ConvPreBwdRefIdeal.nD Cert.ConvPreBwdRefIdeal.τ).loc Cert.ConvPreBwdRefIdeal.main_arg3)
          ∧ r.2.mem ((c.tc : Thread Cert.ConvPreBwdRefIdeal.nD Cert.ConvPreBwdRefIdeal.τ).loc Cert.ConvPreBwdRefIdeal.main_arg4) = m' ((c.tc : Thread Cert.ConvPreBwdRefIdeal.nD Cert.ConvPreBwdRefIdeal.τ).loc Cert.ConvPreBwdRefIdeal.main_arg4)
          ∧ r.2.mem ((c.tc : Thread Cert.ConvPreBwdRefIdeal.nD Cert.ConvPreBwdRefIdeal.τ).loc Cert.ConvPreBwdRefIdeal.main_arg5) = m' ((c.tc : Thread Cert.ConvPreBwdRefIdeal.nD Cert.ConvPreBwdRefIdeal.τ).loc Cert.ConvPreBwdRefIdeal.main_arg5))

def preserves_FfnBwd_FfnBwdIdeal : Prop :=
  True

def algebraic_FfnBwdIdeal_FfnBwdRefIdeal_pre_finite4 [hFfnBwdIdeal : Cert.FfnBwdIdeal.Facts] [hFfnBwdRefIdeal : Cert.FfnBwdRefIdeal.Facts] [hPre_finite4 : Cert.Pre_finite4.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite4 m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v40_0)) (v1 : (c : Dev Cert.FfnBwdIdeal.nD) → Buf (Elt Ideal) ((c.tc : Thread Cert.FfnBwdIdeal.nD Cert.FfnBwdIdeal.τ).loc Cert.FfnBwdIdeal.main_v40_1)) (v2 : (c : Dev Cert.FfnBwdIdeal.nD) → Buf (Elt Ideal) ((c.tc : Thread Cert.FfnBwdIdeal.nD Cert.FfnBwdIdeal.τ).loc Cert.FfnBwdIdeal.main_v40_2)) (v3 : (c : Dev Cert.FfnBwdIdeal.nD) → Buf (Elt Ideal) ((c.tc : Thread Cert.FfnBwdIdeal.nD Cert.FfnBwdIdeal.τ).loc Cert.FfnBwdIdeal.main_v40_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v40_0) = v0 c
          ∧ r.2.mem ((c.tc : Thread Cert.FfnBwdIdeal.nD Cert.FfnBwdIdeal.τ).loc Cert.FfnBwdIdeal.main_v40_1) = v1 c
          ∧ r.2.mem ((c.tc : Thread Cert.FfnBwdIdeal.nD Cert.FfnBwdIdeal.τ).loc Cert.FfnBwdIdeal.main_v40_2) = v2 c
          ∧ r.2.mem ((c.tc : Thread Cert.FfnBwdIdeal.nD Cert.FfnBwdIdeal.τ).loc Cert.FfnBwdIdeal.main_v40_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v52) = v0 c
          ∧ r.2.mem ((c.tc : Thread Cert.FfnBwdRefIdeal.nD Cert.FfnBwdRefIdeal.τ).loc Cert.FfnBwdRefIdeal.main_v53) = v1 c
          ∧ r.2.mem ((c.tc : Thread Cert.FfnBwdRefIdeal.nD Cert.FfnBwdRefIdeal.τ).loc Cert.FfnBwdRefIdeal.main_v54) = v2 c
          ∧ r.2.mem ((c.tc : Thread Cert.FfnBwdRefIdeal.nD Cert.FfnBwdRefIdeal.τ).loc Cert.FfnBwdRefIdeal.main_v55) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_FfnBwdOut_FfnBwdOutIdeal : Prop :=
  True

def algebraic_FfnBwdOutIdeal_FfnBwdOutRefIdeal_pre_finite6 [hFfnBwdOutIdeal : Cert.FfnBwdOutIdeal.Facts] [hFfnBwdOutRefIdeal : Cert.FfnBwdOutRefIdeal.Facts] [hPre_finite6 : Cert.Pre_finite6.Facts] : Prop :=
  ∀ (m : (ℓ : Loc Cert.FfnBwdOutIdeal.nD Cert.FfnBwdOutIdeal.τ Cert.FfnBwdOutIdeal.sig) → Buf (Elt Ideal) ℓ) (g : Dev Cert.FfnBwdOutIdeal.nD → PrngReg)
    (m' : (ℓ : Loc Cert.FfnBwdOutRefIdeal.nD Cert.FfnBwdOutRefIdeal.τ Cert.FfnBwdOutRefIdeal.sig) → Buf (Elt Ideal) ℓ) (g' : Dev Cert.FfnBwdOutRefIdeal.nD → PrngReg), Pre_FfnBwdOutIdeal_finite6 m →
    (∀ c : Dev Cert.FfnBwdOutIdeal.nD,
      m' ((c.tc : Thread Cert.FfnBwdOutRefIdeal.nD Cert.FfnBwdOutRefIdeal.τ).loc Cert.FfnBwdOutRefIdeal.main_arg0) = m ((c.tc : Thread Cert.FfnBwdOutIdeal.nD Cert.FfnBwdOutIdeal.τ).loc Cert.FfnBwdOutIdeal.main_arg0)
      ∧ m' ((c.tc : Thread Cert.FfnBwdOutRefIdeal.nD Cert.FfnBwdOutRefIdeal.τ).loc Cert.FfnBwdOutRefIdeal.main_arg1) = m ((c.tc : Thread Cert.FfnBwdOutIdeal.nD Cert.FfnBwdOutIdeal.τ).loc Cert.FfnBwdOutIdeal.main_arg1)
      ∧ m' ((c.tc : Thread Cert.FfnBwdOutRefIdeal.nD Cert.FfnBwdOutRefIdeal.τ).loc Cert.FfnBwdOutRefIdeal.main_arg2) = m ((c.tc : Thread Cert.FfnBwdOutIdeal.nD Cert.FfnBwdOutIdeal.τ).loc Cert.FfnBwdOutIdeal.main_arg2)
      ∧ m' ((c.tc : Thread Cert.FfnBwdOutRefIdeal.nD Cert.FfnBwdOutRefIdeal.τ).loc Cert.FfnBwdOutRefIdeal.main_arg3) = m ((c.tc : Thread Cert.FfnBwdOutIdeal.nD Cert.FfnBwdOutIdeal.τ).loc Cert.FfnBwdOutIdeal.main_arg3)
      ∧ m' ((c.tc : Thread Cert.FfnBwdOutRefIdeal.nD Cert.FfnBwdOutRefIdeal.τ).loc Cert.FfnBwdOutRefIdeal.main_arg4) = m ((c.tc : Thread Cert.FfnBwdOutIdeal.nD Cert.FfnBwdOutIdeal.τ).loc Cert.FfnBwdOutIdeal.main_arg4)
      ∧ m' ((c.tc : Thread Cert.FfnBwdOutRefIdeal.nD Cert.FfnBwdOutRefIdeal.τ).loc Cert.FfnBwdOutRefIdeal.main_arg5) = m ((c.tc : Thread Cert.FfnBwdOutIdeal.nD Cert.FfnBwdOutIdeal.τ).loc Cert.FfnBwdOutIdeal.main_arg5)) →
    ∃ (v0 : (c : Dev Cert.FfnBwdOutIdeal.nD) → Buf (Elt Ideal) ((c.tc : Thread Cert.FfnBwdOutIdeal.nD Cert.FfnBwdOutIdeal.τ).loc Cert.FfnBwdOutIdeal.main_v41_0)) (v1 : (c : Dev Cert.FfnBwdOutIdeal.nD) → Buf (Elt Ideal) ((c.tc : Thread Cert.FfnBwdOutIdeal.nD Cert.FfnBwdOutIdeal.τ).loc Cert.FfnBwdOutIdeal.main_v41_1)) (v2 : (c : Dev Cert.FfnBwdOutIdeal.nD) → Buf (Elt Ideal) ((c.tc : Thread Cert.FfnBwdOutIdeal.nD Cert.FfnBwdOutIdeal.τ).loc Cert.FfnBwdOutIdeal.main_v41_2)) (v3 : (c : Dev Cert.FfnBwdOutIdeal.nD) → Buf (Elt Ideal) ((c.tc : Thread Cert.FfnBwdOutIdeal.nD Cert.FfnBwdOutIdeal.τ).loc Cert.FfnBwdOutIdeal.main_v41_3)) (v4 : (c : Dev Cert.FfnBwdOutIdeal.nD) → Buf (Elt Ideal) ((c.tc : Thread Cert.FfnBwdOutIdeal.nD Cert.FfnBwdOutIdeal.τ).loc Cert.FfnBwdOutIdeal.main_v41_4)),
      θ_run (Cert.FfnBwdOutIdeal.defs (F := Ideal)) (onTc (τ := Cert.FfnBwdOutIdeal.τ) (Cert.FfnBwdOutIdeal.main (F := Ideal))) ⟨m, fun _ => 0, g⟩ (fun r => ∀ c : Dev Cert.FfnBwdOutIdeal.nD,
          r.2.mem ((c.tc : Thread Cert.FfnBwdOutIdeal.nD Cert.FfnBwdOutIdeal.τ).loc Cert.FfnBwdOutIdeal.main_v41_0) = v0 c
          ∧ r.2.mem ((c.tc : Thread Cert.FfnBwdOutIdeal.nD Cert.FfnBwdOutIdeal.τ).loc Cert.FfnBwdOutIdeal.main_v41_1) = v1 c
          ∧ r.2.mem ((c.tc : Thread Cert.FfnBwdOutIdeal.nD Cert.FfnBwdOutIdeal.τ).loc Cert.FfnBwdOutIdeal.main_v41_2) = v2 c
          ∧ r.2.mem ((c.tc : Thread Cert.FfnBwdOutIdeal.nD Cert.FfnBwdOutIdeal.τ).loc Cert.FfnBwdOutIdeal.main_v41_3) = v3 c
          ∧ r.2.mem ((c.tc : Thread Cert.FfnBwdOutIdeal.nD Cert.FfnBwdOutIdeal.τ).loc Cert.FfnBwdOutIdeal.main_v41_4) = v4 c
          ∧ r.2.mem ((c.tc : Thread Cert.FfnBwdOutIdeal.nD Cert.FfnBwdOutIdeal.τ).loc Cert.FfnBwdOutIdeal.main_arg0) = m ((c.tc : Thread Cert.FfnBwdOutIdeal.nD Cert.FfnBwdOutIdeal.τ).loc Cert.FfnBwdOutIdeal.main_arg0)
          ∧ r.2.mem ((c.tc : Thread Cert.FfnBwdOutIdeal.nD Cert.FfnBwdOutIdeal.τ).loc Cert.FfnBwdOutIdeal.main_arg1) = m ((c.tc : Thread Cert.FfnBwdOutIdeal.nD Cert.FfnBwdOutIdeal.τ).loc Cert.FfnBwdOutIdeal.main_arg1)
          ∧ r.2.mem ((c.tc : Thread Cert.FfnBwdOutIdeal.nD Cert.FfnBwdOutIdeal.τ).loc Cert.FfnBwdOutIdeal.main_arg2) = m ((c.tc : Thread Cert.FfnBwdOutIdeal.nD Cert.FfnBwdOutIdeal.τ).loc Cert.FfnBwdOutIdeal.main_arg2)
          ∧ r.2.mem ((c.tc : Thread Cert.FfnBwdOutIdeal.nD Cert.FfnBwdOutIdeal.τ).loc Cert.FfnBwdOutIdeal.main_arg3) = m ((c.tc : Thread Cert.FfnBwdOutIdeal.nD Cert.FfnBwdOutIdeal.τ).loc Cert.FfnBwdOutIdeal.main_arg3)
          ∧ r.2.mem ((c.tc : Thread Cert.FfnBwdOutIdeal.nD Cert.FfnBwdOutIdeal.τ).loc Cert.FfnBwdOutIdeal.main_arg4) = m ((c.tc : Thread Cert.FfnBwdOutIdeal.nD Cert.FfnBwdOutIdeal.τ).loc Cert.FfnBwdOutIdeal.main_arg4)
          ∧ r.2.mem ((c.tc : Thread Cert.FfnBwdOutIdeal.nD Cert.FfnBwdOutIdeal.τ).loc Cert.FfnBwdOutIdeal.main_arg5) = m ((c.tc : Thread Cert.FfnBwdOutIdeal.nD Cert.FfnBwdOutIdeal.τ).loc Cert.FfnBwdOutIdeal.main_arg5))
      ∧ θ_run (Cert.FfnBwdOutRefIdeal.defs (F := Ideal)) (onTc (τ := Cert.FfnBwdOutRefIdeal.τ) (Cert.FfnBwdOutRefIdeal.main (F := Ideal))) ⟨m', fun _ => 0, g'⟩ (fun r => ∀ c : Dev Cert.FfnBwdOutRefIdeal.nD,
          r.2.mem ((c.tc : Thread Cert.FfnBwdOutRefIdeal.nD Cert.FfnBwdOutRefIdeal.τ).loc Cert.FfnBwdOutRefIdeal.main_v56) = v0 c
          ∧ r.2.mem ((c.tc : Thread Cert.FfnBwdOutRefIdeal.nD Cert.FfnBwdOutRefIdeal.τ).loc Cert.FfnBwdOutRefIdeal.main_v57) = v1 c
          ∧ r.2.mem ((c.tc : Thread Cert.FfnBwdOutRefIdeal.nD Cert.FfnBwdOutRefIdeal.τ).loc Cert.FfnBwdOutRefIdeal.main_v50) = v2 c
          ∧ r.2.mem ((c.tc : Thread Cert.FfnBwdOutRefIdeal.nD Cert.FfnBwdOutRefIdeal.τ).loc Cert.FfnBwdOutRefIdeal.main_v58) = v3 c
          ∧ r.2.mem ((c.tc : Thread Cert.FfnBwdOutRefIdeal.nD Cert.FfnBwdOutRefIdeal.τ).loc Cert.FfnBwdOutRefIdeal.main_v61) = v4 c
          ∧ r.2.mem ((c.tc : Thread Cert.FfnBwdOutRefIdeal.nD Cert.FfnBwdOutRefIdeal.τ).loc Cert.FfnBwdOutRefIdeal.main_arg0) = m' ((c.tc : Thread Cert.FfnBwdOutRefIdeal.nD Cert.FfnBwdOutRefIdeal.τ).loc Cert.FfnBwdOutRefIdeal.main_arg0)
          ∧ r.2.mem ((c.tc : Thread Cert.FfnBwdOutRefIdeal.nD Cert.FfnBwdOutRefIdeal.τ).loc Cert.FfnBwdOutRefIdeal.main_arg1) = m' ((c.tc : Thread Cert.FfnBwdOutRefIdeal.nD Cert.FfnBwdOutRefIdeal.τ).loc Cert.FfnBwdOutRefIdeal.main_arg1)
          ∧ r.2.mem ((c.tc : Thread Cert.FfnBwdOutRefIdeal.nD Cert.FfnBwdOutRefIdeal.τ).loc Cert.FfnBwdOutRefIdeal.main_arg2) = m' ((c.tc : Thread Cert.FfnBwdOutRefIdeal.nD Cert.FfnBwdOutRefIdeal.τ).loc Cert.FfnBwdOutRefIdeal.main_arg2)
          ∧ r.2.mem ((c.tc : Thread Cert.FfnBwdOutRefIdeal.nD Cert.FfnBwdOutRefIdeal.τ).loc Cert.FfnBwdOutRefIdeal.main_arg3) = m' ((c.tc : Thread Cert.FfnBwdOutRefIdeal.nD Cert.FfnBwdOutRefIdeal.τ).loc Cert.FfnBwdOutRefIdeal.main_arg3)
          ∧ r.2.mem ((c.tc : Thread Cert.FfnBwdOutRefIdeal.nD Cert.FfnBwdOutRefIdeal.τ).loc Cert.FfnBwdOutRefIdeal.main_arg4) = m' ((c.tc : Thread Cert.FfnBwdOutRefIdeal.nD Cert.FfnBwdOutRefIdeal.τ).loc Cert.FfnBwdOutRefIdeal.main_arg4)
          ∧ r.2.mem ((c.tc : Thread Cert.FfnBwdOutRefIdeal.nD Cert.FfnBwdOutRefIdeal.τ).loc Cert.FfnBwdOutRefIdeal.main_arg5) = m' ((c.tc : Thread Cert.FfnBwdOutRefIdeal.nD Cert.FfnBwdOutRefIdeal.τ).loc Cert.FfnBwdOutRefIdeal.main_arg5))

def preserves_FfnFinal_FfnFinalIdeal : Prop :=
  True

def algebraic_FfnFinalIdeal_FfnFinalRefIdeal_pre_finite8 [hFfnFinalIdeal : Cert.FfnFinalIdeal.Facts] [hFfnFinalRefIdeal : Cert.FfnFinalRefIdeal.Facts] [hPre_finite8 : Cert.Pre_finite8.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal_finite8 m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v7_0)) (v1 : (c : Dev Cert.FfnFinalIdeal.nD) → Buf (Elt Ideal) ((c.tc : Thread Cert.FfnFinalIdeal.nD Cert.FfnFinalIdeal.τ).loc Cert.FfnFinalIdeal.main_v7_1)) (v2 : (c : Dev Cert.FfnFinalIdeal.nD) → Buf (Elt Ideal) ((c.tc : Thread Cert.FfnFinalIdeal.nD Cert.FfnFinalIdeal.τ).loc Cert.FfnFinalIdeal.main_v7_2)) (v3 : (c : Dev Cert.FfnFinalIdeal.nD) → Buf (Elt Ideal) ((c.tc : Thread Cert.FfnFinalIdeal.nD Cert.FfnFinalIdeal.τ).loc Cert.FfnFinalIdeal.main_v7_3)) (v4 : (c : Dev Cert.FfnFinalIdeal.nD) → Buf (Elt Ideal) ((c.tc : Thread Cert.FfnFinalIdeal.nD Cert.FfnFinalIdeal.τ).loc Cert.FfnFinalIdeal.main_v7_4)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v7_0) = v0 c
          ∧ r.2.mem ((c.tc : Thread Cert.FfnFinalIdeal.nD Cert.FfnFinalIdeal.τ).loc Cert.FfnFinalIdeal.main_v7_1) = v1 c
          ∧ r.2.mem ((c.tc : Thread Cert.FfnFinalIdeal.nD Cert.FfnFinalIdeal.τ).loc Cert.FfnFinalIdeal.main_v7_2) = v2 c
          ∧ r.2.mem ((c.tc : Thread Cert.FfnFinalIdeal.nD Cert.FfnFinalIdeal.τ).loc Cert.FfnFinalIdeal.main_v7_3) = v3 c
          ∧ r.2.mem ((c.tc : Thread Cert.FfnFinalIdeal.nD Cert.FfnFinalIdeal.τ).loc Cert.FfnFinalIdeal.main_v7_4) = v4 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v86) = v0 c
          ∧ r.2.mem ((c.tc : Thread Cert.FfnFinalRefIdeal.nD Cert.FfnFinalRefIdeal.τ).loc Cert.FfnFinalRefIdeal.main_v89) = v1 c
          ∧ r.2.mem ((c.tc : Thread Cert.FfnFinalRefIdeal.nD Cert.FfnFinalRefIdeal.τ).loc Cert.FfnFinalRefIdeal.main_v73) = v2 c
          ∧ r.2.mem ((c.tc : Thread Cert.FfnFinalRefIdeal.nD Cert.FfnFinalRefIdeal.τ).loc Cert.FfnFinalRefIdeal.main_v90) = v3 c
          ∧ r.2.mem ((c.tc : Thread Cert.FfnFinalRefIdeal.nD Cert.FfnFinalRefIdeal.τ).loc Cert.FfnFinalRefIdeal.main_v84) = v4 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_AttnPreBwd_AttnPreBwdIdeal : Prop :=
  True

def algebraic_AttnPreBwdIdeal_AttnPreBwdRefIdeal_pre_finite7 [hAttnPreBwdIdeal : Cert.AttnPreBwdIdeal.Facts] [hAttnPreBwdRefIdeal : Cert.AttnPreBwdRefIdeal.Facts] [hPre_finite7 : Cert.Pre_finite7.Facts] : Prop :=
  ∀ (m : (ℓ : Loc Cert.AttnPreBwdIdeal.nD Cert.AttnPreBwdIdeal.τ Cert.AttnPreBwdIdeal.sig) → Buf (Elt Ideal) ℓ) (g : Dev Cert.AttnPreBwdIdeal.nD → PrngReg)
    (m' : (ℓ : Loc Cert.AttnPreBwdRefIdeal.nD Cert.AttnPreBwdRefIdeal.τ Cert.AttnPreBwdRefIdeal.sig) → Buf (Elt Ideal) ℓ) (g' : Dev Cert.AttnPreBwdRefIdeal.nD → PrngReg), Pre_AttnPreBwdIdeal_finite7 m →
    (∀ c : Dev Cert.AttnPreBwdIdeal.nD,
      m' ((c.tc : Thread Cert.AttnPreBwdRefIdeal.nD Cert.AttnPreBwdRefIdeal.τ).loc Cert.AttnPreBwdRefIdeal.main_arg0) = m ((c.tc : Thread Cert.AttnPreBwdIdeal.nD Cert.AttnPreBwdIdeal.τ).loc Cert.AttnPreBwdIdeal.main_arg0)
      ∧ m' ((c.tc : Thread Cert.AttnPreBwdRefIdeal.nD Cert.AttnPreBwdRefIdeal.τ).loc Cert.AttnPreBwdRefIdeal.main_arg1) = m ((c.tc : Thread Cert.AttnPreBwdIdeal.nD Cert.AttnPreBwdIdeal.τ).loc Cert.AttnPreBwdIdeal.main_arg1)
      ∧ m' ((c.tc : Thread Cert.AttnPreBwdRefIdeal.nD Cert.AttnPreBwdRefIdeal.τ).loc Cert.AttnPreBwdRefIdeal.main_arg2) = m ((c.tc : Thread Cert.AttnPreBwdIdeal.nD Cert.AttnPreBwdIdeal.τ).loc Cert.AttnPreBwdIdeal.main_arg2)
      ∧ m' ((c.tc : Thread Cert.AttnPreBwdRefIdeal.nD Cert.AttnPreBwdRefIdeal.τ).loc Cert.AttnPreBwdRefIdeal.main_arg3) = m ((c.tc : Thread Cert.AttnPreBwdIdeal.nD Cert.AttnPreBwdIdeal.τ).loc Cert.AttnPreBwdIdeal.main_arg3)
      ∧ m' ((c.tc : Thread Cert.AttnPreBwdRefIdeal.nD Cert.AttnPreBwdRefIdeal.τ).loc Cert.AttnPreBwdRefIdeal.main_arg4) = m ((c.tc : Thread Cert.AttnPreBwdIdeal.nD Cert.AttnPreBwdIdeal.τ).loc Cert.AttnPreBwdIdeal.main_arg4)
      ∧ m' ((c.tc : Thread Cert.AttnPreBwdRefIdeal.nD Cert.AttnPreBwdRefIdeal.τ).loc Cert.AttnPreBwdRefIdeal.main_arg5) = m ((c.tc : Thread Cert.AttnPreBwdIdeal.nD Cert.AttnPreBwdIdeal.τ).loc Cert.AttnPreBwdIdeal.main_arg5)
      ∧ m' ((c.tc : Thread Cert.AttnPreBwdRefIdeal.nD Cert.AttnPreBwdRefIdeal.τ).loc Cert.AttnPreBwdRefIdeal.main_arg6) = m ((c.tc : Thread Cert.AttnPreBwdIdeal.nD Cert.AttnPreBwdIdeal.τ).loc Cert.AttnPreBwdIdeal.main_arg6)) →
    ∃ (v0 : (c : Dev Cert.AttnPreBwdIdeal.nD) → Buf (Elt Ideal) ((c.tc : Thread Cert.AttnPreBwdIdeal.nD Cert.AttnPreBwdIdeal.τ).loc Cert.AttnPreBwdIdeal.main_v42_0)) (v1 : (c : Dev Cert.AttnPreBwdIdeal.nD) → Buf (Elt Ideal) ((c.tc : Thread Cert.AttnPreBwdIdeal.nD Cert.AttnPreBwdIdeal.τ).loc Cert.AttnPreBwdIdeal.main_v42_1)) (v2 : (c : Dev Cert.AttnPreBwdIdeal.nD) → Buf (Elt Ideal) ((c.tc : Thread Cert.AttnPreBwdIdeal.nD Cert.AttnPreBwdIdeal.τ).loc Cert.AttnPreBwdIdeal.main_v42_2)) (v3 : (c : Dev Cert.AttnPreBwdIdeal.nD) → Buf (Elt Ideal) ((c.tc : Thread Cert.AttnPreBwdIdeal.nD Cert.AttnPreBwdIdeal.τ).loc Cert.AttnPreBwdIdeal.main_v42_3)),
      θ_run (Cert.AttnPreBwdIdeal.defs (F := Ideal)) (onTc (τ := Cert.AttnPreBwdIdeal.τ) (Cert.AttnPreBwdIdeal.main (F := Ideal))) ⟨m, fun _ => 0, g⟩ (fun r => ∀ c : Dev Cert.AttnPreBwdIdeal.nD,
          r.2.mem ((c.tc : Thread Cert.AttnPreBwdIdeal.nD Cert.AttnPreBwdIdeal.τ).loc Cert.AttnPreBwdIdeal.main_v42_0) = v0 c
          ∧ r.2.mem ((c.tc : Thread Cert.AttnPreBwdIdeal.nD Cert.AttnPreBwdIdeal.τ).loc Cert.AttnPreBwdIdeal.main_v42_1) = v1 c
          ∧ r.2.mem ((c.tc : Thread Cert.AttnPreBwdIdeal.nD Cert.AttnPreBwdIdeal.τ).loc Cert.AttnPreBwdIdeal.main_v42_2) = v2 c
          ∧ r.2.mem ((c.tc : Thread Cert.AttnPreBwdIdeal.nD Cert.AttnPreBwdIdeal.τ).loc Cert.AttnPreBwdIdeal.main_v42_3) = v3 c
          ∧ r.2.mem ((c.tc : Thread Cert.AttnPreBwdIdeal.nD Cert.AttnPreBwdIdeal.τ).loc Cert.AttnPreBwdIdeal.main_arg0) = m ((c.tc : Thread Cert.AttnPreBwdIdeal.nD Cert.AttnPreBwdIdeal.τ).loc Cert.AttnPreBwdIdeal.main_arg0)
          ∧ r.2.mem ((c.tc : Thread Cert.AttnPreBwdIdeal.nD Cert.AttnPreBwdIdeal.τ).loc Cert.AttnPreBwdIdeal.main_arg1) = m ((c.tc : Thread Cert.AttnPreBwdIdeal.nD Cert.AttnPreBwdIdeal.τ).loc Cert.AttnPreBwdIdeal.main_arg1)
          ∧ r.2.mem ((c.tc : Thread Cert.AttnPreBwdIdeal.nD Cert.AttnPreBwdIdeal.τ).loc Cert.AttnPreBwdIdeal.main_arg2) = m ((c.tc : Thread Cert.AttnPreBwdIdeal.nD Cert.AttnPreBwdIdeal.τ).loc Cert.AttnPreBwdIdeal.main_arg2)
          ∧ r.2.mem ((c.tc : Thread Cert.AttnPreBwdIdeal.nD Cert.AttnPreBwdIdeal.τ).loc Cert.AttnPreBwdIdeal.main_arg3) = m ((c.tc : Thread Cert.AttnPreBwdIdeal.nD Cert.AttnPreBwdIdeal.τ).loc Cert.AttnPreBwdIdeal.main_arg3)
          ∧ r.2.mem ((c.tc : Thread Cert.AttnPreBwdIdeal.nD Cert.AttnPreBwdIdeal.τ).loc Cert.AttnPreBwdIdeal.main_arg4) = m ((c.tc : Thread Cert.AttnPreBwdIdeal.nD Cert.AttnPreBwdIdeal.τ).loc Cert.AttnPreBwdIdeal.main_arg4)
          ∧ r.2.mem ((c.tc : Thread Cert.AttnPreBwdIdeal.nD Cert.AttnPreBwdIdeal.τ).loc Cert.AttnPreBwdIdeal.main_arg5) = m ((c.tc : Thread Cert.AttnPreBwdIdeal.nD Cert.AttnPreBwdIdeal.τ).loc Cert.AttnPreBwdIdeal.main_arg5)
          ∧ r.2.mem ((c.tc : Thread Cert.AttnPreBwdIdeal.nD Cert.AttnPreBwdIdeal.τ).loc Cert.AttnPreBwdIdeal.main_arg6) = m ((c.tc : Thread Cert.AttnPreBwdIdeal.nD Cert.AttnPreBwdIdeal.τ).loc Cert.AttnPreBwdIdeal.main_arg6))
      ∧ θ_run (Cert.AttnPreBwdRefIdeal.defs (F := Ideal)) (onTc (τ := Cert.AttnPreBwdRefIdeal.τ) (Cert.AttnPreBwdRefIdeal.main (F := Ideal))) ⟨m', fun _ => 0, g'⟩ (fun r => ∀ c : Dev Cert.AttnPreBwdRefIdeal.nD,
          r.2.mem ((c.tc : Thread Cert.AttnPreBwdRefIdeal.nD Cert.AttnPreBwdRefIdeal.τ).loc Cert.AttnPreBwdRefIdeal.main_v148) = v0 c
          ∧ r.2.mem ((c.tc : Thread Cert.AttnPreBwdRefIdeal.nD Cert.AttnPreBwdRefIdeal.τ).loc Cert.AttnPreBwdRefIdeal.main_v150) = v1 c
          ∧ r.2.mem ((c.tc : Thread Cert.AttnPreBwdRefIdeal.nD Cert.AttnPreBwdRefIdeal.τ).loc Cert.AttnPreBwdRefIdeal.main_v151) = v2 c
          ∧ r.2.mem ((c.tc : Thread Cert.AttnPreBwdRefIdeal.nD Cert.AttnPreBwdRefIdeal.τ).loc Cert.AttnPreBwdRefIdeal.main_v152) = v3 c
          ∧ r.2.mem ((c.tc : Thread Cert.AttnPreBwdRefIdeal.nD Cert.AttnPreBwdRefIdeal.τ).loc Cert.AttnPreBwdRefIdeal.main_arg0) = m' ((c.tc : Thread Cert.AttnPreBwdRefIdeal.nD Cert.AttnPreBwdRefIdeal.τ).loc Cert.AttnPreBwdRefIdeal.main_arg0)
          ∧ r.2.mem ((c.tc : Thread Cert.AttnPreBwdRefIdeal.nD Cert.AttnPreBwdRefIdeal.τ).loc Cert.AttnPreBwdRefIdeal.main_arg1) = m' ((c.tc : Thread Cert.AttnPreBwdRefIdeal.nD Cert.AttnPreBwdRefIdeal.τ).loc Cert.AttnPreBwdRefIdeal.main_arg1)
          ∧ r.2.mem ((c.tc : Thread Cert.AttnPreBwdRefIdeal.nD Cert.AttnPreBwdRefIdeal.τ).loc Cert.AttnPreBwdRefIdeal.main_arg2) = m' ((c.tc : Thread Cert.AttnPreBwdRefIdeal.nD Cert.AttnPreBwdRefIdeal.τ).loc Cert.AttnPreBwdRefIdeal.main_arg2)
          ∧ r.2.mem ((c.tc : Thread Cert.AttnPreBwdRefIdeal.nD Cert.AttnPreBwdRefIdeal.τ).loc Cert.AttnPreBwdRefIdeal.main_arg3) = m' ((c.tc : Thread Cert.AttnPreBwdRefIdeal.nD Cert.AttnPreBwdRefIdeal.τ).loc Cert.AttnPreBwdRefIdeal.main_arg3)
          ∧ r.2.mem ((c.tc : Thread Cert.AttnPreBwdRefIdeal.nD Cert.AttnPreBwdRefIdeal.τ).loc Cert.AttnPreBwdRefIdeal.main_arg4) = m' ((c.tc : Thread Cert.AttnPreBwdRefIdeal.nD Cert.AttnPreBwdRefIdeal.τ).loc Cert.AttnPreBwdRefIdeal.main_arg4)
          ∧ r.2.mem ((c.tc : Thread Cert.AttnPreBwdRefIdeal.nD Cert.AttnPreBwdRefIdeal.τ).loc Cert.AttnPreBwdRefIdeal.main_arg5) = m' ((c.tc : Thread Cert.AttnPreBwdRefIdeal.nD Cert.AttnPreBwdRefIdeal.τ).loc Cert.AttnPreBwdRefIdeal.main_arg5)
          ∧ r.2.mem ((c.tc : Thread Cert.AttnPreBwdRefIdeal.nD Cert.AttnPreBwdRefIdeal.τ).loc Cert.AttnPreBwdRefIdeal.main_arg6) = m' ((c.tc : Thread Cert.AttnPreBwdRefIdeal.nD Cert.AttnPreBwdRefIdeal.τ).loc Cert.AttnPreBwdRefIdeal.main_arg6))

def preserves_AttnBwd_AttnBwdIdeal : Prop :=
  True

def algebraic_AttnBwdIdeal_AttnBwdRefIdeal_pre_finite5 [hAttnBwdIdeal : Cert.AttnBwdIdeal.Facts] [hAttnBwdRefIdeal : Cert.AttnBwdRefIdeal.Facts] [hPre_finite5 : Cert.Pre_finite5.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite5 m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v37_0)) (v1 : (c : Dev Cert.AttnBwdIdeal.nD) → Buf (Elt Ideal) ((c.tc : Thread Cert.AttnBwdIdeal.nD Cert.AttnBwdIdeal.τ).loc Cert.AttnBwdIdeal.main_v37_1)) (v2 : (c : Dev Cert.AttnBwdIdeal.nD) → Buf (Elt Ideal) ((c.tc : Thread Cert.AttnBwdIdeal.nD Cert.AttnBwdIdeal.τ).loc Cert.AttnBwdIdeal.main_v37_2)) (v3 : (c : Dev Cert.AttnBwdIdeal.nD) → Buf (Elt Ideal) ((c.tc : Thread Cert.AttnBwdIdeal.nD Cert.AttnBwdIdeal.τ).loc Cert.AttnBwdIdeal.main_v37_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v37_0) = v0 c
          ∧ r.2.mem ((c.tc : Thread Cert.AttnBwdIdeal.nD Cert.AttnBwdIdeal.τ).loc Cert.AttnBwdIdeal.main_v37_1) = v1 c
          ∧ r.2.mem ((c.tc : Thread Cert.AttnBwdIdeal.nD Cert.AttnBwdIdeal.τ).loc Cert.AttnBwdIdeal.main_v37_2) = v2 c
          ∧ r.2.mem ((c.tc : Thread Cert.AttnBwdIdeal.nD Cert.AttnBwdIdeal.τ).loc Cert.AttnBwdIdeal.main_v37_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v177) = v0 c
          ∧ r.2.mem ((c.tc : Thread Cert.AttnBwdRefIdeal.nD Cert.AttnBwdRefIdeal.τ).loc Cert.AttnBwdRefIdeal.main_v179) = v1 c
          ∧ r.2.mem ((c.tc : Thread Cert.AttnBwdRefIdeal.nD Cert.AttnBwdRefIdeal.τ).loc Cert.AttnBwdRefIdeal.main_v181) = v2 c
          ∧ r.2.mem ((c.tc : Thread Cert.AttnBwdRefIdeal.nD Cert.AttnBwdRefIdeal.τ).loc Cert.AttnBwdRefIdeal.main_v183) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_AttnFwd_AttnFwdIdeal : Prop :=
  True

def algebraic_AttnFwdIdeal_AttnFwdRefIdeal_pre_finite9 [hAttnFwdIdeal : Cert.AttnFwdIdeal.Facts] [hAttnFwdRefIdeal : Cert.AttnFwdRefIdeal.Facts] [hPre_finite9 : Cert.Pre_finite9.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite9 m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v34)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v34) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v73) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_ConvPre_ConvPreIdeal : Prop :=
  True

def algebraic_ConvPreIdeal_ConvPreRefIdeal [hConvPreIdeal : Cert.ConvPreIdeal.Facts] [hConvPreRefIdeal : Cert.ConvPreRefIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg)
    (m' : (ℓ : Loc Cert.ConvPreRefIdeal.nD Cert.ConvPreRefIdeal.τ Cert.ConvPreRefIdeal.sig) → Buf (Elt Ideal) ℓ) (g' : Dev Cert.ConvPreRefIdeal.nD → PrngReg), Pre_ConvPreIdeal m →
    (∀ c : Dev Cert.ConvPreIdeal.nD,
      m' ((c.tc : Thread Cert.ConvPreRefIdeal.nD Cert.ConvPreRefIdeal.τ).loc Cert.ConvPreRefIdeal.main_arg0) = m ((c.tc : Thread Cert.ConvPreIdeal.nD Cert.ConvPreIdeal.τ).loc Cert.ConvPreIdeal.main_arg0)
      ∧ m' ((c.tc : Thread Cert.ConvPreRefIdeal.nD Cert.ConvPreRefIdeal.τ).loc Cert.ConvPreRefIdeal.main_arg1) = m ((c.tc : Thread Cert.ConvPreIdeal.nD Cert.ConvPreIdeal.τ).loc Cert.ConvPreIdeal.main_arg1)
      ∧ m' ((c.tc : Thread Cert.ConvPreRefIdeal.nD Cert.ConvPreRefIdeal.τ).loc Cert.ConvPreRefIdeal.main_arg2) = m ((c.tc : Thread Cert.ConvPreIdeal.nD Cert.ConvPreIdeal.τ).loc Cert.ConvPreIdeal.main_arg2)
      ∧ m' ((c.tc : Thread Cert.ConvPreRefIdeal.nD Cert.ConvPreRefIdeal.τ).loc Cert.ConvPreRefIdeal.main_arg3) = m ((c.tc : Thread Cert.ConvPreIdeal.nD Cert.ConvPreIdeal.τ).loc Cert.ConvPreIdeal.main_arg3)) →
    ∃ (v0 : (c : Dev Cert.ConvPreIdeal.nD) → Buf (Elt Ideal) ((c.tc : Thread Cert.ConvPreIdeal.nD Cert.ConvPreIdeal.τ).loc Cert.ConvPreIdeal.main_v5_0)) (v1 : (c : Dev Cert.ConvPreIdeal.nD) → Buf (Elt Ideal) ((c.tc : Thread Cert.ConvPreIdeal.nD Cert.ConvPreIdeal.τ).loc Cert.ConvPreIdeal.main_v5_1)),
      θ_run (Cert.ConvPreIdeal.defs (F := Ideal)) (onTc (τ := Cert.ConvPreIdeal.τ) (Cert.ConvPreIdeal.main (F := Ideal))) ⟨m, fun _ => 0, g⟩ (fun r => ∀ c : Dev Cert.ConvPreIdeal.nD,
          r.2.mem ((c.tc : Thread Cert.ConvPreIdeal.nD Cert.ConvPreIdeal.τ).loc Cert.ConvPreIdeal.main_v5_0) = v0 c
          ∧ r.2.mem ((c.tc : Thread Cert.ConvPreIdeal.nD Cert.ConvPreIdeal.τ).loc Cert.ConvPreIdeal.main_v5_1) = v1 c
          ∧ r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
          ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
          ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
          ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3))
      ∧ θ_run (Cert.ConvPreRefIdeal.defs (F := Ideal)) (onTc (τ := Cert.ConvPreRefIdeal.τ) (Cert.ConvPreRefIdeal.main (F := Ideal))) ⟨m', fun _ => 0, g'⟩ (fun r => ∀ c : Dev Cert.ConvPreRefIdeal.nD,
          r.2.mem ((c.tc : Thread Cert.ConvPreRefIdeal.nD Cert.ConvPreRefIdeal.τ).loc Cert.ConvPreRefIdeal.main_v19) = v0 c
          ∧ r.2.mem ((c.tc : Thread Cert.ConvPreRefIdeal.nD Cert.ConvPreRefIdeal.τ).loc Cert.ConvPreRefIdeal.main_v28) = v1 c
          ∧ r.2.mem ((c.tc : Thread Cert.ConvPreRefIdeal.nD Cert.ConvPreRefIdeal.τ).loc Cert.ConvPreRefIdeal.main_arg0) = m' ((c.tc : Thread Cert.ConvPreRefIdeal.nD Cert.ConvPreRefIdeal.τ).loc Cert.ConvPreRefIdeal.main_arg0)
          ∧ r.2.mem ((c.tc : Thread Cert.ConvPreRefIdeal.nD Cert.ConvPreRefIdeal.τ).loc Cert.ConvPreRefIdeal.main_arg1) = m' ((c.tc : Thread Cert.ConvPreRefIdeal.nD Cert.ConvPreRefIdeal.τ).loc Cert.ConvPreRefIdeal.main_arg1)
          ∧ r.2.mem ((c.tc : Thread Cert.ConvPreRefIdeal.nD Cert.ConvPreRefIdeal.τ).loc Cert.ConvPreRefIdeal.main_arg2) = m' ((c.tc : Thread Cert.ConvPreRefIdeal.nD Cert.ConvPreRefIdeal.τ).loc Cert.ConvPreRefIdeal.main_arg2)
          ∧ r.2.mem ((c.tc : Thread Cert.ConvPreRefIdeal.nD Cert.ConvPreRefIdeal.τ).loc Cert.ConvPreRefIdeal.main_arg3) = m' ((c.tc : Thread Cert.ConvPreRefIdeal.nD Cert.ConvPreRefIdeal.τ).loc Cert.ConvPreRefIdeal.main_arg3))

def preserves_ConvPost_ConvPostIdeal : Prop :=
  True

def algebraic_ConvPostIdeal_ConvPostRefIdeal [hConvPostIdeal : Cert.ConvPostIdeal.Facts] [hConvPostRefIdeal : Cert.ConvPostRefIdeal.Facts] : Prop :=
  ∀ (m : (ℓ : Loc Cert.ConvPostIdeal.nD Cert.ConvPostIdeal.τ Cert.ConvPostIdeal.sig) → Buf (Elt Ideal) ℓ) (g : Dev Cert.ConvPostIdeal.nD → PrngReg)
    (m' : (ℓ : Loc Cert.ConvPostRefIdeal.nD Cert.ConvPostRefIdeal.τ Cert.ConvPostRefIdeal.sig) → Buf (Elt Ideal) ℓ) (g' : Dev Cert.ConvPostRefIdeal.nD → PrngReg), Pre_ConvPostIdeal m →
    (∀ c : Dev Cert.ConvPostIdeal.nD,
      m' ((c.tc : Thread Cert.ConvPostRefIdeal.nD Cert.ConvPostRefIdeal.τ).loc Cert.ConvPostRefIdeal.main_arg0) = m ((c.tc : Thread Cert.ConvPostIdeal.nD Cert.ConvPostIdeal.τ).loc Cert.ConvPostIdeal.main_arg0)
      ∧ m' ((c.tc : Thread Cert.ConvPostRefIdeal.nD Cert.ConvPostRefIdeal.τ).loc Cert.ConvPostRefIdeal.main_arg1) = m ((c.tc : Thread Cert.ConvPostIdeal.nD Cert.ConvPostIdeal.τ).loc Cert.ConvPostIdeal.main_arg1)
      ∧ m' ((c.tc : Thread Cert.ConvPostRefIdeal.nD Cert.ConvPostRefIdeal.τ).loc Cert.ConvPostRefIdeal.main_arg2) = m ((c.tc : Thread Cert.ConvPostIdeal.nD Cert.ConvPostIdeal.τ).loc Cert.ConvPostIdeal.main_arg2)
      ∧ m' ((c.tc : Thread Cert.ConvPostRefIdeal.nD Cert.ConvPostRefIdeal.τ).loc Cert.ConvPostRefIdeal.main_arg3) = m ((c.tc : Thread Cert.ConvPostIdeal.nD Cert.ConvPostIdeal.τ).loc Cert.ConvPostIdeal.main_arg3)
      ∧ m' ((c.tc : Thread Cert.ConvPostRefIdeal.nD Cert.ConvPostRefIdeal.τ).loc Cert.ConvPostRefIdeal.main_arg4) = m ((c.tc : Thread Cert.ConvPostIdeal.nD Cert.ConvPostIdeal.τ).loc Cert.ConvPostIdeal.main_arg4)
      ∧ m' ((c.tc : Thread Cert.ConvPostRefIdeal.nD Cert.ConvPostRefIdeal.τ).loc Cert.ConvPostRefIdeal.main_arg5) = m ((c.tc : Thread Cert.ConvPostIdeal.nD Cert.ConvPostIdeal.τ).loc Cert.ConvPostIdeal.main_arg5)
      ∧ m' ((c.tc : Thread Cert.ConvPostRefIdeal.nD Cert.ConvPostRefIdeal.τ).loc Cert.ConvPostRefIdeal.main_arg6) = m ((c.tc : Thread Cert.ConvPostIdeal.nD Cert.ConvPostIdeal.τ).loc Cert.ConvPostIdeal.main_arg6)) →
    ∃ (v0 : (c : Dev Cert.ConvPostIdeal.nD) → Buf (Elt Ideal) ((c.tc : Thread Cert.ConvPostIdeal.nD Cert.ConvPostIdeal.τ).loc Cert.ConvPostIdeal.main_v7_0)) (v1 : (c : Dev Cert.ConvPostIdeal.nD) → Buf (Elt Ideal) ((c.tc : Thread Cert.ConvPostIdeal.nD Cert.ConvPostIdeal.τ).loc Cert.ConvPostIdeal.main_v7_1)),
      θ_run (Cert.ConvPostIdeal.defs (F := Ideal)) (onTc (τ := Cert.ConvPostIdeal.τ) (Cert.ConvPostIdeal.main (F := Ideal))) ⟨m, fun _ => 0, g⟩ (fun r => ∀ c : Dev Cert.ConvPostIdeal.nD,
          r.2.mem ((c.tc : Thread Cert.ConvPostIdeal.nD Cert.ConvPostIdeal.τ).loc Cert.ConvPostIdeal.main_v7_0) = v0 c
          ∧ r.2.mem ((c.tc : Thread Cert.ConvPostIdeal.nD Cert.ConvPostIdeal.τ).loc Cert.ConvPostIdeal.main_v7_1) = v1 c
          ∧ r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
          ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
          ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
          ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3)
          ∧ r.2.mem ((c.tc : Thread Cert.ConvPostIdeal.nD Cert.ConvPostIdeal.τ).loc Cert.ConvPostIdeal.main_arg4) = m ((c.tc : Thread Cert.ConvPostIdeal.nD Cert.ConvPostIdeal.τ).loc Cert.ConvPostIdeal.main_arg4)
          ∧ r.2.mem ((c.tc : Thread Cert.ConvPostIdeal.nD Cert.ConvPostIdeal.τ).loc Cert.ConvPostIdeal.main_arg5) = m ((c.tc : Thread Cert.ConvPostIdeal.nD Cert.ConvPostIdeal.τ).loc Cert.ConvPostIdeal.main_arg5)
          ∧ r.2.mem ((c.tc : Thread Cert.ConvPostIdeal.nD Cert.ConvPostIdeal.τ).loc Cert.ConvPostIdeal.main_arg6) = m ((c.tc : Thread Cert.ConvPostIdeal.nD Cert.ConvPostIdeal.τ).loc Cert.ConvPostIdeal.main_arg6))
      ∧ θ_run (Cert.ConvPostRefIdeal.defs (F := Ideal)) (onTc (τ := Cert.ConvPostRefIdeal.τ) (Cert.ConvPostRefIdeal.main (F := Ideal))) ⟨m', fun _ => 0, g'⟩ (fun r => ∀ c : Dev Cert.ConvPostRefIdeal.nD,
          r.2.mem ((c.tc : Thread Cert.ConvPostRefIdeal.nD Cert.ConvPostRefIdeal.τ).loc Cert.ConvPostRefIdeal.main_v29) = v0 c
          ∧ r.2.mem ((c.tc : Thread Cert.ConvPostRefIdeal.nD Cert.ConvPostRefIdeal.τ).loc Cert.ConvPostRefIdeal.main_v34) = v1 c
          ∧ r.2.mem ((c.tc : Thread Cert.ConvPostRefIdeal.nD Cert.ConvPostRefIdeal.τ).loc Cert.ConvPostRefIdeal.main_arg0) = m' ((c.tc : Thread Cert.ConvPostRefIdeal.nD Cert.ConvPostRefIdeal.τ).loc Cert.ConvPostRefIdeal.main_arg0)
          ∧ r.2.mem ((c.tc : Thread Cert.ConvPostRefIdeal.nD Cert.ConvPostRefIdeal.τ).loc Cert.ConvPostRefIdeal.main_arg1) = m' ((c.tc : Thread Cert.ConvPostRefIdeal.nD Cert.ConvPostRefIdeal.τ).loc Cert.ConvPostRefIdeal.main_arg1)
          ∧ r.2.mem ((c.tc : Thread Cert.ConvPostRefIdeal.nD Cert.ConvPostRefIdeal.τ).loc Cert.ConvPostRefIdeal.main_arg2) = m' ((c.tc : Thread Cert.ConvPostRefIdeal.nD Cert.ConvPostRefIdeal.τ).loc Cert.ConvPostRefIdeal.main_arg2)
          ∧ r.2.mem ((c.tc : Thread Cert.ConvPostRefIdeal.nD Cert.ConvPostRefIdeal.τ).loc Cert.ConvPostRefIdeal.main_arg3) = m' ((c.tc : Thread Cert.ConvPostRefIdeal.nD Cert.ConvPostRefIdeal.τ).loc Cert.ConvPostRefIdeal.main_arg3)
          ∧ r.2.mem ((c.tc : Thread Cert.ConvPostRefIdeal.nD Cert.ConvPostRefIdeal.τ).loc Cert.ConvPostRefIdeal.main_arg4) = m' ((c.tc : Thread Cert.ConvPostRefIdeal.nD Cert.ConvPostRefIdeal.τ).loc Cert.ConvPostRefIdeal.main_arg4)
          ∧ r.2.mem ((c.tc : Thread Cert.ConvPostRefIdeal.nD Cert.ConvPostRefIdeal.τ).loc Cert.ConvPostRefIdeal.main_arg5) = m' ((c.tc : Thread Cert.ConvPostRefIdeal.nD Cert.ConvPostRefIdeal.τ).loc Cert.ConvPostRefIdeal.main_arg5)
          ∧ r.2.mem ((c.tc : Thread Cert.ConvPostRefIdeal.nD Cert.ConvPostRefIdeal.τ).loc Cert.ConvPostRefIdeal.main_arg6) = m' ((c.tc : Thread Cert.ConvPostRefIdeal.nD Cert.ConvPostRefIdeal.τ).loc Cert.ConvPostRefIdeal.main_arg6))

def preserves_FfnFwdAttn_FfnFwdAttnIdeal : Prop :=
  True

def algebraic_FfnFwdAttnIdeal_FfnFwdAttnRefIdeal_pre_finite11 [hFfnFwdAttnIdeal : Cert.FfnFwdAttnIdeal.Facts] [hFfnFwdAttnRefIdeal : Cert.FfnFwdAttnRefIdeal.Facts] [hPre_finite11 : Cert.Pre_finite11.Facts] : Prop :=
  ∀ (m : (ℓ : Loc Cert.FfnFwdAttnIdeal.nD Cert.FfnFwdAttnIdeal.τ Cert.FfnFwdAttnIdeal.sig) → Buf (Elt Ideal) ℓ) (g : Dev Cert.FfnFwdAttnIdeal.nD → PrngReg)
    (m' : (ℓ : Loc Cert.FfnFwdAttnRefIdeal.nD Cert.FfnFwdAttnRefIdeal.τ Cert.FfnFwdAttnRefIdeal.sig) → Buf (Elt Ideal) ℓ) (g' : Dev Cert.FfnFwdAttnRefIdeal.nD → PrngReg), Pre_FfnFwdAttnIdeal_finite11 m →
    (∀ c : Dev Cert.FfnFwdAttnIdeal.nD,
      m' ((c.tc : Thread Cert.FfnFwdAttnRefIdeal.nD Cert.FfnFwdAttnRefIdeal.τ).loc Cert.FfnFwdAttnRefIdeal.main_arg0) = m ((c.tc : Thread Cert.FfnFwdAttnIdeal.nD Cert.FfnFwdAttnIdeal.τ).loc Cert.FfnFwdAttnIdeal.main_arg0)
      ∧ m' ((c.tc : Thread Cert.FfnFwdAttnRefIdeal.nD Cert.FfnFwdAttnRefIdeal.τ).loc Cert.FfnFwdAttnRefIdeal.main_arg1) = m ((c.tc : Thread Cert.FfnFwdAttnIdeal.nD Cert.FfnFwdAttnIdeal.τ).loc Cert.FfnFwdAttnIdeal.main_arg1)
      ∧ m' ((c.tc : Thread Cert.FfnFwdAttnRefIdeal.nD Cert.FfnFwdAttnRefIdeal.τ).loc Cert.FfnFwdAttnRefIdeal.main_arg2) = m ((c.tc : Thread Cert.FfnFwdAttnIdeal.nD Cert.FfnFwdAttnIdeal.τ).loc Cert.FfnFwdAttnIdeal.main_arg2)
      ∧ m' ((c.tc : Thread Cert.FfnFwdAttnRefIdeal.nD Cert.FfnFwdAttnRefIdeal.τ).loc Cert.FfnFwdAttnRefIdeal.main_arg3) = m ((c.tc : Thread Cert.FfnFwdAttnIdeal.nD Cert.FfnFwdAttnIdeal.τ).loc Cert.FfnFwdAttnIdeal.main_arg3)
      ∧ m' ((c.tc : Thread Cert.FfnFwdAttnRefIdeal.nD Cert.FfnFwdAttnRefIdeal.τ).loc Cert.FfnFwdAttnRefIdeal.main_arg4) = m ((c.tc : Thread Cert.FfnFwdAttnIdeal.nD Cert.FfnFwdAttnIdeal.τ).loc Cert.FfnFwdAttnIdeal.main_arg4)
      ∧ m' ((c.tc : Thread Cert.FfnFwdAttnRefIdeal.nD Cert.FfnFwdAttnRefIdeal.τ).loc Cert.FfnFwdAttnRefIdeal.main_arg5) = m ((c.tc : Thread Cert.FfnFwdAttnIdeal.nD Cert.FfnFwdAttnIdeal.τ).loc Cert.FfnFwdAttnIdeal.main_arg5)) →
    ∃ (v0 : (c : Dev Cert.FfnFwdAttnIdeal.nD) → Buf (Elt Ideal) ((c.tc : Thread Cert.FfnFwdAttnIdeal.nD Cert.FfnFwdAttnIdeal.τ).loc Cert.FfnFwdAttnIdeal.main_v10_0)) (v1 : (c : Dev Cert.FfnFwdAttnIdeal.nD) → Buf (Elt Ideal) ((c.tc : Thread Cert.FfnFwdAttnIdeal.nD Cert.FfnFwdAttnIdeal.τ).loc Cert.FfnFwdAttnIdeal.main_v10_1)) (v2 : (c : Dev Cert.FfnFwdAttnIdeal.nD) → Buf (Elt Ideal) ((c.tc : Thread Cert.FfnFwdAttnIdeal.nD Cert.FfnFwdAttnIdeal.τ).loc Cert.FfnFwdAttnIdeal.main_v10_2)) (v3 : (c : Dev Cert.FfnFwdAttnIdeal.nD) → Buf (Elt Ideal) ((c.tc : Thread Cert.FfnFwdAttnIdeal.nD Cert.FfnFwdAttnIdeal.τ).loc Cert.FfnFwdAttnIdeal.main_v10_3)),
      θ_run (Cert.FfnFwdAttnIdeal.defs (F := Ideal)) (onTc (τ := Cert.FfnFwdAttnIdeal.τ) (Cert.FfnFwdAttnIdeal.main (F := Ideal))) ⟨m, fun _ => 0, g⟩ (fun r => ∀ c : Dev Cert.FfnFwdAttnIdeal.nD,
          r.2.mem ((c.tc : Thread Cert.FfnFwdAttnIdeal.nD Cert.FfnFwdAttnIdeal.τ).loc Cert.FfnFwdAttnIdeal.main_v10_0) = v0 c
          ∧ r.2.mem ((c.tc : Thread Cert.FfnFwdAttnIdeal.nD Cert.FfnFwdAttnIdeal.τ).loc Cert.FfnFwdAttnIdeal.main_v10_1) = v1 c
          ∧ r.2.mem ((c.tc : Thread Cert.FfnFwdAttnIdeal.nD Cert.FfnFwdAttnIdeal.τ).loc Cert.FfnFwdAttnIdeal.main_v10_2) = v2 c
          ∧ r.2.mem ((c.tc : Thread Cert.FfnFwdAttnIdeal.nD Cert.FfnFwdAttnIdeal.τ).loc Cert.FfnFwdAttnIdeal.main_v10_3) = v3 c
          ∧ r.2.mem ((c.tc : Thread Cert.FfnFwdAttnIdeal.nD Cert.FfnFwdAttnIdeal.τ).loc Cert.FfnFwdAttnIdeal.main_arg0) = m ((c.tc : Thread Cert.FfnFwdAttnIdeal.nD Cert.FfnFwdAttnIdeal.τ).loc Cert.FfnFwdAttnIdeal.main_arg0)
          ∧ r.2.mem ((c.tc : Thread Cert.FfnFwdAttnIdeal.nD Cert.FfnFwdAttnIdeal.τ).loc Cert.FfnFwdAttnIdeal.main_arg1) = m ((c.tc : Thread Cert.FfnFwdAttnIdeal.nD Cert.FfnFwdAttnIdeal.τ).loc Cert.FfnFwdAttnIdeal.main_arg1)
          ∧ r.2.mem ((c.tc : Thread Cert.FfnFwdAttnIdeal.nD Cert.FfnFwdAttnIdeal.τ).loc Cert.FfnFwdAttnIdeal.main_arg2) = m ((c.tc : Thread Cert.FfnFwdAttnIdeal.nD Cert.FfnFwdAttnIdeal.τ).loc Cert.FfnFwdAttnIdeal.main_arg2)
          ∧ r.2.mem ((c.tc : Thread Cert.FfnFwdAttnIdeal.nD Cert.FfnFwdAttnIdeal.τ).loc Cert.FfnFwdAttnIdeal.main_arg3) = m ((c.tc : Thread Cert.FfnFwdAttnIdeal.nD Cert.FfnFwdAttnIdeal.τ).loc Cert.FfnFwdAttnIdeal.main_arg3)
          ∧ r.2.mem ((c.tc : Thread Cert.FfnFwdAttnIdeal.nD Cert.FfnFwdAttnIdeal.τ).loc Cert.FfnFwdAttnIdeal.main_arg4) = m ((c.tc : Thread Cert.FfnFwdAttnIdeal.nD Cert.FfnFwdAttnIdeal.τ).loc Cert.FfnFwdAttnIdeal.main_arg4)
          ∧ r.2.mem ((c.tc : Thread Cert.FfnFwdAttnIdeal.nD Cert.FfnFwdAttnIdeal.τ).loc Cert.FfnFwdAttnIdeal.main_arg5) = m ((c.tc : Thread Cert.FfnFwdAttnIdeal.nD Cert.FfnFwdAttnIdeal.τ).loc Cert.FfnFwdAttnIdeal.main_arg5))
      ∧ θ_run (Cert.FfnFwdAttnRefIdeal.defs (F := Ideal)) (onTc (τ := Cert.FfnFwdAttnRefIdeal.τ) (Cert.FfnFwdAttnRefIdeal.main (F := Ideal))) ⟨m', fun _ => 0, g'⟩ (fun r => ∀ c : Dev Cert.FfnFwdAttnRefIdeal.nD,
          r.2.mem ((c.tc : Thread Cert.FfnFwdAttnRefIdeal.nD Cert.FfnFwdAttnRefIdeal.τ).loc Cert.FfnFwdAttnRefIdeal.main_v1) = v0 c
          ∧ r.2.mem ((c.tc : Thread Cert.FfnFwdAttnRefIdeal.nD Cert.FfnFwdAttnRefIdeal.τ).loc Cert.FfnFwdAttnRefIdeal.main_v27) = v1 c
          ∧ r.2.mem ((c.tc : Thread Cert.FfnFwdAttnRefIdeal.nD Cert.FfnFwdAttnRefIdeal.τ).loc Cert.FfnFwdAttnRefIdeal.main_v30) = v2 c
          ∧ r.2.mem ((c.tc : Thread Cert.FfnFwdAttnRefIdeal.nD Cert.FfnFwdAttnRefIdeal.τ).loc Cert.FfnFwdAttnRefIdeal.main_v32) = v3 c
          ∧ r.2.mem ((c.tc : Thread Cert.FfnFwdAttnRefIdeal.nD Cert.FfnFwdAttnRefIdeal.τ).loc Cert.FfnFwdAttnRefIdeal.main_arg0) = m' ((c.tc : Thread Cert.FfnFwdAttnRefIdeal.nD Cert.FfnFwdAttnRefIdeal.τ).loc Cert.FfnFwdAttnRefIdeal.main_arg0)
          ∧ r.2.mem ((c.tc : Thread Cert.FfnFwdAttnRefIdeal.nD Cert.FfnFwdAttnRefIdeal.τ).loc Cert.FfnFwdAttnRefIdeal.main_arg1) = m' ((c.tc : Thread Cert.FfnFwdAttnRefIdeal.nD Cert.FfnFwdAttnRefIdeal.τ).loc Cert.FfnFwdAttnRefIdeal.main_arg1)
          ∧ r.2.mem ((c.tc : Thread Cert.FfnFwdAttnRefIdeal.nD Cert.FfnFwdAttnRefIdeal.τ).loc Cert.FfnFwdAttnRefIdeal.main_arg2) = m' ((c.tc : Thread Cert.FfnFwdAttnRefIdeal.nD Cert.FfnFwdAttnRefIdeal.τ).loc Cert.FfnFwdAttnRefIdeal.main_arg2)
          ∧ r.2.mem ((c.tc : Thread Cert.FfnFwdAttnRefIdeal.nD Cert.FfnFwdAttnRefIdeal.τ).loc Cert.FfnFwdAttnRefIdeal.main_arg3) = m' ((c.tc : Thread Cert.FfnFwdAttnRefIdeal.nD Cert.FfnFwdAttnRefIdeal.τ).loc Cert.FfnFwdAttnRefIdeal.main_arg3)
          ∧ r.2.mem ((c.tc : Thread Cert.FfnFwdAttnRefIdeal.nD Cert.FfnFwdAttnRefIdeal.τ).loc Cert.FfnFwdAttnRefIdeal.main_arg4) = m' ((c.tc : Thread Cert.FfnFwdAttnRefIdeal.nD Cert.FfnFwdAttnRefIdeal.τ).loc Cert.FfnFwdAttnRefIdeal.main_arg4)
          ∧ r.2.mem ((c.tc : Thread Cert.FfnFwdAttnRefIdeal.nD Cert.FfnFwdAttnRefIdeal.τ).loc Cert.FfnFwdAttnRefIdeal.main_arg5) = m' ((c.tc : Thread Cert.FfnFwdAttnRefIdeal.nD Cert.FfnFwdAttnRefIdeal.τ).loc Cert.FfnFwdAttnRefIdeal.main_arg5))

def Claim : Prop :=
  ∃ (hConvPostBwd : Cert.ConvPostBwd.Facts) (hConvPostBwdIdeal : Cert.ConvPostBwdIdeal.Facts) (hConvPostBwdRefIdeal : Cert.ConvPostBwdRefIdeal.Facts) (hConvPreBwd : Cert.ConvPreBwd.Facts) (hConvPreBwdIdeal : Cert.ConvPreBwdIdeal.Facts) (hConvPreBwdRefIdeal : Cert.ConvPreBwdRefIdeal.Facts) (hFfnBwd : Cert.FfnBwd.Facts) (hFfnBwdIdeal : Cert.FfnBwdIdeal.Facts) (hFfnBwdRefIdeal : Cert.FfnBwdRefIdeal.Facts) (hFfnBwdOut : Cert.FfnBwdOut.Facts) (hFfnBwdOutIdeal : Cert.FfnBwdOutIdeal.Facts) (hFfnBwdOutRefIdeal : Cert.FfnBwdOutRefIdeal.Facts) (hFfnFinal : Cert.FfnFinal.Facts) (hFfnFinalIdeal : Cert.FfnFinalIdeal.Facts) (hFfnFinalRefIdeal : Cert.FfnFinalRefIdeal.Facts) (hAttnPreBwd : Cert.AttnPreBwd.Facts) (hAttnPreBwdIdeal : Cert.AttnPreBwdIdeal.Facts) (hAttnPreBwdRefIdeal : Cert.AttnPreBwdRefIdeal.Facts) (hAttnBwd : Cert.AttnBwd.Facts) (hAttnBwdIdeal : Cert.AttnBwdIdeal.Facts) (hAttnBwdRefIdeal : Cert.AttnBwdRefIdeal.Facts) (hAttnFwd : Cert.AttnFwd.Facts) (hAttnFwdIdeal : Cert.AttnFwdIdeal.Facts) (hAttnFwdRefIdeal : Cert.AttnFwdRefIdeal.Facts) (hConvPre : Cert.ConvPre.Facts) (hConvPreIdeal : Cert.ConvPreIdeal.Facts) (hConvPreRefIdeal : Cert.ConvPreRefIdeal.Facts) (hConvPost : Cert.ConvPost.Facts) (hConvPostIdeal : Cert.ConvPostIdeal.Facts) (hConvPostRefIdeal : Cert.ConvPostRefIdeal.Facts) (hFfnFwdAttn : Cert.FfnFwdAttn.Facts) (hFfnFwdAttnIdeal : Cert.FfnFwdAttnIdeal.Facts) (hFfnFwdAttnRefIdeal : Cert.FfnFwdAttnRefIdeal.Facts) (hPre_all_finite3 : Cert.Pre_all_finite3.Facts) (hPre_finite2 : Cert.Pre_finite2.Facts) (hPre_finite4 : Cert.Pre_finite4.Facts) (hPre_finite6 : Cert.Pre_finite6.Facts) (hPre_finite8 : Cert.Pre_finite8.Facts) (hPre_finite7 : Cert.Pre_finite7.Facts) (hPre_finite5 : Cert.Pre_finite5.Facts) (hPre_finite9 : Cert.Pre_finite9.Facts) (hPre_finite11 : Cert.Pre_finite11.Facts),
    quiescent_ConvPostBwd (hConvPostBwd := hConvPostBwd)
    ∧ quiescent_ConvPostBwdIdeal (hConvPostBwdIdeal := hConvPostBwdIdeal)
    ∧ quiescent_ConvPostBwdIdeal_pre_all_finite3 (hConvPostBwdIdeal := hConvPostBwdIdeal) (hPre_all_finite3 := hPre_all_finite3)
    ∧ quiescent_ConvPostBwdRefIdeal (hConvPostBwdRefIdeal := hConvPostBwdRefIdeal)
    ∧ quiescent_ConvPostBwdRefIdeal_pre_all_finite3 (hConvPostBwdRefIdeal := hConvPostBwdRefIdeal) (hPre_all_finite3 := hPre_all_finite3)
    ∧ quiescent_ConvPreBwd (hConvPreBwd := hConvPreBwd)
    ∧ quiescent_ConvPreBwdIdeal (hConvPreBwdIdeal := hConvPreBwdIdeal)
    ∧ quiescent_ConvPreBwdIdeal_pre_finite2 (hConvPreBwdIdeal := hConvPreBwdIdeal) (hPre_finite2 := hPre_finite2)
    ∧ quiescent_ConvPreBwdRefIdeal (hConvPreBwdRefIdeal := hConvPreBwdRefIdeal)
    ∧ quiescent_ConvPreBwdRefIdeal_pre_finite2 (hConvPreBwdRefIdeal := hConvPreBwdRefIdeal) (hPre_finite2 := hPre_finite2)
    ∧ quiescent_FfnBwd (hFfnBwd := hFfnBwd)
    ∧ quiescent_FfnBwdIdeal (hFfnBwdIdeal := hFfnBwdIdeal)
    ∧ quiescent_FfnBwdIdeal_pre_finite4 (hFfnBwdIdeal := hFfnBwdIdeal) (hPre_finite4 := hPre_finite4)
    ∧ quiescent_FfnBwdRefIdeal (hFfnBwdRefIdeal := hFfnBwdRefIdeal)
    ∧ quiescent_FfnBwdRefIdeal_pre_finite4 (hFfnBwdRefIdeal := hFfnBwdRefIdeal) (hPre_finite4 := hPre_finite4)
    ∧ quiescent_FfnBwdOut (hFfnBwdOut := hFfnBwdOut)
    ∧ quiescent_FfnBwdOutIdeal (hFfnBwdOutIdeal := hFfnBwdOutIdeal)
    ∧ quiescent_FfnBwdOutIdeal_pre_finite6 (hFfnBwdOutIdeal := hFfnBwdOutIdeal) (hPre_finite6 := hPre_finite6)
    ∧ quiescent_FfnBwdOutRefIdeal (hFfnBwdOutRefIdeal := hFfnBwdOutRefIdeal)
    ∧ quiescent_FfnBwdOutRefIdeal_pre_finite6 (hFfnBwdOutRefIdeal := hFfnBwdOutRefIdeal) (hPre_finite6 := hPre_finite6)
    ∧ quiescent_FfnFinal (hFfnFinal := hFfnFinal)
    ∧ quiescent_FfnFinalIdeal (hFfnFinalIdeal := hFfnFinalIdeal)
    ∧ quiescent_FfnFinalIdeal_pre_finite8 (hFfnFinalIdeal := hFfnFinalIdeal) (hPre_finite8 := hPre_finite8)
    ∧ quiescent_FfnFinalRefIdeal (hFfnFinalRefIdeal := hFfnFinalRefIdeal)
    ∧ quiescent_FfnFinalRefIdeal_pre_finite8 (hFfnFinalRefIdeal := hFfnFinalRefIdeal) (hPre_finite8 := hPre_finite8)
    ∧ quiescent_AttnPreBwd (hAttnPreBwd := hAttnPreBwd)
    ∧ quiescent_AttnPreBwdIdeal (hAttnPreBwdIdeal := hAttnPreBwdIdeal)
    ∧ quiescent_AttnPreBwdIdeal_pre_finite7 (hAttnPreBwdIdeal := hAttnPreBwdIdeal) (hPre_finite7 := hPre_finite7)
    ∧ quiescent_AttnPreBwdRefIdeal (hAttnPreBwdRefIdeal := hAttnPreBwdRefIdeal)
    ∧ quiescent_AttnPreBwdRefIdeal_pre_finite7 (hAttnPreBwdRefIdeal := hAttnPreBwdRefIdeal) (hPre_finite7 := hPre_finite7)
    ∧ quiescent_AttnBwd (hAttnBwd := hAttnBwd)
    ∧ quiescent_AttnBwdIdeal (hAttnBwdIdeal := hAttnBwdIdeal)
    ∧ quiescent_AttnBwdIdeal_pre_finite5 (hAttnBwdIdeal := hAttnBwdIdeal) (hPre_finite5 := hPre_finite5)
    ∧ quiescent_AttnBwdRefIdeal (hAttnBwdRefIdeal := hAttnBwdRefIdeal)
    ∧ quiescent_AttnBwdRefIdeal_pre_finite5 (hAttnBwdRefIdeal := hAttnBwdRefIdeal) (hPre_finite5 := hPre_finite5)
    ∧ quiescent_AttnFwd (hAttnFwd := hAttnFwd)
    ∧ quiescent_AttnFwdIdeal (hAttnFwdIdeal := hAttnFwdIdeal)
    ∧ quiescent_AttnFwdIdeal_pre_finite9 (hAttnFwdIdeal := hAttnFwdIdeal) (hPre_finite9 := hPre_finite9)
    ∧ quiescent_AttnFwdRefIdeal (hAttnFwdRefIdeal := hAttnFwdRefIdeal)
    ∧ quiescent_AttnFwdRefIdeal_pre_finite9 (hAttnFwdRefIdeal := hAttnFwdRefIdeal) (hPre_finite9 := hPre_finite9)
    ∧ quiescent_ConvPre (hConvPre := hConvPre)
    ∧ quiescent_ConvPreIdeal (hConvPreIdeal := hConvPreIdeal)
    ∧ quiescent_ConvPreRefIdeal (hConvPreRefIdeal := hConvPreRefIdeal)
    ∧ quiescent_ConvPost (hConvPost := hConvPost)
    ∧ quiescent_ConvPostIdeal (hConvPostIdeal := hConvPostIdeal)
    ∧ quiescent_ConvPostRefIdeal (hConvPostRefIdeal := hConvPostRefIdeal)
    ∧ quiescent_FfnFwdAttn (hFfnFwdAttn := hFfnFwdAttn)
    ∧ quiescent_FfnFwdAttnIdeal (hFfnFwdAttnIdeal := hFfnFwdAttnIdeal)
    ∧ quiescent_FfnFwdAttnIdeal_pre_finite11 (hFfnFwdAttnIdeal := hFfnFwdAttnIdeal) (hPre_finite11 := hPre_finite11)
    ∧ quiescent_FfnFwdAttnRefIdeal (hFfnFwdAttnRefIdeal := hFfnFwdAttnRefIdeal)
    ∧ quiescent_FfnFwdAttnRefIdeal_pre_finite11 (hFfnFwdAttnRefIdeal := hFfnFwdAttnRefIdeal) (hPre_finite11 := hPre_finite11)
    ∧ preserves_ConvPostBwd_ConvPostBwdIdeal
    ∧ algebraic_ConvPostBwdIdeal_ConvPostBwdRefIdeal_pre_all_finite3 (hConvPostBwdIdeal := hConvPostBwdIdeal) (hConvPostBwdRefIdeal := hConvPostBwdRefIdeal) (hPre_all_finite3 := hPre_all_finite3)
    ∧ preserves_ConvPreBwd_ConvPreBwdIdeal
    ∧ algebraic_ConvPreBwdIdeal_ConvPreBwdRefIdeal_pre_finite2 (hConvPreBwdIdeal := hConvPreBwdIdeal) (hConvPreBwdRefIdeal := hConvPreBwdRefIdeal) (hPre_finite2 := hPre_finite2)
    ∧ preserves_FfnBwd_FfnBwdIdeal
    ∧ algebraic_FfnBwdIdeal_FfnBwdRefIdeal_pre_finite4 (hFfnBwdIdeal := hFfnBwdIdeal) (hFfnBwdRefIdeal := hFfnBwdRefIdeal) (hPre_finite4 := hPre_finite4)
    ∧ preserves_FfnBwdOut_FfnBwdOutIdeal
    ∧ algebraic_FfnBwdOutIdeal_FfnBwdOutRefIdeal_pre_finite6 (hFfnBwdOutIdeal := hFfnBwdOutIdeal) (hFfnBwdOutRefIdeal := hFfnBwdOutRefIdeal) (hPre_finite6 := hPre_finite6)
    ∧ preserves_FfnFinal_FfnFinalIdeal
    ∧ algebraic_FfnFinalIdeal_FfnFinalRefIdeal_pre_finite8 (hFfnFinalIdeal := hFfnFinalIdeal) (hFfnFinalRefIdeal := hFfnFinalRefIdeal) (hPre_finite8 := hPre_finite8)
    ∧ preserves_AttnPreBwd_AttnPreBwdIdeal
    ∧ algebraic_AttnPreBwdIdeal_AttnPreBwdRefIdeal_pre_finite7 (hAttnPreBwdIdeal := hAttnPreBwdIdeal) (hAttnPreBwdRefIdeal := hAttnPreBwdRefIdeal) (hPre_finite7 := hPre_finite7)
    ∧ preserves_AttnBwd_AttnBwdIdeal
    ∧ algebraic_AttnBwdIdeal_AttnBwdRefIdeal_pre_finite5 (hAttnBwdIdeal := hAttnBwdIdeal) (hAttnBwdRefIdeal := hAttnBwdRefIdeal) (hPre_finite5 := hPre_finite5)
    ∧ preserves_AttnFwd_AttnFwdIdeal
    ∧ algebraic_AttnFwdIdeal_AttnFwdRefIdeal_pre_finite9 (hAttnFwdIdeal := hAttnFwdIdeal) (hAttnFwdRefIdeal := hAttnFwdRefIdeal) (hPre_finite9 := hPre_finite9)
    ∧ preserves_ConvPre_ConvPreIdeal
    ∧ algebraic_ConvPreIdeal_ConvPreRefIdeal (hConvPreIdeal := hConvPreIdeal) (hConvPreRefIdeal := hConvPreRefIdeal)
    ∧ preserves_ConvPost_ConvPostIdeal
    ∧ algebraic_ConvPostIdeal_ConvPostRefIdeal (hConvPostIdeal := hConvPostIdeal) (hConvPostRefIdeal := hConvPostRefIdeal)
    ∧ preserves_FfnFwdAttn_FfnFwdAttnIdeal
    ∧ algebraic_FfnFwdAttnIdeal_FfnFwdAttnRefIdeal_pre_finite11 (hFfnFwdAttnIdeal := hFfnFwdAttnIdeal) (hFfnFwdAttnRefIdeal := hFfnFwdAttnRefIdeal) (hPre_finite11 := hPre_finite11)
-- ==== Pre_all_finite3.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1024 .f32) (main_arg2 : FVec F S1024 .f32) (main_arg3 : FVec F S1024 .f32) (main_arg4 : FVec F S1024x1024 .f32) (main_arg5 : FVec F S8192x1024 .f32) : IVec S8192x1024 1 × IVec S1024 1 × IVec S1024 1 × IVec S1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite11.lean ====
abbrev S8192x1024 : Shape := ⟨2, ![8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x5632 .f32) (main_arg5 : FVec F S2816x1024 .f32) : IVec S8192x1024 1 × IVec S8192x1024 1 × IVec S1024x1024 1 × IVec S1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite2.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S2048 : S_.BroadcastsInDim S2048 (![] : Fin 0 → Fin S2048.rank)

variable [Facts]

def fn {F : FTy → Type} [FloatOps F] (main_arg0 : FVec F S8192x1024 .f32) (main_arg1 : FVec F S1024 .f32) (main_arg2 : FVec F S1024x2048 .f32) (main_arg3 : FVec F S2048 .f32) (main_arg4 : FVec F S8192x1024 .f32) (main_arg5 : FVec F S8192x1024 .f32) : IVec S8192x1024 1 × IVec S1024 1 × IVec S1024x2048 1 × IVec S2048 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite4.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) : IVec S8192x1024 1 × IVec S1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite5.lean ====
abbrev S8192x16x64 : Shape := ⟨3, ![8192, 16, 64]⟩
abbrev S8192x4x64 : Shape := ⟨3, ![8192, 4, 64]⟩
abbrev S16 : Shape := ⟨1, ![16]⟩
abbrev S8192x1024 : Shape := ⟨2, ![8192, 1024]⟩
abbrev S_ : Shape := ⟨0, ![]⟩

class Facts : Prop where
  bcast_S_S8192x16x64 : S_.BroadcastsInDim S8192x16x64 (![] : Fin 0 → Fin S8192x16x64.rank)
  bcast_S_S8192x4x64 : S_.BroadcastsInDim S8192x4x64 (![] : Fin 0 → Fin S8192x4x64.rank)
  bcast_S_S16 : S_.BroadcastsInDim S16 (![] : Fin 0 → Fin S16.rank)
  bcast_S_S8192x1024 : S_.BroadcastsInDim S8192x1024 (![] : Fin 0 → Fin S8192x1024.rank)

variable [Facts]

def fn {F : FTy → Type} [FloatOps F] (main_arg0 : FVec F S8192x16x64 .f32) (main_arg1 : FVec F S8192x4x64 .f32) (main_arg2 : FVec F S8192x4x64 .f32) (main_arg3 : FVec F S16 .f32) (main_arg4 : FVec F S8192x1024 .f32) : IVec S8192x16x64 1 × IVec S8192x4x64 1 × IVec S8192x4x64 1 × IVec S16 1 × IVec S8192x1024 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_v3 : FVec F S8192x4x64 .f32 := Host.absf main_arg1
  let main_cst_0 : FVec F S_ .f32 := constant S_ .f32 0x7F800000#32
  let main_v4 : FVec F S8192x4x64 .f32 := broadcastInDim S8192x4x64 ![] bcast_S_S8192x4x64 main_cst_0
  let main_v5 : IVec S8192x4x64 1 := cmpf .olt main_v3 main_v4
  let main_v6 : FVec F S8192x4x64 .f32 := Host.absf main_arg2
  let main_cst_1 : FVec F S_ .f32 := constant S_ .f32 0x7F800000#32
  let main_v7 : FVec F S8192x4x64 .f32 := broadcastInDim S8192x4x64 ![] bcast_S_S8192x4x64 main_cst_1
  let main_v8 : IVec S8192x4x64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite6.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) (main_arg5 : FVec F S1024x1024 .f32) : IVec S8192x1024 1 × IVec S1024 1 × IVec S1024x5632 1 × IVec S2816x1024 1 × IVec S8192x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== Pre_finite7.lean ====
abbrev S8192x1024 : Shape := ⟨2, ![8192, 1024]⟩
abbrev S1024 : Shape := ⟨1, ![1024]⟩
abbrev S1024x1536 : Shape := ⟨2, ![1024, 1536]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S8192x256 : S_.BroadcastsInDim S8192x256 (![] : Fin 0 → Fin S8192x256.rank)

variable [Facts]

def fn_part1 {F : FTy → Type} [FloatOps F] (main_arg6 : FVec F S8192x1024 .f32) (main_v2 : IVec S8192x1024 1) (main_v5 : IVec S1024 1) (main_v8 : IVec S1024x1536 1) (main_v11 : IVec S8192x1024 1) (main_v14 : IVec S8192x256 1) (main_v17 : IVec S8192x256 1) : IVec S8192x1024 1 × IVec S1024 1 × IVec S1024x1536 1 × IVec S8192x1024 1 × IVec S8192x256 1 × IVec S8192x256 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024x1536 .f32) (main_arg3 : FVec F S8192x1024 .f32) (main_arg4 : FVec F S8192x256 .f32) (main_arg5 : FVec F S8192x256 .f32) (main_arg6 : FVec F S8192x1024 .f32) : IVec S8192x1024 1 × IVec S1024 1 × IVec S1024x1536 1 × IVec S8192x1024 1 × IVec S8192x256 1 × IVec S8192x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x256 .f32 := Host.absf main_arg4
  let main_cst_3 : FVec F S_ .f32 := constant S_ .f32 0x7F800000#32
  let main_v13 : FVec F S8192x256 .f32 := broadcastInDim S8192x256 ![] bcast_S_S8192x256 main_cst_3
  let main_v14 : IVec S8192x256 1 := cmpf .olt main_v12 main_v13
  let main_v15 : FVec F S8192x256 .f32 := Host.absf main_arg5
  let main_cst_4 : FVec F S_ .f32 := constant S_ .f32 0x7F800000#32
  let main_v16 : FVec F S8192x256 .f32 := broadcastInDim S8192x256 ![] bcast_S_S8192x256 main_cst_4
  let main_v17 : IVec S8192x256 1 := cmpf .olt main_v15 main_v16
  fn_part1 (F := F) main_arg6 main_v2 main_v5 main_v8 main_v11 main_v14 main_v17
-- ==== Pre_finite8.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x5632 .f32) (main_arg3 : FVec F S2816x1024 .f32) (main_arg4 : FVec F S1024 .f32) (main_arg5 : FVec F S8192x1024 .f32) : IVec S8192x1024 1 × IVec S1024 1 × IVec S1024x5632 1 × IVec S2816x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite9.lean ====
abbrev S8192x16x64 : Shape := ⟨3, ![8192, 16, 64]⟩
abbrev S8192x4x64 : Shape := ⟨3, ![8192, 4, 64]⟩
abbrev S16 : Shape := ⟨1, ![16]⟩
abbrev S_ : Shape := ⟨0, ![]⟩

class Facts : Prop where
  bcast_S_S8192x16x64 : S_.BroadcastsInDim S8192x16x64 (![] : Fin 0 → Fin S8192x16x64.rank)
  bcast_S_S8192x4x64 : S_.BroadcastsInDim S8192x4x64 (![] : Fin 0 → Fin S8192x4x64.rank)
  bcast_S_S16 : S_.BroadcastsInDim S16 (![] : Fin 0 → Fin S16.rank)

variable [Facts]

def fn {F : FTy → Type} [FloatOps F] (main_arg0 : FVec F S8192x16x64 .f32) (main_arg1 : FVec F S8192x4x64 .f32) (main_arg2 : FVec F S8192x4x64 .f32) (main_arg3 : FVec F S16 .f32) : IVec S8192x16x64 1 × IVec S8192x4x64 1 × IVec S8192x4x64 1 × IVec S16 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_v3 : FVec F S8192x4x64 .f32 := Host.absf main_arg1
  let main_cst_0 : FVec F S_ .f32 := constant S_ .f32 0x7F800000#32
  let main_v4 : FVec F S8192x4x64 .f32 := broadcastInDim S8192x4x64 ![] bcast_S_S8192x4x64 main_cst_0
  let main_v5 : IVec S8192x4x64 1 := cmpf .olt main_v3 main_v4
  let main_v6 : FVec F S8192x4x64 .f32 := Host.absf main_arg2
  let main_cst_1 : FVec F S_ .f32 := constant S_ .f32 0x7F800000#32
  let main_v7 : FVec F S8192x4x64 .f32 := broadcastInDim S8192x4x64 ![] bcast_S_S8192x4x64 main_cst_1
  let main_v8 : IVec S8192x4x64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== ConvPostBwd.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S8192x1024, .f32⟩
  | .hbm, ⟨13, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvPostBwdRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S4x1024 : Shape := ⟨2, ![4, 1024]⟩
abbrev S8x1024 : Shape := ⟨2, ![8, 1024]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S_, .f32⟩
  | 32 => ⟨S8192x1, .f32⟩
  | 33 => ⟨S8192x1, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S8192x1024, .f32⟩
  | 65 => ⟨S_, .f32⟩
  | 66 => ⟨S1024, .f32⟩
  | 67 => ⟨S1x1024, .f32⟩
  | 68 => ⟨S_, .f32⟩
  | 69 => ⟨S1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S_, .f32⟩
  | 87 => ⟨S1024, .f32⟩
  | 88 => ⟨S8192x1024, .f32⟩
  | 89 => ⟨S_, .f32⟩
  | 90 => ⟨S8192, .f32⟩
  | 91 => ⟨S8192x1, .f32⟩
  | 92 => ⟨S8192x1024, .f32⟩
  | 93 => ⟨S8192x1024, .f32⟩
  | 94 => ⟨S8192x1, .f32⟩
  | 95 => ⟨S8192x1024, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S8192x1024, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S_, .f32⟩
  | 123 => ⟨S1024, .f32⟩
  | 124 => ⟨S1x1024, .f32⟩
  | 125 => ⟨S1x1024, .f32⟩
  | 126 => ⟨S1x1024, .f32⟩
  | 127 => ⟨S1x1024, .f32⟩
  | _ => ⟨S8192x1024, .f32⟩

abbrev hbmTy0_1 (i : Nat) : BufTy := match i % 128 with
  | 0 => ⟨S4x1024, .f32⟩
  | 1 => ⟨S_, .f32⟩
  | 2 => ⟨S4x1024, .f32⟩
  | 3 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v33_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v33_1 : Ref sig .tc := ⟨.hbm, 58, rfl⟩
abbrev main_v33_0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_12 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_14 : Ref sig .tc := ⟨.hbm, 96, rfl⟩
abbrev main_v60 : Ref sig .tc := ⟨.hbm, 97, rfl⟩
abbrev main_v61 : Ref sig .tc := ⟨.hbm, 98, rfl⟩
abbrev main_cst_15 : Ref sig .tc := ⟨.hbm, 99, rfl⟩
abbrev main_v62 : Ref sig .tc := ⟨.hbm, 100, rfl⟩
abbrev main_v63 : Ref sig .tc := ⟨.hbm, 101, rfl⟩
abbrev main_cst_16 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_17 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_18 : Ref sig .tc := ⟨.hbm, 112, rfl⟩
abbrev main_v72 : Ref sig .tc := ⟨.hbm, 113, rfl⟩
abbrev main_v73 : Ref sig .tc := ⟨.hbm, 114, rfl⟩
abbrev main_cst_19 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_20 : Ref sig .tc := ⟨.hbm, 119, rfl⟩
abbrev main_v77 : Ref sig .tc := ⟨.hbm, 120, rfl⟩
abbrev main_v78 : Ref sig .tc := ⟨.hbm, 121, rfl⟩
abbrev main_cst_21 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_22 : Ref sig .tc := ⟨.hbm, 129, rfl⟩
abbrev main_v85 : Ref sig .tc := ⟨.hbm, 130, rfl⟩
abbrev main_v86 : Ref sig .tc := ⟨.hbm, 131, rfl⟩

abbrev nD : Nat := 1
abbrev τ : Topo := Topo.v7x

variable {F : FTy → Type} [FloatOps F]
-- ==== ConvPreBwd.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩
abbrev S8192x8x256 : Shape := ⟨3, ![8192, 8, 256]⟩
abbrev S8x8192x256 : Shape := ⟨3, ![8, 8192, 256]⟩
abbrev S1024x8x256 : Shape := ⟨3, ![1024, 8, 256]⟩
abbrev S8x1024x256 : Shape := ⟨3, ![8, 1024, 256]⟩
abbrev S1024x8192 : Shape := ⟨2, ![1024, 8192]⟩
abbrev S512x1024 : Shape := ⟨2, ![512, 1024]⟩
abbrev S8x512x256 : Shape := ⟨3, ![8, 512, 256]⟩
abbrev S1024x512 : Shape := ⟨2, ![1024, 512]⟩
abbrev S512 : Shape := ⟨1, ![512]⟩
abbrev S512x1 : Shape := ⟨2, ![512, 1]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩
abbrev S1x1024x256 : Shape := ⟨3, ![1, 1024, 256]⟩
abbrev S1024x256 : Shape := ⟨2, ![1024, 256]⟩

abbrev nBuf : Space → Nat
  | .hbm => 39
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S8192x8x256, .bf16⟩
  | .hbm, ⟨28, _⟩ => ⟨S8x8192x256, .bf16⟩
  | .hbm, ⟨29, _⟩ => ⟨S1x1024, .f32⟩
  | .hbm, ⟨30, _⟩ => ⟨S1024x2048, .bf16⟩
  | .hbm, ⟨31, _⟩ => ⟨S1024x8x256, .bf16⟩
  | .hbm, ⟨32, _⟩ => ⟨S8x1024x256, .bf16⟩
  | .hbm, ⟨33, _⟩ => ⟨S8x8192x256, .bf16⟩
  | .hbm, ⟨34, _⟩ => ⟨S1024x8192, .bf16⟩
  | .hbm, ⟨35, _⟩ => ⟨S8192x1024, .f32⟩
  | .hbm, ⟨36, _⟩ => ⟨S8192x1024, .bf16⟩
  | .hbm, ⟨37, _⟩ => ⟨S1x1024, .f32⟩
  | .hbm, ⟨38, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S8x512x256, .bf16⟩
  | .local _ .vmem, ⟨3, _⟩ => ⟨S8x512x256, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024x256, .bf16⟩
  | .local _ .vmem, ⟨8, _⟩ => ⟨S512x1024, .f32⟩
  | .local _ .vmem, ⟨9, _⟩ => ⟨S512x1024, .f32⟩
  | .local _ .vmem, ⟨10, _⟩ => ⟨S8x512x256, .bf16⟩
  | .local _ .vmem, ⟨11, _⟩ => ⟨S8x512x256, .bf16⟩
  | .local _ .vmem, ⟨12, _⟩ => ⟨S1024x512, .bf16⟩
  | .local _ .vmem, ⟨13, _⟩ => ⟨S1024x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ConvPreBwdRefIdeal.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩
abbrev S8192x8x256 : Shape := ⟨3, ![8192, 8, 256]⟩
abbrev S8x8192x256 : Shape := ⟨3, ![8, 8192, 256]⟩
abbrev S1024x8192 : Shape := ⟨2, ![1024, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S_, .f32⟩
  | .hbm, ⟨57, _⟩ => ⟨S2048, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x2048, .bf16⟩
  | .hbm, ⟨86, _⟩ => ⟨S8192x8x256, .bf16⟩
  | .hbm, ⟨87, _⟩ => ⟨S8x8192x256, .bf16⟩
  | .hbm, ⟨88, _⟩ => ⟨S8192x1024, .bf16⟩
  | .hbm, ⟨89, _⟩ => ⟨S1024x8192, .bf16⟩
  | .hbm, ⟨90, _⟩ => ⟨S8192x1024, .bf16⟩
  | .hbm, ⟨91, _⟩ => ⟨S1x1024, .f32⟩
  | .hbm, ⟨92, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== FfnBwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x8x704 : Shape := ⟨3, ![8192, 8, 704]⟩
abbrev S8x8192x704 : Shape := ⟨3, ![8, 8192, 704]⟩
abbrev S8x704x8192 : Shape := ⟨3, ![8, 704, 8192]⟩
abbrev S256x1024 : Shape := ⟨2, ![256, 1024]⟩
abbrev S8x256x704 : Shape := ⟨3, ![8, 256, 704]⟩
abbrev S8x704x256 : Shape := ⟨3, ![8, 704, 256]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S704x256 : Shape := ⟨2, ![704, 256]⟩
abbrev S1x704x256 : Shape := ⟨3, ![1, 704, 256]⟩

abbrev nBuf : Space → Nat
  | .hbm => 56
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x5632, .bf16⟩
  | .hbm, ⟨6, _⟩ => ⟨S5632x1024, .bf16⟩
  | .hbm, ⟨7, _⟩ => ⟨S8x704x1024, .bf16⟩
  | .hbm, ⟨8, _⟩ => ⟨S2816x1024, .bf16⟩
  | .hbm, ⟨9, _⟩ => ⟨S4x704x1024, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x5632, .f32⟩
  | .hbm, ⟨48, _⟩ => ⟨S8192x5632, .bf16⟩
  | .hbm, ⟨49, _⟩ => ⟨S8192x8x704, .bf16⟩
  | .hbm, ⟨50, _⟩ => ⟨S8x8192x704, .bf16⟩
  | .hbm, ⟨51, _⟩ => ⟨S1x1024, .f32⟩
  | .hbm, ⟨52, _⟩ => ⟨S8x704x8192, .bf16⟩
  | .hbm, ⟨53, _⟩ => ⟨S8192x1024, .bf16⟩
  | .hbm, ⟨54, _⟩ => ⟨S8192x1024, .f32⟩
  | .hbm, ⟨55, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x704, .bf16⟩
  | .local _ .vmem, ⟨5, _⟩ => ⟨S8x256x704, .bf16⟩
  | .local _ .vmem, ⟨6, _⟩ => ⟨S1x1024, .f32⟩
  | .local _ .vmem, ⟨7, _⟩ => ⟨S8x704x1024, .bf16⟩
  | .local _ .vmem, ⟨8, _⟩ => ⟨S4x704x1024, .bf16⟩
  | .local _ .vmem, ⟨9, _⟩ => ⟨S8x704x256, .bf16⟩
  | .local _ .vmem, ⟨10, _⟩ => ⟨S8x704x256, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev main_v40_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x704x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnBwdRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S5632x8192 : Shape := ⟨2, ![5632, 8192]⟩
abbrev S8x704x8192 : Shape := ⟨3, ![8, 704, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x5632, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x5632, .f32⟩
  | .hbm, ⟨54, _⟩ => ⟨S8192x5632, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x5632, .bf16⟩
  | .hbm, ⟨82, _⟩ => ⟨S5632x8192, .bf16⟩
  | .hbm, ⟨83, _⟩ => ⟨S8x704x8192, .bf16⟩
  | .hbm, ⟨84, _⟩ => ⟨S8192x1024, .bf16⟩
  | .hbm, ⟨85, _⟩ => ⟨S8192x1024, .f32⟩
  | .hbm, ⟨86, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]
-- ==== FfnBwdOut.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x8x704 : Shape := ⟨3, ![8192, 8, 704]⟩
abbrev S8x8192x704 : Shape := ⟨3, ![8, 8192, 704]⟩
abbrev S8x704x8192 : Shape := ⟨3, ![8, 704, 8192]⟩
abbrev S64x1024x128 : Shape := ⟨3, ![64, 1024, 128]⟩
abbrev S256x1024 : Shape := ⟨2, ![256, 1024]⟩
abbrev S8x256x704 : Shape := ⟨3, ![8, 256, 704]⟩
abbrev S8x704x256 : Shape := ⟨3, ![8, 704, 256]⟩
abbrev S2x1024x128 : Shape := ⟨3, ![2, 1024, 128]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S704x256 : Shape := ⟨2, ![704, 256]⟩
abbrev S1x704x256 : Shape := ⟨3, ![1, 704, 256]⟩
abbrev S1024x256 : Shape := ⟨2, ![1024, 256]⟩
abbrev S1024x128 : Shape := ⟨2, ![1024, 128]⟩
abbrev S1x1024x128 : Shape := ⟨3, ![1, 1024, 128]⟩

abbrev nBuf : Space → Nat
  | .hbm => 59
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x1024, .f32⟩
  | .hbm, ⟨6, _⟩ => ⟨S1024x5632, .bf16⟩
  | .hbm, ⟨7, _⟩ => ⟨S5632x1024, .bf16⟩
  | .hbm, ⟨8, _⟩ => ⟨S8x704x1024, .bf16⟩
  | .hbm, ⟨9, _⟩ => ⟨S2816x1024, .bf16⟩
  | .hbm, ⟨10, _⟩ => ⟨S4x704x1024, .bf16⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x5632, .f32⟩
  | .hbm, ⟨49, _⟩ => ⟨S8192x5632, .bf16⟩
  | .hbm, ⟨50, _⟩ => ⟨S8192x8x704, .bf16⟩
  | .hbm, ⟨51, _⟩ => ⟨S8x8192x704, .bf16⟩
  | .hbm, ⟨52, _⟩ => ⟨S1x1024, .f32⟩
  | .hbm, ⟨53, _⟩ => ⟨S1024x1024, .bf16⟩
  | .hbm, ⟨54, _⟩ => ⟨S8x704x8192, .bf16⟩
  | .hbm, ⟨55, _⟩ => ⟨S8192x1024, .bf16⟩
  | .hbm, ⟨56, _⟩ => ⟨S8192x1024, .f32⟩
  | .hbm, ⟨57, _⟩ => ⟨S1x1024, .f32⟩
  | .hbm, ⟨58, _⟩ => ⟨S64x1024x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x704, .bf16⟩
  | .local _ .vmem, ⟨5, _⟩ => ⟨S8x256x704, .bf16⟩
  | .local _ .vmem, ⟨6, _⟩ => ⟨S1x1024, .f32⟩
  | .local _ .vmem, ⟨7, _⟩ => ⟨S8x704x1024, .bf16⟩
  | .local _ .vmem, ⟨8, _⟩ => ⟨S4x704x1024, .bf16⟩
  | .local _ .vmem, ⟨9, _⟩ => ⟨S1024x1024, .bf16⟩
  | .local _ .vmem, ⟨10, _⟩ => ⟨S8x704x256, .bf16⟩
  | .local _ .vmem, ⟨11, _⟩ => ⟨S8x704x256, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S2x1024x128, .bf16⟩
  | .local _ .vmem, ⟨18, _⟩ => ⟨S2x1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v41_3 : Ref sig .tc := ⟨.hbm, 57, rfl⟩
abbrev main_v41_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x704x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnBwdOutRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S5632x8192 : Shape := ⟨2, ![5632, 8192]⟩
abbrev S8x704x8192 : Shape := ⟨3, ![8, 704, 8192]⟩
abbrev S64x128x1024 : Shape := ⟨3, ![64, 128, 1024]⟩
abbrev S64x1024x128 : Shape := ⟨3, ![64, 1024, 128]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x5632, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x5632, .f32⟩
  | .hbm, ⟨55, _⟩ => ⟨S8192x5632, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x5632, .bf16⟩
  | .hbm, ⟨88, _⟩ => ⟨S5632x8192, .bf16⟩
  | .hbm, ⟨89, _⟩ => ⟨S8x704x8192, .bf16⟩
  | .hbm, ⟨90, _⟩ => ⟨S8192x1024, .bf16⟩
  | .hbm, ⟨91, _⟩ => ⟨S1x1024, .f32⟩
  | .hbm, ⟨92, _⟩ => ⟨S8192x1024, .bf16⟩
  | .hbm, ⟨93, _⟩ => ⟨S64x128x1024, .bf16⟩
  | .hbm, ⟨94, _⟩ => ⟨S64x1024x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]
-- ==== FfnFinal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S1x1024 : Shape := ⟨2, ![1, 1024]⟩
abbrev S8x8192x704 : Shape := ⟨3, ![8, 8192, 704]⟩
abbrev S4x704x8192 : Shape := ⟨3, ![4, 704, 8192]⟩
abbrev S8x1024 : Shape := ⟨2, ![8, 1024]⟩
abbrev S512x1024 : Shape := ⟨2, ![512, 1024]⟩
abbrev S8x512x704 : Shape := ⟨3, ![8, 512, 704]⟩
abbrev S4x704x512 : Shape := ⟨3, ![4, 704, 512]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S704x512 : Shape := ⟨2, ![704, 512]⟩
abbrev S1x704x512 : Shape := ⟨3, ![1, 704, 512]⟩
abbrev S1 : Shape := ⟨1, ![1]⟩
abbrev S1x1 : Shape := ⟨2, ![1, 1]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S8192x1024, .f32⟩
  | .hbm, ⟨6, _⟩ => ⟨S1024x5632, .bf16⟩
  | .hbm, ⟨7, _⟩ => ⟨S5632x1024, .bf16⟩
  | .hbm, ⟨8, _⟩ => ⟨S8x704x1024, .bf16⟩
  | .hbm, ⟨9, _⟩ => ⟨S2816x1024, .bf16⟩
  | .hbm, ⟨10, _⟩ => ⟨S4x704x1024, .bf16⟩
  | .hbm, ⟨11, _⟩ => ⟨S1x1024, .f32⟩
  | .hbm, ⟨12, _⟩ => ⟨S1x1024, .f32⟩
  | .hbm, ⟨13, _⟩ => ⟨S8x8192x704, .bf16⟩
  | .hbm, ⟨14, _⟩ => ⟨S4x704x8192, .bf16⟩
  | .hbm, ⟨15, _⟩ => ⟨S8192x1024, .f32⟩
  | .hbm, ⟨16, _⟩ => ⟨S8192x1024, .bf16⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x704x1024, .bf16⟩
  | .local _ .vmem, ⟨4, _⟩ => ⟨S4x704x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S8x512x704, .bf16⟩
  | .local _ .vmem, ⟨9, _⟩ => ⟨S8x512x704, .bf16⟩
  | .local _ .vmem, ⟨10, _⟩ => ⟨S4x704x512, .bf16⟩
  | .local _ .vmem, ⟨11, _⟩ => ⟨S4x704x512, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x704x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnFinalRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S6x1024 : Shape := ⟨2, ![6, 1024]⟩
abbrev S8x1024 : Shape := ⟨2, ![8, 1024]⟩
abbrev S8192x8x704 : Shape := ⟨3, ![8192, 8, 704]⟩
abbrev S8x8192x704 : Shape := ⟨3, ![8, 8192, 704]⟩
abbrev S2816x8192 : Shape := ⟨2, ![2816, 8192]⟩
abbrev S4x704x8192 : Shape := ⟨3, ![4, 704, 8192]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S2816x1024, .f32⟩
  | 4 => ⟨S1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x5632, .f32⟩
  | 23 => ⟨S8192x2816, .f32⟩
  | 24 => ⟨S8192x2816, .f32⟩
  | 25 => ⟨S8192x2816, .f32⟩
  | 26 => ⟨S8192x2816, .f32⟩
  | 27 => ⟨S_, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S8192x2816, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S8192x2816, .f32⟩
  | 43 => ⟨S8192x2816, .f32⟩
  | 44 => ⟨S8192x2816, .f32⟩
  | 45 => ⟨S8192x2816, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192, .f32⟩
  | 75 => ⟨S_, .f32⟩
  | 76 => ⟨S8192, .f32⟩
  | 77 => ⟨S8192, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S8192, .f32⟩
  | 86 => ⟨S_, .f32⟩
  | 87 => ⟨S8192, .f32⟩
  | 88 => ⟨S8192, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x2816, .f32⟩
  | 117 => ⟨S8192x2816, .f32⟩
  | 118 => ⟨S_, .f32⟩
  | 119 => ⟨S8192x2816, .f32⟩
  | 120 => ⟨S8192x2816, .f32⟩
  | 121 => ⟨S_, .f32⟩
  | 122 => ⟨S8192x2816, .f32⟩
  | 123 => ⟨S8192x2816, .f32⟩
  | 124 => ⟨S8192x2816, .f32⟩
  | 125 => ⟨S8192x5632, .f32⟩
  | 126 => ⟨S8192x5632, .bf16⟩
  | 127 => ⟨S1024, .i32⟩
  | _ => ⟨S8192x1024, .f32⟩

abbrev hbmTy0_1 (i : Nat) : BufTy := match i % 128 with
  | 0 => ⟨S_, .i32⟩
  | 1 => ⟨S1024, .i32⟩
  | 2 => ⟨S1024, .i1⟩
  | 3 => ⟨S1x1024, .f32⟩
  | 4 => ⟨S_, .f32⟩
  | 5 => ⟨S_, .f32⟩
  | 6 => ⟨S1024, .f32⟩
  | 7 => ⟨S1024, .f32⟩
  | 8 => ⟨S1024, .f32⟩
  | 9 => ⟨S1x1024, .f32⟩
  | 10 => ⟨S_, .f32⟩
  | 11 => ⟨S6x1024, .f32⟩
  | 12 => ⟨S8x1024, .f32⟩
  | 13 => ⟨S8192x8x704, .bf16⟩
  | 14 => ⟨S8x8192x704, .bf16⟩
  | 15 => ⟨S8192x2816, .bf16⟩
  | 16 => ⟨S2816x8192, .bf16⟩
  | 17 => ⟨S4x704x8192, .bf16⟩
  | 18 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_cst_12 : Ref sig .tc := ⟨.hbm, 82, rfl⟩
abbrev main_cst_13 : Ref sig .tc := ⟨.hbm, 83, rfl⟩
abbrev main_v48 : Ref sig .tc := ⟨.hbm, 84, rfl⟩
abbrev main_v49 : Ref sig .tc := ⟨.hbm, 85, rfl⟩
abbrev main_cst_14 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_15 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_16 : Ref sig .tc := ⟨.hbm, 97, rfl⟩
abbrev main_v59 : Ref sig .tc := ⟨.hbm, 98, rfl⟩
abbrev main_v60 : Ref sig .tc := ⟨.hbm, 99, rfl⟩
abbrev main_cst_17 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_18 : Ref sig .tc := ⟨.hbm, 106, rfl⟩
abbrev main_v66 : Ref sig .tc := ⟨.hbm, 107, rfl⟩
abbrev main_v67 : Ref sig .tc := ⟨.hbm, 108, rfl⟩
abbrev main_cst_19 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_call2_v0 : Ref sig .tc := ⟨.hbm, 116, rfl⟩
abbrev main_call2_v1 : Ref sig .tc := ⟨.hbm, 117, rfl⟩
abbrev main_call2_cst : Ref sig .tc := ⟨.hbm, 118, rfl⟩
abbrev main_call2_v2 : Ref sig .tc := ⟨.hbm, 119, rfl⟩
abbrev main_call2_v3 : Ref sig .tc := ⟨.hbm, 120, rfl⟩
abbrev main_call2_cst_0 : Ref sig .tc := ⟨.hbm, 121, rfl⟩
abbrev main_call2_v4 : Ref sig .tc := ⟨.hbm, 122, rfl⟩
abbrev main_call2_v5 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_20 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v81 : Ref sig .tc := ⟨.hbm, 136, rfl⟩
abbrev main_v82 : Ref sig .tc := ⟨.hbm, 137, rfl⟩
abbrev main_cst_21 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩

abbrev nD : Nat := 1
abbrev τ : Topo := Topo.v7x

variable {F : FTy → Type} [FloatOps F]
-- ==== AttnPreBwd.lean ====
abbrev S8192x1024 : Shape := ⟨2, ![8192, 1024]⟩
abbrev S1024 : Shape := ⟨1, ![1024]⟩
abbrev S1024x1536 : Shape := ⟨2, ![1024, 1536]⟩
abbrev S8192x256 : Shape := ⟨2, ![8192, 256]⟩
abbrev S_ : Shape := ⟨0, ![]⟩
abbrev S512x256 : Shape := ⟨2, ![512, 256]⟩
abbrev S9216x256 : Shape := ⟨2, ![9216, 256]⟩
abbrev S64x128x1024 : Shape := ⟨3, ![64, 128, 1024]⟩
abbrev S64x1024x128 : Shape := ⟨3, ![64, 1024, 128]⟩
abbrev S1x1024 : Shape := ⟨2, ![1, 1024]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x1536 : Shape := ⟨2, ![8192, 1536]⟩
abbrev S1024x8192 : Shape := ⟨2, ![1024, 8192]⟩
abbrev S4x1024x128 : Shape := ⟨3, ![4, 1024, 128]⟩
abbrev S512x1024 : Shape := ⟨2, ![512, 1024]⟩
abbrev S512x128 : Shape := ⟨2, ![512, 128]⟩
abbrev S512x1536 : Shape := ⟨2, ![512, 1536]⟩
abbrev S1024x512 : Shape := ⟨2, ![1024, 512]⟩
abbrev S1x1024x128 : Shape := ⟨3, ![1, 1024, 128]⟩
abbrev S1024x128 : Shape := ⟨2, ![1024, 128]⟩
abbrev S512 : Shape := ⟨1, ![512]⟩
abbrev S512x1 : Shape := ⟨2, ![512, 1]⟩

abbrev nBuf : Space → Nat
  | .hbm => 61
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S_, .f32⟩
  | .hbm, ⟨8, _⟩ => ⟨S512x256, .f32⟩
  | .hbm, ⟨9, _⟩ => ⟨S9216x256, .f32⟩
  | .hbm, ⟨10, _⟩ => ⟨S9216x256, .f32⟩
  | .hbm, ⟨11, _⟩ => ⟨S8192x1024, .bf16⟩
  | .hbm, ⟨12, _⟩ => ⟨S64x128x1024, .bf16⟩
  | .hbm, ⟨13, _⟩ => ⟨S64x1024x128, .bf16⟩
  | .hbm, ⟨14, _⟩ => ⟨S1x1024, .f32⟩
  | .hbm, ⟨15, _⟩ => ⟨S1024x1536, .bf16⟩
  | .hbm, ⟨16, _⟩ => ⟨S8192, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8192x1, .f32⟩
  | .hbm, ⟨32, _⟩ => ⟨S1x8, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S8192x8, .f32⟩
  | .hbm, ⟨37, _⟩ => ⟨S8192x8, .f32⟩
  | .hbm, ⟨38, _⟩ => ⟨S_, .f32⟩
  | .hbm, ⟨39, _⟩ => ⟨S8192x48, .f32⟩
  | .hbm, ⟨40, _⟩ => ⟨S_, .f32⟩
  | .hbm, ⟨41, _⟩ => ⟨S8192x48, .f32⟩
  | .hbm, ⟨42, _⟩ => ⟨S_, .f32⟩
  | .hbm, ⟨43, _⟩ => ⟨S8192x8, .f32⟩
  | .hbm, ⟨44, _⟩ => ⟨S8192x64, .f32⟩
  | .hbm, ⟨45, _⟩ => ⟨S8192x8, .f32⟩
  | .hbm, ⟨46, _⟩ => ⟨S8192x64, .f32⟩
  | .hbm, ⟨47, _⟩ => ⟨S8192x64, .f32⟩
  | .hbm, ⟨48, _⟩ => ⟨S1x8192x1x64, .f32⟩
  | .hbm, ⟨49, _⟩ => ⟨S1x8192x2x64, .f32⟩
  | .hbm, ⟨50, _⟩ => ⟨S8192x128, .f32⟩
  | .hbm, ⟨51, _⟩ => ⟨S1x8192x1x64, .f32⟩
  | .hbm, ⟨52, _⟩ => ⟨S1x8192x2x64, .f32⟩
  | .hbm, ⟨53, _⟩ => ⟨S8192x128, .f32⟩
  | .hbm, ⟨54, _⟩ => ⟨S1x8192x1x64, .f32⟩
  | .hbm, ⟨55, _⟩ => ⟨S1x8192x2x64, .f32⟩
  | .hbm, ⟨56, _⟩ => ⟨S8192x128, .f32⟩
  | .hbm, ⟨57, _⟩ => ⟨S8192x1536, .bf16⟩
  | .hbm, ⟨58, _⟩ => ⟨S1024x8192, .bf16⟩
  | .hbm, ⟨59, _⟩ => ⟨S8192x1024, .f32⟩
  | .hbm, ⟨60, _⟩ => ⟨S1x1024, .f32⟩
  | .local _ .vmem, ⟨0, _⟩ => ⟨S4x1024x128, .bf16⟩
  | .local _ .vmem, ⟨1, _⟩ => ⟨S4x1024x128, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1536, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S512x1536, .bf16⟩
  | .local _ .vmem, ⟨19, _⟩ => ⟨S512x1536, .bf16⟩
  | .local _ .vmem, ⟨20, _⟩ => ⟨S1024x512, .bf16⟩
  | .local _ .vmem, ⟨21, _⟩ => ⟨S1024x512, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev main_v42_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnPreBwdRefIdeal.lean ====
abbrev S8192x1024 : Shape := ⟨2, ![8192, 1024]⟩
abbrev S1024 : Shape := ⟨1, ![1024]⟩
abbrev S1024x1536 : Shape := ⟨2, ![1024, 1536]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S8192x16x64 : Shape := ⟨3, ![8192, 16, 64]⟩
abbrev S8192x4x64 : Shape := ⟨3, ![8192, 4, 64]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S8192x16x8 : Shape := ⟨3, ![8192, 16, 8]⟩
abbrev S8192x16x16 : Shape := ⟨3, ![8192, 16, 16]⟩
abbrev S8192x16x48 : Shape := ⟨3, ![8192, 16, 48]⟩
abbrev S8192x4x8 : Shape := ⟨3, ![8192, 4, 8]⟩
abbrev S8192x4x16 : Shape := ⟨3, ![8192, 4, 16]⟩
abbrev S8192x4x48 : Shape := ⟨3, ![8192, 4, 48]⟩
abbrev S1024x8192 : Shape := ⟨2, ![1024, 8192]⟩

abbrev nBuf : Space → Nat
  | .hbm => 184
  | .vmem => 0
  | .smem => 0
  | _ => 0

abbrev hbmTy0_0 (i : Nat) : BufTy := match i % 128 with
  | 0 => ⟨S8192x1024, .f32⟩
  | 1 => ⟨S1024, .f32⟩
  | 2 => ⟨S1024x1536, .f32⟩
  | 3 => ⟨S8192x1024, .f32⟩
  | 4 => ⟨S8192x256, .f32⟩
  | 5 => ⟨S8192x256, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1536, .f32⟩
  | 28 => ⟨S8192x1024, .f32⟩
  | 29 => ⟨S8192x16x64, .f32⟩
  | 30 => ⟨S8192x256, .f32⟩
  | 31 => ⟨S8192x4x64, .f32⟩
  | 32 => ⟨S8192, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S8192x1, .f32⟩
  | 48 => ⟨S1x8, .f32⟩
  | 49 => ⟨S8192x8, .f32⟩
  | 50 => ⟨S8192x8, .f32⟩
  | 51 => ⟨S8192x8, .f32⟩
  | 52 => ⟨S8192x8, .f32⟩
  | 53 => ⟨S8192x1x8, .f32⟩
  | 54 => ⟨S8192x8, .f32⟩
  | 55 => ⟨S8192x1x8, .f32⟩
  | 56 => ⟨S8192x16x8, .f32⟩
  | 57 => ⟨S8192x16x8, .f32⟩
  | 58 => ⟨S8192x16x8, .f32⟩
  | 59 => ⟨S8192x16x8, .f32⟩
  | 60 => ⟨S8192x16x8, .f32⟩
  | 61 => ⟨S8192x16x8, .f32⟩
  | 62 => ⟨S8192x16x8, .f32⟩
  | 63 => ⟨S8192x16x8, .f32⟩
  | 64 => ⟨S8192x16x8, .f32⟩
  | 65 => ⟨S8192x16x8, .f32⟩
  | 66 => ⟨S8192x16x8, .f32⟩
  | 67 => ⟨S8192x16x8, .f32⟩
  | 68 => ⟨S8192x16x16, .f32⟩
  | 69 => ⟨S8192x16x48, .f32⟩
  | 70 => ⟨S8192x16x64, .f32⟩
  | 71 => ⟨S8192x4x8, .f32⟩
  | 72 => ⟨S8192x4x8, .f32⟩
  | 73 => ⟨S8192x4x8, .f32⟩
  | 74 => ⟨S8192x4x8, .f32⟩
  | 75 => ⟨S8192x4x8, .f32⟩
  | 76 => ⟨S8192x4x8, .f32⟩
  | 77 => ⟨S8192x4x8, .f32⟩
  | 78 => ⟨S8192x4x8, .f32⟩
  | 79 => ⟨S8192x4x8, .f32⟩
  | 80 => ⟨S8192x4x8, .f32⟩
  | 81 => ⟨S8192x4x8, .f32⟩
  | 82 => ⟨S8192x4x8, .f32⟩
  | 83 => ⟨S8192x4x16, .f32⟩
  | 84 => ⟨S8192x4x48, .f32⟩
  | 85 => ⟨S8192x4x64, .f32⟩
  | 86 => ⟨S8192x1024, .f32⟩
  | 87 => ⟨S_, .f32⟩
  | 88 => ⟨S8192x1024, .f32⟩
  | 89 => ⟨S8192x1024, .f32⟩
  | 90 => ⟨S8192x256, .f32⟩
  | 91 => ⟨S8192x256, .f32⟩
  | 92 => ⟨S_, .f32⟩
  | 93 => ⟨S8192x1536, .f32⟩
  | 94 => ⟨S8192x4x64, .f32⟩
  | 95 => ⟨S_, .f32⟩
  | 96 => ⟨S8192x1024, .f32⟩
  | 97 => ⟨S8192x1024, .f32⟩
  | 98 => ⟨S8192x16x64, .f32⟩
  | 99 => ⟨S8192x4x16, .f32⟩
  | 100 => ⟨S8192x4x48, .f32⟩
  | 101 => ⟨S_, .f32⟩
  | 102 => ⟨S8192x4x64, .f32⟩
  | 103 => ⟨S8192x4x8, .f32⟩
  | 104 => ⟨S8192x4x8, .f32⟩
  | 105 => ⟨S8192x4x8, .f32⟩
  | 106 => ⟨S8192x4x8, .f32⟩
  | 107 => ⟨S8192x4x8, .f32⟩
  | 108 => ⟨S8192x4x8, .f32⟩
  | 109 => ⟨S8192x4x8, .f32⟩
  | 110 => ⟨S8192x4x8, .f32⟩
  | 111 => ⟨S8192x4x8, .f32⟩
  | 112 => ⟨S8192x4x8, .f32⟩
  | 113 => ⟨S8192x4x8, .f32⟩
  | 114 => ⟨S8192x4x8, .f32⟩
  | 115 => ⟨S8192x4x8, .f32⟩
  | 116 => ⟨S_, .f32⟩
  | 117 => ⟨S8192x4x64, .f32⟩
  | 118 => ⟨S8192x4x64, .f32⟩
  | 119 => ⟨S_, .f32⟩
  | 120 => ⟨S8192x4x64, .f32⟩
  | 121 => ⟨S8192x4x64, .f32⟩
  | 122 => ⟨S8192x16x16, .f32⟩
  | 123 => ⟨S8192x16x48, .f32⟩
  | 124 => ⟨S_, .f32⟩
  | 125 => ⟨S8192x16x64, .f32⟩
  | 126 => ⟨S8192x16x8, .f32⟩
  | 127 => ⟨S8192x16x8, .f32⟩
  | _ => ⟨S8192x1024, .f32⟩

abbrev hbmTy0_1 (i : Nat) : BufTy := match i % 128 with
  | 0 => ⟨S8192x16x8, .f32⟩
  | 1 => ⟨S8192x16x8, .f32⟩
  | 2 => ⟨S8192x16x8, .f32⟩
  | 3 => ⟨S8192x16x8, .f32⟩
  | 4 => ⟨S8192x16x8, .f32⟩
  | 5 => ⟨S8192x16x8, .f32⟩
  | 6 => ⟨S8192x16x8, .f32⟩
  | 7 => ⟨S8192x16x8, .f32⟩
  | 8 => ⟨S8192x16x8, .f32⟩
  | 9 => ⟨S8192x16x8, .f32⟩
  | 10 => ⟨S8192x16x8, .f32⟩
  | 11 => ⟨S_, .f32⟩
  | 12 => ⟨S8192x16x64, .f32⟩
  | 13 => ⟨S8192x16x64, .f32⟩
  | 14 => ⟨S_, .f32⟩
  | 15 => ⟨S8192x16x64, .f32⟩
  | 16 => ⟨S8192x16x64, .f32⟩
  | 17 => ⟨S8192x256, .f32⟩
  | 18 => ⟨S_, .f32⟩
  | 19 => ⟨S8192x1536, .f32⟩
  | 20 => ⟨S8192x1536, .f32⟩
  | 21 => ⟨S8192x1024, .f32⟩
  | 22 => ⟨S_, .f32⟩
  | 23 => ⟨S8192x1536, .f32⟩
  | 24 => ⟨S8192x1536, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S8192x1024, .f32⟩
  | 31 => ⟨S8192x1024, .f32⟩
  | 32 => ⟨S_, .f32⟩
  | 33 => ⟨S1024, .f32⟩
  | 34 => ⟨S8192x1024, .f32⟩
  | 35 => ⟨S_, .f32⟩
  | 36 => ⟨S8192, .f32⟩
  | 37 => ⟨S8192x1, .f32⟩
  | 38 => ⟨S8192x1024, .f32⟩
  | 39 => ⟨S8192x1024, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1536, .bf16⟩
  | 52 => ⟨S8192x1024, .bf16⟩
  | 53 => ⟨S1024x8192, .bf16⟩
  | 54 => ⟨S8192x1024, .f32⟩
  | 55 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_11 : Ref sig .tc := ⟨.hbm, 116, rfl⟩
abbrev main_v97 : Ref sig .tc := ⟨.hbm, 117, rfl⟩
abbrev main_v98 : Ref sig .tc := ⟨.hbm, 118, rfl⟩
abbrev main_cst_12 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_13 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_14 : Ref sig .tc := ⟨.hbm, 139, rfl⟩
abbrev main_v117 : Ref sig .tc := ⟨.hbm, 140, rfl⟩
abbrev main_v118 : Ref sig .tc := ⟨.hbm, 141, rfl⟩
abbrev main_cst_15 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_16 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_17 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_cst_18 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_19 : Ref sig .tc := ⟨.hbm, 160, rfl⟩
abbrev main_v133 : Ref sig .tc := ⟨.hbm, 161, rfl⟩
abbrev main_v134 : Ref sig .tc := ⟨.hbm, 162, rfl⟩
abbrev main_cst_20 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_21 : Ref sig .tc := ⟨.hbm, 169, rfl⟩
abbrev main_v140 : Ref sig .tc := ⟨.hbm, 170, rfl⟩
abbrev main_v141 : Ref sig .tc := ⟨.hbm, 171, rfl⟩
abbrev main_cst_22 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩

abbrev nD : Nat := 1
abbrev τ : Topo := Topo.v7x

variable {F : FTy → Type} [FloatOps F]
-- ==== AttnBwd.lean ====
abbrev S8192x16x64 : Shape := ⟨3, ![8192, 16, 64]⟩
abbrev S8192x4x64 : Shape := ⟨3, ![8192, 4, 64]⟩
abbrev S16 : Shape := ⟨1, ![16]⟩
abbrev S8192x1024 : Shape := ⟨2, ![8192, 1024]⟩
abbrev S_ : Shape := ⟨0, ![]⟩
abbrev S64x128x1024 : Shape := ⟨3, ![64, 128, 1024]⟩
abbrev S64x1024x128 : Shape := ⟨3, ![64, 1024, 128]⟩
abbrev S8192x256 : Shape := ⟨2, ![8192, 256]⟩
abbrev S8192x512 : Shape := ⟨2, ![8192, 512]⟩
abbrev S3x384x512 : Shape := ⟨3, ![3, 384, 512]⟩
abbrev S9216x256 : Shape := ⟨2, ![9216, 256]⟩
abbrev S8x128 : Shape := ⟨2, ![8, 128]⟩
abbrev S4x1024x128 : Shape := ⟨3, ![4, 1024, 128]⟩
abbrev S128x256 : Shape := ⟨2, ![128, 256]⟩
abbrev S512x256 : Shape := ⟨2, ![512, 256]⟩
abbrev S768x256 : Shape := ⟨2, ![768, 256]⟩
abbrev S1x128 : Shape := ⟨2, ![1, 128]⟩
abbrev S1x384x512 : Shape := ⟨3, ![1, 384, 512]⟩
abbrev S384x512 : Shape := ⟨2, ![384, 512]⟩
abbrev S384x64 : Shape := ⟨2, ![384, 64]⟩
abbrev S1x64x128 : Shape := ⟨3, ![1, 64, 128]⟩
abbrev S64x128 : Shape := ⟨2, ![64, 128]⟩
abbrev S64x512 : Shape := ⟨2, ![64, 512]⟩
abbrev S1 : Shape := ⟨1, ![1]⟩
abbrev S1x512 : Shape := ⟨2, ![1, 512]⟩
abbrev S512 : Shape := ⟨1, ![512]⟩
abbrev S1x1 : Shape := ⟨2, ![1, 1]⟩

abbrev nBuf : Space → Nat
  | .hbm => 57
  | .vmem => 22
  | .smem => 1
  | _ => 0

abbrev bufTy : (tb : Table) → Fin (tcTables nBuf tb) → BufTy
  | .hbm, ⟨0, _⟩ => ⟨S8192x16x64, .f32⟩
  | .hbm, ⟨1, _⟩ => ⟨S8192x4x64, .f32⟩
  | .hbm, ⟨2, _⟩ => ⟨S8192x4x64, .f32⟩
  | .hbm, ⟨3, _⟩ => ⟨S16, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S64x128x1024, .f32⟩
  | .hbm, ⟨10, _⟩ => ⟨S64x1024x128, .f32⟩
  | .hbm, ⟨11, _⟩ => ⟨S64x1024x128, .bf16⟩
  | .hbm, ⟨12, _⟩ => ⟨S8192x256, .f32⟩
  | .hbm, ⟨13, _⟩ => ⟨S8192x256, .f32⟩
  | .hbm, ⟨14, _⟩ => ⟨S8192x512, .f32⟩
  | .hbm, ⟨15, _⟩ => ⟨S8192x512, .bf16⟩
  | .hbm, ⟨16, _⟩ => ⟨S64x128x1024, .f32⟩
  | .hbm, ⟨17, _⟩ => ⟨S64x1024x128, .f32⟩
  | .hbm, ⟨18, _⟩ => ⟨S64x1024x128, .bf16⟩
  | .hbm, ⟨19, _⟩ => ⟨S3x384x512, .i32⟩
  | .hbm, ⟨20, _⟩ => ⟨S3x384x512, .i32⟩
  | .hbm, ⟨21, _⟩ => ⟨S_, .i32⟩
  | .hbm, ⟨22, _⟩ => ⟨S3x384x512, .i32⟩
  | .hbm, ⟨23, _⟩ => ⟨S3x384x512, .i32⟩
  | .hbm, ⟨24, _⟩ => ⟨S3x384x512, .i32⟩
  | .hbm, ⟨25, _⟩ => ⟨S3x384x512, .i1⟩
  | .hbm, ⟨26, _⟩ => ⟨S_, .i32⟩
  | .hbm, ⟨27, _⟩ => ⟨S3x384x512, .i32⟩
  | .hbm, ⟨28, _⟩ => ⟨S3x384x512, .i32⟩
  | .hbm, ⟨29, _⟩ => ⟨S3x384x512, .i1⟩
  | .hbm, ⟨30, _⟩ => ⟨S3x384x512, .i1⟩
  | .hbm, ⟨31, _⟩ => ⟨S_, .i32⟩
  | .hbm, ⟨32, _⟩ => ⟨S3x384x512, .i32⟩
  | .hbm, ⟨33, _⟩ => ⟨S3x384x512, .i1⟩
  | .hbm, ⟨34, _⟩ => ⟨S_, .i32⟩
  | .hbm, ⟨35, _⟩ => ⟨S3x384x512, .i32⟩
  | .hbm, ⟨36, _⟩ => ⟨S3x384x512, .i1⟩
  | .hbm, ⟨37, _⟩ => ⟨S3x384x512, .i1⟩
  | .hbm, ⟨38, _⟩ => ⟨S3x384x512, .i1⟩
  | .hbm, ⟨39, _⟩ => ⟨S_, .i32⟩
  | .hbm, ⟨40, _⟩ => ⟨S3x384x512, .i32⟩
  | .hbm, ⟨41, _⟩ => ⟨S3x384x512, .i1⟩
  | .hbm, ⟨42, _⟩ => ⟨S_, .i32⟩
  | .hbm, ⟨43, _⟩ => ⟨S3x384x512, .i32⟩
  | .hbm, ⟨44, _⟩ => ⟨S3x384x512, .i1⟩
  | .hbm, ⟨45, _⟩ => ⟨S3x384x512, .i1⟩
  | .hbm, ⟨46, _⟩ => ⟨S3x384x512, .i1⟩
  | .hbm, ⟨47, _⟩ => ⟨S_, .f32⟩
  | .hbm, ⟨48, _⟩ => ⟨S_, .f32⟩
  | .hbm, ⟨49, _⟩ => ⟨S3x384x512, .f32⟩
  | .hbm, ⟨50, _⟩ => ⟨S3x384x512, .f32⟩
  | .hbm, ⟨51, _⟩ => ⟨S3x384x512, .f32⟩
  | .hbm, ⟨52, _⟩ => ⟨S3x384x512, .f32⟩
  | .hbm, ⟨53, _⟩ => ⟨S64x1024x128, .f32⟩
  | .hbm, ⟨54, _⟩ => ⟨S9216x256, .f32⟩
  | .hbm, ⟨55, _⟩ => ⟨S9216x256, .f32⟩
  | .hbm, ⟨56, _⟩ => ⟨S8x128, .f32⟩
  | .local _ .vmem, ⟨0, _⟩ => ⟨S3x384x512, .f32⟩
  | .local _ .vmem, ⟨1, _⟩ => ⟨S4x1024x128, .bf16⟩
  | .local _ .vmem, ⟨2, _⟩ => ⟨S4x1024x128, .bf16⟩
  | .local _ .vmem, ⟨3, _⟩ => ⟨S128x256, .bf16⟩
  | .local _ .vmem, ⟨4, _⟩ => ⟨S128x256, .bf16⟩
  | .local _ .vmem, ⟨5, _⟩ => ⟨S512x256, .bf16⟩
  | .local _ .vmem, ⟨6, _⟩ => ⟨S512x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S512x256, .bf16⟩
  | .local _ .vmem, ⟨12, _⟩ => ⟨S512x256, .bf16⟩
  | .local _ .vmem, ⟨13, _⟩ => ⟨S128x256, .bf16⟩
  | .local _ .vmem, ⟨14, _⟩ => ⟨S128x256, .bf16⟩
  | .local _ .vmem, ⟨15, _⟩ => ⟨S4x1024x128, .bf16⟩
  | .local _ .vmem, ⟨16, _⟩ => ⟨S4x1024x128, .bf16⟩
  | .local _ .vmem, ⟨17, _⟩ => ⟨S4x1024x128, .f32⟩
  | .local _ .vmem, ⟨18, _⟩ => ⟨S4x1024x128, .f32⟩
  | .local _ .vmem, ⟨19, _⟩ => ⟨S9216x256, .f32⟩
  | .local _ .vmem, ⟨20, _⟩ => ⟨S9216x256, .f32⟩
  | .local _ .vmem, ⟨21, _⟩ => ⟨S8x128, .f32⟩
  | .local _ .smem, ⟨0, _⟩ => ⟨S16, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_v37_3 : Ref sig .tc := ⟨.hbm, 56, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_off1 (i : grid0.Coords) (c0_i32_12 : BitVec 32) : Fin 3 → Nat :=
  let c4_i32 : BitVec 32 := 4#32
  let arg0 : BitVec 32 := BitVec.ofNat 32 (i 0).val
  let v19 : BitVec 32 := Scalar.muli c4_i32 arg0
  let v20 : BitVec 32 := Scalar.addi v19 c0_i32_12
  let c0_i32_13 : BitVec 32 := 0#32
  let v21 : BitVec 1 := Scalar.cmpi .eq v20 c0_i32_13
  let c0_i32_14 : BitVec 32 := 0#32
  let c63_i32 : BitVec 32 := 63#32
  let v22 : BitVec 1 := Scalar.cmpi .eq v20 c63_i32
  let c2_i32 : BitVec 32 := 2#32
  let c1_i32 : BitVec 32 := 1#32
  let v23 : BitVec 32 := Scalar.select v22 c2_i32 c1_i32
  let v24 : BitVec 32 := Scalar.select v21 c0_i32_14 v23
  let v25 : Index := Scalar.indexCast v24
  let c0_15 : Index := 0#32
  let c0_16 : Index := 0#32
  ![v25.toNat, 0, 0]
def k0_mult1 (i : grid0.Coords) : BitVec 32 :=
  let c4_i32 : BitVec 32 := 4#32
  let arg0 : BitVec 32 := BitVec.ofNat 32 (i 0).val
  let v19 : BitVec 32 := Scalar.muli c4_i32 arg0
  let c0_i32_12 : BitVec 32 := 0#32
  let v20 : BitVec 32 := Scalar.addi v19 c0_i32_12
  let c128_i32 : BitVec 32 := 128#32
  let v28 : BitVec 32 := Scalar.muli v20 c128_i32
  let c384_i32 : BitVec 32 := 384#32
  let v29 : BitVec 32 := Scalar.addi v28 c384_i32
  v29
def k0_off2 (i : grid0.Coords) (c0_i32_12 : BitVec 32) : Fin 2 → Nat :=
  let c4_i32 : BitVec 32 := 4#32
  let arg0 : BitVec 32 := BitVec.ofNat 32 (i 0).val
  let v19 : BitVec 32 := Scalar.muli c4_i32 arg0
  let v20 : BitVec 32 := Scalar.addi v19 c0_i32_12
  let c128_i32 : BitVec 32 := 128#32
  let v28 : BitVec 32 := Scalar.muli v20 c128_i32
  let c384_i32 : BitVec 32 := 384#32
  let v29 : BitVec 32 := Scalar.addi v28 c384_i32
  let v30 : BitVec 32 := v29
  let v87 : Index := Scalar.indexCast v30
  let c0_46 : Index := 0#32
  ![v87.toNat, 0]
def k0_off3 (i : grid0.Coords) (c0_i32_12 : BitVec 32) : Fin 2 → Nat :=
  let c4_i32 : BitVec 32 := 4#32
  let arg0 : BitVec 32 := BitVec.ofNat 32 (i 0).val
  let v19 : BitVec 32 := Scalar.muli c4_i32 arg0
  let v20 : BitVec 32 := Scalar.addi v19 c0_i32_12
  let c128_i32 : BitVec 32 := 128#32
  let v28 : BitVec 32 := Scalar.muli v20 c128_i32
  let c384_i32 : BitVec 32 := 384#32
  let v29 : BitVec 32 := Scalar.addi v28 c384_i32
  let v30 : BitVec 32 := v29
  let v215 : Index := Scalar.indexCast v30
  let c64_102 : Index := 64#32
  ![v215.toNat, 64]
def k0_off4 (i : grid0.Coords) (c0_i32_12 : BitVec 32) : Fin 2 → Nat :=
  let c4_i32 : BitVec 32 := 4#32
  let arg0 : BitVec 32 := BitVec.ofNat 32 (i 0).val
  let v19 : BitVec 32 := Scalar.muli c4_i32 arg0
  let v20 : BitVec 32 := Scalar.addi v19 c0_i32_12
  let c128_i32 : BitVec 32 := 128#32
  let v28 : BitVec 32 := Scalar.muli v20 c128_i32
  let c384_i32 : BitVec 32 := 384#32
  let v29 : BitVec 32 := Scalar.addi v28 c384_i32
  let v30 : BitVec 32 := v29
  let v343 : Index := Scalar.indexCast v30
  let c128_156 : Index := 128#32
  ![v343.toNat, 128]
def k0_off5 (i : grid0.Coords) (c0_i32_12 : BitVec 32) : Fin 2 → Nat :=
  let c4_i32 : BitVec 32 := 4#32
  let arg0 : BitVec 32 := BitVec.ofNat 32 (i 0).val
  let v19 : BitVec 32 := Scalar.muli c4_i32 arg0
  let v20 : BitVec 32 := Scalar.addi v19 c0_i32_12
  let c128_i32 : BitVec 32 := 128#32
  let v28 : BitVec 32 := Scalar.muli v20 c128_i32
  let c384_i32 : BitVec 32 := 384#32
  let v29 : BitVec 32 := Scalar.addi v28 c384_i32
  let v30 : BitVec 32 := v29
  let v471 : Index := Scalar.indexCast v30
  let c192_209 : Index := 192#32
  ![v471.toNat, 192]
def k0_mult2 (i : grid0.Coords) : BitVec 32 :=
  let c4_i32_235 : BitVec 32 := 4#32
  let arg0 : BitVec 32 := BitVec.ofNat 32 (i 0).val
  let v543 : BitVec 32 := Scalar.muli c4_i32_235 arg0
  let c1_i32_236 : BitVec 32 := 1#32
  let v544 : BitVec 32 := Scalar.addi v543 c1_i32_236
  let c128_i32_244 : BitVec 32 := 128#32
  let v552 : BitVec 32 := Scalar.muli v544 c128_i32_244
  let c384_i32_245 : BitVec 32 := 384#32
  let v553 : BitVec 32 := Scalar.addi v552 c384_i32_245
  v553
def k0_mult3 (i : grid0.Coords) : BitVec 32 :=
  let c4_i32_506 : BitVec 32 := 4#32
  let arg0 : BitVec 32 := BitVec.ofNat 32 (i 0).val
  let v1067 : BitVec 32 := Scalar.muli c4_i32_506 arg0
  let c2_i32_507 : BitVec 32 := 2#32
  let v1068 : BitVec 32 := Scalar.addi v1067 c2_i32_507
  let c128_i32_515 : BitVec 32 := 128#32
  let v1076 : BitVec 32 := Scalar.muli v1068 c128_i32_515
  let c384_i32_516 : BitVec 32 := 384#32
  let v1077 : BitVec 32 := Scalar.addi v1076 c384_i32_516
  v1077
def k0_mult4 (i : grid0.Coords) : BitVec 32 :=
  let c4_i32_777 : BitVec 32 := 4#32
  let arg0 : BitVec 32 := BitVec.ofNat 32 (i 0).val
  let v1591 : BitVec 32 := Scalar.muli c4_i32_777 arg0
  let c3_i32_778 : BitVec 32 := 3#32
  let v1592 : BitVec 32 := Scalar.addi v1591 c3_i32_778
  let c128_i32_786 : BitVec 32 := 128#32
  let v1600 : BitVec 32 := Scalar.muli v1592 c128_i32_786
  let c384_i32_787 : BitVec 32 := 384#32
  let v1601 : BitVec 32 := Scalar.addi v1600 c384_i32_787
  v1601
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c1_i32_0 : BitVec 32 := 1#32
  let c0_i32 : BitVec 32 := 0#32
  ![v2.toNat, c1_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x384x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S9216x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S9216x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnBwdRefIdeal.lean ====
abbrev S8192x16x64 : Shape := ⟨3, ![8192, 16, 64]⟩
abbrev S8192x4x64 : Shape := ⟨3, ![8192, 4, 64]⟩
abbrev S16 : Shape := ⟨1, ![16]⟩
abbrev S8192x1024 : Shape := ⟨2, ![8192, 1024]⟩
abbrev S64x128x4x4x64 : Shape := ⟨5, ![64, 128, 4, 4, 64]⟩
abbrev S_ : Shape := ⟨0, ![]⟩
abbrev S1x128x4x64 : Shape := ⟨4, ![1, 128, 4, 64]⟩
abbrev S64x128x4x64 : Shape := ⟨4, ![64, 128, 4, 64]⟩
abbrev S66x128x4x64 : Shape := ⟨4, ![66, 128, 4, 64]⟩
abbrev S64x384x4x64 : Shape := ⟨4, ![64, 384, 4, 64]⟩
abbrev S64x4x384x128x4 : Shape := ⟨5, ![64, 4, 384, 128, 4]⟩
abbrev S64x4x4x128x384 : Shape := ⟨5, ![64, 4, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S64x1x1x128x384 : Shape := ⟨5, ![64, 1, 1, 128, 384]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩
abbrev S64x4x64x384 : Shape := ⟨4, ![64, 4, 64, 384]⟩
abbrev S4x4x1 : Shape := ⟨3, ![4, 4, 1]⟩
abbrev S64x4x128x4x64 : Shape := ⟨5, ![64, 4, 128, 4, 64]⟩
abbrev S64x4x384x64 : Shape := ⟨4, ![64, 4, 384, 64]⟩
abbrev S512x256 : Shape := ⟨2, ![512, 256]⟩
abbrev S112 : Shape := ⟨1, ![112]⟩
abbrev S1x128 : Shape := ⟨2, ![1, 128]⟩
abbrev S64x128x1024 : Shape := ⟨3, ![64, 128, 1024]⟩
abbrev S64x1024x128 : Shape := ⟨3, ![64, 1024, 128]⟩
abbrev S8192x256 : Shape := ⟨2, ![8192, 256]⟩
abbrev S9216x256 : Shape := ⟨2, ![9216, 256]⟩
abbrev S7x128 : Shape := ⟨2, ![7, 128]⟩
abbrev S8x128 : Shape := ⟨2, ![8, 128]⟩

abbrev nBuf : Space → Nat
  | .hbm => 236
  | .vmem => 0
  | .smem => 0
  | _ => 0

abbrev hbmTy0_0 (i : Nat) : BufTy := match i % 128 with
  | 0 => ⟨S8192x16x64, .f32⟩
  | 1 => ⟨S8192x4x64, .f32⟩
  | 2 => ⟨S8192x4x64, .f32⟩
  | 3 => ⟨S16, .f32⟩
  | 4 => ⟨S8192x1024, .f32⟩
  | 5 => ⟨S64x128x4x4x64, .f32⟩
  | 6 => ⟨S_, .f32⟩
  | 7 => ⟨S1x128x4x64, .f32⟩
  | 8 => ⟨S64x128x4x64, .f32⟩
  | 9 => ⟨S66x128x4x64, .f32⟩
  | 10 => ⟨S_, .f32⟩
  | 11 => ⟨S1x128x4x64, .f32⟩
  | 12 => ⟨S_, .f32⟩
  | 13 => ⟨S1x128x4x64, .f32⟩
  | 14 => ⟨S64x128x4x64, .f32⟩
  | 15 => ⟨S66x128x4x64, .f32⟩
  | 16 => ⟨S_, .f32⟩
  | 17 => ⟨S1x128x4x64, .f32⟩
  | 18 => ⟨S_, .f32⟩
  | 19 => ⟨S1x128x4x64, .f32⟩
  | 20 => ⟨S64x128x4x64, .f32⟩
  | 21 => ⟨S64x128x4x64, .f32⟩
  | 22 => ⟨S64x128x4x64, .f32⟩
  | 23 => ⟨S64x384x4x64, .f32⟩
  | 24 => ⟨S64x128x4x64, .f32⟩
  | 25 => ⟨S64x128x4x64, .f32⟩
  | 26 => ⟨S64x128x4x64, .f32⟩
  | 27 => ⟨S64x384x4x64, .f32⟩
  | 28 => ⟨S64x4x384x128x4, .f32⟩
  | 29 => ⟨S64x4x4x128x384, .f32⟩
  | 30 => ⟨S_, .f32⟩
  | 31 => ⟨S64x4x4x128x384, .f32⟩
  | 32 => ⟨S64x4x4x128x384, .f32⟩
  | 33 => ⟨S128, .i32⟩
  | 34 => ⟨S384, .i32⟩
  | 35 => ⟨S1x384, .i32⟩
  | 36 => ⟨S_, .i32⟩
  | 37 => ⟨S1x384, .i32⟩
  | 38 => ⟨S1x384, .i32⟩
  | 39 => ⟨S128x1, .i32⟩
  | 40 => ⟨S128x384, .i32⟩
  | 41 => ⟨S128x384, .i32⟩
  | 42 => ⟨S128x384, .i32⟩
  | 43 => ⟨S128x384, .i32⟩
  | 44 => ⟨S_, .i32⟩
  | 45 => ⟨S128x384, .i32⟩
  | 46 => ⟨S128x384, .i1⟩
  | 47 => ⟨S64, .i32⟩
  | 48 => ⟨S64x1, .i32⟩
  | 49 => ⟨S_, .i32⟩
  | 50 => ⟨S64x1, .i32⟩
  | 51 => ⟨S64x1, .i32⟩
  | 52 => ⟨S_, .i32⟩
  | 53 => ⟨S64x1, .i32⟩
  | 54 => ⟨S64x1, .i32⟩
  | 55 => ⟨S1x384, .i32⟩
  | 56 => ⟨S64x384, .i32⟩
  | 57 => ⟨S64x384, .i32⟩
  | 58 => ⟨S64x384, .i32⟩
  | 59 => ⟨S_, .i32⟩
  | 60 => ⟨S64x384, .i32⟩
  | 61 => ⟨S64x384, .i1⟩
  | 62 => ⟨S_, .i32⟩
  | 63 => ⟨S64x384, .i32⟩
  | 64 => ⟨S64x384, .i1⟩
  | 65 => ⟨S64x384, .i1⟩
  | 66 => ⟨S1x128x384, .i1⟩
  | 67 => ⟨S64x1x384, .i1⟩
  | 68 => ⟨S64x128x384, .i1⟩
  | 69 => ⟨S64x128x384, .i1⟩
  | 70 => ⟨S64x128x384, .i1⟩
  | 71 => ⟨S64x1x1x128x384, .i1⟩
  | 72 => ⟨S_, .f32⟩
  | 73 => ⟨S_, .f32⟩
  | 74 => ⟨S64x4x4x128x384, .i1⟩
  | 75 => ⟨S64x4x4x128x384, .f32⟩
  | 76 => ⟨S64x4x4x128x384, .f32⟩
  | 77 => ⟨S_, .f32⟩
  | 78 => ⟨S64x4x4x128x384, .f32⟩
  | 79 => ⟨S1x4x4x1x1, .f32⟩
  | 80 => ⟨S_, .f32⟩
  | 81 => ⟨S64x4x4x128, .f32⟩
  | 82 => ⟨S64x4x4x128x1, .f32⟩
  | 83 => ⟨S64x4x4x128x384, .f32⟩
  | 84 => ⟨S64x4x4x128x384, .i1⟩
  | 85 => ⟨S64x4x4x128x384, .f32⟩
  | 86 => ⟨S_, .f32⟩
  | 87 => ⟨S64x4x4x128, .f32⟩
  | 88 => ⟨S64x4x4x128x1, .f32⟩
  | 89 => ⟨S64x4x4x128x1, .f32⟩
  | 90 => ⟨S64x4x4x128x1, .f32⟩
  | 91 => ⟨S64x4x4x128x1, .f32⟩
  | 92 => ⟨S64x4x4x128x1, .i1⟩
  | 93 => ⟨S64x4x4x128x1, .f32⟩
  | 94 => ⟨S64x4x4x128x1, .i1⟩
  | 95 => ⟨S_, .f32⟩
  | 96 => ⟨S64x4x4x128x1, .f32⟩
  | 97 => ⟨S_, .f32⟩
  | 98 => ⟨S64x4x4x128x1, .f32⟩
  | 99 => ⟨S_, .f32⟩
  | 100 => ⟨S64x4x4x128x1, .f32⟩
  | 101 => ⟨S64x4x4x128x1, .f32⟩
  | 102 => ⟨S64x4x4x128x1, .f32⟩
  | 103 => ⟨S64x4x4x128x1, .f32⟩
  | 104 => ⟨S64x4x4x128x1, .i1⟩
  | 105 => ⟨S64x4x4x128x1, .f32⟩
  | 106 => ⟨S64x4x4x128x1, .i1⟩
  | 107 => ⟨S_, .f32⟩
  | 108 => ⟨S64x4x4x128x1, .f32⟩
  | 109 => ⟨S_, .f32⟩
  | 110 => ⟨S64x4x4x128x1, .f32⟩
  | 111 => ⟨S_, .f32⟩
  | 112 => ⟨S64x4x4x128x1, .f32⟩
  | 113 => ⟨S64x4x4x128x1, .f32⟩
  | 114 => ⟨S64x4x4x128x1, .f32⟩
  | 115 => ⟨S64x4x4x128x384, .f32⟩
  | 116 => ⟨S64x4x4x128x384, .f32⟩
  | 117 => ⟨S64x4x4x128x384, .f32⟩
  | 118 => ⟨S_, .f32⟩
  | 119 => ⟨S64x4x4x128, .f32⟩
  | 120 => ⟨S64x4x4x128x1, .f32⟩
  | 121 => ⟨S64x4x4x128x1, .f32⟩
  | 122 => ⟨S64x4x4x128x1, .f32⟩
  | 123 => ⟨S64x4x4x128x1, .f32⟩
  | 124 => ⟨S64x4x4x128x1, .f32⟩
  | 125 => ⟨S64x4x4x128x384, .f32⟩
  | 126 => ⟨S64x4x4x128x384, .f32⟩
  | 127 => ⟨S64x4x4x128x1, .f32⟩
  | _ => ⟨S8192x16x64, .f32⟩

abbrev hbmTy0_1 (i : Nat) : BufTy := match i % 128 with
  | 0 => ⟨S_, .f32⟩
  | 1 => ⟨S64x4x4x128x1, .f32⟩
  | 2 => ⟨S64x4x4x128x1, .f32⟩
  | 3 => ⟨S64x4x64x4x128, .f32⟩
  | 4 => ⟨S64x128x4x4x64, .f32⟩
  | 5 => ⟨S8192x1024, .f32⟩
  | 6 => ⟨S64x128x4x4x64, .f32⟩
  | 7 => ⟨S64x4x64x4x128, .f32⟩
  | 8 => ⟨S64x4x4x128x384, .f32⟩
  | 9 => ⟨S64x4x64x384, .f32⟩
  | 10 => ⟨S64x384x4x64, .f32⟩
  | 11 => ⟨S64x4x4x128x384, .f32⟩
  | 12 => ⟨S64x4x4x128x384, .f32⟩
  | 13 => ⟨S64x4x4x128x384, .f32⟩
  | 14 => ⟨S_, .f32⟩
  | 15 => ⟨S64x4x4x128, .f32⟩
  | 16 => ⟨S64x4x4x128x1, .f32⟩
  | 17 => ⟨S64x4x4x128x1, .f32⟩
  | 18 => ⟨S64x4x4x128x384, .f32⟩
  | 19 => ⟨S64x4x4x128x384, .f32⟩
  | 20 => ⟨S64x4x4x128x1, .f32⟩
  | 21 => ⟨S_, .f32⟩
  | 22 => ⟨S4x4x1, .f32⟩
  | 23 => ⟨S1x4x4x1x1, .f32⟩
  | 24 => ⟨S64x4x4x128x1, .f32⟩
  | 25 => ⟨S_, .f32⟩
  | 26 => ⟨S64x4x4x128, .f32⟩
  | 27 => ⟨S64x4x4x128x384, .f32⟩
  | 28 => ⟨S64x4x4x128x384, .f32⟩
  | 29 => ⟨S64x4x4x128x384, .f32⟩
  | 30 => ⟨S64x4x4x128x384, .f32⟩
  | 31 => ⟨S_, .f32⟩
  | 32 => ⟨S64x4x4x128, .f32⟩
  | 33 => ⟨S64x4x4x128x1, .f32⟩
  | 34 => ⟨S64x4x4x128x1, .f32⟩
  | 35 => ⟨S64x4x4x128x1, .f32⟩
  | 36 => ⟨S_, .f32⟩
  | 37 => ⟨S4x4x1, .f32⟩
  | 38 => ⟨S1x4x4x1x1, .f32⟩
  | 39 => ⟨S1x4x4x1x1, .f32⟩
  | 40 => ⟨S64x4x4x128x1, .f32⟩
  | 41 => ⟨S_, .f32⟩
  | 42 => ⟨S64x4x4x128, .f32⟩
  | 43 => ⟨S64x4x4x128, .f32⟩
  | 44 => ⟨S64x4x4x128x384, .f32⟩
  | 45 => ⟨S64x4x4x128x384, .f32⟩
  | 46 => ⟨S64x4x4x128x384, .f32⟩
  | 47 => ⟨S16, .f32⟩
  | 48 => ⟨S_, .f32⟩
  | 49 => ⟨S64x4x4x128x384, .f32⟩
  | 50 => ⟨S64x4x4x128x384, .f32⟩
  | 51 => ⟨S_, .f32⟩
  | 52 => ⟨S64x4x4x128x384, .f32⟩
  | 53 => ⟨S64x4x4x128x384, .f32⟩
  | 54 => ⟨S64x4x384x128x4, .f32⟩
  | 55 => ⟨S64x4x128x4x64, .f32⟩
  | 56 => ⟨S64x128x4x4x64, .f32⟩
  | 57 => ⟨S64x4x384x64, .f32⟩
  | 58 => ⟨S64x384x4x64, .f32⟩
  | 59 => ⟨S64x128x4x64, .f32⟩
  | 60 => ⟨S64x128x4x64, .f32⟩
  | 61 => ⟨S64x128x4x64, .f32⟩
  | 62 => ⟨S_, .f32⟩
  | 63 => ⟨S66x128x4x64, .f32⟩
  | 64 => ⟨S_, .f32⟩
  | 65 => ⟨S66x128x4x64, .f32⟩
  | 66 => ⟨S66x128x4x64, .f32⟩
  | 67 => ⟨S_, .f32⟩
  | 68 => ⟨S66x128x4x64, .f32⟩
  | 69 => ⟨S66x128x4x64, .f32⟩
  | 70 => ⟨S64x128x4x64, .f32⟩
  | 71 => ⟨S64x128x4x64, .f32⟩
  | 72 => ⟨S64x128x4x64, .f32⟩
  | 73 => ⟨S_, .f32⟩
  | 74 => ⟨S66x128x4x64, .f32⟩
  | 75 => ⟨S_, .f32⟩
  | 76 => ⟨S66x128x4x64, .f32⟩
  | 77 => ⟨S66x128x4x64, .f32⟩
  | 78 => ⟨S_, .f32⟩
  | 79 => ⟨S66x128x4x64, .f32⟩
  | 80 => ⟨S66x128x4x64, .f32⟩
  | 81 => ⟨S1x128x4x64, .f32⟩
  | 82 => ⟨S64x128x4x64, .f32⟩
  | 83 => ⟨S1x128x4x64, .f32⟩
  | 84 => ⟨S8192x4x64, .f32⟩
  | 85 => ⟨S1x128x4x64, .f32⟩
  | 86 => ⟨S64x128x4x64, .f32⟩
  | 87 => ⟨S1x128x4x64, .f32⟩
  | 88 => ⟨S8192x4x64, .f32⟩
  | 89 => ⟨S8192x16x64, .f32⟩
  | 90 => ⟨S_, .f32⟩
  | 91 => ⟨S512x256, .f32⟩
  | 92 => ⟨S_, .f32⟩
  | 93 => ⟨S112, .f32⟩
  | 94 => ⟨S128, .f32⟩
  | 95 => ⟨S1x128, .f32⟩
  | 96 => ⟨S_, .f32⟩
  | 97 => ⟨S8192x16x64, .f32⟩
  | 98 => ⟨S8192x16x64, .f32⟩
  | 99 => ⟨S64x128x1024, .f32⟩
  | 100 => ⟨S64x1024x128, .f32⟩
  | 101 => ⟨S8192x256, .f32⟩
  | 102 => ⟨S9216x256, .f32⟩
  | 103 => ⟨S8192x256, .f32⟩
  | 104 => ⟨S9216x256, .f32⟩
  | 105 => ⟨S_, .f32⟩
  | 106 => ⟨S7x128, .f32⟩
  | 107 => ⟨S8x128, .f32⟩
  | _ => ⟨S8192x16x64, .f32⟩

abbrev hbmTy (i : Nat) : BufTy := match i / 128 with
  | 0 => hbmTy0_0 i
  | 1 => hbmTy0_1 i
  | _ => ⟨S8192x16x64, .f32⟩

abbrev bufTy : (tb : Table) → Fin (tcTables nBuf tb) → BufTy
  | .hbm, ⟨i, _⟩ => hbmTy i
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_call0_v0 : Ref sig .tc := ⟨.hbm, 73, rfl⟩
abbrev main_v55_1 : Ref sig .tc := ⟨.hbm, 74, rfl⟩
abbrev main_call0_v2 : Ref sig .tc := ⟨.hbm, 75, rfl⟩
abbrev main_v55_0 : Ref sig .tc := ⟨.hbm, 76, rfl⟩
abbrev main_call0_cst : Ref sig .tc := ⟨.hbm, 77, rfl⟩
abbrev main_v55_2 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_20 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_21 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_22 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_23 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_24 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_25 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_26 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_call1_cst : Ref sig .tc := ⟨.hbm, 176, rfl⟩
abbrev main_call1_v0 : Ref sig .tc := ⟨.hbm, 177, rfl⟩
abbrev main_v137 : Ref sig .tc := ⟨.hbm, 178, rfl⟩
abbrev main_cst_27 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_28 : Ref sig .tc := ⟨.hbm, 190, rfl⟩
abbrev main_v148 : Ref sig .tc := ⟨.hbm, 191, rfl⟩
abbrev main_cst_29 : Ref sig .tc := ⟨.hbm, 192, rfl⟩
abbrev main_v149 : Ref sig .tc := ⟨.hbm, 193, rfl⟩
abbrev main_v150 : Ref sig .tc := ⟨.hbm, 194, rfl⟩
abbrev main_cst_30 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_31 : Ref sig .tc := ⟨.hbm, 201, rfl⟩
abbrev main_v156 : Ref sig .tc := ⟨.hbm, 202, rfl⟩
abbrev main_cst_32 : Ref sig .tc := ⟨.hbm, 203, rfl⟩
abbrev main_v157 : Ref sig .tc := ⟨.hbm, 204, rfl⟩
abbrev main_v158 : Ref sig .tc := ⟨.hbm, 205, rfl⟩
abbrev main_cst_33 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_34 : Ref sig .tc := ⟨.hbm, 218, rfl⟩
abbrev main_v170 : Ref sig .tc := ⟨.hbm, 219, rfl⟩
abbrev main_cst_35 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_36 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_37 : Ref sig .tc := ⟨.hbm, 233, rfl⟩
abbrev main_v182 : Ref sig .tc := ⟨.hbm, 234, rfl⟩
abbrev main_v183 : Ref sig .tc := ⟨.hbm, 235, rfl⟩

abbrev nD : Nat := 1
abbrev τ : Topo := Topo.v7x

variable {F : FTy → Type} [FloatOps F]
-- ==== AttnFwd.lean ====
abbrev S8192x16x64 : Shape := ⟨3, ![8192, 16, 64]⟩
abbrev S8192x4x64 : Shape := ⟨3, ![8192, 4, 64]⟩
abbrev S16 : Shape := ⟨1, ![16]⟩
abbrev S8192x1024 : Shape := ⟨2, ![8192, 1024]⟩
abbrev S_ : Shape := ⟨0, ![]⟩
abbrev S64x128x1024 : Shape := ⟨3, ![64, 128, 1024]⟩
abbrev S64x1024x128 : Shape := ⟨3, ![64, 1024, 128]⟩
abbrev S8192x256 : Shape := ⟨2, ![8192, 256]⟩
abbrev S8192x512 : Shape := ⟨2, ![8192, 512]⟩
abbrev S3x384x512 : Shape := ⟨3, ![3, 384, 512]⟩
abbrev S4x1024x128 : Shape := ⟨3, ![4, 1024, 128]⟩
abbrev S128x256 : Shape := ⟨2, ![128, 256]⟩
abbrev S512x256 : Shape := ⟨2, ![512, 256]⟩
abbrev S768x256 : Shape := ⟨2, ![768, 256]⟩
abbrev S1x384x512 : Shape := ⟨3, ![1, 384, 512]⟩
abbrev S384x512 : Shape := ⟨2, ![384, 512]⟩
abbrev S384x64 : Shape := ⟨2, ![384, 64]⟩
abbrev S1x64x128 : Shape := ⟨3, ![1, 64, 128]⟩
abbrev S64x128 : Shape := ⟨2, ![64, 128]⟩
abbrev S64x512 : Shape := ⟨2, ![64, 512]⟩
abbrev S1 : Shape := ⟨1, ![1]⟩
abbrev S1x128 : Shape := ⟨2, ![1, 128]⟩
abbrev S1x512 : Shape := ⟨2, ![1, 512]⟩
abbrev S512 : Shape := ⟨1, ![512]⟩

abbrev nBuf : Space → Nat
  | .hbm => 50
  | .vmem => 17
  | .smem => 1
  | _ => 0

abbrev bufTy : (tb : Table) → Fin (tcTables nBuf tb) → BufTy
  | .hbm, ⟨0, _⟩ => ⟨S8192x16x64, .f32⟩
  | .hbm, ⟨1, _⟩ => ⟨S8192x4x64, .f32⟩
  | .hbm, ⟨2, _⟩ => ⟨S8192x4x64, .f32⟩
  | .hbm, ⟨3, _⟩ => ⟨S16, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S64x128x1024, .f32⟩
  | .hbm, ⟨9, _⟩ => ⟨S64x1024x128, .f32⟩
  | .hbm, ⟨10, _⟩ => ⟨S64x1024x128, .bf16⟩
  | .hbm, ⟨11, _⟩ => ⟨S8192x256, .f32⟩
  | .hbm, ⟨12, _⟩ => ⟨S8192x256, .f32⟩
  | .hbm, ⟨13, _⟩ => ⟨S8192x512, .f32⟩
  | .hbm, ⟨14, _⟩ => ⟨S8192x512, .bf16⟩
  | .hbm, ⟨15, _⟩ => ⟨S3x384x512, .i32⟩
  | .hbm, ⟨16, _⟩ => ⟨S3x384x512, .i32⟩
  | .hbm, ⟨17, _⟩ => ⟨S_, .i32⟩
  | .hbm, ⟨18, _⟩ => ⟨S3x384x512, .i32⟩
  | .hbm, ⟨19, _⟩ => ⟨S3x384x512, .i32⟩
  | .hbm, ⟨20, _⟩ => ⟨S3x384x512, .i32⟩
  | .hbm, ⟨21, _⟩ => ⟨S3x384x512, .i1⟩
  | .hbm, ⟨22, _⟩ => ⟨S_, .i32⟩
  | .hbm, ⟨23, _⟩ => ⟨S3x384x512, .i32⟩
  | .hbm, ⟨24, _⟩ => ⟨S3x384x512, .i32⟩
  | .hbm, ⟨25, _⟩ => ⟨S3x384x512, .i1⟩
  | .hbm, ⟨26, _⟩ => ⟨S3x384x512, .i1⟩
  | .hbm, ⟨27, _⟩ => ⟨S_, .i32⟩
  | .hbm, ⟨28, _⟩ => ⟨S3x384x512, .i32⟩
  | .hbm, ⟨29, _⟩ => ⟨S3x384x512, .i1⟩
  | .hbm, ⟨30, _⟩ => ⟨S_, .i32⟩
  | .hbm, ⟨31, _⟩ => ⟨S3x384x512, .i32⟩
  | .hbm, ⟨32, _⟩ => ⟨S3x384x512, .i1⟩
  | .hbm, ⟨33, _⟩ => ⟨S3x384x512, .i1⟩
  | .hbm, ⟨34, _⟩ => ⟨S3x384x512, .i1⟩
  | .hbm, ⟨35, _⟩ => ⟨S_, .i32⟩
  | .hbm, ⟨36, _⟩ => ⟨S3x384x512, .i32⟩
  | .hbm, ⟨37, _⟩ => ⟨S3x384x512, .i1⟩
  | .hbm, ⟨38, _⟩ => ⟨S_, .i32⟩
  | .hbm, ⟨39, _⟩ => ⟨S3x384x512, .i32⟩
  | .hbm, ⟨40, _⟩ => ⟨S3x384x512, .i1⟩
  | .hbm, ⟨41, _⟩ => ⟨S3x384x512, .i1⟩
  | .hbm, ⟨42, _⟩ => ⟨S3x384x512, .i1⟩
  | .hbm, ⟨43, _⟩ => ⟨S_, .f32⟩
  | .hbm, ⟨44, _⟩ => ⟨S_, .f32⟩
  | .hbm, ⟨45, _⟩ => ⟨S3x384x512, .f32⟩
  | .hbm, ⟨46, _⟩ => ⟨S3x384x512, .f32⟩
  | .hbm, ⟨47, _⟩ => ⟨S3x384x512, .f32⟩
  | .hbm, ⟨48, _⟩ => ⟨S3x384x512, .f32⟩
  | .hbm, ⟨49, _⟩ => ⟨S64x1024x128, .bf16⟩
  | .local _ .vmem, ⟨0, _⟩ => ⟨S3x384x512, .f32⟩
  | .local _ .vmem, ⟨1, _⟩ => ⟨S4x1024x128, .bf16⟩
  | .local _ .vmem, ⟨2, _⟩ => ⟨S4x1024x128, .bf16⟩
  | .local _ .vmem, ⟨3, _⟩ => ⟨S128x256, .bf16⟩
  | .local _ .vmem, ⟨4, _⟩ => ⟨S128x256, .bf16⟩
  | .local _ .vmem, ⟨5, _⟩ => ⟨S512x256, .bf16⟩
  | .local _ .vmem, ⟨6, _⟩ => ⟨S512x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S512x256, .bf16⟩
  | .local _ .vmem, ⟨12, _⟩ => ⟨S512x256, .bf16⟩
  | .local _ .vmem, ⟨13, _⟩ => ⟨S128x256, .bf16⟩
  | .local _ .vmem, ⟨14, _⟩ => ⟨S128x256, .bf16⟩
  | .local _ .vmem, ⟨15, _⟩ => ⟨S4x1024x128, .bf16⟩
  | .local _ .vmem, ⟨16, _⟩ => ⟨S4x1024x128, .bf16⟩
  | .local _ .smem, ⟨0, _⟩ => ⟨S16, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_cst_6 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 3 → Nat :=
  let c4_i32 : BitVec 32 := 4#32
  let arg0 : BitVec 32 := BitVec.ofNat 32 (i 0).val
  let v14 : BitVec 32 := Scalar.muli c4_i32 arg0
  let v15 : BitVec 32 := Scalar.addi v14 c0_i32
  let c0_i32_11 : BitVec 32 := 0#32
  let v16 : BitVec 1 := Scalar.cmpi .eq v15 c0_i32_11
  let c0_i32_12 : BitVec 32 := 0#32
  let c63_i32 : BitVec 32 := 63#32
  let v17 : BitVec 1 := Scalar.cmpi .eq v15 c63_i32
  let c2_i32 : BitVec 32 := 2#32
  let c1_i32 : BitVec 32 := 1#32
  let v18 : BitVec 32 := Scalar.select v17 c2_i32 c1_i32
  let v19 : BitVec 32 := Scalar.select v16 c0_i32_12 v18
  let v20 : Index := Scalar.indexCast v19
  let c0_13 : Index := 0#32
  let c0_14 : Index := 0#32
  ![v20.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c1_i32_0 : BitVec 32 := 1#32
  let c0_i32 : BitVec 32 := 0#32
  ![v2.toNat, c1_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x384x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnFwdRefIdeal.lean ====
abbrev S8192x16x64 : Shape := ⟨3, ![8192, 16, 64]⟩
abbrev S8192x4x64 : Shape := ⟨3, ![8192, 4, 64]⟩
abbrev S16 : Shape := ⟨1, ![16]⟩
abbrev S64x128x4x4x64 : Shape := ⟨5, ![64, 128, 4, 4, 64]⟩
abbrev S_ : Shape := ⟨0, ![]⟩
abbrev S1x128x4x64 : Shape := ⟨4, ![1, 128, 4, 64]⟩
abbrev S64x128x4x64 : Shape := ⟨4, ![64, 128, 4, 64]⟩
abbrev S66x128x4x64 : Shape := ⟨4, ![66, 128, 4, 64]⟩
abbrev S64x384x4x64 : Shape := ⟨4, ![64, 384, 4, 64]⟩
abbrev S64x4x384x128x4 : Shape := ⟨5, ![64, 4, 384, 128, 4]⟩
abbrev S64x4x4x128x384 : Shape := ⟨5, ![64, 4, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S64x1x1x128x384 : Shape := ⟨5, ![64, 1, 1, 128, 384]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩
abbrev S8192x1024 : Shape := ⟨2, ![8192, 1024]⟩
abbrev S64x128x1024 : Shape := ⟨3, ![64, 128, 1024]⟩
abbrev S64x1024x128 : Shape := ⟨3, ![64, 1024, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x4x64, .f32⟩
  | .hbm, ⟨2, _⟩ => ⟨S8192x4x64, .f32⟩
  | .hbm, ⟨3, _⟩ => ⟨S16, .f32⟩
  | .hbm, ⟨4, _⟩ => ⟨S64x128x4x4x64, .f32⟩
  | .hbm, ⟨5, _⟩ => ⟨S_, .f32⟩
  | .hbm, ⟨6, _⟩ => ⟨S1x128x4x64, .f32⟩
  | .hbm, ⟨7, _⟩ => ⟨S64x128x4x64, .f32⟩
  | .hbm, ⟨8, _⟩ => ⟨S66x128x4x64, .f32⟩
  | .hbm, ⟨9, _⟩ => ⟨S64x128x4x64, .f32⟩
  | .hbm, ⟨10, _⟩ => ⟨S66x128x4x64, .f32⟩
  | .hbm, ⟨11, _⟩ => ⟨S64x128x4x64, .f32⟩
  | .hbm, ⟨12, _⟩ => ⟨S64x128x4x64, .f32⟩
  | .hbm, ⟨13, _⟩ => ⟨S64x128x4x64, .f32⟩
  | .hbm, ⟨14, _⟩ => ⟨S64x384x4x64, .f32⟩
  | .hbm, ⟨15, _⟩ => ⟨S64x128x4x64, .f32⟩
  | .hbm, ⟨16, _⟩ => ⟨S64x128x4x64, .f32⟩
  | .hbm, ⟨17, _⟩ => ⟨S64x128x4x64, .f32⟩
  | .hbm, ⟨18, _⟩ => ⟨S64x384x4x64, .f32⟩
  | .hbm, ⟨19, _⟩ => ⟨S64x4x384x128x4, .f32⟩
  | .hbm, ⟨20, _⟩ => ⟨S64x4x4x128x384, .f32⟩
  | .hbm, ⟨21, _⟩ => ⟨S_, .f32⟩
  | .hbm, ⟨22, _⟩ => ⟨S64x4x4x128x384, .f32⟩
  | .hbm, ⟨23, _⟩ => ⟨S64x4x4x128x384, .f32⟩
  | .hbm, ⟨24, _⟩ => ⟨S128, .i32⟩
  | .hbm, ⟨25, _⟩ => ⟨S384, .i32⟩
  | .hbm, ⟨26, _⟩ => ⟨S1x384, .i32⟩
  | .hbm, ⟨27, _⟩ => ⟨S_, .i32⟩
  | .hbm, ⟨28, _⟩ => ⟨S1x384, .i32⟩
  | .hbm, ⟨29, _⟩ => ⟨S1x384, .i32⟩
  | .hbm, ⟨30, _⟩ => ⟨S128x1, .i32⟩
  | .hbm, ⟨31, _⟩ => ⟨S128x384, .i32⟩
  | .hbm, ⟨32, _⟩ => ⟨S128x384, .i32⟩
  | .hbm, ⟨33, _⟩ => ⟨S128x384, .i32⟩
  | .hbm, ⟨34, _⟩ => ⟨S128x384, .i32⟩
  | .hbm, ⟨35, _⟩ => ⟨S_, .i32⟩
  | .hbm, ⟨36, _⟩ => ⟨S128x384, .i32⟩
  | .hbm, ⟨37, _⟩ => ⟨S128x384, .i1⟩
  | .hbm, ⟨38, _⟩ => ⟨S64, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S1x384, .i32⟩
  | .hbm, ⟨47, _⟩ => ⟨S64x384, .i32⟩
  | .hbm, ⟨48, _⟩ => ⟨S64x384, .i32⟩
  | .hbm, ⟨49, _⟩ => ⟨S64x384, .i32⟩
  | .hbm, ⟨50, _⟩ => ⟨S_, .i32⟩
  | .hbm, ⟨51, _⟩ => ⟨S64x384, .i32⟩
  | .hbm, ⟨52, _⟩ => ⟨S64x384, .i1⟩
  | .hbm, ⟨53, _⟩ => ⟨S_, .i32⟩
  | .hbm, ⟨54, _⟩ => ⟨S64x384, .i32⟩
  | .hbm, ⟨55, _⟩ => ⟨S64x384, .i1⟩
  | .hbm, ⟨56, _⟩ => ⟨S64x384, .i1⟩
  | .hbm, ⟨57, _⟩ => ⟨S1x128x384, .i1⟩
  | .hbm, ⟨58, _⟩ => ⟨S64x1x384, .i1⟩
  | .hbm, ⟨59, _⟩ => ⟨S64x128x384, .i1⟩
  | .hbm, ⟨60, _⟩ => ⟨S64x128x384, .i1⟩
  | .hbm, ⟨61, _⟩ => ⟨S64x128x384, .i1⟩
  | .hbm, ⟨62, _⟩ => ⟨S64x1x1x128x384, .i1⟩
  | .hbm, ⟨63, _⟩ => ⟨S_, .f32⟩
  | .hbm, ⟨64, _⟩ => ⟨S_, .f32⟩
  | .hbm, ⟨65, _⟩ => ⟨S64x4x4x128x384, .i1⟩
  | .hbm, ⟨66, _⟩ => ⟨S64x4x4x128x384, .f32⟩
  | .hbm, ⟨67, _⟩ => ⟨S64x4x4x128x384, .f32⟩
  | .hbm, ⟨68, _⟩ => ⟨S1x4x4x1x1, .f32⟩
  | .hbm, ⟨69, _⟩ => ⟨S_, .f32⟩
  | .hbm, ⟨70, _⟩ => ⟨S64x4x4x128, .f32⟩
  | .hbm, ⟨71, _⟩ => ⟨S64x4x4x128x1, .f32⟩
  | .hbm, ⟨72, _⟩ => ⟨S64x4x4x128x1, .f32⟩
  | .hbm, ⟨73, _⟩ => ⟨S64x4x4x128x1, .f32⟩
  | .hbm, ⟨74, _⟩ => ⟨S64x4x4x128x384, .f32⟩
  | .hbm, ⟨75, _⟩ => ⟨S64x4x4x128x384, .f32⟩
  | .hbm, ⟨76, _⟩ => ⟨S64x4x4x128x384, .f32⟩
  | .hbm, ⟨77, _⟩ => ⟨S_, .f32⟩
  | .hbm, ⟨78, _⟩ => ⟨S64x4x4x128, .f32⟩
  | .hbm, ⟨79, _⟩ => ⟨S64x4x4x128x1, .f32⟩
  | .hbm, ⟨80, _⟩ => ⟨S64x4x4x128x1, .f32⟩
  | .hbm, ⟨81, _⟩ => ⟨S64x4x4x128x1, .f32⟩
  | .hbm, ⟨82, _⟩ => ⟨S64x4x4x128x1, .f32⟩
  | .hbm, ⟨83, _⟩ => ⟨S64x4x4x128x1, .f32⟩
  | .hbm, ⟨84, _⟩ => ⟨S64x4x4x128x384, .f32⟩
  | .hbm, ⟨85, _⟩ => ⟨S64x4x4x128x384, .f32⟩
  | .hbm, ⟨86, _⟩ => ⟨S64x4x64x4x128, .f32⟩
  | .hbm, ⟨87, _⟩ => ⟨S64x128x4x4x64, .f32⟩
  | .hbm, ⟨88, _⟩ => ⟨S8192x1024, .f32⟩
  | .hbm, ⟨89, _⟩ => ⟨S64x128x1024, .f32⟩
  | .hbm, ⟨90, _⟩ => ⟨S64x1024x128, .f32⟩
  | .hbm, ⟨91, _⟩ => ⟨S64x1024x128, .bf16⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== ConvPre.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1024x8x256 : Shape := ⟨3, ![1024, 8, 256]⟩
abbrev S8x1024x256 : Shape := ⟨3, ![8, 1024, 256]⟩
abbrev S1x2048 : Shape := ⟨2, ![1, 2048]⟩
abbrev S8x8192x256 : Shape := ⟨3, ![8, 8192, 256]⟩
abbrev S512x1024 : Shape := ⟨2, ![512, 1024]⟩
abbrev S8x512x256 : Shape := ⟨3, ![8, 512, 256]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S1x512x256 : Shape := ⟨3, ![1, 512, 256]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S1x2048, .f32⟩
  | .hbm, ⟨9, _⟩ => ⟨S8x8192x256, .bf16⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S1x2048, .f32⟩
  | .local _ .vmem, ⟨5, _⟩ => ⟨S8x512x256, .bf16⟩
  | .local _ .vmem, ⟨6, _⟩ => ⟨S8x512x256, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvPreRefIdeal.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩
abbrev S8192x8x256 : Shape := ⟨3, ![8192, 8, 256]⟩
abbrev S8x8192x256 : Shape := ⟨3, ![8, 8192, 256]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | .hbm, ⟨25, _⟩ => ⟨S8192x8x256, .bf16⟩
  | .hbm, ⟨26, _⟩ => ⟨S8x8192x256, .bf16⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== ConvPost.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S1024x8192, .bf16⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1024x512, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvPostRefIdeal.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S1024x8192, .bf16⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== FfnFwdAttn.lean ====
abbrev S8192x1024 : Shape := ⟨2, ![8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S64x128x1024 : Shape := ⟨3, ![64, 128, 1024]⟩
abbrev S64x1024x128 : Shape := ⟨3, ![64, 1024, 128]⟩
abbrev S1x1024 : Shape := ⟨2, ![1, 1024]⟩
abbrev S8x8192x704 : Shape := ⟨3, ![8, 8192, 704]⟩
abbrev S4x704x8192 : Shape := ⟨3, ![4, 704, 8192]⟩
abbrev S4x1024x128 : Shape := ⟨3, ![4, 1024, 128]⟩
abbrev S512x1024 : Shape := ⟨2, ![512, 1024]⟩
abbrev S8x512x704 : Shape := ⟨3, ![8, 512, 704]⟩
abbrev S4x704x512 : Shape := ⟨3, ![4, 704, 512]⟩
abbrev S1x1024x128 : Shape := ⟨3, ![1, 1024, 128]⟩
abbrev S1024x128 : Shape := ⟨2, ![1024, 128]⟩
abbrev S1024x512 : Shape := ⟨2, ![1024, 512]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S704x512 : Shape := ⟨2, ![704, 512]⟩
abbrev S1x704x512 : Shape := ⟨3, ![1, 704, 512]⟩

abbrev nBuf : Space → Nat
  | .hbm => 20
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x5632, .bf16⟩
  | .hbm, ⟨7, _⟩ => ⟨S5632x1024, .bf16⟩
  | .hbm, ⟨8, _⟩ => ⟨S8x704x1024, .bf16⟩
  | .hbm, ⟨9, _⟩ => ⟨S2816x1024, .bf16⟩
  | .hbm, ⟨10, _⟩ => ⟨S4x704x1024, .bf16⟩
  | .hbm, ⟨11, _⟩ => ⟨S64x128x1024, .f32⟩
  | .hbm, ⟨12, _⟩ => ⟨S64x1024x128, .f32⟩
  | .hbm, ⟨13, _⟩ => ⟨S64x1024x128, .bf16⟩
  | .hbm, ⟨14, _⟩ => ⟨S1024x1024, .bf16⟩
  | .hbm, ⟨15, _⟩ => ⟨S1x1024, .f32⟩
  | .hbm, ⟨16, _⟩ => ⟨S8192x1024, .f32⟩
  | .hbm, ⟨17, _⟩ => ⟨S8x8192x704, .bf16⟩
  | .hbm, ⟨18, _⟩ => ⟨S4x704x8192, .bf16⟩
  | .hbm, ⟨19, _⟩ => ⟨S8192x1024, .f32⟩
  | .local _ .vmem, ⟨0, _⟩ => ⟨S4x1024x128, .bf16⟩
  | .local _ .vmem, ⟨1, _⟩ => ⟨S4x1024x128, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S8x704x1024, .bf16⟩
  | .local _ .vmem, ⟨7, _⟩ => ⟨S4x704x1024, .bf16⟩
  | .local _ .vmem, ⟨8, _⟩ => ⟨S512x1024, .f32⟩
  | .local _ .vmem, ⟨9, _⟩ => ⟨S512x1024, .f32⟩
  | .local _ .vmem, ⟨10, _⟩ => ⟨S8x512x704, .bf16⟩
  | .local _ .vmem, ⟨11, _⟩ => ⟨S8x512x704, .bf16⟩
  | .local _ .vmem, ⟨12, _⟩ => ⟨S4x704x512, .bf16⟩
  | .local _ .vmem, ⟨13, _⟩ => ⟨S4x704x512, .bf16⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x704x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdAttnRefIdeal.lean ====
abbrev S8192x1024 : Shape := ⟨2, ![8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x8x704 : Shape := ⟨3, ![8192, 8, 704]⟩
abbrev S8x8192x704 : Shape := ⟨3, ![8, 8192, 704]⟩
abbrev S2816x8192 : Shape := ⟨2, ![2816, 8192]⟩
abbrev S4x704x8192 : Shape := ⟨3, ![4, 704, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x5632, .f32⟩
  | .hbm, ⟨58, _⟩ => ⟨S8192x5632, .bf16⟩
  | .hbm, ⟨59, _⟩ => ⟨S8192x8x704, .bf16⟩
  | .hbm, ⟨60, _⟩ => ⟨S8x8192x704, .bf16⟩
  | .hbm, ⟨61, _⟩ => ⟨S8192x2816, .bf16⟩
  | .hbm, ⟨62, _⟩ => ⟨S2816x8192, .bf16⟩
  | .hbm, ⟨63, _⟩ => ⟨S4x704x8192, .bf16⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v22 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩

abbrev nD : Nat := 1
abbrev τ : Topo := Topo.v7x

variable {F : FTy → Type} [FloatOps F]
-- ==== Proof.Reals.lean ====
/-
  The real numbers behind the extended reals: sums, products, quotients, exponentials and inverse square roots of real
  values are real values; the named constants of the programs; and the mathematics of the two normalisations (layer norm
  and root-mean-square norm), their derivatives, and the logistic function, each of one row.
-/
module

public import Idealize.ShloMosaic.Lib.Pointwise
public import Idealize.ShloMosaic.Lib.IdealHost

@[expose] public section

noncomputable section

namespace Cert.Reals

open Idealize.ShloMosaic

/-! ## Real values stay real -/

theorem lift_add (a b : ℝ) : (a : EReal) + (b : EReal) = ((a + b : ℝ) : EReal) := (EReal.coe_add a b).symm
theorem lift_sub (a b : ℝ) : (a : EReal) - (b : EReal) = ((a - b : ℝ) : EReal) := (EReal.coe_sub a b).symm
theorem lift_mul (a b : ℝ) : (a : EReal) * (b : EReal) = ((a * b : ℝ) : EReal) := (EReal.coe_mul a b).symm
theorem lift_neg (a : ℝ) : -(a : EReal) = ((-a : ℝ) : EReal) := (EReal.coe_neg a).symm
theorem lift_zero : (0 : EReal) = ((0 : ℝ) : EReal) := rfl
theorem lift_one : (1 : EReal) = ((1 : ℝ) : EReal) := rfl

theorem lift_sum {ι : Type} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, lift_add]

theorem lift_div (a b : ℝ) (h : b ≠ 0) : Ideal.div (a : EReal) (b : EReal) = ((a / b : ℝ) : EReal) := by
  have h' : (b : EReal) ≠ 0 := by simpa using h
  rw [div_eq_mul_inv, ← lift_mul, EReal.coe_inv]
  unfold Ideal.div
  simp [h']

theorem lift_exp (a : ℝ) : Ideal.exp (a : EReal) = ((Real.exp a : ℝ) : EReal) := by
  unfold Ideal.exp; rfl

theorem lift_rsqrt (a : ℝ) (h : 0 < a) : Ideal.rsqrt (a : EReal) = (((√a)⁻¹ : ℝ) : EReal) := by
  show (if a < 0 then ⊥ else if a = 0 then ⊤ else (((√a)⁻¹ : ℝ) : EReal)) = _
  rw [if_neg (not_lt.mpr h.le), if_neg h.ne']

/-! ## The constants -/

/-- The norms' `1e-6`, as the nearest float. -/
def eps : ℝ := 8796093 / 8796093022208

theorem eps_pos : 0 < eps := by unfold eps; norm_num

theorem const_1024 : Ideal.ofBits .f32 0x44800000#32 = ((1024 : ℝ) : EReal) := by
  simp [Ideal.ofBits, Ideal.ieee, -EReal.coe_mul]; norm_num
theorem const_two : Ideal.ofBits .f32 0x40000000#32 = ((2 : ℝ) : EReal) := by
  simp [Ideal.ofBits, Ideal.ieee, -EReal.coe_mul]; norm_num
theorem const_neg_half : Ideal.ofBits .f32 0xBF000000#32 = ((-1 / 2 : ℝ) : EReal) := by
  simp [Ideal.ofBits, Ideal.ieee, -EReal.coe_mul]; norm_num
theorem const_eps : Ideal.ofBits .f32 0x358637BD#32 = ((eps : ℝ) : EReal) := by
  unfold eps
  simp [Ideal.ofBits, Ideal.ieee, -EReal.coe_mul]; norm_num

theorem const_inf : Ideal.ofBits .f32 0x7F800000#32 = ⊤ := by
  simp [Ideal.ofBits, Ideal.ieee]

/-- A value whose absolute value is below infinity is a real number. -/
theorem real_of_abs_lt (x : EReal) (h : max x (-x) < ⊤) : ((x.toReal : ℝ) : EReal) = x := by
  refine EReal.coe_toReal ?_ ?_
  · rintro rfl; simp at h
  · rintro rfl; simp at h

/-! ## One row's mathematics -/

/-- The logistic function. -/
def sg (y : ℝ) : ℝ := 1 / (1 + Real.exp (-y))

theorem one_add_exp_ne (y : ℝ) : (1 + Real.exp (-y)) ≠ 0 := by positivity

/-- A row's mean. -/
def mean (x : Fin 1024 → ℝ) : ℝ := (∑ k, x k) / 1024

/-- A row less its mean. -/
def cen (x : Fin 1024 → ℝ) (j : Fin 1024) : ℝ := x j - mean x

theorem mean_sq_nonneg (x : Fin 1024 → ℝ) : 0 ≤ mean fun k => x k * x k :=
  div_nonneg (Finset.sum_nonneg fun k _ => mul_self_nonneg (x k)) (by norm_num)

/-- The inverse root mean square of a row (with `eps`). -/
def rms (x : Fin 1024 → ℝ) : ℝ := (√(mean (fun k => x k * x k) + eps))⁻¹

theorem rms_arg_pos (x : Fin 1024 → ℝ) : 0 < mean (fun k => x k * x k) + eps :=
  add_pos_of_nonneg_of_pos (mean_sq_nonneg x) eps_pos

theorem rms_sq (x : Fin 1024 → ℝ) : rms x * rms x * (mean (fun k => x k * x k) + eps) = 1 := by
  have h := rms_arg_pos x
  have hs : √(mean (fun k => x k * x k) + eps) ≠ 0 := (Real.sqrt_pos.mpr h).ne'
  have h2 := Real.mul_self_sqrt h.le
  unfold rms
  generalize √(mean (fun k => x k * x k) + eps) = s at hs h2
  rw [← h2]; field_simp

/-- The inverse root over the mean square: the cube of the inverse root. -/
theorem rms_div (x : Fin 1024 → ℝ) : rms x / (mean (fun k => x k * x k) + eps) = rms x * rms x * rms x := by
  have h := (rms_arg_pos x).ne'
  have h2 := rms_sq x
  rw [div_eq_iff h]
  linear_combination (-(rms x)) * h2

/-- The root-mean-square norm's derivative: `d` is the derivative of what follows, `x` the row. -/
def rmsBwd (x d : Fin 1024 → ℝ) (j : Fin 1024) : ℝ :=
  rms x * (d j - x j * rms x * mean fun k => d k * (x k * rms x))

/-- The layer norm's derivative. -/
def lnBwd (x d : Fin 1024 → ℝ) (j : Fin 1024) : ℝ :=
  rms (cen x) * (d j - mean d - cen x j * rms (cen x) * mean fun k => d k * (cen x k * rms (cen x)))

/-- The chain rule of `x · rsqrt(mean(x²) + eps)`, written out as its steps, is the closed derivative. -/
theorem rmsBwd_steps (x d : Fin 1024 → ℝ) (j : Fin 1024) (T : ℝ)
    (hT : T = (∑ k, x k * d k) * (-1 / 2 * (rms x / (mean (fun k => x k * x k) + eps))) / 1024) :
    d j * rms x + x j * T + T * x j = rmsBwd x d j := by
  have h2 : (∑ k, d k * (x k * rms x)) = rms x * ∑ k, x k * d k := by
    rw [Finset.mul_sum]; exact Finset.sum_congr rfl fun k _ => by ring
  have h3 : ∀ f : Fin 1024 → ℝ, mean f = (∑ k, f k) / 1024 := fun _ => rfl
  rw [rms_div] at hT
  rw [hT]
  unfold rmsBwd
  rw [h3 (fun k => d k * (x k * rms x)), h2]
  ring

theorem sum_cen (x : Fin 1024 → ℝ) : ∑ k, cen x k = 0 := by
  unfold cen mean
  rw [Finset.sum_sub_distrib, Finset.sum_const, Finset.card_univ, Fintype.card_fin]
  simp; ring

/-- The chain rule of `(x − mean) · rsqrt(var + eps)`, written out as its steps, is the closed derivative. -/
theorem lnBwd_steps (x d : Fin 1024 → ℝ) (j : Fin 1024) (T : ℝ)
    (hT : T = (∑ k, cen x k * d k) * (-1 / 2 * (rms (cen x) / (mean (fun k => cen x k * cen x k) + eps))) / 1024) :
    d j * rms (cen x) + T * (2 * cen x j)
      + ((∑ k, -(d k * rms (cen x))) + (∑ k, -(T * (2 * cen x k)))) / 1024 = lnBwd x d j := by
  have h0 : (∑ k, -(T * (2 * cen x k))) = 0 := by
    have : ∀ k, -(T * (2 * cen x k)) = (-(T * 2)) * cen x k := fun k => by ring
    simp only [this, ← Finset.mul_sum, sum_cen, mul_zero]
  have h1 : (∑ k, -(d k * rms (cen x))) = -(rms (cen x)) * ∑ k, d k := by
    rw [Finset.mul_sum]; exact Finset.sum_congr rfl fun k _ => by ring
  have h2 : (∑ k, d k * (cen x k * rms (cen x))) = rms (cen x) * ∑ k, cen x k * d k := by
    rw [Finset.mul_sum]; exact Finset.sum_congr rfl fun k _ => by ring
  have h3 : ∀ f : Fin 1024 → ℝ, mean f = (∑ k, f k) / 1024 := fun _ => rfl
  rw [rms_div] at hT
  rw [h0, h1, hT]
  unfold lnBwd
  rw [h3 d, h3 (fun k => d k * (cen x k * rms (cen x))), h2]
  ring

end Cert.Reals

end
-- ==== Proof.Finite.lean ====
/-
  The precondition of the value claims, read: an argument whose elements' absolute values are all below infinity holds the real
  numbers its elements' real parts are.
-/
module

public import proofs.«01_k».proof.Proof.Reals

@[expose] public section

noncomputable section

namespace Cert.Finite

open Idealize.ShloMosaic Cert.Reals

/-- The array of ones the comparison `|x| < ∞` gives says that every element is a real number. -/
theorem real_of_pre {s : Shape} {x : FVec Ideal s .f32}
    {hb : (⟨0, ![]⟩ : Shape).BroadcastsInDim s (![] : Fin 0 → Fin s.rank)}
    (h : cmpf .olt (Host.absf x) (broadcastInDim s ![] hb (constant ⟨0, ![]⟩ .f32 0x7F800000#32)) = fun _ => 1#1) (i : s.Idx) :
    x i = (((x i).toReal : ℝ) : EReal) := by
  have hi := congrFun h i
  pointwise at hi
  have hc : FloatOps.absf (x i) < Ideal.ofBits FTy.f32 2139095040#32 := by
    by_contra hn
    simp [hn] at hi
  rw [const_inf] at hc
  exact (real_of_abs_lt (x i) hc).symm

end Cert.Finite

end
-- ==== Proof.PostBlock.lean ====
/-
  One grid point of the kernel `conv_post_bwd`: its stored values, element by element, when the loaded blocks hold real
  numbers. `d` is the derivative of the module's result, `x` the convolution's result (its bias added), `g`, `b` the layer norm's
  scale and shift, `w` the second pointwise product's matrix.
-/
module

public import proofs.«01_k».proof.Proof.Gen.ConvPostBwdIdeal.Skeleton
public import proofs.«01_k».proof.Proof.Reals

@[expose] public section

set_option maxRecDepth 16384

noncomputable section

open Idealize.ShloMosaic Idealize.ShloMosaic.TcCoe Idealize.SL.Sem

namespace Cert.Post

open Cert.Reals

/-! ## The mathematics of one row -/

/-- The layer norm's result. -/
def aff (x g b : Fin 1024 → ℝ) (j : Fin 1024) : ℝ := cen x j * rms (cen x) * g j + b j
/-- The derivative of the layer norm's result: through the product and the swish. -/
def dAff (d x g b : Fin 1024 → ℝ) (w : Fin 1024 → Fin 1024 → ℝ) (j : Fin 1024) : ℝ :=
  (∑ k, d k * w j k) * (sg (aff x g b j) * (1 + aff x g b j * (1 - sg (aff x g b j))))
/-- The derivative of the normalised row's input. -/
def dIn (d x g b : Fin 1024 → ℝ) (w : Fin 1024 → Fin 1024 → ℝ) (j : Fin 1024) : ℝ :=
  lnBwd x (fun k => dAff d x g b w k * g k) j

end Cert.Post

namespace Cert.ConvPostBwdIdeal.Block

open Cert.ConvPostBwdIdeal Cert.ConvPostBwdIdeal.Gen Cert.Reals Cert.Post

variable {D X : FVec Ideal S512x1024 .f32} {G B : FVec Ideal S1x1024 .f32} {W : FVec Ideal S1024x1024 .bf16}
  {d x : Fin 512 → Fin 1024 → ℝ} {g b : Fin 1024 → ℝ} {w : Fin 1024 → Fin 1024 → ℝ}

theorem pay5 (hX : ∀ i j, X (ix2 i j) = (x i j : EReal)) (i : Fin 512) (j : Fin 1024) :
    k0_pay5 (F := Ideal) X (ix2 i j) = ((cen (x i) j : ℝ) : EReal) := by
  pointwise [k0_pay5]
  simp only [hX, const_1024, lift_sum, lift_sub, lift_div _ _ (by norm_num : (1024 : ℝ) ≠ 0)]
  rfl

theorem pay6 (hX : ∀ i j, X (ix2 i j) = (x i j : EReal)) (i : Fin 512) (j : Fin 1) :
    k0_pay6 (F := Ideal) X (ix2 i j) = ((rms (cen (x i)) : ℝ) : EReal) := by
  pointwise [k0_pay6]
  simp only [pay5 hX, const_1024, const_eps, lift_sum, lift_mul, lift_add, lift_div _ _ (by norm_num : (1024 : ℝ) ≠ 0)]
  exact lift_rsqrt _ (rms_arg_pos _)

theorem pay7 (hX : ∀ i j, X (ix2 i j) = (x i j : EReal)) (i : Fin 512) (j : Fin 1024) :
    k0_pay7 (F := Ideal) X (ix2 i j) = ((cen (x i) j * rms (cen (x i)) : ℝ) : EReal) := by
  pointwise [k0_pay7]
  simp only [pay5 hX, pay6 hX, lift_mul]

theorem pay8 (hX : ∀ i j, X (ix2 i j) = (x i j : EReal)) (hG : ∀ i j, G (ix2 i j) = (g j : EReal))
    (hB : ∀ i j, B (ix2 i j) = (b j : EReal)) (i : Fin 512) (j : Fin 1024) :
    k0_pay8 (F := Ideal) G X B (ix2 i j) = ((aff (x i) g b j : ℝ) : EReal) := by
  pointwise [k0_pay8, k0_pay4]
  simp only [pay7 hX, hG, hB, lift_mul, lift_add]
  rfl

theorem pay9 (hX : ∀ i j, X (ix2 i j) = (x i j : EReal)) (hG : ∀ i j, G (ix2 i j) = (g j : EReal))
    (hB : ∀ i j, B (ix2 i j) = (b j : EReal)) (i : Fin 512) (j : Fin 1024) :
    k0_pay9 (F := Ideal) G X B (ix2 i j) = ((sg (aff (x i) g b j) : ℝ) : EReal) := by
  pointwise [k0_pay9]
  simp only [pay8 hX hG hB, lift_zero, lift_one, lift_sub, lift_exp, lift_add, zero_sub, lift_div _ _ (one_add_exp_ne _)]
  rfl

theorem pay10 (hD : ∀ i j, D (ix2 i j) = (d i j : EReal)) (hX : ∀ i j, X (ix2 i j) = (x i j : EReal))
    (hG : ∀ i j, G (ix2 i j) = (g j : EReal)) (hB : ∀ i j, B (ix2 i j) = (b j : EReal))
    (hW : ∀ i j, W (ix2 i j) = (w i j : EReal)) (i : Fin 512) (j : Fin 1024) :
    k0_pay10 (F := Ideal) D (k0_pay8 G X B) (k0_pay9 G X B) W (ix2 i j) = ((dAff (d i) (x i) g b w j : ℝ) : EReal) := by
  pointwise [k0_pay10]
  simp only [pay8 hX hG hB, pay9 hX hG hB, hD, hW, lift_zero, lift_one, lift_sub, lift_add, lift_mul, lift_sum, zero_add]
  rfl

theorem pay11 (hD : ∀ i j, D (ix2 i j) = (d i j : EReal)) (hX : ∀ i j, X (ix2 i j) = (x i j : EReal))
    (hG : ∀ i j, G (ix2 i j) = (g j : EReal)) (hB : ∀ i j, B (ix2 i j) = (b j : EReal))
    (hW : ∀ i j, W (ix2 i j) = (w i j : EReal)) (i : Fin 512) (j : Fin 1024) :
    k0_pay11 (F := Ideal) D (k0_pay4 G) (k0_pay6 X) (k0_pay7 X) (k0_pay8 G X B) (k0_pay9 G X B) W (ix2 i j)
      = ((dIn (d i) (x i) g b w j : ℝ) : EReal) := by
  pointwise [k0_pay11, k0_pay4]
  simp only [pay10 hD hX hG hB hW, pay7 hX, pay6 hX, hG, const_1024, lift_sub, lift_mul, lift_sum, lift_div _ _ (by norm_num : (1024 : ℝ) ≠ 0)]
  rfl

/-- A row of sums kept so far, and one more block's column sums. -/
theorem pay12 (hD : ∀ i j, D (ix2 i j) = (d i j : EReal)) (hX : ∀ i j, X (ix2 i j) = (x i j : EReal))
    (hG : ∀ i j, G (ix2 i j) = (g j : EReal)) (hB : ∀ i j, B (ix2 i j) = (b j : EReal))
    (hW : ∀ i j, W (ix2 i j) = (w i j : EReal)) (A : FVec Ideal S1x1024 .f32) (i : Fin 1) (j : Fin 1024) :
    k0_pay12 (F := Ideal) D (k0_pay7 X) (k0_pay8 G X B) (k0_pay9 G X B) W A (ix2 i j)
      = A (ix2 i j) + ∑ r : Fin 512, ((dAff (d r) (x r) g b w j * (cen (x r) j * rms (cen (x r))) : ℝ) : EReal) := by
  pointwise [k0_pay12]
  simp only [pay10 hD hX hG hB hW, pay7 hX, lift_mul]

theorem pay13 (hD : ∀ i j, D (ix2 i j) = (d i j : EReal)) (hX : ∀ i j, X (ix2 i j) = (x i j : EReal))
    (hG : ∀ i j, G (ix2 i j) = (g j : EReal)) (hB : ∀ i j, B (ix2 i j) = (b j : EReal))
    (hW : ∀ i j, W (ix2 i j) = (w i j : EReal)) (A : FVec Ideal S1x1024 .f32) (i : Fin 1) (j : Fin 1024) :
    k0_pay13 (F := Ideal) D (k0_pay8 G X B) (k0_pay9 G X B) W A (ix2 i j)
      = A (ix2 i j) + ∑ r : Fin 512, ((dAff (d r) (x r) g b w j : ℝ) : EReal) := by
  pointwise [k0_pay13]
  simp only [pay10 hD hX hG hB hW]

theorem pay1 {V : FVec Ideal S512x1024 .f32} {v : Fin 512 → Fin 1024 → ℝ} (hV : ∀ i j, V (ix2 i j) = (v i j : EReal))
    (A : FVec Ideal S1x1024 .f32) (i : Fin 1) (j : Fin 1024) :
    k0_pay1 (F := Ideal) V A (ix2 i j) = A (ix2 i j) + ∑ r : Fin 512, ((v r j : ℝ) : EReal) := by
  pointwise [k0_pay1]
  simp only [hV]

theorem pay2 (hD : ∀ i j, D (ix2 i j) = (d i j : EReal)) (A : FVec Ideal S1x1024 .f32) (i : Fin 1) (j : Fin 1024) :
    k0_pay2 (F := Ideal) D A (ix2 i j) = A (ix2 i j) + ∑ r : Fin 512, ((d r j : ℝ) : EReal) := by
  pointwise [k0_pay2]
  simp only [hD]

theorem pay3 (i : Fin 8) (j : Fin 1024) : k0_pay3 (F := Ideal) (ix2 i j) = 0 := by
  pointwise [k0_pay3]

end Cert.ConvPostBwdIdeal.Block

end
-- ==== Proof.PostRef.lean ====
/-
  The reference's stages, element by element, when the arguments hold real numbers: the layer norm forward, and the chain rule
  of the product, the swish and the layer norm as the reference spells them.
-/
module

public import proofs.«01_k».proof.Proof.Gen.ConvPostBwdRefIdeal.Read
public import proofs.«01_k».proof.Proof.PostBlock

@[expose] public section

set_option maxRecDepth 16384

noncomputable section

open Idealize.ShloMosaic Idealize.ShloMosaic.TcCoe Idealize.SL.Sem

namespace Cert.ConvPostBwdRefIdeal.Stage

open Cert.ConvPostBwdRefIdeal Cert.ConvPostBwdRefIdeal.Read Cert.Reals Cert.Post

variable {x0 : FVec Ideal S8192x1024 .f32} {x1 x2 x3 : FVec Ideal S1024 .f32} {x4 : FVec Ideal S1024x1024 .f32}
  {x5 : FVec Ideal S8192x1024 .f32}
  {C D : Fin 8192 → Fin 1024 → ℝ} {bd g b : Fin 1024 → ℝ} {w : Fin 1024 → Fin 1024 → ℝ}

theorem at3 (h0 : ∀ i j, x0 (ix2 i j) = (C i j : EReal)) (h1 : ∀ j, x1 (ix1 j) = (bd j : EReal)) (i : Fin 8192) (j : Fin 1024) :
    val_main_v3 (F := Ideal) x0 x1 (ix2 i j) = ((C i j + bd j : ℝ) : EReal) := by
  pointwise [val_main_v3, val_main_v2, val_main_v1]
  simp only [h0, h1, lift_add]

/-- The reference's stages depend on the convolution's result through its real values `x`. -/
structure Row (x0 : FVec Ideal S8192x1024 .f32) (x1 : FVec Ideal S1024 .f32) (x : Fin 8192 → Fin 1024 → ℝ) : Prop where
  at3 : ∀ i j, val_main_v3 (F := Ideal) x0 x1 (ix2 i j) = ((x i j : ℝ) : EReal)

variable {x : Fin 8192 → Fin 1024 → ℝ}

theorem at7 (h : Row x0 x1 x) (i : Fin 8192) (j : Fin 1) : val_main_v7 (F := Ideal) x0 x1 (ix2 i j) = ((mean (x i) : ℝ) : EReal) := by
  pointwise [val_main_v7, val_main_v6, val_main_v5, val_main_v4, val_main_cst_0, val_main_cst_1]
  simp only [h.at3, const_1024, lift_sum, zero_add, lift_div _ _ (by norm_num : (1024 : ℝ) ≠ 0)]
  rfl

theorem at9 (h : Row x0 x1 x) (i : Fin 8192) (j : Fin 1024) : val_main_v9 (F := Ideal) x0 x1 (ix2 i j) = ((cen (x i) j : ℝ) : EReal) := by
  pointwise [val_main_v9, val_main_v8]
  simp only [h.at3, at7 h, lift_sub]
  rfl

theorem at18 (h : Row x0 x1 x) (i : Fin 8192) (j : Fin 1024) : val_main_v18 (F := Ideal) x0 x1 (ix2 i j) = ((cen (x i) j : ℝ) : EReal) := by
  pointwise [val_main_v18, val_main_v17]
  simp only [h.at3, at7 h, lift_sub]
  rfl

theorem at20 (h : Row x0 x1 x) (i : Fin 8192) (j : Fin 1) :
    val_main_v20 (F := Ideal) x0 x1 (ix2 i j) = ((mean (fun k => cen (x i) k * cen (x i) k) + eps : ℝ) : EReal) := by
  pointwise [val_main_v20, val_main_v19, val_main_v16, val_main_v15, val_main_v14, val_main_v13, val_main_v10, val_main_cst_3,
    val_main_cst_4, val_main_cst_5]
  simp only [at9 h, const_1024, const_eps, lift_mul, lift_sum, zero_add, lift_add, lift_div _ _ (by norm_num : (1024 : ℝ) ≠ 0)]
  rfl

theorem at21 (h : Row x0 x1 x) (i : Fin 8192) (j : Fin 1) : val_main_v21 (F := Ideal) x0 x1 (ix2 i j) = ((rms (cen (x i)) : ℝ) : EReal) := by
  pointwise [val_main_v21]
  rw [at20 h]
  exact lift_rsqrt _ (rms_arg_pos _)

theorem at24 (h : Row x0 x1 x) (i : Fin 8192) (j : Fin 1) : val_main_v24 (F := Ideal) x0 x1 (ix2 i j)
    = ((-1 / 2 * (rms (cen (x i)) / (mean (fun k => cen (x i) k * cen (x i) k) + eps)) : ℝ) : EReal) := by
  pointwise [val_main_v24, val_main_v23, val_main_v22, val_main_cst_6]
  simp only [at20 h, at21 h, const_neg_half, lift_div _ _ (rms_arg_pos _).ne', lift_mul]

theorem at26 (h : Row x0 x1 x) (i : Fin 8192) (j : Fin 1024) :
    val_main_v26 (F := Ideal) x0 x1 (ix2 i j) = ((cen (x i) j * rms (cen (x i)) : ℝ) : EReal) := by
  pointwise [val_main_v26, val_main_v25]
  simp only [at18 h, at21 h, lift_mul]

theorem at32 (h : Row x0 x1 x) (h2 : ∀ j, x2 (ix1 j) = (g j : EReal)) (h3 : ∀ j, x3 (ix1 j) = (b j : EReal)) (i : Fin 8192) (j : Fin 1024) :
    val_main_v32 (F := Ideal) x0 x1 x2 x3 (ix2 i j) = ((aff (x i) g b j : ℝ) : EReal) := by
  pointwise [val_main_v32, val_main_v31, val_main_v30, val_main_v29, val_main_v28, val_main_v27]
  simp only [at26 h, h2, h3, lift_mul, lift_add]
  rfl

theorem at33 (h : Row x0 x1 x) (h2 : ∀ j, x2 (ix1 j) = (g j : EReal)) (h3 : ∀ j, x3 (ix1 j) = (b j : EReal)) (i : Fin 8192) (j : Fin 1024) :
    val_main_v33_2 (F := Ideal) x0 x1 x2 x3 (ix2 i j) = ((sg (aff (x i) g b j) : ℝ) : EReal) := by
  pointwise [val_main_v33_2, val_main_call0_v4, val_main_call0_v3, val_main_call0_v2, val_main_call0_v1, val_main_call0_v0,
    val_main_call0_cst, val_main_call0_cst_0]
  simp only [at32 h h2 h3, lift_neg, lift_one, lift_exp, lift_add, lift_div _ _ (one_add_exp_ne _)]
  rfl

theorem at42 (h4 : ∀ i j, x4 (ix2 i j) = (w i j : EReal)) (h5 : ∀ i j, x5 (ix2 i j) = (D i j : EReal)) (i : Fin 8192) (j : Fin 1024) :
    val_main_v42 (F := Ideal) x4 x5 (ix2 i j) = ((∑ k, D i k * w j k : ℝ) : EReal) := by
  pointwise [val_main_v42, val_main_v38]
  simp only [h4, h5, lift_mul, lift_sum]

/-- What the reference's arguments hold. -/
structure Args (x0 : FVec Ideal S8192x1024 .f32) (x1 x2 x3 : FVec Ideal S1024 .f32) (x4 : FVec Ideal S1024x1024 .f32)
    (x5 : FVec Ideal S8192x1024 .f32) (x : Fin 8192 → Fin 1024 → ℝ) (g b : Fin 1024 → ℝ) (w : Fin 1024 → Fin 1024 → ℝ)
    (D : Fin 8192 → Fin 1024 → ℝ) : Prop extends Row x0 x1 x where
  h2 : ∀ j, x2 (ix1 j) = (g j : EReal)
  h3 : ∀ j, x3 (ix1 j) = (b j : EReal)
  h4 : ∀ i j, x4 (ix2 i j) = (w i j : EReal)
  h5 : ∀ i j, x5 (ix2 i j) = (D i j : EReal)

variable (H : Args x0 x1 x2 x3 x4 x5 x g b w D)
include H

theorem at43 (i : Fin 8192) (j : Fin 1024) :
    val_main_v43 (F := Ideal) x0 x1 x2 x3 x4 x5 (ix2 i j) = ((dAff (D i) (x i) g b w j : ℝ) : EReal) := by
  pointwise [val_main_v43, val_main_call1_v0, val_main_call1_v1, val_main_call1_v2, val_main_v33_1, val_main_call0_v7, val_main_call0_v6,
    val_main_call0_cst_1]
  simp only [at32 H.toRow H.h2 H.h3, at33 H.toRow H.h2 H.h3, at42 H.h4 H.h5, lift_one, lift_sub, lift_mul, lift_add]
  refine congrArg Real.toEReal ?_
  unfold dAff
  ring

theorem at51 (i : Fin 8192) (j : Fin 1024) :
    val_main_v51 (F := Ideal) x0 x1 x2 x3 x4 x5 (ix2 i j) = ((dAff (D i) (x i) g b w j * g j : ℝ) : EReal) := by
  pointwise [val_main_v51, val_main_v50, val_main_v27]
  simp only [at43 H, H.h2, lift_mul]

theorem at57 (i : Fin 8192) (j : Fin 1024) :
    val_main_v57 (F := Ideal) x0 x1 x2 x3 x4 x5 (ix2 i j) = ((dAff (D i) (x i) g b w j * g j * rms (cen (x i)) : ℝ) : EReal) := by
  pointwise [val_main_v57, val_main_v56]
  simp only [at51 H, at21 H.toRow, lift_mul]

/-- The derivative of a row's variance. -/
def dVar (d x g b : Fin 1024 → ℝ) (w : Fin 1024 → Fin 1024 → ℝ) : ℝ :=
  (∑ k, cen x k * (dAff d x g b w k * g k)) * (-1 / 2 * (rms (cen x) / (mean (fun k => cen x k * cen x k) + eps))) / 1024

theorem at64 (i : Fin 8192) :
    val_main_v64 (F := Ideal) x0 x1 x2 x3 x4 x5 (ix1 i) = ((dVar (D i) (x i) g b w : ℝ) : EReal) := by
  pointwise [val_main_v64, val_main_v63, val_main_v62, val_main_v58, val_main_v55, val_main_v54, val_main_v53, val_main_cst_13,
    val_main_cst_15, val_main_cst_16]
  simp only [at51 H, at24 H.toRow, at18 H.toRow, const_1024, lift_mul, lift_sum, zero_add, lift_div _ _ (by norm_num : (1024 : ℝ) ≠ 0)]
  simp [dVar]

theorem at66 (i : Fin 8192) (j : Fin 1024) :
    val_main_v66 (F := Ideal) x0 x1 x2 x3 x4 x5 (ix2 i j) = ((dVar (D i) (x i) g b w * (2 * cen (x i) j) : ℝ) : EReal) := by
  pointwise [val_main_v66, val_main_v65, val_main_v12, val_main_v11, val_main_cst_2]
  simp only [at64 H, at9 H.toRow, const_two, lift_mul]

theorem at76 (i : Fin 8192) (j : Fin 1024) :
    val_main_v76 (F := Ideal) x0 x1 x2 x3 x4 x5 (ix2 i j) = ((dIn (D i) (x i) g b w j : ℝ) : EReal) := by
  pointwise [val_main_v76, val_main_v75, val_main_v74, val_main_v73, val_main_v72, val_main_v71, val_main_v70, val_main_v69,
    val_main_v68, val_main_v67, val_main_v61, val_main_v60, val_main_v59, val_main_cst_14, val_main_cst_17, val_main_cst_18, val_main_cst_19]
  simp only [at57 H, at66 H, const_1024, lift_neg, lift_sum, zero_add, lift_add, lift_div _ _ (by norm_num : (1024 : ℝ) ≠ 0)]
  refine congrArg Real.toEReal ?_
  unfold dIn
  rw [← lnBwd_steps (x i) _ j (dVar (D i) (x i) g b w) rfl]
  simp

end Cert.ConvPostBwdRefIdeal.Stage

end
-- ==== Proof.Rows.lean ====
/-
  Buffers of rows that a kernel stores one row at a time: what the buffer holds after such a store, row by row, and what a
  load of one row reads.
-/
module

public import Idealize.ShloMosaic.Lib.Pipeline.ValueKit
public import Idealize.ShloMosaic.Lib.Pointwise
public import Idealize.ShloMosaic.Lib.WritesUnit

@[expose] public section

noncomputable section

namespace Cert.Rows

open Idealize.ShloMosaic

variable {Val : EltTy → Type} {sig : RefSig} {κ : Kind} {sp : Space} {e : EltTy} {N M : ℕ}

/-- A store of row `o`, read at row `q`. -/
theorem read_row (v : View sig κ sp (⟨2, ![N, M]⟩ : Shape) e) (f : v.ty.Contents Val) (o : ℕ)
    (inb : ∀ a : Fin 2, (![o, 0] : Fin 2 → ℕ) a + (![1, M] : Fin 2 → ℕ) a ≤ (⟨2, ![N, M]⟩ : Shape).size a)
    (w : (⟨2, ![1, M]⟩ : Shape).Idx → Val e) (L : List (View.Piece Val (⟨2, ![N, M]⟩ : Shape) e)) (q : Fin N) (j : Fin M) :
    v.read Val (v.writes Val f (⟨Rect.unit ![o, 0] ![1, M] inb, w⟩ :: L)) (ix2 q j)
      = if q.val = o then w (ix2 0 j) else v.read Val (v.writes Val f L) (ix2 q j) := by
  by_cases h : q.val = o
  · rw [if_pos h]
    exact View.read_writes_cons_rows_of_mem v f inb w L (ix2 q j) (ix2 (0 : Fin 1) j) rfl (by subst h; rfl) rfl
  · rw [if_neg h]
    exact View.read_writes_cons_rows_of_not_mem v f inb w L (ix2 q j) rfl rfl (by
      show q.val < o ∨ o + 1 ≤ q.val
      omega)

/-- The same over no earlier contents. -/
theorem canon_row [∀ e, Nonempty (Val e)] (o : ℕ)
    (inb : ∀ a : Fin 2, (![o, 0] : Fin 2 → ℕ) a + (![1, M] : Fin 2 → ℕ) a ≤ (⟨2, ![N, M]⟩ : Shape).size a)
    (w : (⟨2, ![1, M]⟩ : Shape).Idx → Val e) (L : List (View.Piece Val (⟨2, ![N, M]⟩ : Shape) e)) (q : Fin N) (j : Fin M) :
    View.canon (⟨Rect.unit ![o, 0] ![1, M] inb, w⟩ :: L) (ix2 q j)
      = if q.val = o then w (ix2 0 j) else View.canon L (ix2 q j) := by
  by_cases h : q.val = o
  · rw [if_pos h]
    subst h
    have : (ix2 q j : (⟨2, ![N, M]⟩ : Shape).Idx) = (Rect.unit (s := ⟨2, ![N, M]⟩) ![q.val, 0] ![1, M] inb).emb (ix2 (0 : Fin 1) j) := by
      funext a; refine Fin.ext ?_
      fin_cases a
      · show q.val = q.val + 1 * 0; omega
      · show j.val = 0 + 1 * j.val; omega
    rw [this]
    exact View.canon_cons_emb (Rect.unit (s := ⟨2, ![N, M]⟩) ![q.val, 0] ![1, M] inb) w L _
  · rw [if_neg h]
    refine View.canon_cons_of_not_mem _ L ?_
    rw [Rect.mem_set_unit]
    intro hall
    have h0 := hall 0
    have : o ≤ q.val ∧ q.val < o + 1 := h0
    omega

/-- A fill of the whole buffer. -/
theorem canon_fill [∀ e, Nonempty (Val e)]
    (inb : ∀ a : Fin 2, (![0, 0] : Fin 2 → ℕ) a + (![N, M] : Fin 2 → ℕ) a ≤ (⟨2, ![N, M]⟩ : Shape).size a)
    (w : (⟨2, ![N, M]⟩ : Shape).Idx → Val e) (L : List (View.Piece Val (⟨2, ![N, M]⟩ : Shape) e)) :
    View.canon (⟨Rect.unit ![0, 0] ![N, M] inb, w⟩ :: L) = w :=
  View.canon_cons_unit_lit (S := ⟨2, ![N, M]⟩) inb w L (by intro a; fin_cases a <;> rfl)

/-- A load of row `o` after stores over no earlier contents. -/
theorem readCov_row [∀ e, Nonempty (Val e)] (v : View sig κ sp (⟨2, ![N, M]⟩ : Shape) e) (o : ℕ) (ho : o < N)
    (inb : ∀ a : Fin 2, (![o, 0] : Fin 2 → ℕ) a + (![1, M] : Fin 2 → ℕ) a ≤ (⟨2, ![N, M]⟩ : Shape).size a)
    (L : List (View.Piece Val (⟨2, ![N, M]⟩ : Shape) e)) (i : Fin 1) (j : Fin M) :
    v.readCov L (Rect.unit (s := ⟨2, ![N, M]⟩) ![o, 0] ![1, M] inb).toLoadRect (ix2 i j) = View.canon L (ix2 (⟨o, ho⟩ : Fin N) j) := by
  rw [View.readCov_eq_canon']
  refine congrArg (View.canon L) (funext fun a => Fin.ext ?_)
  have hi : i.val = 0 := by omega
  fin_cases a
  · show o + 1 * i.val = o; omega
  · show 0 + 1 * j.val = j.val; omega

/-- A load of row `o` of given contents. -/
theorem ld_row (X : (⟨2, ![N, M]⟩ : Shape).Idx → Val e) (o : ℕ) (ho : o < N)
    (inb : ∀ a : Fin 2, (![o, 0] : Fin 2 → ℕ) a + (![1, M] : Fin 2 → ℕ) a ≤ (⟨2, ![N, M]⟩ : Shape).size a)
    (i : Fin 1) (j : Fin M) :
    View.ld (Val := Val) (e' := e) X (Rect.unit (s := ⟨2, ![N, M]⟩) ![o, 0] ![1, M] inb) (ix2 i j) = X (ix2 (⟨o, ho⟩ : Fin N) j) := by
  refine congrArg X (funext fun a => Fin.ext ?_)
  have hi : i.val = 0 := by omega
  fin_cases a
  · show o + 1 * i.val = o; omega
  · show 0 + 1 * j.val = j.val; omega

end Cert.Rows

end
-- ==== Proof.PostArray.lean ====
/-
  The result arrays of the kernel `conv_post_bwd` after its run, when the arguments hold real numbers: the rows' derivatives,
  and the four rows of column sums.
-/
module

public import proofs.«01_k».proof.Proof.Gen.ConvPostBwdIdeal.Value
public import Idealize.ShloMosaic.Lib.Pipeline.ValueKit
public import proofs.«01_k».proof.Proof.PostBlock
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.ConvPostBwdIdeal.Array

open Cert.ConvPostBwdIdeal Cert.ConvPostBwdIdeal.Gen Cert.ConvPostBwdIdeal.Block Cert.Reals Cert.Post

variable (m : (ℓ : Loc nD τ sig) → Buf (Elt Ideal) ℓ)

theorem idx_val : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![0, 0] :=
  (by decide +kernel : ∀ t : Fin grid0.N, _)

/-- The row of the array that row `i` of grid point `t`'s block is. -/
def row (t : Fin cfg0.N) (i : Fin 512) : Fin 8192 :=
  ⟨t.val * 512 + i.val, by have := t.isLt; have h : cfg0.N = 16 := N_0; omega⟩

variable {C D : Fin 8192 → Fin 1024 → ℝ} {bd g b : Fin 1024 → ℝ} {w : Fin 1024 → Fin 1024 → ℝ} (c : Dev nD)

theorem blk0 (hD : ∀ i j, (show FVec Ideal S8192x1024 .f32 from m ((c : Thread nD τ).loc main_arg5)) (ix2 i j) = (D i j : EReal))
    (t : Fin cfg0.N) (i : Fin 512) (j : Fin 1024) :
    (show FVec Ideal S512x1024 .f32 from iblk m c 0 t) (ix2 i j) = (D (row t i) j : EReal) := by
  rw [← hD]
  blk_ext [iblk, V, idx_val t, row]

theorem blk1 (hC : ∀ i j, (show FVec Ideal S8192x1024 .f32 from m ((c : Thread nD τ).loc main_arg0)) (ix2 i j) = (C i j : EReal))
    (hbd : ∀ j, (show FVec Ideal S1024 .f32 from m ((c : Thread nD τ).loc main_arg1)) (ix1 j) = (bd j : EReal))
    (t : Fin cfg0.N) (i : Fin 512) (j : Fin 1024) :
    (show FVec Ideal S512x1024 .f32 from iblk m c 1 t) (ix2 i j) = ((C (row t i) j + bd j : ℝ) : EReal) := by
  rw [← lift_add, ← hC, ← hbd]
  blk_simp [iblk, idx_val t]
  entry_read
  pointwise
  refine Ideal.add_congr ?_ ?_ <;> blk_ext [idx_val t, row]

theorem blk2 (hg : ∀ j, (show FVec Ideal S1024 .f32 from m ((c : Thread nD τ).loc main_arg2)) (ix1 j) = (g j : EReal))
    (t : Fin cfg0.N) (i : Fin 1) (j : Fin 1024) :
    (show FVec Ideal S1x1024 .f32 from iblk m c 2 t) (ix2 i j) = (g j : EReal) := by
  rw [← hg]
  blk_simp [iblk, idx_val t]
  entry_read
  pointwise
  blk_ext [idx_val t]

theorem blk3 (hb : ∀ j, (show FVec Ideal S1024 .f32 from m ((c : Thread nD τ).loc main_arg3)) (ix1 j) = (b j : EReal))
    (t : Fin cfg0.N) (i : Fin 1) (j : Fin 1024) :
    (show FVec Ideal S1x1024 .f32 from iblk m c 3 t) (ix2 i j) = (b j : EReal) := by
  rw [← hb]
  blk_simp [iblk, idx_val t]
  entry_read
  pointwise
  blk_ext [idx_val t]

theorem blk4 (hw : ∀ i j, (show FVec Ideal S1024x1024 .f32 from m ((c : Thread nD τ).loc main_arg4)) (ix2 i j) = (w i j : EReal))
    (t : Fin cfg0.N) (i : Fin 1024) (j : Fin 1024) :
    (show FVec Ideal S1024x1024 .bf16 from iblk m c 4 t) (ix2 i j) = (w i j : EReal) := by
  rw [← hw]
  blk_simp [iblk, idx_val t]
  entry_read
  pointwise
  blk_ext [idx_val t]

/-- What column `j` of row `q` of the sums gains from one row of the arrays. -/
def part (q : Fin 8) (d x g b : Fin 1024 → ℝ) (w : Fin 1024 → Fin 1024 → ℝ) (j : Fin 1024) : ℝ :=
  if q.val = 3 then d j else if q.val = 2 then dIn d x g b w j else if q.val = 1 then dAff d x g b w j
  else if q.val = 0 then dAff d x g b w j * (cen x j * rms (cen x)) else 0

/-- The arguments hold the real arrays `C`, `bd`, `g`, `b`, `w`, `D`. -/
structure Holds (C : Fin 8192 → Fin 1024 → ℝ) (bd g b : Fin 1024 → ℝ) (w : Fin 1024 → Fin 1024 → ℝ) (D : Fin 8192 → Fin 1024 → ℝ) : Prop where
  h0 : ∀ i j, (show FVec Ideal S8192x1024 .f32 from m ((c : Thread nD τ).loc main_arg0)) (ix2 i j) = (C i j : EReal)
  h1 : ∀ j, (show FVec Ideal S1024 .f32 from m ((c : Thread nD τ).loc main_arg1)) (ix1 j) = (bd j : EReal)
  h2 : ∀ j, (show FVec Ideal S1024 .f32 from m ((c : Thread nD τ).loc main_arg2)) (ix1 j) = (g j : EReal)
  h3 : ∀ j, (show FVec Ideal S1024 .f32 from m ((c : Thread nD τ).loc main_arg3)) (ix1 j) = (b j : EReal)
  h4 : ∀ i j, (show FVec Ideal S1024x1024 .f32 from m ((c : Thread nD τ).loc main_arg4)) (ix2 i j) = (w i j : EReal)
  h5 : ∀ i j, (show FVec Ideal S8192x1024 .f32 from m ((c : Thread nD τ).loc main_arg5)) (ix2 i j) = (D i j : EReal)

theorem final_5 (H : Holds m c C bd g b w D) : (dats m 0 c).arrAt 5 (cfgs 0).N
    = fun y : S8192x1024.Idx => ((dIn (D (y 0)) (fun k => C (y 0) k + bd k) g b w (y 1) : ℝ) : EReal) := by
  refine (dats m 0 c).arrAt_eq_of_covers 5 _ (by decide +kernel) fun t hf y => ?_
  blk_simp
  rw [after0_5]
  have key : ∀ y : S512x1024.Idx, k0_pay11 (F := Ideal) (iblk m c 0 t) (k0_pay4 (iblk m c 2 t)) (k0_pay6 (iblk m c 1 t)) (k0_pay7 (iblk m c 1 t))
      (k0_pay8 (iblk m c 2 t) (iblk m c 1 t) (iblk m c 3 t)) (k0_pay9 (iblk m c 2 t) (iblk m c 1 t) (iblk m c 3 t)) (iblk m c 4 t) y
      = ((dIn (D (row t (y 0))) (fun k => C (row t (y 0)) k + bd k) g b w (y 1) : ℝ) : EReal) := by
    intro y
    rw [eq_ix2 y]
    exact pay11 (blk0 m c H.h5 t) (blk1 m c H.h0 H.h1 t) (blk2 m c H.h2 t) (blk3 m c H.h3 t) (blk4 m c H.h4 t) (y 0) (y 1)
  have hr : ∀ y : S512x1024.Idx, (((cfg0.win 5).blk t).view.emb y) = (ix2 (row t (y 0)) (y 1) : S8192x1024.Idx) := by
    intro y; blk_ext [idx_val t, row]
  by_cases h : t.val % 16 = 0
  · rw [outsAt0_A m c t h]; frame_out; rw [hr]; exact key y
  · rw [outsAt0_B m c t h]; frame_out; rw [hr]; exact key y

/-- One grid point's share of the sums. -/
def term (C D : Fin 8192 → Fin 1024 → ℝ) (bd g b : Fin 1024 → ℝ) (w : Fin 1024 → Fin 1024 → ℝ) (t : Fin cfg0.N) (y : S8x1024.Idx) : EReal :=
  ∑ r : Fin 512, ((part (y 0) (D (row t r)) (fun k => C (row t r) k + bd k) g b w (y 1) : ℝ) : EReal)

theorem part_zero (q : Fin 8) (h3 : ¬ q.val = 3) (h2 : ¬ q.val = 2) (h1 : ¬ q.val = 1) (h0 : ¬ q.val = 0) (d x g b : Fin 1024 → ℝ)
    (w : Fin 1024 → Fin 1024 → ℝ) (j : Fin 1024) : part q d x g b w j = 0 := by
  unfold part; rw [if_neg h3, if_neg h2, if_neg h1, if_neg h0]

/-- One grid point's stores into the sums: each of the four rows gains its block's column sums. -/
theorem step (H : Holds m c C bd g b w D) (t : Fin cfg0.N) (p : Fin 8 → EReal) (A3 A2 A1 A0 : FVec Ideal S1x1024 .f32) (Z : EReal)
    (q : Fin 8) (j : Fin 1024) (h3 : A3 (ix2 0 j) = p 3) (h2 : A2 (ix2 0 j) = p 2) (h1 : A1 (ix2 0 j) = p 1)
    (h0 : A0 (ix2 0 j) = p 0) (hZ : Z = p q) :
    (if q.val = 3 then k0_pay2 (F := Ideal) (iblk m c 0 t) A3 (ix2 0 j)
      else if q.val = 2 then k0_pay1 (F := Ideal) (k0_pay11 (iblk m c 0 t) (k0_pay4 (iblk m c 2 t)) (k0_pay6 (iblk m c 1 t)) (k0_pay7 (iblk m c 1 t))
          (k0_pay8 (iblk m c 2 t) (iblk m c 1 t) (iblk m c 3 t)) (k0_pay9 (iblk m c 2 t) (iblk m c 1 t) (iblk m c 3 t)) (iblk m c 4 t)) A2 (ix2 0 j)
      else if q.val = 1 then k0_pay13 (F := Ideal) (iblk m c 0 t) (k0_pay8 (iblk m c 2 t) (iblk m c 1 t) (iblk m c 3 t))
          (k0_pay9 (iblk m c 2 t) (iblk m c 1 t) (iblk m c 3 t)) (iblk m c 4 t) A1 (ix2 0 j)
      else if q.val = 0 then k0_pay12 (F := Ideal) (iblk m c 0 t) (k0_pay7 (iblk m c 1 t)) (k0_pay8 (iblk m c 2 t) (iblk m c 1 t) (iblk m c 3 t))
          (k0_pay9 (iblk m c 2 t) (iblk m c 1 t) (iblk m c 3 t)) (iblk m c 4 t) A0 (ix2 0 j)
      else Z) = p q + term C D bd g b w t (ix2 q j) := by
  have e0 := blk0 m c H.h5 t
  have e1 := blk1 m c H.h0 H.h1 t
  have e2 := blk2 m c H.h2 t
  have e3 := blk3 m c H.h3 t
  have e4 := blk4 m c H.h4 t
  have hs : term C D bd g b w t (ix2 q j)
    = ∑ r : Fin 512, ((part q (D (row t r)) (fun k => C (row t r) k + bd k) g b w j : ℝ) : EReal) := rfl
  rw [hs]
  by_cases k3 : q.val = 3
  · obtain rfl : q = 3 := Fin.ext k3
    rw [if_pos k3]; exact (pay2 e0 A3 0 j).trans (by rw [h3]; rfl)
  rw [if_neg k3]
  by_cases k2 : q.val = 2
  · obtain rfl : q = 2 := Fin.ext k2
    rw [if_pos k2]; exact (pay1 (pay11 e0 e1 e2 e3 e4) A2 0 j).trans (by rw [h2]; rfl)
  rw [if_neg k2]
  by_cases k1 : q.val = 1
  · obtain rfl : q = 1 := Fin.ext k1
    rw [if_pos k1]; exact (pay13 e0 e1 e2 e3 e4 A1 0 j).trans (by rw [h1]; rfl)
  rw [if_neg k1]
  by_cases k0 : q.val = 0
  · obtain rfl : q = 0 := Fin.ext k0
    rw [if_pos k0]; exact (pay12 e0 e1 e2 e3 e4 A0 0 j).trans (by rw [h0]; rfl)
  rw [if_neg k0, hZ]
  simp only [part_zero q k3 k2 k1 k0]
  simp

theorem final_6 (H : Holds m c C bd g b w D) : (dats m 0 c).arrAt 6 (cfgs 0).N
    = fun y : S8x1024.Idx => ((∑ r : Fin 8192, part (y 0) (D r) (fun k => C r k + bd k) g b w (y 1) : ℝ) : EReal) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) (term C D bd g b w)
    (fun t h j => by
      rw [outsAt0_A m c t h]; frame_out
      idx_vars j
      simp only [Cert.Rows.canon_row, Cert.Rows.canon_fill]
      refine step m c H t (fun _ => 0) _ _ _ _ _ _ _ ?_ ?_ ?_ ?_ (pay3 _ _)
      · rw [Cert.Rows.readCov_row _ _ (by decide)]; simp [Cert.Rows.canon_row, Cert.Rows.canon_fill, pay3]
      · rw [Cert.Rows.readCov_row _ _ (by decide)]; simp [Cert.Rows.canon_row, Cert.Rows.canon_fill, pay3]
      · rw [Cert.Rows.readCov_row _ _ (by decide)]; simp [Cert.Rows.canon_row, Cert.Rows.canon_fill, pay3]
      · rw [Cert.Rows.readCov_row _ _ (by decide)]; simp [Cert.Rows.canon_row, Cert.Rows.canon_fill, pay3])
    (fun t h j => by
      rw [outsAt0_B m c t h]; frame_out
      idx_vars j
      simp only [Cert.Rows.read_row]
      refine step m c H t (fun q => (outsAt0 m c (t.val - 1) _).2 (ix2 q _)) _ _ _ _ _ _ _ ?_ ?_ ?_ ?_ ?_
      · exact Cert.Rows.ld_row _ _ (by decide) _ _ _
      · exact Cert.Rows.ld_row _ _ (by decide) _ _ _
      · exact Cert.Rows.ld_row _ _ (by decide) _ _ _
      · exact Cert.Rows.ld_row _ _ (by decide) _ _ _
      · simp only [View.writes_nil]
        exact congrFun (Memref.IsWhole.read_unread _ _) _)
    (le_of_eq N_0) t0_15 rfl j, zero_add]
  show (∑ t : Fin 16, ∑ r : Fin 512, ((part (j 0) (D (row t r)) (fun k => C (row t r) k + bd k) g b w (j 1) : ℝ) : EReal)) = _
  rw [← lift_sum]
  exact Fin.sum_mul_add_congr (S := 16) (n := 512) (fun s k hl => rfl) rfl

end Cert.ConvPostBwdIdeal.Array

end
-- ==== Proof.PostSums.lean ====
/-
  The reference's second result: four rows of sums over all the rows, and four rows of zeros.
-/
module

public import proofs.«01_k».proof.Proof.PostRef
public import proofs.«01_k».proof.Proof.PostArray

@[expose] public section

set_option maxRecDepth 16384

noncomputable section

open Idealize.ShloMosaic Idealize.ShloMosaic.TcCoe Idealize.SL.Sem

namespace Cert.ConvPostBwdRefIdeal.Stage

open Cert.ConvPostBwdRefIdeal Cert.ConvPostBwdRefIdeal.Read Cert.Reals Cert.Post
open Cert.ConvPostBwdIdeal.Array (part)

variable {x0 : FVec Ideal S8192x1024 .f32} {x1 x2 x3 : FVec Ideal S1024 .f32} {x4 : FVec Ideal S1024x1024 .f32}
  {x5 : FVec Ideal S8192x1024 .f32}
  {x D : Fin 8192 → Fin 1024 → ℝ} {g b : Fin 1024 → ℝ} {w : Fin 1024 → Fin 1024 → ℝ}
  (H : Args x0 x1 x2 x3 x4 x5 x g b w D)
include H

theorem at80 (i : Fin 1) (j : Fin 1024) : val_main_v80 (F := Ideal) x0 x1 x2 x3 x4 x5 (ix2 i j)
    = ((∑ r, dAff (D r) (x r) g b w j * (cen (x r) j * rms (cen (x r))) : ℝ) : EReal) := by
  pointwise [val_main_v80, val_main_v52, val_main_v49, val_main_v48, val_main_v47, val_main_cst_11, val_main_cst_12]
  simp only [at26 H.toRow, at43 H, lift_mul, lift_sum, zero_add]
  refine congrArg Real.toEReal ?_
  simp [mul_comm]

theorem at81 (i : Fin 1) (j : Fin 1024) : val_main_v81 (F := Ideal) x0 x1 x2 x3 x4 x5 (ix2 i j)
    = ((∑ r, dAff (D r) (x r) g b w j : ℝ) : EReal) := by
  pointwise [val_main_v81, val_main_v46, val_main_v45, val_main_v44, val_main_cst_9, val_main_cst_10]
  simp only [at43 H, lift_sum, zero_add]
  simp

theorem at82 (i : Fin 1) (j : Fin 1024) : val_main_v82 (F := Ideal) x0 x1 x2 x3 x4 x5 (ix2 i j)
    = ((∑ r, dIn (D r) (x r) g b w j : ℝ) : EReal) := by
  pointwise [val_main_v82, val_main_v79, val_main_v78, val_main_v77, val_main_cst_20, val_main_cst_21]
  simp only [at76 H, lift_sum, zero_add]
  simp

theorem at83 (i : Fin 1) (j : Fin 1024) : val_main_v83 (F := Ideal) x5 (ix2 i j) = ((∑ r, D r j : ℝ) : EReal) := by
  pointwise [val_main_v83, val_main_v41, val_main_v40, val_main_v39, val_main_cst_7, val_main_cst_8]
  simp only [H.h5, lift_sum, zero_add]
  simp

theorem at86 (q : Fin 8) (j : Fin 1024) : val_main_v86 (F := Ideal) x0 x1 x2 x3 x4 x5 (ix2 q j)
    = ((∑ r, part q (D r) (x r) g b w j : ℝ) : EReal) := by
  have hz : ∀ q : Fin 8, 4 ≤ q.val → (0 : EReal) = ((∑ r, part q (D r) (x r) g b w j : ℝ) : EReal) := fun q hq => by
    simp only [Cert.ConvPostBwdIdeal.Array.part_zero q (by omega) (by omega) (by omega) (by omega)]
    simp
  fin_cases q <;> pointwise [val_main_v86, val_main_v85, val_main_v84, val_main_cst_22]
  · exact at80 H 0 j
  · exact at81 H 0 j
  · exact at82 H 0 j
  · exact at83 H 0 j
  · exact hz 4 (by decide)
  · exact hz 5 (by decide)
  · exact hz 6 (by decide)
  · exact hz 7 (by decide)

end Cert.ConvPostBwdRefIdeal.Stage

end
-- ==== Proof.PostPair.lean ====
/-
  The kernel `conv_post_bwd` and the derivative of the reference's lines end with equal results, when the arguments are finite.
-/
module

public import proofs.«01_k».proof.Defs
public import proofs.«01_k».proof.Proof.Finite
public import proofs.«01_k».proof.Proof.PostSums
public import proofs.«01_k».proof.Proof.Gen.ConvPostBwdRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_all_finite3 : Cert.Pre_all_finite3.Facts where
  bcast_S_S8192x1024 := by decide
  bcast_S_S1024 := by decide
  bcast_S_S1024x1024 := by decide

attribute [local instance] facts_all_finite3

section
open Cert.ConvPostBwdIdeal Cert.ConvPostBwdIdeal.Array

variable (m : (ℓ : Loc nD τ sig) → Buf (Elt Ideal) ℓ) (c : Dev nD)

/-- Under the precondition the arguments hold real arrays. -/
theorem post_holds (h : Cert.Pre_ConvPostBwdIdeal_all_finite3 m) :
    Holds m c (fun i j => ((show FVec Ideal S8192x1024 .f32 from m ((c : Thread nD τ).loc main_arg0)) (ix2 i j)).toReal)
      (fun j => ((show FVec Ideal S1024 .f32 from m ((c : Thread nD τ).loc main_arg1)) (ix1 j)).toReal)
      (fun j => ((show FVec Ideal S1024 .f32 from m ((c : Thread nD τ).loc main_arg2)) (ix1 j)).toReal)
      (fun j => ((show FVec Ideal S1024 .f32 from m ((c : Thread nD τ).loc main_arg3)) (ix1 j)).toReal)
      (fun i j => ((show FVec Ideal S1024x1024 .f32 from m ((c : Thread nD τ).loc main_arg4)) (ix2 i j)).toReal)
      (fun i j => ((show FVec Ideal S8192x1024 .f32 from m ((c : Thread nD τ).loc main_arg5)) (ix2 i j)).toReal) :=
  have ⟨e0, e1, e2, e3, e4, e5⟩ := h c
  ⟨fun i j => Cert.Finite.real_of_pre e0 _, fun j => Cert.Finite.real_of_pre e1 _, fun j => Cert.Finite.real_of_pre e2 _,
    fun j => Cert.Finite.real_of_pre e3 _, fun i j => Cert.Finite.real_of_pre e4 _, fun i j => Cert.Finite.real_of_pre e5 _⟩

/-- The same of the reference's stages. -/
theorem post_args {C D : Fin 8192 → Fin 1024 → ℝ} {bd g b : Fin 1024 → ℝ} {w : Fin 1024 → Fin 1024 → ℝ} (H : Holds m c C bd g b w D) :
    Cert.ConvPostBwdRefIdeal.Stage.Args (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (fun i j => C i j + bd j) g b w D :=
  ⟨⟨Cert.ConvPostBwdRefIdeal.Stage.at3 H.h0 H.h1⟩, H.h2, H.h3, H.h4, H.h5⟩

end

section
open Cert.ConvPostBwdRefIdeal

/-- The reference ends with its arguments unchanged; it has no semaphore. -/
theorem post_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨fun c => (h c).2.2, sem_eq_zero_of_no_sems rfl _⟩) (Value.run m ρ)

end

theorem post_algebraic : Cert.algebraic_ConvPostBwdIdeal_ConvPostBwdRefIdeal_pre_all_finite3
    (hConvPostBwdIdeal := Cert.ConvPostBwdIdeal.Gen.facts) (hConvPostBwdRefIdeal := Cert.ConvPostBwdRefIdeal.Gen.facts) := by
  pair_intro
  · run_from Cert.ConvPostBwdIdeal.Gen.run_main m g
  · run_from Cert.ConvPostBwdRefIdeal.Value.run m' g'
    · obtain ⟨a0, a1, a2, a3, a4, a5⟩ := hagree c
      rw [Cert.ConvPostBwdRefIdeal.Read.val_main_v76_eq, a0, a1, a2, a3, a4, a5, Cert.ConvPostBwdIdeal.Array.final_5 m c (post_holds m c hpre)]
      funext y
      idx_vars y
      exact Cert.ConvPostBwdRefIdeal.Stage.at76 (post_args m c (post_holds m c hpre)) _ _
    · obtain ⟨a0, a1, a2, a3, a4, a5⟩ := hagree c
      rw [Cert.ConvPostBwdRefIdeal.Read.val_main_v86_eq, a0, a1, a2, a3, a4, a5, Cert.ConvPostBwdIdeal.Array.final_6 m c (post_holds m c hpre)]
      funext y
      idx_vars y
      exact Cert.ConvPostBwdRefIdeal.Stage.at86 (post_args m c (post_holds m c hpre)) _ _

end Cert.Proof

end
-- ==== Proof.GateBlock.lean ====
/-
  One grid point of the kernel `conv_pre_bwd`: its stored values, element by element, when the loaded blocks hold real
  numbers. The gated layer's 2048 columns come in eight groups of 256: the first four are the values, the last four the gates.
-/
module

public import proofs.«01_k».proof.Proof.Gen.ConvPreBwdIdeal.Skeleton
public import proofs.«01_k».proof.Proof.Reals

@[expose] public section

set_option maxRecDepth 16384

noncomputable section

open Idealize.ShloMosaic Idealize.ShloMosaic.TcCoe Idealize.SL.Sem

namespace Cert.Gate

open Cert.Reals

/-! ## The mathematics of one row -/

/-- The derivative of a value: `d` is the derivative of the gated product, `t` the gate. -/
def dVal (d t : ℝ) : ℝ := d * sg t
/-- The derivative of a gate: `a` is the value it opens. -/
def dGate (d a t : ℝ) : ℝ := d * a * sg t * (1 - sg t)

/-- The derivative of the gated layer's eight column groups. -/
def du (d : Fin 4 → Fin 256 → ℝ) (u : Fin 8 → Fin 256 → ℝ) (q : Fin 8) (l : Fin 256) : ℝ :=
  if h : q.val < 4 then dVal (d ⟨q.val, h⟩ l) (u ⟨q.val + 4, by omega⟩ l)
  else dGate (d ⟨q.val - 4, by omega⟩ l) (u ⟨q.val - 4, by omega⟩ l) (u q l)

/-- The derivative of the pointwise product's input. -/
def dh (d : Fin 4 → Fin 256 → ℝ) (u : Fin 8 → Fin 256 → ℝ) (w : Fin 8 → Fin 1024 → Fin 256 → ℝ) (k : Fin 1024) : ℝ :=
  ∑ q, ∑ l, du d u q l * w q k l

end Cert.Gate

namespace Cert.ConvPreBwdIdeal.Block

open Cert.ConvPreBwdIdeal Cert.ConvPreBwdIdeal.Gen Cert.Reals Cert.Gate

variable {X O : FVec Ideal S512x1024 .f32} {G : FVec Ideal S1x1024 .f32} {x o : Fin 512 → Fin 1024 → ℝ} {g : Fin 1024 → ℝ}

theorem pay5 (hX : ∀ i j, X (ix2 i j) = (x i j : EReal)) (i : Fin 512) (j : Fin 1) :
    k0_pay5 (F := Ideal) X (ix2 i j) = ((rms (x i) : ℝ) : EReal) := by
  pointwise [k0_pay5]
  simp only [hX, const_1024, const_eps, lift_sum, lift_mul, lift_add, lift_div _ _ (by norm_num : (1024 : ℝ) ≠ 0)]
  exact lift_rsqrt _ (rms_arg_pos _)

theorem pay6 (hX : ∀ i j, X (ix2 i j) = (x i j : EReal)) (i : Fin 512) (j : Fin 1024) :
    k0_pay6 (F := Ideal) X (ix2 i j) = ((x i j * rms (x i) : ℝ) : EReal) := by
  pointwise [k0_pay6]
  simp only [hX, pay5 hX, lift_mul]

theorem pay7 (hX : ∀ i j, X (ix2 i j) = (x i j : EReal)) (hG : ∀ i j, G (ix2 i j) = (g j : EReal)) (j : Fin 1024) (i : Fin 512) :
    k0_pay7 (F := Ideal) G X (ix2 j i) = ((x i j * rms (x i) * g j : ℝ) : EReal) := by
  pointwise [k0_pay7, k0_pay4]
  simp only [pay6 hX, hG, lift_mul]

/-! ## One column group -/

variable {U V : FVec Ideal S1x512x256 .bf16} {L : FVec Ideal S512x256 .f32} {a t l : Fin 512 → Fin 256 → ℝ}

theorem pay9 (hU : ∀ z i j, U (ix3 z i j) = (a i j : EReal)) (i : Fin 512) (j : Fin 256) :
    k0_pay9 (F := Ideal) U (ix2 i j) = ((a i j : ℝ) : EReal) := by
  pointwise [k0_pay9]
  simp only [hU]

theorem pay10 (hV : ∀ z i j, V (ix3 z i j) = (t i j : EReal)) (i : Fin 512) (j : Fin 256) :
    k0_pay10 (F := Ideal) V (ix2 i j) = ((sg (t i j) : ℝ) : EReal) := by
  pointwise [k0_pay10]
  simp only [hV, lift_zero, lift_one, lift_sub, lift_exp, lift_add, zero_sub, lift_div _ _ (one_add_exp_ne _)]
  rfl

theorem pay11 (hV : ∀ z i j, V (ix3 z i j) = (t i j : EReal)) (hL : ∀ i j, L (ix2 i j) = (l i j : EReal)) (i : Fin 512) (j : Fin 256) :
    k0_pay11 (F := Ideal) (k0_pay10 V) L (ix2 i j) = ((dVal (l i j) (t i j) : ℝ) : EReal) := by
  pointwise [k0_pay11]
  simp only [pay10 hV, hL, lift_mul]
  rfl

theorem pay12 (hU : ∀ z i j, U (ix3 z i j) = (a i j : EReal)) (hV : ∀ z i j, V (ix3 z i j) = (t i j : EReal))
    (hL : ∀ i j, L (ix2 i j) = (l i j : EReal)) (i : Fin 512) (j : Fin 256) :
    k0_pay12 (F := Ideal) (k0_pay9 U) (k0_pay10 V) L (ix2 i j) = ((dGate (l i j) (a i j) (t i j) : ℝ) : EReal) := by
  pointwise [k0_pay12]
  simp only [pay9 hU, pay10 hV, hL, lift_one, lift_sub, lift_mul]
  rfl

theorem pay13 (hV : ∀ z i j, V (ix3 z i j) = (t i j : EReal)) (hL : ∀ i j, L (ix2 i j) = (l i j : EReal)) (A : FVec Ideal S1x256 .f32)
    (i : Fin 1) (j : Fin 256) :
    k0_pay13 (F := Ideal) (k0_pay10 V) L A (ix2 i j) = A (ix2 i j) + ∑ r : Fin 512, ((dVal (l r j) (t r j) : ℝ) : EReal) := by
  pointwise [k0_pay13]
  simp only [pay11 hV hL]

theorem pay14 (hU : ∀ z i j, U (ix3 z i j) = (a i j : EReal)) (hV : ∀ z i j, V (ix3 z i j) = (t i j : EReal))
    (hL : ∀ i j, L (ix2 i j) = (l i j : EReal)) (A : FVec Ideal S1x256 .f32) (i : Fin 1) (j : Fin 256) :
    k0_pay14 (F := Ideal) (k0_pay9 U) (k0_pay10 V) L A (ix2 i j)
      = A (ix2 i j) + ∑ r : Fin 512, ((dGate (l r j) (a r j) (t r j) : ℝ) : EReal) := by
  pointwise [k0_pay14]
  simp only [pay12 hU hV hL]

theorem pay17 (hV : ∀ z i j, V (ix3 z i j) = (t i j : EReal)) (hL : ∀ i j, L (ix2 i j) = (l i j : EReal)) (z : Fin 1) (i : Fin 512) (j : Fin 256) :
    k0_pay17 (F := Ideal) (k0_pay10 V) L (ix3 z i j) = ((dVal (l i j) (t i j) : ℝ) : EReal) := by
  pointwise [k0_pay17, k0_pay15]
  simp only [pay11 hV hL]

theorem pay18 (hU : ∀ z i j, U (ix3 z i j) = (a i j : EReal)) (hV : ∀ z i j, V (ix3 z i j) = (t i j : EReal))
    (hL : ∀ i j, L (ix2 i j) = (l i j : EReal)) (z : Fin 1) (i : Fin 512) (j : Fin 256) :
    k0_pay18 (F := Ideal) (k0_pay9 U) (k0_pay10 V) L (ix3 z i j) = ((dGate (l i j) (a i j) (t i j) : ℝ) : EReal) := by
  pointwise [k0_pay18, k0_pay16]
  simp only [pay12 hU hV hL]

/-! ## The input's derivative, gathered from the groups -/

variable {A : FVec Ideal S512x1024 .f32} {W Z : FVec Ideal S1x1024x256 .bf16} {s : Fin 512 → Fin 1024 → ℝ} {v z : Fin 1024 → Fin 256 → ℝ}

/-- What one group adds: its values' part and its gates' part. -/
def gain (l a t : Fin 256 → ℝ) (v z : Fin 1024 → Fin 256 → ℝ) (k : Fin 1024) : ℝ :=
  (∑ j, dVal (l j) (t j) * v k j) + ∑ j, dGate (l j) (a j) (t j) * z k j

theorem pay20 (hU : ∀ z i j, U (ix3 z i j) = (a i j : EReal)) (hV : ∀ z i j, V (ix3 z i j) = (t i j : EReal))
    (hL : ∀ i j, L (ix2 i j) = (l i j : EReal)) (hA : ∀ i k, A (ix2 i k) = (s i k : EReal)) (hW : ∀ y k j, W (ix3 y k j) = (v k j : EReal))
    (hZ : ∀ y k j, Z (ix3 y k j) = (z k j : EReal)) (i : Fin 512) (k : Fin 1024) :
    k0_pay20 (F := Ideal) (k0_pay16 (k0_pay9 U) (k0_pay10 V) L) (k0_pay19 A (k0_pay10 V) L W) Z (ix2 i k)
      = ((s i k + gain (l i) (a i) (t i) v z k : ℝ) : EReal) := by
  pointwise [k0_pay20, k0_pay19, k0_pay16, k0_pay15]
  simp only [pay11 hV hL, pay12 hU hV hL, hA, hW, hZ, lift_mul, lift_sum, lift_add, zero_add]
  unfold gain
  rw [add_assoc]

/-! ## A whole grid point -/

/-- One column group's loads: its values, its gates, and its columns of the product's derivative. -/
structure Group (p : Fin 4) (U V : FVec Ideal S1x512x256 .bf16) (L : FVec Ideal S512x256 .f32)
    (d : Fin 512 → Fin 4 → Fin 256 → ℝ) (u : Fin 512 → Fin 8 → Fin 256 → ℝ) : Prop where
  hU : ∀ z i j, U (ix3 z i j) = (u i ⟨p.val, by omega⟩ j : EReal)
  hV : ∀ z i j, V (ix3 z i j) = (u i ⟨p.val + 4, by omega⟩ j : EReal)
  hL : ∀ i j, L (ix2 i j) = (d i p j : EReal)

/-- One grid point's loads that the input's derivative reads. -/
structure Loads (U0 U1 U2 U3 U4 U5 U6 U7 : FVec Ideal S1x512x256 .bf16) (L0 L1 L2 L3 : FVec Ideal S512x256 .f32)
    (W0 W1 W2 W3 W4 W5 W6 W7 : FVec Ideal S1x1024x256 .bf16)
    (d : Fin 512 → Fin 4 → Fin 256 → ℝ) (u : Fin 512 → Fin 8 → Fin 256 → ℝ) (w : Fin 8 → Fin 1024 → Fin 256 → ℝ) : Prop where
  g0 : Group 0 U0 U4 L0 d u
  g1 : Group 1 U1 U5 L1 d u
  g2 : Group 2 U2 U6 L2 d u
  g3 : Group 3 U3 U7 L3 d u
  w0 : ∀ y k j, W0 (ix3 y k j) = (w 0 k j : EReal)
  w1 : ∀ y k j, W1 (ix3 y k j) = (w 1 k j : EReal)
  w2 : ∀ y k j, W2 (ix3 y k j) = (w 2 k j : EReal)
  w3 : ∀ y k j, W3 (ix3 y k j) = (w 3 k j : EReal)
  w4 : ∀ y k j, W4 (ix3 y k j) = (w 4 k j : EReal)
  w5 : ∀ y k j, W5 (ix3 y k j) = (w 5 k j : EReal)
  w6 : ∀ y k j, W6 (ix3 y k j) = (w 6 k j : EReal)
  w7 : ∀ y k j, W7 (ix3 y k j) = (w 7 k j : EReal)

variable {U0 U1 U2 U3 U4 U5 U6 U7 : FVec Ideal S1x512x256 .bf16} {L0 L1 L2 L3 : FVec Ideal S512x256 .f32}
  {W0 W1 W2 W3 W4 W5 W6 W7 : FVec Ideal S1x1024x256 .bf16}
  {d : Fin 512 → Fin 4 → Fin 256 → ℝ} {u : Fin 512 → Fin 8 → Fin 256 → ℝ} {w : Fin 8 → Fin 1024 → Fin 256 → ℝ}

/-- The accumulator after three groups. -/
def acc2 (U0 U1 U2 U4 U5 U6 : FVec Ideal S1x512x256 .bf16) (L0 L1 L2 : FVec Ideal S512x256 .f32)
    (W0 W1 W2 W4 W5 W6 : FVec Ideal S1x1024x256 .bf16) : FVec Ideal S512x1024 .f32 :=
  k0_pay43 (F := Ideal)
    (k0_pay41 (k0_pay30 (k0_pay20 (k0_pay16 (k0_pay9 U0) (k0_pay10 U4) L0) (k0_pay19 k0_pay8 (k0_pay10 U4) L0 W0) W4)
      (k0_pay22 U5 L1) (k0_pay23 U1 U5 L1) W1 W5) (k0_pay32 U6 L2) W2)
    (k0_pay42 (k0_pay31 U6) (k0_pay33 U2 L2) W6)

theorem pay53 (h : Loads U0 U1 U2 U3 U4 U5 U6 U7 L0 L1 L2 L3 W0 W1 W2 W3 W4 W5 W6 W7 d u w) (i : Fin 512) (k : Fin 1024) :
    k0_pay53 (F := Ideal) (acc2 U0 U1 U2 U4 U5 U6 L0 L1 L2 W0 W1 W2 W4 W5 W6) (k0_pay49 U7 L3) (k0_pay50 U3 U7 L3) W3 W7 (ix2 i k)
      = ((dh (d i) (u i) w k : ℝ) : EReal) := by
  have h8 : ∀ i k, k0_pay8 (F := Ideal) (ix2 i k) = (((fun _ _ => 0 : Fin 512 → Fin 1024 → ℝ) i k : ℝ) : EReal) := fun i k => by
    pointwise [k0_pay8]; rfl
  have s0 := pay20 h.g0.hU h.g0.hV h.g0.hL h8 h.w0 h.w4
  have s1 := pay20 h.g1.hU h.g1.hV h.g1.hL s0 h.w1 h.w5
  have s2 := pay20 h.g2.hU h.g2.hV h.g2.hL s1 h.w2 h.w6
  have s3 := pay20 h.g3.hU h.g3.hV h.g3.hL s2 h.w3 h.w7 i k
  refine Eq.trans ?_ (s3.trans (congrArg Real.toEReal ?_))
  · have e2 : acc2 U0 U1 U2 U4 U5 U6 L0 L1 L2 W0 W1 W2 W4 W5 W6
        = k0_pay20 (k0_pay16 (k0_pay9 U2) (k0_pay10 U6) L2) (k0_pay19 (k0_pay20 (k0_pay16 (k0_pay9 U1) (k0_pay10 U5) L1)
          (k0_pay19 (k0_pay20 (k0_pay16 (k0_pay9 U0) (k0_pay10 U4) L0) (k0_pay19 k0_pay8 (k0_pay10 U4) L0 W0) W4) (k0_pay10 U5) L1 W1) W5)
          (k0_pay10 U6) L2 W2) W6 := rfl
    rw [e2]
    rfl
  · unfold dh gain
    rw [Fin.sum_univ_eight]
    simp only [du]
    have hv : ∀ a b c e a' b' c' e' : ℝ, 0 + (a + a') + (b + b') + (c + c') + (e + e') = a + b + c + e + a' + b' + c' + e' :=
      fun a b c e a' b' c' e' => by ring
    exact hv _ _ _ _ _ _ _ _

/-- The stored row: the carried derivative and the norm's. -/
theorem pay55 (h : Loads U0 U1 U2 U3 U4 U5 U6 U7 L0 L1 L2 L3 W0 W1 W2 W3 W4 W5 W6 W7 d u w)
    (hX : ∀ i j, X (ix2 i j) = (x i j : EReal)) (hG : ∀ i j, G (ix2 i j) = (g j : EReal)) (hO : ∀ i j, O (ix2 i j) = (o i j : EReal))
    (i : Fin 512) (k : Fin 1024) :
    k0_pay55 (F := Ideal) (k0_pay4 G) (k0_pay5 X) (k0_pay6 X) (acc2 U0 U1 U2 U4 U5 U6 L0 L1 L2 W0 W1 W2 W4 W5 W6)
        (k0_pay49 U7 L3) (k0_pay50 U3 U7 L3) W3 W7 O (ix2 i k)
      = ((o i k + rmsBwd (x i) (fun k => dh (d i) (u i) w k * g k) k : ℝ) : EReal) := by
  pointwise [k0_pay55, k0_pay4]
  simp only [pay53 h, pay5 hX, pay6 hX, hG, hO, const_1024, lift_sub, lift_add, lift_mul, lift_sum, lift_div _ _ (by norm_num : (1024 : ℝ) ≠ 0)]
  rfl

/-- The scale's derivative: the sums kept so far, and one more block's column sums. -/
theorem pay1 (h : Loads U0 U1 U2 U3 U4 U5 U6 U7 L0 L1 L2 L3 W0 W1 W2 W3 W4 W5 W6 W7 d u w)
    (hX : ∀ i j, X (ix2 i j) = (x i j : EReal)) (A : FVec Ideal S1x1024 .f32) (i : Fin 1) (k : Fin 1024) :
    k0_pay1 (F := Ideal) (k0_pay54 (k0_pay6 X) (acc2 U0 U1 U2 U4 U5 U6 L0 L1 L2 W0 W1 W2 W4 W5 W6)
        (k0_pay49 U7 L3) (k0_pay50 U3 U7 L3) W3 W7) A (ix2 i k)
      = A (ix2 i k) + ∑ r : Fin 512, ((dh (d r) (u r) w k * (x r k * rms (x r)) : ℝ) : EReal) := by
  pointwise [k0_pay1, k0_pay54]
  simp only [pay53 h, pay6 hX, lift_mul]

end Cert.ConvPreBwdIdeal.Block

end
-- ==== Proof.Cols.lean ====
/-
  Buffers that a kernel stores by groups of columns, or by slabs along the first of three axes: what the buffer holds after such
  a store, and what a load of one group or slab reads.
-/
module

public import Idealize.ShloMosaic.Lib.Pipeline.ValueKit
public import Idealize.ShloMosaic.Lib.Pointwise
public import Idealize.ShloMosaic.Lib.WritesUnit

@[expose] public section

noncomputable section

namespace Cert.Cols

open Idealize.ShloMosaic

variable {Val : EltTy → Type} {sig : RefSig} {κ : Kind} {sp : Space} {e : EltTy} {N M K n : ℕ}

/-! ## Groups of columns -/

/-- A store of the columns from `o`, read at one of them. -/
theorem canon_hit [∀ e, Nonempty (Val e)] (o : ℕ)
    (inb : ∀ a : Fin 2, (![0, o] : Fin 2 → ℕ) a + (![N, n] : Fin 2 → ℕ) a ≤ (⟨2, ![N, M]⟩ : Shape).size a)
    (w : (⟨2, ![N, n]⟩ : Shape).Idx → Val e) (L : List (View.Piece Val (⟨2, ![N, M]⟩ : Shape) e)) (i : Fin N) (l : Fin n) (j : Fin M)
    (h : j.val = o + l.val) :
    View.canon (⟨Rect.unit ![0, o] ![N, n] inb, w⟩ :: L) (ix2 i j) = w (ix2 i l) := by
  have : (ix2 i j : (⟨2, ![N, M]⟩ : Shape).Idx) = (Rect.unit (s := ⟨2, ![N, M]⟩) ![0, o] ![N, n] inb).emb (ix2 i l) := by
    funext a; refine Fin.ext ?_
    fin_cases a
    · show i.val = 0 + 1 * i.val; omega
    · show j.val = o + 1 * l.val; omega
  rw [this]
  exact View.canon_cons_emb (Rect.unit (s := ⟨2, ![N, M]⟩) ![0, o] ![N, n] inb) w L _

/-- A store of the columns from `o`, read at another column. -/
theorem canon_miss [∀ e, Nonempty (Val e)] (o : ℕ)
    (inb : ∀ a : Fin 2, (![0, o] : Fin 2 → ℕ) a + (![N, n] : Fin 2 → ℕ) a ≤ (⟨2, ![N, M]⟩ : Shape).size a)
    (w : (⟨2, ![N, n]⟩ : Shape).Idx → Val e) (L : List (View.Piece Val (⟨2, ![N, M]⟩ : Shape) e)) (i : Fin N) (j : Fin M)
    (h : j.val < o ∨ o + n ≤ j.val) :
    View.canon (⟨Rect.unit ![0, o] ![N, n] inb, w⟩ :: L) (ix2 i j) = View.canon L (ix2 i j) := by
  refine View.canon_cons_of_not_mem _ L ?_
  rw [Rect.mem_set_unit]
  intro hall
  have h1 := hall 1
  have : o ≤ j.val ∧ j.val < o + n := h1
  omega

/-- A load of the columns from `o` after stores over no earlier contents. -/
theorem readCov_cols [∀ e, Nonempty (Val e)] (v : View sig κ sp (⟨2, ![N, M]⟩ : Shape) e) (o : ℕ)
    (inb : ∀ a : Fin 2, (![0, o] : Fin 2 → ℕ) a + (![N, n] : Fin 2 → ℕ) a ≤ (⟨2, ![N, M]⟩ : Shape).size a)
    (L : List (View.Piece Val (⟨2, ![N, M]⟩ : Shape) e)) (i : Fin N) (l : Fin n) (h : o + l.val < M) :
    v.readCov L (Rect.unit (s := ⟨2, ![N, M]⟩) ![0, o] ![N, n] inb).toLoadRect (ix2 i l) = View.canon L (ix2 i ⟨o + l.val, h⟩) := by
  rw [View.readCov_eq_canon']
  refine congrArg (View.canon L) (funext fun a => Fin.ext ?_)
  fin_cases a
  · show 0 + 1 * i.val = i.val; omega
  · show o + 1 * l.val = o + l.val; omega

/-- A load of the columns from `o` of given contents. -/
theorem ld_cols (X : (⟨2, ![N, M]⟩ : Shape).Idx → Val e) (o : ℕ)
    (inb : ∀ a : Fin 2, (![0, o] : Fin 2 → ℕ) a + (![N, n] : Fin 2 → ℕ) a ≤ (⟨2, ![N, M]⟩ : Shape).size a)
    (i : Fin N) (l : Fin n) (j : Fin M) (h : j.val = o + l.val) :
    View.ld (Val := Val) (e' := e) X (Rect.unit (s := ⟨2, ![N, M]⟩) ![0, o] ![N, n] inb) (ix2 i l) = X (ix2 i j) := by
  refine congrArg X (funext fun a => Fin.ext ?_)
  fin_cases a
  · show 0 + 1 * i.val = i.val; omega
  · show o + 1 * l.val = j.val; omega

/-! ## Slabs along the first of three axes -/

/-- A store of slab `o`, read at slab `q`. -/
theorem canon_slab [∀ e, Nonempty (Val e)] (o : ℕ)
    (inb : ∀ a : Fin 3, (![o, 0, 0] : Fin 3 → ℕ) a + (![1, M, K] : Fin 3 → ℕ) a ≤ (⟨3, ![N, M, K]⟩ : Shape).size a)
    (w : (⟨3, ![1, M, K]⟩ : Shape).Idx → Val e) (L : List (View.Piece Val (⟨3, ![N, M, K]⟩ : Shape) e)) (q : Fin N) (i : Fin M) (j : Fin K) :
    View.canon (⟨Rect.unit ![o, 0, 0] ![1, M, K] inb, w⟩ :: L) (ix3 q i j)
      = if q.val = o then w (ix3 0 i j) else View.canon L (ix3 q i j) := by
  by_cases h : q.val = o
  · rw [if_pos h]
    subst h
    have : (ix3 q i j : (⟨3, ![N, M, K]⟩ : Shape).Idx)
        = (Rect.unit (s := ⟨3, ![N, M, K]⟩) ![q.val, 0, 0] ![1, M, K] inb).emb (ix3 (0 : Fin 1) i j) := by
      funext a; refine Fin.ext ?_
      fin_cases a
      · show q.val = q.val + 1 * 0; omega
      · show i.val = 0 + 1 * i.val; omega
      · show j.val = 0 + 1 * j.val; omega
    rw [this]
    exact View.canon_cons_emb (Rect.unit (s := ⟨3, ![N, M, K]⟩) ![q.val, 0, 0] ![1, M, K] inb) w L _
  · rw [if_neg h]
    refine View.canon_cons_of_not_mem _ L ?_
    rw [Rect.mem_set_unit]
    intro hall
    have h0 := hall 0
    have : o ≤ q.val ∧ q.val < o + 1 := h0
    omega

/-- A load of slab `o` of given contents. -/
theorem ld_slab (X : (⟨3, ![N, M, K]⟩ : Shape).Idx → Val e) (o : ℕ) (ho : o < N)
    (inb : ∀ a : Fin 3, (![o, 0, 0] : Fin 3 → ℕ) a + (![1, M, K] : Fin 3 → ℕ) a ≤ (⟨3, ![N, M, K]⟩ : Shape).size a)
    (z : Fin 1) (i : Fin M) (j : Fin K) :
    View.ld (Val := Val) (e' := e) X (Rect.unit (s := ⟨3, ![N, M, K]⟩) ![o, 0, 0] ![1, M, K] inb) (ix3 z i j)
      = X (ix3 (⟨o, ho⟩ : Fin N) i j) := by
  refine congrArg X (funext fun a => Fin.ext ?_)
  have hi : z.val = 0 := by omega
  fin_cases a
  · show o + 1 * z.val = o; omega
  · show 0 + 1 * i.val = i.val; omega
  · show 0 + 1 * j.val = j.val; omega

end Cert.Cols

end
-- ==== Proof.GateArray.lean ====
/-
  The result arrays of the kernel `conv_pre_bwd` after its run, when the arguments hold real numbers.
-/
module

public import proofs.«01_k».proof.Proof.Gen.ConvPreBwdIdeal.Value
public import Idealize.ShloMosaic.Lib.Pipeline.ValueKit
public import proofs.«01_k».proof.Proof.GateBlock
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.Gate

open Cert.Reals

/-- Column `l` of group `q`, of 1024 columns. -/
def col4 (q : Fin 4) (l : Fin 256) : Fin 1024 := ⟨q.val * 256 + l.val, by omega⟩
/-- Column `l` of group `q`, of 2048 columns. -/
def col8 (q : Fin 8) (l : Fin 256) : Fin 2048 := ⟨q.val * 256 + l.val, by omega⟩

/-- The root-mean-square norm's result of a row. -/
def hn (x g : Fin 1024 → ℝ) (k : Fin 1024) : ℝ := x k * rms x * g k

/-- The gated layer's input of a row: the pointwise product and its bias. -/
def pw (x g : Fin 1024 → ℝ) (w : Fin 1024 → Fin 2048 → ℝ) (b : Fin 2048 → ℝ) (j : Fin 2048) : ℝ :=
  (∑ k, hn x g k * w k j) + b j

end Cert.Gate

namespace Cert.ConvPreBwdIdeal.Array

open Cert.ConvPreBwdIdeal Cert.ConvPreBwdIdeal.Gen Cert.ConvPreBwdIdeal.Block Cert.Reals Cert.Gate

variable (m : (ℓ : Loc nD τ sig) → Buf (Elt Ideal) ℓ)

theorem idx_val : ∀ t : Fin cfg0.N, win0_0.index t = ![t.val, 0]
    ∧ win0_1.index t = ![0, t.val, 0]
    ∧ win0_2.index t = ![t.val, 0]
    ∧ win0_3.index t = ![0, 0]
    ∧ win0_4.index t = ![0, 0, 0]
    ∧ win0_5.index t = ![t.val, 0]
    ∧ win0_6.index t = ![0, t.val, 0]
    ∧ win0_7.index t = ![0, t.val]
    ∧ win0_8.index t = ![t.val, 0]
    ∧ win0_9.index t = ![t.val, 0]
    ∧ win0_10.index t = ![0, 0]
    ∧ win0_11.index t = ![0, 0] :=
  (by decide +kernel : ∀ t : Fin grid0.N, _)

/-- The row of the array that row `i` of grid point `t`'s block is. -/
def row (t : Fin cfg0.N) (i : Fin 512) : Fin 8192 :=
  ⟨t.val * 512 + i.val, by have := t.isLt; have h : cfg0.N = 16 := N_0; omega⟩

variable {X D O : Fin 8192 → Fin 1024 → ℝ} {g : Fin 1024 → ℝ} {w : Fin 1024 → Fin 2048 → ℝ} {b : Fin 2048 → ℝ} (c : Dev nD)

/-- The arguments hold the real arrays `X`, `g`, `w`, `b`, `D`, `O`. -/
structure Holds (X : Fin 8192 → Fin 1024 → ℝ) (g : Fin 1024 → ℝ) (w : Fin 1024 → Fin 2048 → ℝ) (b : Fin 2048 → ℝ)
    (D O : Fin 8192 → Fin 1024 → ℝ) : Prop where
  h0 : ∀ i j, (show FVec Ideal S8192x1024 .f32 from m ((c : Thread nD τ).loc main_arg0)) (ix2 i j) = (X i j : EReal)
  h1 : ∀ j, (show FVec Ideal S1024 .f32 from m ((c : Thread nD τ).loc main_arg1)) (ix1 j) = (g j : EReal)
  h2 : ∀ i j, (show FVec Ideal S1024x2048 .f32 from m ((c : Thread nD τ).loc main_arg2)) (ix2 i j) = (w i j : EReal)
  h3 : ∀ j, (show FVec Ideal S2048 .f32 from m ((c : Thread nD τ).loc main_arg3)) (ix1 j) = (b j : EReal)
  h4 : ∀ i j, (show FVec Ideal S8192x1024 .f32 from m ((c : Thread nD τ).loc main_arg4)) (ix2 i j) = (D i j : EReal)
  h5 : ∀ i j, (show FVec Ideal S8192x1024 .f32 from m ((c : Thread nD τ).loc main_arg5)) (ix2 i j) = (O i j : EReal)

variable (H : Holds m c X g w b D O)
include H

theorem blk0 (t : Fin cfg0.N) (i : Fin 512) (j : Fin 1024) :
    (show FVec Ideal S512x1024 .f32 from iblk m c 0 t) (ix2 i j) = (D (row t i) j : EReal) := by
  rw [← H.h4]
  blk_ext [iblk, V, idx_val t, row]

theorem blk2 (t : Fin cfg0.N) (i : Fin 512) (j : Fin 1024) :
    (show FVec Ideal S512x1024 .f32 from iblk m c 2 t) (ix2 i j) = (X (row t i) j : EReal) := by
  rw [← H.h0]
  blk_ext [iblk, V, idx_val t, row]

theorem blk5 (t : Fin cfg0.N) (i : Fin 512) (j : Fin 1024) :
    (show FVec Ideal S512x1024 .f32 from iblk m c 5 t) (ix2 i j) = (O (row t i) j : EReal) := by
  rw [← H.h5]
  blk_ext [iblk, V, idx_val t, row]

theorem blk3 (t : Fin cfg0.N) (i : Fin 1) (j : Fin 1024) :
    (show FVec Ideal S1x1024 .f32 from iblk m c 3 t) (ix2 i j) = (g j : EReal) := by
  rw [← H.h1]
  blk_simp [iblk, idx_val t]
  entry_read
  pointwise
  blk_ext [idx_val t]

theorem blk4 (t : Fin cfg0.N) (q : Fin 8) (k : Fin 1024) (l : Fin 256) :
    (show FVec Ideal S8x1024x256 .bf16 from iblk m c 4 t) (ix3 q k l) = (w k (col8 q l) : EReal) := by
  rw [← H.h2]
  blk_simp [iblk, idx_val t]
  entry_read
  pointwise
  blk_ext [idx_val t, col8]

theorem blk1 (t : Fin cfg0.N) (q : Fin 8) (i : Fin 512) (l : Fin 256) :
    (show FVec Ideal S8x512x256 .bf16 from iblk m c 1 t) (ix3 q i l) = (pw (X (row t i)) g w b (col8 q l) : EReal) := by
  have hy : ((View.whole main_v19).slice (win0_1.rect t)).emb (ix3 q i l) = (ix3 q (row t i) l : S8x8192x256.Idx) := by
    blk_ext [idx_val t, row]
  have a0 : ∀ i j, m (c, Proc.tc.devRef main_arg0) (ix2 i j) = (X i j : EReal) := H.h0
  have a1 : ∀ j, m (c, Proc.tc.devRef main_arg1) (ix1 j) = (g j : EReal) := H.h1
  have a2 : ∀ i j, m (c, Proc.tc.devRef main_arg2) (ix2 i j) = (w i j : EReal) := H.h2
  have a3 : ∀ j, m (c, Proc.tc.devRef main_arg3) (ix1 j) = (b j : EReal) := H.h3
  blk_simp [iblk, idx_val t]
  entry_read
  pointwise
  simp only [hy, a0, a1, a2, a3, ix3, const_1024, const_eps, lift_sum, lift_mul, lift_add, lift_div _ _ (by norm_num : (1024 : ℝ) ≠ 0)]
  erw [lift_rsqrt _ (rms_arg_pos (X (row t i)))]
  simp only [lift_sum, lift_mul, lift_add]
  rfl

omit H in
/-- Slab `o` of the gated layer's input. -/
abbrev ldU (t : Fin cfg0.N) (o : ℕ) (inb : ∀ a, (![o, 0, 0] : Fin 3 → ℕ) a + S1x512x256.size a ≤ S8x512x256.size a) : FVec Ideal S1x512x256 .bf16 :=
  View.ld (Val := Elt Ideal) (e' := .bf16) (iblk m c 1 t) (Rect.unit (s := S8x512x256) ![o, 0, 0] S1x512x256.size inb)
omit H in
/-- The columns from `o` of the product's derivative. -/
abbrev ldL (t : Fin cfg0.N) (o : ℕ) (inb : ∀ a, (![0, o] : Fin 2 → ℕ) a + S512x256.size a ≤ S512x1024.size a) : FVec Ideal S512x256 .f32 :=
  View.ld (Val := Elt Ideal) (e' := .f32) (iblk m c 0 t) (Rect.unit (s := S512x1024) ![0, o] S512x256.size inb)
omit H in
/-- Slab `o` of the matrix. -/
abbrev ldW (t : Fin cfg0.N) (o : ℕ) (inb : ∀ a, (![o, 0, 0] : Fin 3 → ℕ) a + S1x1024x256.size a ≤ S8x1024x256.size a) : FVec Ideal S1x1024x256 .bf16 :=
  View.ld (Val := Elt Ideal) (e' := .bf16) (iblk m c 4 t) (Rect.unit (s := S8x1024x256) ![o, 0, 0] S1x1024x256.size inb)

/-- The gated product's derivative of a block's row, by column groups. -/
def dRow (D : Fin 8192 → Fin 1024 → ℝ) (r : Fin 8192) (p : Fin 4) (l : Fin 256) : ℝ := D r (col4 p l)
/-- The gated layer's input of a row, by column groups. -/
def uRow (X : Fin 8192 → Fin 1024 → ℝ) (g : Fin 1024 → ℝ) (w : Fin 1024 → Fin 2048 → ℝ) (b : Fin 2048 → ℝ) (r : Fin 8192)
    (q : Fin 8) (l : Fin 256) : ℝ := pw (X r) g w b (col8 q l)
/-- The matrix by column groups. -/
def wCol (w : Fin 1024 → Fin 2048 → ℝ) (q : Fin 8) (k : Fin 1024) (l : Fin 256) : ℝ := w k (col8 q l)

theorem group (t : Fin cfg0.N) (p : Fin 4) (o o4 oc : ℕ) (ho : p.val = o) (h4 : p.val + 4 = o4) (hc : p.val * 256 = oc) (i1 i2 i3) :
    Group p (ldU m c t o i1) (ldU m c t o4 i2) (ldL m c t oc i3) (fun i => dRow D (row t i)) (fun i => uRow X g w b (row t i)) := by
  subst ho h4 hc
  refine ⟨fun z i j => ?_, fun z i j => ?_, fun i j => ?_⟩
  · exact (Cert.Cols.ld_slab _ _ (by omega) _ _ _ _).trans (blk1 m c H t _ i j)
  · exact (Cert.Cols.ld_slab _ _ (by omega) _ _ _ _).trans (blk1 m c H t _ i j)
  · exact (Cert.Cols.ld_cols _ _ _ i j (col4 p j) rfl).trans (blk0 m c H t i _)

theorem mat (t : Fin cfg0.N) (q : Fin 8) (o : ℕ) (ho : q.val = o) (i1) (z : Fin 1) (k : Fin 1024) (l : Fin 256) :
    ldW m c t o i1 (ix3 z k l) = (wCol w q k l : EReal) := by
  subst ho
  exact (Cert.Cols.ld_slab _ _ (by omega) _ _ _ _).trans (blk4 m c H t q k l)

theorem loads (t : Fin cfg0.N) :
    Loads (ldU m c t 0 inb_S8x512x256_S1x512x256_0_0_0) (ldU m c t 1 inb_S8x512x256_S1x512x256_1_0_0) (ldU m c t 2 inb_S8x512x256_S1x512x256_2_0_0) (ldU m c t 3 inb_S8x512x256_S1x512x256_3_0_0) (ldU m c t 4 inb_S8x512x256_S1x512x256_4_0_0) (ldU m c t 5 inb_S8x512x256_S1x512x256_5_0_0) (ldU m c t 6 inb_S8x512x256_S1x512x256_6_0_0) (ldU m c t 7 inb_S8x512x256_S1x512x256_7_0_0)
      (ldL m c t 0 inb_S512x1024_S512x256_0_0) (ldL m c t 256 inb_S512x1024_S512x256_0_256) (ldL m c t 512 inb_S512x1024_S512x256_0_512) (ldL m c t 768 inb_S512x1024_S512x256_0_768)
      (ldW m c t 0 inb_S8x1024x256_S1x1024x256_0_0_0) (ldW m c t 1 inb_S8x1024x256_S1x1024x256_1_0_0) (ldW m c t 2 inb_S8x1024x256_S1x1024x256_2_0_0) (ldW m c t 3 inb_S8x1024x256_S1x1024x256_3_0_0) (ldW m c t 4 inb_S8x1024x256_S1x1024x256_4_0_0) (ldW m c t 5 inb_S8x1024x256_S1x1024x256_5_0_0) (ldW m c t 6 inb_S8x1024x256_S1x1024x256_6_0_0) (ldW m c t 7 inb_S8x1024x256_S1x1024x256_7_0_0)
      (fun i => dRow D (row t i)) (fun i => uRow X g w b (row t i)) (wCol w) :=
  ⟨group m c H t 0 _ _ _ rfl rfl rfl _ _ _, group m c H t 1 _ _ _ rfl rfl rfl _ _ _, group m c H t 2 _ _ _ rfl rfl rfl _ _ _,
    group m c H t 3 _ _ _ rfl rfl rfl _ _ _, mat m c H t 0 _ rfl _, mat m c H t 1 _ rfl _, mat m c H t 2 _ rfl _, mat m c H t 3 _ rfl _, mat m c H t 4 _ rfl _, mat m c H t 5 _ rfl _, mat m c H t 6 _ rfl _, mat m c H t 7 _ rfl _⟩

/-! ## The arrays -/

/-- The norm's input's derivative, with the carried one. -/
def outX (X D O : Fin 8192 → Fin 1024 → ℝ) (g : Fin 1024 → ℝ) (w : Fin 1024 → Fin 2048 → ℝ) (b : Fin 2048 → ℝ) (r : Fin 8192) (k : Fin 1024) : ℝ :=
  O r k + rmsBwd (X r) (fun k => dh (dRow D r) (uRow X g w b r) (wCol w) k * g k) k

theorem final_8 : (dats m 0 c).arrAt 8 (cfgs 0).N
    = fun y : S8192x1024.Idx => ((outX X D O g w b (y 0) (y 1) : ℝ) : EReal) := by
  refine (dats m 0 c).arrAt_eq_of_covers 8 _ (by decide +kernel) fun t hf y => ?_
  blk_simp
  rw [after0_8]
  have hr : ∀ y : S512x1024.Idx, (((cfg0.win 8).blk t).view.emb y) = (ix2 (row t (y 0)) (y 1) : S8192x1024.Idx) := by
    intro y; blk_ext [idx_val t, row]
  by_cases h : t.val % 16 = 0
  · rw [outsAt0_A m c t h]; frame_out; rw [hr]; idx_vars y
    exact pay55 (loads m c H t) (blk2 m c H t) (blk3 m c H t) (blk5 m c H t) _ _
  · rw [outsAt0_B m c t h]; frame_out; rw [hr]; idx_vars y
    exact pay55 (loads m c H t) (blk2 m c H t) (blk3 m c H t) (blk5 m c H t) _ _

theorem final_9 : (dats m 0 c).arrAt 9 (cfgs 0).N
    = fun y : S8192x1024.Idx => ((outX X D O g w b (y 0) (y 1) : ℝ) : EReal) := by
  refine (dats m 0 c).arrAt_eq_of_covers 9 _ (by decide +kernel) fun t hf y => ?_
  blk_simp
  rw [after0_9]
  have hr : ∀ y : S512x1024.Idx, (((cfg0.win 9).blk t).view.emb y) = (ix2 (row t (y 0)) (y 1) : S8192x1024.Idx) := by
    intro y; blk_ext [idx_val t, row]
  by_cases h : t.val % 16 = 0
  · rw [outsAt0_A m c t h]; frame_out; rw [hr]; idx_vars y
    exact pay55 (loads m c H t) (blk2 m c H t) (blk3 m c H t) (blk5 m c H t) _ _
  · rw [outsAt0_B m c t h]; frame_out; rw [hr]; idx_vars y
    exact pay55 (loads m c H t) (blk2 m c H t) (blk3 m c H t) (blk5 m c H t) _ _

theorem final_7 : (dats m 0 c).arrAt 7 (cfgs 0).N
    = fun y : S1024x8192.Idx => ((hn (X (y 1)) g (y 0) : ℝ) : EReal) := by
  refine (dats m 0 c).arrAt_eq_of_covers 7 _ (by decide +kernel) fun t hf y => ?_
  blk_simp
  rw [after0_7]
  have hr : ∀ y : S1024x512.Idx, (((cfg0.win 7).blk t).view.emb y) = (ix2 (y 0) (row t (y 1)) : S1024x8192.Idx) := by
    intro y; blk_ext [idx_val t, row]
  by_cases h : t.val % 16 = 0
  · rw [outsAt0_A m c t h]; frame_out; rw [hr]; idx_vars y
    exact pay7 (blk2 m c H t) (blk3 m c H t) _ _
  · rw [outsAt0_B m c t h]; frame_out; rw [hr]; idx_vars y
    exact pay7 (blk2 m c H t) (blk3 m c H t) _ _

/-- The gated layer's derivative of a row, by column groups. -/
def dRowU (X D : Fin 8192 → Fin 1024 → ℝ) (g : Fin 1024 → ℝ) (w : Fin 1024 → Fin 2048 → ℝ) (b : Fin 2048 → ℝ) (r : Fin 8192)
    (q : Fin 8) (l : Fin 256) : ℝ := du (dRow D r) (uRow X g w b r) q l

omit H in
/-- Eight slabs stored, one group's values and gates at a time. -/
theorem slabs (t : Fin cfg0.N) (H : Holds m c X g w b D O) (q : Fin 8) (i : Fin 512) (j : Fin 256) :
    (if q.val = 7 then k0_pay18 (F := Ideal) (k0_pay9 (ldU m c t 3 inb_S8x512x256_S1x512x256_3_0_0)) (k0_pay10 (ldU m c t 7 inb_S8x512x256_S1x512x256_7_0_0)) (ldL m c t 768 inb_S512x1024_S512x256_0_768) (ix3 0 i j)
      else if q.val = 3 then k0_pay17 (F := Ideal) (k0_pay10 (ldU m c t 7 inb_S8x512x256_S1x512x256_7_0_0)) (ldL m c t 768 inb_S512x1024_S512x256_0_768) (ix3 0 i j)
      else if q.val = 6 then k0_pay18 (F := Ideal) (k0_pay9 (ldU m c t 2 inb_S8x512x256_S1x512x256_2_0_0)) (k0_pay10 (ldU m c t 6 inb_S8x512x256_S1x512x256_6_0_0)) (ldL m c t 512 inb_S512x1024_S512x256_0_512) (ix3 0 i j)
      else if q.val = 2 then k0_pay17 (F := Ideal) (k0_pay10 (ldU m c t 6 inb_S8x512x256_S1x512x256_6_0_0)) (ldL m c t 512 inb_S512x1024_S512x256_0_512) (ix3 0 i j)
      else if q.val = 5 then k0_pay18 (F := Ideal) (k0_pay9 (ldU m c t 1 inb_S8x512x256_S1x512x256_1_0_0)) (k0_pay10 (ldU m c t 5 inb_S8x512x256_S1x512x256_5_0_0)) (ldL m c t 256 inb_S512x1024_S512x256_0_256) (ix3 0 i j)
      else if q.val = 1 then k0_pay17 (F := Ideal) (k0_pay10 (ldU m c t 5 inb_S8x512x256_S1x512x256_5_0_0)) (ldL m c t 256 inb_S512x1024_S512x256_0_256) (ix3 0 i j)
      else if q.val = 4 then k0_pay18 (F := Ideal) (k0_pay9 (ldU m c t 0 inb_S8x512x256_S1x512x256_0_0_0)) (k0_pay10 (ldU m c t 4 inb_S8x512x256_S1x512x256_4_0_0)) (ldL m c t 0 inb_S512x1024_S512x256_0_0) (ix3 0 i j)
      else if q.val = 0 then k0_pay17 (F := Ideal) (k0_pay10 (ldU m c t 4 inb_S8x512x256_S1x512x256_4_0_0)) (ldL m c t 0 inb_S512x1024_S512x256_0_0) (ix3 0 i j)
      else View.canon (Val := Elt Ideal) (e := .bf16) [] (ix3 q i j)) = ((dRowU X D g w b (row t i) q j : ℝ) : EReal) := by
  have h := loads m c H t
  fin_cases q
  · exact pay17 h.g0.hV h.g0.hL 0 i j
  · exact pay17 h.g1.hV h.g1.hL 0 i j
  · exact pay17 h.g2.hV h.g2.hL 0 i j
  · exact pay17 h.g3.hV h.g3.hL 0 i j
  · exact pay18 h.g0.hU h.g0.hV h.g0.hL 0 i j
  · exact pay18 h.g1.hU h.g1.hV h.g1.hL 0 i j
  · exact pay18 h.g2.hU h.g2.hV h.g2.hL 0 i j
  · exact pay18 h.g3.hU h.g3.hV h.g3.hL 0 i j

theorem final_6 : (dats m 0 c).arrAt 6 (cfgs 0).N
    = fun y : S8x8192x256.Idx => ((dRowU X D g w b (y 1) (y 0) (y 2) : ℝ) : EReal) := by
  refine (dats m 0 c).arrAt_eq_of_covers 6 _ (by decide +kernel) fun t hf y => ?_
  blk_simp
  rw [after0_6]
  have hr : ∀ y : S8x512x256.Idx, (((cfg0.win 6).blk t).view.emb y) = (ix3 (y 0) (row t (y 1)) (y 2) : S8x8192x256.Idx) := by
    intro y; blk_ext [idx_val t, row]
  by_cases h : t.val % 16 = 0
  · rw [outsAt0_A m c t h]; frame_out; rw [hr]; idx_vars y
    simp only [Cert.Cols.canon_slab]
    exact slabs m c t H _ _ _
  · rw [outsAt0_B m c t h]; frame_out; rw [hr]; idx_vars y
    simp only [Cert.Cols.canon_slab]
    exact slabs m c t H _ _ _

/-- What the scale's derivative gains from a row. -/
def partG (X D : Fin 8192 → Fin 1024 → ℝ) (g : Fin 1024 → ℝ) (w : Fin 1024 → Fin 2048 → ℝ) (b : Fin 2048 → ℝ) (r : Fin 8192) (k : Fin 1024) : ℝ :=
  dh (dRow D r) (uRow X g w b r) (wCol w) k * (X r k * rms (X r))

theorem final_10 : (dats m 0 c).arrAt 10 (cfgs 0).N
    = fun y : S1x1024.Idx => ((∑ r : Fin 8192, partG X D g w b r (y 1) : ℝ) : EReal) := by
  refine (dats m 0 c).arrAt_eq_of_after_last 10 t0_15 (by decide +kernel) _ fun j => ?_
  blk_simp
  rw [after0_10, Pipeline.eq_sum_fin_of_reset_step_apply_last (fun n h => (outsAt0 m c n h).2.2.2.2.1) 16 (fun _ => 0)
    (fun t y => ∑ r : Fin 512, ((partG X D g w b (row t r) (y 1) : ℝ) : EReal))
    (fun t h j => by
      rw [outsAt0_A m c t h]; frame_out
      idx_vars j
      refine (pay1 (loads m c H t) (blk2 m c H t) _ _ _).trans (congrArg (· + _) ?_)
      pointwise [k0_pay2])
    (fun t h j => by
      rw [outsAt0_B m c t h]; frame_out
      idx_vars j
      exact pay1 (loads m c H t) (blk2 m c H t) _ _ _)
    (le_of_eq N_0) t0_15 rfl j, zero_add]
  show (∑ t : Fin 16, ∑ r : Fin 512, ((partG X D g w b (row t r) (j 1) : ℝ) : EReal)) = _
  simp only [lift_sum]
  exact congrArg Real.toEReal (Fin.sum_mul_add_congr (S := 16) (n := 512) (fun s k hl => rfl) rfl)

end Cert.ConvPreBwdIdeal.Array

end
-- ==== Proof.GateBias.lean ====
/-
  The last result array of the kernel `conv_pre_bwd` after its run: the bias's derivative, gathered by groups of columns.
-/
module

public import proofs.«01_k».proof.Proof.GateArray

@[expose] public section

set_option maxRecDepth 16384

noncomputable section

open Idealize.ShloMosaic Idealize.ShloMosaic.TcCoe Idealize.SL.Sem
open Idealize.ShloMosaic.Pipeline (Dat)

namespace Cert.ConvPreBwdIdeal.Array

open Cert.ConvPreBwdIdeal Cert.ConvPreBwdIdeal.Gen Cert.ConvPreBwdIdeal.Block Cert.Reals Cert.Gate

variable (m : (ℓ : Loc nD τ sig) → Buf (Elt Ideal) ℓ)
variable {X D O : Fin 8192 → Fin 1024 → ℝ} {g : Fin 1024 → ℝ} {w : Fin 1024 → Fin 2048 → ℝ} {b : Fin 2048 → ℝ} (c : Dev nD)

theorem col8_surj (j : Fin 2048) : ∃ q l, j = col8 q l :=
  ⟨⟨j.val / 256, by omega⟩, ⟨j.val % 256, by omega⟩, Fin.ext (by show j.val = j.val / 256 * 256 + j.val % 256; omega)⟩

/-- The gated layer's derivative of a row, by its 2048 columns. -/
def partB (X D : Fin 8192 → Fin 1024 → ℝ) (g : Fin 1024 → ℝ) (w : Fin 1024 → Fin 2048 → ℝ) (b : Fin 2048 → ℝ) (r : Fin 8192) (j : Fin 2048) : ℝ :=
  dRowU X D g w b r ⟨j.val / 256, by omega⟩ ⟨j.val % 256, by omega⟩

theorem partB_col (r : Fin 8192) (q : Fin 8) (l : Fin 256) : partB X D g w b r (col8 q l) = dRowU X D g w b r q l := by
  unfold partB col8
  congr 1 <;> refine Fin.ext ?_ <;> simp <;> omega

/-- One grid point's share of the bias's derivative. -/
def termB (X D : Fin 8192 → Fin 1024 → ℝ) (g : Fin 1024 → ℝ) (w : Fin 1024 → Fin 2048 → ℝ) (b : Fin 2048 → ℝ) (t : Fin cfg0.N)
    (y : S1x2048.Idx) : EReal :=
  ∑ r : Fin 512, ((partB X D g w b (row t r) (y 1) : ℝ) : EReal)

theorem termB_col (t : Fin cfg0.N) (i : Fin 1) (q : Fin 8) (l : Fin 256) :
    termB X D g w b t (ix2 i (col8 q l)) = ∑ r : Fin 512, ((dRowU X D g w b (row t r) q l : ℝ) : EReal) := by
  unfold termB
  exact Finset.sum_congr rfl fun r _ => congrArg Real.toEReal (partB_col _ q l)

theorem final_11 (H : Holds m c X g w b D O) : (dats m 0 c).arrAt 11 (cfgs 0).N
    = fun y : S1x2048.Idx => ((∑ r : Fin 8192, partB X D g w b r (y 1) : ℝ) : EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.2.2) 16 (fun _ => 0) (termB X D g w b)
    (fun t h j => by
      have hl := loads m c H t
      rw [outsAt0_A m c t h]; frame_out
      idx_vars j
      obtain ⟨q, l, rfl⟩ := col8_surj j1
      rw [termB_col]
      have hj := l.isLt
      fin_cases q
      all_goals
        repeat refine (Cert.Cols.canon_miss _ _ _ _ _ _ (by simp only [col8]; omega)).trans ?_
        refine (Cert.Cols.canon_hit _ _ _ _ _ l _ (by simp only [col8])).trans ?_
      on_goal 1 => refine (pay13 hl.g0.hV hl.g0.hL _ _ _).trans (congrArg (· + _) ?_)
      on_goal 2 => refine (pay13 hl.g1.hV hl.g1.hL _ _ _).trans (congrArg (· + _) ?_)
      on_goal 3 => refine (pay13 hl.g2.hV hl.g2.hL _ _ _).trans (congrArg (· + _) ?_)
      on_goal 4 => refine (pay13 hl.g3.hV hl.g3.hL _ _ _).trans (congrArg (· + _) ?_)
      on_goal 5 => refine (pay14 hl.g0.hU hl.g0.hV hl.g0.hL _ _ _).trans (congrArg (· + _) ?_)
      on_goal 6 => refine (pay14 hl.g1.hU hl.g1.hV hl.g1.hL _ _ _).trans (congrArg (· + _) ?_)
      on_goal 7 => refine (pay14 hl.g2.hU hl.g2.hV hl.g2.hL _ _ _).trans (congrArg (· + _) ?_)
      on_goal 8 => refine (pay14 hl.g3.hU hl.g3.hV hl.g3.hL _ _ _).trans (congrArg (· + _) ?_)
      all_goals
        refine (Cert.Cols.readCov_cols _ _ _ _ _ _ (by omega)).trans ?_
        repeat refine (Cert.Cols.canon_miss _ _ _ _ _ _ (by dsimp only; omega)).trans ?_
        refine (Cert.Cols.canon_hit _ _ _ _ _ ⟨_, _⟩ _ (Nat.zero_add _).symm).trans ?_
        pointwise [k0_pay3])
    (fun t h j => by
      have hl := loads m c H t
      rw [outsAt0_B m c t h]; frame_out
      idx_vars j
      obtain ⟨q, l, rfl⟩ := col8_surj j1
      rw [termB_col]
      have hj := l.isLt
      fin_cases q
      all_goals
        repeat refine (Cert.Cols.canon_miss _ _ _ _ _ _ (by simp only [col8]; omega)).trans ?_
        refine (Cert.Cols.canon_hit _ _ _ _ _ l _ (by simp only [col8])).trans ?_
      on_goal 1 => refine (pay13 hl.g0.hV hl.g0.hL _ _ _).trans (congrArg (· + _) ?_)
      on_goal 2 => refine (pay13 hl.g1.hV hl.g1.hL _ _ _).trans (congrArg (· + _) ?_)
      on_goal 3 => refine (pay13 hl.g2.hV hl.g2.hL _ _ _).trans (congrArg (· + _) ?_)
      on_goal 4 => refine (pay13 hl.g3.hV hl.g3.hL _ _ _).trans (congrArg (· + _) ?_)
      on_goal 5 => refine (pay14 hl.g0.hU hl.g0.hV hl.g0.hL _ _ _).trans (congrArg (· + _) ?_)
      on_goal 6 => refine (pay14 hl.g1.hU hl.g1.hV hl.g1.hL _ _ _).trans (congrArg (· + _) ?_)
      on_goal 7 => refine (pay14 hl.g2.hU hl.g2.hV hl.g2.hL _ _ _).trans (congrArg (· + _) ?_)
      on_goal 8 => refine (pay14 hl.g3.hU hl.g3.hV hl.g3.hL _ _ _).trans (congrArg (· + _) ?_)
      all_goals
        exact Cert.Cols.ld_cols _ _ _ _ _ _ (by simp only [col8]))
    (le_of_eq N_0) t0_15 rfl j, zero_add]
  show (∑ t : Fin 16, ∑ r : Fin 512, ((partB X D g w b (row t r) (j 1) : ℝ) : EReal)) = _
  simp only [lift_sum]
  exact congrArg Real.toEReal (Fin.sum_mul_add_congr (S := 16) (n := 512) (fun s k hl => rfl) rfl)

end Cert.ConvPreBwdIdeal.Array

end
-- ==== Proof.GateRef.lean ====
/-
  The reference's stages of the gated pointwise layer, element by element, when the arguments hold real numbers.
-/
module

public import proofs.«01_k».proof.Proof.Gen.ConvPreBwdRefIdeal.Read
public import proofs.«01_k».proof.Proof.GateBias

@[expose] public section

set_option maxRecDepth 16384

noncomputable section

open Idealize.ShloMosaic Idealize.ShloMosaic.TcCoe Idealize.SL.Sem

namespace Cert.ConvPreBwdRefIdeal.Stage

open Cert.ConvPreBwdRefIdeal Cert.ConvPreBwdRefIdeal.Read Cert.Reals Cert.Gate
open Cert.ConvPreBwdIdeal.Array (dRow uRow wCol outX dRowU partG partB partB_col col8_surj)

variable {x0 : FVec Ideal S8192x1024 .f32} {x1 : FVec Ideal S1024 .f32} {x2 : FVec Ideal S1024x2048 .f32} {x3 : FVec Ideal S2048 .f32}
  {x4 x5 : FVec Ideal S8192x1024 .f32}
  {X D O : Fin 8192 → Fin 1024 → ℝ} {g : Fin 1024 → ℝ} {w : Fin 1024 → Fin 2048 → ℝ} {b : Fin 2048 → ℝ}

/-- What the reference's arguments hold. -/
structure Args (x0 : FVec Ideal S8192x1024 .f32) (x1 : FVec Ideal S1024 .f32) (x2 : FVec Ideal S1024x2048 .f32)
    (x3 : FVec Ideal S2048 .f32) (x4 x5 : FVec Ideal S8192x1024 .f32) (X : Fin 8192 → Fin 1024 → ℝ) (g : Fin 1024 → ℝ)
    (w : Fin 1024 → Fin 2048 → ℝ) (b : Fin 2048 → ℝ) (D O : Fin 8192 → Fin 1024 → ℝ) : Prop where
  h0 : ∀ i j, x0 (ix2 i j) = (X i j : EReal)
  h1 : ∀ j, x1 (ix1 j) = (g j : EReal)
  h2 : ∀ i j, x2 (ix2 i j) = (w i j : EReal)
  h3 : ∀ j, x3 (ix1 j) = (b j : EReal)
  h4 : ∀ i j, x4 (ix2 i j) = (D i j : EReal)
  h5 : ∀ i j, x5 (ix2 i j) = (O i j : EReal)

variable (H : Args x0 x1 x2 x3 x4 x5 X g w b D O)
include H

theorem at6 (i : Fin 8192) (j : Fin 1) :
    val_main_v6 (F := Ideal) x0 (ix2 i j) = ((mean (fun k => X i k * X i k) + eps : ℝ) : EReal) := by
  pointwise [val_main_v6, val_main_v5, val_main_v4, val_main_v3, val_main_v2, val_main_v1, val_main_v0, val_main_cst, val_main_cst_0,
    val_main_cst_1]
  simp only [H.h0, const_1024, const_eps, lift_mul, lift_sum, zero_add, lift_add, lift_div _ _ (by norm_num : (1024 : ℝ) ≠ 0)]
  rfl

theorem at7 (i : Fin 8192) (j : Fin 1) : val_main_v7 (F := Ideal) x0 (ix2 i j) = ((rms (X i) : ℝ) : EReal) := by
  pointwise [val_main_v7]
  rw [at6 H]
  exact lift_rsqrt _ (rms_arg_pos _)

theorem at10 (i : Fin 8192) (j : Fin 1) : val_main_v10 (F := Ideal) x0 (ix2 i j)
    = ((-1 / 2 * (rms (X i) / (mean (fun k => X i k * X i k) + eps)) : ℝ) : EReal) := by
  pointwise [val_main_v10, val_main_v9, val_main_v8, val_main_cst_2]
  simp only [at6 H, at7 H, const_neg_half, lift_div _ _ (rms_arg_pos _).ne', lift_mul]

theorem at12 (i : Fin 8192) (j : Fin 1024) : val_main_v12 (F := Ideal) x0 (ix2 i j) = ((X i j * rms (X i) : ℝ) : EReal) := by
  pointwise [val_main_v12, val_main_v11]
  simp only [H.h0, at7 H, lift_mul]

theorem at15 (i : Fin 8192) (j : Fin 1024) : val_main_v15 (F := Ideal) x0 x1 (ix2 i j) = ((hn (X i) g j : ℝ) : EReal) := by
  pointwise [val_main_v15, val_main_v14, val_main_v13]
  simp only [H.h1, at12 H, lift_mul]
  rfl

theorem at19 (i : Fin 8192) (j : Fin 2048) : val_main_v19 (F := Ideal) x0 x1 x2 x3 (ix2 i j) = ((pw (X i) g w b j : ℝ) : EReal) := by
  pointwise [val_main_v19, val_main_v18, val_main_v17, val_main_v16]
  simp only [H.h2, H.h3, at15 H, lift_mul, lift_sum, lift_add]
  rfl

theorem at20 (i : Fin 8192) (j : Fin 1024) :
    val_main_v20 (F := Ideal) x0 x1 x2 x3 (ix2 i j) = ((pw (X i) g w b ⟨j.val, by omega⟩ : ℝ) : EReal) := by
  pointwise [val_main_v20]
  exact at19 H i _

theorem at27 (i : Fin 8192) (j : Fin 1024) :
    val_main_v27 (F := Ideal) x0 x1 x2 x3 (ix2 i j) = ((sg (pw (X i) g w b ⟨1024 + j.val, by omega⟩) : ℝ) : EReal) := by
  pointwise [val_main_v27, val_main_v26, val_main_v25, val_main_v24, val_main_v23, val_main_v22, val_main_v21, val_main_cst_3, val_main_cst_4]
  simp only [at19 H, lift_neg, lift_one, lift_exp, lift_add, lift_div _ _ (one_add_exp_ne _)]
  rfl

omit H in
/-- The gated layer's derivative at a value's column. -/
theorem partB_val (i : Fin 8192) (j : Fin 2048) (h : j.val < 1024) :
    partB X D g w b i j = D i ⟨j.val, h⟩ * sg (pw (X i) g w b ⟨1024 + j.val, by omega⟩) := by
  have e4 : ∀ y, col4 ⟨j.val / 256, y⟩ ⟨j.val % 256, by omega⟩ = ⟨j.val, h⟩ := fun y =>
    Fin.ext (by show j.val / 256 * 256 + j.val % 256 = j.val; omega)
  have e8 : ∀ y, col8 ⟨j.val / 256 + 4, y⟩ ⟨j.val % 256, by omega⟩ = ⟨1024 + j.val, by omega⟩ := fun y =>
    Fin.ext (by show (j.val / 256 + 4) * 256 + j.val % 256 = 1024 + j.val; omega)
  unfold partB dRowU du
  rw [dif_pos (by show j.val / 256 < 4; omega)]
  unfold dRow uRow dVal
  rw [e4, e8]

omit H in
/-- The gated layer's derivative at a gate's column. -/
theorem partB_gate (i : Fin 8192) (j : Fin 2048) (h : ¬j.val < 1024) :
    partB X D g w b i j = D i ⟨j.val - 1024, by omega⟩ * pw (X i) g w b ⟨j.val - 1024, by omega⟩ * sg (pw (X i) g w b j)
      * (1 - sg (pw (X i) g w b j)) := by
  have e4 : ∀ y, col4 ⟨j.val / 256 - 4, y⟩ ⟨j.val % 256, by omega⟩ = ⟨j.val - 1024, by omega⟩ := fun y =>
    Fin.ext (by show (j.val / 256 - 4) * 256 + j.val % 256 = j.val - 1024; omega)
  have e8 : ∀ y, col8 ⟨j.val / 256 - 4, y⟩ ⟨j.val % 256, by omega⟩ = ⟨j.val - 1024, by omega⟩ := fun y =>
    Fin.ext (by show (j.val / 256 - 4) * 256 + j.val % 256 = j.val - 1024; omega)
  have e : ∀ y, col8 ⟨j.val / 256, y⟩ ⟨j.val % 256, by omega⟩ = j := fun y =>
    Fin.ext (by show j.val / 256 * 256 + j.val % 256 = j.val; omega)
  unfold partB dRowU du
  rw [dif_neg (by show ¬j.val / 256 < 4; omega)]
  unfold dRow uRow dGate
  rw [e4, e8, e]

theorem at37 (i : Fin 8192) (j : Fin 2048) :
    val_main_v37 (F := Ideal) x0 x1 x2 x3 x4 (ix2 i j) = ((partB X D g w b i j : ℝ) : EReal) := by
  pointwise [val_main_v37, val_main_v36, val_main_v35, val_main_v34, val_main_v33, val_main_v32, val_main_v30, val_main_v29, val_main_v28,
    val_main_cst_5, val_main_cst_6, val_main_cst_7]
  simp only [at20 H, at27 H, H.h4, lift_one, lift_sub, lift_mul]
  by_cases h : j.val < 1024
  · rw [dif_pos h, dif_neg (by omega), zero_add, partB_val i j h]
  · have e : (⟨1024 + (j.val - 1024), by omega⟩ : Fin 2048) = j := Fin.ext (by show 1024 + (j.val - 1024) = j.val; omega)
    rw [dif_neg h, dif_pos (by omega), add_zero, partB_gate i j h, e]
    exact congrArg Real.toEReal (by ring)

theorem at41 (i : Fin 8192) (k : Fin 1024) : val_main_v41 (F := Ideal) x0 x1 x2 x3 x4 (ix2 i k)
    = ((dh (dRow D i) (uRow X g w b i) (wCol w) k : ℝ) : EReal) := by
  pointwise [val_main_v41]
  simp only [at37 H, H.h2, lift_mul, lift_sum]
  refine congrArg Real.toEReal ?_
  unfold dh
  refine (Fin.sum_mul_add_congr (S := 8) (n := 256) (fun q l hl => ?_) rfl).symm
  exact congrArg₂ (· * ·) (partB_col (X := X) (D := D) (g := g) (w := w) (b := b) i q l).symm rfl

theorem at46 (i : Fin 8192) (k : Fin 1024) : val_main_v46 (F := Ideal) x0 x1 x2 x3 x4 (ix2 i k)
    = ((dh (dRow D i) (uRow X g w b i) (wCol w) k * g k : ℝ) : EReal) := by
  pointwise [val_main_v46, val_main_v45, val_main_v13]
  simp only [at41 H, H.h1, lift_mul]

/-- The derivative of a row's mean square. -/
def dMs (X D : Fin 8192 → Fin 1024 → ℝ) (g : Fin 1024 → ℝ) (w : Fin 1024 → Fin 2048 → ℝ) (b : Fin 2048 → ℝ) (i : Fin 8192) : ℝ :=
  (∑ k, X i k * (dh (dRow D i) (uRow X g w b i) (wCol w) k * g k)) * (-1 / 2 * (rms (X i) / (mean (fun k => X i k * X i k) + eps))) / 1024

theorem at57 (i : Fin 8192) (k : Fin 1024) : val_main_v57 (F := Ideal) x0 x1 x2 x3 x4 (ix2 i k) = ((dMs X D g w b i : ℝ) : EReal) := by
  pointwise [val_main_v57, val_main_v56, val_main_v55, val_main_v54, val_main_v53, val_main_v50, val_main_v49, val_main_v48, val_main_cst_12,
    val_main_cst_13, val_main_cst_14]
  simp only [at46 H, at10 H, H.h0, const_1024, lift_mul, lift_sum, zero_add, lift_div _ _ (by norm_num : (1024 : ℝ) ≠ 0)]
  simp [dMs]

theorem at62 (i : Fin 8192) (k : Fin 1024) : val_main_v62 (F := Ideal) x0 x1 x2 x3 x4 x5 (ix2 i k)
    = ((outX X D O g w b i k : ℝ) : EReal) := by
  pointwise [val_main_v62, val_main_v61, val_main_v60, val_main_v59, val_main_v58, val_main_v52, val_main_v51]
  simp only [at46 H, at57 H, at7 H, H.h0, H.h5, lift_mul, lift_add]
  refine congrArg Real.toEReal ?_
  unfold outX
  rw [← rmsBwd_steps (X i) _ k (dMs X D g w b i) rfl]

theorem at65 (q : Fin 8) (i : Fin 8192) (l : Fin 256) : val_main_v65 (F := Ideal) x0 x1 x2 x3 x4 (ix3 q i l)
    = ((dRowU X D g w b i q l : ℝ) : EReal) := by
  pointwise [val_main_v65, val_main_v64, val_main_v63]
  exact (at37 H i _).trans (congrArg Real.toEReal (partB_col i q l))

theorem at67 (k : Fin 1024) (i : Fin 8192) : val_main_v67 (F := Ideal) x0 x1 (ix2 k i) = ((hn (X i) g k : ℝ) : EReal) := by
  pointwise [val_main_v67, val_main_v66]
  exact at15 H i k

theorem at68 (i : Fin 8192) (k : Fin 1024) : val_main_v68 (F := Ideal) x0 x1 x2 x3 x4 x5 (ix2 i k)
    = ((outX X D O g w b i k : ℝ) : EReal) := by
  pointwise [val_main_v68]
  exact at62 H i k

theorem at69 (z : Fin 1) (k : Fin 1024) : val_main_v69 (F := Ideal) x0 x1 x2 x3 x4 (ix2 z k)
    = ((∑ r, partG X D g w b r k : ℝ) : EReal) := by
  pointwise [val_main_v69, val_main_v47, val_main_v44, val_main_v43, val_main_v42, val_main_cst_10, val_main_cst_11]
  simp only [at12 H, at41 H, lift_mul, lift_sum, zero_add]
  refine congrArg Real.toEReal ?_
  simp [partG, mul_comm]

theorem at70 (z : Fin 1) (j : Fin 2048) : val_main_v70 (F := Ideal) x0 x1 x2 x3 x4 (ix2 z j)
    = ((∑ r, partB X D g w b r j : ℝ) : EReal) := by
  pointwise [val_main_v70, val_main_v40, val_main_v39, val_main_v38, val_main_cst_8, val_main_cst_9]
  simp only [at37 H, lift_sum, zero_add]
  simp

end Cert.ConvPreBwdRefIdeal.Stage

end
-- ==== Proof.GatePair.lean ====
/-
  The kernel `conv_pre_bwd` and the derivative of the reference's lines end with equal results, when the arguments are finite.
-/
module

public import proofs.«01_k».proof.Defs
public import proofs.«01_k».proof.Proof.Finite
public import proofs.«01_k».proof.Proof.GateRef
public import proofs.«01_k».proof.Proof.Gen.ConvPreBwdRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_finite2 : Cert.Pre_finite2.Facts where
  bcast_S_S8192x1024 := by decide
  bcast_S_S1024 := by decide
  bcast_S_S1024x2048 := by decide
  bcast_S_S2048 := by decide

attribute [local instance] facts_finite2

section
open Cert.ConvPreBwdIdeal Cert.ConvPreBwdIdeal.Array

variable (m : (ℓ : Loc nD τ sig) → Buf (Elt Ideal) ℓ) (c : Dev nD)

/-- Under the precondition the arguments hold real arrays. -/
theorem gate_holds (h : Cert.Pre_ConvPreBwdIdeal_finite2 m) :
    Holds m c (fun i j => ((show FVec Ideal S8192x1024 .f32 from m ((c : Thread nD τ).loc main_arg0)) (ix2 i j)).toReal)
      (fun j => ((show FVec Ideal S1024 .f32 from m ((c : Thread nD τ).loc main_arg1)) (ix1 j)).toReal)
      (fun i j => ((show FVec Ideal S1024x2048 .f32 from m ((c : Thread nD τ).loc main_arg2)) (ix2 i j)).toReal)
      (fun j => ((show FVec Ideal S2048 .f32 from m ((c : Thread nD τ).loc main_arg3)) (ix1 j)).toReal)
      (fun i j => ((show FVec Ideal S8192x1024 .f32 from m ((c : Thread nD τ).loc main_arg4)) (ix2 i j)).toReal)
      (fun i j => ((show FVec Ideal S8192x1024 .f32 from m ((c : Thread nD τ).loc main_arg5)) (ix2 i j)).toReal) :=
  have ⟨e0, e1, e2, e3, e4, e5⟩ := h c
  ⟨fun i j => Cert.Finite.real_of_pre e0 _, fun j => Cert.Finite.real_of_pre e1 _, fun i j => Cert.Finite.real_of_pre e2 _,
    fun j => Cert.Finite.real_of_pre e3 _, fun i j => Cert.Finite.real_of_pre e4 _, fun i j => Cert.Finite.real_of_pre e5 _⟩

/-- The same of the reference's stages. -/
theorem gate_args {X D O : Fin 8192 → Fin 1024 → ℝ} {g : Fin 1024 → ℝ} {w : Fin 1024 → Fin 2048 → ℝ} {b : Fin 2048 → ℝ}
    (H : Holds m c X g w b D O) :
    Cert.ConvPreBwdRefIdeal.Stage.Args (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) X g w b D O :=
  ⟨H.h0, H.h1, H.h2, H.h3, H.h4, H.h5⟩

end

section
open Cert.ConvPreBwdRefIdeal

/-- The reference ends with its arguments unchanged; it has no semaphore. -/
theorem gate_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨fun c => (h c).2.2.2.2.2.2, sem_eq_zero_of_no_sems rfl _⟩) (Value.run m ρ)

end

set_option maxHeartbeats 4000000 in
theorem gate_algebraic : Cert.algebraic_ConvPreBwdIdeal_ConvPreBwdRefIdeal_pre_finite2
    (hConvPreBwdIdeal := Cert.ConvPreBwdIdeal.Gen.facts) (hConvPreBwdRefIdeal := Cert.ConvPreBwdRefIdeal.Gen.facts) := by
  pair_intro
  · run_from Cert.ConvPreBwdIdeal.Gen.run_main m g
  · run_from Cert.ConvPreBwdRefIdeal.Value.run m' g'
    · obtain ⟨a0, a1, a2, a3, a4, a5⟩ := hagree c
      rw [Cert.ConvPreBwdRefIdeal.Read.val_main_v65_eq, a0, a1, a2, a3, a4, Cert.ConvPreBwdIdeal.Array.final_6 m c (gate_holds m c hpre)]
      funext y
      idx_vars y
      exact Cert.ConvPreBwdRefIdeal.Stage.at65 (gate_args m c (gate_holds m c hpre)) _ _ _
    · obtain ⟨a0, a1, a2, a3, a4, a5⟩ := hagree c
      rw [Cert.ConvPreBwdRefIdeal.Read.val_main_v67_eq, Cert.ConvPreBwdIdeal.Array.final_7 m c (gate_holds m c hpre)]
      funext y
      idx_vars y
      exact Cert.ConvPreBwdRefIdeal.Stage.at67 (gate_args m c (gate_holds m c hpre)) _ _
    · obtain ⟨a0, a1, a2, a3, a4, a5⟩ := hagree c
      rw [Cert.ConvPreBwdRefIdeal.Read.val_main_v62_eq, a0, a1, a2, a3, a4, a5, Cert.ConvPreBwdIdeal.Array.final_8 m c (gate_holds m c hpre)]
      funext y
      idx_vars y
      exact Cert.ConvPreBwdRefIdeal.Stage.at62 (gate_args m c (gate_holds m c hpre)) _ _
    · obtain ⟨a0, a1, a2, a3, a4, a5⟩ := hagree c
      rw [Cert.ConvPreBwdRefIdeal.Read.val_main_v68_eq, a0, a1, a2, a3, a4, a5, Cert.ConvPreBwdIdeal.Array.final_9 m c (gate_holds m c hpre)]
      funext y
      idx_vars y
      exact Cert.ConvPreBwdRefIdeal.Stage.at68 (gate_args m c (gate_holds m c hpre)) _ _
    · obtain ⟨a0, a1, a2, a3, a4, a5⟩ := hagree c
      rw [Cert.ConvPreBwdRefIdeal.Read.val_main_v69_eq, a0, a1, a2, a3, a4, Cert.ConvPreBwdIdeal.Array.final_10 m c (gate_holds m c hpre)]
      funext y
      idx_vars y
      exact Cert.ConvPreBwdRefIdeal.Stage.at69 (gate_args m c (gate_holds m c hpre)) _ _
    · obtain ⟨a0, a1, a2, a3, a4, a5⟩ := hagree c
      rw [Cert.ConvPreBwdRefIdeal.Read.val_main_v70_eq, a0, a1, a2, a3, a4, Cert.ConvPreBwdIdeal.Array.final_11 m c (gate_holds m c hpre)]
      funext y
      idx_vars y
      exact Cert.ConvPreBwdRefIdeal.Stage.at70 (gate_args m c (gate_holds m c hpre)) _ _

end Cert.Proof

end
-- ==== Proof.FfnBlock.lean ====
/-
  One grid point of the kernel `ffn_bwd1`: its stored values, element by element, when the loaded blocks hold real numbers. The
  layer's 5632 columns come in eight groups of 704: the first four are the gates, the last four what they open.
-/
module

public import proofs.«01_k».proof.Proof.Gen.FfnBwdIdeal.Skeleton
public import proofs.«01_k».proof.Proof.Reals

@[expose] public section

set_option maxRecDepth 16384

noncomputable section

open Idealize.ShloMosaic Idealize.ShloMosaic.TcCoe Idealize.SL.Sem

namespace Cert.Ffn

open Cert.Reals

/-- The derivative of the gated product of one row, a group of columns at a time: `d` is the row's derivative, `wd` the second matrix. -/
def dAct (d : Fin 1024 → ℝ) (wd : Fin 4 → Fin 704 → Fin 1024 → ℝ) (p : Fin 4) (l : Fin 704) : ℝ := ∑ k, d k * wd p l k

/-- The derivative of the first product of one row, by groups: the gated product's, times the saved factor `s` of the other half. -/
def dGu (d : Fin 1024 → ℝ) (s : Fin 8 → Fin 704 → ℝ) (wd : Fin 4 → Fin 704 → Fin 1024 → ℝ) (q : Fin 8) (l : Fin 704) : ℝ :=
  if h : q.val < 4 then dAct d wd ⟨q.val, h⟩ l * s ⟨q.val + 4, by omega⟩ l
  else dAct d wd ⟨q.val - 4, by omega⟩ l * s ⟨q.val - 4, by omega⟩ l

/-- The derivative of the first product's input. -/
def dHid (d : Fin 1024 → ℝ) (s : Fin 8 → Fin 704 → ℝ) (wd : Fin 4 → Fin 704 → Fin 1024 → ℝ) (wu : Fin 8 → Fin 704 → Fin 1024 → ℝ)
    (k : Fin 1024) : ℝ := ∑ q, ∑ l, dGu d s wd q l * wu q l k

end Cert.Ffn

namespace Cert.FfnBwdIdeal.Block

open Cert.FfnBwdIdeal Cert.FfnBwdIdeal.Gen Cert.Reals Cert.Ffn

variable {X Y : FVec Ideal S256x1024 .f32} {G : FVec Ideal S1x1024 .f32} {x d : Fin 256 → Fin 1024 → ℝ} {g : Fin 1024 → ℝ}

/-! ## The norm -/

theorem pay8 (hX : ∀ i j, X (ix2 i j) = (x i j : EReal)) (i : Fin 256) (j : Fin 1) :
    k0_pay8 (F := Ideal) X (ix2 i j) = ((rms (x i) : ℝ) : EReal) := by
  pointwise [k0_pay8]
  simp only [hX, const_1024, const_eps, lift_sum, lift_mul, lift_add, lift_div _ _ (by norm_num : (1024 : ℝ) ≠ 0)]
  exact lift_rsqrt _ (rms_arg_pos _)

theorem pay9 (hX : ∀ i j, X (ix2 i j) = (x i j : EReal)) (i : Fin 256) (j : Fin 1024) :
    k0_pay9 (F := Ideal) X (ix2 i j) = ((x i j * rms (x i) : ℝ) : EReal) := by
  pointwise [k0_pay9]
  simp only [hX, pay8 hX, lift_mul]

theorem pay10 (hX : ∀ i j, X (ix2 i j) = (x i j : EReal)) (hG : ∀ i j, G (ix2 i j) = (g j : EReal)) (i : Fin 256) (j : Fin 1024) :
    k0_pay10 (F := Ideal) G X (ix2 i j) = ((x i j * rms (x i) * g j : ℝ) : EReal) := by
  pointwise [k0_pay10, k0_pay7]
  simp only [pay9 hX, hG, lift_mul]

/-! ## One group of columns -/

variable {E : FVec Ideal S256x1024 .bf16} {D W Z : FVec Ideal S1x704x1024 .bf16} {U : FVec Ideal S1x256x704 .bf16} {A : FVec Ideal S256x1024 .f32}
  {P R : FVec Ideal S256x704 .bf16} {v w z : Fin 704 → Fin 1024 → ℝ} {s p r : Fin 256 → Fin 704 → ℝ} {a : Fin 256 → Fin 1024 → ℝ}

theorem pay20 (hE : ∀ i k, E (ix2 i k) = (d i k : EReal)) (hD : ∀ y l k, D (ix3 y l k) = (v l k : EReal))
    (hU : ∀ y i l, U (ix3 y i l) = (s i l : EReal)) (i : Fin 256) (l : Fin 704) :
    k0_pay20 (F := Ideal) E D U (ix2 i l) = (((∑ k, d i k * v l k) * s i l : ℝ) : EReal) := by
  pointwise [k0_pay20, k0_pay19]
  simp only [hE, hD, hU, zero_add, lift_mul, lift_sum]

theorem pay24 (P : FVec Ideal S256x704 .bf16) (y : Fin 1) (l : Fin 704) (i : Fin 256) : k0_pay24 (F := Ideal) P (ix3 y l i) = P (ix2 i l) := by
  pointwise [k0_pay24]

theorem pay25 (hA : ∀ i k, A (ix2 i k) = (a i k : EReal)) (hP : ∀ i l, P (ix2 i l) = (p i l : EReal)) (hR : ∀ i l, R (ix2 i l) = (r i l : EReal))
    (hW : ∀ y l k, W (ix3 y l k) = (w l k : EReal)) (hZ : ∀ y l k, Z (ix3 y l k) = (z l k : EReal)) (i : Fin 256) (k : Fin 1024) :
    k0_pay25 (F := Ideal) A P R W Z (ix2 i k) = ((a i k + ((∑ l, p i l * w l k) + ∑ l, r i l * z l k) : ℝ) : EReal) := by
  pointwise [k0_pay25]
  simp only [hA, hP, hR, hW, hZ, zero_add, lift_mul, lift_sum, lift_add]
  rw [add_assoc]

/-! ## A whole grid point -/

/-- One grid point's loads: the derivative, the second matrix's four slabs, the saved factors' and the first matrix's eight. -/
structure Loads (Y : FVec Ideal S256x1024 .f32) (D0 D1 D2 D3 : FVec Ideal S1x704x1024 .bf16) (U0 U1 U2 U3 U4 U5 U6 U7 : FVec Ideal S1x256x704 .bf16)
    (W0 W1 W2 W3 W4 W5 W6 W7 : FVec Ideal S1x704x1024 .bf16) (d : Fin 256 → Fin 1024 → ℝ) (wd : Fin 4 → Fin 704 → Fin 1024 → ℝ)
    (s : Fin 256 → Fin 8 → Fin 704 → ℝ) (wu : Fin 8 → Fin 704 → Fin 1024 → ℝ) : Prop where
  hY : ∀ i k, Y (ix2 i k) = (d i k : EReal)
  d0 : ∀ y l k, D0 (ix3 y l k) = (wd 0 l k : EReal)
  d1 : ∀ y l k, D1 (ix3 y l k) = (wd 1 l k : EReal)
  d2 : ∀ y l k, D2 (ix3 y l k) = (wd 2 l k : EReal)
  d3 : ∀ y l k, D3 (ix3 y l k) = (wd 3 l k : EReal)
  u0 : ∀ y i l, U0 (ix3 y i l) = (s i 0 l : EReal)
  u1 : ∀ y i l, U1 (ix3 y i l) = (s i 1 l : EReal)
  u2 : ∀ y i l, U2 (ix3 y i l) = (s i 2 l : EReal)
  u3 : ∀ y i l, U3 (ix3 y i l) = (s i 3 l : EReal)
  u4 : ∀ y i l, U4 (ix3 y i l) = (s i 4 l : EReal)
  u5 : ∀ y i l, U5 (ix3 y i l) = (s i 5 l : EReal)
  u6 : ∀ y i l, U6 (ix3 y i l) = (s i 6 l : EReal)
  u7 : ∀ y i l, U7 (ix3 y i l) = (s i 7 l : EReal)
  w0 : ∀ y l k, W0 (ix3 y l k) = (wu 0 l k : EReal)
  w1 : ∀ y l k, W1 (ix3 y l k) = (wu 1 l k : EReal)
  w2 : ∀ y l k, W2 (ix3 y l k) = (wu 2 l k : EReal)
  w3 : ∀ y l k, W3 (ix3 y l k) = (wu 3 l k : EReal)
  w4 : ∀ y l k, W4 (ix3 y l k) = (wu 4 l k : EReal)
  w5 : ∀ y l k, W5 (ix3 y l k) = (wu 5 l k : EReal)
  w6 : ∀ y l k, W6 (ix3 y l k) = (wu 6 l k : EReal)
  w7 : ∀ y l k, W7 (ix3 y l k) = (wu 7 l k : EReal)

variable {D0 D1 D2 D3 : FVec Ideal S1x704x1024 .bf16} {U0 U1 U2 U3 U4 U5 U6 U7 : FVec Ideal S1x256x704 .bf16}
  {W0 W1 W2 W3 W4 W5 W6 W7 : FVec Ideal S1x704x1024 .bf16} {wd : Fin 4 → Fin 704 → Fin 1024 → ℝ}
  {q : Fin 256 → Fin 8 → Fin 704 → ℝ} {wu : Fin 8 → Fin 704 → Fin 1024 → ℝ}

/-- The input's derivative after three groups. -/
def acc3 (Y : FVec Ideal S256x1024 .f32) (D0 D1 D2 : FVec Ideal S1x704x1024 .bf16) (U0 U1 U2 U4 U5 U6 : FVec Ideal S1x256x704 .bf16)
    (W0 W1 W2 W4 W5 W6 : FVec Ideal S1x704x1024 .bf16) : FVec Ideal S256x1024 .f32 :=
  k0_pay31 (F := Ideal)
    (k0_pay25 (k0_pay18 k0_pay11 (k0_pay12 Y D0) (k0_pay13 Y D0 U4) (k0_pay14 U0) W0 W4)
      (k0_pay20 (k0_pay6 Y) D1 U5) (k0_pay21 (k0_pay6 Y) D1 U1) W1 W5)
    (k0_pay27 (k0_pay6 Y) D2 U6) (k0_pay28 (k0_pay6 Y) D2 U2) W2 W6

theorem pay6 (hY : ∀ i k, Y (ix2 i k) = (d i k : EReal)) (i : Fin 256) (k : Fin 1024) : k0_pay6 (F := Ideal) Y (ix2 i k) = (d i k : EReal) := by
  pointwise [k0_pay6]
  exact hY i k

theorem pay2 (h : Loads Y D0 D1 D2 D3 U0 U1 U2 U3 U4 U5 U6 U7 W0 W1 W2 W3 W4 W5 W6 W7 d wd q wu) (i : Fin 256) (k : Fin 1024) :
    k0_pay2 (F := Ideal) (acc3 Y D0 D1 D2 U0 U1 U2 U4 U5 U6 W0 W1 W2 W4 W5 W6) (k0_pay33 (k0_pay6 Y) D3 U7) (k0_pay34 (k0_pay6 Y) D3 U3) W3 W7 (ix2 i k)
      = ((dHid (d i) (q i) wd wu k : ℝ) : EReal) := by
  have hE := pay6 h.hY
  have h0 : ∀ i k, k0_pay11 (F := Ideal) (ix2 i k) = (((fun _ _ => 0 : Fin 256 → Fin 1024 → ℝ) i k : ℝ) : EReal) := fun i k => by
    pointwise [k0_pay11]; rfl
  have s0 := pay25 h0 (pay20 hE h.d0 h.u4) (pay20 hE h.d0 h.u0) h.w0 h.w4
  have s1 := pay25 s0 (pay20 hE h.d1 h.u5) (pay20 hE h.d1 h.u1) h.w1 h.w5
  have s2 := pay25 s1 (pay20 hE h.d2 h.u6) (pay20 hE h.d2 h.u2) h.w2 h.w6
  have s3 := pay25 s2 (pay20 hE h.d3 h.u7) (pay20 hE h.d3 h.u3) h.w3 h.w7 i k
  refine Eq.trans ?_ (s3.trans (congrArg Real.toEReal ?_))
  · have e : acc3 Y D0 D1 D2 U0 U1 U2 U4 U5 U6 W0 W1 W2 W4 W5 W6
        = k0_pay25 (k0_pay25 (k0_pay25 k0_pay11 (k0_pay20 (k0_pay6 Y) D0 U4) (k0_pay20 (k0_pay6 Y) D0 U0) W0 W4)
          (k0_pay20 (k0_pay6 Y) D1 U5) (k0_pay20 (k0_pay6 Y) D1 U1) W1 W5)
          (k0_pay20 (k0_pay6 Y) D2 U6) (k0_pay20 (k0_pay6 Y) D2 U2) W2 W6 := rfl
    rw [e]
    rfl
  · unfold dHid
    rw [Fin.sum_univ_eight]
    simp only [dGu]
    have hv : ∀ a b c e a' b' c' e' : ℝ, 0 + (a + a') + (b + b') + (c + c') + (e + e') = a + b + c + e + a' + b' + c' + e' :=
      fun a b c e a' b' c' e' => by ring
    exact hv _ _ _ _ _ _ _ _

/-- The stored row: the carried derivative and the norm's. -/
theorem pay3 (h : Loads Y D0 D1 D2 D3 U0 U1 U2 U3 U4 U5 U6 U7 W0 W1 W2 W3 W4 W5 W6 W7 d wd q wu)
    (hX : ∀ i j, X (ix2 i j) = (x i j : EReal)) (hG : ∀ i j, G (ix2 i j) = (g j : EReal)) (i : Fin 256) (k : Fin 1024) :
    k0_pay3 (F := Ideal) Y (k0_pay7 G) (k0_pay8 X) (k0_pay9 X) (acc3 Y D0 D1 D2 U0 U1 U2 U4 U5 U6 W0 W1 W2 W4 W5 W6)
        (k0_pay33 (k0_pay6 Y) D3 U7) (k0_pay34 (k0_pay6 Y) D3 U3) W3 W7 (ix2 i k)
      = ((d i k + rmsBwd (x i) (fun k => dHid (d i) (q i) wd wu k * g k) k : ℝ) : EReal) := by
  pointwise [k0_pay3, k0_pay7]
  simp only [pay2 h, pay8 hX, pay9 hX, hG, h.hY, const_1024, lift_sub, lift_add, lift_mul, lift_sum, lift_div _ _ (by norm_num : (1024 : ℝ) ≠ 0)]
  rfl

/-- The scale's derivative: the sums kept so far, and one more block's column sums. -/
theorem pay4 (h : Loads Y D0 D1 D2 D3 U0 U1 U2 U3 U4 U5 U6 U7 W0 W1 W2 W3 W4 W5 W6 W7 d wd q wu)
    (hX : ∀ i j, X (ix2 i j) = (x i j : EReal)) (A : FVec Ideal S1x1024 .f32) (i : Fin 1) (k : Fin 1024) :
    k0_pay4 (F := Ideal) (k0_pay9 X) (acc3 Y D0 D1 D2 U0 U1 U2 U4 U5 U6 W0 W1 W2 W4 W5 W6)
        (k0_pay33 (k0_pay6 Y) D3 U7) (k0_pay34 (k0_pay6 Y) D3 U3) W3 W7 A (ix2 i k)
      = A (ix2 i k) + ∑ r : Fin 256, ((dHid (d r) (q r) wd wu k * (x r k * rms (x r)) : ℝ) : EReal) := by
  pointwise [k0_pay4]
  simp only [pay2 h, pay9 hX, lift_mul]

end Cert.FfnBwdIdeal.Block

end
-- ==== Proof.FfnArray.lean ====
/-
  The result arrays of the kernel `ffn_bwd1` after its run, when the arguments hold real numbers.
-/
module

public import proofs.«01_k».proof.Proof.Gen.FfnBwdIdeal.Value
public import Idealize.ShloMosaic.Lib.Pipeline.ValueKit
public import proofs.«01_k».proof.Proof.FfnBlock
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.Ffn

open Cert.Reals

/-- Column `l` of group `q`, of 5632 columns. -/
def colU (q : Fin 8) (l : Fin 704) : Fin 5632 := ⟨q.val * 704 + l.val, by omega⟩
/-- Column `l` of group `p`, of 2816 columns. -/
def colD (p : Fin 4) (l : Fin 704) : Fin 2816 := ⟨p.val * 704 + l.val, by omega⟩

/-- The normalised row, scaled. -/
def hid (x g : Fin 1024 → ℝ) (k : Fin 1024) : ℝ := x k * rms x * g k

/-- The first product of a row. -/
def gu (x g : Fin 1024 → ℝ) (w : Fin 1024 → Fin 5632 → ℝ) (j : Fin 5632) : ℝ := ∑ k, hid x g k * w k j

/-- The factor that the derivative of what a gate opens is multiplied by: the gate's own value of the gated unit. -/
def facA (a : ℝ) : ℝ := a * sg a
/-- The factor of the gate's derivative: `b` is what it opens. -/
def facB (a b : ℝ) : ℝ := sg a * (1 + a * (1 - sg a)) * b

/-- The saved factors of a row, by their 5632 columns. -/
def facs (x g : Fin 1024 → ℝ) (w : Fin 1024 → Fin 5632 → ℝ) (j : Fin 5632) : ℝ :=
  if h : j.val < 2816 then facA (gu x g w ⟨j.val, by omega⟩)
  else facB (gu x g w ⟨j.val - 2816, by omega⟩) (gu x g w ⟨2816 + (j.val - 2816), by omega⟩)

/-- The saved factors of a row, by groups. -/
def saved (x g : Fin 1024 → ℝ) (w : Fin 1024 → Fin 5632 → ℝ) (q : Fin 8) (l : Fin 704) : ℝ := facs x g w (colU q l)

/-- The second matrix by groups of rows. -/
def dSlab (w : Fin 2816 → Fin 1024 → ℝ) (p : Fin 4) (l : Fin 704) (k : Fin 1024) : ℝ := w (colD p l) k
/-- The first matrix, transposed, by groups of its columns. -/
def uSlab (w : Fin 1024 → Fin 5632 → ℝ) (q : Fin 8) (l : Fin 704) (k : Fin 1024) : ℝ := w k (colU q l)

end Cert.Ffn

namespace Cert.FfnBwdIdeal.Block

open Cert.FfnBwdIdeal Cert.FfnBwdIdeal.Gen Cert.Reals Cert.Ffn

/-- Slab `o` of a block of saved factors. -/
abbrev ldU (B : FVec Ideal S8x256x704 .bf16) (o : ℕ) (inb : ∀ a, (![o, 0, 0] : Fin 3 → ℕ) a + S1x256x704.size a ≤ S8x256x704.size a) :
    FVec Ideal S1x256x704 .bf16 :=
  View.ld (Val := Elt Ideal) (e' := .bf16) B (Rect.unit (s := S8x256x704) ![o, 0, 0] S1x256x704.size inb)
/-- Slab `o` of the first matrix. -/
abbrev ldW (B : FVec Ideal S8x704x1024 .bf16) (o : ℕ) (inb : ∀ a, (![o, 0, 0] : Fin 3 → ℕ) a + S1x704x1024.size a ≤ S8x704x1024.size a) :
    FVec Ideal S1x704x1024 .bf16 :=
  View.ld (Val := Elt Ideal) (e' := .bf16) B (Rect.unit (s := S8x704x1024) ![o, 0, 0] S1x704x1024.size inb)
/-- Slab `o` of the second matrix. -/
abbrev ldD (B : FVec Ideal S4x704x1024 .bf16) (o : ℕ) (inb : ∀ a, (![o, 0, 0] : Fin 3 → ℕ) a + S1x704x1024.size a ≤ S4x704x1024.size a) :
    FVec Ideal S1x704x1024 .bf16 :=
  View.ld (Val := Elt Ideal) (e' := .bf16) B (Rect.unit (s := S4x704x1024) ![o, 0, 0] S1x704x1024.size inb)

variable {Y : FVec Ideal S256x1024 .f32} {B : FVec Ideal S8x256x704 .bf16} {W : FVec Ideal S8x704x1024 .bf16} {V : FVec Ideal S4x704x1024 .bf16}
  {d : Fin 256 → Fin 1024 → ℝ} {s : Fin 256 → Fin 8 → Fin 704 → ℝ} {wu : Fin 8 → Fin 704 → Fin 1024 → ℝ} {wd : Fin 4 → Fin 704 → Fin 1024 → ℝ}

/-- One slab of a block, when the block holds real numbers. -/
theorem ld_of {N M K : ℕ} {B : FVec Ideal (⟨3, ![N, M, K]⟩ : Shape) .bf16} {f : Fin N → Fin M → Fin K → ℝ}
    (h : ∀ q i l, B (ix3 q i l) = (f q i l : EReal)) (q : Fin N) (o : ℕ) (ho : q.val = o)
    (inb : ∀ a : Fin 3, (![o, 0, 0] : Fin 3 → ℕ) a + (![1, M, K] : Fin 3 → ℕ) a ≤ (⟨3, ![N, M, K]⟩ : Shape).size a)
    (z : Fin 1) (i : Fin M) (l : Fin K) :
    View.ld (Val := Elt Ideal) (e' := .bf16) B (Rect.unit (s := ⟨3, ![N, M, K]⟩) ![o, 0, 0] ![1, M, K] inb) (ix3 z i l) = (f q i l : EReal) := by
  subst ho
  exact (Cert.Cols.ld_slab (Val := Elt Ideal) (e := .bf16) B q.val q.isLt inb z i l).trans (h q i l)

/-- A grid point's loads of its blocks. -/
abbrev LoadsOf (Y : FVec Ideal S256x1024 .f32) (B : FVec Ideal S8x256x704 .bf16) (W : FVec Ideal S8x704x1024 .bf16)
    (V : FVec Ideal S4x704x1024 .bf16) (d : Fin 256 → Fin 1024 → ℝ) (wd : Fin 4 → Fin 704 → Fin 1024 → ℝ)
    (s : Fin 256 → Fin 8 → Fin 704 → ℝ) (wu : Fin 8 → Fin 704 → Fin 1024 → ℝ) : Prop :=
  Loads Y (ldD V 0 inb_S4x704x1024_S1x704x1024_0_0_0) (ldD V 1 inb_S4x704x1024_S1x704x1024_1_0_0)
    (ldD V 2 inb_S4x704x1024_S1x704x1024_2_0_0) (ldD V 3 inb_S4x704x1024_S1x704x1024_3_0_0)
    (ldU B 0 inb_S8x256x704_S1x256x704_0_0_0) (ldU B 1 inb_S8x256x704_S1x256x704_1_0_0) (ldU B 2 inb_S8x256x704_S1x256x704_2_0_0)
    (ldU B 3 inb_S8x256x704_S1x256x704_3_0_0) (ldU B 4 inb_S8x256x704_S1x256x704_4_0_0) (ldU B 5 inb_S8x256x704_S1x256x704_5_0_0)
    (ldU B 6 inb_S8x256x704_S1x256x704_6_0_0) (ldU B 7 inb_S8x256x704_S1x256x704_7_0_0)
    (ldW W 0 inb_S8x704x1024_S1x704x1024_0_0_0) (ldW W 1 inb_S8x704x1024_S1x704x1024_1_0_0) (ldW W 2 inb_S8x704x1024_S1x704x1024_2_0_0)
    (ldW W 3 inb_S8x704x1024_S1x704x1024_3_0_0) (ldW W 4 inb_S8x704x1024_S1x704x1024_4_0_0) (ldW W 5 inb_S8x704x1024_S1x704x1024_5_0_0)
    (ldW W 6 inb_S8x704x1024_S1x704x1024_6_0_0) (ldW W 7 inb_S8x704x1024_S1x704x1024_7_0_0) d wd s wu

/-- They are known when the blocks hold real numbers. -/
theorem loads_of (hY : ∀ i k, Y (ix2 i k) = (d i k : EReal)) (hB : ∀ q i l, B (ix3 q i l) = (s i q l : EReal))
    (hW : ∀ q l k, W (ix3 q l k) = (wu q l k : EReal)) (hV : ∀ p l k, V (ix3 p l k) = (wd p l k : EReal)) : LoadsOf Y B W V d wd s wu :=
  have hU : ∀ q i l, B (ix3 q i l) = (((fun q i l => s i q l) q i l : ℝ) : EReal) := hB
  ⟨hY, ld_of hV 0 0 rfl _, ld_of hV 1 1 rfl _, ld_of hV 2 2 rfl _, ld_of hV 3 3 rfl _,
    ld_of hU 0 0 rfl _, ld_of hU 1 1 rfl _, ld_of hU 2 2 rfl _, ld_of hU 3 3 rfl _,
    ld_of hU 4 4 rfl _, ld_of hU 5 5 rfl _, ld_of hU 6 6 rfl _, ld_of hU 7 7 rfl _,
    ld_of hW 0 0 rfl _, ld_of hW 1 1 rfl _, ld_of hW 2 2 rfl _, ld_of hW 3 3 rfl _,
    ld_of hW 4 4 rfl _, ld_of hW 5 5 rfl _, ld_of hW 6 6 rfl _, ld_of hW 7 7 rfl _⟩

variable {D0 D1 D2 D3 : FVec Ideal S1x704x1024 .bf16} {U0 U1 U2 U3 U4 U5 U6 U7 : FVec Ideal S1x256x704 .bf16}
  {W0 W1 W2 W3 W4 W5 W6 W7 : FVec Ideal S1x704x1024 .bf16}

/-- Eight slabs stored, one group's two halves at a time. -/
theorem slabs (h : Loads Y D0 D1 D2 D3 U0 U1 U2 U3 U4 U5 U6 U7 W0 W1 W2 W3 W4 W5 W6 W7 d wd s wu) (q : Fin 8) (l : Fin 704) (i : Fin 256)
    (o : EReal) :
    (if q.val = 7 then k0_pay24 (F := Ideal) (k0_pay20 (k0_pay6 Y) D3 U3) (ix3 0 l i)
      else if q.val = 3 then k0_pay24 (F := Ideal) (k0_pay20 (k0_pay6 Y) D3 U7) (ix3 0 l i)
      else if q.val = 6 then k0_pay24 (F := Ideal) (k0_pay20 (k0_pay6 Y) D2 U2) (ix3 0 l i)
      else if q.val = 2 then k0_pay24 (F := Ideal) (k0_pay20 (k0_pay6 Y) D2 U6) (ix3 0 l i)
      else if q.val = 5 then k0_pay24 (F := Ideal) (k0_pay20 (k0_pay6 Y) D1 U1) (ix3 0 l i)
      else if q.val = 1 then k0_pay24 (F := Ideal) (k0_pay20 (k0_pay6 Y) D1 U5) (ix3 0 l i)
      else if q.val = 4 then k0_pay24 (F := Ideal) (k0_pay20 (k0_pay6 Y) D0 U0) (ix3 0 l i)
      else if q.val = 0 then k0_pay24 (F := Ideal) (k0_pay20 (k0_pay6 Y) D0 U4) (ix3 0 l i)
      else o) = ((dGu (d i) (s i) wd q l : ℝ) : EReal) := by
  have hE := pay6 h.hY
  fin_cases q
  · exact (pay24 _ 0 l i).trans (pay20 hE h.d0 h.u4 i l)
  · exact (pay24 _ 0 l i).trans (pay20 hE h.d1 h.u5 i l)
  · exact (pay24 _ 0 l i).trans (pay20 hE h.d2 h.u6 i l)
  · exact (pay24 _ 0 l i).trans (pay20 hE h.d3 h.u7 i l)
  · exact (pay24 _ 0 l i).trans (pay20 hE h.d0 h.u0 i l)
  · exact (pay24 _ 0 l i).trans (pay20 hE h.d1 h.u1 i l)
  · exact (pay24 _ 0 l i).trans (pay20 hE h.d2 h.u2 i l)
  · exact (pay24 _ 0 l i).trans (pay20 hE h.d3 h.u3 i l)

end Cert.FfnBwdIdeal.Block

namespace Cert.FfnBwdIdeal.Array

open Cert.FfnBwdIdeal Cert.FfnBwdIdeal.Gen Cert.FfnBwdIdeal.Block Cert.Reals Cert.Ffn

variable (m : (ℓ : Loc nD τ sig) → Buf (Elt Ideal) ℓ)

theorem idx_val : ∀ t : Fin cfg0.N, win0_0.index t = ![t.val, 0]
    ∧ win0_1.index t = ![t.val, 0]
    ∧ win0_2.index t = ![0, t.val, 0]
    ∧ win0_3.index t = ![0, 0]
    ∧ win0_4.index t = ![0, 0, 0]
    ∧ win0_5.index t = ![0, 0, 0]
    ∧ win0_6.index t = ![0, 0, t.val]
    ∧ win0_7.index t = ![t.val, 0]
    ∧ win0_8.index t = ![t.val, 0]
    ∧ win0_9.index t = ![0, 0] :=
  (by decide +kernel : ∀ t : Fin grid0.N, _)

/-- The row of the array that row `i` of grid point `t`'s block is. -/
def row (t : Fin cfg0.N) (i : Fin 256) : Fin 8192 :=
  ⟨t.val * 256 + i.val, by have := t.isLt; have h : cfg0.N = 32 := N_0; omega⟩

variable {X D : Fin 8192 → Fin 1024 → ℝ} {g : Fin 1024 → ℝ} {wu : Fin 1024 → Fin 5632 → ℝ} {wd : Fin 2816 → Fin 1024 → ℝ} (c : Dev nD)

/-- The arguments hold the real arrays `X`, `g`, `wu`, `wd`, `D`. -/
structure Holds (X : Fin 8192 → Fin 1024 → ℝ) (g : Fin 1024 → ℝ) (wu : Fin 1024 → Fin 5632 → ℝ) (wd : Fin 2816 → Fin 1024 → ℝ)
    (D : Fin 8192 → Fin 1024 → ℝ) : Prop where
  h0 : ∀ i j, (show FVec Ideal S8192x1024 .f32 from m ((c : Thread nD τ).loc main_arg0)) (ix2 i j) = (X i j : EReal)
  h1 : ∀ j, (show FVec Ideal S1024 .f32 from m ((c : Thread nD τ).loc main_arg1)) (ix1 j) = (g j : EReal)
  h2 : ∀ i j, (show FVec Ideal S1024x5632 .f32 from m ((c : Thread nD τ).loc main_arg2)) (ix2 i j) = (wu i j : EReal)
  h3 : ∀ i j, (show FVec Ideal S2816x1024 .f32 from m ((c : Thread nD τ).loc main_arg3)) (ix2 i j) = (wd i j : EReal)
  h4 : ∀ i j, (show FVec Ideal S8192x1024 .f32 from m ((c : Thread nD τ).loc main_arg4)) (ix2 i j) = (D i j : EReal)

variable (H : Holds m c X g wu wd D)
include H

theorem blk0 (t : Fin cfg0.N) (i : Fin 256) (j : Fin 1024) :
    (show FVec Ideal S256x1024 .f32 from iblk m c 0 t) (ix2 i j) = (D (row t i) j : EReal) := by
  rw [← H.h4]
  blk_ext [iblk, V, idx_val t, row]

theorem blk1 (t : Fin cfg0.N) (i : Fin 256) (j : Fin 1024) :
    (show FVec Ideal S256x1024 .f32 from iblk m c 1 t) (ix2 i j) = (X (row t i) j : EReal) := by
  rw [← H.h0]
  blk_ext [iblk, V, idx_val t, row]

theorem blk3 (t : Fin cfg0.N) (i : Fin 1) (j : Fin 1024) :
    (show FVec Ideal S1x1024 .f32 from iblk m c 3 t) (ix2 i j) = (g j : EReal) := by
  rw [← H.h1]
  blk_simp [iblk, idx_val t]
  entry_read
  pointwise
  blk_ext [idx_val t]

theorem blk4 (t : Fin cfg0.N) (q : Fin 8) (l : Fin 704) (k : Fin 1024) :
    (show FVec Ideal S8x704x1024 .bf16 from iblk m c 4 t) (ix3 q l k) = (uSlab wu q l k : EReal) := by
  unfold uSlab
  rw [← H.h2]
  blk_simp [iblk, idx_val t]
  entry_read
  pointwise
  blk_ext [idx_val t, colU]

theorem blk5 (t : Fin cfg0.N) (p : Fin 4) (l : Fin 704) (k : Fin 1024) :
    (show FVec Ideal S4x704x1024 .bf16 from iblk m c 5 t) (ix3 p l k) = (dSlab wd p l k : EReal) := by
  unfold dSlab
  rw [← H.h3]
  blk_simp [iblk, idx_val t]
  entry_read
  pointwise
  blk_ext [idx_val t, colD]

omit H in
/-- The first product, as the whole program computes it before the kernel. -/
def guV (x0 : FVec Ideal S8192x1024 .f32) (x1 : FVec Ideal S1024 .f32) (x2 : FVec Ideal S1024x5632 .f32) : FVec Ideal S8192x5632 .f32 :=
  Host.dotGeneral dot_S8192x1024_S1024x5632_S8192x5632_1_0_0_1_n_n none
    (mulf (mulf x0 (broadcastInDim S8192x1024 ![0, 1] bcast_S8192x1_S8192x1024_0_1
        (Host.rsqrt (addf (Host.divf (broadcastInDim S8192x1 ![0] bcast_S8192_S8192x1_0
            (Host.reduceAdd (mulf x0 x0) (constant S_ FTy.f32 0#32) reducesTo_S8192x1024_S8192_d1 h_S_))
            (broadcastInDim S8192x1 ![] bcast_S_S8192x1 (constant S_ FTy.f32 1149239296#32)))
          (broadcastInDim S8192x1 ![] bcast_S_S8192x1 (constant S_ FTy.f32 897988541#32))))))
      (broadcastInDim S8192x1024 ![0, 1] bcast_S1x1024_S8192x1024_0_1 (broadcastInDim S1x1024 ![1] bcast_S1024_S1x1024_1 x1))) x2

omit H in
theorem guV_at {x0 : FVec Ideal S8192x1024 .f32} {x1 : FVec Ideal S1024 .f32} {x2 : FVec Ideal S1024x5632 .f32}
    (a0 : ∀ i j, x0 (ix2 i j) = (X i j : EReal)) (a1 : ∀ j, x1 (ix1 j) = (g j : EReal)) (a2 : ∀ i j, x2 (ix2 i j) = (wu i j : EReal))
    (r : Fin 8192) (j : Fin 5632) : guV x0 x1 x2 (ix2 r j) = ((gu (X r) g wu j : ℝ) : EReal) := by
  pointwise [guV]
  simp only [a0, a1, a2, const_1024, const_eps, zero_add, lift_sum, lift_mul, lift_add, lift_div _ _ (by norm_num : (1024 : ℝ) ≠ 0)]
  erw [lift_rsqrt _ (rms_arg_pos (X r))]
  simp only [lift_sum, lift_mul]
  rfl

omit H in
/-- The saved factors, from the first product. -/
def facsV (GU : FVec Ideal S8192x5632 .f32) : FVec Ideal S8192x5632 .f32 :=
  concatenate S8192x5632 1 [⟨S8192x2816, mulf (extractStridedSlice S8192x2816 ![0, 0] GU slices_S8192x5632_S8192x2816_0_0)
        (Host.divf (broadcastInDim S8192x2816 ![] bcast_S_S8192x2816 (constant S_ FTy.f32 1065353216#32))
          (addf (broadcastInDim S8192x2816 ![] bcast_S_S8192x2816 (constant S_ FTy.f32 1065353216#32))
            (Host.exp (Host.negf (extractStridedSlice S8192x2816 ![0, 0] GU slices_S8192x5632_S8192x2816_0_0)))))⟩,
      ⟨S8192x2816, mulf
        (mulf (Host.divf (broadcastInDim S8192x2816 ![] bcast_S_S8192x2816 (constant S_ FTy.f32 1065353216#32))
            (addf (broadcastInDim S8192x2816 ![] bcast_S_S8192x2816 (constant S_ FTy.f32 1065353216#32))
              (Host.exp (Host.negf (extractStridedSlice S8192x2816 ![0, 0] GU slices_S8192x5632_S8192x2816_0_0)))))
          (addf (broadcastInDim S8192x2816 ![] bcast_S_S8192x2816 (constant S_ FTy.f32 1065353216#32))
            (mulf (extractStridedSlice S8192x2816 ![0, 0] GU slices_S8192x5632_S8192x2816_0_0)
              (subf (broadcastInDim S8192x2816 ![] bcast_S_S8192x2816 (constant S_ FTy.f32 1065353216#32))
                (Host.divf (broadcastInDim S8192x2816 ![] bcast_S_S8192x2816 (constant S_ FTy.f32 1065353216#32))
                  (addf (broadcastInDim S8192x2816 ![] bcast_S_S8192x2816 (constant S_ FTy.f32 1065353216#32))
                    (Host.exp (Host.negf (extractStridedSlice S8192x2816 ![0, 0] GU slices_S8192x5632_S8192x2816_0_0)))))))))
        (extractStridedSlice S8192x2816 ![0, 2816] GU slices_S8192x5632_S8192x2816_0_2816)⟩]
      concatenates_S8192x2816_S8192x2816_S8192x5632_d1

omit H in
theorem facsV_at {GU : FVec Ideal S8192x5632 .f32} (hG : ∀ r j, GU (ix2 r j) = ((gu (X r) g wu j : ℝ) : EReal)) (r : Fin 8192) (j : Fin 5632) :
    facsV GU (ix2 r j) = ((facs (X r) g wu j : ℝ) : EReal) := by
  unfold facs
  by_cases h : j.val < 2816
  · pointwise [facsV]
    rw [dif_pos h, dif_pos h]
    simp only [hG, lift_neg, lift_one, lift_exp, lift_add, lift_sub, lift_mul, lift_div _ _ (one_add_exp_ne _)]
    rfl
  · pointwise [facsV]
    rw [dif_neg h, dif_neg h]
    simp only [hG, lift_neg, lift_one, lift_exp, lift_add, lift_sub, lift_mul, lift_div _ _ (one_add_exp_ne _)]
    rfl

omit H in
/-- The saved factors, by groups of columns. -/
theorem slab_at (Q : FVec Ideal S8192x5632 .f32) (q : Fin 8) (r : Fin 8192) (l : Fin 704) :
    transpose S8x8192x704 [1, 0, 2] (fun i => shapeCast S8192x8x704 (truncf (F := Ideal) FTy.bf16 Q bitsLt_bf16_f32) shapeCasts_S8192x5632_S8192x8x704 i)
      transposes_S8192x8x704_S8x8192x704_1_0_2 (ix3 q r l) = Q (ix2 r (colU q l)) := by
  pointwise
  rfl

theorem blk2 (t : Fin cfg0.N) (q : Fin 8) (i : Fin 256) (l : Fin 704) :
    (show FVec Ideal S8x256x704 .bf16 from iblk m c 2 t) (ix3 q i l) = (saved (X (row t i)) g wu q l : EReal) := by
  have hy : ((View.whole main_v38).slice (win0_2.rect t)).emb (ix3 q i l) = (ix3 q (row t i) l : S8x8192x704.Idx) := by
    blk_ext [idx_val t, row]
  blk_simp [iblk, idx_val t]
  entry_read
  rw [hy]
  exact (slab_at _ q (row t i) l).trans (facsV_at (guV_at H.h0 H.h1 H.h2) (row t i) (colU q l))

theorem loads (t : Fin cfg0.N) : LoadsOf (iblk m c 0 t) (iblk m c 2 t) (iblk m c 4 t) (iblk m c 5 t) (fun i => D (row t i)) (dSlab wd)
    (fun i => saved (X (row t i)) g wu) (uSlab wu) :=
  loads_of (blk0 m c H t) (blk2 m c H t) (blk4 m c H t) (blk5 m c H t)

/-! ## The arrays -/

/-- The derivative of a row's first product's input. -/
def dRow (X D : Fin 8192 → Fin 1024 → ℝ) (g : Fin 1024 → ℝ) (wu : Fin 1024 → Fin 5632 → ℝ) (wd : Fin 2816 → Fin 1024 → ℝ) (r : Fin 8192) :
    Fin 1024 → ℝ := dHid (D r) (saved (X r) g wu) (dSlab wd) (uSlab wu)

/-- The norm's input's derivative, with the carried one. -/
def outX (X D : Fin 8192 → Fin 1024 → ℝ) (g : Fin 1024 → ℝ) (wu : Fin 1024 → Fin 5632 → ℝ) (wd : Fin 2816 → Fin 1024 → ℝ) (r : Fin 8192)
    (k : Fin 1024) : ℝ := D r k + rmsBwd (X r) (fun k => dRow X D g wu wd r k * g k) k

theorem final_8 : (dats m 0 c).arrAt 8 (cfgs 0).N
    = fun y : S8192x1024.Idx => ((outX X D g wu wd (y 0) (y 1) : ℝ) : EReal) := by
  refine (dats m 0 c).arrAt_eq_of_covers 8 _ (by decide +kernel) fun t hf y => ?_
  blk_simp
  rw [after0_8]
  have hr : ∀ y : S256x1024.Idx, (((cfg0.win 8).blk t).view.emb y) = (ix2 (row t (y 0)) (y 1) : S8192x1024.Idx) := by
    intro y; blk_ext [idx_val t, row]
  by_cases h : t.val % 32 = 0
  · rw [outsAt0_A m c t h]; frame_out; rw [hr]; idx_vars y
    exact pay3 (loads m c H t) (blk1 m c H t) (blk3 m c H t) _ _
  · rw [outsAt0_B m c t h]; frame_out; rw [hr]; idx_vars y
    exact pay3 (loads m c H t) (blk1 m c H t) (blk3 m c H t) _ _

theorem final_7 : (dats m 0 c).arrAt 7 (cfgs 0).N
    = fun y : S8192x1024.Idx => ((hid (X (y 0)) g (y 1) : ℝ) : EReal) := by
  refine (dats m 0 c).arrAt_eq_of_covers 7 _ (by decide +kernel) fun t hf y => ?_
  blk_simp
  rw [after0_7]
  have hr : ∀ y : S256x1024.Idx, (((cfg0.win 7).blk t).view.emb y) = (ix2 (row t (y 0)) (y 1) : S8192x1024.Idx) := by
    intro y; blk_ext [idx_val t, row]
  by_cases h : t.val % 32 = 0
  · rw [outsAt0_A m c t h]; frame_out; rw [hr]; idx_vars y
    exact pay10 (blk1 m c H t) (blk3 m c H t) _ _
  · rw [outsAt0_B m c t h]; frame_out; rw [hr]; idx_vars y
    exact pay10 (blk1 m c H t) (blk3 m c H t) _ _

/-- The first product's derivative of a row, by groups of columns. -/
def dRowU (X D : Fin 8192 → Fin 1024 → ℝ) (g : Fin 1024 → ℝ) (wu : Fin 1024 → Fin 5632 → ℝ) (wd : Fin 2816 → Fin 1024 → ℝ) (r : Fin 8192)
    (q : Fin 8) (l : Fin 704) : ℝ := dGu (D r) (saved (X r) g wu) (dSlab wd) q l

set_option maxHeartbeats 1000000 in
theorem final_6 : (dats m 0 c).arrAt 6 (cfgs 0).N
    = fun y : S8x704x8192.Idx => ((dRowU X D g wu wd (y 2) (y 0) (y 1) : ℝ) : EReal) := by
  refine (dats m 0 c).arrAt_eq_of_covers 6 _ (by decide +kernel) fun t hf y => ?_
  blk_simp
  rw [after0_6]
  have hr : ∀ y : S8x704x256.Idx, (((cfg0.win 6).blk t).view.emb y) = (ix3 (y 0) (y 1) (row t (y 2)) : S8x704x8192.Idx) := by
    intro y; blk_ext [idx_val t, row]
  by_cases h : t.val % 32 = 0
  · rw [outsAt0_A m c t h]; frame_out; rw [hr]; idx_vars y
    simp only [Cert.Cols.canon_slab]
    exact slabs (loads m c H t) _ _ _ _
  · rw [outsAt0_B m c t h]; frame_out; rw [hr]; idx_vars y
    simp only [Cert.Cols.canon_slab]
    exact slabs (loads m c H t) _ _ _ _

/-- What the scale's derivative gains from a row. -/
def partG (X D : Fin 8192 → Fin 1024 → ℝ) (g : Fin 1024 → ℝ) (wu : Fin 1024 → Fin 5632 → ℝ) (wd : Fin 2816 → Fin 1024 → ℝ) (r : Fin 8192)
    (k : Fin 1024) : ℝ := dRow X D g wu wd r k * (X r k * rms (X r))

omit H in
/-- The last grid point. -/
def lst : Fin cfg0.N := ⟨31, by have h : cfg0.N = 32 := N_0; omega⟩

theorem final_9 : (dats m 0 c).arrAt 9 (cfgs 0).N
    = fun y : S1x1024.Idx => ((∑ r : Fin 8192, partG X D g wu wd r (y 1) : ℝ) : EReal) := by
  refine (dats m 0 c).arrAt_eq_of_after_last 9 lst (by decide +kernel) _ fun j => ?_
  blk_simp
  rw [after0_9, Pipeline.eq_sum_fin_of_reset_step_apply_last (fun n h => (outsAt0 m c n h).2.2.2) 32 (fun _ => 0)
    (fun t y => ∑ r : Fin 256, ((partG X D g wu wd (row t r) (y 1) : ℝ) : EReal))
    (fun t h j => by
      rw [outsAt0_A m c t h]; frame_out
      idx_vars j
      refine (pay4 (loads m c H t) (blk1 m c H t) _ _ _).trans (congrArg (· + _) ?_)
      pointwise [k0_pay5])
    (fun t h j => by
      rw [outsAt0_B m c t h]; frame_out
      idx_vars j
      exact pay4 (loads m c H t) (blk1 m c H t) _ _ _)
    (le_of_eq N_0) lst rfl j, zero_add]
  show (∑ t : Fin 32, ∑ r : Fin 256, ((partG X D g wu wd (row t r) (j 1) : ℝ) : EReal)) = _
  simp only [lift_sum]
  exact congrArg Real.toEReal (Fin.sum_mul_add_congr (S := 32) (n := 256) (fun s k hl => rfl) rfl)

end Cert.FfnBwdIdeal.Array

end
-- ==== Proof.FfnRef.lean ====
/-
  The reference's stages of the feed-forward layer, element by element, when the arguments hold real numbers.
-/
module

public import proofs.«01_k».proof.Proof.Gen.FfnBwdRefIdeal.Read
public import proofs.«01_k».proof.Proof.FfnArray

@[expose] public section

set_option maxRecDepth 16384

noncomputable section

open Idealize.ShloMosaic Idealize.ShloMosaic.TcCoe Idealize.SL.Sem

namespace Cert.FfnBwdRefIdeal.Stage

open Cert.FfnBwdRefIdeal Cert.FfnBwdRefIdeal.Read Cert.Reals Cert.Ffn
open Cert.FfnBwdIdeal.Array (dRow outX dRowU partG)

variable {x0 : FVec Ideal S8192x1024 .f32} {x1 : FVec Ideal S1024 .f32} {x2 : FVec Ideal S1024x5632 .f32} {x3 : FVec Ideal S2816x1024 .f32}
  {x4 : FVec Ideal S8192x1024 .f32}
  {X D : Fin 8192 → Fin 1024 → ℝ} {g : Fin 1024 → ℝ} {wu : Fin 1024 → Fin 5632 → ℝ} {wd : Fin 2816 → Fin 1024 → ℝ}

/-- What the reference's arguments hold. -/
structure Args (x0 : FVec Ideal S8192x1024 .f32) (x1 : FVec Ideal S1024 .f32) (x2 : FVec Ideal S1024x5632 .f32)
    (x3 : FVec Ideal S2816x1024 .f32) (x4 : FVec Ideal S8192x1024 .f32) (X : Fin 8192 → Fin 1024 → ℝ) (g : Fin 1024 → ℝ)
    (wu : Fin 1024 → Fin 5632 → ℝ) (wd : Fin 2816 → Fin 1024 → ℝ) (D : Fin 8192 → Fin 1024 → ℝ) : Prop where
  h0 : ∀ i j, x0 (ix2 i j) = (X i j : EReal)
  h1 : ∀ j, x1 (ix1 j) = (g j : EReal)
  h2 : ∀ i j, x2 (ix2 i j) = (wu i j : EReal)
  h3 : ∀ i j, x3 (ix2 i j) = (wd i j : EReal)
  h4 : ∀ i j, x4 (ix2 i j) = (D i j : EReal)

variable (H : Args x0 x1 x2 x3 x4 X g wu wd D)
include H

theorem at6 (i : Fin 8192) (j : Fin 1) :
    val_main_v6 (F := Ideal) x0 (ix2 i j) = ((mean (fun k => X i k * X i k) + eps : ℝ) : EReal) := by
  pointwise [val_main_v6, val_main_v5, val_main_v4, val_main_v3, val_main_v2, val_main_v1, val_main_v0, val_main_cst, val_main_cst_0,
    val_main_cst_1]
  simp only [H.h0, const_1024, const_eps, lift_mul, lift_sum, zero_add, lift_add, lift_div _ _ (by norm_num : (1024 : ℝ) ≠ 0)]
  rfl

theorem at7 (i : Fin 8192) (j : Fin 1) : val_main_v7 (F := Ideal) x0 (ix2 i j) = ((rms (X i) : ℝ) : EReal) := by
  pointwise [val_main_v7]
  rw [at6 H]
  exact lift_rsqrt _ (rms_arg_pos _)

theorem at10 (i : Fin 8192) (j : Fin 1) : val_main_v10 (F := Ideal) x0 (ix2 i j)
    = ((-1 / 2 * (rms (X i) / (mean (fun k => X i k * X i k) + eps)) : ℝ) : EReal) := by
  pointwise [val_main_v10, val_main_v9, val_main_v8, val_main_cst_2]
  simp only [at6 H, at7 H, const_neg_half, lift_div _ _ (rms_arg_pos _).ne', lift_mul]

theorem at12 (i : Fin 8192) (j : Fin 1024) : val_main_v12 (F := Ideal) x0 (ix2 i j) = ((X i j * rms (X i) : ℝ) : EReal) := by
  pointwise [val_main_v12, val_main_v11]
  simp only [H.h0, at7 H, lift_mul]

theorem at15 (i : Fin 8192) (j : Fin 1024) : val_main_v15 (F := Ideal) x0 x1 (ix2 i j) = ((hid (X i) g j : ℝ) : EReal) := by
  pointwise [val_main_v15, val_main_v14, val_main_v13]
  simp only [H.h1, at12 H, lift_mul]
  rfl

theorem at16 (i : Fin 8192) (j : Fin 5632) : val_main_v16 (F := Ideal) x0 x1 x2 (ix2 i j) = ((gu (X i) g wu j : ℝ) : EReal) := by
  pointwise [val_main_v16]
  simp only [H.h2, at15 H, lift_mul, lift_sum]
  rfl

/-- The gate of a row's column. -/
theorem at17 (i : Fin 8192) (j : Fin 2816) :
    val_main_v17 (F := Ideal) x0 x1 x2 (ix2 i j) = ((gu (X i) g wu ⟨j.val, by omega⟩ : ℝ) : EReal) := by
  pointwise [val_main_v17]
  exact at16 H i _

/-- What the gate opens. -/
theorem at19 (i : Fin 8192) (j : Fin 2816) :
    val_main_v19 (F := Ideal) x0 x1 x2 (ix2 i j) = ((gu (X i) g wu ⟨2816 + j.val, by omega⟩ : ℝ) : EReal) := by
  pointwise [val_main_v19]
  exact at16 H i _

theorem at18_2 (i : Fin 8192) (j : Fin 2816) :
    val_main_v18_2 (F := Ideal) x0 x1 x2 (ix2 i j) = ((sg (gu (X i) g wu ⟨j.val, by omega⟩) : ℝ) : EReal) := by
  pointwise [val_main_v18_2, val_main_call0_v4, val_main_call0_v3, val_main_call0_v2, val_main_call0_v1, val_main_call0_v0, val_main_call0_cst,
    val_main_call0_cst_0]
  simp only [at17 H, lift_neg, lift_one, lift_exp, lift_add, lift_div _ _ (one_add_exp_ne _)]
  rfl

/-- The gated product's derivative. -/
theorem at22 (i : Fin 8192) (j : Fin 2816) :
    val_main_v22 (F := Ideal) x3 x4 (ix2 i j) = ((∑ k, D i k * wd j k : ℝ) : EReal) := by
  pointwise [val_main_v22]
  simp only [H.h3, H.h4, lift_mul, lift_sum]

theorem at23 (i : Fin 8192) (j : Fin 2816) : val_main_v23 (F := Ideal) x0 x1 x2 x3 x4 (ix2 i j)
    = (((∑ k, D i k * wd j k) * facA (gu (X i) g wu ⟨j.val, by omega⟩) : ℝ) : EReal) := by
  pointwise [val_main_v23, val_main_v18_0]
  simp only [at17 H, at18_2 H, at22 H, lift_mul]
  exact congrArg Real.toEReal (mul_comm _ _)

theorem at26 (i : Fin 8192) (j : Fin 2816) : val_main_v26 (F := Ideal) x0 x1 x2 x3 x4 (ix2 i j)
    = (((∑ k, D i k * wd j k) * facB (gu (X i) g wu ⟨j.val, by omega⟩) (gu (X i) g wu ⟨2816 + j.val, by omega⟩) : ℝ) : EReal) := by
  pointwise [val_main_v26, val_main_call1_v2, val_main_call1_v1, val_main_call1_v0, val_main_v24, val_main_v18_1, val_main_call0_v7,
    val_main_call0_v6, val_main_call0_cst_1]
  simp only [at17 H, at18_2 H, at19 H, at22 H, lift_one, lift_sub, lift_mul, lift_add]
  refine congrArg Real.toEReal ?_
  unfold facB
  ring

/-- The first product's derivative of a row, by its 5632 columns. -/
def dCol (X D : Fin 8192 → Fin 1024 → ℝ) (g : Fin 1024 → ℝ) (wu : Fin 1024 → Fin 5632 → ℝ) (wd : Fin 2816 → Fin 1024 → ℝ) (i : Fin 8192)
    (j : Fin 5632) : ℝ := dRowU X D g wu wd i ⟨j.val / 704, by omega⟩ ⟨j.val % 704, by omega⟩

omit H in
theorem dCol_col (i : Fin 8192) (q : Fin 8) (l : Fin 704) : dCol X D g wu wd i (colU q l) = dRowU X D g wu wd i q l := by
  unfold dCol colU
  congr 1 <;> refine Fin.ext ?_ <;> simp <;> omega

omit H in
theorem dCol_gate (i : Fin 8192) (j : Fin 5632) (h : j.val < 2816) :
    dCol X D g wu wd i j = (∑ k, D i k * wd ⟨j.val, h⟩ k) * facB (gu (X i) g wu ⟨j.val, by omega⟩) (gu (X i) g wu ⟨2816 + j.val, by omega⟩) := by
  have e : ∀ y z, colD ⟨j.val / 704, y⟩ ⟨j.val % 704, z⟩ = ⟨j.val, h⟩ := fun y z =>
    Fin.ext (by show j.val / 704 * 704 + j.val % 704 = j.val; omega)
  have e8 : ∀ y z, colU ⟨j.val / 704 + 4, y⟩ ⟨j.val % 704, z⟩ = ⟨2816 + j.val, by omega⟩ := fun y z =>
    Fin.ext (by show (j.val / 704 + 4) * 704 + j.val % 704 = 2816 + j.val; omega)
  unfold dCol dRowU dGu
  rw [dif_pos (by show j.val / 704 < 4; omega)]
  unfold dAct dSlab saved
  rw [e, e8]
  unfold facs
  rw [dif_neg (by show ¬2816 + j.val < 2816; omega)]
  simp only [Nat.add_sub_cancel_left]

omit H in
theorem dCol_up (i : Fin 8192) (j : Fin 5632) (h : ¬j.val < 2816) :
    dCol X D g wu wd i j = (∑ k, D i k * wd ⟨j.val - 2816, by omega⟩ k) * facA (gu (X i) g wu ⟨j.val - 2816, by omega⟩) := by
  have e : ∀ y z, colD ⟨j.val / 704 - 4, y⟩ ⟨j.val % 704, z⟩ = ⟨j.val - 2816, by omega⟩ := fun y z =>
    Fin.ext (by show (j.val / 704 - 4) * 704 + j.val % 704 = j.val - 2816; omega)
  have e8 : ∀ y z, colU ⟨j.val / 704 - 4, y⟩ ⟨j.val % 704, z⟩ = ⟨j.val - 2816, by omega⟩ := fun y z =>
    Fin.ext (by show (j.val / 704 - 4) * 704 + j.val % 704 = j.val - 2816; omega)
  unfold dCol dRowU dGu
  rw [dif_neg (by show ¬j.val / 704 < 4; omega)]
  unfold dAct dSlab saved
  rw [e, e8]
  unfold facs
  rw [dif_pos (by show j.val - 2816 < 2816; omega)]

theorem at28 (i : Fin 8192) (j : Fin 5632) :
    val_main_v28 (F := Ideal) x0 x1 x2 x3 x4 (ix2 i j) = ((dCol X D g wu wd i j : ℝ) : EReal) := by
  pointwise [val_main_v28, val_main_v27, val_main_v25, val_main_cst_3, val_main_cst_4]
  simp only [at23 H, at26 H]
  by_cases h : j.val < 2816
  · rw [dif_neg (by omega), dif_pos h, zero_add, dCol_gate i j h]
  · rw [dif_pos (by omega), dif_neg h, add_zero, dCol_up i j h]

theorem at29 (i : Fin 8192) (k : Fin 1024) :
    val_main_v29 (F := Ideal) x0 x1 x2 x3 x4 (ix2 i k) = ((dRow X D g wu wd i k : ℝ) : EReal) := by
  pointwise [val_main_v29]
  simp only [at28 H, H.h2, lift_mul, lift_sum]
  refine congrArg Real.toEReal ?_
  unfold dRow dHid
  refine (Fin.sum_mul_add_congr (S := 8) (n := 704) (fun q l hl => ?_) rfl).symm
  exact congrArg₂ (· * ·) (dCol_col (X := X) (D := D) (g := g) (wu := wu) (wd := wd) i q l).symm rfl

theorem at34 (i : Fin 8192) (k : Fin 1024) :
    val_main_v34 (F := Ideal) x0 x1 x2 x3 x4 (ix2 i k) = ((dRow X D g wu wd i k * g k : ℝ) : EReal) := by
  pointwise [val_main_v34, val_main_v33, val_main_v13]
  simp only [at29 H, H.h1, lift_mul]

/-- The derivative of a row's mean square. -/
def dMs (X D : Fin 8192 → Fin 1024 → ℝ) (g : Fin 1024 → ℝ) (wu : Fin 1024 → Fin 5632 → ℝ) (wd : Fin 2816 → Fin 1024 → ℝ) (i : Fin 8192) : ℝ :=
  (∑ k, X i k * (dRow X D g wu wd i k * g k)) * (-1 / 2 * (rms (X i) / (mean (fun k => X i k * X i k) + eps))) / 1024

theorem at45 (i : Fin 8192) (k : Fin 1024) : val_main_v45 (F := Ideal) x0 x1 x2 x3 x4 (ix2 i k) = ((dMs X D g wu wd i : ℝ) : EReal) := by
  pointwise [val_main_v45, val_main_v44, val_main_v43, val_main_v42, val_main_v41, val_main_v38, val_main_v37, val_main_v36, val_main_cst_7,
    val_main_cst_8, val_main_cst_9]
  simp only [at34 H, at10 H, H.h0, const_1024, lift_mul, lift_sum, zero_add, lift_div _ _ (by norm_num : (1024 : ℝ) ≠ 0)]
  simp [dMs]

theorem at54 (i : Fin 8192) (k : Fin 1024) : val_main_v54 (F := Ideal) x0 x1 x2 x3 x4 (ix2 i k)
    = ((outX X D g wu wd i k : ℝ) : EReal) := by
  pointwise [val_main_v54, val_main_v49, val_main_v48, val_main_v47, val_main_v46, val_main_v40, val_main_v39]
  simp only [at34 H, at45 H, at7 H, H.h0, H.h4, lift_mul, lift_add]
  refine congrArg Real.toEReal ?_
  unfold outX
  rw [← rmsBwd_steps (X i) _ k (dMs X D g wu wd i) rfl]

theorem at52 (q : Fin 8) (l : Fin 704) (i : Fin 8192) : val_main_v52 (F := Ideal) x0 x1 x2 x3 x4 (ix3 q l i)
    = ((dRowU X D g wu wd i q l : ℝ) : EReal) := by
  pointwise [val_main_v52, val_main_v51, val_main_v50]
  exact (at28 H i _).trans (congrArg Real.toEReal (dCol_col i q l))

theorem at53 (i : Fin 8192) (k : Fin 1024) : val_main_v53 (F := Ideal) x0 x1 (ix2 i k) = ((hid (X i) g k : ℝ) : EReal) := by
  pointwise [val_main_v53]
  exact at15 H i k

theorem at55 (z : Fin 1) (k : Fin 1024) : val_main_v55 (F := Ideal) x0 x1 x2 x3 x4 (ix2 z k)
    = ((∑ r, partG X D g wu wd r k : ℝ) : EReal) := by
  pointwise [val_main_v55, val_main_v35, val_main_v32, val_main_v31, val_main_v30, val_main_cst_5, val_main_cst_6]
  simp only [at12 H, at29 H, lift_mul, lift_sum, zero_add]
  refine congrArg Real.toEReal ?_
  simp [partG, mul_comm]

end Cert.FfnBwdRefIdeal.Stage

end
-- ==== Proof.FfnPair.lean ====
/-
  The kernel `ffn_bwd1` and the derivative of the reference's lines end with equal results, when the arguments are finite.
-/
module

public import proofs.«01_k».proof.Defs
public import proofs.«01_k».proof.Proof.Finite
public import proofs.«01_k».proof.Proof.FfnRef
public import proofs.«01_k».proof.Proof.Gen.FfnBwdRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_finite4 : Cert.Pre_finite4.Facts where
  bcast_S_S8192x1024 := by decide
  bcast_S_S1024 := by decide
  bcast_S_S1024x5632 := by decide
  bcast_S_S2816x1024 := by decide

attribute [local instance] facts_finite4

section
open Cert.FfnBwdIdeal Cert.FfnBwdIdeal.Array

variable (m : (ℓ : Loc nD τ sig) → Buf (Elt Ideal) ℓ) (c : Dev nD)

/-- Under the precondition the arguments hold real arrays. -/
theorem ffn_holds (h : Cert.Pre_FfnBwdIdeal_finite4 m) :
    Holds m c (fun i j => ((show FVec Ideal S8192x1024 .f32 from m ((c : Thread nD τ).loc main_arg0)) (ix2 i j)).toReal)
      (fun j => ((show FVec Ideal S1024 .f32 from m ((c : Thread nD τ).loc main_arg1)) (ix1 j)).toReal)
      (fun i j => ((show FVec Ideal S1024x5632 .f32 from m ((c : Thread nD τ).loc main_arg2)) (ix2 i j)).toReal)
      (fun i j => ((show FVec Ideal S2816x1024 .f32 from m ((c : Thread nD τ).loc main_arg3)) (ix2 i j)).toReal)
      (fun i j => ((show FVec Ideal S8192x1024 .f32 from m ((c : Thread nD τ).loc main_arg4)) (ix2 i j)).toReal) :=
  have ⟨e0, e1, e2, e3, e4⟩ := h c
  ⟨fun i j => Cert.Finite.real_of_pre e0 _, fun j => Cert.Finite.real_of_pre e1 _, fun i j => Cert.Finite.real_of_pre e2 _,
    fun i j => Cert.Finite.real_of_pre e3 _, fun i j => Cert.Finite.real_of_pre e4 _⟩

/-- The same of the reference's stages. -/
theorem ffn_args {X D : Fin 8192 → Fin 1024 → ℝ} {g : Fin 1024 → ℝ} {wu : Fin 1024 → Fin 5632 → ℝ} {wd : Fin 2816 → Fin 1024 → ℝ}
    (H : Holds m c X g wu wd D) :
    Cert.FfnBwdRefIdeal.Stage.Args (m ((c : Thread nD τ).loc main_arg0)) (m ((c : Thread nD τ).loc main_arg1))
      (m ((c : Thread nD τ).loc main_arg2)) (m ((c : Thread nD τ).loc main_arg3)) (m ((c : Thread nD τ).loc main_arg4)) X g wu wd D :=
  ⟨H.h0, H.h1, H.h2, H.h3, H.h4⟩

end

section
open Cert.FfnBwdRefIdeal

/-- The reference ends with its arguments unchanged; it has no semaphore. -/
theorem ffn_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c => (h c).2.2.2.2, sem_eq_zero_of_no_sems rfl _⟩) (Value.run m ρ)

end

set_option maxHeartbeats 4000000 in
theorem ffn_algebraic : Cert.algebraic_FfnBwdIdeal_FfnBwdRefIdeal_pre_finite4
    (hFfnBwdIdeal := Cert.FfnBwdIdeal.Gen.facts) (hFfnBwdRefIdeal := Cert.FfnBwdRefIdeal.Gen.facts) := by
  pair_intro
  · run_from Cert.FfnBwdIdeal.Gen.run_main m g
  · run_from Cert.FfnBwdRefIdeal.Value.run m' g'
    · obtain ⟨a0, a1, a2, a3, a4⟩ := hagree c
      rw [Cert.FfnBwdRefIdeal.Read.val_main_v52_eq, a0, a1, a2, a3, a4, Cert.FfnBwdIdeal.Array.final_6 m c (ffn_holds m c hpre)]
      funext y
      idx_vars y
      exact Cert.FfnBwdRefIdeal.Stage.at52 (ffn_args m c (ffn_holds m c hpre)) _ _ _
    · obtain ⟨a0, a1, a2, a3, a4⟩ := hagree c
      rw [Cert.FfnBwdRefIdeal.Read.val_main_v53_eq, Cert.FfnBwdIdeal.Array.final_7 m c (ffn_holds m c hpre)]
      funext y
      idx_vars y
      exact Cert.FfnBwdRefIdeal.Stage.at53 (ffn_args m c (ffn_holds m c hpre)) _ _
    · obtain ⟨a0, a1, a2, a3, a4⟩ := hagree c
      rw [Cert.FfnBwdRefIdeal.Read.val_main_v54_eq, a0, a1, a2, a3, a4, Cert.FfnBwdIdeal.Array.final_8 m c (ffn_holds m c hpre)]
      funext y
      idx_vars y
      exact Cert.FfnBwdRefIdeal.Stage.at54 (ffn_args m c (ffn_holds m c hpre)) _ _
    · obtain ⟨a0, a1, a2, a3, a4⟩ := hagree c
      rw [Cert.FfnBwdRefIdeal.Read.val_main_v55_eq, a0, a1, a2, a3, a4, Cert.FfnBwdIdeal.Array.final_9 m c (ffn_holds m c hpre)]
      funext y
      idx_vars y
      exact Cert.FfnBwdRefIdeal.Stage.at55 (ffn_args m c (ffn_holds m c hpre)) _ _

end Cert.Proof

end
-- ==== Proof.FfoArray.lean ====
/-
  The result arrays of the kernel `ffn_bwd0` after its run, when the arguments hold real numbers. It runs the body of `ffn_bwd1`,
  and then multiplies the stored rows by the transpose of one more matrix, so the facts about that body are used again here.
-/
module

public import proofs.«01_k».proof.Proof.Gen.FfnBwdOutIdeal.Value
public import Idealize.ShloMosaic.Lib.Pipeline.ValueKit
public import proofs.«01_k».proof.Proof.FfnArray

@[expose] public section

set_option maxRecDepth 16384

noncomputable section

open Idealize.ShloMosaic Idealize.ShloMosaic.TcCoe Idealize.SL.Sem
open Idealize.ShloMosaic.Pipeline (Dat)

namespace Cert.FfnBwdOutIdeal.Block

open Cert.FfnBwdOutIdeal Cert.FfnBwdOutIdeal.Gen Cert.Reals

/-! ## The product with the last matrix -/

variable {P : FVec Ideal S1024x256 .f32}

/-- The first 128 rows' product, as it is stored. -/
theorem pay2 (P : FVec Ideal S1024x256 .f32) (y : Fin 1) (k : Fin 1024) (l : Fin 128) :
    k0_pay2 (F := Ideal) P (ix3 y k l) = P (ix2 k ⟨l.val, by omega⟩) := by
  pointwise [k0_pay2, k0_pay1]

/-- The last 128 rows' product, as it is stored. -/
theorem pay3 (P : FVec Ideal S1024x256 .f32) (y : Fin 1) (k : Fin 1024) (l : Fin 128) :
    k0_pay3 (F := Ideal) P (ix3 y k l) = P (ix2 k ⟨128 + l.val, by omega⟩) := by
  pointwise [k0_pay3, k0_pay1]

/-- The product: the matrix, and the stored rows transposed. -/
theorem pay40 {Y : FVec Ideal S256x1024 .f32} {G : FVec Ideal S1x1024 .f32} {r : FVec Ideal S256x1 .f32} {N A : FVec Ideal S256x1024 .f32}
    {p q : FVec Ideal S256x704 .bf16} {V W : FVec Ideal S1x704x1024 .bf16} {O : FVec Ideal S1024x1024 .bf16}
    {x : Fin 256 → Fin 1024 → ℝ} {o : Fin 1024 → Fin 1024 → ℝ}
    (hX : ∀ i k, k0_pay38 (F := Ideal) Y G r N A p q V W (ix2 i k) = (x i k : EReal)) (hO : ∀ j k, O (ix2 j k) = (o j k : EReal))
    (j : Fin 1024) (i : Fin 256) :
    k0_pay40 (F := Ideal) Y G r N A p q V W O (ix2 j i) = ((∑ k, x i k * o j k : ℝ) : EReal) := by
  pointwise [k0_pay40]
  simp only [hX, hO, zero_add, lift_mul, lift_sum]
  exact congrArg Real.toEReal (Finset.sum_congr rfl fun k _ => mul_comm _ _)

end Cert.FfnBwdOutIdeal.Block

namespace Cert.FfnBwdOutIdeal.Array

open Cert.FfnBwdOutIdeal Cert.FfnBwdOutIdeal.Gen Cert.FfnBwdOutIdeal.Block Cert.Reals Cert.Ffn
open Cert.FfnBwdIdeal.Block (LoadsOf loads_of slabs)
open Cert.FfnBwdIdeal.Array (guV_at facsV_at slab_at dRow outX dRowU partG)

variable (m : (ℓ : Loc nD τ sig) → Buf (Elt Ideal) ℓ)

theorem idx_val : ∀ t : Fin cfg0.N, win0_0.index t = ![t.val, 0]
    ∧ win0_1.index t = ![t.val, 0]
    ∧ win0_2.index t = ![0, t.val, 0]
    ∧ win0_3.index t = ![0, 0]
    ∧ win0_4.index t = ![0, 0, 0]
    ∧ win0_5.index t = ![0, 0, 0]
    ∧ win0_6.index t = ![0, 0]
    ∧ win0_7.index t = ![0, 0, t.val]
    ∧ win0_8.index t = ![t.val, 0]
    ∧ win0_9.index t = ![t.val, 0]
    ∧ win0_10.index t = ![0, 0]
    ∧ win0_11.index t = ![t.val, 0, 0] :=
  (by decide +kernel : ∀ t : Fin grid0.N, _)

/-- The row of the array that row `i` of grid point `t`'s block is. -/
def row (t : Fin cfg0.N) (i : Fin 256) : Fin 8192 :=
  ⟨t.val * 256 + i.val, by have := t.isLt; have h : cfg0.N = 32 := N_0; omega⟩

variable {X D : Fin 8192 → Fin 1024 → ℝ} {g : Fin 1024 → ℝ} {wu : Fin 1024 → Fin 5632 → ℝ} {wd : Fin 2816 → Fin 1024 → ℝ}
  {wo : Fin 1024 → Fin 1024 → ℝ} (c : Dev nD)

/-- The arguments hold the real arrays `X`, `g`, `wu`, `wd`, `D`, `wo`. -/
structure Holds (X : Fin 8192 → Fin 1024 → ℝ) (g : Fin 1024 → ℝ) (wu : Fin 1024 → Fin 5632 → ℝ) (wd : Fin 2816 → Fin 1024 → ℝ)
    (D : Fin 8192 → Fin 1024 → ℝ) (wo : Fin 1024 → Fin 1024 → ℝ) : Prop where
  h0 : ∀ i j, (show FVec Ideal S8192x1024 .f32 from m ((c : Thread nD τ).loc main_arg0)) (ix2 i j) = (X i j : EReal)
  h1 : ∀ j, (show FVec Ideal S1024 .f32 from m ((c : Thread nD τ).loc main_arg1)) (ix1 j) = (g j : EReal)
  h2 : ∀ i j, (show FVec Ideal S1024x5632 .f32 from m ((c : Thread nD τ).loc main_arg2)) (ix2 i j) = (wu i j : EReal)
  h3 : ∀ i j, (show FVec Ideal S2816x1024 .f32 from m ((c : Thread nD τ).loc main_arg3)) (ix2 i j) = (wd i j : EReal)
  h4 : ∀ i j, (show FVec Ideal S8192x1024 .f32 from m ((c : Thread nD τ).loc main_arg4)) (ix2 i j) = (D i j : EReal)
  h5 : ∀ i j, (show FVec Ideal S1024x1024 .f32 from m ((c : Thread nD τ).loc main_arg5)) (ix2 i j) = (wo i j : EReal)

variable (H : Holds m c X g wu wd D wo)
include H

/-! ## The blocks -/

theorem in0 (t : Fin cfg0.N) (i : Fin 256) (j : Fin 1024) :
    (show FVec Ideal S256x1024 .f32 from iblk m c 0 t) (ix2 i j) = (D (row t i) j : EReal) := by
  rw [← H.h4]
  blk_ext [iblk, V, idx_val t, row]

theorem in1 (t : Fin cfg0.N) (i : Fin 256) (j : Fin 1024) :
    (show FVec Ideal S256x1024 .f32 from iblk m c 1 t) (ix2 i j) = (X (row t i) j : EReal) := by
  rw [← H.h0]
  blk_ext [iblk, V, idx_val t, row]

theorem in2 (t : Fin cfg0.N) (q : Fin 8) (i : Fin 256) (l : Fin 704) :
    (show FVec Ideal S8x256x704 .bf16 from iblk m c 2 t) (ix3 q i l) = (saved (X (row t i)) g wu q l : EReal) := by
  have hy : ((View.whole main_v38).slice (win0_2.rect t)).emb (ix3 q i l) = (ix3 q (row t i) l : S8x8192x704.Idx) := by
    blk_ext [idx_val t, row]
  blk_simp [iblk, idx_val t]
  entry_read
  rw [hy]
  exact (slab_at _ q (row t i) l).trans (facsV_at (guV_at H.h0 H.h1 H.h2) (row t i) (colU q l))

theorem in3 (t : Fin cfg0.N) (i : Fin 1) (j : Fin 1024) :
    (show FVec Ideal S1x1024 .f32 from iblk m c 3 t) (ix2 i j) = (g j : EReal) := by
  rw [← H.h1]
  blk_simp [iblk, idx_val t]
  entry_read
  pointwise
  blk_ext [idx_val t]

theorem in4 (t : Fin cfg0.N) (q : Fin 8) (l : Fin 704) (k : Fin 1024) :
    (show FVec Ideal S8x704x1024 .bf16 from iblk m c 4 t) (ix3 q l k) = (uSlab wu q l k : EReal) := by
  unfold uSlab
  rw [← H.h2]
  blk_simp [iblk, idx_val t]
  entry_read
  pointwise
  blk_ext [idx_val t, colU]

theorem in5 (t : Fin cfg0.N) (p : Fin 4) (l : Fin 704) (k : Fin 1024) :
    (show FVec Ideal S4x704x1024 .bf16 from iblk m c 5 t) (ix3 p l k) = (dSlab wd p l k : EReal) := by
  unfold dSlab
  rw [← H.h3]
  blk_simp [iblk, idx_val t]
  entry_read
  pointwise
  blk_ext [idx_val t, colD]

theorem in6 (t : Fin cfg0.N) (j k : Fin 1024) :
    (show FVec Ideal S1024x1024 .bf16 from iblk m c 6 t) (ix2 j k) = (wo j k : EReal) := by
  rw [← H.h5]
  blk_simp [iblk, idx_val t]
  entry_read
  pointwise
  blk_ext [idx_val t]

theorem loads (t : Fin cfg0.N) : LoadsOf (iblk m c 0 t) (iblk m c 2 t) (iblk m c 4 t) (iblk m c 5 t) (fun i => D (row t i)) (dSlab wd)
    (fun i => saved (X (row t i)) g wu) (uSlab wu) :=
  loads_of (in0 m c H t) (in2 m c H t) (in4 m c H t) (in5 m c H t)

/-! ## The arrays -/

set_option maxHeartbeats 1000000 in
theorem final_9 : (dats m 0 c).arrAt 9 (cfgs 0).N
    = fun y : S8192x1024.Idx => ((outX X D g wu wd (y 0) (y 1) : ℝ) : EReal) := by
  refine (dats m 0 c).arrAt_eq_of_covers 9 _ (by decide +kernel) fun t hf y => ?_
  blk_simp
  rw [after0_9]
  have hr : ∀ y : S256x1024.Idx, (((cfg0.win 9).blk t).view.emb y) = (ix2 (row t (y 0)) (y 1) : S8192x1024.Idx) := by
    intro y; blk_ext [idx_val t, row]
  by_cases h : t.val % 32 = 0
  · rw [outsAt0_A m c t h]; frame_out; rw [hr]; idx_vars y
    exact Cert.FfnBwdIdeal.Block.pay3 (loads m c H t) (in1 m c H t) (in3 m c H t) _ _
  · rw [outsAt0_B m c t h]; frame_out; rw [hr]; idx_vars y
    exact Cert.FfnBwdIdeal.Block.pay3 (loads m c H t) (in1 m c H t) (in3 m c H t) _ _

set_option maxHeartbeats 1000000 in
theorem final_8 : (dats m 0 c).arrAt 8 (cfgs 0).N
    = fun y : S8192x1024.Idx => ((hid (X (y 0)) g (y 1) : ℝ) : EReal) := by
  refine (dats m 0 c).arrAt_eq_of_covers 8 _ (by decide +kernel) fun t hf y => ?_
  blk_simp
  rw [after0_8]
  have hr : ∀ y : S256x1024.Idx, (((cfg0.win 8).blk t).view.emb y) = (ix2 (row t (y 0)) (y 1) : S8192x1024.Idx) := by
    intro y; blk_ext [idx_val t, row]
  by_cases h : t.val % 32 = 0
  · rw [outsAt0_A m c t h]; frame_out; rw [hr]; idx_vars y
    exact Cert.FfnBwdIdeal.Block.pay10 (in1 m c H t) (in3 m c H t) _ _
  · rw [outsAt0_B m c t h]; frame_out; rw [hr]; idx_vars y
    exact Cert.FfnBwdIdeal.Block.pay10 (in1 m c H t) (in3 m c H t) _ _

set_option maxHeartbeats 1000000 in
theorem final_7 : (dats m 0 c).arrAt 7 (cfgs 0).N
    = fun y : S8x704x8192.Idx => ((dRowU X D g wu wd (y 2) (y 0) (y 1) : ℝ) : EReal) := by
  refine (dats m 0 c).arrAt_eq_of_covers 7 _ (by decide +kernel) fun t hf y => ?_
  blk_simp
  rw [after0_7]
  have hr : ∀ y : S8x704x256.Idx, (((cfg0.win 7).blk t).view.emb y) = (ix3 (y 0) (y 1) (row t (y 2)) : S8x704x8192.Idx) := by
    intro y; blk_ext [idx_val t, row]
  by_cases h : t.val % 32 = 0
  · rw [outsAt0_A m c t h]; frame_out; rw [hr]; idx_vars y
    simp only [Cert.Cols.canon_slab]
    exact slabs (loads m c H t) _ _ _ _
  · rw [outsAt0_B m c t h]; frame_out; rw [hr]; idx_vars y
    simp only [Cert.Cols.canon_slab]
    exact slabs (loads m c H t) _ _ _ _

omit H in
/-- The last grid point. -/
def lst : Fin cfg0.N := ⟨31, by have h : cfg0.N = 32 := N_0; omega⟩

theorem final_10 : (dats m 0 c).arrAt 10 (cfgs 0).N
    = fun y : S1x1024.Idx => ((∑ r : Fin 8192, partG X D g wu wd r (y 1) : ℝ) : EReal) := by
  refine (dats m 0 c).arrAt_eq_of_after_last 10 lst (by decide +kernel) _ fun j => ?_
  blk_simp
  rw [after0_10, Pipeline.eq_sum_fin_of_reset_step_apply_last (fun n h => (outsAt0 m c n h).2.2.2.1) 32 (fun _ => 0)
    (fun t y => ∑ r : Fin 256, ((partG X D g wu wd (row t r) (y 1) : ℝ) : EReal))
    (fun t h j => by
      rw [outsAt0_A m c t h]; frame_out
      idx_vars j
      refine (Cert.FfnBwdIdeal.Block.pay4 (loads m c H t) (in1 m c H t) _ _ _).trans (congrArg (· + _) ?_)
      pointwise [k0_pay4])
    (fun t h j => by
      rw [outsAt0_B m c t h]; frame_out
      idx_vars j
      exact Cert.FfnBwdIdeal.Block.pay4 (loads m c H t) (in1 m c H t) _ _ _)
    (le_of_eq N_0) lst rfl j, zero_add]
  show (∑ t : Fin 32, ∑ r : Fin 256, ((partG X D g wu wd (row t r) (j 1) : ℝ) : EReal)) = _
  simp only [lift_sum]
  exact congrArg Real.toEReal (Fin.sum_mul_add_congr (S := 32) (n := 256) (fun s k hl => rfl) rfl)

/-- A row's product with the transposed last matrix. -/
def outO (X D : Fin 8192 → Fin 1024 → ℝ) (g : Fin 1024 → ℝ) (wu : Fin 1024 → Fin 5632 → ℝ) (wd : Fin 2816 → Fin 1024 → ℝ)
    (wo : Fin 1024 → Fin 1024 → ℝ) (r : Fin 8192) (j : Fin 1024) : ℝ := ∑ k, outX X D g wu wd r k * wo j k

/-- Row `l` of block `b` of 128 rows. -/
def rowB (b : Fin 64) (l : Fin 128) : Fin 8192 := ⟨b.val * 128 + l.val, by omega⟩

/-- The block of the array that block `b` of grid point `t` is. -/
def blkB (t : Fin cfg0.N) (b : Fin 2) : Fin 64 :=
  ⟨t.val * 2 + b.val, by have := t.isLt; have h : cfg0.N = 32 := N_0; omega⟩

omit H in
/-- The two blocks stored: each the rows of a grid point that are its own. -/
theorem two (t : Fin cfg0.N) (P : FVec Ideal S1024x256 .f32) {f : Fin 8192 → Fin 1024 → ℝ}
    (hP : ∀ j i, P (ix2 j i) = ((f (row t i) j : ℝ) : EReal)) (b : Fin 2) (j : Fin 1024) (l : Fin 128) (o : EReal) :
    (if b.val = 1 then k0_pay3 (F := Ideal) P (ix3 0 j l) else if b.val = 0 then k0_pay2 (F := Ideal) P (ix3 0 j l) else o)
      = ((f (rowB (blkB t b) l) j : ℝ) : EReal) := by
  have e : ∀ i : Fin 256, i.val = b.val * 128 + l.val → row t i = rowB (blkB t b) l := fun i hi => Fin.ext (by
    show t.val * 256 + i.val = (t.val * 2 + b.val) * 128 + l.val
    omega)
  fin_cases b
  · exact (pay2 P 0 j l).trans ((hP j _).trans (congrArg (fun r => ((f r j : ℝ) : EReal)) (e _ (by simp))))
  · exact (pay3 P 0 j l).trans ((hP j _).trans (congrArg (fun r => ((f r j : ℝ) : EReal)) (e _ (by simp))))

set_option maxHeartbeats 1000000 in
theorem final_11 : (dats m 0 c).arrAt 11 (cfgs 0).N
    = fun y : S64x1024x128.Idx => ((outO X D g wu wd wo (rowB (y 0) (y 2)) (y 1) : ℝ) : EReal) := by
  refine (dats m 0 c).arrAt_eq_of_covers 11 _ (by decide +kernel) fun t hf y => ?_
  blk_simp
  rw [after0_11]
  have hr : ∀ y : S2x1024x128.Idx, (((cfg0.win 11).blk t).view.emb y) = (ix3 (blkB t (y 0)) (y 1) (y 2) : S64x1024x128.Idx) := by
    intro y; blk_ext [idx_val t, blkB]
  by_cases h : t.val % 32 = 0
  · rw [outsAt0_A m c t h]; frame_out; rw [hr]; idx_vars y
    simp only [Cert.Cols.canon_slab]
    exact two t _ (f := outO X D g wu wd wo) (pay40 (Cert.FfnBwdIdeal.Block.pay3 (loads m c H t) (in1 m c H t) (in3 m c H t)) (in6 m c H t)) _ _ _ _
  · rw [outsAt0_B m c t h]; frame_out; rw [hr]; idx_vars y
    simp only [Cert.Cols.canon_slab]
    exact two t _ (f := outO X D g wu wd wo) (pay40 (Cert.FfnBwdIdeal.Block.pay3 (loads m c H t) (in1 m c H t) (in3 m c H t)) (in6 m c H t)) _ _ _ _

end Cert.FfnBwdOutIdeal.Array

end
-- ==== Proof.FfoRef.lean ====
/-
  The results of the derivative of the reference's lines for the first feed-forward layer, element by element, when the arguments
  hold real numbers. The layer's own stages are those of the other layer; one product is added.
-/
module

public import proofs.«01_k».proof.Proof.Gen.FfnBwdOutRefIdeal.Read
public import proofs.«01_k».proof.Proof.FfnRef
public import proofs.«01_k».proof.Proof.FfoArray

@[expose] public section

set_option maxRecDepth 16384

noncomputable section

open Idealize.ShloMosaic Idealize.ShloMosaic.TcCoe Idealize.SL.Sem

namespace Cert.FfnBwdOutRefIdeal.Stage

open Cert.FfnBwdOutRefIdeal Cert.FfnBwdOutRefIdeal.Read Cert.Reals Cert.Ffn
open Cert.FfnBwdIdeal.Array (outX dRowU partG)
open Cert.FfnBwdOutIdeal.Array (outO rowB)
open Cert.FfnBwdRefIdeal.Stage (Args)

variable {x0 : FVec Ideal S8192x1024 .f32} {x1 : FVec Ideal S1024 .f32} {x2 : FVec Ideal S1024x5632 .f32} {x3 : FVec Ideal S2816x1024 .f32}
  {x4 : FVec Ideal S8192x1024 .f32} {x5 : FVec Ideal S1024x1024 .f32}
  {X D : Fin 8192 → Fin 1024 → ℝ} {g : Fin 1024 → ℝ} {wu : Fin 1024 → Fin 5632 → ℝ} {wd : Fin 2816 → Fin 1024 → ℝ}
  {wo : Fin 1024 → Fin 1024 → ℝ}

variable (H : Args x0 x1 x2 x3 x4 X g wu wd D)
include H

theorem at50 (i : Fin 8192) (k : Fin 1024) : val_main_v50 (F := Ideal) x0 x1 x2 x3 x4 (ix2 i k) = ((outX X D g wu wd i k : ℝ) : EReal) :=
  Cert.FfnBwdRefIdeal.Stage.at54 H i k

theorem at56 (q : Fin 8) (l : Fin 704) (i : Fin 8192) :
    val_main_v56 (F := Ideal) x0 x1 x2 x3 x4 (ix3 q l i) = ((dRowU X D g wu wd i q l : ℝ) : EReal) :=
  Cert.FfnBwdRefIdeal.Stage.at52 H q l i

theorem at57 (i : Fin 8192) (k : Fin 1024) : val_main_v57 (F := Ideal) x0 x1 (ix2 i k) = ((hid (X i) g k : ℝ) : EReal) :=
  Cert.FfnBwdRefIdeal.Stage.at53 H i k

theorem at58 (z : Fin 1) (k : Fin 1024) :
    val_main_v58 (F := Ideal) x0 x1 x2 x3 x4 (ix2 z k) = ((∑ r, partG X D g wu wd r k : ℝ) : EReal) :=
  Cert.FfnBwdRefIdeal.Stage.at55 H z k

theorem at61 (h5 : ∀ i j, x5 (ix2 i j) = (wo i j : EReal)) (b : Fin 64) (j : Fin 1024) (l : Fin 128) :
    val_main_v61 (F := Ideal) x0 x1 x2 x3 x4 x5 (ix3 b j l) = ((outO X D g wu wd wo (rowB b l) j : ℝ) : EReal) := by
  pointwise [val_main_v61, val_main_v60, val_main_v59, val_main_v53]
  simp only [at50 H, h5, lift_mul, lift_sum]
  rfl

end Cert.FfnBwdOutRefIdeal.Stage

end
-- ==== Proof.FfoPair.lean ====
/-
  The kernel `ffn_bwd0` and the derivative of the reference's lines end with equal results, when the arguments are finite.
-/
module

public import proofs.«01_k».proof.Defs
public import proofs.«01_k».proof.Proof.Finite
public import proofs.«01_k».proof.Proof.FfoRef
public import proofs.«01_k».proof.Proof.Gen.FfnBwdOutRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_finite6 : Cert.Pre_finite6.Facts where
  bcast_S_S8192x1024 := by decide
  bcast_S_S1024 := by decide
  bcast_S_S1024x5632 := by decide
  bcast_S_S2816x1024 := by decide
  bcast_S_S1024x1024 := by decide

attribute [local instance] facts_finite6

section
open Cert.FfnBwdOutIdeal Cert.FfnBwdOutIdeal.Array

variable (m : (ℓ : Loc nD τ sig) → Buf (Elt Ideal) ℓ) (c : Dev nD)

/-- Under the precondition the arguments hold real arrays. -/
theorem ffo_holds (h : Cert.Pre_FfnBwdOutIdeal_finite6 m) :
    Holds m c (fun i j => ((show FVec Ideal S8192x1024 .f32 from m ((c : Thread nD τ).loc main_arg0)) (ix2 i j)).toReal)
      (fun j => ((show FVec Ideal S1024 .f32 from m ((c : Thread nD τ).loc main_arg1)) (ix1 j)).toReal)
      (fun i j => ((show FVec Ideal S1024x5632 .f32 from m ((c : Thread nD τ).loc main_arg2)) (ix2 i j)).toReal)
      (fun i j => ((show FVec Ideal S2816x1024 .f32 from m ((c : Thread nD τ).loc main_arg3)) (ix2 i j)).toReal)
      (fun i j => ((show FVec Ideal S8192x1024 .f32 from m ((c : Thread nD τ).loc main_arg4)) (ix2 i j)).toReal)
      (fun i j => ((show FVec Ideal S1024x1024 .f32 from m ((c : Thread nD τ).loc main_arg5)) (ix2 i j)).toReal) :=
  have ⟨e0, e1, e2, e3, e4, e5⟩ := h c
  ⟨fun i j => Cert.Finite.real_of_pre e0 _, fun j => Cert.Finite.real_of_pre e1 _, fun i j => Cert.Finite.real_of_pre e2 _,
    fun i j => Cert.Finite.real_of_pre e3 _, fun i j => Cert.Finite.real_of_pre e4 _, fun i j => Cert.Finite.real_of_pre e5 _⟩

/-- The same of the reference's stages. -/
theorem ffo_args {X D : Fin 8192 → Fin 1024 → ℝ} {g : Fin 1024 → ℝ} {wu : Fin 1024 → Fin 5632 → ℝ} {wd : Fin 2816 → Fin 1024 → ℝ}
    {wo : Fin 1024 → Fin 1024 → ℝ} (H : Holds m c X g wu wd D wo) :
    Cert.FfnBwdRefIdeal.Stage.Args (m ((c : Thread nD τ).loc main_arg0)) (m ((c : Thread nD τ).loc main_arg1))
      (m ((c : Thread nD τ).loc main_arg2)) (m ((c : Thread nD τ).loc main_arg3)) (m ((c : Thread nD τ).loc main_arg4)) X g wu wd D :=
  ⟨H.h0, H.h1, H.h2, H.h3, H.h4⟩

end

section
open Cert.FfnBwdOutRefIdeal

/-- The reference ends with its arguments unchanged; it has no semaphore. -/
theorem ffo_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨fun c => (h c).2.2.2.2.2, sem_eq_zero_of_no_sems rfl _⟩) (Value.run m ρ)

end

set_option maxHeartbeats 4000000 in
theorem ffo_algebraic : Cert.algebraic_FfnBwdOutIdeal_FfnBwdOutRefIdeal_pre_finite6
    (hFfnBwdOutIdeal := Cert.FfnBwdOutIdeal.Gen.facts) (hFfnBwdOutRefIdeal := Cert.FfnBwdOutRefIdeal.Gen.facts) := by
  pair_intro
  · run_from Cert.FfnBwdOutIdeal.Gen.run_main m g
  · run_from Cert.FfnBwdOutRefIdeal.Value.run m' g'
    · obtain ⟨a0, a1, a2, a3, a4, a5⟩ := hagree c
      rw [Cert.FfnBwdOutRefIdeal.Read.val_main_v56_eq, a0, a1, a2, a3, a4, Cert.FfnBwdOutIdeal.Array.final_7 m c (ffo_holds m c hpre)]
      funext y
      idx_vars y
      exact Cert.FfnBwdOutRefIdeal.Stage.at56 (ffo_args m c (ffo_holds m c hpre)) _ _ _
    · obtain ⟨a0, a1, a2, a3, a4, a5⟩ := hagree c
      rw [Cert.FfnBwdOutRefIdeal.Read.val_main_v57_eq, Cert.FfnBwdOutIdeal.Array.final_8 m c (ffo_holds m c hpre)]
      funext y
      idx_vars y
      exact Cert.FfnBwdOutRefIdeal.Stage.at57 (ffo_args m c (ffo_holds m c hpre)) _ _
    · obtain ⟨a0, a1, a2, a3, a4, a5⟩ := hagree c
      rw [Cert.FfnBwdOutRefIdeal.Read.val_main_v50_eq, a0, a1, a2, a3, a4, Cert.FfnBwdOutIdeal.Array.final_9 m c (ffo_holds m c hpre)]
      funext y
      idx_vars y
      exact Cert.FfnBwdOutRefIdeal.Stage.at50 (ffo_args m c (ffo_holds m c hpre)) _ _
    · obtain ⟨a0, a1, a2, a3, a4, a5⟩ := hagree c
      rw [Cert.FfnBwdOutRefIdeal.Read.val_main_v58_eq, a0, a1, a2, a3, a4, Cert.FfnBwdOutIdeal.Array.final_10 m c (ffo_holds m c hpre)]
      funext y
      idx_vars y
      exact Cert.FfnBwdOutRefIdeal.Stage.at58 (ffo_args m c (ffo_holds m c hpre)) _ _
    · obtain ⟨a0, a1, a2, a3, a4, a5⟩ := hagree c
      rw [Cert.FfnBwdOutRefIdeal.Read.val_main_v61_eq, a0, a1, a2, a3, a4, a5,
        Cert.FfnBwdOutIdeal.Array.final_11 m c (ffo_holds m c hpre)]
      funext y
      idx_vars y
      exact Cert.FfnBwdOutRefIdeal.Stage.at61 (ffo_args m c (ffo_holds m c hpre)) (ffo_holds m c hpre).h5 _ _ _

end Cert.Proof

end
-- ==== Proof.FinBlock.lean ====
/-
  One grid point of the kernel `ffn_fwd1`: its stored values, element by element, when the loaded blocks hold real numbers. The kernel
  runs the second feed-forward layer forward, a group of 704 columns at a time, and then the loss and the last norm backward.
-/
module

public import proofs.«01_k».proof.Proof.Gen.FfnFinalIdeal.Skeleton
public import proofs.«01_k».proof.Proof.FfnArray

@[expose] public section

set_option maxRecDepth 16384

noncomputable section

open Idealize.ShloMosaic Idealize.ShloMosaic.TcCoe Idealize.SL.Sem

namespace Cert.Fin

open Cert.Reals Cert.Ffn

theorem const_frac : Ideal.ofBits .f32 0x3A800000#32 = ((1 / 1024 : ℝ) : EReal) := by
  simp [Ideal.ofBits, Ideal.ieee, -EReal.coe_mul]; norm_num
theorem const_half : Ideal.ofBits .f32 0x3F000000#32 = ((1 / 2 : ℝ) : EReal) := by
  simp [Ideal.ofBits, Ideal.ieee, -EReal.coe_mul]; norm_num

/-- A row's product with one row of a transposed matrix. -/
def dp (e a : Fin 1024 → ℝ) : ℝ := ∑ k, e k * a k

/-- The gated value of a gate `a` and what it opens. -/
def act (a b : ℝ) : ℝ := facA a * b

/-- One group's share of the second product. -/
def share (e : Fin 1024 → ℝ) (a b v : Fin 704 → Fin 1024 → ℝ) (k : Fin 1024) : ℝ := ∑ l, act (dp e (a l)) (dp e (b l)) * v l k

/-- The normalised output less its target. -/
def err (y gf t : Fin 1024 → ℝ) (k : Fin 1024) : ℝ := y k * rms y * gf k - t k

/-- The loss's derivative by the normalised output. -/
def dErr (y gf t : Fin 1024 → ℝ) (k : Fin 1024) : ℝ := err y gf t k * (1 / 1024)

/-- The loss's derivative by the layer's output. -/
def dOut (y gf t : Fin 1024 → ℝ) (k : Fin 1024) : ℝ := rmsBwd y (fun k => dErr y gf t k * gf k) k

/-- What the scale's derivative gains from a row. -/
def dScale (y gf t : Fin 1024 → ℝ) (k : Fin 1024) : ℝ := dErr y gf t k * (y k * rms y)

/-- A row's loss. -/
def lossRow (y gf t : Fin 1024 → ℝ) : ℝ := 1 / 2 * ((∑ k, err y gf t k * err y gf t k) * (1 / 1024))

/-- A sum that stands in the first of 1024 columns alone, as it is selected and as it is a sum of rows. -/
theorem first_column {n : ℕ} (k : Fin 1024) (f : Fin n → ℝ) (s : ℝ) (hs : s = ∑ r, f r) :
    Scalar.select (IntOp.cmpi CmpIPredicate.eq (BitVec.ofNat 32 k.val) 0#32) (s : EReal) 0 = ((∑ r, (if k = 0 then f r else 0) : ℝ) : EReal) := by
  by_cases hk : k = 0
  · subst hk
    rw [hs]
    simp only [if_true]
    rfl
  · have hb : ¬BitVec.ofNat 32 k.val = 0#32 := fun h => hk (Fin.ext (by
      have := congrArg BitVec.toNat h
      rw [BitVec.toNat_ofNat, Nat.mod_eq_of_lt (by omega)] at this
      exact this))
    have hc : IntOp.cmpi CmpIPredicate.eq (BitVec.ofNat 32 k.val) 0#32 = 0#1 := by
      show BitVec.ofBool (_ == _) = _
      rw [beq_eq_false_iff_ne.mpr hb]
      rfl
    rw [hc]
    simp only [if_neg hk, Finset.sum_const_zero]
    rfl

end Cert.Fin

namespace Cert.FfnFinalIdeal.Block

open Cert.FfnFinalIdeal Cert.FfnFinalIdeal.Gen Cert.Reals Cert.Ffn Cert.Fin

variable {X T : FVec Ideal S512x1024 .f32} {G GF : FVec Ideal S1x1024 .f32} {x t : Fin 512 → Fin 1024 → ℝ} {g gf : Fin 1024 → ℝ}

theorem pay4 (hX : ∀ i j, X (ix2 i j) = (x i j : EReal)) (hG : ∀ i j, G (ix2 i j) = (g j : EReal)) (i : Fin 512) (k : Fin 1024) :
    k0_pay4 (F := Ideal) X G (ix2 i k) = ((hid (x i) g k : ℝ) : EReal) := by
  pointwise [k0_pay4]
  simp only [hX, hG, const_1024, const_eps, zero_add, lift_sum, lift_mul, lift_add, lift_div _ _ (by norm_num : (1024 : ℝ) ≠ 0)]
  erw [lift_rsqrt _ (rms_arg_pos (x i))]
  simp only [lift_mul]
  rfl

/-! ## One group of columns -/

variable {E : FVec Ideal S512x1024 .bf16} {A B V : FVec Ideal S1x704x1024 .bf16} {P : FVec Ideal S512x1024 .f32}
  {R : FVec Ideal S512x704 .bf16} {a b v : Fin 704 → Fin 1024 → ℝ} {e y : Fin 512 → Fin 1024 → ℝ} {r : Fin 512 → Fin 704 → ℝ}

theorem pay34 (hE : ∀ i k, E (ix2 i k) = (e i k : EReal)) (hA : ∀ y l k, A (ix3 y l k) = (a l k : EReal)) (i : Fin 512) (l : Fin 704) :
    k0_pay34 (F := Ideal) E A (ix2 i l) = ((dp (e i) (a l) : ℝ) : EReal) := by
  pointwise [k0_pay34]
  simp only [hE, hA, zero_add, lift_mul, lift_sum]
  rfl

theorem pay35 (hE : ∀ i k, E (ix2 i k) = (e i k : EReal)) (hA : ∀ y l k, A (ix3 y l k) = (a l k : EReal)) (i : Fin 512) (l : Fin 704) :
    k0_pay35 (F := Ideal) E A (ix2 i l) = ((dp (e i) (a l) : ℝ) : EReal) := pay34 hE hA i l

theorem pay36 (hE : ∀ i k, E (ix2 i k) = (e i k : EReal)) (hA : ∀ y l k, A (ix3 y l k) = (a l k : EReal)) (i : Fin 512) (l : Fin 704) :
    k0_pay36 (F := Ideal) E A (ix2 i l) = ((sg (dp (e i) (a l)) : ℝ) : EReal) := by
  pointwise [k0_pay36]
  simp only [pay34 hE hA, lift_zero, lift_one, lift_sub, lift_exp, lift_add, zero_sub, lift_div _ _ (one_add_exp_ne _)]
  rfl

theorem pay37 (hE : ∀ i k, E (ix2 i k) = (e i k : EReal)) (hA : ∀ y l k, A (ix3 y l k) = (a l k : EReal)) (i : Fin 512) (l : Fin 704) :
    k0_pay37 (F := Ideal) E A (ix2 i l) = ((facA (dp (e i) (a l)) : ℝ) : EReal) := by
  pointwise [k0_pay37]
  simp only [pay34 hE hA, pay36 hE hA, lift_mul]
  rfl

theorem pay38 (hE : ∀ i k, E (ix2 i k) = (e i k : EReal)) (hA : ∀ y l k, A (ix3 y l k) = (a l k : EReal))
    (hB : ∀ y l k, B (ix3 y l k) = (b l k : EReal)) (i : Fin 512) (l : Fin 704) :
    k0_pay38 (F := Ideal) E A B (ix2 i l) = ((act (dp (e i) (a l)) (dp (e i) (b l)) : ℝ) : EReal) := by
  pointwise [k0_pay38]
  simp only [pay37 hE hA, pay35 hE hB, lift_mul]
  rfl

theorem pay39 (hE : ∀ i k, E (ix2 i k) = (e i k : EReal)) (hA : ∀ y l k, A (ix3 y l k) = (a l k : EReal)) (z : Fin 1) (i : Fin 512) (l : Fin 704) :
    k0_pay39 (F := Ideal) E A (ix3 z i l) = ((facA (dp (e i) (a l)) : ℝ) : EReal) := by
  pointwise [k0_pay39]
  exact pay37 hE hA i l

theorem pay40 (hE : ∀ i k, E (ix2 i k) = (e i k : EReal)) (hA : ∀ y l k, A (ix3 y l k) = (a l k : EReal))
    (hB : ∀ y l k, B (ix3 y l k) = (b l k : EReal)) (z : Fin 1) (i : Fin 512) (l : Fin 704) :
    k0_pay40 (F := Ideal) E A B (ix3 z i l) = ((facB (dp (e i) (a l)) (dp (e i) (b l)) : ℝ) : EReal) := by
  pointwise [k0_pay40]
  simp only [pay34 hE hA, pay35 hE hB, pay36 hE hA, lift_one, lift_sub, lift_add, lift_mul]
  rfl

theorem pay41 (hE : ∀ i k, E (ix2 i k) = (e i k : EReal)) (hA : ∀ y l k, A (ix3 y l k) = (a l k : EReal))
    (hB : ∀ y l k, B (ix3 y l k) = (b l k : EReal)) (z : Fin 1) (l : Fin 704) (i : Fin 512) :
    k0_pay41 (F := Ideal) E A B (ix3 z l i) = ((act (dp (e i) (a l)) (dp (e i) (b l)) : ℝ) : EReal) := by
  pointwise [k0_pay41]
  exact pay38 hE hA hB i l

theorem pay42 (hP : ∀ i k, P (ix2 i k) = (y i k : EReal)) (hR : ∀ i l, R (ix2 i l) = (r i l : EReal))
    (hV : ∀ y l k, V (ix3 y l k) = (v l k : EReal)) (i : Fin 512) (k : Fin 1024) :
    k0_pay42 (F := Ideal) P R V (ix2 i k) = ((y i k + ∑ l, r i l * v l k : ℝ) : EReal) := by
  pointwise [k0_pay42]
  simp only [hP, hR, hV, zero_add, lift_mul, lift_sum, lift_add]

/-! ## The loss, and the last norm backward -/

section
variable (hY : ∀ i k, k0_pay42 (F := Ideal) P R V (ix2 i k) = (y i k : EReal))
include hY

theorem pay43 (i : Fin 512) (j : Fin 1) : k0_pay43 (F := Ideal) P R V (ix2 i j) = ((rms (y i) : ℝ) : EReal) := by
  pointwise [k0_pay43]
  simp only [hY, const_1024, const_eps, lift_sum, lift_mul, lift_add, lift_div _ _ (by norm_num : (1024 : ℝ) ≠ 0)]
  exact lift_rsqrt _ (rms_arg_pos _)

theorem pay44 (i : Fin 512) (k : Fin 1024) : k0_pay44 (F := Ideal) P R V (ix2 i k) = ((y i k * rms (y i) : ℝ) : EReal) := by
  pointwise [k0_pay44]
  simp only [hY, pay43 hY, lift_mul]

theorem pay45 (hGF : ∀ i j, GF (ix2 i j) = (gf j : EReal)) (hT : ∀ i j, T (ix2 i j) = (t i j : EReal)) (i : Fin 512) (k : Fin 1024) :
    k0_pay45 (F := Ideal) (k0_pay3 GF) P R V T (ix2 i k) = ((err (y i) gf (t i) k : ℝ) : EReal) := by
  pointwise [k0_pay45, k0_pay3]
  simp only [pay44 hY, hGF, hT, lift_mul, lift_sub]
  rfl

theorem pay46 (hGF : ∀ i j, GF (ix2 i j) = (gf j : EReal)) (hT : ∀ i j, T (ix2 i j) = (t i j : EReal)) (i : Fin 512) (k : Fin 1024) :
    k0_pay46 (F := Ideal) (k0_pay3 GF) P R V T (ix2 i k) = ((dErr (y i) gf (t i) k : ℝ) : EReal) := by
  pointwise [k0_pay46]
  simp only [pay45 hY hGF hT, const_frac, lift_mul]
  rfl

theorem pay47 (hGF : ∀ i j, GF (ix2 i j) = (gf j : EReal)) (hT : ∀ i j, T (ix2 i j) = (t i j : EReal)) (i : Fin 512) (k : Fin 1024) :
    k0_pay47 (F := Ideal) (k0_pay3 GF) P R V T (ix2 i k) = ((dOut (y i) gf (t i) k : ℝ) : EReal) := by
  have hg : ∀ i j, k0_pay3 (F := Ideal) GF (ix2 i j) = (gf j : EReal) := fun i j => by
    pointwise [k0_pay3]
    exact hGF i j
  pointwise [k0_pay47]
  simp only [pay46 hY hGF hT, pay44 hY, pay43 hY, hg, const_1024, zero_add, lift_mul, lift_sum, lift_sub,
    lift_div _ _ (by norm_num : (1024 : ℝ) ≠ 0)]
  rfl

theorem pay49 (hGF : ∀ i j, GF (ix2 i j) = (gf j : EReal)) (hT : ∀ i j, T (ix2 i j) = (t i j : EReal)) (Q : FVec Ideal S1x1024 .f32)
    (z : Fin 1) (k : Fin 1024) : k0_pay49 (F := Ideal) (k0_pay3 GF) P R V T Q (ix2 z k)
      = Q (ix2 z k) + ∑ i, ((dScale (y i) gf (t i) k : ℝ) : EReal) := by
  pointwise [k0_pay49]
  simp only [pay46 hY hGF hT, pay44 hY, zero_add, lift_mul]
  rfl

theorem pay1 (hGF : ∀ i j, GF (ix2 i j) = (gf j : EReal)) (hT : ∀ i j, T (ix2 i j) = (t i j : EReal)) (Q : FVec Ideal S1x1024 .f32)
    (z : Fin 1) (k : Fin 1024) : k0_pay1 (F := Ideal) (k0_pay45 (k0_pay3 GF) P R V T) Q (ix2 z k)
      = Q (ix2 z k) + ∑ i, ((if k = 0 then lossRow (y i) gf (t i) else 0 : ℝ) : EReal) := by
  pointwise [k0_pay1]
  simp only [pay45 hY hGF hT, const_frac, const_half, zero_add, lift_mul, lift_sum]
  exact congrArg (_ + ·) (first_column k (fun i => lossRow (y i) gf (t i)) _ (by simp only [lossRow, Finset.mul_sum]))

end

/-! ## A whole grid point -/

/-- The layer's output of a row `x`, whose normalised and scaled row is `e`. -/
def layer (x e : Fin 1024 → ℝ) (wu : Fin 8 → Fin 704 → Fin 1024 → ℝ) (wd : Fin 4 → Fin 704 → Fin 1024 → ℝ) (k : Fin 1024) : ℝ :=
  x k + share e (wu 0) (wu 4) (wd 0) k + share e (wu 1) (wu 5) (wd 1) k + share e (wu 2) (wu 6) (wd 2) k + share e (wu 3) (wu 7) (wd 3) k

/-- The saved factors of a row. -/
def factor (e : Fin 1024 → ℝ) (wu : Fin 8 → Fin 704 → Fin 1024 → ℝ) (q : Fin 8) (l : Fin 704) : ℝ :=
  if q.val < 4 then facA (dp e (wu q l)) else facB (dp e (wu ⟨q.val - 4, by omega⟩ l)) (dp e (wu q l))

/-- The gated product of a row. -/
def gated (e : Fin 1024 → ℝ) (wu : Fin 8 → Fin 704 → Fin 1024 → ℝ) (p : Fin 4) (l : Fin 704) : ℝ :=
  act (dp e (wu ⟨p.val, by omega⟩ l)) (dp e (wu ⟨p.val + 4, by omega⟩ l))

/-- One grid point's loads: the rows, the scale, the first matrix's eight slabs and the second's four. -/
structure Loads (X : FVec Ideal S512x1024 .f32) (G : FVec Ideal S1x1024 .f32) (W0 W1 W2 W3 W4 W5 W6 W7 V0 V1 V2 V3 : FVec Ideal S1x704x1024 .bf16)
    (x : Fin 512 → Fin 1024 → ℝ) (g : Fin 1024 → ℝ) (wu : Fin 8 → Fin 704 → Fin 1024 → ℝ) (wd : Fin 4 → Fin 704 → Fin 1024 → ℝ) : Prop where
  hX : ∀ i j, X (ix2 i j) = (x i j : EReal)
  hG : ∀ i j, G (ix2 i j) = (g j : EReal)
  w0 : ∀ y l k, W0 (ix3 y l k) = (wu 0 l k : EReal)
  w1 : ∀ y l k, W1 (ix3 y l k) = (wu 1 l k : EReal)
  w2 : ∀ y l k, W2 (ix3 y l k) = (wu 2 l k : EReal)
  w3 : ∀ y l k, W3 (ix3 y l k) = (wu 3 l k : EReal)
  w4 : ∀ y l k, W4 (ix3 y l k) = (wu 4 l k : EReal)
  w5 : ∀ y l k, W5 (ix3 y l k) = (wu 5 l k : EReal)
  w6 : ∀ y l k, W6 (ix3 y l k) = (wu 6 l k : EReal)
  w7 : ∀ y l k, W7 (ix3 y l k) = (wu 7 l k : EReal)
  v0 : ∀ y l k, V0 (ix3 y l k) = (wd 0 l k : EReal)
  v1 : ∀ y l k, V1 (ix3 y l k) = (wd 1 l k : EReal)
  v2 : ∀ y l k, V2 (ix3 y l k) = (wd 2 l k : EReal)
  v3 : ∀ y l k, V3 (ix3 y l k) = (wd 3 l k : EReal)

variable {W0 W1 W2 W3 W4 W5 W6 W7 V0 V1 V2 V3 : FVec Ideal S1x704x1024 .bf16} {wu : Fin 8 → Fin 704 → Fin 1024 → ℝ}
  {wd : Fin 4 → Fin 704 → Fin 1024 → ℝ}

/-- The output, before its last group's share. -/
abbrev acc (X : FVec Ideal S512x1024 .f32) (G : FVec Ideal S1x1024 .f32) (W0 W1 W2 W4 W5 W6 V0 V1 V2 : FVec Ideal S1x704x1024 .bf16) :
    FVec Ideal S512x1024 .f32 :=
  k0_pay33 (k0_pay4 X G)
    (k0_pay24 (k0_pay14 X (k0_pay9 X G W0 W4) V0) (k0_pay15 (k0_pay4 X G) W1) (k0_pay16 (k0_pay4 X G) W5) (k0_pay17 (k0_pay4 X G) W1) V1)
    (k0_pay25 (k0_pay4 X G) W2) W6 V2

/-- Every group is computed by the same operations. -/
theorem acc_eq (X : FVec Ideal S512x1024 .f32) (G : FVec Ideal S1x1024 .f32) (W0 W1 W2 W4 W5 W6 V0 V1 V2 : FVec Ideal S1x704x1024 .bf16) :
    acc X G W0 W1 W2 W4 W5 W6 V0 V1 V2 = k0_pay42 (k0_pay42 (k0_pay42 X (k0_pay38 (k0_pay4 X G) W0 W4) V0) (k0_pay38 (k0_pay4 X G) W1 W5) V1)
      (k0_pay38 (k0_pay4 X G) W2 W6) V2 := rfl

theorem out (h : Loads X G W0 W1 W2 W3 W4 W5 W6 W7 V0 V1 V2 V3 x g wu wd) (i : Fin 512) (k : Fin 1024) :
    k0_pay42 (F := Ideal) (acc X G W0 W1 W2 W4 W5 W6 V0 V1 V2) (k0_pay38 (k0_pay4 X G) W3 W7) V3 (ix2 i k)
      = ((layer (x i) (hid (x i) g) wu wd k : ℝ) : EReal) := by
  have hE := pay4 h.hX h.hG
  rw [acc_eq]
  exact pay42 (pay42 (pay42 (pay42 h.hX (pay38 hE h.w0 h.w4) h.v0) (pay38 hE h.w1 h.w5) h.v1) (pay38 hE h.w2 h.w6) h.v2)
    (pay38 hE h.w3 h.w7) h.v3 i k

/-- The eight slabs of saved factors, as they are stored. -/
theorem factors (h : Loads X G W0 W1 W2 W3 W4 W5 W6 W7 V0 V1 V2 V3 x g wu wd) (q : Fin 8) (i : Fin 512) (l : Fin 704) (o : EReal) :
    (if q.val = 7 then k0_pay40 (F := Ideal) (k0_pay4 X G) W3 W7 (ix3 0 i l)
      else if q.val = 3 then k0_pay39 (F := Ideal) (k0_pay4 X G) W3 (ix3 0 i l)
      else if q.val = 6 then k0_pay31 (F := Ideal) (k0_pay4 X G) (k0_pay25 (k0_pay4 X G) W2) W6 (ix3 0 i l)
      else if q.val = 2 then k0_pay30 (F := Ideal) (k0_pay25 (k0_pay4 X G) W2) (ix3 0 i l)
      else if q.val = 5 then k0_pay22 (F := Ideal) (k0_pay15 (k0_pay4 X G) W1) (k0_pay16 (k0_pay4 X G) W5) (k0_pay17 (k0_pay4 X G) W1) (ix3 0 i l)
      else if q.val = 1 then k0_pay21 (F := Ideal) (k0_pay15 (k0_pay4 X G) W1) (k0_pay17 (k0_pay4 X G) W1) (ix3 0 i l)
      else if q.val = 4 then k0_pay12 (F := Ideal) (k0_pay5 X G W0) (k0_pay6 X G W4) (k0_pay7 X G W0) (ix3 0 i l)
      else if q.val = 0 then k0_pay11 (F := Ideal) (k0_pay8 X G W0) (ix3 0 i l)
      else o) = ((factor (hid (x i) g) wu q l : ℝ) : EReal) := by
  have hE := pay4 h.hX h.hG
  fin_cases q
  · exact pay39 hE h.w0 0 i l
  · exact pay39 hE h.w1 0 i l
  · exact pay39 hE h.w2 0 i l
  · exact pay39 hE h.w3 0 i l
  · exact pay40 hE h.w0 h.w4 0 i l
  · exact pay40 hE h.w1 h.w5 0 i l
  · exact pay40 hE h.w2 h.w6 0 i l
  · exact pay40 hE h.w3 h.w7 0 i l

/-- The four slabs of the gated product, as they are stored. -/
theorem gates (h : Loads X G W0 W1 W2 W3 W4 W5 W6 W7 V0 V1 V2 V3 x g wu wd) (p : Fin 4) (l : Fin 704) (i : Fin 512) (o : EReal) :
    (if p.val = 3 then k0_pay41 (F := Ideal) (k0_pay4 X G) W3 W7 (ix3 0 l i)
      else if p.val = 2 then k0_pay32 (F := Ideal) (k0_pay4 X G) (k0_pay25 (k0_pay4 X G) W2) W6 (ix3 0 l i)
      else if p.val = 1 then k0_pay23 (F := Ideal) (k0_pay15 (k0_pay4 X G) W1) (k0_pay16 (k0_pay4 X G) W5) (k0_pay17 (k0_pay4 X G) W1) (ix3 0 l i)
      else if p.val = 0 then k0_pay13 (F := Ideal) (k0_pay9 X G W0 W4) (ix3 0 l i)
      else o) = ((gated (hid (x i) g) wu p l : ℝ) : EReal) := by
  have hE := pay4 h.hX h.hG
  fin_cases p
  · exact pay41 hE h.w0 h.w4 0 l i
  · exact pay41 hE h.w1 h.w5 0 l i
  · exact pay41 hE h.w2 h.w6 0 l i
  · exact pay41 hE h.w3 h.w7 0 l i

end Cert.FfnFinalIdeal.Block

end
-- ==== Proof.FinArray.lean ====
/-
  The result arrays of the kernel `ffn_fwd1` after its run, when the arguments hold real numbers.
-/
module

public import proofs.«01_k».proof.Proof.Gen.FfnFinalIdeal.Value
public import Idealize.ShloMosaic.Lib.Pipeline.ValueKit
public import proofs.«01_k».proof.Proof.FinBlock
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FfnFinalIdeal.Array

open Cert.FfnFinalIdeal Cert.FfnFinalIdeal.Gen Cert.FfnFinalIdeal.Block Cert.Reals Cert.Ffn Cert.Fin
open Cert.FfnBwdIdeal.Block (ldW ldD ld_of)

/-- The layer's output of a row. -/
def rowY (X : Fin 8192 → Fin 1024 → ℝ) (g : Fin 1024 → ℝ) (wu : Fin 1024 → Fin 5632 → ℝ) (wd : Fin 2816 → Fin 1024 → ℝ) (r : Fin 8192) :
    Fin 1024 → ℝ := layer (X r) (hid (X r) g) (uSlab wu) (dSlab wd)

/-- What each of the eight rows of sums gains from a row: the scale's derivative, the loss in the first column, and six times nothing. -/
def part (q : Fin 8) (y gf t : Fin 1024 → ℝ) (k : Fin 1024) : ℝ :=
  if q.val = 1 then (if k = 0 then lossRow y gf t else 0) else if q.val = 0 then dScale y gf t k else 0

variable (m : (ℓ : Loc nD τ sig) → Buf (Elt Ideal) ℓ)

theorem idx_val : ∀ t : Fin cfg0.N, win0_0.index t = ![t.val, 0]
    ∧ win0_1.index t = ![0, 0]
    ∧ win0_2.index t = ![0, 0, 0]
    ∧ win0_3.index t = ![0, 0, 0]
    ∧ win0_4.index t = ![0, 0]
    ∧ win0_5.index t = ![t.val, 0]
    ∧ win0_6.index t = ![0, t.val, 0]
    ∧ win0_7.index t = ![0, 0, t.val]
    ∧ win0_8.index t = ![t.val, 0]
    ∧ win0_9.index t = ![t.val, 0]
    ∧ win0_10.index t = ![0, 0] :=
  (by decide +kernel : ∀ t : Fin grid0.N, _)

/-- The row of the array that row `i` of grid point `t`'s block is. -/
def row (t : Fin cfg0.N) (i : Fin 512) : Fin 8192 :=
  ⟨t.val * 512 + i.val, by have := t.isLt; have h : cfg0.N = 16 := N_0; omega⟩

variable {X T : Fin 8192 → Fin 1024 → ℝ} {g gf : Fin 1024 → ℝ} {wu : Fin 1024 → Fin 5632 → ℝ} {wd : Fin 2816 → Fin 1024 → ℝ} (c : Dev nD)

/-- The arguments hold the real arrays `X`, `g`, `wu`, `wd`, `gf`, `T`. -/
structure Holds (X : Fin 8192 → Fin 1024 → ℝ) (g : Fin 1024 → ℝ) (wu : Fin 1024 → Fin 5632 → ℝ) (wd : Fin 2816 → Fin 1024 → ℝ)
    (gf : Fin 1024 → ℝ) (T : Fin 8192 → Fin 1024 → ℝ) : Prop where
  h0 : ∀ i j, (show FVec Ideal S8192x1024 .f32 from m ((c : Thread nD τ).loc main_arg0)) (ix2 i j) = (X i j : EReal)
  h1 : ∀ j, (show FVec Ideal S1024 .f32 from m ((c : Thread nD τ).loc main_arg1)) (ix1 j) = (g j : EReal)
  h2 : ∀ i j, (show FVec Ideal S1024x5632 .f32 from m ((c : Thread nD τ).loc main_arg2)) (ix2 i j) = (wu i j : EReal)
  h3 : ∀ i j, (show FVec Ideal S2816x1024 .f32 from m ((c : Thread nD τ).loc main_arg3)) (ix2 i j) = (wd i j : EReal)
  h4 : ∀ j, (show FVec Ideal S1024 .f32 from m ((c : Thread nD τ).loc main_arg4)) (ix1 j) = (gf j : EReal)
  h5 : ∀ i j, (show FVec Ideal S8192x1024 .f32 from m ((c : Thread nD τ).loc main_arg5)) (ix2 i j) = (T i j : EReal)

variable (H : Holds m c X g wu wd gf T)
include H

/-! ## The blocks -/

theorem in0 (t : Fin cfg0.N) (i : Fin 512) (j : Fin 1024) :
    (show FVec Ideal S512x1024 .f32 from iblk m c 0 t) (ix2 i j) = (X (row t i) j : EReal) := by
  rw [← H.h0]
  blk_ext [iblk, V, idx_val t, row]

theorem in1 (t : Fin cfg0.N) (i : Fin 1) (j : Fin 1024) :
    (show FVec Ideal S1x1024 .f32 from iblk m c 1 t) (ix2 i j) = (g j : EReal) := by
  rw [← H.h1]
  blk_simp [iblk, idx_val t]
  entry_read
  pointwise
  blk_ext [idx_val t]

theorem in2 (t : Fin cfg0.N) (q : Fin 8) (l : Fin 704) (k : Fin 1024) :
    (show FVec Ideal S8x704x1024 .bf16 from iblk m c 2 t) (ix3 q l k) = (uSlab wu q l k : EReal) := by
  unfold uSlab
  rw [← H.h2]
  blk_simp [iblk, idx_val t]
  entry_read
  pointwise
  blk_ext [idx_val t, colU]

theorem in3 (t : Fin cfg0.N) (p : Fin 4) (l : Fin 704) (k : Fin 1024) :
    (show FVec Ideal S4x704x1024 .bf16 from iblk m c 3 t) (ix3 p l k) = (dSlab wd p l k : EReal) := by
  unfold dSlab
  rw [← H.h3]
  blk_simp [iblk, idx_val t]
  entry_read
  pointwise
  blk_ext [idx_val t, colD]

theorem in4 (t : Fin cfg0.N) (i : Fin 1) (j : Fin 1024) :
    (show FVec Ideal S1x1024 .f32 from iblk m c 4 t) (ix2 i j) = (gf j : EReal) := by
  rw [← H.h4]
  blk_simp [iblk, idx_val t]
  entry_read
  pointwise
  blk_ext [idx_val t]

theorem in5 (t : Fin cfg0.N) (i : Fin 512) (j : Fin 1024) :
    (show FVec Ideal S512x1024 .f32 from iblk m c 5 t) (ix2 i j) = (T (row t i) j : EReal) := by
  rw [← H.h5]
  blk_ext [iblk, V, idx_val t, row]

theorem loads (t : Fin cfg0.N) : Loads (iblk m c 0 t) (iblk m c 1 t)
    (ldW (iblk m c 2 t) 0 inb_S8x704x1024_S1x704x1024_0_0_0) (ldW (iblk m c 2 t) 1 inb_S8x704x1024_S1x704x1024_1_0_0)
    (ldW (iblk m c 2 t) 2 inb_S8x704x1024_S1x704x1024_2_0_0) (ldW (iblk m c 2 t) 3 inb_S8x704x1024_S1x704x1024_3_0_0)
    (ldW (iblk m c 2 t) 4 inb_S8x704x1024_S1x704x1024_4_0_0) (ldW (iblk m c 2 t) 5 inb_S8x704x1024_S1x704x1024_5_0_0)
    (ldW (iblk m c 2 t) 6 inb_S8x704x1024_S1x704x1024_6_0_0) (ldW (iblk m c 2 t) 7 inb_S8x704x1024_S1x704x1024_7_0_0)
    (ldD (iblk m c 3 t) 0 inb_S4x704x1024_S1x704x1024_0_0_0) (ldD (iblk m c 3 t) 1 inb_S4x704x1024_S1x704x1024_1_0_0)
    (ldD (iblk m c 3 t) 2 inb_S4x704x1024_S1x704x1024_2_0_0) (ldD (iblk m c 3 t) 3 inb_S4x704x1024_S1x704x1024_3_0_0)
    (fun i => X (row t i)) g (uSlab wu) (dSlab wd) :=
  have hW := in2 m c H t
  have hV := in3 m c H t
  ⟨in0 m c H t, in1 m c H t, ld_of hW 0 0 rfl _, ld_of hW 1 1 rfl _, ld_of hW 2 2 rfl _, ld_of hW 3 3 rfl _, ld_of hW 4 4 rfl _,
    ld_of hW 5 5 rfl _, ld_of hW 6 6 rfl _, ld_of hW 7 7 rfl _, ld_of hV 0 0 rfl _, ld_of hV 1 1 rfl _, ld_of hV 2 2 rfl _,
    ld_of hV 3 3 rfl _⟩

/-! ## The arrays -/

set_option maxHeartbeats 1000000 in
theorem final_6 : (dats m 0 c).arrAt 6 (cfgs 0).N
    = fun y : S8x8192x704.Idx => ((factor (hid (X (y 1)) g) (uSlab wu) (y 0) (y 2) : ℝ) : EReal) := by
  refine (dats m 0 c).arrAt_eq_of_covers 6 _ (by decide +kernel) fun t hf y => ?_
  blk_simp
  rw [after0_6]
  have hr : ∀ y : S8x512x704.Idx, (((cfg0.win 6).blk t).view.emb y) = (ix3 (y 0) (row t (y 1)) (y 2) : S8x8192x704.Idx) := by
    intro y; blk_ext [idx_val t, row]
  by_cases h : t.val % 16 = 0
  · rw [outsAt0_A m c t h]; frame_out; rw [hr]; idx_vars y
    simp only [Cert.Cols.canon_slab]
    exact factors (loads m c H t) _ _ _ _
  · rw [outsAt0_B m c t h]; frame_out; rw [hr]; idx_vars y
    simp only [Cert.Cols.canon_slab]
    exact factors (loads m c H t) _ _ _ _

set_option maxHeartbeats 1000000 in
theorem final_7 : (dats m 0 c).arrAt 7 (cfgs 0).N
    = fun y : S4x704x8192.Idx => ((gated (hid (X (y 2)) g) (uSlab wu) (y 0) (y 1) : ℝ) : EReal) := by
  refine (dats m 0 c).arrAt_eq_of_covers 7 _ (by decide +kernel) fun t hf y => ?_
  blk_simp
  rw [after0_7]
  have hr : ∀ y : S4x704x512.Idx, (((cfg0.win 7).blk t).view.emb y) = (ix3 (y 0) (y 1) (row t (y 2)) : S4x704x8192.Idx) := by
    intro y; blk_ext [idx_val t, row]
  by_cases h : t.val % 16 = 0
  · rw [outsAt0_A m c t h]; frame_out; rw [hr]; idx_vars y
    simp only [Cert.Cols.canon_slab]
    exact gates (loads m c H t) _ _ _ _
  · rw [outsAt0_B m c t h]; frame_out; rw [hr]; idx_vars y
    simp only [Cert.Cols.canon_slab]
    exact gates (loads m c H t) _ _ _ _

set_option maxHeartbeats 1000000 in
theorem final_8 : (dats m 0 c).arrAt 8 (cfgs 0).N
    = fun y : S8192x1024.Idx => ((dOut (rowY X g wu wd (y 0)) gf (T (y 0)) (y 1) : ℝ) : EReal) := by
  refine (dats m 0 c).arrAt_eq_of_covers 8 _ (by decide +kernel) fun t hf y => ?_
  blk_simp
  rw [after0_8]
  have hr : ∀ y : S512x1024.Idx, (((cfg0.win 8).blk t).view.emb y) = (ix2 (row t (y 0)) (y 1) : S8192x1024.Idx) := by
    intro y; blk_ext [idx_val t, row]
  by_cases h : t.val % 16 = 0
  · rw [outsAt0_A m c t h]; frame_out; rw [hr]; idx_vars y
    exact pay47 (out (loads m c H t)) (in4 m c H t) (in5 m c H t) _ _
  · rw [outsAt0_B m c t h]; frame_out; rw [hr]; idx_vars y
    exact pay47 (out (loads m c H t)) (in4 m c H t) (in5 m c H t) _ _

set_option maxHeartbeats 1000000 in
theorem final_9 : (dats m 0 c).arrAt 9 (cfgs 0).N
    = fun y : S8192x1024.Idx => ((dOut (rowY X g wu wd (y 0)) gf (T (y 0)) (y 1) : ℝ) : EReal) := by
  refine (dats m 0 c).arrAt_eq_of_covers 9 _ (by decide +kernel) fun t hf y => ?_
  blk_simp
  rw [after0_9]
  have hr : ∀ y : S512x1024.Idx, (((cfg0.win 9).blk t).view.emb y) = (ix2 (row t (y 0)) (y 1) : S8192x1024.Idx) := by
    intro y; blk_ext [idx_val t, row]
  by_cases h : t.val % 16 = 0
  · rw [outsAt0_A m c t h]; frame_out; rw [hr]; idx_vars y
    exact pay47 (out (loads m c H t)) (in4 m c H t) (in5 m c H t) _ _
  · rw [outsAt0_B m c t h]; frame_out; rw [hr]; idx_vars y
    exact pay47 (out (loads m c H t)) (in4 m c H t) (in5 m c H t) _ _

/-- One grid point's stores into the sums: its two rows gain their block's sums. -/
theorem step {P : FVec Ideal S512x1024 .f32} {R : FVec Ideal S512x704 .bf16} {D : FVec Ideal S1x704x1024 .bf16} (t : Fin cfg0.N)
    (hY : ∀ i k, k0_pay42 (F := Ideal) P R D (ix2 i k) = (rowY X g wu wd (row t i) k : EReal)) (p : Fin 8 → EReal)
    (A1 A0 : FVec Ideal S1x1024 .f32) (Z : EReal) (q : Fin 8) (k : Fin 1024) (h1 : A1 (ix2 0 k) = p 1) (h0 : A0 (ix2 0 k) = p 0) (hZ : Z = p q) :
    (if q.val = 1 then k0_pay1 (F := Ideal) (k0_pay45 (k0_pay3 (iblk m c 4 t)) P R D (iblk m c 5 t)) A1 (ix2 0 k)
      else if q.val = 0 then k0_pay49 (F := Ideal) (k0_pay3 (iblk m c 4 t)) P R D (iblk m c 5 t) A0 (ix2 0 k)
      else Z) = p q + ∑ r : Fin 512, ((part q (rowY X g wu wd (row t r)) gf (T (row t r)) k : ℝ) : EReal) := by
  by_cases k1 : q.val = 1
  · obtain rfl : q = 1 := Fin.ext k1
    rw [if_pos k1, ← h1]
    exact pay1 hY (in4 m c H t) (in5 m c H t) A1 0 k
  · rw [if_neg k1]
    by_cases k0 : q.val = 0
    · obtain rfl : q = 0 := Fin.ext k0
      rw [if_pos k0, ← h0]
      exact pay49 hY (in4 m c H t) (in5 m c H t) A0 0 k
    · rw [if_neg k0, hZ]
      simp [part, k0, k1]

omit H in
/-- The last grid point. -/
def lst : Fin cfg0.N := ⟨15, by have h : cfg0.N = 16 := N_0; omega⟩

set_option maxHeartbeats 1000000 in
theorem final_10 : (dats m 0 c).arrAt 10 (cfgs 0).N
    = fun y : S8x1024.Idx => ((∑ r : Fin 8192, part (y 0) (rowY X g wu wd r) gf (T r) (y 1) : ℝ) : EReal) := by
  have z : ∀ y, k0_pay2 (F := Ideal) y = 0 := fun y => by pointwise [k0_pay2]
  refine (dats m 0 c).arrAt_eq_of_after_last 10 lst (by decide +kernel) _ fun j => ?_
  blk_simp
  rw [after0_10, Pipeline.eq_sum_fin_of_reset_step_apply_last (fun n h => (outsAt0 m c n h).2.2.2.2) 16 (fun _ => 0)
    (fun t y => ∑ r : Fin 512, ((part (y 0) (rowY X g wu wd (row t r)) gf (T (row t r)) (y 1) : ℝ) : EReal))
    (fun t h j => by
      rw [outsAt0_A m c t h]; frame_out
      idx_vars j
      simp only [Cert.Rows.canon_row, Cert.Rows.canon_fill]
      refine step m c H t (out (loads m c H t)) (fun _ => 0) _ _ _ _ _ ?_ ?_ (z _)
      · rw [Cert.Rows.readCov_row _ _ (by decide)]; simp [Cert.Rows.canon_row, Cert.Rows.canon_fill, z]
      · rw [Cert.Rows.readCov_row _ _ (by decide)]; simp [Cert.Rows.canon_row, Cert.Rows.canon_fill, z])
    (fun t h j => by
      rw [outsAt0_B m c t h]; frame_out
      idx_vars j
      simp only [Cert.Rows.read_row]
      refine step m c H t (out (loads m c H t)) (fun q => (outsAt0 m c (t.val - 1) _).2.2.2.2 (ix2 q _)) _ _ _ _ _ ?_ ?_ ?_
      · exact Cert.Rows.ld_row _ _ (by decide) _ _ _
      · exact Cert.Rows.ld_row _ _ (by decide) _ _ _
      · simp only [View.writes_nil]
        exact congrFun (Memref.IsWhole.read_unread _ _) _)
    (le_of_eq N_0) lst rfl j, zero_add]
  show (∑ t : Fin 16, ∑ r : Fin 512, ((part (j 0) (rowY X g wu wd (row t r)) gf (T (row t r)) (j 1) : ℝ) : EReal)) = _
  simp only [lift_sum]
  exact congrArg Real.toEReal (Fin.sum_mul_add_congr (S := 16) (n := 512) (fun s k hl => rfl) rfl)

end Cert.FfnFinalIdeal.Array

end
-- ==== Proof.FinRef.lean ====
/-
  The reference's stages of the second feed-forward layer, the loss and the last norm's backward pass, element by element, when the
  arguments hold real numbers.
-/
module

public import proofs.«01_k».proof.Proof.Gen.FfnFinalRefIdeal.Read
public import proofs.«01_k».proof.Proof.FinArray

@[expose] public section

set_option maxRecDepth 16384

noncomputable section

open Idealize.ShloMosaic Idealize.ShloMosaic.TcCoe Idealize.SL.Sem

namespace Cert.FfnFinalRefIdeal.Stage

open Cert.FfnFinalRefIdeal Cert.FfnFinalRefIdeal.Read Cert.Reals Cert.Ffn Cert.Fin
open Cert.FfnFinalIdeal.Block (layer factor gated)
open Cert.FfnFinalIdeal.Array (rowY part)

variable {x0 : FVec Ideal S8192x1024 .f32} {x1 : FVec Ideal S1024 .f32} {x2 : FVec Ideal S1024x5632 .f32} {x3 : FVec Ideal S2816x1024 .f32}
  {x4 : FVec Ideal S1024 .f32} {x5 : FVec Ideal S8192x1024 .f32}
  {X T : Fin 8192 → Fin 1024 → ℝ} {g gf : Fin 1024 → ℝ} {wu : Fin 1024 → Fin 5632 → ℝ} {wd : Fin 2816 → Fin 1024 → ℝ}

/-- What the reference's arguments hold. -/
structure Args (x0 : FVec Ideal S8192x1024 .f32) (x1 : FVec Ideal S1024 .f32) (x2 : FVec Ideal S1024x5632 .f32)
    (x3 : FVec Ideal S2816x1024 .f32) (x4 : FVec Ideal S1024 .f32) (x5 : FVec Ideal S8192x1024 .f32) (X : Fin 8192 → Fin 1024 → ℝ)
    (g : Fin 1024 → ℝ) (wu : Fin 1024 → Fin 5632 → ℝ) (wd : Fin 2816 → Fin 1024 → ℝ) (gf : Fin 1024 → ℝ) (T : Fin 8192 → Fin 1024 → ℝ) :
    Prop where
  h0 : ∀ i j, x0 (ix2 i j) = (X i j : EReal)
  h1 : ∀ j, x1 (ix1 j) = (g j : EReal)
  h2 : ∀ i j, x2 (ix2 i j) = (wu i j : EReal)
  h3 : ∀ i j, x3 (ix2 i j) = (wd i j : EReal)
  h4 : ∀ j, x4 (ix1 j) = (gf j : EReal)
  h5 : ∀ i j, x5 (ix2 i j) = (T i j : EReal)

variable (H : Args x0 x1 x2 x3 x4 x5 X g wu wd gf T)
include H

/-! ## The layer -/

theorem at12 (i : Fin 8192) (j : Fin 1024) : val_main_v12 (F := Ideal) x0 x1 (ix2 i j) = ((hid (X i) g j : ℝ) : EReal) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  simp only [H.h0, H.h1, const_1024, const_eps, lift_mul, lift_sum, zero_add, lift_add, lift_div _ _ (by norm_num : (1024 : ℝ) ≠ 0)]
  erw [lift_rsqrt _ (rms_arg_pos (X i))]
  simp only [lift_mul]
  rfl

theorem at13 (i : Fin 8192) (j : Fin 5632) : val_main_v13 (F := Ideal) x0 x1 x2 (ix2 i j) = ((gu (X i) g wu j : ℝ) : EReal) := by
  pointwise [val_main_v13]
  simp only [H.h2, at12 H, lift_mul, lift_sum]
  rfl

/-- The gate of a row's column. -/
theorem at14 (i : Fin 8192) (j : Fin 2816) :
    val_main_v14 (F := Ideal) x0 x1 x2 (ix2 i j) = ((gu (X i) g wu ⟨j.val, by omega⟩ : ℝ) : EReal) := by
  pointwise [val_main_v14]
  exact at13 H i _

/-- What the gate opens. -/
theorem at15 (i : Fin 8192) (j : Fin 2816) :
    val_main_v15 (F := Ideal) x0 x1 x2 (ix2 i j) = ((gu (X i) g wu ⟨2816 + j.val, by omega⟩ : ℝ) : EReal) := by
  pointwise [val_main_v15]
  exact at13 H i _

theorem at16_2 (i : Fin 8192) (j : Fin 2816) :
    val_main_v16_2 (F := Ideal) x0 x1 x2 (ix2 i j) = ((sg (gu (X i) g wu ⟨j.val, by omega⟩) : ℝ) : EReal) := by
  pointwise [val_main_v16_2, val_main_call0_v4, val_main_call0_v3, val_main_call0_v2, val_main_call0_v1, val_main_call0_v0, val_main_call0_cst,
    val_main_call0_cst_0]
  simp only [at14 H, lift_neg, lift_one, lift_exp, lift_add, lift_div _ _ (one_add_exp_ne _)]
  rfl

theorem at17 (i : Fin 8192) (j : Fin 2816) : val_main_v17 (F := Ideal) x0 x1 x2 (ix2 i j)
    = ((act (gu (X i) g wu ⟨j.val, by omega⟩) (gu (X i) g wu ⟨2816 + j.val, by omega⟩) : ℝ) : EReal) := by
  pointwise [val_main_v17, val_main_v16_0]
  simp only [at14 H, at15 H, at16_2 H, lift_mul]
  rfl

/-- The saved factor of the gate's derivative. -/
theorem at20 (i : Fin 8192) (j : Fin 2816) : val_main_v20 (F := Ideal) x0 x1 x2 (ix2 i j)
    = ((facB (gu (X i) g wu ⟨j.val, by omega⟩) (gu (X i) g wu ⟨2816 + j.val, by omega⟩) : ℝ) : EReal) := by
  pointwise [val_main_v20, val_main_call1_v2, val_main_call1_v1, val_main_call1_v0, val_main_v19, val_main_v18, val_main_cst_2, val_main_v16_1,
    val_main_call0_v7, val_main_call0_v6, val_main_call0_cst_1]
  simp only [at14 H, at15 H, at16_2 H, lift_one, lift_sub, lift_mul, lift_add]
  refine congrArg Real.toEReal ?_
  unfold facB
  ring

theorem at74 (i : Fin 8192) (j : Fin 2816) :
    val_main_v74 (F := Ideal) x0 x1 x2 (ix2 i j) = ((facA (gu (X i) g wu ⟨j.val, by omega⟩) : ℝ) : EReal) := by
  pointwise [val_main_v74, val_main_call2_v5, val_main_call2_v4, val_main_call2_v3, val_main_call2_v2, val_main_call2_v1, val_main_call2_v0,
    val_main_call2_cst, val_main_call2_cst_0]
  simp only [at14 H, lift_neg, lift_one, lift_exp, lift_add, lift_mul, lift_div _ _ (one_add_exp_ne _)]
  rfl

theorem at75 (i : Fin 8192) (j : Fin 5632) : val_main_v75 (F := Ideal) x0 x1 x2 (ix2 i j) = ((facs (X i) g wu j : ℝ) : EReal) := by
  unfold facs
  pointwise [val_main_v75]
  by_cases h : j.val < 2816
  · rw [dif_pos h, dif_pos h]
    exact at74 H i _
  · rw [dif_neg h, dif_neg h]
    exact at20 H i _

omit H in
/-- The saved factors by groups of columns, and by columns. -/
theorem factor_saved (x : Fin 1024 → ℝ) (q : Fin 8) (l : Fin 704) : factor (hid x g) (uSlab wu) q l = saved x g wu q l := by
  unfold factor saved facs
  by_cases h : q.val < 4
  · rw [if_pos h, dif_pos (by show q.val * 704 + l.val < 2816; omega)]
    rfl
  · rw [if_neg h, dif_neg (by show ¬q.val * 704 + l.val < 2816; omega)]
    exact congrArg₂ (fun a b => facB (gu x g wu a) (gu x g wu b))
      (Fin.ext (by show (q.val - 4) * 704 + l.val = q.val * 704 + l.val - 2816; omega))
      (Fin.ext (by show q.val * 704 + l.val = 2816 + (q.val * 704 + l.val - 2816); omega))

theorem at86 (q : Fin 8) (i : Fin 8192) (l : Fin 704) : val_main_v86 (F := Ideal) x0 x1 x2 (ix3 q i l)
    = ((factor (hid (X i) g) (uSlab wu) q l : ℝ) : EReal) := by
  rw [factor_saved]
  pointwise [val_main_v86, val_main_v85, val_main_v76]
  exact at75 H i (colU q l)

omit H in
/-- The gated product by groups of columns, and by columns. -/
theorem gated_col (x : Fin 1024 → ℝ) (p : Fin 4) (l : Fin 704) (j : Fin 2816) (h : j.val = p.val * 704 + l.val) :
    gated (hid x g) (uSlab wu) p l = act (gu x g wu ⟨j.val, by omega⟩) (gu x g wu ⟨2816 + j.val, by omega⟩) :=
  congrArg₂ (fun a b => act (gu x g wu a) (gu x g wu b)) (Fin.ext h.symm)
    (Fin.ext (by show (p.val + 4) * 704 + l.val = 2816 + j.val; omega))

theorem at89 (p : Fin 4) (l : Fin 704) (i : Fin 8192) : val_main_v89 (F := Ideal) x0 x1 x2 (ix3 p l i)
    = ((gated (hid (X i) g) (uSlab wu) p l : ℝ) : EReal) := by
  rw [gated_col (X i) p l (colD p l) rfl]
  pointwise [val_main_v89, val_main_v88, val_main_v87]
  exact at17 H i (colD p l)

theorem at22 (i : Fin 8192) (k : Fin 1024) : val_main_v22 (F := Ideal) x0 x1 x2 x3 (ix2 i k) = ((rowY X g wu wd i k : ℝ) : EReal) := by
  pointwise [val_main_v22, val_main_v21]
  simp only [at17 H, H.h0, H.h3, lift_mul, lift_sum, lift_add]
  refine congrArg Real.toEReal ?_
  have e : rowY X g wu wd i k = X i k + ∑ p : Fin 4, ∑ l : Fin 704, gated (hid (X i) g) (uSlab wu) p l * dSlab wd p l k := by
    rw [Fin.sum_univ_four, ← add_assoc, ← add_assoc, ← add_assoc]
    rfl
  rw [e]
  refine congrArg (X i k + ·) (Fin.sum_mul_add_congr (S := 4) (n := 704) (fun p l hl => ?_) rfl).symm
  exact congrArg₂ (· * ·) (gated_col (X i) p l _ rfl) rfl

/-! ## The loss, and the last norm's backward pass -/

theorem at29 (i : Fin 8192) (j : Fin 1) : val_main_v29 (F := Ideal) x0 x1 x2 x3 (ix2 i j)
    = ((mean (fun k => rowY X g wu wd i k * rowY X g wu wd i k) + eps : ℝ) : EReal) := by
  pointwise [val_main_v29, val_main_v28, val_main_v27, val_main_v26, val_main_v25, val_main_v24, val_main_v23, val_main_cst_3, val_main_cst_4,
    val_main_cst_5]
  simp only [at22 H, const_1024, const_eps, lift_mul, lift_sum, zero_add, lift_add, lift_div _ _ (by norm_num : (1024 : ℝ) ≠ 0)]
  rfl

theorem at30 (i : Fin 8192) (j : Fin 1) : val_main_v30 (F := Ideal) x0 x1 x2 x3 (ix2 i j) = ((rms (rowY X g wu wd i) : ℝ) : EReal) := by
  pointwise [val_main_v30]
  rw [at29 H]
  exact lift_rsqrt _ (rms_arg_pos _)

theorem at33 (i : Fin 8192) (j : Fin 1) : val_main_v33 (F := Ideal) x0 x1 x2 x3 (ix2 i j)
    = ((-1 / 2 * (rms (rowY X g wu wd i) / (mean (fun k => rowY X g wu wd i k * rowY X g wu wd i k) + eps)) : ℝ) : EReal) := by
  pointwise [val_main_v33, val_main_v32, val_main_v31, val_main_cst_6]
  simp only [at29 H, at30 H, const_neg_half, lift_div _ _ (rms_arg_pos _).ne', lift_mul]

theorem at35 (i : Fin 8192) (k : Fin 1024) : val_main_v35 (F := Ideal) x0 x1 x2 x3 (ix2 i k)
    = ((rowY X g wu wd i k * rms (rowY X g wu wd i) : ℝ) : EReal) := by
  pointwise [val_main_v35, val_main_v34]
  simp only [at22 H, at30 H, lift_mul]

theorem at39 (i : Fin 8192) (k : Fin 1024) : val_main_v39 (F := Ideal) x0 x1 x2 x3 x4 x5 (ix2 i k)
    = ((err (rowY X g wu wd i) gf (T i) k : ℝ) : EReal) := by
  pointwise [val_main_v39, val_main_v38, val_main_v37, val_main_v36]
  simp only [at35 H, H.h4, H.h5, lift_mul, lift_sub]
  rfl

theorem at53 (i : Fin 8192) (k : Fin 1024) : val_main_v53 (F := Ideal) x0 x1 x2 x3 x4 x5 (ix2 i k)
    = ((dErr (rowY X g wu wd i) gf (T i) k : ℝ) : EReal) := by
  pointwise [val_main_v53, val_main_v52, val_main_v51, val_main_v50, val_main_v49, val_main_v48, val_main_v42, val_main_v41, val_main_cst_7,
    val_main_cst_12, val_main_cst_13, val_main_cst_14]
  simp only [at39 H, const_half, const_1024, const_two, lift_one, lift_mul, lift_div _ _ (by norm_num : (1024 : ℝ) ≠ 0)]
  refine congrArg Real.toEReal ?_
  unfold dErr
  ring

theorem at58 (i : Fin 8192) (k : Fin 1024) : val_main_v58 (F := Ideal) x0 x1 x2 x3 x4 x5 (ix2 i k)
    = ((dErr (rowY X g wu wd i) gf (T i) k * gf k : ℝ) : EReal) := by
  pointwise [val_main_v58, val_main_v57, val_main_v36]
  simp only [at53 H, H.h4, lift_mul]

/-- The derivative of a row's mean square. -/
def dMs (y gf t : Fin 1024 → ℝ) : ℝ :=
  (∑ k, y k * (dErr y gf t k * gf k)) * (-1 / 2 * (rms y / (mean (fun k => y k * y k) + eps))) / 1024

theorem at69 (i : Fin 8192) (k : Fin 1024) : val_main_v69 (F := Ideal) x0 x1 x2 x3 x4 x5 (ix2 i k)
    = ((dMs (rowY X g wu wd i) gf (T i) : ℝ) : EReal) := by
  pointwise [val_main_v69, val_main_v68, val_main_v67, val_main_v66, val_main_v65, val_main_v62, val_main_v61, val_main_v60, val_main_cst_17,
    val_main_cst_18, val_main_cst_19]
  simp only [at58 H, at33 H, at22 H, const_1024, lift_mul, lift_sum, zero_add, lift_div _ _ (by norm_num : (1024 : ℝ) ≠ 0)]
  simp [dMs]

theorem at73 (i : Fin 8192) (k : Fin 1024) : val_main_v73 (F := Ideal) x0 x1 x2 x3 x4 x5 (ix2 i k)
    = ((dOut (rowY X g wu wd i) gf (T i) k : ℝ) : EReal) := by
  pointwise [val_main_v73, val_main_v72, val_main_v71, val_main_v70, val_main_v64, val_main_v63]
  simp only [at58 H, at69 H, at30 H, at22 H, lift_mul, lift_add]
  refine congrArg Real.toEReal ?_
  unfold dOut
  rw [← rmsBwd_steps (rowY X g wu wd i) _ k (dMs (rowY X g wu wd i) gf (T i)) rfl]

theorem at90 (i : Fin 8192) (k : Fin 1024) : val_main_v90 (F := Ideal) x0 x1 x2 x3 x4 x5 (ix2 i k)
    = ((dOut (rowY X g wu wd i) gf (T i) k : ℝ) : EReal) := by
  pointwise [val_main_v90]
  exact at73 H i k

theorem at80 (z : Fin 1) (k : Fin 1024) : val_main_v80 (F := Ideal) x0 x1 x2 x3 x4 x5 (ix2 z k)
    = ((∑ r, dScale (rowY X g wu wd r) gf (T r) k : ℝ) : EReal) := by
  pointwise [val_main_v80, val_main_v59, val_main_v56, val_main_v55, val_main_v54, val_main_cst_15, val_main_cst_16]
  simp only [at35 H, at53 H, lift_mul, lift_sum, zero_add]
  refine congrArg Real.toEReal ?_
  simp [dScale, mul_comm]

/-- The loss. -/
theorem at47 (y : S_.Idx) : val_main_v47 (F := Ideal) x0 x1 x2 x3 x4 x5 y = ((∑ r, lossRow (rowY X g wu wd r) gf (T r) : ℝ) : EReal) := by
  pointwise [val_main_v47, val_main_v46, val_main_v45, val_main_v44, val_main_v43, val_main_v40, val_main_cst_8, val_main_cst_9, val_main_cst_10,
    val_main_cst_11]
  simp only [at39 H, const_half, const_1024, lift_mul, lift_sum, zero_add, lift_div _ _ (by norm_num : (1024 : ℝ) ≠ 0)]
  refine congrArg Real.toEReal ?_
  rw [Finset.mul_sum]
  exact Finset.sum_congr rfl fun r _ => by unfold lossRow; ring

theorem at82 (z : Fin 1) (k : Fin 1024) : val_main_v82 (F := Ideal) x0 x1 x2 x3 x4 x5 (ix2 z k)
    = ((∑ r, (if k = 0 then lossRow (rowY X g wu wd r) gf (T r) else 0) : ℝ) : EReal) := by
  pointwise [val_main_v82, val_main_v81, val_main_call3_v2, val_main_call3_v1, val_main_call3_v0, val_main_cst_20, val_main_v79, val_main_v78,
    val_main_v77, val_main_c]
  simp only [at47 H, id_eq]
  pointwise
  exact first_column k (fun r => lossRow (rowY X g wu wd r) gf (T r)) _ rfl

theorem at84 (q : Fin 8) (k : Fin 1024) : val_main_v84 (F := Ideal) x0 x1 x2 x3 x4 x5 (ix2 q k)
    = ((∑ r, part q (rowY X g wu wd r) gf (T r) k : ℝ) : EReal) := by
  have hz : ∀ q : Fin 8, 2 ≤ q.val → (0 : EReal) = ((∑ r, part q (rowY X g wu wd r) gf (T r) k : ℝ) : EReal) := fun q hq => by
    simp [part, show ¬q.val = 1 by omega, show ¬q.val = 0 by omega]
  fin_cases q <;> pointwise [val_main_v84, val_main_v83, val_main_cst_21]
  · exact at80 H 0 k
  · exact at82 H 0 k
  · exact hz 2 (by decide)
  · exact hz 3 (by decide)
  · exact hz 4 (by decide)
  · exact hz 5 (by decide)
  · exact hz 6 (by decide)
  · exact hz 7 (by decide)

end Cert.FfnFinalRefIdeal.Stage

end
-- ==== Proof.FinPair.lean ====
/-
  The kernel `ffn_fwd1` and the reference's lines, with the derivatives they ask for, end with equal results, when the arguments are finite.
-/
module

public import proofs.«01_k».proof.Defs
public import proofs.«01_k».proof.Proof.Finite
public import proofs.«01_k».proof.Proof.FinRef
public import proofs.«01_k».proof.Proof.Gen.FfnFinalRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_finite8 : Cert.Pre_finite8.Facts where
  bcast_S_S8192x1024 := by decide
  bcast_S_S1024 := by decide
  bcast_S_S1024x5632 := by decide
  bcast_S_S2816x1024 := by decide

attribute [local instance] facts_finite8

section
open Cert.FfnFinalIdeal Cert.FfnFinalIdeal.Array

variable (m : (ℓ : Loc nD τ sig) → Buf (Elt Ideal) ℓ) (c : Dev nD)

/-- Under the precondition the arguments hold real arrays. -/
theorem fin_holds (h : Cert.Pre_FfnFinalIdeal_finite8 m) :
    Holds m c (fun i j => ((show FVec Ideal S8192x1024 .f32 from m ((c : Thread nD τ).loc main_arg0)) (ix2 i j)).toReal)
      (fun j => ((show FVec Ideal S1024 .f32 from m ((c : Thread nD τ).loc main_arg1)) (ix1 j)).toReal)
      (fun i j => ((show FVec Ideal S1024x5632 .f32 from m ((c : Thread nD τ).loc main_arg2)) (ix2 i j)).toReal)
      (fun i j => ((show FVec Ideal S2816x1024 .f32 from m ((c : Thread nD τ).loc main_arg3)) (ix2 i j)).toReal)
      (fun j => ((show FVec Ideal S1024 .f32 from m ((c : Thread nD τ).loc main_arg4)) (ix1 j)).toReal)
      (fun i j => ((show FVec Ideal S8192x1024 .f32 from m ((c : Thread nD τ).loc main_arg5)) (ix2 i j)).toReal) :=
  have ⟨e0, e1, e2, e3, e4, e5⟩ := h c
  ⟨fun i j => Cert.Finite.real_of_pre e0 _, fun j => Cert.Finite.real_of_pre e1 _, fun i j => Cert.Finite.real_of_pre e2 _,
    fun i j => Cert.Finite.real_of_pre e3 _, fun j => Cert.Finite.real_of_pre e4 _, fun i j => Cert.Finite.real_of_pre e5 _⟩

/-- The same of the reference's stages. -/
theorem fin_args {X T : Fin 8192 → Fin 1024 → ℝ} {g gf : Fin 1024 → ℝ} {wu : Fin 1024 → Fin 5632 → ℝ} {wd : Fin 2816 → Fin 1024 → ℝ}
    (H : Holds m c X g wu wd gf T) :
    Cert.FfnFinalRefIdeal.Stage.Args (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) X g wu wd gf T :=
  ⟨H.h0, H.h1, H.h2, H.h3, H.h4, H.h5⟩

end

section
open Cert.FfnFinalRefIdeal

/-- The reference ends with its arguments unchanged; it has no semaphore. -/
theorem fin_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨fun c => (h c).2.2.2.2.2, sem_eq_zero_of_no_sems rfl _⟩) (Value.run m ρ)

end

set_option maxHeartbeats 4000000 in
theorem fin_algebraic : Cert.algebraic_FfnFinalIdeal_FfnFinalRefIdeal_pre_finite8
    (hFfnFinalIdeal := Cert.FfnFinalIdeal.Gen.facts) (hFfnFinalRefIdeal := Cert.FfnFinalRefIdeal.Gen.facts) := by
  pair_intro
  · run_from Cert.FfnFinalIdeal.Gen.run_main m g
  · run_from Cert.FfnFinalRefIdeal.Value.run m' g'
    · obtain ⟨a0, a1, a2, a3, a4, a5⟩ := hagree c
      rw [Cert.FfnFinalRefIdeal.Read.val_main_v86_eq, a0, a1, a2, Cert.FfnFinalIdeal.Array.final_6 m c (fin_holds m c hpre)]
      funext y
      idx_vars y
      exact Cert.FfnFinalRefIdeal.Stage.at86 (fin_args m c (fin_holds m c hpre)) _ _ _
    · obtain ⟨a0, a1, a2, a3, a4, a5⟩ := hagree c
      rw [Cert.FfnFinalRefIdeal.Read.val_main_v89_eq, Cert.FfnFinalIdeal.Array.final_7 m c (fin_holds m c hpre)]
      funext y
      idx_vars y
      exact Cert.FfnFinalRefIdeal.Stage.at89 (fin_args m c (fin_holds m c hpre)) _ _ _
    · obtain ⟨a0, a1, a2, a3, a4, a5⟩ := hagree c
      rw [Cert.FfnFinalRefIdeal.Read.val_main_v73_eq, a0, a1, a2, a3, a4, a5, Cert.FfnFinalIdeal.Array.final_8 m c (fin_holds m c hpre)]
      funext y
      idx_vars y
      exact Cert.FfnFinalRefIdeal.Stage.at73 (fin_args m c (fin_holds m c hpre)) _ _
    · obtain ⟨a0, a1, a2, a3, a4, a5⟩ := hagree c
      rw [Cert.FfnFinalRefIdeal.Read.val_main_v90_eq, a0, a1, a2, a3, a4, a5, Cert.FfnFinalIdeal.Array.final_9 m c (fin_holds m c hpre)]
      funext y
      idx_vars y
      exact Cert.FfnFinalRefIdeal.Stage.at90 (fin_args m c (fin_holds m c hpre)) _ _
    · obtain ⟨a0, a1, a2, a3, a4, a5⟩ := hagree c
      rw [Cert.FfnFinalRefIdeal.Read.val_main_v84_eq, a0, a1, a2, a3, a4, a5, Cert.FfnFinalIdeal.Array.final_10 m c (fin_holds m c hpre)]
      funext y
      idx_vars y
      exact Cert.FfnFinalRefIdeal.Stage.at84 (fin_args m c (fin_holds m c hpre)) _ _

end Cert.Proof

end
-- ==== Proof.RopeBlock.lean ====
/-
  The turning back of the first sixteen columns of every group of sixty-four, and one grid point of the kernel `attn_pre_bwd`: its stored
  values, element by element, when the loaded blocks hold real numbers.
-/
module

public import proofs.«01_k».proof.Proof.Gen.AttnPreBwdIdeal.Skeleton
public import proofs.«01_k».proof.Proof.Reals
public import Idealize.ShloMosaic.Lib.KernelVsHost

@[expose] public section

set_option maxRecDepth 16384

noncomputable section

open Idealize.ShloMosaic Idealize.ShloMosaic.TcCoe Idealize.SL.Sem

namespace Cert.Rope

open Cert.Reals

variable {W : ℕ}

/-- The factors of a column itself, by 128 lanes. -/
def cT (c : Fin 8 → ℝ) (l : ℕ) : ℝ := if l % 64 < 16 then c ⟨l % 8, Nat.mod_lt _ (by norm_num)⟩ else 1
/-- The factors of what moves eight columns up. -/
def aT (s : Fin 8 → ℝ) (l : ℕ) : ℝ := if l % 64 < 8 then -s ⟨l % 8, Nat.mod_lt _ (by norm_num)⟩ else 0
/-- The factors of what moves eight columns down. -/
def bT (s : Fin 8 → ℝ) (l : ℕ) : ℝ := if l % 64 < 8 then 0 else if l % 64 < 16 then s ⟨l % 8, Nat.mod_lt _ (by norm_num)⟩ else 0

/-- The column eight after, around the end. -/
def up (j : Fin W) : Fin W := ⟨(j.val + 8) % W, Nat.mod_lt _ (Fin.pos j)⟩
/-- The column eight before, around the end. -/
def dn (j : Fin W) : Fin W := ⟨(j.val + W - 8) % W, Nat.mod_lt _ (Fin.pos j)⟩

/-- A row turned back: in every group of sixty-four columns the first eight and the next eight are the two coordinates, `c` and `s` the
    cosines and sines of their angles. -/
def unrot (c s : Fin 8 → ℝ) (z : Fin W → ℝ) (j : Fin W) : ℝ :=
  if j.val % 64 < 8 then z j * c ⟨j.val % 8, Nat.mod_lt _ (by norm_num)⟩ + z (up j) * s ⟨j.val % 8, Nat.mod_lt _ (by norm_num)⟩
  else if j.val % 64 < 16 then z j * c ⟨j.val % 8, Nat.mod_lt _ (by norm_num)⟩ - z (dn j) * s ⟨j.val % 8, Nat.mod_lt _ (by norm_num)⟩
  else z j

theorem up_mod (hW : W % 64 = 0) (j : Fin W) : (up j).val % 64 = (j.val + 8) % 64 := by
  have h := j.isLt
  show (j.val + 8) % W % 64 = _
  rw [Nat.mod_mod_of_dvd _ (Nat.dvd_of_mod_eq_zero hW)]

theorem dn_mod (hW : W % 64 = 0) (j : Fin W) : (dn j).val % 64 = (j.val + 56) % 64 := by
  have h := j.isLt
  show (j.val + W - 8) % W % 64 = _
  rw [Nat.mod_mod_of_dvd _ (Nat.dvd_of_mod_eq_zero hW)]
  omega

/-- The three tables together turn a row back. -/
theorem unrot_tables (hW : W % 64 = 0) (c s : Fin 8 → ℝ) (z : Fin W → ℝ) (j : Fin W) :
    z j * cT c j.val + z (dn j) * aT s (dn j).val + z (up j) * bT s (up j).val = unrot c s z j := by
  have hu := up_mod hW j
  have hd := dn_mod hW j
  have eu : ∀ y y', (⟨(up j).val % 8, y⟩ : Fin 8) = ⟨j.val % 8, y'⟩ := fun _ _ => Fin.ext (by show (up j).val % 8 = j.val % 8; omega)
  have ed : ∀ y y', (⟨(dn j).val % 8, y⟩ : Fin 8) = ⟨j.val % 8, y'⟩ := fun _ _ => Fin.ext (by show (dn j).val % 8 = j.val % 8; omega)
  unfold cT aT bT unrot
  by_cases h : j.val % 64 < 8
  · rw [if_pos h, if_pos (by omega), if_neg (by omega), if_neg (by omega), if_pos (by omega), eu _ (Nat.mod_lt _ (by norm_num))]; ring
  · rw [if_neg h]
    by_cases h' : j.val % 64 < 16
    · rw [if_pos h', if_pos h', if_pos (by omega), ed _ (Nat.mod_lt _ (by norm_num))]
      by_cases h8 : (up j).val % 64 < 8
      · rw [if_pos h8]; ring
      · rw [if_neg h8, if_neg (by omega)]; ring
    · rw [if_neg h', if_neg h', if_neg (by omega)]
      by_cases h8 : (up j).val % 64 < 8
      · rw [if_pos h8]; ring
      · rw [if_neg h8, if_neg (by omega)]; ring

/-- A turned row, as a block of 512 rows computes it: `n` and `k` are the two moves. -/
theorem unrot_at {Z C A B : FVec Ideal ⟨2, ![512, W]⟩ .f32} {z : Fin 512 → Fin W → ℝ} {c s : Fin 512 → Fin 8 → ℝ} (hW : W % 64 = 0) (h8 : 8 < W)
    (hZ : ∀ i j, Z (ix2 i j) = (z i j : EReal)) (hC : ∀ i j, C (ix2 i j) = (cT (c i) j.val : EReal))
    (hA : ∀ i j, A (ix2 i j) = (aT (s i) j.val : EReal)) (hB : ∀ i j, B (ix2 i j) = (bT (s i) j.val : EReal)) (n k : BitVec 32)
    (hn : n.toNat % W = 8) (hk : k.toNat % W = W - 8) (h : Shape.Rotates (⟨2, ![512, W]⟩ : Shape) 1 none) (i : Fin 512) (j : Fin W) :
    addf (F := Ideal) (addf (mulf Z C) (dynamicRotate 1 n none (mulf Z A) h)) (dynamicRotate 1 k none (mulf Z B) h) (ix2 i j)
      = ((unrot (c i) (s i) (z i) j : ℝ) : EReal) := by
  have r : ∀ (q : BitVec 32) (Y : FVec Ideal ⟨2, ![512, W]⟩ .f32) (l : Fin W) (hl : l.val = (j.val + W - q.toNat % W) % W),
      dynamicRotate 1 q none Y h (ix2 i j) = Y (ix2 i l) := fun q Y l hl =>
    dynamicRotate_apply 1 q Y h (ix2 i j) (ix2 i l) fun b => by
      fin_cases b
      · rfl
      · exact hl
  show mulf Z C (ix2 i j) + dynamicRotate 1 n none (mulf Z A) h (ix2 i j) + dynamicRotate 1 k none (mulf Z B) h (ix2 i j) = _
  rw [r n _ (dn j) (by rw [hn]; rfl), r k _ (up j) (by rw [hk]; show (j.val + 8) % W = _; congr 1; omega)]
  show Z (ix2 i j) * C (ix2 i j) + Z (ix2 i (dn j)) * A (ix2 i (dn j)) + Z (ix2 i (up j)) * B (ix2 i (up j)) = _
  rw [hZ, hZ, hZ, hC, hA, hB, lift_mul, lift_mul, lift_mul, lift_add, lift_add, unrot_tables hW]

/-- The lanes repeat the tables. -/
theorem cT_lane (c : Fin 8 → ℝ) (l : ℕ) : cT c (l % 128) = cT c l := by
  unfold cT; simp only [show l % 128 % 64 = l % 64 by omega, show l % 128 % 8 = l % 8 by omega]
theorem aT_lane (c : Fin 8 → ℝ) (l : ℕ) : aT c (l % 128) = aT c l := by
  unfold aT; simp only [show l % 128 % 64 = l % 64 by omega, show l % 128 % 8 = l % 8 by omega]
theorem bT_lane (c : Fin 8 → ℝ) (l : ℕ) : bT c (l % 128) = bT c l := by
  unfold bT; simp only [show l % 128 % 64 = l % 64 by omega, show l % 128 % 8 = l % 8 by omega]

end Cert.Rope

namespace Cert.AttnPreBwdIdeal.Block

open Cert.AttnPreBwdIdeal Cert.AttnPreBwdIdeal.Gen Cert.Reals Cert.Rope

variable {X : FVec Ideal S512x1024 .f32} {G : FVec Ideal S1x1024 .f32} {x : Fin 512 → Fin 1024 → ℝ} {g : Fin 1024 → ℝ}

/-! ## The norm -/

theorem pay12 (hX : ∀ i j, X (ix2 i j) = (x i j : EReal)) (i : Fin 512) (j : Fin 1) :
    k0_pay12 (F := Ideal) X (ix2 i j) = ((rms (x i) : ℝ) : EReal) := by
  pointwise [k0_pay12]
  simp only [hX, const_1024, const_eps, lift_sum, lift_mul, lift_add, lift_div _ _ (by norm_num : (1024 : ℝ) ≠ 0)]
  exact lift_rsqrt _ (rms_arg_pos _)

theorem pay13 (hX : ∀ i j, X (ix2 i j) = (x i j : EReal)) (i : Fin 512) (j : Fin 1024) :
    k0_pay13 (F := Ideal) X (ix2 i j) = ((x i j * rms (x i) : ℝ) : EReal) := by
  pointwise [k0_pay13]
  simp only [hX, pay12 hX, lift_mul]

theorem pay14 (hX : ∀ i j, X (ix2 i j) = (x i j : EReal)) (hG : ∀ i j, G (ix2 i j) = (g j : EReal)) (j : Fin 1024) (i : Fin 512) :
    k0_pay14 (F := Ideal) G X (ix2 j i) = ((x i j * rms (x i) * g j : ℝ) : EReal) := by
  pointwise [k0_pay14, k0_pay11]
  simp only [pay13 hX, hG, lift_mul]

/-! ## The rows turned back -/

variable {C A B : FVec Ideal S512x128 .f32} {c s : Fin 512 → Fin 8 → ℝ}

/-- A table repeated to the queries' width. -/
def lanes8 (v : FVec Ideal S512x128 .f32) : FVec Ideal S512x1024 .f32 :=
  concatenate S512x1024 1 [⟨S512x128, v⟩, ⟨S512x128, v⟩, ⟨S512x128, v⟩, ⟨S512x128, v⟩, ⟨S512x128, v⟩, ⟨S512x128, v⟩, ⟨S512x128, v⟩, ⟨S512x128, v⟩]
    concatenates_S512x128_S512x128_S512x128_S512x128_S512x128_S512x128_S512x128_S512x128_S512x1024_d1

theorem lanes8_at (v : FVec Ideal S512x128 .f32) (i : Fin 512) (j : Fin 1024) :
    lanes8 v (ix2 i j) = v (ix2 i ⟨j.val % 128, Nat.mod_lt _ (by norm_num)⟩) := by
  pointwise [lanes8]
  split_ifs <;> exact congrArg (fun l => v (ix2 i l)) (Fin.ext (by dsimp only; omega))

/-- A table repeated to the keys' width. -/
def lanes2 (v : FVec Ideal S512x128 .f32) : FVec Ideal S512x256 .f32 :=
  concatenate S512x256 1 [⟨S512x128, v⟩, ⟨S512x128, v⟩] concatenates_S512x128_S512x128_S512x256_d1

theorem lanes2_at (v : FVec Ideal S512x128 .f32) (i : Fin 512) (j : Fin 256) :
    lanes2 v (ix2 i j) = v (ix2 i ⟨j.val % 128, Nat.mod_lt _ (by norm_num)⟩) := by
  pointwise [lanes2]
  split_ifs <;> exact congrArg (fun l => v (ix2 i l)) (Fin.ext (by dsimp only; omega))

/-- The four blocks of the queries' derivative, side by side, transposed and scaled. -/
def queries (v9 v11 v13 v15 : FVec Ideal S1x1024x128 .bf16) : FVec Ideal S512x1024 .bf16 :=
  mulf (transpose S512x1024 [1, 0] (concatenate S1024x512 1 [⟨S1024x128, shapeCast S1024x128 v9 shapeCasts_S1x1024x128_S1024x128⟩,
      ⟨S1024x128, shapeCast S1024x128 v11 shapeCasts_S1x1024x128_S1024x128⟩, ⟨S1024x128, shapeCast S1024x128 v13 shapeCasts_S1x1024x128_S1024x128⟩,
      ⟨S1024x128, shapeCast S1024x128 v15 shapeCasts_S1x1024x128_S1024x128⟩]
      concatenates_S1024x128_S1024x128_S1024x128_S1024x128_S1024x512_d1) transposes_S1024x512_p1_0_S512x1024)
    (broadcast S512x1024 (Scalar.ofBits .bf16 0x3E00#16))

theorem const_eighth16 : Ideal.ofBits .bf16 0x3E00#16 = ((1 / 8 : ℝ) : EReal) := by
  simp [Ideal.ofBits, Ideal.ieee, -EReal.coe_mul]; norm_num

theorem queries_at {v9 v11 v13 v15 : FVec Ideal S1x1024x128 .bf16} {z : Fin 512 → Fin 1024 → ℝ}
    (h0 : ∀ y j l, v9 (ix3 y j l) = (z ⟨l.val, by omega⟩ j : EReal)) (h1 : ∀ y j l, v11 (ix3 y j l) = (z ⟨128 + l.val, by omega⟩ j : EReal))
    (h2 : ∀ y j l, v13 (ix3 y j l) = (z ⟨256 + l.val, by omega⟩ j : EReal)) (h3 : ∀ y j l, v15 (ix3 y j l) = (z ⟨384 + l.val, by omega⟩ j : EReal))
    (i : Fin 512) (j : Fin 1024) : queries v9 v11 v13 v15 (ix2 i j) = ((z i j * (1 / 8) : ℝ) : EReal) := by
  pointwise [queries]
  rw [const_eighth16, ← lift_mul]
  congr 1
  split_ifs <;> first
    | exact (h0 _ _ _).trans (congrArg (fun l => ((z l j : ℝ) : EReal)) (Fin.ext (by dsimp only)))
    | exact (h1 _ _ _).trans (congrArg (fun l => ((z l j : ℝ) : EReal)) (Fin.ext (by dsimp only; omega)))
    | exact (h2 _ _ _).trans (congrArg (fun l => ((z l j : ℝ) : EReal)) (Fin.ext (by dsimp only; omega)))
    | exact (h3 _ _ _).trans (congrArg (fun l => ((z l j : ℝ) : EReal)) (Fin.ext (by dsimp only; omega)))

/-- The tables of one grid point. -/
structure Tables (C A B : FVec Ideal S512x128 .f32) (c s : Fin 512 → Fin 8 → ℝ) : Prop where
  hC : ∀ i l, C (ix2 i l) = (cT (c i) l.val : EReal)
  hA : ∀ i l, A (ix2 i l) = (aT (s i) l.val : EReal)
  hB : ∀ i l, B (ix2 i l) = (bT (s i) l.val : EReal)

theorem pay5 (v : FVec Ideal S512x128 .f32) : k0_pay5 (F := Ideal) v = v := by
  funext y; idx_vars y; pointwise [k0_pay5]

theorem pay8 (T : Tables C A B c s) {v9 v11 v13 v15 : FVec Ideal S1x1024x128 .bf16} {z : Fin 512 → Fin 1024 → ℝ}
    (hz : ∀ i j, queries v9 v11 v13 v15 (ix2 i j) = (z i j : EReal)) (i : Fin 512) (j : Fin 1024) :
    k0_pay8 (F := Ideal) C A B v9 v11 v13 v15 (ix2 i j) = ((unrot (c i) (s i) (z i) j : ℝ) : EReal) := by
  show addf (F := Ideal) (addf (mulf (extf .f32 (queries v9 v11 v13 v15) bitsLt_bf16_f32) (lanes8 (k0_pay5 C)))
      (dynamicRotate 1 8#32 none (mulf (extf .f32 (queries v9 v11 v13 v15) bitsLt_bf16_f32) (lanes8 (k0_pay5 A))) rotates_S512x1024_d1))
    (dynamicRotate 1 1016#32 none (mulf (extf .f32 (queries v9 v11 v13 v15) bitsLt_bf16_f32) (lanes8 (k0_pay5 B))) rotates_S512x1024_d1) (ix2 i j) = _
  rw [pay5, pay5, pay5]
  exact unrot_at (by norm_num) (by norm_num) hz (fun i j => (lanes8_at C i j).trans ((T.hC _ _).trans (congrArg Real.toEReal (cT_lane _ _))))
    (fun i j => (lanes8_at A i j).trans ((T.hA _ _).trans (congrArg Real.toEReal (aT_lane _ _))))
    (fun i j => (lanes8_at B i j).trans ((T.hB _ _).trans (congrArg Real.toEReal (bT_lane _ _)))) _ _ rfl rfl _ i j

theorem pay9 (T : Tables C A B c s) {K : FVec Ideal S512x256 .f32} {z : Fin 512 → Fin 256 → ℝ}
    (hz : ∀ i j, K (ix2 i j) = (z i j : EReal)) (i : Fin 512) (j : Fin 256) :
    k0_pay9 (F := Ideal) (k0_pay5 C) (k0_pay6 A) (k0_pay7 B) K (ix2 i j) = ((unrot (c i) (s i) (z i) j : ℝ) : EReal) := by
  have e : shapeCast S512x256 K shapeCasts_S512x256_S512x256 = K := by funext y; idx_vars y; pointwise
  show addf (F := Ideal) (addf (mulf (shapeCast S512x256 K shapeCasts_S512x256_S512x256) (lanes2 (k0_pay5 C)))
      (dynamicRotate 1 8#32 none (mulf (shapeCast S512x256 K shapeCasts_S512x256_S512x256) (lanes2 (k0_pay5 A))) rotates_S512x256_d1))
    (dynamicRotate 1 248#32 none (mulf (shapeCast S512x256 K shapeCasts_S512x256_S512x256) (lanes2 (k0_pay5 B))) rotates_S512x256_d1) (ix2 i j) = _
  rw [pay5, pay5, pay5, e]
  exact unrot_at (by norm_num) (by norm_num) hz (fun i j => (lanes2_at C i j).trans ((T.hC _ _).trans (congrArg Real.toEReal (cT_lane _ _))))
    (fun i j => (lanes2_at A i j).trans ((T.hA _ _).trans (congrArg Real.toEReal (aT_lane _ _))))
    (fun i j => (lanes2_at B i j).trans ((T.hB _ _).trans (congrArg Real.toEReal (bT_lane _ _)))) _ _ rfl rfl _ i j

theorem pay10 (K : FVec Ideal S512x256 .f32) (i : Fin 512) (j : Fin 256) : k0_pay10 (F := Ideal) K (ix2 i j) = K (ix2 i j) := by
  pointwise [k0_pay10]

/-! ## The product and the norm's derivative -/

variable {Q : FVec Ideal S512x1536 .bf16} {M : FVec Ideal S1024x1536 .bf16} {Y : FVec Ideal S512x1024 .f32} {q : Fin 512 → Fin 1536 → ℝ}
  {w : Fin 1024 → Fin 1536 → ℝ} {d : Fin 512 → Fin 1024 → ℝ}

/-- A row's derivative through the matrix. -/
def dIn (q : Fin 1536 → ℝ) (w : Fin 1024 → Fin 1536 → ℝ) (k : Fin 1024) : ℝ := ∑ j, q j * w k j

theorem pay1 (hQ : ∀ i j, Q (ix2 i j) = (q i j : EReal)) (hM : ∀ k j, M (ix2 k j) = (w k j : EReal)) (i : Fin 512) (k : Fin 1024) :
    k0_pay1 (F := Ideal) Q M (ix2 i k) = ((dIn (q i) w k : ℝ) : EReal) := by
  pointwise [k0_pay1]
  simp only [hQ, hM, zero_add, lift_mul, lift_sum]
  rfl

theorem pay2 (hQ : ∀ i j, Q (ix2 i j) = (q i j : EReal)) (hM : ∀ k j, M (ix2 k j) = (w k j : EReal))
    (hX : ∀ i j, X (ix2 i j) = (x i j : EReal)) (hG : ∀ i j, G (ix2 i j) = (g j : EReal)) (hY : ∀ i j, Y (ix2 i j) = (d i j : EReal))
    (i : Fin 512) (k : Fin 1024) :
    k0_pay2 (F := Ideal) (k0_pay11 G) (k0_pay12 X) (k0_pay13 X) Q M Y (ix2 i k)
      = ((d i k + rmsBwd (x i) (fun k => dIn (q i) w k * g k) k : ℝ) : EReal) := by
  pointwise [k0_pay2, k0_pay11]
  simp only [pay1 hQ hM, pay12 hX, pay13 hX, hG, hY, const_1024, lift_sub, lift_add, lift_mul, lift_sum, lift_div _ _ (by norm_num : (1024 : ℝ) ≠ 0)]
  rfl

theorem pay3 (hQ : ∀ i j, Q (ix2 i j) = (q i j : EReal)) (hM : ∀ k j, M (ix2 k j) = (w k j : EReal))
    (hX : ∀ i j, X (ix2 i j) = (x i j : EReal)) (S : FVec Ideal S1x1024 .f32) (i : Fin 1) (k : Fin 1024) :
    k0_pay3 (F := Ideal) (k0_pay13 X) Q M S (ix2 i k)
      = S (ix2 i k) + ∑ r : Fin 512, ((dIn (q r) w k * (x r k * rms (x r)) : ℝ) : EReal) := by
  pointwise [k0_pay3]
  simp only [pay1 hQ hM, pay13 hX, lift_mul]

end Cert.AttnPreBwdIdeal.Block

end
-- ==== Proof.RopeArray.lean ====
/-
  What the kernel `attn_pre_bwd` leaves in its four result arrays, as a function of its real arguments. The whole program pads the keys'
  and the values' derivatives by 512 rows on both sides and computes the tables of cosines and sines before the kernel.
-/
module

public import proofs.«01_k».proof.Proof.Gen.AttnPreBwdIdeal.Value
public import Idealize.ShloMosaic.Lib.Pipeline.ValueKit
public import Idealize.ShloMosaic.Lib.StableHlo.RunRead
public import proofs.«01_k».proof.Proof.RopeBlock
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.Rope

open Cert.Reals

/-- The angle of a row's pair of columns. -/
def ang (r : Fin 8192) (k : Fin 8) : ℝ :=
  ((BitVec.ofNat 32 r.val).toInt : ℝ) * Real.rpow 500000 (-(2 * ((BitVec.ofNat 32 k.val).toInt : ℝ)) / 16)

/-- The cosines of a row. -/
def co (r : Fin 8192) (k : Fin 8) : ℝ := Real.cos (ang r k)
/-- The sines of a row. -/
def si (r : Fin 8192) (k : Fin 8) : ℝ := Real.sin (ang r k)

/-- The derivative of a row's product with the matrix: the queries' columns, the keys' and the values'. -/
def col (Q : Fin 8192 → Fin 1024 → ℝ) (K V : Fin 8192 → Fin 256 → ℝ) (r : Fin 8192) (j : Fin 1536) : ℝ :=
  if h : j.val < 1024 then unrot (co r) (si r) (fun j => Q r j * (1 / 8)) ⟨j.val, h⟩
  else if h : j.val < 1280 then unrot (co r) (si r) (K r) ⟨j.val - 1024, by omega⟩ else V r ⟨j.val - 1280, by omega⟩

theorem const_16 : Ideal.ofBits .f32 0x41800000#32 = ((16 : ℝ) : EReal) := by
  simp [Ideal.ofBits, Ideal.ieee, -EReal.coe_mul]; norm_num
theorem const_theta : Ideal.ofBits .f32 0x48F42400#32 = ((500000 : ℝ) : EReal) := by
  simp [Ideal.ofBits, Ideal.ieee, -EReal.coe_mul]; norm_num

end Cert.Rope

namespace Cert.AttnPreBwdIdeal.Array

open Cert.AttnPreBwdIdeal Cert.AttnPreBwdIdeal.Gen Cert.AttnPreBwdIdeal.Block Cert.Reals Cert.Rope

variable (m : (ℓ : Loc nD τ sig) → Buf (Elt Ideal) ℓ)

theorem idx_val : ∀ t : Fin cfg0.N, win0_0.index t = ![t.val, 0, 0]
    ∧ win0_1.index t = ![t.val + 1, 0]
    ∧ win0_2.index t = ![t.val + 1, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![0, t.val]
    ∧ win0_12.index t = ![t.val, 0]
    ∧ win0_13.index t = ![0, 0] :=
  (by decide +kernel : ∀ t : Fin grid0.N, _)

/-- The row of the array that row `i` of grid point `t`'s block is. -/
def row (t : Fin cfg0.N) (i : Fin 512) : Fin 8192 :=
  ⟨t.val * 512 + i.val, by have := t.isLt; have h : cfg0.N = 16 := N_0; omega⟩

/-! ## The tables -/

/-- The angles, as the whole program computes them. -/
def angV : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
            (mulf (broadcastInDim S8 ![] bcast_S_S8 (constant S_ .f32 0x40000000#32)) (sitofp .f32 (iotaInDim S8 32 0)))))
          (broadcastInDim S8 ![] bcast_S_S8 (constant S_ .f32 0x41800000#32))))))

theorem angV_at (r : Fin 8192) (k : Fin 8) : angV (ix2 r k) = ((ang r k : ℝ) : EReal) := by
  pointwise [angV]
  have hs : ∀ b : BitVec 32, (FloatOps.sitofp (F := Ideal) .f32 b : EReal) = ((b.toInt : ℝ) : EReal) := fun b => rfl
  simp only [hs, const_16, const_theta, const_two, zero_add, lift_mul, lift_neg, lift_div _ _ (by norm_num : (16 : ℝ) ≠ 0)]
  rfl

/-- A table of 128 lanes: two repetitions of two groups of eight columns and one of forty-eight. -/
def tabV (p q : FVec Ideal S8192x8 .f32) (o : BitVec 32) : FVec Ideal S8192x128 .f32 :=
  fun i => shapeCast S8192x128 (broadcastInDim S1x8192x2x64 ![0, 1, 2, 3] bcast_S1x8192x1x64_S1x8192x2x64_0_1_2_3
    (fun i => shapeCast S1x8192x1x64 (concatenate S8192x64 1 [⟨S8192x8, p⟩, ⟨S8192x8, q⟩,
      ⟨S8192x48, broadcastInDim S8192x48 ![] bcast_S_S8192x48 (constant (F := Ideal) S_ .f32 o)⟩] concatenates_S8192x8_S8192x8_S8192x48_S8192x64_d1)
      shapeCasts_S8192x64_S1x8192x1x64 i)) shapeCasts_S1x8192x2x64_S8192x128 i

theorem tabV_at (p q : FVec Ideal S8192x8 .f32) (o : BitVec 32) (r : Fin 8192) (l : Fin 128) :
    tabV p q o (ix2 r l) = if h : l.val % 64 < 8 then p (ix2 r ⟨l.val % 8, Nat.mod_lt _ (by norm_num)⟩)
      else if h : l.val % 64 < 16 then q (ix2 r ⟨l.val % 8, Nat.mod_lt _ (by norm_num)⟩) else Ideal.ofBits .f32 o := by
  pointwise [tabV]
  by_cases h : l.val % 64 < 8
  · rw [dif_pos h, dif_pos h]
    exact congrArg (fun k => p (ix2 r k)) (Fin.ext (by dsimp only; omega))
  · rw [dif_neg h, dif_neg h]
    by_cases h' : l.val % 64 < 16
    · rw [dif_pos (by omega), dif_pos h']
      exact congrArg (fun k => q (ix2 r k)) (Fin.ext (by dsimp only; omega))
    · rw [dif_neg (by omega), dif_neg h']

/-- The padded derivative, read inside the padding. -/
theorem pad_at (x : FVec Ideal S8192x256 .f32) (e e' : FVec Ideal S512x256 .f32) (i : Fin 9216) (r : Fin 8192) (h : i.val = 512 + r.val) (j : Fin 256) :
    concatenate S9216x256 0 [⟨S512x256, e⟩, ⟨S8192x256, x⟩, ⟨S512x256, e'⟩] concatenates_S512x256_S8192x256_S512x256_S9216x256_d0 (ix2 i j)
      = x (ix2 r j) := by
  pointwise
  rw [dif_neg (by omega), dif_pos (by omega)]
  exact congrArg (fun k => x (ix2 k j)) (Fin.ext (by dsimp only; omega))

variable {X Q D : Fin 8192 → Fin 1024 → ℝ} {g : Fin 1024 → ℝ} {w : Fin 1024 → Fin 1536 → ℝ} {K V' : Fin 8192 → Fin 256 → ℝ} (c : Dev nD)

/-- The arguments hold the real arrays `X`, `g`, `w`, `Q`, `K`, `V'`, `D`. -/
structure Holds (X : Fin 8192 → Fin 1024 → ℝ) (g : Fin 1024 → ℝ) (w : Fin 1024 → Fin 1536 → ℝ) (Q : Fin 8192 → Fin 1024 → ℝ)
    (K V' : Fin 8192 → Fin 256 → ℝ) (D : Fin 8192 → Fin 1024 → ℝ) : Prop where
  h0 : ∀ i j, (show FVec Ideal S8192x1024 .f32 from m ((c : Thread nD τ).loc main_arg0)) (ix2 i j) = (X i j : EReal)
  h1 : ∀ j, (show FVec Ideal S1024 .f32 from m ((c : Thread nD τ).loc main_arg1)) (ix1 j) = (g j : EReal)
  h2 : ∀ i j, (show FVec Ideal S1024x1536 .f32 from m ((c : Thread nD τ).loc main_arg2)) (ix2 i j) = (w i j : EReal)
  h3 : ∀ i j, (show FVec Ideal S8192x1024 .f32 from m ((c : Thread nD τ).loc main_arg3)) (ix2 i j) = (Q i j : EReal)
  h4 : ∀ i j, (show FVec Ideal S8192x256 .f32 from m ((c : Thread nD τ).loc main_arg4)) (ix2 i j) = (K i j : EReal)
  h5 : ∀ i j, (show FVec Ideal S8192x256 .f32 from m ((c : Thread nD τ).loc main_arg5)) (ix2 i j) = (V' i j : EReal)
  h6 : ∀ i j, (show FVec Ideal S8192x1024 .f32 from m ((c : Thread nD τ).loc main_arg6)) (ix2 i j) = (D i j : EReal)

/-- The padded keys' derivative when the kernel starts. -/
theorem keys_read (i : Fin 9216) (r : Fin 8192) (h : i.val = 512 + r.val) (j : Fin 256) :
    (show FVec Ideal S9216x256 .f32 from V m c main_v1) (ix2 i j)
      = (show FVec Ideal S8192x256 .f32 from m ((c : Thread nD τ).loc main_arg4)) (ix2 r j) := by
  show (show FVec Ideal S9216x256 .f32 from StableHlo.after hostOps0 (fun b => m (c, b)) (Proc.devRef .tc main_v1)) (ix2 i j) = _
  after_reads_simp
  exact pad_at _ _ _ i r h j

/-- The padded values' derivative when the kernel starts. -/
theorem vals_read (i : Fin 9216) (r : Fin 8192) (h : i.val = 512 + r.val) (j : Fin 256) :
    (show FVec Ideal S9216x256 .f32 from V m c main_v2) (ix2 i j)
      = (show FVec Ideal S8192x256 .f32 from m ((c : Thread nD τ).loc main_arg5)) (ix2 r j) := by
  show (show FVec Ideal S9216x256 .f32 from StableHlo.after hostOps0 (fun b => m (c, b)) (Proc.devRef .tc main_v2)) (ix2 i j) = _
  after_reads_simp
  exact pad_at _ _ _ i r h j

/-- The table of a column's own factors when the kernel starts. -/
theorem tabC_read : (show FVec Ideal S8192x128 .f32 from V m c main_v35) = tabV (Host.cos angV) (Host.cos angV) 0x3F800000#32 := by
  show (show FVec Ideal S8192x128 .f32 from StableHlo.after hostOps0 (fun b => m (c, b)) (Proc.devRef .tc main_v35)) = _
  after_reads_simp
  rfl

/-- The table of the factors of what moves up when the kernel starts. -/
theorem tabA_read : (show FVec Ideal S8192x128 .f32 from V m c main_v38) = tabV (Host.negf (Host.sin angV))
    (broadcastInDim S8192x8 ![] bcast_S_S8192x8 (constant (F := Ideal) S_ .f32 0x00000000#32)) 0x00000000#32 := by
  show (show FVec Ideal S8192x128 .f32 from StableHlo.after hostOps0 (fun b => m (c, b)) (Proc.devRef .tc main_v38)) = _
  after_reads_simp
  rfl

/-- The table of the factors of what moves down when the kernel starts. -/
theorem tabB_read : (show FVec Ideal S8192x128 .f32 from V m c main_v41)
    = tabV (broadcastInDim S8192x8 ![] bcast_S_S8192x8 (constant (F := Ideal) S_ .f32 0x00000000#32)) (Host.sin angV) 0x00000000#32 := by
  show (show FVec Ideal S8192x128 .f32 from StableHlo.after hostOps0 (fun b => m (c, b)) (Proc.devRef .tc main_v41)) = _
  after_reads_simp
  rfl

variable (H : Holds m c X g w Q K V' D)
include H

/-! ## The loaded blocks -/

theorem blk0 (t : Fin cfg0.N) (b : Fin 4) (j : Fin 1024) (l : Fin 128) :
    (show FVec Ideal S4x1024x128 .bf16 from iblk m c 0 t) (ix3 b j l) = (Q (row t ⟨b.val * 128 + l.val, by omega⟩) j : EReal) := by
  rw [← H.h3]
  blk_simp [iblk, idx_val t]
  entry_read
  pointwise
  blk_ext [idx_val t, row]

theorem blk1 (t : Fin cfg0.N) (i : Fin 512) (j : Fin 256) :
    (show FVec Ideal S512x256 .f32 from iblk m c 1 t) (ix2 i j) = (K (row t i) j : EReal) := by
  have hN := t.isLt
  have h16 : cfg0.N = 16 := N_0
  have hy : ((View.whole main_v1).slice (win0_1.rect t)).emb (ix2 i j) = (ix2 ⟨512 + (row t i).val, by have := (row t i).isLt; omega⟩ j : S9216x256.Idx) := by
    blk_ext [idx_val t, row]
  rw [← H.h4]
  blk_simp [iblk, idx_val t]
  rw [hy]
  exact keys_read m c _ (row t i) rfl j

theorem blk2 (t : Fin cfg0.N) (i : Fin 512) (j : Fin 256) :
    (show FVec Ideal S512x256 .f32 from iblk m c 2 t) (ix2 i j) = (V' (row t i) j : EReal) := by
  have hN := t.isLt
  have h16 : cfg0.N = 16 := N_0
  have hy : ((View.whole main_v2).slice (win0_2.rect t)).emb (ix2 i j) = (ix2 ⟨512 + (row t i).val, by have := (row t i).isLt; omega⟩ j : S9216x256.Idx) := by
    blk_ext [idx_val t, row]
  rw [← H.h5]
  blk_simp [iblk, idx_val t]
  rw [hy]
  exact vals_read m c _ (row t i) rfl j

theorem blk3 (t : Fin cfg0.N) (i : Fin 512) (j : Fin 1024) :
    (show FVec Ideal S512x1024 .f32 from iblk m c 3 t) (ix2 i j) = (X (row t i) j : EReal) := by
  rw [← H.h0]
  blk_ext [iblk, V, idx_val t, row]

theorem blk4 (t : Fin cfg0.N) (i : Fin 1) (j : Fin 1024) :
    (show FVec Ideal S1x1024 .f32 from iblk m c 4 t) (ix2 i j) = (g j : EReal) := by
  rw [← H.h1]
  blk_simp [iblk, idx_val t]
  entry_read
  pointwise
  blk_ext [idx_val t]

theorem blk5 (t : Fin cfg0.N) (k : Fin 1024) (j : Fin 1536) :
    (show FVec Ideal S1024x1536 .bf16 from iblk m c 5 t) (ix2 k j) = (w k j : EReal) := by
  rw [← H.h2]
  blk_simp [iblk, idx_val t]
  entry_read
  pointwise
  blk_ext [idx_val t]

theorem blk9 (t : Fin cfg0.N) (i : Fin 512) (j : Fin 1024) :
    (show FVec Ideal S512x1024 .f32 from iblk m c 9 t) (ix2 i j) = (D (row t i) j : EReal) := by
  rw [← H.h6]
  blk_ext [iblk, V, idx_val t, row]

omit H in
/-- The table of a column's own factors. -/
theorem tabC (t : Fin cfg0.N) (i : Fin 512) (l : Fin 128) :
    (show FVec Ideal S512x128 .f32 from iblk m c 6 t) (ix2 i l) = (cT (co (row t i)) l.val : EReal) := by
  have hy : ((View.whole main_v35).slice (win0_6.rect t)).emb (ix2 i l) = (ix2 (row t i) l : S8192x128.Idx) := by blk_ext [idx_val t, row]
  blk_simp [iblk, idx_val t]
  rw [hy]
  refine (congrFun (tabC_read m c) _).trans ((tabV_at _ _ _ (row t i) l).trans ?_)
  have hc : ∀ r k, Host.cos (F := Ideal) angV (ix2 r k) = ((co r k : ℝ) : EReal) := fun r k => by
    pointwise; rw [angV_at]; rfl
  unfold cT
  simp only [hc]
  by_cases h : l.val % 64 < 8
  · rw [dif_pos h, if_pos (by omega)]
  · rw [dif_neg h]
    by_cases h' : l.val % 64 < 16
    · rw [dif_pos h', if_pos h']
    · rw [dif_neg h', if_neg h']; pointwise; rfl

omit H in
/-- The table of the factors of what moves up. -/
theorem tabA (t : Fin cfg0.N) (i : Fin 512) (l : Fin 128) :
    (show FVec Ideal S512x128 .f32 from iblk m c 7 t) (ix2 i l) = (aT (si (row t i)) l.val : EReal) := by
  have hy : ((View.whole main_v38).slice (win0_7.rect t)).emb (ix2 i l) = (ix2 (row t i) l : S8192x128.Idx) := by blk_ext [idx_val t, row]
  blk_simp [iblk, idx_val t]
  rw [hy]
  refine (congrFun (tabA_read m c) _).trans ((tabV_at _ _ _ (row t i) l).trans ?_)
  have hc : ∀ r k, Host.negf (F := Ideal) (Host.sin (F := Ideal) angV) (ix2 r k) = ((-si r k : ℝ) : EReal) := fun r k => by
    pointwise; rw [angV_at]; rfl
  unfold aT
  simp only [hc]
  by_cases h : l.val % 64 < 8
  · rw [dif_pos h, if_pos h]
  · rw [dif_neg h, if_neg h]
    split_ifs <;> (pointwise; exact EReal.coe_zero.symm)

omit H in
/-- The table of the factors of what moves down. -/
theorem tabB (t : Fin cfg0.N) (i : Fin 512) (l : Fin 128) :
    (show FVec Ideal S512x128 .f32 from iblk m c 8 t) (ix2 i l) = (bT (si (row t i)) l.val : EReal) := by
  have hy : ((View.whole main_v41).slice (win0_8.rect t)).emb (ix2 i l) = (ix2 (row t i) l : S8192x128.Idx) := by blk_ext [idx_val t, row]
  blk_simp [iblk, idx_val t]
  rw [hy]
  refine (congrFun (tabB_read m c) _).trans ((tabV_at _ _ _ (row t i) l).trans ?_)
  have hc : ∀ r k, Host.sin (F := Ideal) angV (ix2 r k) = ((si r k : ℝ) : EReal) := fun r k => by
    pointwise; rw [angV_at]; rfl
  unfold bT
  simp only [hc]
  by_cases h : l.val % 64 < 8
  · rw [dif_pos h, if_pos h]; pointwise; exact EReal.coe_zero.symm
  · rw [dif_neg h, if_neg h]
    split_ifs <;> pointwise <;> exact EReal.coe_zero.symm

omit H in
theorem tables (t : Fin cfg0.N) : Tables (iblk m c 6 t) (iblk m c 7 t) (iblk m c 8 t) (fun i => co (row t i)) (fun i => si (row t i)) :=
  ⟨tabC m c t, tabA m c t, tabB m c t⟩

/-! ## The stored columns -/

omit H in
/-- What a grid point's three stores leave of the derivative of the product, the last first. -/
def stores (t : Fin cfg0.N) : List (View.Piece (Elt Ideal) S512x1536 .bf16) :=
  [⟨Rect.unit ![0, 1280] ![512, 256] inb_S512x1536_S512x256_0_1280, k0_pay10 (iblk m c 2 t)⟩,
   ⟨Rect.unit ![0, 1024] ![512, 256] inb_S512x1536_S512x256_0_1024,
    k0_pay9 (k0_pay5 (iblk m c 6 t)) (k0_pay6 (iblk m c 7 t)) (k0_pay7 (iblk m c 8 t)) (iblk m c 1 t)⟩,
   ⟨Rect.unit ![0, 0] ![512, 1024] inb_S512x1536_S512x1024_0_0, k0_pay8 (iblk m c 6 t) (iblk m c 7 t) (iblk m c 8 t)
    (View.ld (iblk m c 0 t) (Rect.unit ![0, 0, 0] ![1, 1024, 128] inb_S4x1024x128_S1x1024x128_0_0_0))
    (View.ld (iblk m c 0 t) (Rect.unit ![1, 0, 0] ![1, 1024, 128] inb_S4x1024x128_S1x1024x128_1_0_0))
    (View.ld (iblk m c 0 t) (Rect.unit ![2, 0, 0] ![1, 1024, 128] inb_S4x1024x128_S1x1024x128_2_0_0))
    (View.ld (iblk m c 0 t) (Rect.unit ![3, 0, 0] ![1, 1024, 128] inb_S4x1024x128_S1x1024x128_3_0_0))⟩]

/-- A grid point's queries, scaled. -/
theorem queries_blk (t : Fin cfg0.N) (i : Fin 512) (j : Fin 1024) :
    queries (View.ld (iblk m c 0 t) (Rect.unit ![0, 0, 0] ![1, 1024, 128] inb_S4x1024x128_S1x1024x128_0_0_0))
      (View.ld (iblk m c 0 t) (Rect.unit ![1, 0, 0] ![1, 1024, 128] inb_S4x1024x128_S1x1024x128_1_0_0))
      (View.ld (iblk m c 0 t) (Rect.unit ![2, 0, 0] ![1, 1024, 128] inb_S4x1024x128_S1x1024x128_2_0_0))
      (View.ld (iblk m c 0 t) (Rect.unit ![3, 0, 0] ![1, 1024, 128] inb_S4x1024x128_S1x1024x128_3_0_0)) (ix2 i j)
      = ((Q (row t i) j * (1 / 8) : ℝ) : EReal) := by
  have hq : ∀ (o : ℕ) (ho : o < 4) (inb : _) (y : Fin 1) (j : Fin 1024) (l : Fin 128),
      (show FVec Ideal S1x1024x128 .bf16 from View.ld (iblk m c 0 t) (Rect.unit ![o, 0, 0] ![1, 1024, 128] inb)) (ix3 y j l)
        = (Q (row t ⟨o * 128 + l.val, by omega⟩) j : EReal) := fun o ho inb y j l =>
    (Cert.Cols.ld_slab (iblk m c 0 t) o ho inb y j l).trans (blk0 m c H t ⟨o, ho⟩ j l)
  have hs : ∀ (a b : ℕ) (ha : a < 512) (hb : b < 512), a = b → ∀ j, (Q (row t ⟨a, ha⟩) j : EReal) = (Q (row t ⟨b, hb⟩) j : EReal) :=
    fun a b ha hb e j => by subst e; rfl
  exact queries_at (z := fun i j => Q (row t i) j)
    (fun y j l => (hq 0 (by norm_num) _ y j l).trans (hs _ _ _ _ (by omega) j))
    (fun y j l => (hq 1 (by norm_num) _ y j l).trans (hs _ _ _ _ (by omega) j))
    (fun y j l => (hq 2 (by norm_num) _ y j l).trans (hs _ _ _ _ (by omega) j))
    (fun y j l => (hq 3 (by norm_num) _ y j l).trans (hs _ _ _ _ (by omega) j)) i j

/-- The stores hold the derivative of the product. -/
theorem stores_at (t : Fin cfg0.N) (i : Fin 512) (j : Fin 1536) :
    View.canon (stores m c t) (ix2 i j) = ((col Q K V' (row t i) j : ℝ) : EReal) := by
  unfold stores col
  by_cases h : j.val < 1024
  · rw [dif_pos h]
    refine (Cert.Cols.canon_miss _ _ _ _ _ _ (Or.inl (by omega))).trans ((Cert.Cols.canon_miss _ _ _ _ _ _ (Or.inl (by omega))).trans
      ((Cert.Cols.canon_hit 0 _ _ _ i ⟨j.val, h⟩ j (by dsimp only; omega)).trans ?_))
    exact pay8 (tables m c t) (queries_blk m c H t) _ _
  · rw [dif_neg h]
    by_cases h' : j.val < 1280
    · rw [dif_pos h']
      refine (Cert.Cols.canon_miss _ _ _ _ _ _ (Or.inl (by omega))).trans
        ((Cert.Cols.canon_hit 1024 _ _ _ i ⟨j.val - 1024, by omega⟩ j (by dsimp only; omega)).trans ?_)
      exact pay9 (tables m c t) (blk1 m c H t) _ _
    · rw [dif_neg h']
      refine (Cert.Cols.canon_hit 1280 _ _ _ i ⟨j.val - 1280, by omega⟩ j (by dsimp only; omega)).trans ?_
      exact (pay10 _ _ _).trans (blk2 m c H t _ _)

/-- The whole block, loaded after the stores. -/
theorem loaded_at {sig : RefSig} {κ : Kind} {sp : Space} (t : Fin cfg0.N) (v : View sig κ sp S512x1536 .bf16) (i : Fin 512) (j : Fin 1536) :
    (show FVec Ideal S512x1536 .bf16 from
      v.readCov (stores m c t) (Rect.unit (s := S512x1536) ![0, 0] ![512, 1536] inb_S512x1536_S512x1536_0_0).toLoadRect) (ix2 i j)
      = ((col Q K V' (row t i) j : ℝ) : EReal) := by
  refine (Cert.Cols.readCov_cols v 0 _ _ i j (by omega)).trans ?_
  rw [show (⟨0 + j.val, by omega⟩ : Fin 1536) = j from Fin.ext (Nat.zero_add _)]
  exact stores_at m c H t i j

/-! ## The arrays left -/

set_option maxHeartbeats 1000000 in
theorem final_10 : (dats m 0 c).arrAt 10 (cfgs 0).N
    = fun y : S8192x1536.Idx => ((col Q K V' (y 0) (y 1) : ℝ) : EReal) := by
  refine (dats m 0 c).arrAt_eq_of_covers 10 _ (by decide +kernel) fun t hf y => ?_
  blk_simp
  rw [after0_10]
  have hr : ∀ y : S512x1536.Idx, (((cfg0.win 10).blk t).view.emb y) = (ix2 (row t (y 0)) (y 1) : S8192x1536.Idx) := by
    intro y; blk_ext [idx_val t, row]
  by_cases h : t.val % 16 = 0
  · rw [outsAt0_A m c t h]; frame_out; rw [hr]; idx_vars y
    exact stores_at m c H t _ _
  · rw [outsAt0_B m c t h]; frame_out; rw [hr]; idx_vars y
    exact stores_at m c H t _ _

set_option maxHeartbeats 1000000 in
theorem final_11 : (dats m 0 c).arrAt 11 (cfgs 0).N
    = fun y : S1024x8192.Idx => ((X (y 1) (y 0) * rms (X (y 1)) * g (y 0) : ℝ) : EReal) := by
  refine (dats m 0 c).arrAt_eq_of_covers 11 _ (by decide +kernel) fun t hf y => ?_
  blk_simp
  rw [after0_11]
  have hr : ∀ y : S1024x512.Idx, (((cfg0.win 11).blk t).view.emb y) = (ix2 (y 0) (row t (y 1)) : S1024x8192.Idx) := by
    intro y; blk_ext [idx_val t, row]
  by_cases h : t.val % 16 = 0
  · rw [outsAt0_A m c t h]; frame_out; rw [hr]; idx_vars y
    exact pay14 (blk3 m c H t) (blk4 m c H t) _ _
  · rw [outsAt0_B m c t h]; frame_out; rw [hr]; idx_vars y
    exact pay14 (blk3 m c H t) (blk4 m c H t) _ _

set_option maxHeartbeats 1000000 in
theorem final_12 : (dats m 0 c).arrAt 12 (cfgs 0).N
    = fun y : S8192x1024.Idx => ((D (y 0) (y 1) + rmsBwd (X (y 0)) (fun k => dIn (col Q K V' (y 0)) w k * g k) (y 1) : ℝ) : EReal) := by
  refine (dats m 0 c).arrAt_eq_of_covers 12 _ (by decide +kernel) fun t hf y => ?_
  blk_simp
  rw [after0_12]
  have hr : ∀ y : S512x1024.Idx, (((cfg0.win 12).blk t).view.emb y) = (ix2 (row t (y 0)) (y 1) : S8192x1024.Idx) := by
    intro y; blk_ext [idx_val t, row]
  by_cases h : t.val % 16 = 0
  · rw [outsAt0_A m c t h]; frame_out; rw [hr]; idx_vars y
    exact pay2 (loaded_at m c H t _) (blk5 m c H t) (blk3 m c H t) (blk4 m c H t) (blk9 m c H t) _ _
  · rw [outsAt0_B m c t h]; frame_out; rw [hr]; idx_vars y
    exact pay2 (loaded_at m c H t _) (blk5 m c H t) (blk3 m c H t) (blk4 m c H t) (blk9 m c H t) _ _

/-- What the scale's derivative gains from a row. -/
def partG (X Q : Fin 8192 → Fin 1024 → ℝ) (w : Fin 1024 → Fin 1536 → ℝ) (K V' : Fin 8192 → Fin 256 → ℝ) (r : Fin 8192) (k : Fin 1024) : ℝ :=
  dIn (col Q K V' r) w k * (X r k * rms (X r))

omit H in
/-- The last grid point. -/
def lst : Fin cfg0.N := ⟨15, by have h : cfg0.N = 16 := N_0; omega⟩

set_option maxHeartbeats 1000000 in
theorem final_13 : (dats m 0 c).arrAt 13 (cfgs 0).N
    = fun y : S1x1024.Idx => ((∑ r : Fin 8192, partG X Q w K V' r (y 1) : ℝ) : EReal) := by
  refine (dats m 0 c).arrAt_eq_of_after_last 13 lst (by decide +kernel) _ fun j => ?_
  blk_simp
  rw [after0_13, Pipeline.eq_sum_fin_of_reset_step_apply_last (fun n h => (outsAt0 m c n h).2.2.2) 16 (fun _ => 0)
    (fun t y => ∑ r : Fin 512, ((partG X Q w K V' (row t r) (y 1) : ℝ) : EReal))
    (fun t h j => by
      rw [outsAt0_A m c t h]; frame_out
      idx_vars j
      refine (pay3 (loaded_at m c H t _) (blk5 m c H t) (blk3 m c H t) _ _ _).trans (congrArg (· + _) ?_)
      pointwise [k0_pay4])
    (fun t h j => by
      rw [outsAt0_B m c t h]; frame_out
      idx_vars j
      exact pay3 (loaded_at m c H t _) (blk5 m c H t) (blk3 m c H t) _ _ _)
    (le_of_eq N_0) lst rfl j, zero_add]
  show (∑ t : Fin 16, ∑ r : Fin 512, ((partG X Q w K V' (row t r) (j 1) : ℝ) : EReal)) = _
  simp only [lift_sum]
  exact congrArg Real.toEReal (Fin.sum_mul_add_congr (S := 16) (n := 512) (fun s k hl => rfl) rfl)

end Cert.AttnPreBwdIdeal.Array

end
-- ==== Proof.RopeRef.lean ====
/-
  The reference's stages of what precedes the attention, element by element, when the arguments hold real numbers.
-/
module

public import proofs.«01_k».proof.Proof.Gen.AttnPreBwdRefIdeal.Read
public import proofs.«01_k».proof.Proof.RopeArray

@[expose] public section

set_option maxRecDepth 16384

noncomputable section

open Idealize.ShloMosaic Idealize.ShloMosaic.TcCoe Idealize.SL.Sem

namespace Cert.AttnPreBwdRefIdeal.Stage

open Cert.AttnPreBwdRefIdeal Cert.AttnPreBwdRefIdeal.Read Cert.Reals Cert.Rope

open Cert.AttnPreBwdIdeal.Block (dIn)
open Cert.AttnPreBwdIdeal.Array (partG)

/-! ## The rows turned back -/

/-- A group of sixty-four columns turned back, as the sum of its three parts. -/
theorem turned {W : ℕ} (hW : W % 64 = 0) (c s : Fin 8 → ℝ) (z : Fin W → ℝ) (q : ℕ) (l : Fin 64) (hq : q * 64 + 64 ≤ W) :
    (((if h : 16 ≤ l.val ∧ l.val - 16 < 48 then (z ⟨q * 64 + (16 + (l.val - 16)), by omega⟩ : EReal) else 0)
        + if h : 8 ≤ l.val ∧ l.val - 8 < 8 then ((z ⟨q * 64 + (8 + (l.val - 8)), by omega⟩ * c ⟨l.val - 8, h.2⟩
            + -z ⟨q * 64 + (l.val - 8), by omega⟩ * s ⟨l.val - 8, h.2⟩ : ℝ) : EReal) else 0)
      + if h : l.val < 8 then ((z ⟨q * 64 + (8 + l.val), by omega⟩ * s ⟨l.val, h⟩ + z ⟨q * 64 + l.val, by omega⟩ * c ⟨l.val, h⟩ : ℝ) : EReal) else 0)
      = ((unrot c s z ⟨q * 64 + l.val, by omega⟩ : ℝ) : EReal) := by
  have hz : ∀ (a b : Fin W), a.val = b.val → z a = z b := fun a b h => congrArg z (Fin.ext h)
  have hc : ∀ (f : Fin 8 → ℝ) (a b : Fin 8), a.val = b.val → f a = f b := fun f a b h => congrArg f (Fin.ext h)
  unfold unrot
  by_cases h : l.val < 8
  · rw [dif_neg (by omega), dif_neg (by omega), dif_pos h, if_pos (by dsimp only; omega), zero_add, zero_add]
    rw [hz ⟨q * 64 + (8 + l.val), by omega⟩ (up ⟨q * 64 + l.val, by omega⟩)
        (by show _ = (q * 64 + l.val + 8) % W; rw [Nat.mod_eq_of_lt (by omega)]; dsimp only; omega),
      hc s ⟨l.val, h⟩ ⟨(q * 64 + l.val) % 8, Nat.mod_lt _ (by norm_num)⟩ (by dsimp only; omega),
      hc c ⟨l.val, h⟩ ⟨(q * 64 + l.val) % 8, Nat.mod_lt _ (by norm_num)⟩ (by dsimp only; omega)]
    exact congrArg Real.toEReal (add_comm _ _)
  · by_cases h' : l.val < 16
    · rw [dif_neg (by omega), dif_pos (by omega), dif_neg h, if_neg (by dsimp only; omega), if_pos (by dsimp only; omega), zero_add, add_zero]
      rw [hz ⟨q * 64 + (8 + (l.val - 8)), by omega⟩ ⟨q * 64 + l.val, by omega⟩ (by dsimp only; omega),
        hz ⟨q * 64 + (l.val - 8), by omega⟩ (dn ⟨q * 64 + l.val, by omega⟩)
          (by show _ = (q * 64 + l.val + W - 8) % W
              rw [show q * 64 + l.val + W - 8 = (q * 64 + (l.val - 8)) + W by omega, Nat.add_mod_right, Nat.mod_eq_of_lt (by omega)]),
        hc s ⟨l.val - 8, by omega⟩ ⟨(q * 64 + l.val) % 8, Nat.mod_lt _ (by norm_num)⟩ (by dsimp only; omega),
        hc c ⟨l.val - 8, by omega⟩ ⟨(q * 64 + l.val) % 8, Nat.mod_lt _ (by norm_num)⟩ (by dsimp only; omega)]
      refine congrArg Real.toEReal ?_
      ring
    · rw [dif_pos (by omega), dif_neg (by omega), dif_neg h, if_neg (by dsimp only; omega), if_neg (by dsimp only; omega), add_zero, add_zero]
      exact congrArg Real.toEReal (hz _ _ (by dsimp only; omega))

theorem at36 (r : Fin 8192) (k : Fin 8) : val_main_v36 (F := Ideal) (ix2 r k) = ((ang r k : ℝ) : EReal) := by
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_cst_3, val_main_cst_4,
    val_main_cst_5, val_main_cst_6]
  have hs : ∀ b : BitVec 32, (FloatOps.sitofp (F := Ideal) .f32 b : EReal) = ((b.toInt : ℝ) : EReal) := fun b => rfl
  simp only [hs, const_16, const_theta, const_two, lift_mul, lift_neg, lift_div _ _ (by norm_num : (16 : ℝ) ≠ 0)]
  rfl

theorem at37 (r : Fin 8192) (k : Fin 8) : val_main_v37 (F := Ideal) (ix2 r k) = ((co r k : ℝ) : EReal) := by
  pointwise [val_main_v37]; rw [at36]; rfl

theorem at39 (r : Fin 8192) (k : Fin 8) : val_main_v39 (F := Ideal) (ix2 r k) = ((si r k : ℝ) : EReal) := by
  pointwise [val_main_v39]; rw [at36]; rfl

variable {x0 : FVec Ideal S8192x1024 .f32} {x1 : FVec Ideal S1024 .f32} {x2 : FVec Ideal S1024x1536 .f32} {x3 : FVec Ideal S8192x1024 .f32}
  {x4 x5 : FVec Ideal S8192x256 .f32} {x6 : FVec Ideal S8192x1024 .f32}
  {X Q D : Fin 8192 → Fin 1024 → ℝ} {g : Fin 1024 → ℝ} {w : Fin 1024 → Fin 1536 → ℝ} {K V : Fin 8192 → Fin 256 → ℝ}

/-- What the reference's arguments hold. -/
structure Args (x0 : FVec Ideal S8192x1024 .f32) (x1 : FVec Ideal S1024 .f32) (x2 : FVec Ideal S1024x1536 .f32)
    (x3 : FVec Ideal S8192x1024 .f32) (x4 x5 : FVec Ideal S8192x256 .f32) (x6 : FVec Ideal S8192x1024 .f32)
    (X : Fin 8192 → Fin 1024 → ℝ) (g : Fin 1024 → ℝ) (w : Fin 1024 → Fin 1536 → ℝ) (Q : Fin 8192 → Fin 1024 → ℝ)
    (K V : Fin 8192 → Fin 256 → ℝ) (D : Fin 8192 → Fin 1024 → ℝ) : Prop where
  h0 : ∀ i j, x0 (ix2 i j) = (X i j : EReal)
  h1 : ∀ j, x1 (ix1 j) = (g j : EReal)
  h2 : ∀ i j, x2 (ix2 i j) = (w i j : EReal)
  h3 : ∀ i j, x3 (ix2 i j) = (Q i j : EReal)
  h4 : ∀ i j, x4 (ix2 i j) = (K i j : EReal)
  h5 : ∀ i j, x5 (ix2 i j) = (V i j : EReal)
  h6 : ∀ i j, x6 (ix2 i j) = (D i j : EReal)

theorem const_eighth : Ideal.ofBits .f32 0x3E000000#32 = ((1 / 8 : ℝ) : EReal) := by
  simp [Ideal.ofBits, Ideal.ieee, -EReal.coe_mul]; norm_num

variable (H : Args x0 x1 x2 x3 x4 x5 x6 X g w Q K V D)
include H

theorem at93 (i : Fin 8192) (q : Fin 4) (l : Fin 8) : val_main_v93 (F := Ideal) x4 (ix3 i q l)
    = ((K i ⟨q.val * 64 + (8 + l.val), by omega⟩ * co i l + -K i ⟨q.val * 64 + l.val, by omega⟩ * si i l : ℝ) : EReal) := by
  pointwise [val_main_v93, val_main_v92, val_main_v91, val_main_v90, val_main_v89, val_main_v88, val_main_v85, val_main_v84, val_main_v81,
    val_main_v77, val_main_v40, val_main_v38]
  simp only [at37, at39, H.h4, lift_neg, lift_mul, lift_add]

theorem at96 (i : Fin 8192) (q : Fin 4) (l : Fin 8) : val_main_v96 (F := Ideal) x4 (ix3 i q l)
    = ((K i ⟨q.val * 64 + (8 + l.val), by omega⟩ * si i l + K i ⟨q.val * 64 + l.val, by omega⟩ * co i l : ℝ) : EReal) := by
  pointwise [val_main_v96, val_main_v95, val_main_v94, val_main_v87, val_main_v86, val_main_v85, val_main_v84, val_main_v81,
    val_main_v77, val_main_v40, val_main_v38]
  simp only [at37, at39, H.h4, lift_mul, lift_add]

/-- The keys' derivative turned back. -/
theorem at100 (i : Fin 8192) (q : Fin 4) (l : Fin 64) : val_main_v100 (F := Ideal) x4 (ix3 i q l)
    = ((unrot (co i) (si i) (K i) ⟨q.val * 64 + l.val, by omega⟩ : ℝ) : EReal) := by
  pointwise [val_main_v100, val_main_v99, val_main_v98, val_main_v97, val_main_v83, val_main_v82, val_main_v77, val_main_cst_10,
    val_main_cst_11, val_main_cst_12]
  simp only [at93 H, at96 H, H.h4]
  exact turned (by norm_num) (co i) (si i) (K i) q.val l (by omega)

/-- The scaled queries' derivative, by heads. -/
theorem at80 (i : Fin 8192) (q : Fin 16) (l : Fin 64) : val_main_v80 (F := Ideal) x3 (ix3 i q l)
    = ((Q i ⟨q.val * 64 + l.val, by omega⟩ * (1 / 8) : ℝ) : EReal) := by
  pointwise [val_main_v80, val_main_v79, val_main_v78, val_main_cst_9]
  simp only [H.h3, const_eighth, lift_mul]

theorem at113 (i : Fin 8192) (q : Fin 16) (l : Fin 8) : val_main_v113 (F := Ideal) x3 (ix3 i q l)
    = ((Q i ⟨q.val * 64 + (8 + l.val), by omega⟩ * (1 / 8) * co i l + -(Q i ⟨q.val * 64 + l.val, by omega⟩ * (1 / 8)) * si i l : ℝ) : EReal) := by
  pointwise [val_main_v113, val_main_v112, val_main_v111, val_main_v110, val_main_v109, val_main_v108, val_main_v105, val_main_v104,
    val_main_v101, val_main_v40, val_main_v38]
  simp only [at37, at39, at80 H, lift_neg, lift_mul, lift_add]

theorem at116 (i : Fin 8192) (q : Fin 16) (l : Fin 8) : val_main_v116 (F := Ideal) x3 (ix3 i q l)
    = ((Q i ⟨q.val * 64 + (8 + l.val), by omega⟩ * (1 / 8) * si i l + Q i ⟨q.val * 64 + l.val, by omega⟩ * (1 / 8) * co i l : ℝ) : EReal) := by
  pointwise [val_main_v116, val_main_v115, val_main_v114, val_main_v107, val_main_v106, val_main_v105, val_main_v104, val_main_v101,
    val_main_v40, val_main_v38]
  simp only [at37, at39, at80 H, lift_mul, lift_add]

/-- The queries' derivative turned back. -/
theorem at120 (i : Fin 8192) (q : Fin 16) (l : Fin 64) : val_main_v120 (F := Ideal) x3 (ix3 i q l)
    = ((unrot (co i) (si i) (fun j => Q i j * (1 / 8)) ⟨q.val * 64 + l.val, by omega⟩ : ℝ) : EReal) := by
  pointwise [val_main_v120, val_main_v119, val_main_v118, val_main_v117, val_main_v103, val_main_v102, val_main_cst_13,
    val_main_cst_14, val_main_cst_15]
  simp only [at113 H, at116 H, at80 H]
  exact turned (by norm_num) (co i) (si i) (fun j => Q i j * (1 / 8)) q.val l (by omega)

theorem at121 (i : Fin 8192) (l : Fin 256) : val_main_v121 (F := Ideal) x4 (ix2 i l) = ((unrot (co i) (si i) (K i) l : ℝ) : EReal) := by
  pointwise [val_main_v121]
  rw [at100 H]
  exact congrArg (fun l => ((unrot (co i) (si i) (K i) l : ℝ) : EReal)) (Fin.ext (by dsimp only; omega))

theorem at124 (i : Fin 8192) (l : Fin 1024) : val_main_v124 (F := Ideal) x3 (ix2 i l)
    = ((unrot (co i) (si i) (fun j => Q i j * (1 / 8)) l : ℝ) : EReal) := by
  pointwise [val_main_v124]
  rw [at120 H]
  exact congrArg (fun l => ((unrot (co i) (si i) (fun j => Q i j * (1 / 8)) l : ℝ) : EReal)) (Fin.ext (by dsimp only; omega))

/-- The product's derivative. -/
theorem at126 (i : Fin 8192) (j : Fin 1536) : val_main_v126 (F := Ideal) x3 x4 x5 (ix2 i j) = ((col Q K V i j : ℝ) : EReal) := by
  pointwise [val_main_v126, val_main_v125, val_main_v123, val_main_v122, val_main_v76, val_main_cst_8, val_main_cst_16, val_main_cst_17]
  simp only [at121 H, at124 H, H.h5]
  unfold col
  by_cases h : j.val < 1024
  · rw [dif_neg (by omega), dif_neg (by omega), dif_pos (by omega), dif_pos h, zero_add, zero_add]
  · rw [dif_neg h]
    by_cases h' : j.val < 1280
    · rw [dif_neg (by omega), dif_pos (by omega), dif_neg (by omega), dif_pos h', zero_add, add_zero]
    · rw [dif_pos (by omega), dif_neg (by omega), dif_neg (by omega), dif_neg h', add_zero, add_zero]

/-! ## The norm -/

theorem at6 (i : Fin 8192) (j : Fin 1) :
    val_main_v6 (F := Ideal) x0 (ix2 i j) = ((mean (fun k => X i k * X i k) + eps : ℝ) : EReal) := by
  pointwise [val_main_v6, val_main_v5, val_main_v4, val_main_v3, val_main_v2, val_main_v1, val_main_v0, val_main_cst, val_main_cst_0,
    val_main_cst_1]
  simp only [H.h0, const_1024, const_eps, lift_mul, lift_sum, zero_add, lift_add, lift_div _ _ (by norm_num : (1024 : ℝ) ≠ 0)]
  rfl

theorem at7 (i : Fin 8192) (j : Fin 1) : val_main_v7 (F := Ideal) x0 (ix2 i j) = ((rms (X i) : ℝ) : EReal) := by
  pointwise [val_main_v7]
  rw [at6 H]
  exact lift_rsqrt _ (rms_arg_pos _)

theorem at10 (i : Fin 8192) (j : Fin 1) : val_main_v10 (F := Ideal) x0 (ix2 i j)
    = ((-1 / 2 * (rms (X i) / (mean (fun k => X i k * X i k) + eps)) : ℝ) : EReal) := by
  pointwise [val_main_v10, val_main_v9, val_main_v8, val_main_cst_2]
  simp only [at6 H, at7 H, const_neg_half, lift_div _ _ (rms_arg_pos _).ne', lift_mul]

theorem at12 (i : Fin 8192) (j : Fin 1024) : val_main_v12 (F := Ideal) x0 (ix2 i j) = ((X i j * rms (X i) : ℝ) : EReal) := by
  pointwise [val_main_v12, val_main_v11]
  simp only [H.h0, at7 H, lift_mul]

theorem at127 (i : Fin 8192) (k : Fin 1024) :
    val_main_v127 (F := Ideal) x2 x3 x4 x5 (ix2 i k) = ((dIn (col Q K V i) w k : ℝ) : EReal) := by
  pointwise [val_main_v127]
  simp only [at126 H, H.h2, lift_mul, lift_sum]
  rfl

theorem at132 (i : Fin 8192) (k : Fin 1024) :
    val_main_v132 (F := Ideal) x1 x2 x3 x4 x5 (ix2 i k) = ((dIn (col Q K V i) w k * g k : ℝ) : EReal) := by
  pointwise [val_main_v132, val_main_v131, val_main_v13]
  simp only [at127 H, H.h1, lift_mul]

/-- The derivative of a row's mean square. -/
def dMs (X Q : Fin 8192 → Fin 1024 → ℝ) (g : Fin 1024 → ℝ) (w : Fin 1024 → Fin 1536 → ℝ) (K V : Fin 8192 → Fin 256 → ℝ) (i : Fin 8192) : ℝ :=
  (∑ k, X i k * (dIn (col Q K V i) w k * g k)) * (-1 / 2 * (rms (X i) / (mean (fun k => X i k * X i k) + eps))) / 1024

theorem at143 (i : Fin 8192) (k : Fin 1024) :
    val_main_v143 (F := Ideal) x0 x1 x2 x3 x4 x5 (ix2 i k) = ((dMs X Q g w K V i : ℝ) : EReal) := by
  pointwise [val_main_v143, val_main_v142, val_main_v141, val_main_v140, val_main_v139, val_main_v136, val_main_v135, val_main_v134,
    val_main_cst_20, val_main_cst_21, val_main_cst_22]
  simp only [at132 H, at10 H, H.h0, const_1024, lift_mul, lift_sum, zero_add, lift_div _ _ (by norm_num : (1024 : ℝ) ≠ 0)]
  simp [dMs]

/-! ## The results -/

theorem at148 (i : Fin 8192) (j : Fin 1536) : val_main_v148 (F := Ideal) x3 x4 x5 (ix2 i j) = ((col Q K V i j : ℝ) : EReal) := by
  pointwise [val_main_v148]
  exact at126 H i j

theorem at150 (j : Fin 1024) (i : Fin 8192) : val_main_v150 (F := Ideal) x0 x1 (ix2 j i) = ((X i j * rms (X i) * g j : ℝ) : EReal) := by
  pointwise [val_main_v150, val_main_v149, val_main_v15, val_main_v14, val_main_v13]
  simp only [at12 H, H.h1, lift_mul]

theorem at151 (i : Fin 8192) (k : Fin 1024) : val_main_v151 (F := Ideal) x0 x1 x2 x3 x4 x5 x6 (ix2 i k)
    = ((D i k + rmsBwd (X i) (fun k => dIn (col Q K V i) w k * g k) k : ℝ) : EReal) := by
  pointwise [val_main_v151, val_main_v147, val_main_v146, val_main_v145, val_main_v144, val_main_v138, val_main_v137]
  simp only [at132 H, at143 H, at7 H, H.h0, H.h6, lift_mul, lift_add]
  refine congrArg Real.toEReal ?_
  rw [← rmsBwd_steps (X i) _ k (dMs X Q g w K V i) rfl]

theorem at152 (z : Fin 1) (k : Fin 1024) : val_main_v152 (F := Ideal) x0 x2 x3 x4 x5 (ix2 z k)
    = ((∑ r, partG X Q w K V r k : ℝ) : EReal) := by
  pointwise [val_main_v152, val_main_v133, val_main_v130, val_main_v129, val_main_v128, val_main_cst_18, val_main_cst_19]
  simp only [at12 H, at127 H, lift_mul, lift_sum, zero_add]
  refine congrArg Real.toEReal ?_
  simp [partG, mul_comm]

end Cert.AttnPreBwdRefIdeal.Stage

end
-- ==== Proof.RopePair.lean ====
/-
  The kernel before the attention's backward pass and the derivative of the reference's lines end with equal results, when the arguments
  are finite.
-/
module

public import proofs.«01_k».proof.Defs
public import proofs.«01_k».proof.Proof.Finite
public import proofs.«01_k».proof.Proof.RopeRef
public import proofs.«01_k».proof.Proof.Gen.AttnPreBwdRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_finite7 : Cert.Pre_finite7.Facts where
  bcast_S_S8192x1024 := by decide
  bcast_S_S1024 := by decide
  bcast_S_S1024x1536 := by decide
  bcast_S_S8192x256 := by decide

attribute [local instance] facts_finite7

section
open Cert.AttnPreBwdIdeal Cert.AttnPreBwdIdeal.Array

variable (m : (ℓ : Loc nD τ sig) → Buf (Elt Ideal) ℓ) (c : Dev nD)

/-- Under the precondition the arguments hold real arrays. -/
theorem rope_holds (h : Cert.Pre_AttnPreBwdIdeal_finite7 m) :
    Holds m c (fun i j => ((show FVec Ideal S8192x1024 .f32 from m ((c : Thread nD τ).loc main_arg0)) (ix2 i j)).toReal)
      (fun j => ((show FVec Ideal S1024 .f32 from m ((c : Thread nD τ).loc main_arg1)) (ix1 j)).toReal)
      (fun i j => ((show FVec Ideal S1024x1536 .f32 from m ((c : Thread nD τ).loc main_arg2)) (ix2 i j)).toReal)
      (fun i j => ((show FVec Ideal S8192x1024 .f32 from m ((c : Thread nD τ).loc main_arg3)) (ix2 i j)).toReal)
      (fun i j => ((show FVec Ideal S8192x256 .f32 from m ((c : Thread nD τ).loc main_arg4)) (ix2 i j)).toReal)
      (fun i j => ((show FVec Ideal S8192x256 .f32 from m ((c : Thread nD τ).loc main_arg5)) (ix2 i j)).toReal)
      (fun i j => ((show FVec Ideal S8192x1024 .f32 from m ((c : Thread nD τ).loc main_arg6)) (ix2 i j)).toReal) :=
  have ⟨e0, e1, e2, e3, e4, e5, e6⟩ := h c
  ⟨fun i j => Cert.Finite.real_of_pre e0 _, fun j => Cert.Finite.real_of_pre e1 _, fun i j => Cert.Finite.real_of_pre e2 _,
    fun i j => Cert.Finite.real_of_pre e3 _, fun i j => Cert.Finite.real_of_pre e4 _, fun i j => Cert.Finite.real_of_pre e5 _,
    fun i j => Cert.Finite.real_of_pre e6 _⟩

/-- The same of the reference's stages. -/
theorem rope_args {X Q D : Fin 8192 → Fin 1024 → ℝ} {g : Fin 1024 → ℝ} {w : Fin 1024 → Fin 1536 → ℝ} {K V' : Fin 8192 → Fin 256 → ℝ}
    (H : Holds m c X g w Q K V' D) :
    Cert.AttnPreBwdRefIdeal.Stage.Args (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) X g w Q K V' D :=
  ⟨H.h0, H.h1, H.h2, H.h3, H.h4, H.h5, H.h6⟩

end

section
open Cert.AttnPreBwdRefIdeal

/-- The reference ends with its arguments unchanged; it has no semaphore. -/
theorem rope_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run _ _ _).mono (fun r h => ⟨fun c => (h c).2.2.2.2, sem_eq_zero_of_no_sems rfl _⟩) (Value.run m ρ)

end

set_option maxHeartbeats 4000000 in
theorem rope_algebraic : Cert.algebraic_AttnPreBwdIdeal_AttnPreBwdRefIdeal_pre_finite7
    (hAttnPreBwdIdeal := Cert.AttnPreBwdIdeal.Gen.facts) (hAttnPreBwdRefIdeal := Cert.AttnPreBwdRefIdeal.Gen.facts) := by
  pair_intro
  · run_from Cert.AttnPreBwdIdeal.Gen.run_main m g
  · run_from Cert.AttnPreBwdRefIdeal.Value.run m' g'
    · obtain ⟨a0, a1, a2, a3, a4, a5, a6⟩ := hagree c
      rw [Cert.AttnPreBwdRefIdeal.Read.val_main_v148_eq, a3, a4, a5, Cert.AttnPreBwdIdeal.Array.final_10 m c (rope_holds m c hpre)]
      funext y
      idx_vars y
      exact Cert.AttnPreBwdRefIdeal.Stage.at148 (rope_args m c (rope_holds m c hpre)) _ _
    · obtain ⟨a0, a1, a2, a3, a4, a5, a6⟩ := hagree c
      rw [Cert.AttnPreBwdRefIdeal.Read.val_main_v150_eq, Cert.AttnPreBwdIdeal.Array.final_11 m c (rope_holds m c hpre)]
      funext y
      idx_vars y
      exact Cert.AttnPreBwdRefIdeal.Stage.at150 (rope_args m c (rope_holds m c hpre)) _ _
    · obtain ⟨a0, a1, a2, a3, a4, a5, a6⟩ := hagree c
      rw [Cert.AttnPreBwdRefIdeal.Read.val_main_v151_eq, a0, a1, a2, a3, a4, a5, a6, Cert.AttnPreBwdIdeal.Array.final_12 m c (rope_holds m c hpre)]
      funext y
      idx_vars y
      exact Cert.AttnPreBwdRefIdeal.Stage.at151 (rope_args m c (rope_holds m c hpre)) _ _
    · obtain ⟨a0, a1, a2, a3, a4, a5, a6⟩ := hagree c
      rw [Cert.AttnPreBwdRefIdeal.Read.val_main_v152_eq, a0, a2, a3, a4, a5, Cert.AttnPreBwdIdeal.Array.final_13 m c (rope_holds m c hpre)]
      funext y
      idx_vars y
      exact Cert.AttnPreBwdRefIdeal.Stage.at152 (rope_args m c (rope_holds m c hpre)) _ _

end Cert.Proof

end
-- ==== Proof.AttnReals.lean ====
/-
  One head group's windowed attention in real numbers, for a block of queries: the softmax over the valid keys and the sink, and its
  derivatives.
-/
module

public import proofs.«01_k».proof.Proof.Reals

@[expose] public section

noncomputable section

namespace Cert.Attn

open Cert.Reals
open scoped Classical

/-- The operands: keys, values, queries, the derivative of what follows, the sink of each query column, and which key each query column sees. -/
structure Ops (C R : ℕ) where
  k : Fin C → Fin 64 → ℝ
  v : Fin C → Fin 64 → ℝ
  q : Fin 64 → Fin R → ℝ
  o : Fin 64 → Fin R → ℝ
  s : Fin R → ℝ
  W : Fin C → Fin R → Prop

namespace Ops

variable {C R : ℕ} (a : Ops C R)

def score (c : Fin C) (r : Fin R) : ℝ := ∑ d, a.k c d * a.q d r
def E (c : Fin C) (r : Fin R) : ℝ := if a.W c r then Real.exp (a.score c r) else 0
def Z (r : Fin R) : ℝ := (∑ c, a.E c r) + Real.exp (a.s r)
/-- The weights, and the sink's. -/
def P (c : Fin C) (r : Fin R) : ℝ := a.E c r / a.Z r
def Ps (r : Fin R) : ℝ := Real.exp (a.s r) / a.Z r
/-- The weights' derivative. -/
def G (c : Fin C) (r : Fin R) : ℝ := ∑ d, a.v c d * a.o d r
def D (r : Fin R) : ℝ := ∑ c, a.P c r * a.G c r
/-- The scores' derivative. -/
def dS (c : Fin C) (r : Fin R) : ℝ := a.P c r * (a.G c r - a.D r)
def dq (d : Fin 64) (r : Fin R) : ℝ := ∑ c, a.k c d * a.dS c r
def dk (c : Fin C) (d : Fin 64) : ℝ := ∑ r, a.dS c r * a.q d r
def dv (c : Fin C) (d : Fin 64) : ℝ := ∑ r, a.P c r * a.o d r
def ds (r : Fin R) : ℝ := a.Ps r * a.D r

theorem E_nonneg (c : Fin C) (r : Fin R) : 0 ≤ a.E c r := by
  unfold E; split_ifs <;> positivity

theorem Z_pos (r : Fin R) : 0 < a.Z r :=
  add_pos_of_nonneg_of_pos (Finset.sum_nonneg fun c _ => a.E_nonneg c r) (Real.exp_pos _)

/-- The weights do not change when every score and the sink lose the same number. -/
theorem P_shift (M : ℝ) (c : Fin C) (r : Fin R) :
    a.E c r * Real.exp (-M) / ((∑ c, a.E c r * Real.exp (-M)) + Real.exp (a.s r - M)) = a.P c r := by
  rw [← Finset.sum_mul, sub_eq_add_neg, Real.exp_add, ← add_mul]
  exact mul_div_mul_right _ _ (Real.exp_ne_zero _)

end Ops

/-- The largest of finitely many values below infinity and a real number is a real number. -/
theorem max_real {ι : Type} [Fintype ι] (f : ι → EReal) (x : ℝ) (h : ∀ i, f i ≠ ⊤) :
    ∃ M : ℝ, max (Finset.univ.sup f) (x : EReal) = (M : EReal) := by
  have h1 : Finset.univ.sup f < ⊤ := by
    rw [Finset.sup_lt_iff (by exact bot_lt_top)]
    exact fun i _ => lt_top_iff_ne_top.mpr (h i)
  refine ⟨(max (Finset.univ.sup f) (x : EReal)).toReal, (EReal.coe_toReal ?_ ?_).symm⟩
  · exact (max_lt h1 (EReal.coe_lt_top x)).ne
  · exact (lt_of_lt_of_le (EReal.bot_lt_coe x) (le_max_right _ _)).ne'

end Cert.Attn

end
-- ==== Proof.AttnMask.lean ====
/-
  Which keys a query of the windowed attention sees, and the words by which the kernel's bias and the reference's mask say it.
-/
module

public import Idealize.ShloMosaic.Lib.Pointwise
public import Idealize.ShloMosaic.Lib.WordArith

@[expose] public section

open Idealize.ShloMosaic Idealize.ShloMosaic.WordArith

namespace Cert.Attn

/-- Query `r` of block `B` sees the window's key `c`: at most 128 before it or after it, inside the sequence. -/
def Seen (B : ℕ) (c r : ℕ) : Prop := r ≤ c ∧ c ≤ r + 256 ∧ (B ≠ 0 ∨ 128 ≤ c) ∧ (B ≠ 63 ∨ c < 256)

/-- The same of the bias's slabs: the first block's, the last block's, and the one between. -/
def SlabSeen (σ c r : ℕ) : Prop := r ≤ c ∧ c ≤ r + 256 ∧ (σ ≠ 0 ∨ 128 ≤ c) ∧ (σ ≠ 2 ∨ c < 256)

instance (B c r : ℕ) : Decidable (Seen B c r) := by unfold Seen; infer_instance
instance (B c r : ℕ) : Decidable (SlabSeen B c r) := by unfold SlabSeen; infer_instance

theorem and_127 (r : ℕ) (h : r < 512) : IntOp.andi (BitVec.ofNat 32 r) 127#32 = BitVec.ofNat 32 (r % 128) := by
  unfold IntOp.andi
  apply BitVec.eq_of_toNat_eq
  rw [BitVec.toNat_and, BitVec.toNat_ofNat, BitVec.toNat_ofNat, BitVec.toNat_ofNat, Nat.mod_eq_of_lt (by omega : r < 2 ^ 32),
    Nat.mod_eq_of_lt (by omega : 127 < 2 ^ 32), Nat.mod_eq_of_lt (by omega : r % 128 < 2 ^ 32)]
  exact Nat.and_two_pow_sub_one_eq_mod r 7

theorem sle_word (x y : BitVec 32) : IntOp.cmpi .sle x y = BitVec.ofBool (decide (x.toInt ≤ y.toInt)) :=
  congrArg BitVec.ofBool BitVec.sle_eq_decide
theorem sge_word (x y : BitVec 32) : IntOp.cmpi .sge x y = BitVec.ofBool (decide (y.toInt ≤ x.toInt)) :=
  congrArg BitVec.ofBool BitVec.sle_eq_decide
theorem slt_word (x y : BitVec 32) : IntOp.cmpi .slt x y = BitVec.ofBool (decide (x.toInt < y.toInt)) :=
  congrArg BitVec.ofBool BitVec.slt_eq_decide
theorem ne_word (x y : BitVec 32) : IntOp.cmpi .ne x y = BitVec.ofBool (decide (x.toInt ≠ y.toInt)) := by
  unfold IntOp.cmpi
  congr 1
  by_cases h : x = y
  · subst h; simp
  · have : x.toInt ≠ y.toInt := fun e => h (BitVec.eq_of_toInt_eq e)
    simp [h, this]

theorem nat_word (n : ℕ) (h : n < 2 ^ 31) : (BitVec.ofNat 32 n).toInt = n := toInt_ofNat_small n h

/-- A difference of two small numbers, as a word. -/
theorem sub_word (x y : BitVec 32) (hx : |x.toInt| < 2 ^ 20) (hy : |y.toInt| < 2 ^ 20) : (IntOp.subi x y).toInt = x.toInt - y.toInt := by
  rw [abs_lt] at hx hy
  exact toInt_sub_of_bounds x y (by omega) (by omega)

theorem add_word (x y : BitVec 32) (hx : |x.toInt| < 2 ^ 20) (hy : |y.toInt| < 2 ^ 20) : (IntOp.addi x y).toInt = x.toInt + y.toInt := by
  rw [abs_lt] at hx hy
  exact toInt_add_of_bounds x y (by omega) (by omega)

/-- The absolute value of a small number, as a word. -/
theorem abs_word (x : BitVec 32) (hx : |x.toInt| < 2 ^ 20) : (IntOp.absi x).toInt = |x.toInt| := by
  rw [abs_lt] at hx
  unfold IntOp.absi
  split_ifs with h
  · have h0 : x.toInt < 0 := by rw [BitVec.msb_eq_toInt] at h; simpa using h
    have := toInt_sub_of_bounds 0#32 x (by simp; omega) (by simp; omega)
    rw [abs_of_neg h0]
    simpa using this
  · have h0 : 0 ≤ x.toInt := by rw [BitVec.msb_eq_toInt] at h; simpa using h
    rw [abs_of_nonneg h0]

theorem select_ofBool {α : Type} (p : Prop) [Decidable p] (x y : α) : Scalar.select (BitVec.ofBool (decide p)) x y = if p then x else y := by
  unfold Scalar.select
  by_cases h : p <;> simp [h]

/-- The kernel's mask of a slab. -/
theorem slab_word (σ a r : ℕ) (hσ : σ < 3) (ha : a < 384) (hr : r < 512) :
    IntOp.andi (IntOp.andi (IntOp.andi (IntOp.cmpi .sge (BitVec.ofNat 32 a) (IntOp.andi (BitVec.ofNat 32 r) 127#32))
        (IntOp.cmpi .sle (IntOp.subi (BitVec.ofNat 32 a) 256#32) (IntOp.andi (BitVec.ofNat 32 r) 127#32)))
      (IntOp.ori (IntOp.cmpi .ne (BitVec.ofNat 32 σ) 0#32) (IntOp.cmpi .sge (BitVec.ofNat 32 a) 128#32)))
      (IntOp.ori (IntOp.cmpi .ne (BitVec.ofNat 32 σ) 2#32) (IntOp.cmpi .slt (BitVec.ofNat 32 a) 256#32))
    = BitVec.ofBool (decide (SlabSeen σ a (r % 128))) := by
  have h256 : (256#32).toInt = 256 := by decide
  have h128 : (128#32).toInt = 128 := by decide
  have h0 : (0#32).toInt = 0 := by decide
  have h2 : (2#32).toInt = 2 := by decide
  have e1 := nat_word a (by omega)
  have e2 := nat_word (r % 128) (by omega)
  have e3 := nat_word σ (by omega)
  have e4 : (IntOp.subi (BitVec.ofNat 32 a) 256#32).toInt = a - 256 := by
    rw [sub_word _ _ (by rw [e1, abs_lt]; omega) (by decide), e1, h256]
  rw [and_127 r hr]
  simp only [sge_word, sle_word, slt_word, ne_word, andi_ofBool, ori_ofBool, e1, e2, e3, e4, h256, h128, h0, h2]
  congr 1
  rw [← Bool.decide_and, ← Bool.decide_or, ← Bool.decide_and, ← Bool.decide_or, ← Bool.decide_and]
  refine decide_eq_decide.mpr ?_
  unfold SlabSeen
  omega

/-- The reference's mask of a block. -/
theorem block_word (B c r : ℕ) (hB : B < 64) (hc : c < 384) (hr : r < 128) :
    IntOp.andi (IntOp.cmpi .sle (IntOp.absi (IntOp.subi (IntOp.subi (BitVec.ofNat 32 c) 128#32) (BitVec.ofNat 32 r))) 128#32)
      (IntOp.andi (IntOp.cmpi .sge (IntOp.addi (IntOp.subi (IntOp.muli (BitVec.ofNat 32 B) 128#32) 128#32) (BitVec.ofNat 32 c)) 0#32)
        (IntOp.cmpi .slt (IntOp.addi (IntOp.subi (IntOp.muli (BitVec.ofNat 32 B) 128#32) 128#32) (BitVec.ofNat 32 c)) 8192#32))
    = BitVec.ofBool (decide (Seen B c r)) := by
  have h128 : (128#32).toInt = 128 := by decide
  have h0 : (0#32).toInt = 0 := by decide
  have h8 : (8192#32).toInt = 8192 := by decide
  have e1 := nat_word c (by omega)
  have e2 := nat_word r (by omega)
  have e3 := nat_word B (by omega)
  have e4 : (IntOp.subi (BitVec.ofNat 32 c) 128#32).toInt = c - 128 := by
    rw [sub_word _ _ (by rw [e1, abs_lt]; omega) (by decide), e1, h128]
  have e5 : (IntOp.subi (IntOp.subi (BitVec.ofNat 32 c) 128#32) (BitVec.ofNat 32 r)).toInt = c - 128 - r := by
    rw [sub_word _ _ (by rw [e4, abs_lt]; omega) (by rw [e2, abs_lt]; omega), e4, e2]
  have e6 := abs_word (IntOp.subi (IntOp.subi (BitVec.ofNat 32 c) 128#32) (BitVec.ofNat 32 r)) (by rw [e5, abs_lt]; omega)
  have e7 : (IntOp.muli (BitVec.ofNat 32 B) 128#32).toInt = B * 128 := by
    have := toInt_mul_of_bounds (BitVec.ofNat 32 B) 128#32 (by rw [e3, h128]; omega) (by rw [e3, h128]; omega)
    rw [e3, h128] at this
    exact this
  have e8 : (IntOp.subi (IntOp.muli (BitVec.ofNat 32 B) 128#32) 128#32).toInt = B * 128 - 128 := by
    rw [sub_word _ _ (by rw [e7, abs_lt]; omega) (by decide), e7, h128]
  have e9 : (IntOp.addi (IntOp.subi (IntOp.muli (BitVec.ofNat 32 B) 128#32) 128#32) (BitVec.ofNat 32 c)).toInt = B * 128 - 128 + c := by
    rw [add_word _ _ (by rw [e8, abs_lt]; omega) (by rw [e1, abs_lt]; omega), e8, e1]
  simp only [sge_word, sle_word, slt_word, andi_ofBool, e6, e5, e9, h128, h0, h8]
  congr 1
  rw [← Bool.decide_and, ← Bool.decide_and]
  refine decide_eq_decide.mpr ?_
  unfold Seen
  rw [abs_le]
  omega

end Cert.Attn
-- ==== Proof.AttnWhole.lean ====
/-
  The windowed attention's derivatives of the whole sequence in real numbers: 64 blocks of 128 queries, each with four groups of four
  heads, and the keys of the block itself and of its two neighbours.
-/
module

public import proofs.«01_k».proof.Proof.AttnReals
public import proofs.«01_k».proof.Proof.AttnMask

@[expose] public section

noncomputable section

namespace Cert.Attn

open scoped Classical

namespace Ops

variable {C R : ℕ} (a b : Ops C R)

/-- The keys and values no query sees may be anything. -/
structure Same : Prop where
  q : a.q = b.q
  o : a.o = b.o
  s : a.s = b.s
  W : a.W = b.W
  k : ∀ c r, b.W c r → ∀ d, a.k c d = b.k c d
  v : ∀ c r, b.W c r → ∀ d, a.v c d = b.v c d

theorem P_unseen (c : Fin C) (r : Fin R) (h : ¬a.W c r) : a.P c r = 0 := by
  unfold P E; rw [if_neg h, zero_div]
theorem dS_unseen (c : Fin C) (r : Fin R) (h : ¬a.W c r) : a.dS c r = 0 := by
  unfold dS; rw [P_unseen a c r h, zero_mul]
theorem dk_unseen (c : Fin C) (d : Fin 64) (h : ∀ r, ¬a.W c r) : a.dk c d = 0 :=
  Finset.sum_eq_zero fun r _ => by rw [dS_unseen a c r (h r), zero_mul]
theorem dv_unseen (c : Fin C) (d : Fin 64) (h : ∀ r, ¬a.W c r) : a.dv c d = 0 :=
  Finset.sum_eq_zero fun r _ => by rw [P_unseen a c r (h r), zero_mul]

variable {a b} (h : Same a b)
include h

theorem Same.E : a.E = b.E := by
  funext c r
  unfold Ops.E Ops.score
  rw [h.W, h.q]
  by_cases hw : b.W c r
  · rw [if_pos hw, if_pos hw]
    exact congrArg Real.exp (Finset.sum_congr rfl fun d _ => by rw [h.k c r hw])
  · rw [if_neg hw, if_neg hw]

theorem Same.Z : a.Z = b.Z := by
  funext r; unfold Ops.Z; rw [h.E, h.s]
theorem Same.P : a.P = b.P := by
  funext c r; unfold Ops.P; rw [h.E, h.Z]
theorem Same.Ps : a.Ps = b.Ps := by
  funext r; unfold Ops.Ps; rw [h.Z, h.s]
theorem Same.G (c : Fin C) (r : Fin R) (hw : b.W c r) : a.G c r = b.G c r := by
  unfold Ops.G; rw [h.o]
  exact Finset.sum_congr rfl fun d _ => by rw [h.v c r hw]
theorem Same.D : a.D = b.D := by
  funext r; unfold Ops.D; rw [h.P]
  refine Finset.sum_congr rfl fun c _ => ?_
  by_cases hw : b.W c r
  · rw [h.G c r hw]
  · rw [P_unseen b c r hw, zero_mul, zero_mul]
theorem Same.dS : a.dS = b.dS := by
  funext c r; unfold Ops.dS; rw [h.P, h.D]
  by_cases hw : b.W c r
  · rw [h.G c r hw]
  · rw [P_unseen b c r hw, zero_mul, zero_mul]
theorem Same.dq : a.dq = b.dq := by
  funext d r; unfold Ops.dq; rw [h.dS]
  refine Finset.sum_congr rfl fun c _ => ?_
  by_cases hw : b.W c r
  · rw [h.k c r hw]
  · rw [dS_unseen b c r hw, mul_zero, mul_zero]
theorem Same.dk : a.dk = b.dk := by
  funext c d; unfold Ops.dk; rw [h.dS, h.q]
theorem Same.dv : a.dv = b.dv := by
  funext c d; unfold Ops.dv; rw [h.P, h.o]
theorem Same.ds : a.ds = b.ds := by
  funext r; unfold Ops.ds; rw [h.Ps, h.D]

end Ops

namespace Whole

theorem in_seq (B : Fin 64) (c : Fin 384) (h : 128 ≤ 128 * B.val + c.val ∧ 128 * B.val + c.val < 8320) : 128 * B.val + c.val - 128 < 8192 := by omega
theorem row_lt (B : Fin 64) (r : ℕ) : 128 * B.val + r % 128 < 8192 := by omega
theorem head_lt (h : Fin 4) (r : Fin 512) : 4 * h.val + r.val / 128 < 16 := by omega
theorem col_lt (h : Fin 4) (r : Fin 512) (d : Fin 64) : 64 * (4 * h.val + r.val / 128) + d.val < 1024 := by omega

/-- The keys or values a block's queries look at: nothing outside the sequence. -/
def near (K : Fin 8192 → Fin 4 → Fin 64 → ℝ) (B : Fin 64) (c : Fin 384) (h : Fin 4) (d : Fin 64) : ℝ :=
  if i : 128 ≤ 128 * B.val + c.val ∧ 128 * B.val + c.val < 8320 then K ⟨128 * B.val + c.val - 128, in_seq B c i⟩ h d else 0

/-- The operands of a block's group of heads: its columns are the group's heads, each with the block's queries. -/
def ops (Q : Fin 8192 → Fin 16 → Fin 64 → ℝ) (K Y : Fin 8192 → Fin 4 → Fin 64 → ℝ) (S : Fin 16 → ℝ) (O : Fin 8192 → Fin 1024 → ℝ)
    (B : Fin 64) (h : Fin 4) : Ops 384 512 where
  k c d := near K B c h d
  v c d := near Y B c h d
  q d r := Q ⟨128 * B.val + r.val % 128, row_lt B _⟩ ⟨4 * h.val + r.val / 128, head_lt h r⟩ d * (1 / 8)
  o d r := O ⟨128 * B.val + r.val % 128, row_lt B _⟩ ⟨64 * (4 * h.val + r.val / 128) + d.val, col_lt h r d⟩
  s r := S ⟨4 * h.val + r.val / 128, head_lt h r⟩
  W c r := Seen B.val c.val (r.val % 128)

/-- A block's part of a row of the padded sequence's keys or values. -/
def term (f : Fin 64 → Fin 4 → Fin 384 → Fin 64 → ℝ) (B : Fin 64) (R : ℕ) (h : Fin 4) (d : Fin 64) : ℝ :=
  if i : 128 * B.val + 384 ≤ R ∧ R < 128 * B.val + 768 then f B h ⟨R - (128 * B.val + 384), by omega⟩ d else 0

/-- All blocks' parts. -/
def total (f : Fin 64 → Fin 4 → Fin 384 → Fin 64 → ℝ) (R : ℕ) (h : Fin 4) (d : Fin 64) : ℝ := ∑ B, term f B R h d

/-- The parts of the block before, of the block itself and of the one after it. -/
def three (f : Fin 64 → Fin 4 → Fin 384 → Fin 64 → ℝ) (n : Fin 64) (r : Fin 128) (h : Fin 4) (d : Fin 64) : ℝ :=
  (if i : 1 ≤ n.val then f ⟨n.val - 1, by omega⟩ h ⟨256 + r.val, by omega⟩ d else 0) + f n h ⟨128 + r.val, by omega⟩ d
    + (if i : n.val < 63 then f ⟨n.val + 1, by omega⟩ h ⟨r.val, by omega⟩ d else 0)

theorem pick (x : ℕ) (g : Fin 64 → ℝ) : (∑ B : Fin 64, if B.val = x then g B else 0) = if i : x < 64 then g ⟨x, i⟩ else 0 := by
  split_ifs with i
  · rw [Fintype.sum_eq_single ⟨x, i⟩ fun B hB => if_neg fun e => hB (Fin.ext e), if_pos rfl]
  · exact Finset.sum_eq_zero fun B _ => if_neg (by omega)

theorem total_inside (f : Fin 64 → Fin 4 → Fin 384 → Fin 64 → ℝ) (n : Fin 64) (r : Fin 128) (h : Fin 4) (d : Fin 64) :
    total f (512 + 128 * n.val + r.val) h d = three f n r h d := by
  have e : ∀ B, term f B (512 + 128 * n.val + r.val) h d
      = (if B.val = n.val - 1 then (if 1 ≤ n.val then f B h ⟨256 + r.val, by omega⟩ d else 0) else 0)
        + (if B.val = n.val then f B h ⟨128 + r.val, by omega⟩ d else 0)
        + (if B.val = n.val + 1 then f B h ⟨r.val, by omega⟩ d else 0) := by
    intro B
    have hf : ∀ c c' : Fin 384, c = c' → f B h c d = f B h c' d := fun _ _ e => by rw [e]
    unfold term
    by_cases h1 : B.val = n.val
    · rw [dif_pos (by omega), if_pos h1, if_neg (by omega : ¬B.val = n.val + 1), hf _ ⟨128 + r.val, by omega⟩ (Fin.ext (by simp; omega))]
      by_cases h2 : B.val = n.val - 1
      · rw [if_pos h2, if_neg (by omega)]; ring
      · rw [if_neg h2]; ring
    · by_cases h2 : B.val = n.val + 1
      · rw [dif_pos (by omega), if_neg h1, if_pos h2, if_neg (by omega : ¬B.val = n.val - 1), hf _ ⟨r.val, by omega⟩ (Fin.ext (by simp; omega))]; ring
      · by_cases h3 : B.val = n.val - 1
        · rw [dif_pos (by omega), if_neg h1, if_neg h2, if_pos h3, if_pos (by omega), hf _ ⟨256 + r.val, by omega⟩ (Fin.ext (by simp; omega))]; ring
        · rw [dif_neg (by omega), if_neg h1, if_neg h2, if_neg h3]; ring
  unfold total three
  rw [Finset.sum_congr rfl fun B _ => e B, Finset.sum_add_distrib, Finset.sum_add_distrib,
    pick (n.val - 1) (fun B => if 1 ≤ n.val then f B h ⟨256 + r.val, by omega⟩ d else 0), pick n.val (fun B => f B h ⟨128 + r.val, by omega⟩ d),
    pick (n.val + 1) (fun B => f B h ⟨r.val, by omega⟩ d), dif_pos (by omega), dif_pos n.isLt]
  refine congrArg₂ (· + ·) (congrArg (· + _) ?_) ?_
  · by_cases i : 1 ≤ n.val <;> simp [i]
  · by_cases i : n.val < 63
    · simp [i, show n.val + 1 < 64 by omega]
    · simp [i, show ¬n.val + 1 < 64 by omega]

/-- A sum over a line of places, row by row. -/
theorem sum_rows (a b : ℕ) (hb : 0 < b) (F : ℕ → ℕ → ℝ) : (∑ j ∈ Finset.range (a * b), F (j / b) (j % b)) = ∑ u : Fin a, ∑ v : Fin b, F u.val v.val := by
  rw [Finset.sum_range, ← Fintype.sum_prod_type', ← finProdFinEquiv.sum_comp]
  refine Finset.sum_congr rfl fun x _ => ?_
  have h1 : (finProdFinEquiv x).val = x.2.val + b * x.1.val := rfl
  rw [h1, Nat.add_mul_div_left _ _ hb, Nat.div_eq_of_lt x.2.isLt, Nat.zero_add, Nat.add_mul_mod_self_left, Nat.mod_eq_of_lt x.2.isLt]

/-- Outside the sequence nothing is left. -/
theorem total_outside (f : Fin 64 → Fin 4 → Fin 384 → Fin 64 → ℝ) (R : ℕ) (h : Fin 4) (d : Fin 64) (hR : R < 512 ∨ 8704 ≤ R)
    (hf : ∀ (B : Fin 64) (c : Fin 384), (∀ r, r < 128 → ¬Seen B.val c.val r) → f B h c d = 0) : total f R h d = 0 := by
  refine Finset.sum_eq_zero fun B _ => ?_
  unfold term
  split_ifs with i
  · refine hf _ _ fun r hr => ?_
    unfold Seen
    simp only
    omega
  · rfl

end Whole

end Cert.Attn

end
-- ==== Proof.AttnRef.lean ====
/-
  The reference's stages of the windowed attention's derivative, element by element, when the arguments hold real numbers.
-/
module

public import proofs.«01_k».proof.Proof.Gen.AttnBwdRefIdeal.Read
public import proofs.«01_k».proof.Proof.AttnWhole
public import proofs.«01_k».proof.Proof.AttnReals

@[expose] public section

set_option maxRecDepth 16384

noncomputable section

open Idealize.ShloMosaic Idealize.ShloMosaic.TcCoe Idealize.SL.Sem

namespace Cert.AttnBwdRefIdeal.Stage

open Cert.AttnBwdRefIdeal Cert.AttnBwdRefIdeal.Read Cert.Reals Cert.Attn

variable {x0 : FVec Ideal S8192x16x64 .f32} {x1 x2 : FVec Ideal S8192x4x64 .f32} {x3 : FVec Ideal S16 .f32} {x4 : FVec Ideal S8192x1024 .f32}
  {Q : Fin 8192 → Fin 16 → Fin 64 → ℝ} {K Y : Fin 8192 → Fin 4 → Fin 64 → ℝ} {S : Fin 16 → ℝ} {O : Fin 8192 → Fin 1024 → ℝ}

/-- What the reference's arguments hold. -/
structure Args (x0 : FVec Ideal S8192x16x64 .f32) (x1 x2 : FVec Ideal S8192x4x64 .f32) (x3 : FVec Ideal S16 .f32) (x4 : FVec Ideal S8192x1024 .f32)
    (Q : Fin 8192 → Fin 16 → Fin 64 → ℝ) (K Y : Fin 8192 → Fin 4 → Fin 64 → ℝ) (S : Fin 16 → ℝ) (O : Fin 8192 → Fin 1024 → ℝ) : Prop where
  h0 : ∀ i j k, x0 (ix3 i j k) = (Q i j k : EReal)
  h1 : ∀ i j k, x1 (ix3 i j k) = (K i j k : EReal)
  h2 : ∀ i j k, x2 (ix3 i j k) = (Y i j k : EReal)
  h3 : ∀ j, x3 (ix1 j) = (S j : EReal)
  h4 : ∀ i j, x4 (ix2 i j) = (O i j : EReal)

/-- The column of a head's query in its group. -/
def col (g : Fin 4) (r : Fin 128) : Fin 512 := ⟨128 * g.val + r.val, by omega⟩

theorem sum_col (F : Fin 512 → ℝ) : ∑ x, F x = ∑ g, ∑ r, F (col g r) := by
  rw [← Fintype.sum_prod_type', ← (finProdFinEquiv (m := 4) (n := 128)).sum_comp F]
  refine Finset.sum_congr rfl fun x _ => congrArg F (Fin.ext ?_)
  show x.2.val + 128 * x.1.val = 128 * x.1.val + x.2.val
  omega

theorem col_div (g : Fin 4) (r : Fin 128) : (col g r).val / 128 = g.val := by show (128 * g.val + r.val) / 128 = _; omega
theorem col_mod (g : Fin 4) (r : Fin 128) : (col g r).val % 128 = r.val := by show (128 * g.val + r.val) % 128 = _; omega

variable (Q K Y S O) in
theorem q_col (B : Fin 64) (h g : Fin 4) (r : Fin 128) (d : Fin 64) :
    (Whole.ops Q K Y S O B h).q d (col g r) = Q ⟨128 * B.val + r.val, by omega⟩ ⟨4 * h.val + g.val, by omega⟩ d * (1 / 8) := by
  have e : ∀ (i i' : Fin 8192) (j j' : Fin 16), i = i' → j = j' → Q i j d * (1 / 8) = Q i' j' d * (1 / 8) := fun _ _ _ _ h1 h2 => by rw [h1, h2]
  exact e _ _ _ _ (Fin.ext (by simp only [col_mod])) (Fin.ext (by simp only [col_div]))

variable (Q K Y S O) in
theorem o_col (B : Fin 64) (h g : Fin 4) (r : Fin 128) (d : Fin 64) :
    (Whole.ops Q K Y S O B h).o d (col g r) = O ⟨128 * B.val + r.val, by omega⟩ ⟨64 * (4 * h.val + g.val) + d.val, by omega⟩ := by
  have e : ∀ (i i' : Fin 8192) (j j' : Fin 1024), i = i' → j = j' → O i j = O i' j' := fun _ _ _ _ h1 h2 => by rw [h1, h2]
  exact e _ _ _ _ (Fin.ext (by simp only [col_mod])) (Fin.ext (by simp only [col_div]))

variable (Q K Y S O) in
theorem s_col (B : Fin 64) (h g : Fin 4) (r : Fin 128) : (Whole.ops Q K Y S O B h).s (col g r) = S ⟨4 * h.val + g.val, by omega⟩ := by
  have e : ∀ j j' : Fin 16, j = j' → S j = S j' := fun _ _ h1 => by rw [h1]
  exact e _ _ (Fin.ext (by simp only [col_div]))

variable (Q K Y S O) in
theorem W_col (B : Fin 64) (h g : Fin 4) (r : Fin 128) (c : Fin 384) : (Whole.ops Q K Y S O B h).W c (col g r) = Seen B.val c.val r.val := by
  show Seen B.val c.val ((col g r).val % 128) = _
  rw [col_mod]

theorem const_eighth : Ideal.ofBits .f32 0x3E000000#32 = ((1 / 8 : ℝ) : EReal) := by
  simp [Ideal.ofBits, Ideal.ieee, -EReal.coe_mul]; norm_num
theorem const_eight : Ideal.ofBits .f32 0x41000000#32 = ((8 : ℝ) : EReal) := by
  simp [Ideal.ofBits, Ideal.ieee, -EReal.coe_mul]; norm_num
theorem const_bot : Ideal.ofBits .f32 0xFF800000#32 = ⊥ := by
  simp [Ideal.ofBits, Ideal.ieee]

variable (H : Args x0 x1 x2 x3 x4 Q K Y S O)
include H

theorem at0 (B : Fin 64) (r : Fin 128) (h g : Fin 4) (d : Fin 64) : val_main_v0 (F := Ideal) x0 (ix5 B r h g d)
    = (Q ⟨128 * B.val + r.val, by omega⟩ ⟨4 * h.val + g.val, by omega⟩ d : EReal) := by
  have e : ∀ (i i' : Fin 8192) (j j' : Fin 16), i = i' → j = j' → ((Q i j d : ℝ) : EReal) = Q i' j' d := fun _ _ _ _ h1 h2 => by rw [h1, h2]
  pointwise [val_main_v0]
  rw [H.h0]
  exact e _ _ _ _ (Fin.ext (by simp; omega)) (Fin.ext (by simp; omega))

omit H in
/-- A piece of the padded sequence, in the three places it can lie. -/
theorem near_cases (X : Fin 8192 → Fin 4 → Fin 64 → ℝ) (x : FVec Ideal S8192x4x64 .f32) (hx : ∀ i j k, x (ix3 i j k) = (X i j k : EReal))
    (B : Fin 64) (c : Fin 384) (h : Fin 4) (d : Fin 64) :
    (if h_1 : c.val < 128 then if h_2 : B.val < 1 then 0 else if h_3 : B.val - 1 < 64 then x (ix3 ⟨(B.val - 1) * 128 + c.val, by omega⟩ h d) else 0
      else if h_2 : c.val - 128 < 128 then x (ix3 ⟨B.val * 128 + (c.val - 128), by omega⟩ h d)
      else if h_3 : 2 + B.val < 1 then 0 else if h_4 : 2 + B.val - 1 < 64 then x (ix3 ⟨(2 + B.val - 1) * 128 + (c.val - 128 - 128), by omega⟩ h d) else 0)
      = (Whole.near X B c h d : EReal) := by
  have e : ∀ i i' : Fin 8192, i = i' → ((X i h d : ℝ) : EReal) = X i' h d := fun _ _ h1 => by rw [h1]
  have := B.isLt
  have := c.isLt
  simp only [hx]
  unfold Whole.near
  split_ifs <;> first
    | rfl
    | (exfalso; omega)
    | exact e _ _ (Fin.ext (by simp; omega))

theorem at13 (B : Fin 64) (c : Fin 384) (h : Fin 4) (d : Fin 64) : val_main_v13 (F := Ideal) x1 (ix4 B c h d) = (Whole.near K B c h d : EReal) := by
  pointwise [val_main_v13, val_main_v10, val_main_v11, val_main_v12, val_main_v3, val_main_v2, val_main_v1, val_main_cst]
  exact near_cases K x1 H.h1 B c h d

theorem at17 (B : Fin 64) (c : Fin 384) (h : Fin 4) (d : Fin 64) : val_main_v17 (F := Ideal) x2 (ix4 B c h d) = (Whole.near Y B c h d : EReal) := by
  pointwise [val_main_v17, val_main_v14, val_main_v15, val_main_v16, val_main_v7, val_main_v6, val_main_v1, val_main_cst]
  exact near_cases Y x2 H.h2 B c h d

theorem at21 (B : Fin 64) (h g : Fin 4) (r : Fin 128) (c : Fin 384) : val_main_v21 (F := Ideal) x0 x1 (ix5 B h g r c)
    = ((Whole.ops Q K Y S O B h).score c (col g r) : EReal) := by
  pointwise [val_main_v21, val_main_v20, val_main_v19, val_main_v18, val_main_cst_4]
  simp only [at13 H, at0 H, const_eighth, lift_mul, lift_sum]
  congr 1
  unfold Ops.score
  rw [Finset.sum_mul]
  refine Finset.sum_congr rfl fun d _ => ?_
  rw [q_col]
  show Whole.near K B c h d * _ * _ = Whole.near K B c h d * _
  ring

omit H in
theorem mask (B : Fin 64) (h g : Fin 4) (r : Fin 128) (c : Fin 384) :
    val_main_v55_1 (F := Ideal) (ix5 B h g r c) = BitVec.ofBool (decide (Seen B.val c.val r.val)) := by
  pointwise [val_main_v55_1, val_main_v54, val_main_v53, val_main_v52, val_main_v51, val_main_v50, val_main_v49, val_main_v48, val_main_v47,
    val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27,
    val_main_v26, val_main_v25, val_main_v24, val_main_v23, val_main_v22, val_main_c, val_main_c_5, val_main_c_6, val_main_c_7, val_main_c_8, val_main_c_9]
  exact block_word B.val c.val r.val B.isLt c.isLt r.isLt

theorem at55 (B : Fin 64) (h g : Fin 4) (r : Fin 128) (c : Fin 384) : val_main_v55_0 (F := Ideal) x0 x1 (ix5 B h g r c)
    = if Seen B.val c.val r.val then ((Whole.ops Q K Y S O B h).score c (col g r) : EReal) else ⊥ := by
  rw [← select_ofBool, ← mask B h g r c, ← at21 H, ← const_bot]
  pointwise [val_main_v55_0, val_main_call0_v2, val_main_call0_v0, val_main_cst_10]
  rfl

omit H in
theorem max_fold_real {ι : Type} [Fintype ι] (f : ι → EReal) (x : ℝ) (h : ∀ i, f i ≠ ⊤) :
    ∃ M : ℝ, max (Finset.fold max ⊥ f Finset.univ) (x : EReal) = (M : EReal) := max_real f x h

/-- The largest score a query sees, or its sink if that is larger. -/
def top (x0 : FVec Ideal S8192x16x64 .f32) (x1 : FVec Ideal S8192x4x64 .f32) (x3 : FVec Ideal S16 .f32) (B : Fin 64) (h g : Fin 4) (r : Fin 128) : ℝ :=
  EReal.toReal (val_main_v65 (F := Ideal) x0 x1 x3 (ix5 B h g r 0))

theorem at56 (h g : Fin 4) : val_main_v56 (F := Ideal) x3 (ix5 0 h g 0 0) = (S ⟨4 * h.val + g.val, by omega⟩ : EReal) := by
  have e : ∀ (j j' : Fin 16), j = j' → ((S j : ℝ) : EReal) = S j' := fun _ _ h1 => by rw [h1]
  pointwise [val_main_v56]
  rw [H.h3]
  exact e _ _ (Fin.ext (by simp; omega))

omit H in
theorem at57 (B : Fin 64) (h g : Fin 4) (r : Fin 128) : val_main_v57 (F := Ideal) x0 x1 (ix4 B h g r)
    = Finset.fold max ⊥ (fun c : Fin 384 => val_main_v55_0 (F := Ideal) x0 x1 (ix5 B h g r c)) Finset.univ := by
  rw [← const_bot]
  pointwise [val_main_v57, val_main_cst_11]

theorem at64 (B : Fin 64) (h g : Fin 4) (r : Fin 128) (z : Fin 1) : val_main_v64 (F := Ideal) x3 (ix5 B h g r z) = (S ⟨4 * h.val + g.val, by omega⟩ : EReal) := by
  pointwise [val_main_v64]
  exact at56 H h g

omit H in
theorem at63 (B : Fin 64) (h g : Fin 4) (r : Fin 128) (z : Fin 1) : val_main_v63 (F := Ideal) x0 x1 (ix5 B h g r z)
    = val_main_v57 (F := Ideal) x0 x1 (ix4 B h g r) := by
  pointwise [val_main_v63]

theorem at63_real (B : Fin 64) (h g : Fin 4) (r : Fin 128) (z : Fin 1) (x : ℝ) : ∃ M : ℝ, max (val_main_v63 (F := Ideal) x0 x1 (ix5 B h g r z)) (x : EReal) = (M : EReal) := by
  rw [at63, at57]
  refine max_fold_real _ _ fun c => ?_
  rw [at55 H]
  split_ifs
  · exact EReal.coe_ne_top _
  · exact bot_ne_top

omit H in
theorem at65_max (i : S64x4x4x128x1.Idx) : val_main_v65 (F := Ideal) x0 x1 x3 i
    = max (val_main_v63 (F := Ideal) x0 x1 i) (val_main_v64 (F := Ideal) x3 i) := by
  rw [val_main_v65_apply]
  generalize val_main_v63 (F := Ideal) x0 x1 i = a
  generalize val_main_v64 (F := Ideal) x3 i = b
  exact congrFun (congrFun Ideal.maximumf_eq_max a) b

theorem at65_real (B : Fin 64) (h g : Fin 4) (r : Fin 128) (z : Fin 1) : ∃ M : ℝ, val_main_v65 (F := Ideal) x0 x1 x3 (ix5 B h g r z) = (M : EReal) := by
  have e := at65_max (x0 := x0) (x1 := x1) (x3 := x3) (ix5 B h g r z)
  rw [at64 H] at e
  obtain ⟨M, hM⟩ := at63_real H B h g r z _
  exact ⟨M, e.trans hM⟩

theorem at65 (B : Fin 64) (h g : Fin 4) (r : Fin 128) (z : Fin 1) : val_main_v65 (F := Ideal) x0 x1 x3 (ix5 B h g r z) = (top x0 x1 x3 B h g r : EReal) := by
  obtain rfl : z = 0 := Subsingleton.elim _ _
  obtain ⟨M, hM⟩ := at65_real H B h g r 0
  have e : top x0 x1 x3 B h g r = M := (congrArg EReal.toReal hM).trans (EReal.toReal_coe M)
  exact hM.trans (congrArg ((↑) : ℝ → EReal) e.symm)

theorem at86 (B : Fin 64) (h g : Fin 4) (r : Fin 128) (c : Fin 384) : val_main_v86 (F := Ideal) x0 x1 x3 (ix5 B h g r c)
    = (((Whole.ops Q K Y S O B h).E c (col g r) * Real.exp (-top x0 x1 x3 B h g r) : ℝ) : EReal) := by
  pointwise [val_main_v86, val_main_v85, val_main_v84]
  rw [at65 H, at55 H]
  unfold Ops.E
  simp only [W_col]
  split_ifs
  · rw [lift_sub, lift_exp, ← Real.exp_add, sub_eq_add_neg]
  · rw [zero_mul, EReal.bot_sub]
    rfl

/-- The sum of the weights' numerators. -/
def den (B : Fin 64) (h g : Fin 4) (r : Fin 128) (Q : Fin 8192 → Fin 16 → Fin 64 → ℝ) (K Y : Fin 8192 → Fin 4 → Fin 64 → ℝ) (S : Fin 16 → ℝ)
    (O : Fin 8192 → Fin 1024 → ℝ) (M : ℝ) : ℝ := (Whole.ops Q K Y S O B h).Z (col g r) * Real.exp (-M)

theorem at92 (B : Fin 64) (h g : Fin 4) (r : Fin 128) (z : Fin 1) : val_main_v92 (F := Ideal) x0 x1 x3 (ix5 B h g r z)
    = (den B h g r Q K Y S O (top x0 x1 x3 B h g r) : EReal) := by
  pointwise [val_main_v92, val_main_v91, val_main_v90, val_main_v89, val_main_v88, val_main_v87, val_main_cst_19]
  simp only [at86 H, at65 H, at56 H, lift_sub, lift_exp, lift_sum, zero_add, lift_add]
  congr 1
  unfold den Ops.Z
  rw [← Finset.sum_mul, s_col, sub_eq_add_neg, Real.exp_add]
  ring

theorem at91 (B : Fin 64) (h g : Fin 4) (r : Fin 128) (z : Fin 1) : val_main_v91 (F := Ideal) x0 x1 x3 (ix5 B h g r z)
    = ((Real.exp ((Whole.ops Q K Y S O B h).s (col g r)) * Real.exp (-top x0 x1 x3 B h g r) : ℝ) : EReal) := by
  pointwise [val_main_v91, val_main_v90, val_main_v89]
  rw [at65 H, at56 H, lift_sub, lift_exp, s_col, ← Real.exp_add, sub_eq_add_neg]

omit H in
theorem den_ne (B : Fin 64) (h g : Fin 4) (r : Fin 128) (M : ℝ) : den B h g r Q K Y S O M ≠ 0 :=
  mul_ne_zero (Ops.Z_pos _ _).ne' (Real.exp_ne_zero _)

omit H in
theorem P_den (B : Fin 64) (h g : Fin 4) (r : Fin 128) (c : Fin 384) (M : ℝ) :
    (Whole.ops Q K Y S O B h).E c (col g r) * Real.exp (-M) / den B h g r Q K Y S O M = (Whole.ops Q K Y S O B h).P c (col g r) :=
  mul_div_mul_right _ _ (Real.exp_ne_zero _)

omit H in
theorem Ps_den (B : Fin 64) (h g : Fin 4) (r : Fin 128) (M : ℝ) :
    Real.exp ((Whole.ops Q K Y S O B h).s (col g r)) * Real.exp (-M) / den B h g r Q K Y S O M = (Whole.ops Q K Y S O B h).Ps (col g r) :=
  mul_div_mul_right _ _ (Real.exp_ne_zero _)

theorem at94 (B : Fin 64) (h g : Fin 4) (r : Fin 128) (c : Fin 384) : val_main_v94 (F := Ideal) x0 x1 x3 (ix5 B h g r c)
    = ((Whole.ops Q K Y S O B h).P c (col g r) : EReal) := by
  pointwise [val_main_v94, val_main_v93]
  rw [at86 H, at92 H, lift_div _ _ (den_ne B h g r _), P_den]

theorem at97 (B : Fin 64) (h g : Fin 4) (r : Fin 128) (z : Fin 1) : val_main_v97 (F := Ideal) x0 x1 x3 (ix5 B h g r z)
    = ((1 / (den B h g r Q K Y S O (top x0 x1 x3 B h g r) * den B h g r Q K Y S O (top x0 x1 x3 B h g r)) : ℝ) : EReal) := by
  pointwise [val_main_v97, val_main_v96, val_main_v95, val_main_cst_20]
  rw [at92 H, lift_mul, lift_one, lift_div _ _ (mul_ne_zero (den_ne B h g r _) (den_ne B h g r _))]

theorem at102 (B : Fin 64) (h : Fin 4) (d : Fin 64) (g : Fin 4) (r : Fin 128) : val_main_v102 (F := Ideal) x4 (ix5 B h d g r)
    = ((Whole.ops Q K Y S O B h).o d (col g r) : EReal) := by
  have e : ∀ (i i' : Fin 8192) (j j' : Fin 1024), i = i' → j = j' → ((O i j : ℝ) : EReal) = O i' j' := fun _ _ _ _ h1 h2 => by rw [h1, h2]
  rw [o_col]
  pointwise [val_main_v102, val_main_v101]
  rw [H.h4]
  exact e _ _ _ _ (Fin.ext (by simp; omega)) (Fin.ext (by simp; omega))

theorem at103 (B : Fin 64) (h g : Fin 4) (r : Fin 128) (c : Fin 384) : val_main_v103 (F := Ideal) x2 x4 (ix5 B h g r c)
    = ((Whole.ops Q K Y S O B h).G c (col g r) : EReal) := by
  pointwise [val_main_v103]
  simp only [at102 H, at17 H, lift_mul, lift_sum]
  congr 1
  exact Finset.sum_congr rfl fun d _ => mul_comm _ _

theorem at105 (B : Fin 64) (c : Fin 384) (h : Fin 4) (d : Fin 64) : val_main_v105 (F := Ideal) x0 x1 x3 x4 (ix4 B c h d)
    = ((Whole.ops Q K Y S O B h).dv c d : EReal) := by
  pointwise [val_main_v105, val_main_v104]
  simp only [at102 H, at94 H, lift_mul, lift_sum]
  congr 1
  unfold Ops.dv
  rw [sum_col]
  exact Finset.sum_congr rfl fun g _ => Finset.sum_congr rfl fun r _ => mul_comm _ _

theorem at111 (B : Fin 64) (h g : Fin 4) (r : Fin 128) (z : Fin 1) : val_main_v111 (F := Ideal) x0 x1 x2 x3 x4 (ix5 B h g r z)
    = ((-((Whole.ops Q K Y S O B h).D (col g r) / den B h g r Q K Y S O (top x0 x1 x3 B h g r)) : ℝ) : EReal) := by
  pointwise [val_main_v111, val_main_v110, val_main_v109, val_main_v108, val_main_v107, val_main_v106, val_main_cst_21]
  simp only [at103 H, at97 H, at86 H, lift_mul, lift_sum, zero_add, lift_neg]
  congr 2
  unfold Ops.D
  rw [Finset.sum_div]
  refine Finset.sum_congr rfl fun c _ => ?_
  rw [← P_den B h g r c (top x0 x1 x3 B h g r)]
  have hd := den_ne (Q := Q) (K := K) (Y := Y) (S := S) (O := O) B h g r (top x0 x1 x3 B h g r)
  field_simp

theorem at121 (B : Fin 64) (h g : Fin 4) (r : Fin 128) (c : Fin 384) : val_main_v121 (F := Ideal) x0 x1 x2 x3 x4 (ix5 B h g r c)
    = ((Whole.ops Q K Y S O B h).dS c (col g r) : EReal) := by
  pointwise [val_main_v121, val_main_v120, val_main_v119, val_main_v118, val_main_v113, val_main_v112, val_main_cst_23]
  have hd := den_ne (Q := Q) (K := K) (Y := Y) (S := S) (O := O) B h g r (top x0 x1 x3 B h g r)
  simp only [at103 H, at92 H, at86 H, at111 H, lift_div _ _ hd, lift_mul, lift_add, zero_add, lift_sum]
  congr 1
  unfold Ops.dS
  rw [← P_den B h g r c (top x0 x1 x3 B h g r)]
  simp
  field_simp
  ring

theorem at114 (B : Fin 64) (h g : Fin 4) (r : Fin 128) (z : Fin 1) : val_main_v114 (F := Ideal) x0 x1 x2 x3 x4 (ix5 B h g r z)
    = ((-(Whole.ops Q K Y S O B h).ds (col g r) : ℝ) : EReal) := by
  pointwise [val_main_v114]
  rw [at111 H, at91 H, lift_mul]
  congr 1
  unfold Ops.ds
  rw [← Ps_den B h g r (top x0 x1 x3 B h g r)]
  ring

omit H in
/-- The weights and the sink's are one together. -/
theorem P_one (a : Ops 384 512) (x : Fin 512) : (∑ c, a.P c x) = 1 - a.Ps x := by
  have hz := (a.Z_pos x).ne'
  unfold Ops.P Ops.Ps
  rw [← Finset.sum_div, eq_sub_iff_add_eq, ← add_div]
  exact div_self hz

theorem at125 (B : Fin 64) (h g : Fin 4) (r : Fin 128) (z : Fin 1) : val_main_v125 (F := Ideal) x0 x1 x2 x3 x4 (ix5 B h g r z) = 0 := by
  pointwise [val_main_v125, val_main_v124, val_main_v123, val_main_v122, val_main_v117, val_main_cst_24]
  simp only [at114 H, at121 H, lift_neg, lift_sum, zero_add, lift_add]
  rw [lift_zero]
  congr 1
  unfold Ops.dS Ops.ds
  simp only [mul_sub, Finset.sum_neg_distrib, Finset.sum_sub_distrib, ← Finset.sum_mul, P_one]
  unfold Ops.D
  ring

end Cert.AttnBwdRefIdeal.Stage

end
-- ==== Proof.AttnLater.lean ====
/-
  One run of the windowed attention's backward kernel body, on whole buffers: what its stores leave in the four outputs. At the first
  point of the grid the three accumulated outputs are zeroed first; at the others they hold what the point before left.
-/
module

public import proofs.«01_k».proof.Proof.Gen.AttnBwdIdeal.Skeleton
public import proofs.«01_k».proof.Proof.Gen.AttnBwdIdeal.Frame

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnBwdIdeal.Gen

variable {F : FTy → Type} [FloatOps F]

local notation "𝕄" => MT nD τ sig Unit (Elt F) ℕ (UR sig nD τ) ℕ

/-- The body's condition: the grid's first point. -/
abbrev First (i : grid0.Coords) : Prop :=
  Scalar.cmpi .ne (Scalar.extui (Scalar.cmpi .eq (BitVec.ofNat 32 (i 0).val) 0#32)) 0#32 = 1#1

theorem first_iff (t : Fin cfg0.N) : First (grid0.coords t) ↔ t.val % 16 = 0 := by
  have ht : t.val < 16 := Nat.lt_of_lt_of_eq t.isLt N_0
  have e0 : (grid0.coords t 0).val = t.val / 1 % 16 := Pipeline.Grid.coords_val t 0 (by decide) rfl
  simp only [First, e0]
  word_cmp

set_option maxHeartbeats 4000000 in
/-- The pieces that a run of the body stores into the four outputs, the last store first, with the run itself: from the inputs' buffers
    at their contents and the outputs' buffers to the inputs' as they were and each output's with its pieces written. At any other point: the accumulated outputs' buffers hold `y11`, `y12` and `y13`. -/
def laterRun (c : Dev nD) (i : grid0.Coords) (arg1 : Memref sig .tc .smem S16 .f32) (harg1 : arg1.IsWhole) (arg2 : Memref sig .tc .vmem S3x384x512 .f32) (harg2 : arg2.IsWhole) (arg3 : Memref sig .tc .vmem S4x1024x128 .bf16) (harg3 : arg3.IsWhole) (arg4 : Memref sig .tc .vmem S128x256 .bf16) (harg4 : arg4.IsWhole) (arg5 : Memref sig .tc .vmem S512x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S512x256 .bf16) (harg8 : arg8.IsWhole) (arg9 : Memref sig .tc .vmem S128x256 .bf16) (harg9 : arg9.IsWhole) (arg10 : Memref sig .tc .vmem S4x1024x128 .bf16) (harg10 : arg10.IsWhole) (arg11 : Memref sig .tc .vmem S4x1024x128 .f32) (harg11 : arg11.IsWhole) (arg12 : Memref sig .tc .vmem S9216x256 .f32) (harg12 : arg12.IsWhole) (arg13 : Memref sig .tc .vmem S9216x256 .f32) (harg13 : arg13.IsWhole) (arg14 : Memref sig .tc .vmem S8x128 .f32) (harg14 : arg14.IsWhole)
    (hc : ¬First i) (x0 : Vec F S16 .f32) (x1 : Vec F S3x384x512 .f32) (x2 : Vec F S4x1024x128 .bf16) (x3 : Vec F S128x256 .bf16) (x4 : Vec F S512x256 .bf16) (x5 : Vec F S128x256 .bf16) (x6 : Vec F S128x256 .bf16) (x7 : Vec F S512x256 .bf16) (x8 : Vec F S128x256 .bf16) (x9 : Vec F S4x1024x128 .bf16) (y11 y12 : Vec F S9216x256 .f32) (y13 : Vec F S8x128 .f32) :
    Σ' (Lq : List (View.Piece (Elt F) S4x1024x128 .f32)) (Lk Lv : List (View.Piece (Elt F) S9216x256 .f32)),
    { Ls : List (View.Piece (Elt F) S8x128 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare y11 ∗ owns (c : Thread nD τ) arg13 fullShare y12 ∗ owns (c : Thread nD τ) arg14 fullShare y13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f Lq) ∗ (arg12.view.loc (c : Thread nD τ) ↦[arg12.view.set]{fullShare} arg12.view.writes (Elt F) (harg12.unread y11) Lk) ∗ (arg13.view.loc (c : Thread nD τ) ↦[arg13.view.set]{fullShare} arg13.view.writes (Elt F) (harg13.unread y12) Lv) ∗ (arg14.view.loc (c : Thread nD τ) ↦[arg14.view.set]{fullShare} arg14.view.writes (Elt F) (harg14.unread y13) Ls)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_attn_bwd_eq_skeleton]; unfold cc0_attn_bwd_skel
    simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hf13
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexact H11
    isplitl [H12]; · iexact H12
    iexact H13

end Cert.AttnBwdIdeal.Body

end
-- ==== Proof.AttnFirst.lean ====
/-
  One run of the windowed attention's backward kernel body, on whole buffers: what its stores leave in the four outputs. At the first
  point of the grid the three accumulated outputs are zeroed first; at the others they hold what the point before left.
-/
module

public import proofs.«01_k».proof.Proof.AttnLater

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnBwdIdeal.Gen

variable {F : FTy → Type} [FloatOps F]

local notation "𝕄" => MT nD τ sig Unit (Elt F) ℕ (UR sig nD τ) ℕ

set_option maxHeartbeats 4000000 in
/-- The pieces that a run of the body stores into the four outputs, the last store first, with the run itself: from the inputs' buffers
    at their contents and the outputs' buffers to the inputs' as they were and each output's with its pieces written. At the grid's first point: the outputs' buffers may hold anything. -/
def firstRun (c : Dev nD) (i : grid0.Coords) (arg1 : Memref sig .tc .smem S16 .f32) (harg1 : arg1.IsWhole) (arg2 : Memref sig .tc .vmem S3x384x512 .f32) (harg2 : arg2.IsWhole) (arg3 : Memref sig .tc .vmem S4x1024x128 .bf16) (harg3 : arg3.IsWhole) (arg4 : Memref sig .tc .vmem S128x256 .bf16) (harg4 : arg4.IsWhole) (arg5 : Memref sig .tc .vmem S512x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S512x256 .bf16) (harg8 : arg8.IsWhole) (arg9 : Memref sig .tc .vmem S128x256 .bf16) (harg9 : arg9.IsWhole) (arg10 : Memref sig .tc .vmem S4x1024x128 .bf16) (harg10 : arg10.IsWhole) (arg11 : Memref sig .tc .vmem S4x1024x128 .f32) (harg11 : arg11.IsWhole) (arg12 : Memref sig .tc .vmem S9216x256 .f32) (harg12 : arg12.IsWhole) (arg13 : Memref sig .tc .vmem S9216x256 .f32) (harg13 : arg13.IsWhole) (arg14 : Memref sig .tc .vmem S8x128 .f32) (harg14 : arg14.IsWhole)
    (hc : First i) (x0 : Vec F S16 .f32) (x1 : Vec F S3x384x512 .f32) (x2 : Vec F S4x1024x128 .bf16) (x3 : Vec F S128x256 .bf16) (x4 : Vec F S512x256 .bf16) (x5 : Vec F S128x256 .bf16) (x6 : Vec F S128x256 .bf16) (x7 : Vec F S512x256 .bf16) (x8 : Vec F S128x256 .bf16) (x9 : Vec F S4x1024x128 .bf16) :
    Σ' (Lq : List (View.Piece (Elt F) S4x1024x128 .f32)) (Lk Lv : List (View.Piece (Elt F) S9216x256 .f32)),
    { Ls : List (View.Piece (Elt F) S8x128 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f Lq) ∗ (∃ f, arg12.view.loc (c : Thread nD τ) ↦[arg12.view.set]{fullShare} arg12.view.writes (Elt F) f Lk) ∗ (∃ f, arg13.view.loc (c : Thread nD τ) ↦[arg13.view.set]{fullShare} arg13.view.writes (Elt F) f Lv) ∗ (∃ f, arg14.view.loc (c : Thread nD τ) ↦[arg14.view.set]{fullShare} arg14.view.writes (Elt F) f Ls)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_attn_bwd_eq_skeleton]; unfold cc0_attn_bwd_skel
    simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    iexists _; iexact H13

end Cert.AttnBwdIdeal.Body

end
-- ==== Proof.AttnRun.lean ====
/-
  The windowed attention's backward kernel over its whole grid: what the four outputs hold after each point, that every run ends with
  the arguments as they were, and what the result arrays hold then.
-/
module

public import proofs.«01_k».proof.Proof.AttnFirst
public import Idealize.ShloMosaic.Lib.Claim

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a point -/

/-- Each window's staging buffer at point `t`, and that it is a whole buffer. -/
abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x384x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x1024x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S4x1024x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S9216x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S9216x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S8x128 .f32 := win0_13.stage (cfg0.slots t 13)
abbrev hs13 (t : Fin cfg0.N) : (ms13 t).IsWhole := hstage0_13 ((cfg0.slots t 13).cast nbuf0_13)

/-- The first point's run, at its buffers and blocks. -/
abbrev runF (c : Dev nD) (t : Fin cfg0.N) (h : t.val % 16 = 0) :=
  firstRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) ((first_iff t).mpr h) (iblk m c 0 t) (iblk m c 1 t) (iblk m c 2 t) (iblk m c 3 t) (iblk m c 4 t) (iblk m c 5 t) (iblk m c 6 t) (iblk m c 7 t) (iblk m c 8 t) (iblk m c 9 t)

/-- A later point's run, at its buffers and blocks and what the accumulated outputs held. -/
abbrev runL (c : Dev nD) (t : Fin cfg0.N) (h : ¬t.val % 16 = 0) (y11 y12 : Vec F S9216x256 .f32) (y13 : Vec F S8x128 .f32) :=
  laterRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (fun h' => h ((first_iff t).mp h')) (iblk m c 0 t) (iblk m c 1 t) (iblk m c 2 t) (iblk m c 3 t) (iblk m c 4 t) (iblk m c 5 t) (iblk m c 6 t) (iblk m c 7 t) (iblk m c 8 t) (iblk m c 9 t) y11 y12 y13

/-- What the four outputs' buffers hold. -/
structure Outs (F : FTy → Type) where
  q : Vec F S4x1024x128 .f32
  k : Vec F S9216x256 .f32
  v : Vec F S9216x256 .f32
  s : Vec F S8x128 .f32

/-- What the first point leaves. -/
def outF (c : Dev nD) (t : Fin cfg0.N) (h : t.val % 16 = 0) : Outs F where
  q := (ms10 t).view.read (Elt F) ((ms10 t).view.writes (Elt F) (ms10 t).view.junk (runF m c t h).1)
  k := (ms11 t).view.read (Elt F) ((ms11 t).view.writes (Elt F) (ms11 t).view.junk (runF m c t h).2.1)
  v := (ms12 t).view.read (Elt F) ((ms12 t).view.writes (Elt F) (ms12 t).view.junk (runF m c t h).2.2.1)
  s := (ms13 t).view.read (Elt F) ((ms13 t).view.writes (Elt F) (ms13 t).view.junk (runF m c t h).2.2.2.1)

/-- What a later point leaves, from what the point before left. -/
def outL (c : Dev nD) (t : Fin cfg0.N) (h : ¬t.val % 16 = 0) (y : Outs F) : Outs F where
  q := (ms10 t).view.read (Elt F) ((ms10 t).view.writes (Elt F) (ms10 t).view.junk (runL m c t h y.k y.v y.s).1)
  k := (ms11 t).view.read (Elt F) ((ms11 t).view.writes (Elt F) ((hs11 t).unread y.k) (runL m c t h y.k y.v y.s).2.1)
  v := (ms12 t).view.read (Elt F) ((ms12 t).view.writes (Elt F) ((hs12 t).unread y.v) (runL m c t h y.k y.v y.s).2.2.1)
  s := (ms13 t).view.read (Elt F) ((ms13 t).view.writes (Elt F) ((hs13 t).unread y.s) (runL m c t h y.k y.v y.s).2.2.2.1)

/-- What the outputs hold after position `n`. -/
def outs (c : Dev nD) : (n : ℕ) → n < cfg0.N → Outs F
  | 0, hn => outF m c ⟨0, hn⟩ (Nat.zero_mod _)
  | n + 1, hn =>
    if h : (n + 1) % 16 = 0 then outF m c ⟨n + 1, hn⟩ h
    else outL m c ⟨n + 1, hn⟩ h (outs c n (Nat.lt_of_succ_lt hn))

theorem outs_first (c : Dev nD) (t : Fin cfg0.N) (h : t.val % 16 = 0) : outs m c t.val t.isLt = outF m c t h := by
  obtain ⟨n, hn⟩ := t
  cases n with
  | zero => rfl
  | succ n => exact dif_pos h

theorem outs_later (c : Dev nD) (t : Fin cfg0.N) (h : ¬t.val % 16 = 0) :
    outs m c t.val t.isLt = outL m c t h (outs m c (t.val - 1) (Nat.lt_of_le_of_lt (Nat.sub_le _ _) t.isLt)) := by
  obtain ⟨n, hn⟩ := t
  cases n with
  | zero => exact absurd (Nat.zero_mod _) h
  | succ n => exact dif_neg h

/-! ## Every place of an output is stored -/

theorem cover_cons {s : Shape} {e : EltTy} {q : View.Piece (Elt F) s e} {L : List (View.Piece (Elt F) s e)}
    (h : ∀ y : s.Idx, ∃ p ∈ L, y ∈ p.1.set) : ∀ y : s.Idx, ∃ p ∈ q :: L, y ∈ p.1.set := fun y => by
  obtain ⟨p, hp, hy⟩ := h y
  exact ⟨p, List.mem_cons_of_mem _ hp, hy⟩

theorem cover_all {N M : ℕ} {e : EltTy} (inb : ∀ a : Fin 2, (![0, 0] : Fin 2 → ℕ) a + (![N, M] : Fin 2 → ℕ) a ≤ (⟨2, ![N, M]⟩ : Shape).size a)
    (w : (⟨2, ![N, M]⟩ : Shape).Idx → Elt F e) (L : List (View.Piece (Elt F) (⟨2, ![N, M]⟩ : Shape) e)) :
    ∀ y : (⟨2, ![N, M]⟩ : Shape).Idx, ∃ p ∈ (⟨Rect.unit ![0, 0] ![N, M] inb, w⟩ : View.Piece (Elt F) (⟨2, ![N, M]⟩ : Shape) e) :: L, y ∈ p.1.set := fun y => by
  refine ⟨_, List.mem_cons_self .., ?_⟩
  show y ∈ (Rect.unit (s := ⟨2, ![N, M]⟩) ![0, 0] ![N, M] inb).set
  rw [Rect.mem_set_unit]
  intro a
  fin_cases a
  · exact ⟨Nat.zero_le _, Nat.lt_of_lt_of_eq (y 0).isLt (Nat.zero_add _).symm⟩
  · exact ⟨Nat.zero_le _, Nat.lt_of_lt_of_eq (y 1).isLt (Nat.zero_add _).symm⟩

theorem coverF_q (c : Dev nD) (t : Fin cfg0.N) (h : t.val % 16 = 0) (y) : ∃ p ∈ (runF m c t h).1, y ∈ p.1.set :=
  View.cover_of_tiledL (runF m c t h).1 S1x64x128.size (by sl_kernel_rfl) y

theorem coverL_q (c : Dev nD) (t : Fin cfg0.N) (h : ¬t.val % 16 = 0) (y11 y12 : Vec F S9216x256 .f32) (y13 : Vec F S8x128 .f32) (y) :
    ∃ p ∈ (runL m c t h y11 y12 y13).1, y ∈ p.1.set :=
  View.cover_of_tiledL (runL m c t h y11 y12 y13).1 S1x64x128.size (by sl_kernel_rfl) y

theorem coverF_k (c : Dev nD) (t : Fin cfg0.N) (h : t.val % 16 = 0) : ∀ y, ∃ p ∈ (runF m c t h).2.1, y ∈ p.1.set := by
  iterate 16 refine cover_cons ?_
  exact cover_all _ _ _

theorem coverF_v (c : Dev nD) (t : Fin cfg0.N) (h : t.val % 16 = 0) : ∀ y, ∃ p ∈ (runF m c t h).2.2.1, y ∈ p.1.set := by
  iterate 16 refine cover_cons ?_
  exact cover_all _ _ _

theorem coverF_s (c : Dev nD) (t : Fin cfg0.N) (h : t.val % 16 = 0) : ∀ y, ∃ p ∈ (runF m c t h).2.2.2.1, y ∈ p.1.set := by
  refine cover_cons ?_
  exact cover_all _ _ _

/-! ## The proof data -/

/-- The arrays as the call finds them; after each point each input's buffer at its block and the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t.val t.isLt).q
    | ⟨11, _⟩ => (outs m c t.val t.isLt).k
    | ⟨12, _⟩ => (outs m c t.val t.isLt).v
    | ⟨13, _⟩ => (outs m c t.val t.isLt).s
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (outs m c t.val t.isLt).q := by dsimp only [dats]
theorem after_11 (c : Dev nD) (t : Fin cfg0.N) : (dats m 0 c).after 11 t = (outs m c t.val t.isLt).k := by dsimp only [dats]
theorem after_12 (c : Dev nD) (t : Fin cfg0.N) : (dats m 0 c).after 12 t = (outs m c t.val t.isLt).v := by dsimp only [dats]
theorem after_13 (c : Dev nD) (t : Fin cfg0.N) : (dats m 0 c).after 13 t = (outs m c t.val t.isLt).s := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem before_11 (c : Dev nD) (t : Fin cfg0.N) (h : ¬t.val % 16 = 0) (d) :
    (dats m 0 c).before 11 t d = (outs m c (t.val - 1) (Nat.lt_of_le_of_lt (Nat.sub_le _ _) t.isLt)).k := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]
theorem before_12 (c : Dev nD) (t : Fin cfg0.N) (h : ¬t.val % 16 = 0) (d) :
    (dats m 0 c).before 12 t d = (outs m c (t.val - 1) (Nat.lt_of_le_of_lt (Nat.sub_le _ _) t.isLt)).v := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
theorem before_13 (c : Dev nD) (t : Fin cfg0.N) (h : ¬t.val % 16 = 0) (d) :
    (dats m 0 c).before 13 t d = (outs m c (t.val - 1) (Nat.lt_of_le_of_lt (Nat.sub_le _ _) t.isLt)).s := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 4000000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  by_cases h0 : t.val % 16 = 0
  · rw [outs_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runF m c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverF_q m c t h0)
    isplitl [H11]
    · unfold owns; iexists _; isplitr
      swap; · iexact H11
      ipureintro; exact View.read_writes_of_cover _ _ _ _ _ (coverF_k m c t h0)
    isplitl [H12]
    · unfold owns; iexists _; isplitr
      swap; · iexact H12
      ipureintro; exact View.read_writes_of_cover _ _ _ _ _ (coverF_v m c t h0)
    unfold owns; iexists _; isplitr
    swap; · iexact H13
    ipureintro; exact View.read_writes_of_cover _ _ _ _ _ (coverF_s m c t h0)
  · rw [outs_later m c t h0]
    simp only [before_11 m c t h0, before_12 m c t h0, before_13 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runL m c t h0 _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    iintro ⟨H0, H1, H2, H3, H4, H5, H6, H7, H8, H9, ⟨%e10, H10⟩, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverL_q m c t h0 _ _ _)
    isplitl [H11]
    · unfold owns; iexists _; isplitr
      swap; · iexact H11
      ipureintro; rfl
    isplitl [H12]
    · unfold owns; iexists _; isplitr
      swap; · iexact H12
      ipureintro; rfl
    unfold owns; iexists _; isplitr
    swap; · iexact H13
    ipureintro; rfl

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

/-! ## The run -/

set_option backward.isDefEq.respectTransparency.types false in
/-- Every run ends with the result arrays at their computed contents, every other array as the call found it, and every semaphore
    at zero. -/
theorem run_still : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_end : θ_run defs (onTc (τ := τ) (main (F := F))) (s₀ m ρ) (Pipeline.FramePost cfgs (dats m) 0 (V m)) :=
  (θ_run defs _ _).mono (fun _ h => h.1) (run_still m ρ)

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_end m ρ)) ((θ_run defs _ _).mono (fun _ h => h.2) (run_still m ρ))

end Cert.AttnBwdIdeal.Body

end
-- ==== Proof.AttnChunk.lean ====
/-
  One head group and one block of 128 queries of the windowed attention's backward kernel: the values the kernel computes from the
  group's keys, values, queries and sinks, element by element, when these hold real numbers.
-/
module

public import proofs.«01_k».proof.Proof.AttnReals
public import proofs.«01_k».proof.Proof.Gen.AttnBwdIdeal.Skeleton

@[expose] public section

set_option maxRecDepth 16384

noncomputable section

open Idealize.ShloMosaic Idealize.ShloMosaic.TcCoe Idealize.SL.Sem

namespace Cert.AttnBwdIdeal.Chunk

open Cert.AttnBwdIdeal Cert.AttnBwdIdeal.Gen Cert.Reals Cert.Attn
open scoped Classical

/-- The operands' blocks hold the real operands; the bias is zero where a key is seen and minus infinity elsewhere. -/
structure Holds (a : Ops 384 512) (kk vv : FVec Ideal S384x64 .bf16) (qq oo : FVec Ideal S64x512 .bf16) (ss : FVec Ideal S1x512 .f32)
    (bb : FVec Ideal S384x512 .f32) : Prop where
  k : ∀ c d, kk (ix2 c d) = (a.k c d : EReal)
  v : ∀ c d, vv (ix2 c d) = (a.v c d : EReal)
  q : ∀ d r, qq (ix2 d r) = (a.q d r : EReal)
  o : ∀ d r, oo (ix2 d r) = (a.o d r : EReal)
  s : ∀ z r, ss (ix2 z r) = (a.s r : EReal)
  b : ∀ c r, bb (ix2 c r) = if a.W c r then 0 else ⊥

/-- The scores. -/
def sc (kk : FVec Ideal S384x64 .bf16) (qq : FVec Ideal S64x512 .bf16) (bb : FVec Ideal S384x512 .f32) : FVec Ideal S384x512 .f32 :=
  addf (matmul dot_S384x64_S64x512_S384x512_1_0_0_1_n_n none kk qq (constant S384x512 .f32 0x00000000#32)) bb

theorem const_bot : Ideal.ofBits .f32 0xFF800000#32 = ⊥ := by
  simp [Ideal.ofBits, Ideal.ieee]

variable {a : Ops 384 512} {kk vv : FVec Ideal S384x64 .bf16} {qq oo : FVec Ideal S64x512 .bf16} {ss : FVec Ideal S1x512 .f32}
  {bb : FVec Ideal S384x512 .f32} (h : Holds a kk vv qq oo ss bb)

include h

theorem sc_at (c : Fin 384) (r : Fin 512) : sc kk qq bb (ix2 c r) = if a.W c r then (a.score c r : EReal) else ⊥ := by
  unfold sc
  pointwise
  simp only [h.k, h.q, h.b, lift_mul, lift_sum]
  split_ifs
  · rw [add_zero]; rfl
  · exact EReal.add_bot _

/-- The largest score of a column, the sink among them, is a real number. -/
theorem top_at (r : Fin 512) : ∃ M : ℝ, ∀ z, k0_pay15 (F := Ideal) ss (sc kk qq bb) (ix2 z r) = (M : EReal) := by
  obtain ⟨M, hM⟩ := max_real (fun c : Fin 384 => sc kk qq bb (ix2 c r)) (a.s r) (fun c => by
    rw [sc_at h]; split_ifs
    · exact EReal.coe_ne_top _
    · exact bot_ne_top)
  refine ⟨M, fun z => ?_⟩
  pointwise [k0_pay15]
  rw [h.s, ← hM, const_bot]
  rfl

/-- The exponentials, all divided by that of the largest score. -/
theorem exps_at (r : Fin 512) : ∃ M : ℝ,
    (∀ c, k0_pay16 (F := Ideal) ss (sc kk qq bb) (ix2 c r) = ((a.E c r * Real.exp (-M) : ℝ) : EReal))
    ∧ ∀ z, k0_pay17 (F := Ideal) ss (sc kk qq bb) (ix2 z r) = ((Real.exp (a.s r - M) : ℝ) : EReal) := by
  obtain ⟨M, hM⟩ := top_at h r
  refine ⟨M, fun c => ?_, fun z => ?_⟩
  · pointwise [k0_pay16]
    rw [hM, sc_at h]
    unfold Ops.E
    split_ifs with hw
    · rw [lift_sub, lift_exp, sub_eq_add_neg, Real.exp_add]
    · rw [EReal.bot_sub, zero_mul]
      rfl
  · pointwise [k0_pay17]
    rw [hM, h.s, lift_sub, lift_exp]

theorem weights_at (r : Fin 512) :
    (∀ c, k0_pay19 (F := Ideal) ss (sc kk qq bb) (ix2 c r) = ((a.P c r : ℝ) : EReal))
    ∧ ∀ z, mulf (F := Ideal) (k0_pay17 ss (sc kk qq bb)) (k0_pay18 ss (sc kk qq bb)) (ix2 z r) = ((a.Ps r : ℝ) : EReal) := by
  obtain ⟨M, h1, h2⟩ := exps_at h r
  have hz : (∑ c, a.E c r * Real.exp (-M)) + Real.exp (a.s r - M) = a.Z r * Real.exp (-M) := by
    rw [← Finset.sum_mul, sub_eq_add_neg, Real.exp_add, ← add_mul]; rfl
  have hne : a.Z r * Real.exp (-M) ≠ 0 := mul_ne_zero (a.Z_pos r).ne' (Real.exp_ne_zero _)
  have h3 : ∀ z, k0_pay18 (F := Ideal) ss (sc kk qq bb) (ix2 z r) = ((1 / (a.Z r * Real.exp (-M)) : ℝ) : EReal) := fun z => by
    pointwise [k0_pay18]
    simp only [h1, h2, lift_sum, lift_add, hz, lift_one, lift_div _ _ hne]
  have hZ := (a.Z_pos r).ne'
  have hM := Real.exp_ne_zero (-M)
  refine ⟨fun c => ?_, fun z => ?_⟩
  · pointwise [k0_pay19]
    rw [h1, h3, lift_mul]
    unfold Ops.P
    congr 1
    field_simp
  · pointwise
    rw [h2, h3, lift_mul]
    unfold Ops.Ps
    rw [sub_eq_add_neg, Real.exp_add]
    congr 1
    field_simp

theorem G_at (c : Fin 384) (r : Fin 512) : k0_pay20 (F := Ideal) vv oo (ix2 c r) = ((a.G c r : ℝ) : EReal) := by
  pointwise [k0_pay20]
  simp only [h.v, h.o, lift_mul, lift_sum]
  rfl

theorem D_at (z : Fin 1) (r : Fin 512) : k0_pay21 (F := Ideal) vv oo ss (sc kk qq bb) (ix2 z r) = ((a.D r : ℝ) : EReal) := by
  pointwise [k0_pay21]
  simp only [(weights_at h r).1, G_at h, lift_mul, lift_sum]
  rfl

theorem dS_at (c : Fin 384) (r : Fin 512) : k0_pay22 (F := Ideal) vv oo ss (sc kk qq bb) (ix2 c r) = ((a.dS c r : ℝ) : EReal) := by
  pointwise [k0_pay22]
  simp only [(weights_at h r).1, G_at h, D_at h, lift_sub, lift_mul]
  rfl

theorem dq_at (d : Fin 64) (r : Fin 512) : k0_pay23 (F := Ideal) kk vv oo ss (sc kk qq bb) (ix2 d r) = ((a.dq d r : ℝ) : EReal) := by
  pointwise [k0_pay23]
  simp only [dS_at h, h.k, lift_mul, lift_sum]
  rfl

/-- The keys' derivative is added to what was loaded. -/
theorem dk_at (X : FVec Ideal S384x64 .f32) (c : Fin 384) (d : Fin 64) :
    k0_pay24 (F := Ideal) vv qq oo ss (sc kk qq bb) X (ix2 c d) = X (ix2 c d) + ((a.dk c d : ℝ) : EReal) := by
  pointwise [k0_pay24]
  simp only [dS_at h, h.q, lift_mul, lift_sum]
  rfl

/-- The values' derivative is added to what was loaded. -/
theorem dv_at (X : FVec Ideal S384x64 .f32) (c : Fin 384) (d : Fin 64) :
    k0_pay25 (F := Ideal) oo ss (sc kk qq bb) X (ix2 c d) = X (ix2 c d) + ((a.dv c d : ℝ) : EReal) := by
  pointwise [k0_pay25]
  simp only [fun c r => (weights_at h r).1 c, h.o, lift_mul, lift_sum]
  rfl

theorem ds_at (z : Fin 1) (r : Fin 512) : k0_pay26 (F := Ideal) vv oo ss (sc kk qq bb) (ix2 z r) = ((a.ds r : ℝ) : EReal) := by
  have h1 := (weights_at h r).2 z
  have h2 := D_at h z r
  show mulf (F := Ideal) (k0_pay17 ss (sc kk qq bb)) (k0_pay18 ss (sc kk qq bb)) (ix2 z r) * k0_pay21 (F := Ideal) vv oo ss (sc kk qq bb) (ix2 z r) = _
  rw [h1, h2, lift_mul]
  rfl

end Cert.AttnBwdIdeal.Chunk

end
-- ==== Proof.AttnForms.lean ====
/-
  What one run of the windowed attention's backward kernel stores, written as one rule for its sixteen chunks: four blocks of 128
  queries, each with four groups of four heads.
-/
module

public import proofs.«01_k».proof.Proof.AttnRun
public import proofs.«01_k».proof.Proof.AttnChunk

@[expose] public section

set_option maxRecDepth 16384

noncomputable section

namespace Cert.AttnBwdIdeal.Forms

open Idealize.ShloMosaic Idealize.ShloMosaic.TcCoe Idealize.ShloMosaic.Tactic
open Cert.AttnBwdIdeal Cert.AttnBwdIdeal.Gen Cert.AttnBwdIdeal.Body

/-- What a run reads of each input, at any rectangle. -/
structure Loads where
  s : (r : LoadRect S16) → r.shape.Idx → Elt Ideal .f32
  b : (r : LoadRect S3x384x512) → r.shape.Idx → Elt Ideal .f32
  q : (r : LoadRect S4x1024x128) → r.shape.Idx → Elt Ideal .bf16
  k0 : (r : LoadRect S128x256) → r.shape.Idx → Elt Ideal .bf16
  k1 : (r : LoadRect S512x256) → r.shape.Idx → Elt Ideal .bf16
  k2 : (r : LoadRect S128x256) → r.shape.Idx → Elt Ideal .bf16
  v0 : (r : LoadRect S128x256) → r.shape.Idx → Elt Ideal .bf16
  v1 : (r : LoadRect S512x256) → r.shape.Idx → Elt Ideal .bf16
  v2 : (r : LoadRect S128x256) → r.shape.Idx → Elt Ideal .bf16
  o : (r : LoadRect S4x1024x128) → r.shape.Idx → Elt Ideal .bf16

/-- The block of a chunk, and its group of heads. -/
def blk (n : ℕ) : Fin 4 := ⟨n / 4 % 4, Nat.mod_lt _ (by decide)⟩
def grp (n : ℕ) : Fin 4 := ⟨n % 4, Nat.mod_lt _ (by decide)⟩

variable (i : grid0.Coords) (l : Loads)

theorem sl_kv (n : ℕ) : S768x256.Slices ![128 * (n / 4 % 4), 64 * (n % 4)] S384x64 :=
  ⟨rfl, fun a => by
    have h1 : n / 4 % 4 < 4 := Nat.mod_lt _ (by decide)
    have h2 : n % 4 < 4 := Nat.mod_lt _ (by decide)
    fin_cases a
    · show 128 * (n / 4 % 4) + 384 ≤ 768; omega
    · show 64 * (n % 4) + 64 ≤ 256; omega⟩

def kw : FVec Ideal S768x256 .bf16 :=
  k0_pay5 (F := Ideal) (l.k0 (Rect.unit ![0, 0] S128x256.size inb_S128x256_S128x256_0_0).toLoadRect)
    (l.k1 (Rect.unit ![0, 0] S512x256.size inb_S512x256_S512x256_0_0).toLoadRect)
    (l.k2 (Rect.unit ![0, 0] S128x256.size inb_S128x256_S128x256_0_0).toLoadRect)

def vw : FVec Ideal S768x256 .bf16 :=
  k0_pay6 (F := Ideal) (l.v0 (Rect.unit ![0, 0] S128x256.size inb_S128x256_S128x256_0_0).toLoadRect)
    (l.v1 (Rect.unit ![0, 0] S512x256.size inb_S512x256_S512x256_0_0).toLoadRect)
    (l.v2 (Rect.unit ![0, 0] S128x256.size inb_S128x256_S128x256_0_0).toLoadRect)

def kk (n : ℕ) : FVec Ideal S384x64 .bf16 := extractStridedSlice S384x64 ![128 * (n / 4 % 4), 64 * (n % 4)] (kw l) (sl_kv n)
def vv (n : ℕ) : FVec Ideal S384x64 .bf16 := extractStridedSlice S384x64 ![128 * (n / 4 % 4), 64 * (n % 4)] (vw l) (sl_kv n)

theorem inb_q (n g : ℕ) (hg : g < 4) (a : Fin 3) :
    (![n / 4 % 4, 64 * (4 * (n % 4) + g), 0] : Fin 3 → ℕ) a + S1x64x128.size a ≤ S4x1024x128.size a := by
  have h1 : n / 4 % 4 < 4 := Nat.mod_lt _ (by decide)
  have h2 : n % 4 < 4 := Nat.mod_lt _ (by decide)
  fin_cases a
  · show n / 4 % 4 + 1 ≤ 4; omega
  · show 64 * (4 * (n % 4) + g) + 64 ≤ 1024; omega
  · show 0 + 128 ≤ 128; omega

def qRect (n g : ℕ) (hg : g < 4) : LoadRect S4x1024x128 :=
  (Rect.unit (s := S4x1024x128) ![n / 4 % 4, 64 * (4 * (n % 4) + g), 0] S1x64x128.size (inb_q n g hg)).toLoadRect

def qq (n : ℕ) : FVec Ideal S64x512 .bf16 :=
  k0_pay11 (F := Ideal) (l.q (qRect n 0 (by decide))) (l.q (qRect n 1 (by decide))) (l.q (qRect n 2 (by decide))) (l.q (qRect n 3 (by decide)))

def oo (n : ℕ) : FVec Ideal S64x512 .bf16 :=
  k0_pay12 (F := Ideal) (l.o (qRect n 0 (by decide))) (l.o (qRect n 1 (by decide))) (l.o (qRect n 2 (by decide))) (l.o (qRect n 3 (by decide)))

theorem inb_s (n g : ℕ) (hg : g < 4) (a : Fin 1) : (![4 * (n % 4) + g] : Fin 1 → ℕ) a + S1.size a ≤ S16.size a := by
  have h2 : n % 4 < 4 := Nat.mod_lt _ (by decide)
  fin_cases a
  show 4 * (n % 4) + g + 1 ≤ 16; omega

def sRead (n g : ℕ) (hg : g < 4) : Elt Ideal .f32 :=
  l.s (Rect.unit (s := S16) ![4 * (n % 4) + g] S1.size (inb_s n g hg)).toLoadRect (Shape.Idx.first (numel1_S1.symm ▸ Nat.one_pos))

def ss (n : ℕ) : FVec Ideal S1x512 .f32 :=
  k0_pay13 (F := Ideal) (sRead l n 0 (by decide)) (sRead l n 1 (by decide)) (sRead l n 2 (by decide)) (sRead l n 3 (by decide))

def bb (n : ℕ) : FVec Ideal S384x512 .f32 :=
  k0_pay8 (F := Ideal) (l.b (Rect.unit (s := S3x384x512) (k0_off1 i (BitVec.ofNat 32 (n / 4 % 4))) S1x384x512.size (k0_off1_inb i (blk n))).toLoadRect)

/-- The scores of a chunk. -/
def scn (n : ℕ) : FVec Ideal S384x512 .f32 := Chunk.sc (kk l n) (qq l n) (bb i l n)

/-- Where a chunk's keys and values lie. -/
def offs (n : ℕ) : Fin 2 → ℕ :=
  if n % 4 = 0 then k0_off2 i (BitVec.ofNat 32 (n / 4 % 4)) else if n % 4 = 1 then k0_off3 i (BitVec.ofNat 32 (n / 4 % 4))
  else if n % 4 = 2 then k0_off4 i (BitVec.ofNat 32 (n / 4 % 4)) else k0_off5 i (BitVec.ofNat 32 (n / 4 % 4))

theorem offs_eq (n : ℕ) : offs i n = ![512 * (i 0).val + 128 * (n / 4 % 4) + 384, 64 * (n % 4)] := by
  have h2 : n % 4 < 4 := Nat.mod_lt _ (by decide)
  unfold offs
  split_ifs with e0 e1 e2
  · rw [e0]; exact k0_off2_eq i (blk n)
  · rw [e1]; exact k0_off3_eq i (blk n)
  · rw [e2]; exact k0_off4_eq i (blk n)
  · rw [show n % 4 = 3 by omega]; exact k0_off5_eq i (blk n)

theorem offs_inb (n : ℕ) (a : Fin 2) : offs i n a + S384x64.size a ≤ S9216x256.size a := by
  unfold offs
  split_ifs
  · exact k0_off2_inb i (blk n) a
  · exact k0_off3_inb i (blk n) a
  · exact k0_off4_inb i (blk n) a
  · exact k0_off5_inb i (blk n) a

abbrev kvRect (n : ℕ) : Rect S9216x256 := Rect.unit (s := S9216x256) (offs i n) S384x64.size (offs_inb i n)

abbrev KvPiece := View.Piece (Elt Ideal) S9216x256 .f32

/-- The stores into the keys' derivative up to a chunk, on top of those before. -/
def kL (acc : ℕ → List KvPiece → (r : LoadRect S9216x256) → r.shape.Idx → Elt Ideal .f32) (base : List KvPiece) (n : ℕ) : List KvPiece :=
  Nat.rec base (fun n L => ⟨kvRect i n, k0_pay24 (F := Ideal) (vv l n) (qq l n) (oo l n) (ss l n) (scn i l n) (acc n L (kvRect i n).toLoadRect)⟩ :: L) n

/-- The stores into the values' derivative. -/
def vL (acc : ℕ → List KvPiece → (r : LoadRect S9216x256) → r.shape.Idx → Elt Ideal .f32) (base : List KvPiece) (n : ℕ) : List KvPiece :=
  Nat.rec base (fun n L => ⟨kvRect i n, k0_pay25 (F := Ideal) (oo l n) (ss l n) (scn i l n) (acc n L (kvRect i n).toLoadRect)⟩ :: L) n

theorem sl_q (j : ℕ) : S64x512.Slices ![0, 128 * (j % 4)] S64x128 :=
  ⟨rfl, fun a => by
    have h2 : j % 4 < 4 := Nat.mod_lt _ (by decide)
    fin_cases a
    · show 0 + 64 ≤ 64; omega
    · show 128 * (j % 4) + 128 ≤ 512; omega⟩

theorem inb_qs (j : ℕ) (a : Fin 3) : (![j / 16 % 4, 64 * (j % 16), 0] : Fin 3 → ℕ) a + S1x64x128.size a ≤ S4x1024x128.size a := by
  have h1 : j / 16 % 4 < 4 := Nat.mod_lt _ (by decide)
  have h2 : j % 16 < 16 := Nat.mod_lt _ (by decide)
  fin_cases a
  · show j / 16 % 4 + 1 ≤ 4; omega
  · show 64 * (j % 16) + 64 ≤ 1024; omega
  · show 0 + 128 ≤ 128; omega

/-- The queries' derivative of one chunk, and the part of one of its heads. -/
def dqn (n : ℕ) : FVec Ideal S64x512 .f32 := k0_pay23 (F := Ideal) (kk l n) (vv l n) (oo l n) (ss l n) (scn i l n)
def qPart (j : ℕ) : FVec Ideal S1x64x128 .f32 :=
  shapeCast S1x64x128 (extractStridedSlice S64x128 ![0, 128 * (j % 4)] (dqn i l (j / 4)) (sl_q j)) shapeCasts_S64x128_S1x64x128

/-- The stores into the queries' derivative. -/
def qL (j : ℕ) : List (View.Piece (Elt Ideal) S4x1024x128 .f32) :=
  Nat.rec [] (fun j L => ⟨Rect.unit (s := S4x1024x128) ![j / 16 % 4, 64 * (j % 16), 0] S1x64x128.size (inb_qs j), qPart i l j⟩ :: L) j

theorem sl_s (j : ℕ) : S1x512.Slices ![0, 128 * (j % 4)] S1x128 :=
  ⟨rfl, fun a => by
    have h2 : j % 4 < 4 := Nat.mod_lt _ (by decide)
    fin_cases a
    · show 0 + 1 ≤ 1; omega
    · show 128 * (j % 4) + 128 ≤ 512; omega⟩

/-- The sinks' derivative, one lane for each head: what the heads' sums leave of zero. -/
def psn (n : ℕ) : FVec Ideal S1x512 .f32 := k0_pay26 (F := Ideal) (vv l n) (oo l n) (ss l n) (scn i l n)
def sPart (j : ℕ) : FVec Ideal S1 .f32 :=
  multiReduction (F := Ideal) .add [1] S1 (extractStridedSlice S1x128 ![0, 128 * (j % 4)] (psn i l (j / 4)) (sl_s j)) 0x00000000#32 reduces_S1x128_S1 (.inl rfl) rfl
def sIdx (j : ℕ) : IVec S1x128 1 := cmpi .eq (iota .tc S1x128 32 [1] iota_S1x128_d1_w32) (broadcast S1x128 (BitVec.ofNat 32 (j % 16)))
def lanes (j : ℕ) : FVec Ideal S1x128 .f32 :=
  Nat.rec (k0_pay7 (F := Ideal)) (fun j v => subf v (select (sIdx j)
    (broadcastTo S1x128 (shapeCast S1x1 (shapeCast S1x1 (sPart i l j) shapeCasts_S1_S1x1) shapeCasts_S1x1_S1x1) broadcasts_S1x1_S1x128)
    (broadcast S1x128 (Scalar.ofBits .f32 0x00000000#32 : Ideal .f32)))) j

/-! ## The runs' stores are these -/

variable (m : (ℓ : Loc nD τ sig) → Buf (Elt Ideal) ℓ)

/-- What a run at a point reads of its blocks. -/
def loads (c : Dev nD) (t : Fin cfg0.N) : Loads where
  s := fun r => (ms0 t).view.readAt (Elt Ideal) r ((hs0 t).unread (iblk m c 0 t))
  b := fun r => (ms1 t).view.readAt (Elt Ideal) r ((hs1 t).unread (iblk m c 1 t))
  q := fun r => (ms2 t).view.readAt (Elt Ideal) r ((hs2 t).unread (iblk m c 2 t))
  k0 := fun r => (ms3 t).view.readAt (Elt Ideal) r ((hs3 t).unread (iblk m c 3 t))
  k1 := fun r => (ms4 t).view.readAt (Elt Ideal) r ((hs4 t).unread (iblk m c 4 t))
  k2 := fun r => (ms5 t).view.readAt (Elt Ideal) r ((hs5 t).unread (iblk m c 5 t))
  v0 := fun r => (ms6 t).view.readAt (Elt Ideal) r ((hs6 t).unread (iblk m c 6 t))
  v1 := fun r => (ms7 t).view.readAt (Elt Ideal) r ((hs7 t).unread (iblk m c 7 t))
  v2 := fun r => (ms8 t).view.readAt (Elt Ideal) r ((hs8 t).unread (iblk m c 8 t))
  o := fun r => (ms9 t).view.readAt (Elt Ideal) r ((hs9 t).unread (iblk m c 9 t))

/-- What a later point reads of the accumulated outputs before a chunk: the first four chunks do not meet. -/
abbrev accL {κ : Kind} {sp : Space} (a : Memref sig κ sp S9216x256 .f32) (f : a.view.ty.Contents (Elt Ideal)) :
    ℕ → List KvPiece → (r : LoadRect S9216x256) → r.shape.Idx → Elt Ideal .f32 :=
  fun n L r => a.view.readAt (Elt Ideal) r (if n < 4 then f else a.view.writes (Elt Ideal) f L)

/-- What the first point reads. -/
abbrev accF {κ : Kind} {sp : Space} (a : Memref sig κ sp S9216x256 .f32) (f : a.view.ty.Contents (Elt Ideal)) :
    ℕ → List KvPiece → (r : LoadRect S9216x256) → r.shape.Idx → Elt Ideal .f32 :=
  fun _ L r => a.view.readAt (Elt Ideal) r (a.view.writes (Elt Ideal) f L)

/-- The zeros the first point stores first. -/
abbrev zeroK : List KvPiece := [⟨Rect.unit (s := S9216x256) ![0, 0] S9216x256.size inb_S9216x256_S9216x256_0_0, k0_pay2 (F := Ideal)⟩]
abbrev zeroV : List KvPiece := [⟨Rect.unit (s := S9216x256) ![0, 0] S9216x256.size inb_S9216x256_S9216x256_0_0, k0_pay3 (F := Ideal)⟩]
abbrev zeroS : List (View.Piece (Elt Ideal) S8x128 .f32) :=
  [⟨Rect.unit (s := S8x128) ![0, 0] S8x128.size inb_S8x128_S8x128_0_0, k0_pay4 (F := Ideal)⟩]

/-- The last store into the sinks' derivative. -/
abbrev sPiece (v : Vec Ideal S1x128 .f32) (X : Vec Ideal S1x128 .f32) : View.Piece (Elt Ideal) S8x128 .f32 :=
  ⟨Rect.unit (s := S8x128) ![0, 0] S1x128.size inb_S8x128_S1x128_0_0, (addf (F := Ideal) (φ := .f32) (shapeCast S1x128 X shapeCasts_S1x128_S1x128) v : FVec Ideal S1x128 .f32)⟩

abbrev sRect : LoadRect S8x128 := (Rect.unit (s := S8x128) ![0, 0] S1x128.size inb_S8x128_S1x128_0_0).toLoadRect

theorem runL_q (c : Dev nD) (t : Fin cfg0.N) (h : ¬t.val % 16 = 0) (y11 y12 : Vec Ideal S9216x256 .f32) (y13 : Vec Ideal S8x128 .f32) :
    (runL m c t h y11 y12 y13).1 = qL (grid0.coords t) (loads m c t) 64 := by
  sl_kernel_rfl

theorem runL_k (c : Dev nD) (t : Fin cfg0.N) (h : ¬t.val % 16 = 0) (y11 y12 : Vec Ideal S9216x256 .f32) (y13 : Vec Ideal S8x128 .f32) :
    (runL m c t h y11 y12 y13).2.1 = kL (grid0.coords t) (loads m c t) (accL (ms11 t) ((hs11 t).unread y11)) [] 16 := by
  sl_kernel_rfl

theorem runL_v (c : Dev nD) (t : Fin cfg0.N) (h : ¬t.val % 16 = 0) (y11 y12 : Vec Ideal S9216x256 .f32) (y13 : Vec Ideal S8x128 .f32) :
    (runL m c t h y11 y12 y13).2.2.1 = vL (grid0.coords t) (loads m c t) (accL (ms12 t) ((hs12 t).unread y12)) [] 16 := by
  sl_kernel_rfl

theorem runL_s (c : Dev nD) (t : Fin cfg0.N) (h : ¬t.val % 16 = 0) (y11 y12 : Vec Ideal S9216x256 .f32) (y13 : Vec Ideal S8x128 .f32) :
    (runL m c t h y11 y12 y13).2.2.2.1 = [sPiece (lanes (grid0.coords t) (loads m c t) 64) ((ms13 t).view.readAt (Elt Ideal) sRect ((hs13 t).unread y13))] := by
  sl_kernel_rfl

theorem runF_q (c : Dev nD) (t : Fin cfg0.N) (h : t.val % 16 = 0) :
    (runF m c t h).1 = qL (grid0.coords t) (loads m c t) 64 := by
  sl_kernel_rfl

theorem runF_k (c : Dev nD) (t : Fin cfg0.N) (h : t.val % 16 = 0) :
    (runF m c t h).2.1 = kL (grid0.coords t) (loads m c t) (accF (ms11 t) (ms11 t).view.junk) zeroK 16 := by
  sl_kernel_rfl

theorem runF_v (c : Dev nD) (t : Fin cfg0.N) (h : t.val % 16 = 0) :
    (runF m c t h).2.2.1 = vL (grid0.coords t) (loads m c t) (accF (ms12 t) (ms12 t).view.junk) zeroV 16 := by
  sl_kernel_rfl

theorem runF_s (c : Dev nD) (t : Fin cfg0.N) (h : t.val % 16 = 0) :
    (runF m c t h).2.2.2.1 = sPiece (lanes (grid0.coords t) (loads m c t) 64) ((ms13 t).view.readAt (Elt Ideal) sRect ((ms13 t).view.writes (Elt Ideal) (ms13 t).view.junk zeroS)) :: zeroS := by
  sl_kernel_rfl

end Cert.AttnBwdIdeal.Forms

end
-- ==== Proof.AttnPoint.lean ====
/-
  What one run of the windowed attention's backward kernel leaves in the four outputs, as sums of real numbers over its sixteen chunks.
-/
module

public import proofs.«01_k».proof.Proof.AttnForms
public import Idealize.ShloMosaic.Lib.WritesUnit

@[expose] public section

set_option maxRecDepth 16384

noncomputable section

namespace Cert.AttnBwdIdeal.Point

open Idealize.ShloMosaic Idealize.ShloMosaic.TcCoe Idealize.ShloMosaic.Tactic
open Cert.AttnBwdIdeal Cert.AttnBwdIdeal.Gen Cert.AttnBwdIdeal.Forms Cert.Reals Cert.Attn
open scoped Classical

/-- The operands of a point: the window's keys and values, the queries and what follows them for each of the four blocks, the sinks, and
    which of a block's keys each of its queries sees. -/
structure Operands where
  k : Fin 768 → Fin 256 → ℝ
  v : Fin 768 → Fin 256 → ℝ
  q : Fin 4 → Fin 1024 → Fin 128 → ℝ
  o : Fin 4 → Fin 1024 → Fin 128 → ℝ
  s : Fin 16 → ℝ
  W : Fin 4 → Fin 384 → Fin 128 → Prop

theorem row_lt (n : ℕ) (c : Fin 384) : 128 * (n / 4 % 4) + c.val < 768 := by have := c.isLt; omega
theorem col_lt (n : ℕ) (d : Fin 64) : 64 * (n % 4) + d.val < 256 := by have := d.isLt; omega
theorem qrow_lt (n : ℕ) (g : ℕ) (hg : g < 4) (d : Fin 64) : 64 * (4 * (n % 4) + g) + d.val < 1024 := by have := d.isLt; omega
theorem head_lt (n : ℕ) (g : ℕ) (hg : g < 4) : 4 * (n % 4) + g < 16 := by omega
theorem grp_lt (r : Fin 512) : r.val / 128 < 4 := by have := r.isLt; omega
theorem lane_lt (r : ℕ) : r % 128 < 128 := Nat.mod_lt _ (by decide)

/-- The operands of a chunk: its block's rows, its heads' columns. -/
def Operands.chunk (p : Operands) (n : ℕ) : Ops 384 512 where
  k c d := p.k ⟨128 * (n / 4 % 4) + c.val, row_lt n c⟩ ⟨64 * (n % 4) + d.val, col_lt n d⟩
  v c d := p.v ⟨128 * (n / 4 % 4) + c.val, row_lt n c⟩ ⟨64 * (n % 4) + d.val, col_lt n d⟩
  q d r := p.q (blk n) ⟨64 * (4 * (n % 4) + r.val / 128) + d.val, qrow_lt n _ (grp_lt r) d⟩ ⟨r.val % 128, lane_lt _⟩
  o d r := p.o (blk n) ⟨64 * (4 * (n % 4) + r.val / 128) + d.val, qrow_lt n _ (grp_lt r) d⟩ ⟨r.val % 128, lane_lt _⟩
  s r := p.s ⟨4 * (n % 4) + r.val / 128, head_lt n _ (grp_lt r)⟩
  W c r := p.W (blk n) c ⟨r.val % 128, lane_lt _⟩

/-- What a run reads is the point's operands. -/
structure Holds (i : grid0.Coords) (l : Loads) (p : Operands) : Prop where
  k : ∀ a j, kw l (ix2 a j) = (p.k a j : EReal)
  v : ∀ a j, vw l (ix2 a j) = (p.v a j : EReal)
  q : ∀ n g hg (z : Fin 1) (d : Fin 64) (r : Fin 128), l.q (qRect n g hg) (ix3 z d r) = (p.q (blk n) ⟨64 * (4 * (n % 4) + g) + d.val, qrow_lt n g hg d⟩ r : EReal)
  o : ∀ n g hg (z : Fin 1) (d : Fin 64) (r : Fin 128), l.o (qRect n g hg) (ix3 z d r) = (p.o (blk n) ⟨64 * (4 * (n % 4) + g) + d.val, qrow_lt n g hg d⟩ r : EReal)
  s : ∀ n g hg, sRead l n g hg = (p.s ⟨4 * (n % 4) + g, head_lt n g hg⟩ : EReal)
  b : ∀ n c (r : Fin 512), bb i l n (ix2 c r) = if p.W (blk n) c ⟨r.val % 128, lane_lt _⟩ then 0 else ⊥

variable {i : grid0.Coords} {l : Loads} {p : Operands}

/-- Four blocks side by side, at a column of the one that holds it. -/
theorem side4 (x0 x1 x2 x3 : Vec Ideal S1x64x128 .bf16) (f : Fin 4 → Fin 64 → Fin 128 → EReal)
    (h0 : ∀ z d r, x0 (ix3 z d r) = f 0 d r) (h1 : ∀ z d r, x1 (ix3 z d r) = f 1 d r)
    (h2 : ∀ z d r, x2 (ix3 z d r) = f 2 d r) (h3 : ∀ z d r, x3 (ix3 z d r) = f 3 d r) (d : Fin 64) (r : Fin 512) :
    k0_pay11 (F := Ideal) x0 x1 x2 x3 (ix2 d r) = f ⟨r.val / 128, grp_lt r⟩ d ⟨r.val % 128, lane_lt _⟩ := by
  have e : ∀ (g g' : Fin 4) (s s' : Fin 128), g = g' → s = s' → f g d s = f g' d s' := fun _ _ _ _ hg hs => by rw [hg, hs]
  pointwise [k0_pay11]
  simp only [h0, h1, h2, h3]
  have := r.isLt
  split_ifs <;> exact e _ _ _ _ (Fin.ext (by simp; omega)) (Fin.ext (by simp; omega))

theorem side4s (x0 x1 x2 x3 : Elt Ideal .f32) (f : Fin 4 → EReal)
    (h0 : x0 = f 0) (h1 : x1 = f 1) (h2 : x2 = f 2) (h3 : x3 = f 3) (z : Fin 1) (r : Fin 512) :
    k0_pay13 (F := Ideal) x0 x1 x2 x3 (ix2 z r) = f ⟨r.val / 128, grp_lt r⟩ := by
  have e : ∀ g g' : Fin 4, g = g' → f g = f g' := fun _ _ hg => by rw [hg]
  pointwise [k0_pay13]
  simp only [h0, h1, h2, h3]
  have := r.isLt
  split_ifs <;> exact e _ _ (Fin.ext (by simp; omega))

theorem slice_kv (x : FVec Ideal S768x256 .bf16) (n : ℕ) (c : Fin 384) (d : Fin 64) :
    extractStridedSlice S384x64 ![128 * (n / 4 % 4), 64 * (n % 4)] x (sl_kv n) (ix2 c d)
      = x (ix2 ⟨128 * (n / 4 % 4) + c.val, row_lt n c⟩ ⟨64 * (n % 4) + d.val, col_lt n d⟩) :=
  extractStridedSlice_apply _ x _ _ _ fun a => by fin_cases a <;> rfl

theorem chunk_holds (h : Holds i l p) (n : ℕ) : Chunk.Holds (p.chunk n) (kk l n) (vv l n) (qq l n) (oo l n) (ss l n) (bb i l n) where
  k c d := (slice_kv _ n c d).trans (h.k _ _)
  v c d := (slice_kv _ n c d).trans (h.v _ _)
  q d r := side4 _ _ _ _ (fun g d r => (p.q (blk n) ⟨64 * (4 * (n % 4) + g.val) + d.val, qrow_lt n g.val g.isLt d⟩ r : EReal))
    (h.q n 0 _) (h.q n 1 _) (h.q n 2 _) (h.q n 3 _) d r
  o d r := side4 _ _ _ _ (fun g d r => (p.o (blk n) ⟨64 * (4 * (n % 4) + g.val) + d.val, qrow_lt n g.val g.isLt d⟩ r : EReal))
    (h.o n 0 _) (h.o n 1 _) (h.o n 2 _) (h.o n 3 _) d r
  s z r := side4s _ _ _ _ (fun g => (p.s ⟨4 * (n % 4) + g.val, head_lt n g.val g.isLt⟩ : EReal)) (h.s n 0 _) (h.s n 1 _) (h.s n 2 _) (h.s n 3 _) z r
  b c r := h.b n c r

/-! ## Keys and values: each chunk adds its part at its rows and columns -/

/-- A chunk's part of the accumulated array, at every place of it. -/
def part (T : ℕ) (f : Fin 384 → Fin 64 → ℝ) (n : ℕ) (R : Fin 9216) (j : Fin 256) : ℝ :=
  if h : (512 * T + 128 * (n / 4 % 4) + 384 ≤ R.val ∧ R.val < 512 * T + 128 * (n / 4 % 4) + 768) ∧ 64 * (n % 4) ≤ j.val ∧ j.val < 64 * (n % 4) + 64 then
    f ⟨R.val - (512 * T + 128 * (n / 4 % 4) + 384), by omega⟩ ⟨j.val - 64 * (n % 4), by omega⟩
  else 0

theorem i_lt (i : grid0.Coords) : (i 0).val < 16 := (i 0).isLt

theorem place_row (i : grid0.Coords) (n : ℕ) (c : Fin 384) : 512 * (i 0).val + 128 * (n / 4 % 4) + 384 + c.val < 9216 := by
  have := i_lt i; have := c.isLt; omega

/-- The place of a chunk's element in the accumulated array. -/
abbrev place (i : grid0.Coords) (n : ℕ) (c : Fin 384) (d : Fin 64) : S9216x256.Idx :=
  ix2 ⟨512 * (i 0).val + 128 * (n / 4 % 4) + 384 + c.val, place_row i n c⟩ ⟨64 * (n % 4) + d.val, col_lt n d⟩

theorem idx_place (n : ℕ) (c : Fin 384) (d : Fin 64) : (kvRect i n).toLoadRect.idx (ix2 c d) = place i n c d := by
  funext a
  apply Fin.ext
  show offs i n a + 1 * (ix2 c d a).val = _
  rw [offs_eq, Nat.one_mul]
  fin_cases a <;> rfl

theorem part_place (n : ℕ) (f : Fin 384 → Fin 64 → ℝ) (c : Fin 384) (d : Fin 64) :
    part (i 0).val f n (place i n c d 0) (place i n c d 1) = f c d := by
  unfold part
  rw [dif_pos (by have := c.isLt; have := d.isLt; simp only [place, ix2]; omega)]
  congr 1 <;> exact Fin.ext (by simp [place])

variable {κ : Kind} {sp : Space} (a : Memref sig κ sp S9216x256 .f32) (f : a.view.ty.Contents (Elt Ideal))

/-- One chunk's store, over what was there. -/
theorem chain_step (n : ℕ) (L : List KvPiece) (A : Fin 9216 → Fin 256 → ℝ) (g : Fin 384 → Fin 64 → ℝ)
    (w : (kvRect i n).shape.Idx → Elt Ideal .f32)
    (hL : ∀ R j, a.view.read (Elt Ideal) (a.view.writes (Elt Ideal) f L) (ix2 R j) = (A R j : EReal))
    (hw : ∀ c d, w (ix2 c d) = ((A (place i n c d 0) (place i n c d 1) + g c d : ℝ) : EReal)) (R : Fin 9216) (j : Fin 256) :
    a.view.read (Elt Ideal) (a.view.writes (Elt Ideal) f (⟨kvRect i n, w⟩ :: L)) (ix2 R j) = ((A R j + part (i 0).val g n R j : ℝ) : EReal) := by
  by_cases h : (512 * (i 0).val + 128 * (n / 4 % 4) + 384 ≤ R.val ∧ R.val < 512 * (i 0).val + 128 * (n / 4 % 4) + 768)
      ∧ 64 * (n % 4) ≤ j.val ∧ j.val < 64 * (n % 4) + 64
  · have e := View.read_writes_cons_unit_of_mem a.view f (offs_inb i n) w L (ix2 R j)
      (ix2 ⟨R.val - (512 * (i 0).val + 128 * (n / 4 % 4) + 384), by omega⟩ ⟨j.val - 64 * (n % 4), by omega⟩) (offs_eq i n)
      (fun x => by fin_cases x <;> simp <;> omega)
    have hp : place i n ⟨R.val - (512 * (i 0).val + 128 * (n / 4 % 4) + 384), by omega⟩ ⟨j.val - 64 * (n % 4), by omega⟩ = ix2 R j := by
      funext x; apply Fin.ext; fin_cases x <;> simp [place] <;> omega
    rw [e, hw, hp]
    unfold part
    rw [dif_pos h]
    rfl
  · have e : a.view.read (Elt Ideal) (a.view.writes (Elt Ideal) f (⟨kvRect i n, w⟩ :: L)) (ix2 R j)
        = a.view.read (Elt Ideal) (a.view.writes (Elt Ideal) f L) (ix2 R j) := by
      by_cases h0 : 512 * (i 0).val + 128 * (n / 4 % 4) + 384 ≤ R.val ∧ R.val < 512 * (i 0).val + 128 * (n / 4 % 4) + 768
      · exact View.read_writes_cons_unit_of_not_mem a.view f (offs_inb i n) w L (ix2 R j) (offs_eq i n) 1 (by
          show j.val < 64 * (n % 4) ∨ 64 * (n % 4) + 64 ≤ j.val
          omega)
      · exact View.read_writes_cons_unit_of_not_mem a.view f (offs_inb i n) w L (ix2 R j) (offs_eq i n) 0 (by
          show R.val < 512 * (i 0).val + 128 * (n / 4 % 4) + 384 ∨ 512 * (i 0).val + 128 * (n / 4 % 4) + 384 + 384 ≤ R.val
          omega)
    rw [e, hL]
    unfold part
    rw [dif_neg h, add_zero]

/-- The chunks' stores one after another. -/
theorem chain (acc : ℕ → List KvPiece → (r : LoadRect S9216x256) → r.shape.Idx → Elt Ideal .f32) (base : List KvPiece)
    (pay : (n : ℕ) → Vec Ideal S384x64 .f32 → FVec Ideal S384x64 .f32) (g : ℕ → Fin 384 → Fin 64 → ℝ) (A : Fin 9216 → Fin 256 → ℝ)
    (hp : ∀ n X c d, pay n X (ix2 c d) = X (ix2 c d) + (g n c d : EReal))
    (h0 : ∀ R j, a.view.read (Elt Ideal) (a.view.writes (Elt Ideal) f base) (ix2 R j) = (A R j : EReal))
    (hacc : ∀ n L, (∀ R j, a.view.read (Elt Ideal) (a.view.writes (Elt Ideal) f L) (ix2 R j)
        = ((A R j + ∑ m ∈ Finset.range n, part (i 0).val (g m) m R j : ℝ) : EReal)) → ∀ c d,
      acc n L (kvRect i n).toLoadRect (ix2 c d)
        = ((A (place i n c d 0) (place i n c d 1) + ∑ m ∈ Finset.range n, part (i 0).val (g m) m (place i n c d 0) (place i n c d 1) : ℝ) : EReal)) :
    ∀ (n : ℕ) R j, a.view.read (Elt Ideal) (a.view.writes (Elt Ideal) f
        (Nat.rec base (fun n L => ⟨kvRect i n, pay n (acc n L (kvRect i n).toLoadRect)⟩ :: L) n)) (ix2 R j)
      = ((A R j + ∑ m ∈ Finset.range n, part (i 0).val (g m) m R j : ℝ) : EReal)
  | 0, R, j => by rw [Finset.sum_range_zero, add_zero]; exact h0 R j
  | n + 1, R, j => by
    have ih := chain acc base pay g A hp h0 hacc n
    have e := chain_step a f n _ _ (g n) (pay n (acc n _ (kvRect i n).toLoadRect)) ih (fun c d => by
      rw [hp, hacc n _ ih, lift_add]) R j
    rw [Finset.sum_range_succ, ← add_assoc]
    exact e

theorem acc_first (n : ℕ) (L : List KvPiece) (B : Fin 9216 → Fin 256 → ℝ)
    (h : ∀ R j, a.view.read (Elt Ideal) (a.view.writes (Elt Ideal) f L) (ix2 R j) = (B R j : EReal)) (c : Fin 384) (d : Fin 64) :
    accF a f n L (kvRect i n).toLoadRect (ix2 c d) = (B (place i n c d 0) (place i n c d 1) : EReal) := by
  show a.view.read (Elt Ideal) (a.view.writes (Elt Ideal) f L) ((kvRect i n).toLoadRect.idx (ix2 c d)) = _
  rw [idx_place]; exact h _ _

theorem acc_later (n : ℕ) (L : List KvPiece) (A : Fin 9216 → Fin 256 → ℝ) (g : ℕ → Fin 384 → Fin 64 → ℝ)
    (h0 : ∀ R j, a.view.read (Elt Ideal) f (ix2 R j) = (A R j : EReal))
    (h : ∀ R j, a.view.read (Elt Ideal) (a.view.writes (Elt Ideal) f L) (ix2 R j)
      = ((A R j + ∑ m ∈ Finset.range n, part (i 0).val (g m) m R j : ℝ) : EReal)) (c : Fin 384) (d : Fin 64) :
    accL a f n L (kvRect i n).toLoadRect (ix2 c d)
      = ((A (place i n c d 0) (place i n c d 1) + ∑ m ∈ Finset.range n, part (i 0).val (g m) m (place i n c d 0) (place i n c d 1) : ℝ) : EReal) := by
  show a.view.read (Elt Ideal) (if n < 4 then f else a.view.writes (Elt Ideal) f L) ((kvRect i n).toLoadRect.idx (ix2 c d)) = _
  rw [idx_place]
  split_ifs with hn
  · rw [Finset.sum_eq_zero (fun m hm => ?_), add_zero]
    · exact h0 _ _
    · have := Finset.mem_range.mp hm
      unfold part
      rw [dif_neg]
      show ¬(_ ∧ 64 * (m % 4) ≤ 64 * (n % 4) + d.val ∧ 64 * (n % 4) + d.val < 64 * (m % 4) + 64)
      omega
  · exact h _ _

/-! ## The queries' derivative: sixty-four pieces, one for each head of each block -/

/-- The queries' derivative at a place of a block: that of the chunk of its head. -/
def dqAt (p : Operands) (b : Fin 4) (R : Fin 1024) (r : Fin 128) : ℝ :=
  (p.chunk ((16 * b.val + R.val / 64) / 4)).dq ⟨R.val % 64, Nat.mod_lt _ (by decide)⟩
    ⟨128 * ((16 * b.val + R.val / 64) % 4) + r.val, by have := r.isLt; omega⟩

theorem qPart_at (h : Holds i l p) (j : ℕ) (z : Fin 1) (d : Fin 64) (r : Fin 128) :
    qPart i l j (ix3 z d r) = ((p.chunk (j / 4)).dq d ⟨128 * (j % 4) + r.val, by have := r.isLt; omega⟩ : EReal) := by
  have e := Chunk.dq_at (chunk_holds h (j / 4)) d ⟨128 * (j % 4) + r.val, by have := r.isLt; omega⟩
  rw [← e]
  pointwise [qPart, dqn]
  rfl

theorem queries (h : Holds i l p) {κ : Kind} {sp : Space} (a : Memref sig κ sp S4x1024x128 .f32) (f : a.view.ty.Contents (Elt Ideal)) :
    ∀ (n : ℕ), n ≤ 64 → ∀ (b : Fin 4) (R : Fin 1024) (r : Fin 128), 16 * b.val + R.val / 64 < n →
      a.view.read (Elt Ideal) (a.view.writes (Elt Ideal) f (qL i l n)) (ix3 b R r) = (dqAt p b R r : EReal)
  | 0, _, _, _, _, hn => absurd hn (Nat.not_lt_zero _)
  | n + 1, hle, b, R, r, hn => by
    by_cases he : 16 * b.val + R.val / 64 = n
    · have hR := R.isLt
      have e := View.read_writes_cons_unit_of_mem a.view f (inb_qs n) (qPart i l n) (qL i l n) (ix3 b R r)
        (ix3 0 ⟨R.val % 64, Nat.mod_lt _ (by decide)⟩ r) rfl (fun x => by fin_cases x <;> simp <;> omega)
      refine e.trans ((qPart_at h n 0 _ r).trans ?_)
      unfold dqAt
      subst he
      rfl
    · have ih := queries h a f n (by omega) b R r (by omega)
      refine Eq.trans ?_ ih
      have hR := R.isLt
      by_cases hb : b.val = n / 16 % 4
      · exact View.read_writes_cons_unit_of_not_mem a.view f (inb_qs n) (qPart i l n) (qL i l n) (ix3 b R r) rfl 1 (by
          show R.val < 64 * (n % 16) ∨ 64 * (n % 16) + 64 ≤ R.val
          omega)
      · exact View.read_writes_cons_unit_of_not_mem a.view f (inb_qs n) (qPart i l n) (qL i l n) (ix3 b R r) rfl 0 (by
          show b.val < n / 16 % 4 ∨ n / 16 % 4 + 1 ≤ b.val
          omega)

/-! ## The sinks' derivative: one lane for each head -/

def sumAt (p : Operands) (j : ℕ) : ℝ := ∑ r : Fin 128, (p.chunk (j / 4)).ds ⟨128 * (j % 4) + r.val, by have := r.isLt; omega⟩

theorem sPart_at (h : Holds i l p) (j : ℕ) (z : Fin 1) : sPart i l j (ix1 z) = (sumAt p j : EReal) := by
  have e := fun r : Fin 128 => Chunk.ds_at (chunk_holds h (j / 4)) 0 ⟨128 * (j % 4) + r.val, by have := r.isLt; omega⟩
  unfold sumAt
  rw [← lift_sum]
  simp only [← e]
  pointwise [sPart, psn]
  rfl

theorem lanes_at (h : Holds i l p) : ∀ (n : ℕ) (z : Fin 1) (ℓ : Fin 128),
    lanes i l n (ix2 z ℓ) = ((-∑ j ∈ Finset.range n, if ℓ.val = j % 16 then sumAt p j else 0 : ℝ) : EReal)
  | 0, z, ℓ => by
    rw [Finset.sum_range_zero, neg_zero]
    show k0_pay7 (F := Ideal) (ix2 z ℓ) = _
    pointwise [k0_pay7]
    rfl
  | n + 1, z, ℓ => by
    have ih := lanes_at h n z ℓ
    have hs := sPart_at h n
    have e : lanes i l (n + 1) = subf (lanes i l n) (select (sIdx n)
      (broadcastTo S1x128 (shapeCast S1x1 (shapeCast S1x1 (sPart i l n) shapeCasts_S1_S1x1) shapeCasts_S1x1_S1x1) broadcasts_S1x1_S1x128)
      (broadcast S1x128 (Scalar.ofBits .f32 0x00000000#32 : Ideal .f32))) := rfl
    rw [e]
    pointwise [sIdx]
    have hx : BitVec.ofNat 32 ℓ.val = BitVec.ofNat 32 (n % 16) ↔ ℓ.val = n % 16 := by
      constructor
      · intro hx
        have := congrArg BitVec.toNat hx
        have := ℓ.isLt
        simp only [BitVec.toNat_ofNat] at *
        omega
      · intro hx; rw [hx]
    rw [ih, hs, Finset.sum_range_succ, neg_add]
    unfold Scalar.select IntOp.cmpi
    by_cases hl : ℓ.val = n % 16
    · simp [hl]
      exact sub_eq_add_neg _ _
    · have hn : (BitVec.ofNat 32 ℓ.val == BitVec.ofNat 32 (n % 16)) = false := beq_eq_false_iff_ne.mpr fun e => hl (hx.mp e)
      simp [hn, hl]

/-! ## What a point leaves -/

variable (m : (ℓ : Loc nD τ sig) → Buf (Elt Ideal) ℓ) {c : Dev nD} {t : Fin cfg0.N} (h : Holds (grid0.coords t) (loads m c t) p)

open Cert.AttnBwdIdeal.Body

/-- The point's parts of the keys' and values' derivatives, and of the sinks'. -/
def dkAt (p : Operands) (T : ℕ) (R : Fin 9216) (j : Fin 256) : ℝ := ∑ n ∈ Finset.range 16, part T (p.chunk n).dk n R j
def dvAt (p : Operands) (T : ℕ) (R : Fin 9216) (j : Fin 256) : ℝ := ∑ n ∈ Finset.range 16, part T (p.chunk n).dv n R j
def dsAt (p : Operands) (ℓ : Fin 128) : ℝ := -∑ j ∈ Finset.range 64, if ℓ.val = j % 16 then sumAt p j else 0

include h

theorem outL_q (hc : ¬t.val % 16 = 0) (y : Outs Ideal) (b : Fin 4) (R : Fin 1024) (r : Fin 128) :
    (outL m c t hc y).q (ix3 b R r) = (dqAt p b R r : EReal) := by
  show (ms10 t).view.read (Elt Ideal) ((ms10 t).view.writes (Elt Ideal) (ms10 t).view.junk (runL m c t hc y.k y.v y.s).1) (ix3 b R r) = _
  rw [runL_q]
  exact queries h _ _ 64 (le_refl _) b R r (by have := b.isLt; have := R.isLt; omega)

theorem outF_q (hc : t.val % 16 = 0) (b : Fin 4) (R : Fin 1024) (r : Fin 128) :
    (outF m c t hc).q (ix3 b R r) = (dqAt p b R r : EReal) := by
  show (ms10 t).view.read (Elt Ideal) ((ms10 t).view.writes (Elt Ideal) (ms10 t).view.junk (runF m c t hc).1) (ix3 b R r) = _
  rw [runF_q]
  exact queries h _ _ 64 (le_refl _) b R r (by have := b.isLt; have := R.isLt; omega)

theorem outL_k (hc : ¬t.val % 16 = 0) (y : Outs Ideal) (A : Fin 9216 → Fin 256 → ℝ) (hy : ∀ R j, y.k (ix2 R j) = (A R j : EReal))
    (R : Fin 9216) (j : Fin 256) : (outL m c t hc y).k (ix2 R j) = ((A R j + dkAt p (grid0.coords t 0).val R j : ℝ) : EReal) := by
  have h0 : ∀ R j, (ms11 t).view.read (Elt Ideal) ((hs11 t).unread y.k) (ix2 R j) = (A R j : EReal) := fun R j => by
    rw [(hs11 t).read_unread]; exact hy R j
  show (ms11 t).view.read (Elt Ideal) ((ms11 t).view.writes (Elt Ideal) ((hs11 t).unread y.k) (runL m c t hc y.k y.v y.s).2.1) (ix2 R j) = _
  rw [runL_k]
  exact chain (ms11 t) _ (accL (ms11 t) ((hs11 t).unread y.k)) []
    (fun n X => k0_pay24 (F := Ideal) (vv _ n) (qq _ n) (oo _ n) (ss _ n) (scn _ _ n) X) (fun n => (p.chunk n).dk) A
    (fun n X c d => Chunk.dk_at (chunk_holds h n) X c d) h0 (fun n L hL c d => acc_later (ms11 t) _ n L A _ h0 hL c d) 16 R j

theorem outL_v (hc : ¬t.val % 16 = 0) (y : Outs Ideal) (A : Fin 9216 → Fin 256 → ℝ) (hy : ∀ R j, y.v (ix2 R j) = (A R j : EReal))
    (R : Fin 9216) (j : Fin 256) : (outL m c t hc y).v (ix2 R j) = ((A R j + dvAt p (grid0.coords t 0).val R j : ℝ) : EReal) := by
  have h0 : ∀ R j, (ms12 t).view.read (Elt Ideal) ((hs12 t).unread y.v) (ix2 R j) = (A R j : EReal) := fun R j => by
    rw [(hs12 t).read_unread]; exact hy R j
  show (ms12 t).view.read (Elt Ideal) ((ms12 t).view.writes (Elt Ideal) ((hs12 t).unread y.v) (runL m c t hc y.k y.v y.s).2.2.1) (ix2 R j) = _
  rw [runL_v]
  exact chain (ms12 t) _ (accL (ms12 t) ((hs12 t).unread y.v)) []
    (fun n X => k0_pay25 (F := Ideal) (oo _ n) (ss _ n) (scn _ _ n) X) (fun n => (p.chunk n).dv) A
    (fun n X c d => Chunk.dv_at (chunk_holds h n) X c d) h0 (fun n L hL c d => acc_later (ms12 t) _ n L A _ h0 hL c d) 16 R j

omit h in
theorem zeros_at {κ : Kind} {sp : Space} (a : Memref sig κ sp S9216x256 .f32) (f : a.view.ty.Contents (Elt Ideal))
    (w : FVec Ideal S9216x256 .f32) (hw : ∀ R j, w (ix2 R j) = ((0 : ℝ) : EReal)) (R : Fin 9216) (j : Fin 256) :
    a.view.read (Elt Ideal) (a.view.writes (Elt Ideal) f [⟨Rect.unit (s := S9216x256) ![0, 0] S9216x256.size inb_S9216x256_S9216x256_0_0, w⟩]) (ix2 R j)
      = ((0 : ℝ) : EReal) :=
  (View.read_writes_cons_unit_of_mem a.view f inb_S9216x256_S9216x256_0_0 w [] (ix2 R j) (ix2 R j) rfl
    (fun x => by fin_cases x <;> simp)).trans (hw R j)

omit h in
theorem zeros_at8 {κ : Kind} {sp : Space} (a : Memref sig κ sp S8x128 .f32) (f : a.view.ty.Contents (Elt Ideal))
    (w : FVec Ideal S8x128 .f32) (hw : ∀ u ℓ, w (ix2 u ℓ) = ((0 : ℝ) : EReal)) (u : Fin 8) (ℓ : Fin 128) :
    a.view.read (Elt Ideal) (a.view.writes (Elt Ideal) f [⟨Rect.unit (s := S8x128) ![0, 0] S8x128.size inb_S8x128_S8x128_0_0, w⟩]) (ix2 u ℓ)
      = ((0 : ℝ) : EReal) :=
  (View.read_writes_cons_unit_of_mem a.view f inb_S8x128_S8x128_0_0 w [] (ix2 u ℓ) (ix2 u ℓ) rfl
    (fun x => by fin_cases x <;> simp)).trans (hw u ℓ)

theorem outF_k (hc : t.val % 16 = 0) (R : Fin 9216) (j : Fin 256) :
    (outF m c t hc).k (ix2 R j) = ((dkAt p (grid0.coords t 0).val R j : ℝ) : EReal) := by
  have h0 := zeros_at (ms11 t) (ms11 t).view.junk (k0_pay2 (F := Ideal)) (fun R j => by pointwise [k0_pay2]; rfl)
  show (ms11 t).view.read (Elt Ideal) ((ms11 t).view.writes (Elt Ideal) (ms11 t).view.junk (runF m c t hc).2.1) (ix2 R j) = _
  rw [runF_k, ← zero_add (dkAt p _ R j)]
  exact chain (ms11 t) _ (accF (ms11 t) (ms11 t).view.junk) zeroK
    (fun n X => k0_pay24 (F := Ideal) (vv _ n) (qq _ n) (oo _ n) (ss _ n) (scn _ _ n) X) (fun n => (p.chunk n).dk) (fun _ _ => 0)
    (fun n X c d => Chunk.dk_at (chunk_holds h n) X c d) h0 (fun n L hL c d => acc_first (ms11 t) _ n L _ hL c d) 16 R j

theorem outF_v (hc : t.val % 16 = 0) (R : Fin 9216) (j : Fin 256) :
    (outF m c t hc).v (ix2 R j) = ((dvAt p (grid0.coords t 0).val R j : ℝ) : EReal) := by
  have h0 := zeros_at (ms12 t) (ms12 t).view.junk (k0_pay3 (F := Ideal)) (fun R j => by pointwise [k0_pay3]; rfl)
  show (ms12 t).view.read (Elt Ideal) ((ms12 t).view.writes (Elt Ideal) (ms12 t).view.junk (runF m c t hc).2.2.1) (ix2 R j) = _
  rw [runF_v, ← zero_add (dvAt p _ R j)]
  exact chain (ms12 t) _ (accF (ms12 t) (ms12 t).view.junk) zeroV
    (fun n X => k0_pay25 (F := Ideal) (oo _ n) (ss _ n) (scn _ _ n) X) (fun n => (p.chunk n).dv) (fun _ _ => 0)
    (fun n X c d => Chunk.dv_at (chunk_holds h n) X c d) h0 (fun n L hL c d => acc_first (ms12 t) _ n L _ hL c d) 16 R j

/-- The last store into the sinks' derivative: its first row gains the lanes, the others stay. -/
theorem sinks (a : Memref sig κ sp S8x128 .f32) (f : a.view.ty.Contents (Elt Ideal)) (L : List (View.Piece (Elt Ideal) S8x128 .f32))
    (A : Fin 8 → Fin 128 → ℝ) (hL : ∀ u ℓ, a.view.read (Elt Ideal) (a.view.writes (Elt Ideal) f L) (ix2 u ℓ) = (A u ℓ : EReal))
    (X : Vec Ideal S1x128 .f32) (hX : ∀ z ℓ, X (ix2 z ℓ) = (A 0 ℓ : EReal)) (u : Fin 8) (ℓ : Fin 128) :
    a.view.read (Elt Ideal) (a.view.writes (Elt Ideal) f (sPiece (lanes (grid0.coords t) (loads m c t) 64) X :: L)) (ix2 u ℓ)
      = ((A u ℓ + if u = 0 then dsAt p ℓ else 0 : ℝ) : EReal) := by
  by_cases hu : u = 0
  · subst hu
    rw [if_pos rfl]
    refine (View.read_writes_cons_unit_of_mem a.view f inb_S8x128_S1x128_0_0 _ L (ix2 0 ℓ) (ix2 0 ℓ) rfl
      (fun x => by fin_cases x <;> simp)).trans ?_
    pointwise
    rw [hX, lanes_at h, lift_add]
    rfl
  · rw [if_neg hu, add_zero, ← hL u ℓ]
    exact View.read_writes_cons_unit_of_not_mem a.view f inb_S8x128_S1x128_0_0 _ L (ix2 u ℓ) rfl 0 (by
      show u.val < 0 ∨ 0 + 1 ≤ u.val
      have : u.val ≠ 0 := fun e => hu (Fin.ext e)
      omega)

omit h in
theorem sRect_idx (z : Fin 1) (ℓ : Fin 128) : sRect.idx (ix2 z ℓ) = (ix2 0 ℓ : S8x128.Idx) := by
  funext x; apply Fin.ext; fin_cases x
  · have := z.isLt
    show 0 + 1 * z.val = 0
    omega
  · show 0 + 1 * ℓ.val = ℓ.val
    omega

theorem outL_s (hc : ¬t.val % 16 = 0) (y : Outs Ideal) (A : Fin 8 → Fin 128 → ℝ) (hy : ∀ u ℓ, y.s (ix2 u ℓ) = (A u ℓ : EReal))
    (u : Fin 8) (ℓ : Fin 128) : (outL m c t hc y).s (ix2 u ℓ) = ((A u ℓ + if u = 0 then dsAt p ℓ else 0 : ℝ) : EReal) := by
  have h0 : ∀ u ℓ, (ms13 t).view.read (Elt Ideal) ((hs13 t).unread y.s) (ix2 u ℓ) = (A u ℓ : EReal) := fun u ℓ => by
    rw [(hs13 t).read_unread]; exact hy u ℓ
  show (ms13 t).view.read (Elt Ideal) ((ms13 t).view.writes (Elt Ideal) ((hs13 t).unread y.s) (runL m c t hc y.k y.v y.s).2.2.2.1) (ix2 u ℓ) = _
  rw [runL_s]
  refine sinks m h (ms13 t) _ [] A h0 _ (fun z ℓ => ?_) u ℓ
  show (ms13 t).view.read (Elt Ideal) _ (sRect.idx (ix2 z ℓ)) = _
  rw [sRect_idx]; exact h0 0 ℓ

theorem outF_s (hc : t.val % 16 = 0) (u : Fin 8) (ℓ : Fin 128) :
    (outF m c t hc).s (ix2 u ℓ) = ((if u = 0 then dsAt p ℓ else 0 : ℝ) : EReal) := by
  have h0 : ∀ u ℓ, (ms13 t).view.read (Elt Ideal) ((ms13 t).view.writes (Elt Ideal) (ms13 t).view.junk zeroS) (ix2 u ℓ) = ((0 : ℝ) : EReal) :=
    zeros_at8 (ms13 t) _ (k0_pay4 (F := Ideal)) fun u ℓ => by pointwise [k0_pay4]; rfl
  show (ms13 t).view.read (Elt Ideal) ((ms13 t).view.writes (Elt Ideal) (ms13 t).view.junk (runF m c t hc).2.2.2.1) (ix2 u ℓ) = _
  rw [runF_s, ← zero_add (if u = 0 then dsAt p ℓ else 0 : ℝ)]
  refine sinks m h (ms13 t) _ zeroS (fun _ _ => 0) h0 _ (fun z ℓ => ?_) u ℓ
  show (ms13 t).view.read (Elt Ideal) _ (sRect.idx (ix2 z ℓ)) = _
  rw [sRect_idx]; exact h0 0 ℓ

end Cert.AttnBwdIdeal.Point

end
-- ==== Proof.AttnArray.lean ====
/-
  The blocks the windowed attention's backward kernel reads, when the arguments hold real numbers.
-/
module

public import proofs.«01_k».proof.Proof.AttnPoint
public import proofs.«01_k».proof.Proof.Cols
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnBwdIdeal.Array

open Cert.AttnBwdIdeal Cert.AttnBwdIdeal.Gen Cert.AttnBwdIdeal.Body Cert.AttnBwdIdeal.Forms Cert.Reals Cert.Attn
open scoped Classical

variable (m : (ℓ : Loc nD τ sig) → Buf (Elt Ideal) ℓ)

/-- The block before a point's four, and the one after them. -/
def prv (t : ℕ) : ℕ := 4 * t - 1
def nxt (t : ℕ) : ℕ := min (4 * t + 4) 63

theorem idx_val : ∀ t : Fin cfg0.N, win0_0.index t = ![0]
    ∧ win0_1.index t = ![0, 0, 0]
    ∧ win0_2.index t = ![t.val, 0, 0]
    ∧ win0_3.index t = ![prv t.val, 0]
    ∧ win0_4.index t = ![t.val, 0]
    ∧ win0_5.index t = ![nxt t.val, 0]
    ∧ win0_6.index t = ![prv t.val, 1]
    ∧ win0_7.index t = ![t.val, 1]
    ∧ win0_8.index t = ![nxt t.val, 1]
    ∧ win0_9.index t = ![t.val, 0, 0]
    ∧ win0_10.index t = ![t.val, 0, 0]
    ∧ win0_11.index t = ![0, 0]
    ∧ win0_12.index t = ![0, 0]
    ∧ win0_13.index t = ![0, 0] :=
  (by decide +kernel : ∀ t : Fin grid0.N, _)

theorem t_lt (t : Fin cfg0.N) : t.val < 16 := lt_of_lt_of_eq t.isLt N_0

/-- Block `b` of a point. -/
def gblk (t : Fin cfg0.N) (b : Fin 4) : Fin 64 := ⟨4 * t.val + b.val, by have := t_lt t; omega⟩
/-- Query `r` of block `B`. -/
def row (B : Fin 64) (r : Fin 128) : Fin 8192 := ⟨128 * B.val + r.val, by omega⟩

variable {Q : Fin 8192 → Fin 16 → Fin 64 → ℝ} {K Y : Fin 8192 → Fin 4 → Fin 64 → ℝ} {S : Fin 16 → ℝ} {O : Fin 8192 → Fin 1024 → ℝ} (c : Dev nD)

/-- The arguments hold the real arrays `Q`, `K`, `Y`, `S`, `O`. -/
structure Holds (Q : Fin 8192 → Fin 16 → Fin 64 → ℝ) (K Y : Fin 8192 → Fin 4 → Fin 64 → ℝ) (S : Fin 16 → ℝ) (O : Fin 8192 → Fin 1024 → ℝ) : Prop where
  h0 : ∀ i j k, (show FVec Ideal S8192x16x64 .f32 from m ((c : Thread nD τ).loc main_arg0)) (ix3 i j k) = (Q i j k : EReal)
  h1 : ∀ i j k, (show FVec Ideal S8192x4x64 .f32 from m ((c : Thread nD τ).loc main_arg1)) (ix3 i j k) = (K i j k : EReal)
  h2 : ∀ i j k, (show FVec Ideal S8192x4x64 .f32 from m ((c : Thread nD τ).loc main_arg2)) (ix3 i j k) = (Y i j k : EReal)
  h3 : ∀ j, (show FVec Ideal S16 .f32 from m ((c : Thread nD τ).loc main_arg3)) (ix1 j) = (S j : EReal)
  h4 : ∀ i j, (show FVec Ideal S8192x1024 .f32 from m ((c : Thread nD τ).loc main_arg4)) (ix2 i j) = (O i j : EReal)

/-- The head of a column, and its place in the head. -/
def hd4 (j : Fin 256) : Fin 4 := ⟨j.val / 64, by omega⟩
def hd16 (j : Fin 1024) : Fin 16 := ⟨j.val / 64, by omega⟩
def dim4 (j : Fin 256) : Fin 64 := ⟨j.val % 64, by omega⟩
def dim16 (j : Fin 1024) : Fin 64 := ⟨j.val % 64, by omega⟩

variable (H : Holds m c Q K Y S O)
include H

theorem blk0 (t : Fin cfg0.N) (j : Fin 16) :
    (show FVec Ideal S16 .f32 from iblk m c 0 t) (ix1 j) = (S j : EReal) := by
  rw [← H.h3]
  blk_ext [iblk, V, idx_val t]

omit H in
theorem const_eighth : Ideal.ofBits .f32 0x3E000000#32 = ((1 / 8 : ℝ) : EReal) := by
  simp [Ideal.ofBits, Ideal.ieee, -EReal.coe_mul]; norm_num

theorem blk2 (t : Fin cfg0.N) (b : Fin 4) (R : Fin 1024) (r : Fin 128) :
    (show FVec Ideal S4x1024x128 .bf16 from iblk m c 2 t) (ix3 b R r) = ((Q (row (gblk t b) r) (hd16 R) (dim16 R) * (1 / 8) : ℝ) : EReal) := by
  have hy : ((View.whole main_v5).slice (win0_2.rect t)).emb (ix3 b R r) = (ix3 (gblk t b) R r : S64x1024x128.Idx) := by
    blk_ext [idx_val t, gblk]
  have a0 : ∀ i j k, m (c, Proc.tc.devRef main_arg0) (ix3 i j k) = (Q i j k : EReal) := H.h0
  blk_simp [iblk, idx_val t, V, hostOps0, hostOps0_1, hostOps0_2, List.flatten_cons, List.flatten_nil, List.cons_append, List.nil_append]
  entry_read
  pointwise
  simp only [hy, a0, const_eighth, lift_mul]
  congr 2
  unfold row hd16 dim16
  congr 1
  exact Fin.ext (by simp; omega)

theorem blk9 (t : Fin cfg0.N) (b : Fin 4) (R : Fin 1024) (r : Fin 128) :
    (show FVec Ideal S4x1024x128 .bf16 from iblk m c 9 t) (ix3 b R r) = (O (row (gblk t b) r) R : EReal) := by
  have hy : ((View.whole main_v12).slice (win0_9.rect t)).emb (ix3 b R r) = (ix3 (gblk t b) R r : S64x1024x128.Idx) := by
    blk_ext [idx_val t, gblk]
  have a4 : ∀ i j, m (c, Proc.tc.devRef main_arg4) (ix2 i j) = (O i j : EReal) := H.h4
  blk_simp [iblk, idx_val t, V, hostOps0, hostOps0_1, hostOps0_2, List.flatten_cons, List.flatten_nil, List.cons_append, List.nil_append]
  entry_read
  pointwise
  simp only [hy]
  have e : ∀ i i' : Fin 8192, i = i' → ((O i R : ℝ) : EReal) = O i' R := fun _ _ h => by rw [h]
  refine (a4 _ _).trans (e _ _ (Fin.ext ?_))
  show (gblk t b).val * 128 + r.val = 128 * (gblk t b).val + r.val
  omega

/-- A row of keys or of values: the keys' columns first, then the values'. -/
def kvRow (K Y : Fin 8192 → Fin 4 → Fin 64 → ℝ) (i : Fin 8192) (j : Fin 512) : ℝ :=
  if h : j.val < 256 then K i (hd4 ⟨j.val, h⟩) (dim4 ⟨j.val, h⟩) else Y i (hd4 ⟨j.val - 256, by omega⟩) (dim4 ⟨j.val - 256, by omega⟩)

theorem kv_at (i : Fin 8192) (j : Fin 512) :
    (show FVec Ideal S8192x512 .bf16 from V m c main_v9) (ix2 i j) = (kvRow K Y i j : EReal) := by
  have a1 : ∀ i j k, m (c, Proc.tc.devRef main_arg1) (ix3 i j k) = (K i j k : EReal) := H.h1
  have a2 : ∀ i j k, m (c, Proc.tc.devRef main_arg2) (ix3 i j k) = (Y i j k : EReal) := H.h2
  blk_simp [V, hostOps0, hostOps0_1, hostOps0_2, List.flatten_cons, List.flatten_nil, List.cons_append, List.nil_append]
  entry_read
  pointwise
  simp only [a1, a2]
  unfold kvRow hd4 dim4
  split_ifs <;> rfl

end Cert.AttnBwdIdeal.Array

end
-- ==== Proof.AttnWin.lean ====
/-
  What a point of the windowed attention's backward kernel reads, as real operands.
-/
module

public import proofs.«01_k».proof.Proof.AttnArray
public import proofs.«01_k».proof.Proof.AttnMask

@[expose] public section

set_option maxRecDepth 16384

noncomputable section

open Idealize.ShloMosaic Idealize.ShloMosaic.TcCoe Idealize.SL.Sem
open Idealize.ShloMosaic.Pipeline (Dat)

namespace Cert.AttnBwdIdeal.Array

open Cert.AttnBwdIdeal Cert.AttnBwdIdeal.Gen Cert.AttnBwdIdeal.Body Cert.AttnBwdIdeal.Forms Cert.Reals Cert.Attn

variable (m : (ℓ : Loc nD τ sig) → Buf (Elt Ideal) ℓ)
variable {Q : Fin 8192 → Fin 16 → Fin 64 → ℝ} {K Y : Fin 8192 → Fin 4 → Fin 64 → ℝ} {S : Fin 16 → ℝ} {O : Fin 8192 → Fin 1024 → ℝ} (c : Dev nD)

/-- The host code's bias: nothing where the query sees the key, minus infinity where it does not. -/
theorem bias_at (σ : Fin 3) (a : Fin 384) (r : Fin 512) :
    (show FVec Ideal S3x384x512 .f32 from V m c main_v36) (ix3 σ a r) = if SlabSeen σ.val a.val (r.val % 128) then 0 else ⊥ := by
  blk_simp [V, hostOps0, hostOps0_1, hostOps0_2, List.flatten_cons, List.flatten_nil, List.cons_append, List.nil_append]
  entry_read
  simp -implicitDefEqProofs only [StableHlo.TRef.toBuf, StableHlo.TRef.ofBuf, cast_cast, cast_eq]
  pointwise
  rw [← select_ofBool, ← slab_word σ.val a.val r.val σ.isLt a.isLt r.isLt, Chunk.const_bot]

theorem prv_lt (t : Fin cfg0.N) (a : Fin 128) : 128 * prv t.val + a.val < 8192 := by
  have := t_lt t; have := a.isLt; unfold prv; omega
theorem mid_lt (t : Fin cfg0.N) (a : Fin 512) : 512 * t.val + a.val < 8192 := by
  have := t_lt t; have := a.isLt; omega
theorem nxt_lt (t : Fin cfg0.N) (a : Fin 128) : 128 * nxt t.val + a.val < 8192 := by
  have := a.isLt; unfold nxt; omega

variable (H : Holds m c Q K Y S O)
include H

theorem blk1 (t : Fin cfg0.N) (σ : Fin 3) (a : Fin 384) (r : Fin 512) :
    (show FVec Ideal S3x384x512 .f32 from iblk m c 1 t) (ix3 σ a r) = if SlabSeen σ.val a.val (r.val % 128) then 0 else ⊥ := by
  have hy : ((View.whole main_v36).slice (win0_1.rect t)).emb (ix3 σ a r) = (ix3 σ a r : S3x384x512.Idx) := by
    blk_ext [idx_val t]
  exact (congrArg (V m c main_v36) hy).trans (bias_at m c σ a r)

theorem blk3 (t : Fin cfg0.N) (a : Fin 128) (j : Fin 256) :
    (show FVec Ideal S128x256 .bf16 from iblk m c 3 t) (ix2 a j) = (K ⟨_, prv_lt t a⟩ (hd4 j) (dim4 j) : EReal) := by
  have hy : ((View.whole main_v9).slice (win0_3.rect t)).emb (ix2 a j) = (ix2 ⟨_, prv_lt t a⟩ ⟨j.val, by omega⟩ : S8192x512.Idx) := by
    blk_ext [idx_val t]
  refine (congrArg (V m c main_v9) hy).trans ((kv_at m c H _ _).trans ?_)
  unfold kvRow; rw [dif_pos j.isLt]

theorem blk4 (t : Fin cfg0.N) (a : Fin 512) (j : Fin 256) :
    (show FVec Ideal S512x256 .bf16 from iblk m c 4 t) (ix2 a j) = (K ⟨_, mid_lt t a⟩ (hd4 j) (dim4 j) : EReal) := by
  have hy : ((View.whole main_v9).slice (win0_4.rect t)).emb (ix2 a j) = (ix2 ⟨_, mid_lt t a⟩ ⟨j.val, by omega⟩ : S8192x512.Idx) := by
    blk_ext [idx_val t]
  refine (congrArg (V m c main_v9) hy).trans ((kv_at m c H _ _).trans ?_)
  unfold kvRow; rw [dif_pos j.isLt]

theorem blk5 (t : Fin cfg0.N) (a : Fin 128) (j : Fin 256) :
    (show FVec Ideal S128x256 .bf16 from iblk m c 5 t) (ix2 a j) = (K ⟨_, nxt_lt t a⟩ (hd4 j) (dim4 j) : EReal) := by
  have hy : ((View.whole main_v9).slice (win0_5.rect t)).emb (ix2 a j) = (ix2 ⟨_, nxt_lt t a⟩ ⟨j.val, by omega⟩ : S8192x512.Idx) := by
    blk_ext [idx_val t]
  refine (congrArg (V m c main_v9) hy).trans ((kv_at m c H _ _).trans ?_)
  unfold kvRow; rw [dif_pos j.isLt]

/-- The values' half of a row. -/
theorem kv_right (i : Fin 8192) (j : Fin 256) (h : 256 + j.val < 512) :
    (show FVec Ideal S8192x512 .bf16 from V m c main_v9) (ix2 i ⟨256 + j.val, h⟩) = (Y i (hd4 j) (dim4 j) : EReal) := by
  refine (kv_at m c H _ _).trans ?_
  have e : ∀ j' : Fin 256, j' = j → ((Y i (hd4 j') (dim4 j') : ℝ) : EReal) = Y i (hd4 j) (dim4 j) := fun _ h => by rw [h]
  unfold kvRow; rw [dif_neg (by simp)]
  exact e _ (Fin.ext (by simp))

theorem blk6 (t : Fin cfg0.N) (a : Fin 128) (j : Fin 256) :
    (show FVec Ideal S128x256 .bf16 from iblk m c 6 t) (ix2 a j) = (Y ⟨_, prv_lt t a⟩ (hd4 j) (dim4 j) : EReal) := by
  have hy : ((View.whole main_v9).slice (win0_6.rect t)).emb (ix2 a j) = (ix2 ⟨_, prv_lt t a⟩ ⟨256 + j.val, by omega⟩ : S8192x512.Idx) := by
    blk_ext [idx_val t]
  exact (congrArg (V m c main_v9) hy).trans (kv_right m c H _ _ _)

theorem blk7 (t : Fin cfg0.N) (a : Fin 512) (j : Fin 256) :
    (show FVec Ideal S512x256 .bf16 from iblk m c 7 t) (ix2 a j) = (Y ⟨_, mid_lt t a⟩ (hd4 j) (dim4 j) : EReal) := by
  have hy : ((View.whole main_v9).slice (win0_7.rect t)).emb (ix2 a j) = (ix2 ⟨_, mid_lt t a⟩ ⟨256 + j.val, by omega⟩ : S8192x512.Idx) := by
    blk_ext [idx_val t]
  exact (congrArg (V m c main_v9) hy).trans (kv_right m c H _ _ _)

theorem blk8 (t : Fin cfg0.N) (a : Fin 128) (j : Fin 256) :
    (show FVec Ideal S128x256 .bf16 from iblk m c 8 t) (ix2 a j) = (Y ⟨_, nxt_lt t a⟩ (hd4 j) (dim4 j) : EReal) := by
  have hy : ((View.whole main_v9).slice (win0_8.rect t)).emb (ix2 a j) = (ix2 ⟨_, nxt_lt t a⟩ ⟨256 + j.val, by omega⟩ : S8192x512.Idx) := by
    blk_ext [idx_val t]
  exact (congrArg (V m c main_v9) hy).trans (kv_right m c H _ _ _)

omit H

/-- The row of the sequence a window's row holds. -/
def wrow (t : Fin cfg0.N) (a : Fin 768) : Fin 8192 :=
  if h : a.val < 128 then ⟨_, prv_lt t ⟨a.val, h⟩⟩ else if h' : a.val < 640 then ⟨_, mid_lt t ⟨a.val - 128, by omega⟩⟩
  else ⟨_, nxt_lt t ⟨a.val - 640, by omega⟩⟩

/-- The operands of a point. -/
def operands (Q : Fin 8192 → Fin 16 → Fin 64 → ℝ) (K Y : Fin 8192 → Fin 4 → Fin 64 → ℝ) (S : Fin 16 → ℝ) (O : Fin 8192 → Fin 1024 → ℝ)
    (t : Fin cfg0.N) : Point.Operands where
  k a j := K (wrow t a) (hd4 j) (dim4 j)
  v a j := Y (wrow t a) (hd4 j) (dim4 j)
  q b R r := Q (row (gblk t b) r) (hd16 R) (dim16 R) * (1 / 8)
  o b R r := O (row (gblk t b) r) R
  s := S
  W b a r := Seen (gblk t b).val a.val r.val

/-- Three pieces of a window, one below the other. -/
theorem three (x0 : FVec Ideal S128x256 .bf16) (x1 : FVec Ideal S512x256 .bf16) (x2 : FVec Ideal S128x256 .bf16) (t : Fin cfg0.N)
    (f : Fin 8192 → Fin 256 → ℝ) (h0 : ∀ a j, x0 (ix2 a j) = (f ⟨_, prv_lt t a⟩ j : EReal))
    (h1 : ∀ a j, x1 (ix2 a j) = (f ⟨_, mid_lt t a⟩ j : EReal)) (h2 : ∀ a j, x2 (ix2 a j) = (f ⟨_, nxt_lt t a⟩ j : EReal))
    (a : Fin 768) (j : Fin 256) : k0_pay5 (F := Ideal) x0 x1 x2 (ix2 a j) = (f (wrow t a) j : EReal) := by
  pointwise [k0_pay5]
  simp only [h0, h1, h2]
  unfold wrow
  have := a.isLt
  by_cases h : a.val < 128
  · simp [h]
  · by_cases h' : a.val < 640
    · simp only [h, h', dif_pos, dif_neg, if_pos, if_neg, not_false_eq_true]
      split_ifs <;> first | rfl | (exfalso; simp at *; try omega)
    · simp only [h, h', dif_pos, dif_neg, if_pos, if_neg, not_false_eq_true]
      split_ifs <;> first | rfl | (exfalso; simp at *; try omega)

/-- A load of a whole block reads the block. -/
theorem load_whole {sp : Space} {s : Shape} {φ : EltTy} {M : Memref sig .tc sp s φ} (h : M.IsWhole) (X : s.Idx → Elt Ideal φ) (r : LoadRect s) :
    M.view.readAt (Elt Ideal) r (h.unread X) = fun y => X (r.idx y) := by
  funext y
  exact congrFun (h.read_unread X) _

/-- The bias's slab of a block. -/
def slab (B : ℕ) : Fin 3 := if B = 0 then 0 else if B = 63 then 2 else 1

theorem slab_off : ∀ (t : Fin cfg0.N) (b : Fin 4), k0_off1 (grid0.coords t) (BitVec.ofNat 32 b.val) = ![(slab (4 * t.val + b.val)).val, 0, 0] := by
  decide +kernel

theorem coord_val : ∀ t : Fin cfg0.N, (grid0.coords t 0).val = t.val := by decide +kernel

theorem slab_seen (B c r : ℕ) : SlabSeen (slab B).val c r ↔ Seen B c r := by
  unfold SlabSeen Seen slab
  split_ifs <;> simp <;> omega

theorem point_holds (H : Holds m c Q K Y S O) (t : Fin cfg0.N) : Point.Holds (grid0.coords t) (loads m c t) (operands Q K Y S O t) where
  k a j := by
    refine three _ _ _ t (fun i j => K i (hd4 j) (dim4 j)) (fun a j => ?_) (fun a j => ?_) (fun a j => ?_) a j
    · refine (congrFun (load_whole (hs3 t) _ _) _).trans ((congrArg (iblk m c 3 t) ?_).trans (blk3 m c H t a j))
      funext x; apply Fin.ext; fin_cases x
      · show 0 + 1 * a.val = a.val; omega
      · show 0 + 1 * j.val = j.val; omega
    · refine (congrFun (load_whole (hs4 t) _ _) _).trans ((congrArg (iblk m c 4 t) ?_).trans (blk4 m c H t a j))
      funext x; apply Fin.ext; fin_cases x
      · show 0 + 1 * a.val = a.val; omega
      · show 0 + 1 * j.val = j.val; omega
    · refine (congrFun (load_whole (hs5 t) _ _) _).trans ((congrArg (iblk m c 5 t) ?_).trans (blk5 m c H t a j))
      funext x; apply Fin.ext; fin_cases x
      · show 0 + 1 * a.val = a.val; omega
      · show 0 + 1 * j.val = j.val; omega
  v a j := by
    refine three _ _ _ t (fun i j => Y i (hd4 j) (dim4 j)) (fun a j => ?_) (fun a j => ?_) (fun a j => ?_) a j
    · refine (congrFun (load_whole (hs6 t) _ _) _).trans ((congrArg (iblk m c 6 t) ?_).trans (blk6 m c H t a j))
      funext x; apply Fin.ext; fin_cases x
      · show 0 + 1 * a.val = a.val; omega
      · show 0 + 1 * j.val = j.val; omega
    · refine (congrFun (load_whole (hs7 t) _ _) _).trans ((congrArg (iblk m c 7 t) ?_).trans (blk7 m c H t a j))
      funext x; apply Fin.ext; fin_cases x
      · show 0 + 1 * a.val = a.val; omega
      · show 0 + 1 * j.val = j.val; omega
    · refine (congrFun (load_whole (hs8 t) _ _) _).trans ((congrArg (iblk m c 8 t) ?_).trans (blk8 m c H t a j))
      funext x; apply Fin.ext; fin_cases x
      · show 0 + 1 * a.val = a.val; omega
      · show 0 + 1 * j.val = j.val; omega
  q n g hg z d r := by
    refine (congrFun (load_whole (hs2 t) _ _) _).trans ((congrArg (iblk m c 2 t) ?_).trans (blk2 m c H t (blk n) ⟨64 * (4 * (n % 4) + g) + d.val, Point.qrow_lt n g hg d⟩ r))
    funext x; apply Fin.ext; fin_cases x
    · show n / 4 % 4 + 1 * z.val = n / 4 % 4; omega
    · show 64 * (4 * (n % 4) + g) + 1 * d.val = 64 * (4 * (n % 4) + g) + d.val; omega
    · show 0 + 1 * r.val = r.val; omega
  o n g hg z d r := by
    refine (congrFun (load_whole (hs9 t) _ _) _).trans ((congrArg (iblk m c 9 t) ?_).trans (blk9 m c H t (blk n) ⟨64 * (4 * (n % 4) + g) + d.val, Point.qrow_lt n g hg d⟩ r))
    funext x; apply Fin.ext; fin_cases x
    · show n / 4 % 4 + 1 * z.val = n / 4 % 4; omega
    · show 64 * (4 * (n % 4) + g) + 1 * d.val = 64 * (4 * (n % 4) + g) + d.val; omega
    · show 0 + 1 * r.val = r.val; omega
  s n g hg := by
    unfold sRead
    refine (congrFun (load_whole (hs0 t) _ _) _).trans ((congrArg (iblk m c 0 t) ?_).trans (blk0 m c H t ⟨4 * (n % 4) + g, Point.head_lt n g hg⟩))
    have h1 := (Shape.Idx.first (s := S1) (numel1_S1.symm ▸ Nat.one_pos) 0).isLt
    funext x; apply Fin.ext; fin_cases x
    show 4 * (n % 4) + g + 1 * (Shape.Idx.first (s := S1) _ 0).val = 4 * (n % 4) + g
    have h2 : S1.size 0 = 1 := rfl
    omega
  b n a r := by
    unfold bb
    pointwise [k0_pay8]
    refine (congrFun (load_whole (hs1 t) _ _) _).trans ((congrArg (iblk m c 1 t) ?_).trans ((blk1 m c H t (slab (4 * t.val + (blk n).val)) a r).trans ?_))
    · funext x; apply Fin.ext
      have e := congrFun (slab_off t (blk n)) x
      refine (congrArg (· + 1 * _) e).trans ?_
      fin_cases x
      · show (slab (4 * t.val + (blk n).val)).val + 1 * 0 = (slab (4 * t.val + (blk n).val)).val; omega
      · show 0 + 1 * a.val = a.val; omega
      · show 0 + 1 * r.val = r.val; omega
    · have e := slab_seen (4 * t.val + (blk n).val) a.val (r.val % 128)
      by_cases h : Seen (4 * t.val + (blk n).val) a.val (r.val % 128)
      · exact (if_pos (e.mpr h)).trans (if_pos (show (operands Q K Y S O t).W (blk n) a ⟨r.val % 128, Point.lane_lt _⟩ from h)).symm
      · exact (if_neg (fun h' => h (e.mp h'))).trans (if_neg (show ¬(operands Q K Y S O t).W (blk n) a ⟨r.val % 128, Point.lane_lt _⟩ from h)).symm

end Cert.AttnBwdIdeal.Array

end
-- ==== Proof.AttnOut.lean ====
/-
  The four arrays the windowed attention's backward kernel ends with, as sums of real numbers over the sequence's blocks.
-/
module

public import proofs.«01_k».proof.Proof.AttnWin
public import proofs.«01_k».proof.Proof.AttnWhole

@[expose] public section

set_option maxRecDepth 16384

noncomputable section

open Idealize.ShloMosaic Idealize.ShloMosaic.TcCoe Idealize.SL.Sem
open Idealize.ShloMosaic.Pipeline (Dat)

namespace Cert.AttnBwdIdeal.Array

open Cert.AttnBwdIdeal Cert.AttnBwdIdeal.Gen Cert.AttnBwdIdeal.Body Cert.AttnBwdIdeal.Forms Cert.Reals Cert.Attn

variable (m : (ℓ : Loc nD τ sig) → Buf (Elt Ideal) ℓ)
variable (Q : Fin 8192 → Fin 16 → Fin 64 → ℝ) (K Y : Fin 8192 → Fin 4 → Fin 64 → ℝ) (S : Fin 16 → ℝ) (O : Fin 8192 → Fin 1024 → ℝ) (c : Dev nD)

/-- A row a query of the block sees is a row of the sequence. -/
theorem near_row (X : Fin 8192 → Fin 4 → Fin 64 → ℝ) (t : Fin cfg0.N) (n : ℕ) (a : Fin 384) (r : Fin 512) (d : Fin 64)
    (hs : Seen (gblk t (blk n)).val a.val (r.val % 128)) :
    X (wrow t ⟨128 * (n / 4 % 4) + a.val, Point.row_lt n a⟩) (hd4 ⟨64 * (n % 4) + d.val, Point.col_lt n d⟩) (dim4 ⟨64 * (n % 4) + d.val, Point.col_lt n d⟩)
      = Whole.near X (gblk t (blk n)) a (grp n) d := by
  have h1 : hd4 ⟨64 * (n % 4) + d.val, Point.col_lt n d⟩ = grp n := Fin.ext (by show (64 * (n % 4) + d.val) / 64 = n % 4; omega)
  have h2 : dim4 ⟨64 * (n % 4) + d.val, Point.col_lt n d⟩ = d := Fin.ext (by show (64 * (n % 4) + d.val) % 64 = d.val; omega)
  have ht := t_lt t
  have hb : (blk n).val = n / 4 % 4 := rfl
  have hg : (gblk t (blk n)).val = 4 * t.val + n / 4 % 4 := rfl
  have hl : n / 4 % 4 < 4 := Nat.mod_lt _ (by decide)
  have ha := a.isLt
  unfold Seen at hs
  rw [hg] at hs
  unfold Whole.near
  rw [h1, h2, dif_pos (by rw [hg]; omega)]
  congr 1
  apply Fin.ext
  unfold wrow prv nxt
  simp only [hg]
  split_ifs <;> simp <;> omega

/-- A chunk's operands are its block's and group's, but for keys no query sees. -/
theorem chunk_same (t : Fin cfg0.N) (n : ℕ) : Ops.Same ((operands Q K Y S O t).chunk n) (Whole.ops Q K Y S O (gblk t (blk n)) (grp n)) where
  q := by
    funext d r
    have e : ∀ (i i' : Fin 8192) (h h' : Fin 16) (d d' : Fin 64), i = i' → h = h' → d = d' → Q i h d * (1 / 8) = Q i' h' d' * (1 / 8) :=
      fun _ _ _ _ _ _ h1 h2 h3 => by rw [h1, h2, h3]
    refine e _ _ _ _ _ _ rfl (Fin.ext ?_) (Fin.ext ?_)
    · show (64 * (4 * (n % 4) + r.val / 128) + d.val) / 64 = 4 * (n % 4) + r.val / 128; omega
    · show (64 * (4 * (n % 4) + r.val / 128) + d.val) % 64 = d.val; omega
  o := rfl
  s := rfl
  W := rfl
  k a r hs d := near_row K t n a r d hs
  v a r hs d := near_row Y t n a r d hs

/-- A chunk's part is its block's. -/
theorem part_term (f : Fin 64 → Fin 4 → Fin 384 → Fin 64 → ℝ) (t : Fin cfg0.N) (n : ℕ) (R : Fin 9216) (j : Fin 256) :
    Point.part t.val (f (gblk t (blk n)) (grp n)) n R j = if j.val / 64 = n % 4 then Whole.term f (gblk t (blk n)) R.val (hd4 j) (dim4 j) else 0 := by
  have e : ∀ (h h' : Fin 4) (a a' : Fin 384) (d d' : Fin 64), h = h' → a = a' → d = d' → f (gblk t (blk n)) h a d = f (gblk t (blk n)) h' a' d' :=
    fun _ _ _ _ _ _ h1 h2 h3 => by rw [h1, h2, h3]
  have hg : (gblk t (blk n)).val = 4 * t.val + n / 4 % 4 := rfl
  have := j.isLt
  unfold Point.part Whole.term
  simp only [hg]
  by_cases h1 : j.val / 64 = n % 4
  · rw [if_pos h1]
    by_cases h2 : 128 * (4 * t.val + n / 4 % 4) + 384 ≤ R.val ∧ R.val < 128 * (4 * t.val + n / 4 % 4) + 768
    · rw [dif_pos (by omega), dif_pos h2]
      exact e _ _ _ _ _ _ (Fin.ext h1.symm) (Fin.ext (by simp; omega)) (Fin.ext (by simp [dim4]; omega))
    · rw [dif_neg (by omega), dif_neg h2]
  · rw [if_neg h1, dif_neg (by omega)]

/-- A point's parts are its four blocks'. -/
theorem point_terms (f : Fin 64 → Fin 4 → Fin 384 → Fin 64 → ℝ) (t : Fin cfg0.N) (R : Fin 9216) (j : Fin 256) :
    (∑ n ∈ Finset.range 16, Point.part t.val (f (gblk t (blk n)) (grp n)) n R j) = ∑ b : Fin 4, Whole.term f (gblk t b) R.val (hd4 j) (dim4 j) := by
  have h := Whole.sum_rows 4 4 (by decide) fun u v => if j.val / 64 = v then Whole.term f (gblk t ⟨u % 4, Nat.mod_lt _ (by decide)⟩) R.val (hd4 j) (dim4 j) else 0
  refine (Finset.sum_congr rfl fun n _ => part_term f t n R j).trans (h.trans (Finset.sum_congr rfl fun b _ => ?_))
  have hb : (⟨b.val % 4, Nat.mod_lt _ (by decide)⟩ : Fin 4) = b := Fin.ext (Nat.mod_eq_of_lt b.isLt)
  have hj := j.isLt
  rw [hb, Fintype.sum_eq_single (⟨j.val / 64, by omega⟩ : Fin 4) fun v hv => if_neg fun e => hv (Fin.ext e.symm)]
  exact if_pos rfl

/-- All points' blocks are the sequence's. -/
theorem all_blocks (g : Fin 64 → ℝ) : (∑ t : Fin cfg0.N, ∑ b : Fin 4, g (gblk t b)) = ∑ B, g B := by
  rw [← Fintype.sum_prod_type', ← ((finProdFinEquiv (m := 16) (n := 4)).sum_comp g : _)]
  refine Finset.sum_congr rfl fun x _ => congrArg g (Fin.ext ?_)
  show 4 * x.1.val + x.2.val = x.2.val + 4 * x.1.val
  omega

theorem dk_terms (t : Fin cfg0.N) (R : Fin 9216) (j : Fin 256) : Point.dkAt (operands Q K Y S O t) (grid0.coords t 0).val R j
    = ∑ b : Fin 4, Whole.term (fun B h => (Whole.ops Q K Y S O B h).dk) (gblk t b) R.val (hd4 j) (dim4 j) := by
  unfold Point.dkAt
  rw [coord_val t, ← point_terms]
  exact Finset.sum_congr rfl fun n _ => by rw [(chunk_same Q K Y S O t n).dk]

theorem dv_terms (t : Fin cfg0.N) (R : Fin 9216) (j : Fin 256) : Point.dvAt (operands Q K Y S O t) (grid0.coords t 0).val R j
    = ∑ b : Fin 4, Whole.term (fun B h => (Whole.ops Q K Y S O B h).dv) (gblk t b) R.val (hd4 j) (dim4 j) := by
  unfold Point.dvAt
  rw [coord_val t, ← point_terms]
  exact Finset.sum_congr rfl fun n _ => by rw [(chunk_same Q K Y S O t n).dv]

/-- A head's part of the sinks' derivative in one block. -/
def sinkTerm (ℓ : Fin 16) (B : Fin 64) : ℝ :=
  ∑ r : Fin 128, (Whole.ops Q K Y S O B ⟨ℓ.val / 4, by omega⟩).ds ⟨128 * (ℓ.val % 4) + r.val, by omega⟩

theorem ds_terms (t : Fin cfg0.N) (ℓ : Fin 128) : Point.dsAt (operands Q K Y S O t) ℓ
    = if h : ℓ.val < 16 then ∑ b : Fin 4, -sinkTerm Q K Y S O ⟨ℓ.val, h⟩ (gblk t b) else 0 := by
  have h := Whole.sum_rows 4 16 (by decide) fun u v => if ℓ.val = v then Point.sumAt (operands Q K Y S O t) (16 * u + v) else 0
  have e : Point.dsAt (operands Q K Y S O t) ℓ = -∑ b : Fin 4, ∑ v : Fin 16, if ℓ.val = v.val then Point.sumAt (operands Q K Y S O t) (16 * b.val + v.val) else 0 := by
    unfold Point.dsAt
    refine congrArg Neg.neg ((Finset.sum_congr rfl fun j _ => ?_).trans h)
    rw [show 16 * (j / 16) + j % 16 = j by omega]
  rw [e]
  split_ifs with hl
  · rw [Finset.sum_neg_distrib]
    refine congrArg Neg.neg (Finset.sum_congr rfl fun b _ => ?_)
    rw [Fintype.sum_eq_single (⟨ℓ.val, hl⟩ : Fin 16) fun v hv => if_neg fun e => hv (Fin.ext e.symm), if_pos rfl]
    unfold Point.sumAt sinkTerm
    refine Finset.sum_congr rfl fun r _ => ?_
    rw [(chunk_same Q K Y S O t _).ds]
    have hc : ∀ (B B' : Fin 64) (h h' : Fin 4) (x x' : Fin 512), B = B' → h = h' → x = x'
        → (Whole.ops Q K Y S O B h).ds x = (Whole.ops Q K Y S O B' h').ds x' := fun _ _ _ _ _ _ h1 h2 h3 => by rw [h1, h2, h3]
    refine hc _ _ _ _ _ _ (Fin.ext ?_) (Fin.ext ?_) (Fin.ext ?_)
    · show 4 * t.val + (16 * b.val + ℓ.val) / 4 / 4 % 4 = 4 * t.val + b.val; omega
    · show (16 * b.val + ℓ.val) / 4 % 4 = ℓ.val / 4; omega
    · show 128 * ((16 * b.val + ℓ.val) % 4) + r.val = 128 * (ℓ.val % 4) + r.val; omega
  · rw [Finset.sum_eq_zero fun b _ => Finset.sum_eq_zero fun v _ => if_neg (by omega), neg_zero]

variable {Q K Y S O} (H : Holds m c Q K Y S O)
include H

theorem outs_q (t : Fin cfg0.N) (b : Fin 4) (R : Fin 1024) (r : Fin 128) :
    (outs m c t.val t.isLt).q (ix3 b R r) = (Point.dqAt (operands Q K Y S O t) b R r : EReal) := by
  by_cases h : t.val % 16 = 0
  · rw [outs_first m c t h]; exact Point.outF_q m (point_holds m c H t) h b R r
  · rw [outs_later m c t h]; exact Point.outL_q m (point_holds m c H t) h _ b R r

omit H in
/-- What grows by each point's part ends as the sum of all parts. -/
theorem grown {ι : Type} (x : (n : ℕ) → n < cfg0.N → ι → EReal) (T : Fin cfg0.N → ι → ℝ)
    (first : ∀ t : Fin cfg0.N, t.val % 16 = 0 → ∀ i, x t.val t.isLt i = (T t i : EReal))
    (later : ∀ t : Fin cfg0.N, ¬t.val % 16 = 0 → ∀ A : ι → ℝ, (∀ i, x (t.val - 1) (Nat.lt_of_le_of_lt (Nat.sub_le _ _) t.isLt) i = (A i : EReal))
      → ∀ i, x t.val t.isLt i = ((A i + T t i : ℝ) : EReal)) (i : ι) (h : 15 < cfg0.N) :
    x 15 h i = ((∑ t, T t i : ℝ) : EReal) := by
  have key : ∀ n (hn : n < cfg0.N) i, x n hn i = ((∑ u ∈ Finset.range (n + 1), if hu : u < cfg0.N then T ⟨u, hu⟩ i else 0 : ℝ) : EReal) := by
    intro n
    induction n with
    | zero =>
      intro hn i
      rw [first ⟨0, hn⟩ rfl i, Finset.sum_range_one, dif_pos hn]
    | succ n ih =>
      intro hn i
      have hN : cfg0.N = 16 := N_0
      rw [later ⟨n + 1, hn⟩ (by show ¬(n + 1) % 16 = 0; omega) _ (fun i => ih (Nat.lt_of_succ_lt hn) i) i, Finset.sum_range_succ _ (n + 1), dif_pos hn]
  have hN : cfg0.N = 16 := N_0
  rw [key 15 h i, Finset.sum_range (fun u => if hu : u < cfg0.N then T ⟨u, hu⟩ i else 0)]
  have e : ∀ (N : ℕ) (hN : N = 16) (G : Fin N → ℝ), (∑ t : Fin 16, if hu : t.val < N then G ⟨t.val, hu⟩ else 0) = ∑ t, G t := by
    rintro _ rfl G
    exact Finset.sum_congr rfl fun t _ => dif_pos t.isLt
  exact congrArg _ (e cfg0.N hN fun t => T t i)

theorem outs_k (R : Fin 9216) (j : Fin 256) (h : 15 < cfg0.N) :
    (outs m c 15 h).k (ix2 R j) = (Whole.total (fun B h => (Whole.ops Q K Y S O B h).dk) R.val (hd4 j) (dim4 j) : EReal) := by
  rw [grown (ι := Fin 9216 × Fin 256) (fun n hn i => (outs m c n hn).k (ix2 i.1 i.2))
    (fun t i => Point.dkAt (operands Q K Y S O t) (grid0.coords t 0).val i.1 i.2)
    (fun t ht i => by rw [outs_first m c t ht]; exact Point.outF_k m (point_holds m c H t) ht i.1 i.2)
    (fun t ht A hA i => by
      rw [outs_later m c t ht]
      exact Point.outL_k m (point_holds m c H t) ht _ (fun R j => A (R, j)) (fun R j => hA (R, j)) i.1 i.2) (R, j) h]
  simp only [dk_terms]
  rw [all_blocks (fun B => Whole.term _ B R.val (hd4 j) (dim4 j))]
  rfl

theorem outs_v (R : Fin 9216) (j : Fin 256) (h : 15 < cfg0.N) :
    (outs m c 15 h).v (ix2 R j) = (Whole.total (fun B h => (Whole.ops Q K Y S O B h).dv) R.val (hd4 j) (dim4 j) : EReal) := by
  rw [grown (ι := Fin 9216 × Fin 256) (fun n hn i => (outs m c n hn).v (ix2 i.1 i.2))
    (fun t i => Point.dvAt (operands Q K Y S O t) (grid0.coords t 0).val i.1 i.2)
    (fun t ht i => by rw [outs_first m c t ht]; exact Point.outF_v m (point_holds m c H t) ht i.1 i.2)
    (fun t ht A hA i => by
      rw [outs_later m c t ht]
      exact Point.outL_v m (point_holds m c H t) ht _ (fun R j => A (R, j)) (fun R j => hA (R, j)) i.1 i.2) (R, j) h]
  simp only [dv_terms]
  rw [all_blocks (fun B => Whole.term _ B R.val (hd4 j) (dim4 j))]
  rfl

omit H in
/-- The sinks' derivative, one lane for each head in the first row. -/
def sinkAt (Q : Fin 8192 → Fin 16 → Fin 64 → ℝ) (K Y : Fin 8192 → Fin 4 → Fin 64 → ℝ) (S : Fin 16 → ℝ) (O : Fin 8192 → Fin 1024 → ℝ)
    (u : Fin 8) (ℓ : Fin 128) : ℝ :=
  if u = 0 then if h : ℓ.val < 16 then ∑ B, -sinkTerm Q K Y S O ⟨ℓ.val, h⟩ B else 0 else 0

theorem outs_s (u : Fin 8) (ℓ : Fin 128) (h : 15 < cfg0.N) :
    (outs m c 15 h).s (ix2 u ℓ) = (sinkAt Q K Y S O u ℓ : EReal) := by
  rw [grown (ι := Fin 8 × Fin 128) (fun n hn i => (outs m c n hn).s (ix2 i.1 i.2))
    (fun t i => if i.1 = 0 then Point.dsAt (operands Q K Y S O t) i.2 else 0)
    (fun t ht i => by rw [outs_first m c t ht]; exact Point.outF_s m (point_holds m c H t) ht i.1 i.2)
    (fun t ht A hA i => by
      rw [outs_later m c t ht]
      exact Point.outL_s m (point_holds m c H t) ht _ (fun R j => A (R, j)) (fun R j => hA (R, j)) i.1 i.2) (u, ℓ) h]
  congr 1
  unfold sinkAt
  by_cases hu : u = 0
  · simp only [hu, if_true, ds_terms]
    by_cases hl : ℓ.val < 16
    · simp only [dif_pos hl]
      exact all_blocks (fun B => -sinkTerm Q K Y S O ⟨ℓ.val, hl⟩ B)
    · simp only [dif_neg hl, Finset.sum_const_zero]
  · simp only [if_neg hu, Finset.sum_const_zero]

omit H in
/-- The queries' derivative at a place of the sequence's blocks. -/
def queryAt (Q : Fin 8192 → Fin 16 → Fin 64 → ℝ) (K Y : Fin 8192 → Fin 4 → Fin 64 → ℝ) (S : Fin 16 → ℝ) (O : Fin 8192 → Fin 1024 → ℝ)
    (B : Fin 64) (R : Fin 1024) (r : Fin 128) : ℝ :=
  (Whole.ops Q K Y S O B ⟨R.val / 256, by omega⟩).dq (dim16 R) ⟨128 * (R.val / 64 % 4) + r.val, by omega⟩

omit H in
theorem query_same (t : Fin cfg0.N) (b : Fin 4) (R : Fin 1024) (r : Fin 128) :
    Point.dqAt (operands Q K Y S O t) b R r = queryAt Q K Y S O (gblk t b) R r := by
  have hc : ∀ (B B' : Fin 64) (h h' : Fin 4) (x x' : Fin 512), B = B' → h = h' → x = x'
      → (Whole.ops Q K Y S O B h).dq (dim16 R) x = (Whole.ops Q K Y S O B' h').dq (dim16 R) x' := fun _ _ _ _ _ _ h1 h2 h3 => by rw [h1, h2, h3]
  unfold Point.dqAt queryAt
  rw [(chunk_same Q K Y S O t _).dq]
  have := b.isLt
  have := R.isLt
  refine hc _ _ _ _ _ _ (Fin.ext ?_) (Fin.ext ?_) (Fin.ext ?_)
  · show 4 * t.val + (16 * b.val + R.val / 64) / 4 / 4 % 4 = 4 * t.val + b.val; omega
  · show (16 * b.val + R.val / 64) / 4 % 4 = R.val / 256; omega
  · show 128 * ((16 * b.val + R.val / 64) % 4) + r.val = 128 * (R.val / 64 % 4) + r.val; omega

theorem final_10 : (dats m 0 c).arrAt 10 (cfgs 0).N = fun y : S64x1024x128.Idx => (queryAt Q K Y S O (y 0) (y 1) (y 2) : EReal) := by
  refine (dats m 0 c).arrAt_eq_of_covers 10 _ (by decide +kernel) fun t hf y => ?_
  blk_simp
  rw [after_10]
  idx_vars y
  have hr : ((View.whole main_v37_0).slice (win0_10.rect t)).emb (ix3 y0 y1 y2) = (ix3 (gblk t y0) y1 y2 : S64x1024x128.Idx) := by
    blk_ext [idx_val t, gblk]
  rw [outs_q m c H, query_same, hr]
  rfl

theorem final_11 : (dats m 0 c).arrAt 11 (cfgs 0).N
    = fun y : S9216x256.Idx => (Whole.total (fun B h => (Whole.ops Q K Y S O B h).dk) (y 0).val (hd4 (y 1)) (dim4 (y 1)) : EReal) := by
  refine (dats m 0 c).arrAt_eq_of_after_last 11 t0_15 (by decide +kernel) _ fun j => ?_
  blk_simp
  rw [after_11]
  idx_vars j
  exact outs_k m c H _ _ _

theorem final_12 : (dats m 0 c).arrAt 12 (cfgs 0).N
    = fun y : S9216x256.Idx => (Whole.total (fun B h => (Whole.ops Q K Y S O B h).dv) (y 0).val (hd4 (y 1)) (dim4 (y 1)) : EReal) := by
  refine (dats m 0 c).arrAt_eq_of_after_last 12 t0_15 (by decide +kernel) _ fun j => ?_
  blk_simp
  rw [after_12]
  idx_vars j
  exact outs_v m c H _ _ _

theorem final_13 : (dats m 0 c).arrAt 13 (cfgs 0).N = fun y : S8x128.Idx => (sinkAt Q K Y S O (y 0) (y 1) : EReal) := by
  refine (dats m 0 c).arrAt_eq_of_after_last 13 t0_15 (by decide +kernel) _ fun j => ?_
  blk_simp
  rw [after_13]
  idx_vars j
  exact outs_s m c H _ _ _

end Cert.AttnBwdIdeal.Array

end
-- ==== Proof.AttnRefEnd.lean ====
/-
  The last stages of the reference's windowed attention's derivative: what the four results hold at each place.
-/
module

public import proofs.«01_k».proof.Proof.AttnRef
public import proofs.«01_k».proof.Proof.AttnOut

@[expose] public section

set_option maxRecDepth 16384

noncomputable section

open Idealize.ShloMosaic Idealize.ShloMosaic.TcCoe Idealize.SL.Sem

namespace Cert.AttnBwdRefIdeal.Stage

open Cert.AttnBwdRefIdeal Cert.AttnBwdRefIdeal.Read Cert.Reals Cert.Attn

variable {x0 : FVec Ideal S8192x16x64 .f32} {x1 x2 : FVec Ideal S8192x4x64 .f32} {x3 : FVec Ideal S16 .f32} {x4 : FVec Ideal S8192x1024 .f32}
  {Q : Fin 8192 → Fin 16 → Fin 64 → ℝ} {K Y : Fin 8192 → Fin 4 → Fin 64 → ℝ} {S : Fin 16 → ℝ} {O : Fin 8192 → Fin 1024 → ℝ}

/-- Nothing shared out in equal parts is nothing for each. -/
theorem no_share {n : ℕ} (f : Fin n → EReal) (hf : ∀ x, f x = 0 ∨ f x = 1) (c : Fin n) : Ideal.div 0 (∑ x, f x) * f c = 0 := by
  have pos : ∀ x, 0 ≤ f x := fun x => by rcases hf x with h | h <;> rw [h]; exact zero_le_one
  rcases hf c with h | h
  · rw [h, mul_zero]
  · have one : (1 : EReal) ≤ ∑ x, f x := h ▸ Finset.single_le_sum (fun x _ => pos x) (Finset.mem_univ c)
    have hs : (∑ x, f x) ≠ 0 := fun e => absurd (e ▸ one) (not_le.mpr zero_lt_one)
    rw [Ideal.div, if_neg hs, zero_mul, zero_mul]

/-- A bit is nought or one as a number. -/
theorem bit (b : BitVec 1) : (FloatOps.uitofp .f32 b : Ideal .f32) = (0 : EReal) ∨ (FloatOps.uitofp .f32 b : Ideal .f32) = (1 : EReal) := by
  have h : b = 0#1 ∨ b = 1#1 := by
    revert b; decide
  rcases h with rfl | rfl
  · left
    show (((0#1 : BitVec 1).toNat : ℝ) : EReal) = 0
    simp
  · right
    show (((1#1 : BitVec 1).toNat : ℝ) : EReal) = 1
    simp

theorem at61 (i : S64x4x4x128x384.Idx) : val_main_v61 (F := Ideal) x0 x1 i = (0 : EReal) ∨ val_main_v61 (F := Ideal) x0 x1 i = (1 : EReal) := by
  have e := val_main_v61_apply (F := Ideal) x0 x1 i
  rcases bit (val_main_v60 (F := Ideal) x0 x1 i) with h | h
  · exact Or.inl (e.trans h)
  · exact Or.inr (e.trans h)

theorem at62 (B : Fin 64) (h g : Fin 4) (r : Fin 128) : val_main_v62 (F := Ideal) x0 x1 (ix4 B h g r)
    = ∑ c : Fin 384, val_main_v61 (F := Ideal) x0 x1 (ix5 B h g r c) := by
  rw [← zero_add (∑ c : Fin 384, _)]
  pointwise [val_main_v62, val_main_cst_12]

/-- A row of the padded sequence is before it, in it or behind it. -/
theorem padded (f : Fin 64 → Fin 4 → Fin 384 → Fin 64 → ℝ) (hf : ∀ (h : Fin 4) (d : Fin 64) (B : Fin 64) (c : Fin 384), (∀ r, r < 128 → ¬Seen B.val c.val r) → f B h c d = 0)
    (x : Fin 64 → Fin 128 → Fin 4 → Fin 64 → EReal) (hx : ∀ n r h d, x n r h d = (Whole.three f n r h d : EReal)) (R : Fin 9216) (h : Fin 4) (d : Fin 64) :
    (if i : R.val < 512 then 0 else if i : R.val - 512 < 8192 then x ⟨(R.val - 512) / 128, by omega⟩ ⟨(R.val - 512) % 128, by omega⟩ h d else 0 : EReal)
      = (Whole.total f R.val h d : EReal) := by
  have := R.isLt
  split_ifs with i1 i2
  · rw [Whole.total_outside f R.val h d (Or.inl i1) (hf h d)]; rfl
  · rw [hx, ← Whole.total_inside]
    simp only
    rw [show 512 + 128 * ((R.val - 512) / 128) + (R.val - 512) % 128 = R.val by omega]
  · rw [Whole.total_outside f R.val h d (Or.inr (by omega)) (hf h d)]; rfl

/-- The three shifted parts of a block's rows. -/
theorem shifted (f : Fin 64 → Fin 4 → Fin 384 → Fin 64 → ℝ) (n : Fin 64) (r : Fin 128) (h : Fin 4) (d : Fin 64) :
    ((if i : 2 ≤ 1 + n.val ∧ 1 + n.val - 2 < 64 then (f ⟨1 + n.val - 2, by omega⟩ h ⟨256 + r.val, by omega⟩ d : EReal) else 0)
      + (f n h ⟨128 + r.val, by omega⟩ d : EReal) + if i : 1 + n.val < 64 then (f ⟨1 + n.val, by omega⟩ h ⟨r.val, by omega⟩ d : EReal) else 0)
      = (Whole.three f n r h d : EReal) := by
  have e : ∀ (B B' : Fin 64) (c : Fin 384), B = B' → (f B h c d : EReal) = (f B' h c d : EReal) := fun _ _ _ h1 => by rw [h1]
  have := n.isLt
  unfold Whole.three
  rw [← lift_add, ← lift_add]
  refine congrArg₂ (· + ·) (congrArg (· + _) ?_) ?_
  · by_cases i : 1 ≤ n.val
    · rw [dif_pos (by omega), dif_pos i]
      exact e _ _ _ (Fin.ext (by simp; omega))
    · rw [dif_neg (by omega), dif_neg i]; rfl
  · by_cases i : n.val < 63
    · rw [dif_pos (by omega), dif_pos i]
      exact e _ _ _ (Fin.ext (by simp; omega))
    · rw [dif_neg (by omega), dif_neg i]; rfl

/-- The sum over a head's blocks and rows. -/
theorem sum_blocks (hr : S64x4x4x128x1.ReducesTo [0, 3] S4x4x1) (x : S64x4x4x128x1.Idx → EReal) (init : EReal) (h g : Fin 4) (z : Fin 1) :
    Ideal.hostReduceAdd hr x init (ix3 h g z) = init + ∑ B : Fin 64, ∑ r : Fin 128, x (ix5 B h g r z) := by
  refine congrArg (init + ·) ?_
  rw [← Fintype.sum_prod_type']
  have hd : ∀ i : S64x4x4x128x1.Idx, hr.drop i = ix3 h g z → (ix5 (i 0) h g (i 3) z : S64x4x4x128x1.Idx) = i := fun i e => by
    funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  refine Finset.sum_nbij' (fun i => (i 0, i 3)) (fun p => ix5 p.1 h g p.2 z) (fun _ _ => Finset.mem_univ _) (fun p _ => ?_) (fun i hi => ?_) (fun _ _ => rfl) (fun i hi => ?_)
  · refine Finset.mem_filter.mpr ⟨Finset.mem_univ _, ?_⟩
    funext b
    apply Fin.ext
    match b with
    | ⟨0, _⟩ => rfl
    | ⟨1, _⟩ => rfl
    | ⟨2, _⟩ => rfl
  · exact hd i (Finset.mem_filter.mp hi).2
  · exact congrArg x (hd i (Finset.mem_filter.mp hi).2).symm

theorem at115 (h g : Fin 4) (z : Fin 1) : val_main_v115 (F := Ideal) x0 x1 x2 x3 x4 (ix3 h g z)
    = ∑ B : Fin 64, ∑ r : Fin 128, val_main_v114 (F := Ideal) x0 x1 x2 x3 x4 (ix5 B h g r z) := by
  pointwise [val_main_v115, val_main_cst_22]
  exact (sum_blocks _ _ _ h g z).trans (zero_add _)

theorem at127 (h g : Fin 4) (z : Fin 1) : val_main_v127 (F := Ideal) x0 x1 x2 x3 x4 (ix3 h g z)
    = ∑ B : Fin 64, ∑ r : Fin 128, val_main_v126 (F := Ideal) x0 x1 x2 x3 x4 (ix5 B h g r z) := by
  pointwise [val_main_v127, val_main_cst_25]
  exact (sum_blocks _ _ _ h g z).trans (zero_add _)

variable (H : Args x0 x1 x2 x3 x4 Q K Y S O)
include H

theorem at131 (B : Fin 64) (h g : Fin 4) (r : Fin 128) : val_main_v131 (F := Ideal) x0 x1 x2 x3 x4 (ix4 B h g r) = (0 : EReal) := by
  have e : ∀ z : Fin 1, val_main_v130 (F := Ideal) x0 x1 x2 x3 x4 (ix5 B h g r z) = (0 : EReal) := fun z =>
    (val_main_v130_apply (F := Ideal) x0 x1 x2 x3 x4 (ix5 B h g r z)).trans
      ((congrArg (· * val_main_v74 (F := Ideal) x0 x1 x3 (ix5 B h g r z)) (at125 H B h g r z)).trans (zero_mul _))
  pointwise [val_main_v131, val_main_cst_26]
  simp only [e, Finset.sum_const_zero, zero_add]

theorem at134 (B : Fin 64) (h g : Fin 4) (r : Fin 128) (c : Fin 384) : val_main_v134 (F := Ideal) x0 x1 x2 x3 x4 (ix5 B h g r c) = (0 : EReal) := by
  pointwise [val_main_v134, val_main_v133, val_main_v132]
  rw [at131 H, at62]
  exact no_share (fun c => val_main_v61 (F := Ideal) x0 x1 (ix5 B h g r c)) (fun c => at61 _) c

theorem at137 (B : Fin 64) (h g : Fin 4) (r : Fin 128) (c : Fin 384) : val_main_v137 (F := Ideal) x0 x1 x2 x3 x4 (ix5 B h g r c)
    = ((Whole.ops Q K Y S O B h).dS c (col g r) : EReal) := by
  have e : val_main_v137 (F := Ideal) x0 x1 x2 x3 x4 (ix5 B h g r c)
      = if Seen B.val c.val r.val then val_main_v135 (F := Ideal) x0 x1 x2 x3 x4 (ix5 B h g r c) else (0 : EReal) := by
    rw [← select_ofBool, ← mask B h g r c]
    pointwise [val_main_v137, val_main_call1_v0, val_main_call1_cst]
  rw [e]
  split_ifs with hs
  · have e135 : val_main_v135 (F := Ideal) x0 x1 x2 x3 x4 (ix5 B h g r c)
        = val_main_v121 (F := Ideal) x0 x1 x2 x3 x4 (ix5 B h g r c) + val_main_v134 (F := Ideal) x0 x1 x2 x3 x4 (ix5 B h g r c) :=
      val_main_v135_apply (F := Ideal) x0 x1 x2 x3 x4 (ix5 B h g r c)
    rw [e135, at134 H, at121 H, add_zero]
  · rw [Ops.dS_unseen _ _ _ (by rw [W_col]; exact hs)]
    rfl

theorem at140 (B : Fin 64) (h : Fin 4) (c : Fin 384) (r : Fin 128) (g : Fin 4) : val_main_v140 (F := Ideal) x0 x1 x2 x3 x4 (ix5 B h c r g)
    = (((Whole.ops Q K Y S O B h).dS c (col g r) * (1 / 8) : ℝ) : EReal) := by
  pointwise [val_main_v140, val_main_v139, val_main_v138, val_main_cst_27]
  rw [at137 H, const_eighth, lift_mul]

theorem at141 (B : Fin 64) (h : Fin 4) (r : Fin 128) (g : Fin 4) (d : Fin 64) : val_main_v141 (F := Ideal) x0 x1 x2 x3 x4 (ix5 B h r g d)
    = (((Whole.ops Q K Y S O B h).dq d (col g r) * (1 / 8) : ℝ) : EReal) := by
  pointwise [val_main_v141]
  simp only [at140 H, at13 H, lift_mul, lift_sum]
  congr 1
  unfold Ops.dq
  rw [Finset.sum_mul]
  refine Finset.sum_congr rfl fun c _ => ?_
  show _ = Whole.near K B c h d * _ * _
  ring

theorem at144 (B : Fin 64) (c : Fin 384) (h : Fin 4) (d : Fin 64) : val_main_v144 (F := Ideal) x0 x1 x2 x3 x4 (ix4 B c h d)
    = ((Whole.ops Q K Y S O B h).dk c d : EReal) := by
  pointwise [val_main_v144, val_main_v143]
  simp only [at140 H, at0 H, lift_mul, lift_sum]
  congr 1
  unfold Ops.dk
  rw [sum_col]
  rw [Finset.sum_comm]
  refine Finset.sum_congr rfl fun g _ => Finset.sum_congr rfl fun r _ => ?_
  rw [q_col]
  ring

omit H in
/-- A query's row in the sequence and its head's place among all heads. -/
theorem at169 (B : Fin 64) (r : Fin 128) (h g : Fin 4) (d : Fin 64) :
    val_main_v169 (F := Ideal) x0 x1 x2 x3 x4 (ix3 ⟨128 * B.val + r.val, by omega⟩ ⟨4 * h.val + g.val, by omega⟩ d)
      = val_main_v141 (F := Ideal) x0 x1 x2 x3 x4 (ix5 B h r g d) := by
  have e : val_main_v142 (F := Ideal) x0 x1 x2 x3 x4 (ix5 B r h g d) = val_main_v141 (F := Ideal) x0 x1 x2 x3 x4 (ix5 B h r g d) := by
    pointwise [val_main_v142]
  rw [← e]
  refine shapeCast_apply _ _ _ (ix5 B r h g d) ?_
  rw [rowMajor_val5 _ 131072 1024 256 64 rfl rfl rfl rfl, rowMajor_val3 _ 1024 64 rfl rfl]
  show B.val * 131072 + r.val * 1024 + h.val * 256 + g.val * 64 + d.val = (128 * B.val + r.val) * 1024 + (4 * h.val + g.val) * 64 + d.val
  omega

omit H in
theorem at176 (B : Fin 64) (R : Fin 1024) (r : Fin 128) : val_main_v177 (F := Ideal) x0 x1 x2 x3 x4 (ix3 B R r)
    = val_main_v175 (F := Ideal) x0 x1 x2 x3 x4 (ix3 ⟨B.val * 128 + r.val, by omega⟩ ⟨R.val / 64, by omega⟩ ⟨R.val % 64, by omega⟩) := by
  pointwise [val_main_v177, val_main_v176]

omit H in
theorem at174 (i : S8192x16x64.Idx) : val_main_v174 (F := Ideal) i = ((8 : ℝ) : EReal) :=
  (val_main_v174_apply (F := Ideal) i).trans const_eight

omit H in
theorem at175 (i : S8192x16x64.Idx) : val_main_v175 (F := Ideal) x0 x1 x2 x3 x4 i = val_main_v169 (F := Ideal) x0 x1 x2 x3 x4 i * ((8 : ℝ) : EReal) :=
  (val_main_v175_apply (F := Ideal) x0 x1 x2 x3 x4 i).trans (congrArg (val_main_v169 (F := Ideal) x0 x1 x2 x3 x4 i * ·) (at174 i))

theorem at177 (B : Fin 64) (R : Fin 1024) (r : Fin 128) : val_main_v177 (F := Ideal) x0 x1 x2 x3 x4 (ix3 B R r)
    = (AttnBwdIdeal.Array.queryAt Q K Y S O B R r : EReal) := by
  have e : ∀ (i i' : Fin 8192) (j j' : Fin 16) (d : Fin 64), i = i' → j = j' →
      val_main_v169 (F := Ideal) x0 x1 x2 x3 x4 (ix3 i j d) = val_main_v169 (F := Ideal) x0 x1 x2 x3 x4 (ix3 i' j' d) := fun _ _ _ _ _ h1 h2 => by rw [h1, h2]
  rw [at176, at175, e _ ⟨128 * B.val + r.val, by omega⟩ _ ⟨4 * (⟨R.val / 256, by omega⟩ : Fin 4).val + (⟨R.val / 64 % 4, by omega⟩ : Fin 4).val, by simp only; omega⟩ _
    (Fin.ext (by simp only; omega)) (Fin.ext (by simp only; omega)), at169, at141 H, lift_mul]
  congr 1
  rw [mul_assoc, show (1 / 8 * 8 : ℝ) = 1 by norm_num, mul_one]
  rfl

theorem at162 (n : Fin 64) (r : Fin 128) (h : Fin 4) (d : Fin 64) : val_main_v162 (F := Ideal) x0 x1 x3 x4 (ix4 n r h d)
    = (Whole.three (fun B h => (Whole.ops Q K Y S O B h).dv) n r h d : EReal) := by
  pointwise [val_main_v162, val_main_v152, val_main_v151, val_main_v150, val_main_v149, val_main_v148, val_main_v147, val_main_v146, val_main_v145,
    val_main_cst_28, val_main_cst_29, val_main_cst_30]
  simp only [at105 H]
  exact shifted (fun B h => (Whole.ops Q K Y S O B h).dv) n r h d

theorem at166 (n : Fin 64) (r : Fin 128) (h : Fin 4) (d : Fin 64) : val_main_v166 (F := Ideal) x0 x1 x2 x3 x4 (ix4 n r h d)
    = (Whole.three (fun B h => (Whole.ops Q K Y S O B h).dk) n r h d : EReal) := by
  pointwise [val_main_v166, val_main_v160, val_main_v159, val_main_v158, val_main_v157, val_main_v156, val_main_v155, val_main_v154, val_main_v153,
    val_main_cst_31, val_main_cst_32, val_main_cst_33]
  simp only [at144 H]
  exact shifted (fun B h => (Whole.ops Q K Y S O B h).dk) n r h d

theorem at181 (R : Fin 9216) (j : Fin 256) : val_main_v181 (F := Ideal) x0 x1 x3 x4 (ix2 R j)
    = (Whole.total (fun B h => (Whole.ops Q K Y S O B h).dv) R.val (AttnBwdIdeal.Array.hd4 j) (AttnBwdIdeal.Array.dim4 j) : EReal) := by
  pointwise [val_main_v181, val_main_v170, val_main_v180, val_main_v164, val_main_cst_34]
  exact padded _ (fun h d B c hs => Ops.dv_unseen _ c d fun x => hs _ (Nat.mod_lt _ (by decide))) _ (at162 H) R _ _

theorem at179 (R : Fin 9216) (j : Fin 256) : val_main_v179 (F := Ideal) x0 x1 x2 x3 x4 (ix2 R j)
    = (Whole.total (fun B h => (Whole.ops Q K Y S O B h).dk) R.val (AttnBwdIdeal.Array.hd4 j) (AttnBwdIdeal.Array.dim4 j) : EReal) := by
  pointwise [val_main_v179, val_main_v170, val_main_v178, val_main_v168, val_main_cst_34]
  exact padded _ (fun h d B c hs => Ops.dk_unseen _ c d fun x => hs _ (Nat.mod_lt _ (by decide))) (fun n r h d => val_main_v166 (F := Ideal) x0 x1 x2 x3 x4 (ix4 n r h d)) (at166 H) R _ _

theorem at126 (B : Fin 64) (h g : Fin 4) (r : Fin 128) (z : Fin 1) : val_main_v126 (F := Ideal) x0 x1 x2 x3 x4 (ix5 B h g r z) = (0 : EReal) :=
  (val_main_v126_apply (F := Ideal) x0 x1 x2 x3 x4 (ix5 B h g r z)).trans
    ((congrArg (· * val_main_v83 (F := Ideal) x0 x1 x3 (ix5 B h g r z)) (at125 H B h g r z)).trans (zero_mul _))

theorem sink_sum (l : Fin 16) : val_main_v115 (F := Ideal) x0 x1 x2 x3 x4 (ix3 ⟨l.val / 4, by omega⟩ ⟨l.val % 4, by omega⟩ 0)
      + val_main_v127 (F := Ideal) x0 x1 x2 x3 x4 (ix3 ⟨l.val / 4, by omega⟩ ⟨l.val % 4, by omega⟩ 0)
    = ((∑ B, -AttnBwdIdeal.Array.sinkTerm Q K Y S O l B : ℝ) : EReal) := by
  rw [at115, at127]
  simp only [at114 H, at126 H, Finset.sum_const_zero, add_zero, lift_sum]
  congr 1
  refine Finset.sum_congr rfl fun B _ => ?_
  rw [Finset.sum_neg_distrib]
  rfl

theorem at183 (u : Fin 8) (l : Fin 128) : val_main_v183 (F := Ideal) x0 x1 x2 x3 x4 (ix2 u l)
    = (AttnBwdIdeal.Array.sinkAt Q K Y S O u l : EReal) := by
  pointwise [val_main_v183, val_main_v182, val_main_v173, val_main_v172, val_main_v171, val_main_v136, val_main_v129, val_main_v128, val_main_v116, val_main_cst_37, val_main_cst_35]
  unfold AttnBwdIdeal.Array.sinkAt
  by_cases hu : u = 0
  · rw [dif_pos (by rw [hu]; decide), if_pos hu]
    split_ifs with hl
    · exact sink_sum H ⟨l.val, hl⟩
    · rfl
  · rw [dif_neg (fun e => hu (Fin.ext (by simp; omega))), if_neg hu]
    rfl

end Cert.AttnBwdRefIdeal.Stage

end
-- ==== Proof.AttnPair.lean ====
/-
  The kernel `attn_bwd` and the derivative of the reference's lines end with equal results, when the arguments are finite.
-/
module

public import proofs.«01_k».proof.Defs
public import proofs.«01_k».proof.Proof.Finite
public import proofs.«01_k».proof.Proof.AttnRefEnd
public import proofs.«01_k».proof.Proof.Gen.AttnBwdRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_finite5 : Cert.Pre_finite5.Facts where
  bcast_S_S8192x16x64 := by decide
  bcast_S_S8192x4x64 := by decide
  bcast_S_S16 := by decide
  bcast_S_S8192x1024 := by decide

attribute [local instance] facts_finite5

section
open Cert.AttnBwdIdeal Cert.AttnBwdIdeal.Array

variable (m : (ℓ : Loc nD τ sig) → Buf (Elt Ideal) ℓ) (c : Dev nD)

/-- Under the precondition the arguments hold real arrays. -/
theorem attn_holds (h : Cert.Pre_AttnBwdIdeal_finite5 m) :
    Holds m c (fun i j k => ((show FVec Ideal S8192x16x64 .f32 from m ((c : Thread nD τ).loc main_arg0)) (ix3 i j k)).toReal)
      (fun i j k => ((show FVec Ideal S8192x4x64 .f32 from m ((c : Thread nD τ).loc main_arg1)) (ix3 i j k)).toReal)
      (fun i j k => ((show FVec Ideal S8192x4x64 .f32 from m ((c : Thread nD τ).loc main_arg2)) (ix3 i j k)).toReal)
      (fun j => ((show FVec Ideal S16 .f32 from m ((c : Thread nD τ).loc main_arg3)) (ix1 j)).toReal)
      (fun i j => ((show FVec Ideal S8192x1024 .f32 from m ((c : Thread nD τ).loc main_arg4)) (ix2 i j)).toReal) :=
  have ⟨e0, e1, e2, e3, e4⟩ := h c
  ⟨fun i j k => Cert.Finite.real_of_pre e0 _, fun i j k => Cert.Finite.real_of_pre e1 _, fun i j k => Cert.Finite.real_of_pre e2 _,
    fun j => Cert.Finite.real_of_pre e3 _, fun i j => Cert.Finite.real_of_pre e4 _⟩

/-- The same of a memory of the reference's that agrees on the arguments. -/
theorem attn_args {Q : Fin 8192 → Fin 16 → Fin 64 → ℝ} {K Y : Fin 8192 → Fin 4 → Fin 64 → ℝ} {S : Fin 16 → ℝ} {O : Fin 8192 → Fin 1024 → ℝ}
    (H : Holds m c Q K Y S O) {x0 : FVec Ideal S8192x16x64 .f32} {x1 x2 : FVec Ideal S8192x4x64 .f32} {x3 : FVec Ideal S16 .f32} {x4 : FVec Ideal S8192x1024 .f32}
    (a : x0 = m ((c : Thread nD τ).loc main_arg0) ∧ x1 = m ((c : Thread nD τ).loc main_arg1) ∧ x2 = m ((c : Thread nD τ).loc main_arg2)
      ∧ x3 = m ((c : Thread nD τ).loc main_arg3) ∧ x4 = m ((c : Thread nD τ).loc main_arg4)) :
    Cert.AttnBwdRefIdeal.Stage.Args x0 x1 x2 x3 x4 Q K Y S O := by
  obtain ⟨rfl, rfl, rfl, rfl, rfl⟩ := a
  exact ⟨H.h0, H.h1, H.h2, H.h3, H.h4⟩

end

section
open Cert.AttnBwdRefIdeal

/-- The reference ends with its arguments unchanged; it has no semaphore. -/
theorem attn_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c => (h c).2.2.2.2, sem_eq_zero_of_no_sems rfl _⟩) (Value.run m ρ)

end

set_option maxHeartbeats 4000000 in
theorem attn_algebraic : Cert.algebraic_AttnBwdIdeal_AttnBwdRefIdeal_pre_finite5
    (hAttnBwdIdeal := Cert.AttnBwdIdeal.Gen.facts) (hAttnBwdRefIdeal := Cert.AttnBwdRefIdeal.Gen.facts) := by
  pair_intro
  · run_from Cert.AttnBwdIdeal.Body.run_end m g
    · exact Cert.AttnBwdIdeal.Gen.V_main_arg0 m c
    · exact Cert.AttnBwdIdeal.Gen.V_main_arg1 m c
    · exact Cert.AttnBwdIdeal.Gen.V_main_arg2 m c
    · exact Cert.AttnBwdIdeal.Gen.V_main_arg4 m c
  · run_from Cert.AttnBwdRefIdeal.Value.run m' g'
    · rw [Cert.AttnBwdRefIdeal.Read.val_main_v177_eq, Cert.AttnBwdIdeal.Array.final_10 m c (attn_holds m c hpre)]
      funext y
      idx_vars y
      exact Cert.AttnBwdRefIdeal.Stage.at177 (attn_args m c (attn_holds m c hpre) (hagree c)) _ _ _
    · rw [Cert.AttnBwdRefIdeal.Read.val_main_v179_eq, Cert.AttnBwdIdeal.Array.final_11 m c (attn_holds m c hpre)]
      funext y
      idx_vars y
      exact Cert.AttnBwdRefIdeal.Stage.at179 (attn_args m c (attn_holds m c hpre) (hagree c)) _ _
    · rw [Cert.AttnBwdRefIdeal.Read.val_main_v181_eq, Cert.AttnBwdIdeal.Array.final_12 m c (attn_holds m c hpre)]
      funext y
      idx_vars y
      exact Cert.AttnBwdRefIdeal.Stage.at181 (attn_args m c (attn_holds m c hpre) (hagree c)) _ _
    · rw [Cert.AttnBwdRefIdeal.Read.val_main_v183_eq, Cert.AttnBwdIdeal.Array.final_13 m c (attn_holds m c hpre)]
      funext y
      idx_vars y
      exact Cert.AttnBwdRefIdeal.Stage.at183 (attn_args m c (attn_holds m c hpre) (hagree c)) _ _

end Cert.Proof

end
-- ==== Proof.AttnBits.lean ====
/-
  The two printed programs of `attn_bwd`, over the bits and over the extended reals, have one text: the run that is stated
  for any float values is the run over the bits too.
-/
module

public import proofs.«01_k».proof.Defs
public import proofs.«01_k».proof.Proof.AttnRun
public import proofs.«01_k».proof.Proof.Gen.AttnBwd

@[expose] public section

set_option maxRecDepth 65536

noncomputable section

namespace Cert.Proof

open Idealize.ShloMosaic Idealize.ShloMosaic.TcCoe Idealize.SL.Sem Idealize.ShloMosaic.Tactic

attribute [local instance] Cert.AttnBwd.Gen.facts Cert.AttnBwdIdeal.Gen.facts

/-- From one memory the two programs have the same runs over the bits. -/
theorem attn_same_run (m : (ℓ : Loc Cert.AttnBwd.nD Cert.AttnBwd.τ Cert.AttnBwd.sig) → Buf (Elt Bits) ℓ)
    (g : Dev Cert.AttnBwd.nD → PrngReg) :
    θ_run (Cert.AttnBwd.defs (F := Bits)) (onTc (τ := Cert.AttnBwd.τ) (Cert.AttnBwd.main (F := Bits)))
        ⟨m, fun _ => 0, g⟩
      = θ_run (Cert.AttnBwdIdeal.defs (F := Bits))
          (onTc (τ := Cert.AttnBwdIdeal.τ) (Cert.AttnBwdIdeal.main (F := Bits))) ⟨m, fun _ => 0, g⟩ := by
  sl_kernel_rfl

/-- Over the bits every run ends with the arguments as they were and every semaphore at zero. -/
theorem attn_bits_frame : Cert.quiescent_AttnBwd := fun m ρ _ => by
  rw [attn_same_run m ρ]
  exact Cert.AttnBwdIdeal.Body.frame (F := Bits) m ρ

end Cert.Proof

end
-- ==== Proof.AtfBlock.lean ====
/-
  What one run of the windowed attention's forward kernel stores: for each block of 128 queries and each head, the values weighted by
  the scores' exponentials and divided by their sum. The parts of a run are those of the backward kernel, up to the weights.
-/
module

public import proofs.«01_k».proof.Proof.AttnPoint
public import proofs.«01_k».proof.Proof.Gen.AttnFwdIdeal.Value

@[expose] public section

set_option maxRecDepth 16384

noncomputable section

open Idealize.ShloMosaic Idealize.ShloMosaic.TcCoe Idealize.ShloMosaic.Tactic

/-- The attention's output: the values by their weights. -/
def Cert.Attn.Ops.out {C R : ℕ} (a : Cert.Attn.Ops C R) (d : Fin 64) (r : Fin R) : ℝ := ∑ c, a.v c d * a.P c r

namespace Cert.AttnBwdIdeal.Forms

open Cert.AttnBwdIdeal Cert.AttnBwdIdeal.Gen Cert.Reals Cert.Attn Cert.AttnBwdIdeal.Point

/-- The values of a chunk summed by the exponentials, times one over their sum. -/
def outOf (vv : FVec Ideal S384x64 .bf16) (ss : FVec Ideal S1x512 .f32) (sc : FVec Ideal S384x512 .f32) : FVec Ideal S64x512 .bf16 :=
  truncf .bf16 (mulf (matmul dot_S384x64_S384x512_S64x512_0_0_1_1_n_n none vv (truncf .bf16 (k0_pay16 ss sc) bitsLt_bf16_f32)
    (constant S64x512 .f32 0x00000000#32)) (broadcastTo S64x512 (k0_pay18 ss sc) (by decide))) bitsLt_bf16_f32

theorem out_at {a : Ops 384 512} {kk vv : FVec Ideal S384x64 .bf16} {qq oo : FVec Ideal S64x512 .bf16} {ss : FVec Ideal S1x512 .f32}
    {bb : FVec Ideal S384x512 .f32} (h : Chunk.Holds a kk vv qq oo ss bb) (d : Fin 64) (r : Fin 512) :
    outOf vv ss (Chunk.sc kk qq bb) (ix2 d r) = (a.out d r : EReal) := by
  obtain ⟨M, h1, h2⟩ := Chunk.exps_at h r
  have hz : (∑ c, a.E c r * Real.exp (-M)) + Real.exp (a.s r - M) = a.Z r * Real.exp (-M) := by
    rw [← Finset.sum_mul, sub_eq_add_neg, Real.exp_add, ← add_mul]; rfl
  have hne : a.Z r * Real.exp (-M) ≠ 0 := mul_ne_zero (a.Z_pos r).ne' (Real.exp_ne_zero _)
  have h3 : ∀ z, k0_pay18 (F := Ideal) ss (Chunk.sc kk qq bb) (ix2 z r) = ((1 / (a.Z r * Real.exp (-M)) : ℝ) : EReal) := fun z => by
    pointwise [k0_pay18]
    simp only [h1, h2, lift_sum, lift_add, hz, lift_one, lift_div _ _ hne]
  have hZ := (a.Z_pos r).ne'
  have hM := Real.exp_ne_zero (-M)
  pointwise [outOf]
  simp only [h1, h3, h.v, lift_mul, lift_sum]
  congr 1
  unfold Ops.out Ops.P
  rw [Finset.sum_mul]
  refine Finset.sum_congr rfl fun c _ => ?_
  field_simp

variable (i : grid0.Coords) (l : Loads)

def otn (n : ℕ) : FVec Ideal S64x512 .bf16 := outOf (vv l n) (ss l n) (scn i l n)
def oPart (j : ℕ) : FVec Ideal S1x64x128 .bf16 :=
  shapeCast S1x64x128 (extractStridedSlice S64x128 ![0, 128 * (j % 4)] (otn i l (j / 4)) (sl_q j)) shapeCasts_S64x128_S1x64x128

/-- The stores of the output. -/
def oL (j : ℕ) : List (View.Piece (Elt Ideal) S4x1024x128 .bf16) :=
  Nat.rec [] (fun j L => ⟨Rect.unit (s := S4x1024x128) ![j / 16 % 4, 64 * (j % 16), 0] S1x64x128.size (inb_qs j), oPart i l j⟩ :: L) j

/-- The output at a place of a block: that of the chunk of its head. -/
def outAt (p : Operands) (b : Fin 4) (R : Fin 1024) (r : Fin 128) : ℝ :=
  (p.chunk ((16 * b.val + R.val / 64) / 4)).out ⟨R.val % 64, Nat.mod_lt _ (by decide)⟩
    ⟨128 * ((16 * b.val + R.val / 64) % 4) + r.val, by have := r.isLt; omega⟩

variable {i l} {p : Operands}

theorem oPart_at (h : Holds i l p) (j : ℕ) (z : Fin 1) (d : Fin 64) (r : Fin 128) :
    oPart i l j (ix3 z d r) = ((p.chunk (j / 4)).out d ⟨128 * (j % 4) + r.val, by have := r.isLt; omega⟩ : EReal) := by
  have e := out_at (chunk_holds h (j / 4)) d ⟨128 * (j % 4) + r.val, by have := r.isLt; omega⟩
  rw [← e]
  pointwise [oPart, otn]
  rfl

/-- The stores read back. -/
theorem outputs (h : Holds i l p) {sg : RefSig} {κ : Kind} {sp : Space} (V : View sg κ sp S4x1024x128 .bf16)
    (f : V.ty.Contents (Elt Ideal)) :
    ∀ (n : ℕ), n ≤ 64 → ∀ (b : Fin 4) (R : Fin 1024) (r : Fin 128), 16 * b.val + R.val / 64 < n →
      V.read (Elt Ideal) (V.writes (Elt Ideal) f (oL i l n)) (ix3 b R r) = (outAt p b R r : EReal)
  | 0, _, _, _, _, hn => absurd hn (Nat.not_lt_zero _)
  | n + 1, hle, b, R, r, hn => by
    have hR := R.isLt
    by_cases he : 16 * b.val + R.val / 64 = n
    · have e := View.read_writes_cons_unit_of_mem V f (inb_qs n) (oPart i l n) (oL i l n) (ix3 b R r)
        (ix3 0 ⟨R.val % 64, Nat.mod_lt _ (by decide)⟩ r) rfl (fun x => by fin_cases x <;> simp <;> omega)
      refine e.trans ((oPart_at h n 0 _ r).trans ?_)
      unfold outAt
      subst he
      rfl
    · refine Eq.trans ?_ (outputs h V f n (by omega) b R r (by omega))
      by_cases hb : b.val = n / 16 % 4
      · exact View.read_writes_cons_unit_of_not_mem V f (inb_qs n) (oPart i l n) (oL i l n) (ix3 b R r) rfl 1 (by
          show R.val < 64 * (n % 16) ∨ 64 * (n % 16) + 64 ≤ R.val
          omega)
      · exact View.read_writes_cons_unit_of_not_mem V f (inb_qs n) (oPart i l n) (oL i l n) (ix3 b R r) rfl 0 (by
          show b.val < n / 16 % 4 ∨ n / 16 % 4 + 1 ≤ b.val
          omega)

end Cert.AttnBwdIdeal.Forms

namespace Cert.AttnFwdIdeal.Point

open Cert.AttnFwdIdeal Cert.AttnFwdIdeal.Gen

variable (m : (ℓ : Loc nD τ sig) → Buf (Elt Ideal) ℓ)

/-- What a run at a point reads of its blocks; nothing is read of what follows the output, so it may be anything. -/
def loads (c : Dev nD) (t : Fin cfg0.N) (o : (r : LoadRect S4x1024x128) → r.shape.Idx → Elt Ideal .bf16) : Cert.AttnBwdIdeal.Forms.Loads where
  s := fun r => (ms0_0 t).view.readAt (Elt Ideal) r ((hs0_0 t).unread (iblk m c 0 t))
  b := fun r => (ms0_1 t).view.readAt (Elt Ideal) r ((hs0_1 t).unread (iblk m c 1 t))
  q := fun r => (ms0_2 t).view.readAt (Elt Ideal) r ((hs0_2 t).unread (iblk m c 2 t))
  k0 := fun r => (ms0_3 t).view.readAt (Elt Ideal) r ((hs0_3 t).unread (iblk m c 3 t))
  k1 := fun r => (ms0_4 t).view.readAt (Elt Ideal) r ((hs0_4 t).unread (iblk m c 4 t))
  k2 := fun r => (ms0_5 t).view.readAt (Elt Ideal) r ((hs0_5 t).unread (iblk m c 5 t))
  v0 := fun r => (ms0_6 t).view.readAt (Elt Ideal) r ((hs0_6 t).unread (iblk m c 6 t))
  v1 := fun r => (ms0_7 t).view.readAt (Elt Ideal) r ((hs0_7 t).unread (iblk m c 7 t))
  v2 := fun r => (ms0_8 t).view.readAt (Elt Ideal) r ((hs0_8 t).unread (iblk m c 8 t))
  o := o

theorem run_eq (c : Dev nD) (t : Fin cfg0.N) (o : (r : LoadRect S4x1024x128) → r.shape.Idx → Elt Ideal .bf16) :
    (kernelRun0_A (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (iblk m c 0 t) (iblk m c 1 t)
      (iblk m c 2 t) (iblk m c 3 t) (iblk m c 4 t) (iblk m c 5 t) (iblk m c 6 t) (iblk m c 7 t) (iblk m c 8 t)).1
      = Cert.AttnBwdIdeal.Forms.oL (grid0.coords t) (loads m c t o) 64 := by
  sl_kernel_rfl

/-- What a point leaves in the output. -/
theorem point_out {c : Dev nD} {t : Fin cfg0.N} {o : (r : LoadRect S4x1024x128) → r.shape.Idx → Elt Ideal .bf16} {p : Cert.AttnBwdIdeal.Point.Operands}
    (h : Cert.AttnBwdIdeal.Point.Holds (grid0.coords t) (loads m c t o) p) (b : Fin 4) (R : Fin 1024) (r : Fin 128) :
    outsAt0 m c t (ix3 b R r) = (Cert.AttnBwdIdeal.Forms.outAt p b R r : EReal) := by
  unfold outsAt0 out0_A_9
  rw [run_eq m c t o]
  exact Cert.AttnBwdIdeal.Forms.outputs h _ _ 64 (le_refl _) b R r (by have := b.isLt; have := R.isLt; omega)

end Cert.AttnFwdIdeal.Point

end
-- ==== Proof.AtfArray.lean ====
/-
  The array the windowed attention's forward kernel ends with. Its blocks are those the backward kernel reads when its first four
  arguments are the same, so that what is known of these blocks holds here too.
-/
module

public import proofs.«01_k».proof.Proof.AtfBlock
public import proofs.«01_k».proof.Proof.AttnOut

@[expose] public section

set_option maxRecDepth 16384

noncomputable section

open Idealize.ShloMosaic Idealize.ShloMosaic.TcCoe Idealize.SL.Sem
open Idealize.ShloMosaic.Pipeline (Dat)

namespace Cert.AttnBwdIdeal.Array

open Cert.AttnBwdIdeal

/-- A memory of the backward kernel's with given arguments. -/
theorem exists_args (c : Dev nD) (x0 : FVec Ideal S8192x16x64 .f32) (x1 x2 : FVec Ideal S8192x4x64 .f32) (x3 : FVec Ideal S16 .f32)
    (x4 : FVec Ideal S8192x1024 .f32) : ∃ n : (ℓ : Loc nD τ sig) → Buf (Elt Ideal) ℓ,
      n (c, Proc.tc.devRef main_arg0) = x0 ∧ n (c, Proc.tc.devRef main_arg1) = x1 ∧ n (c, Proc.tc.devRef main_arg2) = x2
      ∧ n (c, Proc.tc.devRef main_arg3) = x3 ∧ n (c, Proc.tc.devRef main_arg4) = x4 := by
  have ne : ∀ {a b : Ref sig .tc}, a ≠ b → ((c, Proc.tc.devRef a) : Loc nD τ sig) ≠ (c, Proc.tc.devRef b) :=
    fun h e => StableHlo.devRef_ne_of_ne h (congrArg Prod.snd e)
  refine ⟨Function.update (Function.update (Function.update (Function.update (Function.update (fun ℓ _ => default)
    (c, Proc.tc.devRef main_arg0) x0) (c, Proc.tc.devRef main_arg1) x1) (c, Proc.tc.devRef main_arg2) x2)
    (c, Proc.tc.devRef main_arg3) x3) (c, Proc.tc.devRef main_arg4) x4, ?_, ?_, ?_, ?_, Function.update_self _ _ _⟩
  · rw [Function.update_of_ne (ne (by decide)), Function.update_of_ne (ne (by decide)), Function.update_of_ne (ne (by decide)),
      Function.update_of_ne (ne (by decide)), Function.update_self]
  · rw [Function.update_of_ne (ne (by decide)), Function.update_of_ne (ne (by decide)), Function.update_of_ne (ne (by decide)),
      Function.update_self]
  · rw [Function.update_of_ne (ne (by decide)), Function.update_of_ne (ne (by decide)), Function.update_self]
  · rw [Function.update_of_ne (ne (by decide)), Function.update_self]

end Cert.AttnBwdIdeal.Array

namespace Cert.AttnFwdIdeal.Array

open Cert.AttnFwdIdeal Cert.AttnFwdIdeal.Gen Cert.AttnFwdIdeal.Point Cert.Reals Cert.Attn
open Cert.AttnBwdIdeal.Array (operands gblk t_lt dim16 chunk_same)

variable (m : (ℓ : Loc nD τ sig) → Buf (Elt Ideal) ℓ) (c : Dev nD)
variable (n : (ℓ : Loc Cert.AttnBwdIdeal.nD Cert.AttnBwdIdeal.τ Cert.AttnBwdIdeal.sig) → Buf (Elt Ideal) ℓ)

/-- A memory of the backward kernel's has the same first four arguments. -/
structure Agree : Prop where
  a0 : (show FVec Ideal S8192x16x64 .f32 from n (c, Proc.tc.devRef Cert.AttnBwdIdeal.main_arg0)) = m (c, Proc.tc.devRef main_arg0)
  a1 : (show FVec Ideal S8192x4x64 .f32 from n (c, Proc.tc.devRef Cert.AttnBwdIdeal.main_arg1)) = m (c, Proc.tc.devRef main_arg1)
  a2 : (show FVec Ideal S8192x4x64 .f32 from n (c, Proc.tc.devRef Cert.AttnBwdIdeal.main_arg2)) = m (c, Proc.tc.devRef main_arg2)
  a3 : (show FVec Ideal S16 .f32 from n (c, Proc.tc.devRef Cert.AttnBwdIdeal.main_arg3)) = m (c, Proc.tc.devRef main_arg3)

variable {m c n} (A : Agree m c n)
include A

theorem host_q : (show FVec Ideal S64x1024x128 .bf16 from V m c main_v5) = Cert.AttnBwdIdeal.Gen.V n c Cert.AttnBwdIdeal.main_v5 := by
  have a0 := A.a0
  blk_simp [V, Cert.AttnBwdIdeal.Gen.V, hostOps0, hostOps0_1, hostOps0_2, Cert.AttnBwdIdeal.Gen.hostOps0, Cert.AttnBwdIdeal.Gen.hostOps0_1,
    Cert.AttnBwdIdeal.Gen.hostOps0_2, List.flatten_cons, List.flatten_nil, List.cons_append, List.nil_append]
  entry_read
  generalize m (c, Proc.tc.devRef main_arg0) = x at a0
  subst a0
  rfl

theorem host_kv : (show FVec Ideal S8192x512 .bf16 from V m c main_v9) = Cert.AttnBwdIdeal.Gen.V n c Cert.AttnBwdIdeal.main_v9 := by
  have a1 := A.a1
  have a2 := A.a2
  blk_simp [V, Cert.AttnBwdIdeal.Gen.V, hostOps0, hostOps0_1, hostOps0_2, Cert.AttnBwdIdeal.Gen.hostOps0, Cert.AttnBwdIdeal.Gen.hostOps0_1,
    Cert.AttnBwdIdeal.Gen.hostOps0_2, List.flatten_cons, List.flatten_nil, List.cons_append, List.nil_append]
  entry_read
  generalize m (c, Proc.tc.devRef main_arg1) = x at a1
  generalize m (c, Proc.tc.devRef main_arg2) = y at a2
  subst a1 a2
  rfl

omit A in
theorem host_bias : (show FVec Ideal S3x384x512 .f32 from V m c main_v33) = Cert.AttnBwdIdeal.Gen.V n c Cert.AttnBwdIdeal.main_v36 := by
  entry_read
  rfl

theorem host_sink : (show FVec Ideal S16 .f32 from V m c main_arg3) = Cert.AttnBwdIdeal.Gen.V n c Cert.AttnBwdIdeal.main_arg3 :=
  (V_main_arg3 m c).trans (A.a3.symm.trans (Cert.AttnBwdIdeal.Gen.V_main_arg3 n c).symm)

/-- Both kernels read the same blocks. -/
theorem blk0 (t : Fin cfg0.N) : (show FVec Ideal S16 .f32 from iblk m c 0 t) = Cert.AttnBwdIdeal.Gen.iblk n c 0 t :=
  congrArg (fun (v : FVec Ideal S16 .f32) (y : S16.Idx) => v (((View.whole main_arg3).slice (win0_0.rect t)).emb y)) (host_sink A)

omit A in
theorem blk1 (t : Fin cfg0.N) : (show FVec Ideal S3x384x512 .f32 from iblk m c 1 t) = Cert.AttnBwdIdeal.Gen.iblk n c 1 t :=
  congrArg (fun (v : FVec Ideal S3x384x512 .f32) (y : S3x384x512.Idx) => v (((View.whole main_v33).slice (win0_1.rect t)).emb y)) (host_bias)

theorem blk2 (t : Fin cfg0.N) : (show FVec Ideal S4x1024x128 .bf16 from iblk m c 2 t) = Cert.AttnBwdIdeal.Gen.iblk n c 2 t :=
  congrArg (fun (v : FVec Ideal S64x1024x128 .bf16) (y : S4x1024x128.Idx) => v (((View.whole main_v5).slice (win0_2.rect t)).emb y)) (host_q A)

theorem blk3 (t : Fin cfg0.N) : (show FVec Ideal S128x256 .bf16 from iblk m c 3 t) = Cert.AttnBwdIdeal.Gen.iblk n c 3 t :=
  congrArg (fun (v : FVec Ideal S8192x512 .bf16) (y : S128x256.Idx) => v (((View.whole main_v9).slice (win0_3.rect t)).emb y)) (host_kv A)

theorem blk4 (t : Fin cfg0.N) : (show FVec Ideal S512x256 .bf16 from iblk m c 4 t) = Cert.AttnBwdIdeal.Gen.iblk n c 4 t :=
  congrArg (fun (v : FVec Ideal S8192x512 .bf16) (y : S512x256.Idx) => v (((View.whole main_v9).slice (win0_4.rect t)).emb y)) (host_kv A)

theorem blk5 (t : Fin cfg0.N) : (show FVec Ideal S128x256 .bf16 from iblk m c 5 t) = Cert.AttnBwdIdeal.Gen.iblk n c 5 t :=
  congrArg (fun (v : FVec Ideal S8192x512 .bf16) (y : S128x256.Idx) => v (((View.whole main_v9).slice (win0_5.rect t)).emb y)) (host_kv A)

theorem blk6 (t : Fin cfg0.N) : (show FVec Ideal S128x256 .bf16 from iblk m c 6 t) = Cert.AttnBwdIdeal.Gen.iblk n c 6 t :=
  congrArg (fun (v : FVec Ideal S8192x512 .bf16) (y : S128x256.Idx) => v (((View.whole main_v9).slice (win0_6.rect t)).emb y)) (host_kv A)

theorem blk7 (t : Fin cfg0.N) : (show FVec Ideal S512x256 .bf16 from iblk m c 7 t) = Cert.AttnBwdIdeal.Gen.iblk n c 7 t :=
  congrArg (fun (v : FVec Ideal S8192x512 .bf16) (y : S512x256.Idx) => v (((View.whole main_v9).slice (win0_7.rect t)).emb y)) (host_kv A)

theorem blk8 (t : Fin cfg0.N) : (show FVec Ideal S128x256 .bf16 from iblk m c 8 t) = Cert.AttnBwdIdeal.Gen.iblk n c 8 t :=
  congrArg (fun (v : FVec Ideal S8192x512 .bf16) (y : S128x256.Idx) => v (((View.whole main_v9).slice (win0_8.rect t)).emb y)) (host_kv A)

omit A in
/-- A load of a whole block reads the block. -/
theorem load_whole {sp : Space} {s : Shape} {φ : EltTy} {M : Memref sig .tc sp s φ} (h : M.IsWhole) (X : s.Idx → Elt Ideal φ) :
    (fun (r : LoadRect s) => M.view.readAt (Elt Ideal) r (h.unread X)) = fun r y => X (r.idx y) := by
  funext r y
  exact congrFun (h.read_unread X) _

set_option maxHeartbeats 1600000 in
theorem loads_eq (t : Fin cfg0.N) : loads m c t (Cert.AttnBwdIdeal.Forms.loads n c t).o = Cert.AttnBwdIdeal.Forms.loads n c t := by
  have e : ∀ {sp : Space} {s : Shape} {φ : EltTy} {M : Memref sig .tc sp s φ} {M' : Memref Cert.AttnBwdIdeal.sig .tc sp s φ} (h : M.IsWhole) (h' : M'.IsWhole)
      {X Y : s.Idx → Elt Ideal φ}, X = Y → (fun (r : LoadRect s) => M.view.readAt (Elt Ideal) r (h.unread X)) = fun r => M'.view.readAt (Elt Ideal) r (h'.unread Y) := by
    rintro sp s φ M M' h h' X _ rfl
    rw [load_whole h]
    funext r y
    exact (congrFun (h'.read_unread X) _).symm
  unfold loads Cert.AttnBwdIdeal.Forms.loads
  congr 1
  · exact e (hs0_0 t) (Cert.AttnBwdIdeal.Body.hs0 t) (blk0 A t)
  · exact e (hs0_1 t) (Cert.AttnBwdIdeal.Body.hs1 t) (blk1 t)
  · exact e (hs0_2 t) (Cert.AttnBwdIdeal.Body.hs2 t) (blk2 A t)
  · exact e (hs0_3 t) (Cert.AttnBwdIdeal.Body.hs3 t) (blk3 A t)
  · exact e (hs0_4 t) (Cert.AttnBwdIdeal.Body.hs4 t) (blk4 A t)
  · exact e (hs0_5 t) (Cert.AttnBwdIdeal.Body.hs5 t) (blk5 A t)
  · exact e (hs0_6 t) (Cert.AttnBwdIdeal.Body.hs6 t) (blk6 A t)
  · exact e (hs0_7 t) (Cert.AttnBwdIdeal.Body.hs7 t) (blk7 A t)
  · exact e (hs0_8 t) (Cert.AttnBwdIdeal.Body.hs8 t) (blk8 A t)

omit A in
/-- The output at a place of the sequence's blocks. -/
def outputAt (Q : Fin 8192 → Fin 16 → Fin 64 → ℝ) (K Y : Fin 8192 → Fin 4 → Fin 64 → ℝ) (S : Fin 16 → ℝ) (B : Fin 64) (R : Fin 1024) (r : Fin 128) : ℝ :=
  (Whole.ops Q K Y S (fun _ _ => 0) B ⟨R.val / 256, by omega⟩).out (dim16 R) ⟨128 * (R.val / 64 % 4) + r.val, by omega⟩

omit A in
theorem same_out {C R : ℕ} {a b : Ops C R} (h : Ops.Same a b) : a.out = b.out := by
  funext d r
  unfold Ops.out
  rw [h.P]
  refine Finset.sum_congr rfl fun k _ => ?_
  by_cases hw : b.W k r
  · rw [h.v k r hw]
  · rw [Ops.P_unseen b k r hw, mul_zero, mul_zero]

omit A in
theorem output_same (Q : Fin 8192 → Fin 16 → Fin 64 → ℝ) (K Y : Fin 8192 → Fin 4 → Fin 64 → ℝ) (S : Fin 16 → ℝ) (t : Fin cfg0.N)
    (b : Fin 4) (R : Fin 1024) (r : Fin 128) :
    Cert.AttnBwdIdeal.Forms.outAt (operands Q K Y S (fun _ _ => 0) t) b R r = outputAt Q K Y S (gblk t b) R r := by
  have hc : ∀ (B B' : Fin 64) (h h' : Fin 4) (x x' : Fin 512), B = B' → h = h' → x = x'
      → (Whole.ops Q K Y S (fun _ _ => 0) B h).out (dim16 R) x = (Whole.ops Q K Y S (fun _ _ => 0) B' h').out (dim16 R) x' :=
    fun _ _ _ _ _ _ h1 h2 h3 => by rw [h1, h2, h3]
  unfold Cert.AttnBwdIdeal.Forms.outAt outputAt
  rw [same_out (chunk_same Q K Y S (fun _ _ => 0) t _)]
  have := b.isLt
  have := R.isLt
  refine hc _ _ _ _ _ _ (Fin.ext ?_) (Fin.ext ?_) (Fin.ext ?_)
  · show 4 * t.val + (16 * b.val + R.val / 64) / 4 / 4 % 4 = 4 * t.val + b.val; omega
  · show (16 * b.val + R.val / 64) / 4 % 4 = R.val / 256; omega
  · show 128 * ((16 * b.val + R.val / 64) % 4) + r.val = 128 * (R.val / 64 % 4) + r.val; omega

variable {Q : Fin 8192 → Fin 16 → Fin 64 → ℝ} {K Y : Fin 8192 → Fin 4 → Fin 64 → ℝ} {S : Fin 16 → ℝ}
  (H : Cert.AttnBwdIdeal.Array.Holds n c Q K Y S fun _ _ => 0)
include H

theorem point_at (t : Fin cfg0.N) (b : Fin 4) (R : Fin 1024) (r : Fin 128) :
    outsAt0 m c t (ix3 b R r) = (outputAt Q K Y S (gblk t b) R r : EReal) := by
  have h : Cert.AttnBwdIdeal.Point.Holds (grid0.coords t) (loads m c t (Cert.AttnBwdIdeal.Forms.loads n c t).o) (operands Q K Y S (fun _ _ => 0) t) := by
    rw [loads_eq A t]
    exact Cert.AttnBwdIdeal.Array.point_holds n c H t
  rw [point_out m h, output_same]

omit A H in
theorem idx_val : ∀ t : Fin cfg0.N, win0_9.index t = ![t.val, 0, 0] := (by decide +kernel : ∀ t : Fin grid0.N, _)

theorem final_of : (dats m 0 c).arrAt 9 (cfgs 0).N = fun y : S64x1024x128.Idx => (outputAt Q K Y S (y 0) (y 1) (y 2) : EReal) := by
  refine (dats m 0 c).arrAt_eq_of_covers 9 _ (by decide +kernel) fun t hf y => ?_
  blk_simp
  rw [after0_9]
  idx_vars y
  have hr : ((View.whole main_v34).slice (win0_9.rect t)).emb (ix3 y0 y1 y2) = (ix3 (gblk t y0) y1 y2 : S64x1024x128.Idx) := by
    blk_ext [idx_val t, gblk]
  rw [point_at A H, hr]
  rfl

omit A H

/-- The arguments hold the real arrays `Q`, `K`, `Y`, `S`. -/
structure Holds (m : (ℓ : Loc nD τ sig) → Buf (Elt Ideal) ℓ) (c : Dev nD) (Q : Fin 8192 → Fin 16 → Fin 64 → ℝ)
    (K Y : Fin 8192 → Fin 4 → Fin 64 → ℝ) (S : Fin 16 → ℝ) : Prop where
  h0 : ∀ i j k, (show FVec Ideal S8192x16x64 .f32 from m ((c : Thread nD τ).loc main_arg0)) (ix3 i j k) = (Q i j k : EReal)
  h1 : ∀ i j k, (show FVec Ideal S8192x4x64 .f32 from m ((c : Thread nD τ).loc main_arg1)) (ix3 i j k) = (K i j k : EReal)
  h2 : ∀ i j k, (show FVec Ideal S8192x4x64 .f32 from m ((c : Thread nD τ).loc main_arg2)) (ix3 i j k) = (Y i j k : EReal)
  h3 : ∀ j, (show FVec Ideal S16 .f32 from m ((c : Thread nD τ).loc main_arg3)) (ix1 j) = (S j : EReal)

theorem final_9 (H : Holds m c Q K Y S) :
    (dats m 0 c).arrAt 9 (cfgs 0).N = fun y : S64x1024x128.Idx => (outputAt Q K Y S (y 0) (y 1) (y 2) : EReal) := by
  obtain ⟨n, e0, e1, e2, e3, e4⟩ := Cert.AttnBwdIdeal.Array.exists_args c (m (c, Proc.tc.devRef main_arg0)) (m (c, Proc.tc.devRef main_arg1))
    (m (c, Proc.tc.devRef main_arg2)) (m (c, Proc.tc.devRef main_arg3)) (fun _ => ((0 : ℝ) : EReal))
  exact final_of (n := n) ⟨e0, e1, e2, e3⟩ ⟨fun i j k => (congrFun e0 _).trans (H.h0 i j k), fun i j k => (congrFun e1 _).trans (H.h1 i j k),
    fun i j k => (congrFun e2 _).trans (H.h2 i j k), fun j => (congrFun e3 _).trans (H.h3 j), fun i j => congrFun e4 _⟩

end Cert.AttnFwdIdeal.Array

end
-- ==== Proof.AtfRef.lean ====
/-
  The reference's stages of the windowed attention forward, element by element: up to the weights they are those of its derivative.
-/
module

public import proofs.«01_k».proof.Proof.Gen.AttnFwdRefIdeal.Read
public import proofs.«01_k».proof.Proof.AttnRefEnd
public import proofs.«01_k».proof.Proof.AtfArray

@[expose] public section

set_option maxRecDepth 16384

noncomputable section

open Idealize.ShloMosaic Idealize.ShloMosaic.TcCoe Idealize.SL.Sem

namespace Cert.AttnFwdRefIdeal.Stage

open Cert.AttnFwdRefIdeal Cert.AttnFwdRefIdeal.Read Cert.Reals Cert.Attn
open Cert.AttnBwdRefIdeal.Stage (Args col)

variable {x0 : FVec Ideal S8192x16x64 .f32} {x1 x2 : FVec Ideal S8192x4x64 .f32} {x3 : FVec Ideal S16 .f32}

theorem values_eq : val_main_v13 (F := Ideal) x2 = Cert.AttnBwdRefIdeal.Read.val_main_v17 (F := Ideal) x2 := rfl

theorem scores_eq : val_main_v17 (F := Ideal) x0 x1 = Cert.AttnBwdRefIdeal.Read.val_main_v21 (F := Ideal) x0 x1 := rfl

theorem mask_eq : val_main_v51 (F := Ideal) x0 x1 = Cert.AttnBwdRefIdeal.Read.val_main_v55_0 (F := Ideal) x0 x1 := rfl

theorem weights_eq : val_main_v67 (F := Ideal) x0 x1 x3 = Cert.AttnBwdRefIdeal.Read.val_main_v94 (F := Ideal) x0 x1 x3 := rfl

variable {x4 : FVec Ideal S8192x1024 .f32} {Q : Fin 8192 → Fin 16 → Fin 64 → ℝ} {K Y : Fin 8192 → Fin 4 → Fin 64 → ℝ} {S : Fin 16 → ℝ}
  (H : Args x0 x1 x2 x3 x4 Q K Y S fun _ _ => 0)
include H

theorem at68 (B : Fin 64) (h : Fin 4) (d : Fin 64) (g : Fin 4) (r : Fin 128) : val_main_v68 (F := Ideal) x0 x1 x2 x3 (ix5 B h d g r)
    = ((Whole.ops Q K Y S (fun _ _ => 0) B h).out d (col g r) : EReal) := by
  pointwise [val_main_v68]
  simp only [values_eq, weights_eq, Cert.AttnBwdRefIdeal.Stage.at17 H, Cert.AttnBwdRefIdeal.Stage.at94 H, lift_mul, lift_sum]
  rfl

omit H in
/-- A query's row in the sequence and its head's dimension among all. -/
theorem at70 (B : Fin 64) (r : Fin 128) (h g : Fin 4) (d : Fin 64) :
    val_main_v70 (F := Ideal) x0 x1 x2 x3 (ix2 ⟨128 * B.val + r.val, by omega⟩ ⟨256 * h.val + 64 * g.val + d.val, by omega⟩)
      = val_main_v68 (F := Ideal) x0 x1 x2 x3 (ix5 B h d g r) := by
  have e : val_main_v69 (F := Ideal) x0 x1 x2 x3 (ix5 B r h g d) = val_main_v68 (F := Ideal) x0 x1 x2 x3 (ix5 B h d g r) := by
    pointwise [val_main_v69]
  rw [← e]
  refine shapeCast_apply _ _ _ (ix5 B r h g d) ?_
  rw [rowMajor_val5 _ 131072 1024 256 64 rfl rfl rfl rfl, rowMajor_val2 _ 1024 rfl]
  show B.val * 131072 + r.val * 1024 + h.val * 256 + g.val * 64 + d.val = (128 * B.val + r.val) * 1024 + (256 * h.val + 64 * g.val + d.val)
  omega

omit H in
theorem at72 (B : Fin 64) (R : Fin 1024) (r : Fin 128) : val_main_v73 (F := Ideal) x0 x1 x2 x3 (ix3 B R r)
    = val_main_v70 (F := Ideal) x0 x1 x2 x3 (ix2 ⟨B.val * 128 + r.val, by omega⟩ R) := by
  pointwise [val_main_v73, val_main_v72, val_main_v71]

theorem at73 (B : Fin 64) (R : Fin 1024) (r : Fin 128) : val_main_v73 (F := Ideal) x0 x1 x2 x3 (ix3 B R r)
    = (AttnFwdIdeal.Array.outputAt Q K Y S B R r : EReal) := by
  have e : ∀ (i i' : Fin 8192) (j j' : Fin 1024), i = i' → j = j' →
      val_main_v70 (F := Ideal) x0 x1 x2 x3 (ix2 i j) = val_main_v70 (F := Ideal) x0 x1 x2 x3 (ix2 i' j') := fun _ _ _ _ h1 h2 => by rw [h1, h2]
  rw [at72, e _ ⟨128 * B.val + r.val, by omega⟩ _ ⟨256 * (⟨R.val / 256, by omega⟩ : Fin 4).val + 64 * (⟨R.val / 64 % 4, by omega⟩ : Fin 4).val
    + (⟨R.val % 64, by omega⟩ : Fin 64).val, by simp only; omega⟩ (Fin.ext (by simp only; omega)) (Fin.ext (by simp only; omega)), at70, at68 H]
  rfl

end Cert.AttnFwdRefIdeal.Stage

end
-- ==== Proof.AtfPair.lean ====
/-
  The kernel `attn_fwd` and the reference's lines end with equal results, when the arguments are finite.
-/
module

public import proofs.«01_k».proof.Defs
public import proofs.«01_k».proof.Proof.Finite
public import proofs.«01_k».proof.Proof.AtfRef
public import proofs.«01_k».proof.Proof.Gen.AttnFwdIdeal.Value
public import proofs.«01_k».proof.Proof.Gen.AttnFwdRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_finite9 : Cert.Pre_finite9.Facts where
  bcast_S_S8192x16x64 := by decide
  bcast_S_S8192x4x64 := by decide
  bcast_S_S16 := by decide

attribute [local instance] facts_finite9

section
open Cert.AttnFwdIdeal Cert.AttnFwdIdeal.Array

variable (m : (ℓ : Loc nD τ sig) → Buf (Elt Ideal) ℓ) (c : Dev nD)

/-- Under the precondition the arguments hold real arrays. -/
theorem atf_holds (h : Cert.Pre_AttnFwdIdeal_finite9 m) :
    Holds m c (fun i j k => ((show FVec Ideal S8192x16x64 .f32 from m ((c : Thread nD τ).loc main_arg0)) (ix3 i j k)).toReal)
      (fun i j k => ((show FVec Ideal S8192x4x64 .f32 from m ((c : Thread nD τ).loc main_arg1)) (ix3 i j k)).toReal)
      (fun i j k => ((show FVec Ideal S8192x4x64 .f32 from m ((c : Thread nD τ).loc main_arg2)) (ix3 i j k)).toReal)
      (fun j => ((show FVec Ideal S16 .f32 from m ((c : Thread nD τ).loc main_arg3)) (ix1 j)).toReal) :=
  have ⟨e0, e1, e2, e3⟩ := h c
  ⟨fun i j k => Cert.Finite.real_of_pre e0 _, fun i j k => Cert.Finite.real_of_pre e1 _, fun i j k => Cert.Finite.real_of_pre e2 _,
    fun j => Cert.Finite.real_of_pre e3 _⟩

/-- The same of a memory of the reference's that agrees on the arguments; the gradient, of which nothing here is made, is zero. -/
theorem atf_args {Q : Fin 8192 → Fin 16 → Fin 64 → ℝ} {K Y : Fin 8192 → Fin 4 → Fin 64 → ℝ} {S : Fin 16 → ℝ}
    (H : Holds m c Q K Y S) {x0 : FVec Ideal S8192x16x64 .f32} {x1 x2 : FVec Ideal S8192x4x64 .f32} {x3 : FVec Ideal S16 .f32}
    (a : x0 = m ((c : Thread nD τ).loc main_arg0) ∧ x1 = m ((c : Thread nD τ).loc main_arg1) ∧ x2 = m ((c : Thread nD τ).loc main_arg2)
      ∧ x3 = m ((c : Thread nD τ).loc main_arg3)) :
    Cert.AttnBwdRefIdeal.Stage.Args x0 x1 x2 x3 (fun _ => ((0 : ℝ) : EReal)) Q K Y S fun _ _ => 0 := by
  obtain ⟨rfl, rfl, rfl, rfl⟩ := a
  exact ⟨H.h0, H.h1, H.h2, H.h3, fun _ _ => rfl⟩

end

section
open Cert.AttnFwdRefIdeal

/-- The reference ends with its arguments unchanged; it has no semaphore. -/
theorem atf_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2, sem_eq_zero_of_no_sems rfl _⟩) (Value.run m ρ)

end

set_option maxHeartbeats 4000000 in
theorem atf_algebraic : Cert.algebraic_AttnFwdIdeal_AttnFwdRefIdeal_pre_finite9
    (hAttnFwdIdeal := Cert.AttnFwdIdeal.Gen.facts) (hAttnFwdRefIdeal := Cert.AttnFwdRefIdeal.Gen.facts) := by
  pair_intro
  · run_from Cert.AttnFwdIdeal.Value.run_blocks m g
  · run_from Cert.AttnFwdRefIdeal.Value.run m' g'
    rw [Cert.AttnFwdRefIdeal.Read.val_main_v73_eq, Cert.AttnFwdIdeal.Array.final_9 (atf_holds m c hpre)]
    funext y
    idx_vars y
    exact Cert.AttnFwdRefIdeal.Stage.at73 (atf_args m c (atf_holds m c hpre) (hagree c)) _ _ _

end Cert.Proof

end
-- ==== Proof.CpfBlock.lean ====
/-
  One grid point of the kernel `conv_pre`: its stored values are those of the reference's lines, at any extended real numbers.
-/
module

public import proofs.«01_k».proof.Proof.Gen.ConvPreIdeal.Skeleton
public import proofs.«01_k».proof.Proof.Gen.ConvPreRefIdeal.Read
public import Idealize.ShloMosaic.Lib.Pointwise

@[expose] public section

set_option maxRecDepth 16384

noncomputable section

open Idealize.ShloMosaic Idealize.ShloMosaic.TcCoe Idealize.SL.Sem

namespace Cert.ConvPreIdeal.Block

open Cert.ConvPreIdeal Cert.ConvPreIdeal.Gen Cert.ConvPreRefIdeal.Read

variable {x0 : FVec Ideal S8192x1024 .f32} {x1 : FVec Ideal S1024 .f32} {x2 : FVec Ideal S1024x2048 .f32} {x3 : FVec Ideal S2048 .f32}

/-- The norm of one row. -/
theorem norm_at {X : FVec Ideal S512x1024 .f32} {G : FVec Ideal S1x1024 .f32} {i : Fin 512} {r : Fin 8192}
    (hX : ∀ j, X (ix2 i j) = x0 (ix2 r j)) (hG : ∀ z j, G (ix2 z j) = x1 (ix1 j)) (j : Fin 1024) :
    k0_pay2 (F := Ideal) X G (ix2 i j) = val_main_v12 (F := Ideal) x0 x1 (ix2 r j) := by
  pointwise [k0_pay2, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [hX, hG, zero_add]

/-- One column of the pointwise product, with its bias. -/
theorem proj_at {h : FVec Ideal S512x1024 .bf16} {W : FVec Ideal S1x1024x256 .bf16} {b : FVec Ideal S1x256 .f32} {i : Fin 512} {r : Fin 8192}
    {l : Fin 256} {j : Fin 2048} (hh : ∀ k, h (ix2 i k) = val_main_v12 (F := Ideal) x0 x1 (ix2 r k)) (hW : ∀ z k, W (ix3 z k l) = x2 (ix2 k j))
    (hb : ∀ z, b (ix2 z l) = x3 (ix1 j)) : k0_pay9 (F := Ideal) h W b (ix2 i l) = val_main_v16 (F := Ideal) x0 x1 x2 x3 (ix2 r j) := by
  pointwise [k0_pay9, val_main_v16, val_main_v15, val_main_v14, val_main_v13]
  simp only [hh, hW, hb, zero_add]

theorem slab_at {h : FVec Ideal S512x1024 .bf16} {W : FVec Ideal S1x1024x256 .bf16} {b : FVec Ideal S1x256 .f32} {i : Fin 512} {l : Fin 256}
    {v : EReal} (hp : k0_pay9 (F := Ideal) h W b (ix2 i l) = v) (z : Fin 1) : k0_pay11 (F := Ideal) h W b (ix3 z i l) = v := by
  pointwise [k0_pay11]
  exact hp

/-- One column of the gated product. -/
theorem gate_at {A G : FVec Ideal S512x256 .f32} {i : Fin 512} {l : Fin 256} {r : Fin 8192} {j : Fin 1024}
    (hA : A (ix2 i l) = val_main_v16 (F := Ideal) x0 x1 x2 x3 (ix2 r ⟨j.val, by omega⟩))
    (hG : G (ix2 i l) = val_main_v16 (F := Ideal) x0 x1 x2 x3 (ix2 r ⟨1024 + j.val, by omega⟩)) :
    k0_pay14 (F := Ideal) A G (ix2 i l) = val_main_v28 (F := Ideal) x0 x1 x2 x3 (ix2 r j) := by
  pointwise [k0_pay14, val_main_v28, val_main_v27, val_main_v26, val_main_v25, val_main_v24, val_main_v23, val_main_v22, val_main_v21,
    val_main_v20, val_main_cst_2, val_main_cst_3]
  simp only [hA, hG, zero_sub]

theorem groups_at (q : Fin 8) (r : Fin 8192) (l : Fin 256) : val_main_v19 (F := Ideal) x0 x1 x2 x3 (ix3 q r l)
    = val_main_v16 (F := Ideal) x0 x1 x2 x3 (ix2 r ⟨q.val * 256 + l.val, by omega⟩) := by
  pointwise [val_main_v19, val_main_v18, val_main_v17]

end Cert.ConvPreIdeal.Block

end
-- ==== Proof.Slab.lean ====
/-
  The two halves of reading an array that was stored slab by slab: the slab in question, and any other.
-/
module

public import proofs.«01_k».proof.Proof.Cols

@[expose] public section

noncomputable section

open Idealize.ShloMosaic Idealize.ShloMosaic.TcCoe

namespace Cert.Cols

section
variable {e : EltTy} {N M K : ℕ} (o : ℕ)
  (inb : ∀ a : Fin 3, (![o, 0, 0] : Fin 3 → ℕ) a + (![1, M, K] : Fin 3 → ℕ) a ≤ (⟨3, ![N, M, K]⟩ : Shape).size a)
  (w : (⟨3, ![1, M, K]⟩ : Shape).Idx → Elt Ideal e) (L : List (View.Piece (Elt Ideal) (⟨3, ![N, M, K]⟩ : Shape) e)) (q : Fin N) (i : Fin M) (j : Fin K)

theorem slab_hit (h : q.val = o) : View.canon (⟨Rect.unit ![o, 0, 0] ![1, M, K] inb, w⟩ :: L) (ix3 q i j) = w (ix3 0 i j) := by
  rw [canon_slab, if_pos h]

theorem slab_miss (h : ¬q.val = o) :
    View.canon (⟨Rect.unit ![o, 0, 0] ![1, M, K] inb, w⟩ :: L) (ix3 q i j) = View.canon L (ix3 q i j) := by
  rw [canon_slab, if_neg h]

end

end Cert.Cols

end
-- ==== Proof.CpfArray.lean ====
/-
  The arrays the kernel `conv_pre` ends with are the reference's results.
-/
module

public import proofs.«01_k».proof.Proof.Gen.ConvPreIdeal.Value
public import Idealize.ShloMosaic.Lib.Pipeline.ValueKit
public import proofs.«01_k».proof.Proof.CpfBlock
public import proofs.«01_k».proof.Proof.Cols
public import proofs.«01_k».proof.Proof.Slab

@[expose] public section

set_option maxRecDepth 16384

noncomputable section

open Idealize.ShloMosaic Idealize.ShloMosaic.TcCoe Idealize.SL.Sem
open Idealize.ShloMosaic.Pipeline (Dat)

namespace Cert.ConvPreIdeal.Array

open Cert.ConvPreIdeal Cert.ConvPreIdeal.Gen Cert.ConvPreIdeal.Block Cert.ConvPreRefIdeal.Read

variable (m : (ℓ : Loc nD τ sig) → Buf (Elt Ideal) ℓ) (c : Dev nD)

theorem idx_val : ∀ t : Fin cfg0.N, win0_0.index t = ![t.val, 0]
    ∧ win0_1.index t = ![0, 0]
    ∧ win0_2.index t = ![0, 0, 0]
    ∧ win0_3.index t = ![0, 0]
    ∧ win0_4.index t = ![0, t.val, 0]
    ∧ win0_5.index t = ![t.val, 0] :=
  (by decide +kernel : ∀ t : Fin grid0.N, _)

/-- The row of the array that row `i` of grid point `t`'s block is. -/
def row (t : Fin cfg0.N) (i : Fin 512) : Fin 8192 :=
  ⟨t.val * 512 + i.val, by have := t.isLt; have h : cfg0.N = 16 := N_0; omega⟩

/-- The arguments. -/
abbrev a0 : FVec Ideal S8192x1024 .f32 := m ((c : Thread nD τ).loc main_arg0)
abbrev a1 : FVec Ideal S1024 .f32 := m ((c : Thread nD τ).loc main_arg1)
abbrev a2 : FVec Ideal S1024x2048 .f32 := m ((c : Thread nD τ).loc main_arg2)
abbrev a3 : FVec Ideal S2048 .f32 := m ((c : Thread nD τ).loc main_arg3)

theorem blk0 (t : Fin cfg0.N) (i : Fin 512) (j : Fin 1024) :
    (show FVec Ideal S512x1024 .f32 from iblk m c 0 t) (ix2 i j) = a0 m c (ix2 (row t i) j) := by
  blk_ext [iblk, V, idx_val t, row]

theorem blk1 (t : Fin cfg0.N) (i : Fin 1) (j : Fin 1024) : (show FVec Ideal S1x1024 .f32 from iblk m c 1 t) (ix2 i j) = a1 m c (ix1 j) := by
  blk_simp [iblk, idx_val t]
  entry_read
  pointwise
  blk_ext [idx_val t]

theorem blk2 (t : Fin cfg0.N) (q : Fin 8) (k : Fin 1024) (l : Fin 256) :
    (show FVec Ideal S8x1024x256 .bf16 from iblk m c 2 t) (ix3 q k l) = a2 m c (ix2 k ⟨q.val * 256 + l.val, by omega⟩) := by
  blk_simp [iblk, idx_val t]
  entry_read
  pointwise
  blk_ext [idx_val t]

theorem blk3 (t : Fin cfg0.N) (i : Fin 1) (j : Fin 2048) : (show FVec Ideal S1x2048 .f32 from iblk m c 3 t) (ix2 i j) = a3 m c (ix1 j) := by
  blk_simp [iblk, idx_val t]
  entry_read
  pointwise
  blk_ext [idx_val t]

/-- The norm's result that every group of columns is made of. -/
abbrev hb (t : Fin cfg0.N) : FVec Ideal S512x1024 .bf16 := k0_pay25 (F := Ideal) (iblk m c 0 t) (iblk m c 1 t) (iblk m c 2 t) (iblk m c 3 t)
/-- Slab `o` of the matrix. -/
abbrev ldW (t : Fin cfg0.N) (o : ℕ) (inb : ∀ a, (![o, 0, 0] : Fin 3 → ℕ) a + S1x1024x256.size a ≤ S8x1024x256.size a) : FVec Ideal S1x1024x256 .bf16 :=
  View.ld (Val := Elt Ideal) (e' := .bf16) (iblk m c 2 t) (Rect.unit (s := S8x1024x256) ![o, 0, 0] S1x1024x256.size inb)
/-- The biases from column `o`. -/
abbrev ldB (t : Fin cfg0.N) (o : ℕ) (inb : ∀ a, (![0, o] : Fin 2 → ℕ) a + S1x256.size a ≤ S1x2048.size a) : FVec Ideal S1x256 .f32 :=
  View.ld (Val := Elt Ideal) (e' := .f32) (iblk m c 3 t) (Rect.unit (s := S1x2048) ![0, o] S1x256.size inb)

theorem hb_at (t : Fin cfg0.N) (i : Fin 512) (k : Fin 1024) : hb m c t (ix2 i k) = val_main_v12 (F := Ideal) (a0 m c) (a1 m c) (ix2 (row t i) k) := by
  unfold hb k0_pay25
  exact norm_at (fun j => (Cert.Cols.ld_cols _ 0 _ i j j (by omega)).trans (blk0 m c t i j)) (fun z j => (Cert.Cols.ld_cols _ 0 _ z j j (by omega)).trans (blk1 m c t z j)) k

/-- Group `q` of the product's columns. -/
theorem group (t : Fin cfg0.N) (q : Fin 8) (o oc : ℕ) (ho : q.val = o) (hc : q.val * 256 = oc) (i1 i2) (i : Fin 512) (l : Fin 256) :
    k0_pay9 (F := Ideal) (hb m c t) (ldW m c t o i1) (ldB m c t oc i2) (ix2 i l)
      = val_main_v16 (F := Ideal) (a0 m c) (a1 m c) (a2 m c) (a3 m c) (ix2 (row t i) ⟨q.val * 256 + l.val, by omega⟩) := by
  subst ho hc
  exact proj_at (hb_at m c t i) (fun z k => (Cert.Cols.ld_slab _ _ (by omega) _ z k l).trans (blk2 m c t q k l))
    (fun z => (Cert.Cols.ld_cols _ _ _ z l ⟨q.val * 256 + l.val, by omega⟩ rfl).trans (blk3 m c t z _))

theorem slab (t : Fin cfg0.N) (q : Fin 8) (o oc : ℕ) (ho : q.val = o) (hc : q.val * 256 = oc) (i1 i2) (z : Fin 1) (i : Fin 512) (l : Fin 256) :
    k0_pay11 (F := Ideal) (hb m c t) (ldW m c t o i1) (ldB m c t oc i2) (ix3 z i l)
      = val_main_v19 (F := Ideal) (a0 m c) (a1 m c) (a2 m c) (a3 m c) (ix3 q (row t i) l) :=
  (slab_at (group m c t q o oc ho hc i1 i2 i l) z).trans (groups_at q (row t i) l).symm

theorem gated (t : Fin cfg0.N) (p : Fin 4) (o o4 oc oc4 : ℕ) (ho : p.val = o) (ho4 : p.val + 4 = o4) (hc : p.val * 256 = oc)
    (hc4 : (p.val + 4) * 256 = oc4) (i1 i2 i3 i4) (i : Fin 512) (l : Fin 256) (j : Fin 1024) (hj : j.val = oc + l.val) :
    k0_pay14 (F := Ideal) (k0_pay9 (hb m c t) (ldW m c t o i1) (ldB m c t oc i2)) (k0_pay9 (hb m c t) (ldW m c t o4 i3) (ldB m c t oc4 i4)) (ix2 i l)
      = val_main_v28 (F := Ideal) (a0 m c) (a1 m c) (a2 m c) (a3 m c) (ix2 (row t i) j) := by
  have e : ∀ j j' : Fin 2048, j = j' → val_main_v16 (F := Ideal) (a0 m c) (a1 m c) (a2 m c) (a3 m c) (ix2 (row t i) j)
      = val_main_v16 (F := Ideal) (a0 m c) (a1 m c) (a2 m c) (a3 m c) (ix2 (row t i) j') := fun _ _ h => by rw [h]
  exact gate_at ((group m c t ⟨p.val, by omega⟩ o oc ho hc i1 i2 i l).trans (e _ _ (Fin.ext (by show p.val * 256 + l.val = j.val; omega))))
    ((group m c t ⟨p.val + 4, by omega⟩ o4 oc4 ho4 hc4 i3 i4 i l).trans (e _ _ (Fin.ext (by show (p.val + 4) * 256 + l.val = 1024 + j.val; omega))))

/-! ## The arrays -/

set_option maxHeartbeats 2000000 in
theorem final_4 : (dats m 0 c).arrAt 4 (cfgs 0).N = val_main_v19 (F := Ideal) (a0 m c) (a1 m c) (a2 m c) (a3 m c) := by
  refine (dats m 0 c).arrAt_eq_of_covers 4 _ (by decide +kernel) fun t hf y => ?_
  blk_simp
  rw [after0_4]
  have hr : ∀ y : S8x512x256.Idx, (((cfg0.win 4).blk t).view.emb y) = (ix3 (y 0) (row t (y 1)) (y 2) : S8x8192x256.Idx) := by
    intro y; blk_ext [idx_val t, row]
  rw [hr]
  idx_vars y
  unfold out0_4
  have hz := y0.isLt
  by_cases h7 : y0.val = 7
  · exact (Cert.Cols.slab_hit 7 _ _ _ y0 y1 y2 h7).trans (slab m c t y0 _ _ h7 (by rw [h7]) _ _ 0 y1 y2)
  refine (Cert.Cols.slab_miss 7 _ _ _ y0 y1 y2 h7).trans ?_
  by_cases h3 : y0.val = 3
  · exact (Cert.Cols.slab_hit 3 _ _ _ y0 y1 y2 h3).trans (slab m c t y0 _ _ h3 (by rw [h3]) _ _ 0 y1 y2)
  refine (Cert.Cols.slab_miss 3 _ _ _ y0 y1 y2 h3).trans ?_
  by_cases h6 : y0.val = 6
  · exact (Cert.Cols.slab_hit 6 _ _ _ y0 y1 y2 h6).trans (slab m c t y0 _ _ h6 (by rw [h6]) _ _ 0 y1 y2)
  refine (Cert.Cols.slab_miss 6 _ _ _ y0 y1 y2 h6).trans ?_
  by_cases h2 : y0.val = 2
  · exact (Cert.Cols.slab_hit 2 _ _ _ y0 y1 y2 h2).trans (slab m c t y0 _ _ h2 (by rw [h2]) _ _ 0 y1 y2)
  refine (Cert.Cols.slab_miss 2 _ _ _ y0 y1 y2 h2).trans ?_
  by_cases h5 : y0.val = 5
  · exact (Cert.Cols.slab_hit 5 _ _ _ y0 y1 y2 h5).trans (slab m c t y0 _ _ h5 (by rw [h5]) _ _ 0 y1 y2)
  refine (Cert.Cols.slab_miss 5 _ _ _ y0 y1 y2 h5).trans ?_
  by_cases h1 : y0.val = 1
  · exact (Cert.Cols.slab_hit 1 _ _ _ y0 y1 y2 h1).trans (slab m c t y0 _ _ h1 (by rw [h1]) _ _ 0 y1 y2)
  refine (Cert.Cols.slab_miss 1 _ _ _ y0 y1 y2 h1).trans ?_
  by_cases h4 : y0.val = 4
  · exact (Cert.Cols.slab_hit 4 _ _ _ y0 y1 y2 h4).trans (slab m c t y0 _ _ h4 (by rw [h4]) _ _ 0 y1 y2)
  refine (Cert.Cols.slab_miss 4 _ _ _ y0 y1 y2 h4).trans ?_
  by_cases h0 : y0.val = 0
  · exact (Cert.Cols.slab_hit 0 _ _ _ y0 y1 y2 h0).trans (slab m c t y0 _ _ h0 (by rw [h0]) _ _ 0 y1 y2)
  refine (Cert.Cols.slab_miss 0 _ _ _ y0 y1 y2 h0).trans ?_
  omega

theorem final_5 : (dats m 0 c).arrAt 5 (cfgs 0).N = val_main_v28 (F := Ideal) (a0 m c) (a1 m c) (a2 m c) (a3 m c) := by
  refine (dats m 0 c).arrAt_eq_of_covers 5 _ (by decide +kernel) fun t hf y => ?_
  blk_simp
  rw [after0_5]
  have hr : ∀ y : S512x1024.Idx, (((cfg0.win 5).blk t).view.emb y) = (ix2 (row t (y 0)) (y 1) : S8192x1024.Idx) := by
    intro y; blk_ext [idx_val t, row]
  rw [hr]
  idx_vars y
  have hy := y1.isLt
  unfold out0_5
  by_cases h3 : 768 ≤ y1.val
  · exact (Cert.Cols.canon_hit 768 _ _ _ y0 ⟨y1.val - 768, by omega⟩ y1 (by simp only; omega)).trans
      (gated m c t 3 _ _ _ _ rfl rfl rfl rfl _ _ _ _ y0 _ y1 (by simp only; omega))
  refine (Cert.Cols.canon_miss 768 _ _ _ y0 y1 (Or.inl (by omega))).trans ?_
  by_cases h2 : 512 ≤ y1.val
  · exact (Cert.Cols.canon_hit 512 _ _ _ y0 ⟨y1.val - 512, by omega⟩ y1 (by simp only; omega)).trans
      (gated m c t 2 _ _ _ _ rfl rfl rfl rfl _ _ _ _ y0 _ y1 (by simp only; omega))
  refine (Cert.Cols.canon_miss 512 _ _ _ y0 y1 (Or.inl (by omega))).trans ?_
  by_cases h1 : 256 ≤ y1.val
  · exact (Cert.Cols.canon_hit 256 _ _ _ y0 ⟨y1.val - 256, by omega⟩ y1 (by simp only; omega)).trans
      (gated m c t 1 _ _ _ _ rfl rfl rfl rfl _ _ _ _ y0 _ y1 (by simp only; omega))
  refine (Cert.Cols.canon_miss 256 _ _ _ y0 y1 (Or.inl (by omega))).trans ?_
  exact (Cert.Cols.canon_hit 0 _ _ _ y0 ⟨y1.val, by omega⟩ y1 (by simp only; omega)).trans
    (gated m c t 0 _ _ _ _ rfl rfl rfl rfl _ _ _ _ y0 _ y1 (by simp only; omega))

end Cert.ConvPreIdeal.Array

end
-- ==== Proof.CpfPair.lean ====
/-
  The kernel `conv_pre` and the reference's lines end with equal results, whatever the arguments are.
-/
module

public import proofs.«01_k».proof.Defs
public import proofs.«01_k».proof.Proof.CpfArray
public import proofs.«01_k».proof.Proof.Gen.ConvPreRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

section
open Cert.ConvPreRefIdeal

/-- The reference ends with its arguments unchanged; it has no semaphore. -/
theorem cpf_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun r h => ⟨fun c => (h c).2.2, sem_eq_zero_of_no_sems rfl _⟩) (Value.run m ρ)

end

set_option maxHeartbeats 4000000 in
theorem cpf_algebraic : Cert.algebraic_ConvPreIdeal_ConvPreRefIdeal
    (hConvPreIdeal := Cert.ConvPreIdeal.Gen.facts) (hConvPreRefIdeal := Cert.ConvPreRefIdeal.Gen.facts) := by
  pair_intro
  · run_from Cert.ConvPreIdeal.Value.run_blocks m g
  · run_from Cert.ConvPreRefIdeal.Value.run m' g'
    · rw [Cert.ConvPreRefIdeal.Read.val_main_v19_eq, Cert.ConvPreIdeal.Array.final_4 m c]
    · rw [Cert.ConvPreRefIdeal.Read.val_main_v28_eq, Cert.ConvPreIdeal.Array.final_5 m c]

end Cert.Proof

end
-- ==== Proof.CpoBlock.lean ====
/-
  One grid point of the kernel `conv_post`: its stored values are those of the reference's lines, at any extended real numbers.
-/
module

public import proofs.«01_k».proof.Proof.Gen.ConvPostIdeal.Skeleton
public import proofs.«01_k».proof.Proof.Gen.ConvPostRefIdeal.Read
public import Idealize.ShloMosaic.Lib.Pointwise

@[expose] public section

set_option maxRecDepth 16384

noncomputable section

open Idealize.ShloMosaic Idealize.ShloMosaic.TcCoe Idealize.SL.Sem

namespace Cert.ConvPostIdeal.Block

open Cert.ConvPostIdeal Cert.ConvPostIdeal.Gen Cert.ConvPostRefIdeal.Read

variable {x0 x2 : FVec Ideal S8192x1024 .f32} {x1 x3 x4 x6 : FVec Ideal S1024 .f32} {x5 : FVec Ideal S1024x1024 .f32}

/-- The convolution's row with its bias, normalised, scaled, moved and gated by itself. -/
theorem swish_at {C : FVec Ideal S512x1024 .f32} {G B : FVec Ideal S1x1024 .f32} {i : Fin 512} {r : Fin 8192}
    (hC : ∀ j, C (ix2 i j) = x0 (ix2 r j) + x1 (ix1 j)) (hG : ∀ z j, G (ix2 z j) = x3 (ix1 j)) (hB : ∀ z j, B (ix2 z j) = x4 (ix1 j))
    (j : Fin 1024) : k0_pay2 (F := Ideal) C G B (ix2 i j) = val_main_v27 (F := Ideal) x0 x1 x3 x4 (ix2 r j) := by
  pointwise [k0_pay2, val_main_v27, val_main_call0_v5, val_main_call0_v4, val_main_call0_cst_0, val_main_call0_v3, val_main_call0_v2,
    val_main_call0_cst, val_main_call0_v1, val_main_call0_v0, val_main_v26, val_main_v25, val_main_v24, val_main_v23, val_main_v22, val_main_v21,
    val_main_v20, val_main_v19, val_main_v18, val_main_v17, val_main_v16, val_main_cst_3, val_main_v15, val_main_v14, val_main_v13, val_main_v12,
    val_main_cst_2, val_main_v11, val_main_v10, val_main_cst_1, val_main_v9, val_main_v8, val_main_v7, val_main_v6, val_main_v5, val_main_cst_0,
    val_main_v4, val_main_v3, val_main_cst, val_main_v2, val_main_v1, val_main_v0]
  simp only [hC, hG, hB, zero_add, zero_sub]

theorem turned_at {C : FVec Ideal S512x1024 .f32} {G B : FVec Ideal S1x1024 .f32} {i : Fin 512} {j : Fin 1024} {v : EReal}
    (h : k0_pay2 (F := Ideal) C G B (ix2 i j) = v) : k0_pay3 (F := Ideal) C G B (ix2 j i) = v := by
  pointwise [k0_pay3]
  exact h

/-- The row's product with the matrix, its bias, and the row that it is added to. -/
theorem sum_at {S : FVec Ideal S512x1024 .bf16} {X : FVec Ideal S512x1024 .f32} {W : FVec Ideal S1024x1024 .bf16} {b : FVec Ideal S1x1024 .f32}
    {i : Fin 512} {r : Fin 8192} (hS : ∀ k, S (ix2 i k) = val_main_v27 (F := Ideal) x0 x1 x3 x4 (ix2 r k))
    (hX : ∀ j, X (ix2 i j) = x2 (ix2 r j)) (hW : ∀ k j, W (ix2 k j) = x5 (ix2 k j)) (hb : ∀ z j, b (ix2 z j) = x6 (ix1 j)) (j : Fin 1024) :
    k0_pay1 (F := Ideal) S X W b (ix2 i j) = val_main_v34 (F := Ideal) x0 x1 x2 x3 x4 x5 x6 (ix2 r j) := by
  pointwise [k0_pay1, val_main_v34, val_main_v33, val_main_v32, val_main_v31, val_main_v30]
  simp only [hS, hX, hW, hb, zero_add, add_assoc]

theorem turned_ref (r : Fin 8192) (j : Fin 1024) :
    val_main_v29 (F := Ideal) x0 x1 x3 x4 (ix2 j r) = val_main_v27 (F := Ideal) x0 x1 x3 x4 (ix2 r j) := by
  pointwise [val_main_v29, val_main_v28]

end Cert.ConvPostIdeal.Block

end
-- ==== Proof.CpoArray.lean ====
/-
  The arrays the kernel `conv_post` ends with are the reference's results.
-/
module

public import proofs.«01_k».proof.Proof.Gen.ConvPostIdeal.Value
public import Idealize.ShloMosaic.Lib.Pipeline.ValueKit
public import proofs.«01_k».proof.Proof.CpoBlock

@[expose] public section

set_option maxRecDepth 16384

noncomputable section

open Idealize.ShloMosaic Idealize.ShloMosaic.TcCoe Idealize.SL.Sem
open Idealize.ShloMosaic.Pipeline (Dat)

namespace Cert.ConvPostIdeal.Array

open Cert.ConvPostIdeal Cert.ConvPostIdeal.Gen Cert.ConvPostIdeal.Block Cert.ConvPostRefIdeal.Read

variable (m : (ℓ : Loc nD τ sig) → Buf (Elt Ideal) ℓ) (c : Dev nD)

theorem idx_val : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, t.val]
    ∧ win0_7.index t = ![t.val, 0] :=
  (by decide +kernel : ∀ t : Fin grid0.N, _)

/-- The row of the array that row `i` of grid point `t`'s block is. -/
def row (t : Fin cfg0.N) (i : Fin 512) : Fin 8192 :=
  ⟨t.val * 512 + i.val, by have := t.isLt; have h : cfg0.N = 16 := N_0; omega⟩

/-- The arguments. -/
abbrev a0 : FVec Ideal S8192x1024 .f32 := m ((c : Thread nD τ).loc main_arg0)
abbrev a1 : FVec Ideal S1024 .f32 := m ((c : Thread nD τ).loc main_arg1)
abbrev a2 : FVec Ideal S8192x1024 .f32 := m ((c : Thread nD τ).loc main_arg2)
abbrev a3 : FVec Ideal S1024 .f32 := m ((c : Thread nD τ).loc main_arg3)
abbrev a4 : FVec Ideal S1024 .f32 := m ((c : Thread nD τ).loc main_arg4)
abbrev a5 : FVec Ideal S1024x1024 .f32 := m ((c : Thread nD τ).loc main_arg5)
abbrev a6 : FVec Ideal S1024 .f32 := m ((c : Thread nD τ).loc main_arg6)

theorem blk0 (t : Fin cfg0.N) (i : Fin 512) (j : Fin 1024) :
    (show FVec Ideal S512x1024 .f32 from iblk m c 0 t) (ix2 i j) = a0 m c (ix2 (row t i) j) + a1 m c (ix1 j) := by
  blk_simp [iblk, idx_val t]
  entry_read
  pointwise
  refine congrArg₂ (· + ·) ?_ ?_ <;> blk_ext [idx_val t, row]

theorem blk1 (t : Fin cfg0.N) (i : Fin 512) (j : Fin 1024) :
    (show FVec Ideal S512x1024 .f32 from iblk m c 1 t) (ix2 i j) = a2 m c (ix2 (row t i) j) := by
  blk_ext [iblk, V, idx_val t, row]

theorem blk2 (t : Fin cfg0.N) (i : Fin 1) (j : Fin 1024) : (show FVec Ideal S1x1024 .f32 from iblk m c 2 t) (ix2 i j) = a3 m c (ix1 j) := by
  blk_simp [iblk, idx_val t]
  entry_read
  pointwise
  blk_ext [idx_val t]

theorem blk3 (t : Fin cfg0.N) (i : Fin 1) (j : Fin 1024) : (show FVec Ideal S1x1024 .f32 from iblk m c 3 t) (ix2 i j) = a4 m c (ix1 j) := by
  blk_simp [iblk, idx_val t]
  entry_read
  pointwise
  blk_ext [idx_val t]

theorem blk4 (t : Fin cfg0.N) (i j : Fin 1024) : (show FVec Ideal S1024x1024 .bf16 from iblk m c 4 t) (ix2 i j) = a5 m c (ix2 i j) := by
  blk_simp [iblk, idx_val t]
  entry_read
  pointwise
  blk_ext [idx_val t]

theorem blk5 (t : Fin cfg0.N) (i : Fin 1) (j : Fin 1024) : (show FVec Ideal S1x1024 .f32 from iblk m c 5 t) (ix2 i j) = a6 m c (ix1 j) := by
  blk_simp [iblk, idx_val t]
  entry_read
  pointwise
  blk_ext [idx_val t]

theorem swish (t : Fin cfg0.N) (i : Fin 512) (j : Fin 1024) :
    k0_pay2 (F := Ideal) (iblk m c 0 t) (iblk m c 2 t) (iblk m c 3 t) (ix2 i j)
      = val_main_v27 (F := Ideal) (a0 m c) (a1 m c) (a3 m c) (a4 m c) (ix2 (row t i) j) :=
  swish_at (blk0 m c t i) (blk2 m c t) (blk3 m c t) j

theorem final_6 : (dats m 0 c).arrAt 6 (cfgs 0).N = val_main_v29 (F := Ideal) (a0 m c) (a1 m c) (a3 m c) (a4 m c) := by
  refine (dats m 0 c).arrAt_eq_of_covers 6 _ (by decide +kernel) fun t hf y => ?_
  blk_simp
  rw [after0_6]
  have hr : ∀ y : S1024x512.Idx, (((cfg0.win 6).blk t).view.emb y) = (ix2 (y 0) (row t (y 1)) : S1024x8192.Idx) := by
    intro y; blk_ext [idx_val t, row]
  unfold out0_6; frame_out; rw [hr]; idx_vars y
  exact (turned_at (swish m c t y1 y0)).trans (turned_ref _ _).symm

theorem final_7 : (dats m 0 c).arrAt 7 (cfgs 0).N
    = val_main_v34 (F := Ideal) (a0 m c) (a1 m c) (a2 m c) (a3 m c) (a4 m c) (a5 m c) (a6 m c) := by
  refine (dats m 0 c).arrAt_eq_of_covers 7 _ (by decide +kernel) fun t hf y => ?_
  blk_simp
  rw [after0_7]
  have hr : ∀ y : S512x1024.Idx, (((cfg0.win 7).blk t).view.emb y) = (ix2 (row t (y 0)) (y 1) : S8192x1024.Idx) := by
    intro y; blk_ext [idx_val t, row]
  unfold out0_7; frame_out; rw [hr]; idx_vars y
  exact sum_at (swish m c t y0) (blk1 m c t y0) (blk4 m c t) (blk5 m c t) y1

end Cert.ConvPostIdeal.Array

end
-- ==== Proof.CpoPair.lean ====
/-
  The kernel `conv_post` and the reference's lines end with equal results, whatever the arguments are.
-/
module

public import proofs.«01_k».proof.Defs
public import proofs.«01_k».proof.Proof.CpoArray
public import proofs.«01_k».proof.Proof.Gen.ConvPostRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

section
open Cert.ConvPostRefIdeal

/-- The reference ends with its arguments unchanged; it has no semaphore. -/
theorem cpo_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run _ _ _).mono (fun r h => ⟨fun c => (h c).2.2, sem_eq_zero_of_no_sems rfl _⟩) (Value.run m ρ)

end

set_option maxHeartbeats 4000000 in
theorem cpo_algebraic : Cert.algebraic_ConvPostIdeal_ConvPostRefIdeal
    (hConvPostIdeal := Cert.ConvPostIdeal.Gen.facts) (hConvPostRefIdeal := Cert.ConvPostRefIdeal.Gen.facts) := by
  pair_intro
  · run_from Cert.ConvPostIdeal.Value.run_blocks m g
  · run_from Cert.ConvPostRefIdeal.Value.run m' g'
    · obtain ⟨e0, e1, _, e3, e4, _, _⟩ := hagree c
      rw [Cert.ConvPostRefIdeal.Read.val_main_v29_eq, e0, e1, e3, e4, Cert.ConvPostIdeal.Array.final_6 m c]
    · obtain ⟨e0, e1, e2, e3, e4, e5, e6⟩ := hagree c
      rw [Cert.ConvPostRefIdeal.Read.val_main_v34_eq, e0, e1, e2, e3, e4, e5, e6, Cert.ConvPostIdeal.Array.final_7 m c]

end Cert.Proof

end
-- ==== Proof.FfaArray.lean ====
/-
  The result arrays of the kernel `ffn_fwd0` after its run, when the arguments hold real numbers: the attention's output product, and the
  two products and the gate of the second layer on its sum.
-/
module

public import proofs.«01_k».proof.Proof.Gen.FfnFwdAttnIdeal.Value
public import Idealize.ShloMosaic.Lib.Pipeline.ValueKit
public import proofs.«01_k».proof.Proof.FinArray
public import proofs.«01_k».proof.Proof.Slab
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FfnFwdAttnIdeal.Array

open Cert.FfnFwdAttnIdeal Cert.FfnFwdAttnIdeal.Gen Cert.Reals Cert.Ffn Cert.Fin
open Cert.FfnFinalIdeal.Block (factor gated)
open Cert.Cols (slab_hit slab_miss)
open Cert.FfnFinalIdeal.Array (rowY)
open Cert.FfnBwdIdeal.Block (ldW ldD ld_of)

/-- The layer's input with the attention's output product added. -/
def sumX (O X : Fin 8192 → Fin 1024 → ℝ) (wo : Fin 1024 → Fin 1024 → ℝ) (r : Fin 8192) (k : Fin 1024) : ℝ := X r k + ∑ j, O r j * wo j k

/-- The four transposed blocks of rows multiplied by the weights, added to the input's rows. -/
theorem sum_at {v0 : FVec Ideal S512x1024 .f32} {v1 v3 v5 v7 : FVec Ideal S1x1024x128 .bf16} {w : FVec Ideal S1024x1024 .bf16}
    {o x : Fin 512 → Fin 1024 → ℝ} {wo : Fin 1024 → Fin 1024 → ℝ} (hx : ∀ i j, v0 (ix2 i j) = (x i j : EReal))
    (h0 : ∀ y j l, v1 (ix3 y j l) = (o ⟨l.val, by omega⟩ j : EReal)) (h1 : ∀ y j l, v3 (ix3 y j l) = (o ⟨128 + l.val, by omega⟩ j : EReal))
    (h2 : ∀ y j l, v5 (ix3 y j l) = (o ⟨256 + l.val, by omega⟩ j : EReal)) (h3 : ∀ y j l, v7 (ix3 y j l) = (o ⟨384 + l.val, by omega⟩ j : EReal))
    (hw : ∀ i j, w (ix2 i j) = (wo i j : EReal)) (i : Fin 512) (k : Fin 1024) :
    k0_pay4 (F := Ideal) v0 v1 v3 v5 v7 w (ix2 i k) = ((x i k + ∑ j, o i j * wo j k : ℝ) : EReal) := by
  pointwise [k0_pay4]
  rw [← lift_add, ← lift_sum, hx]
  refine congrArg ((x i k : EReal) + ·) (Finset.sum_congr rfl fun j _ => ?_)
  rw [← lift_mul, hw]
  congr 1
  split_ifs <;> first
    | exact (h0 _ _ _).trans (congrArg (fun l => ((o l j : ℝ) : EReal)) (Fin.ext (by dsimp only)))
    | exact (h1 _ _ _).trans (congrArg (fun l => ((o l j : ℝ) : EReal)) (Fin.ext (by dsimp only; omega)))
    | exact (h2 _ _ _).trans (congrArg (fun l => ((o l j : ℝ) : EReal)) (Fin.ext (by dsimp only; omega)))
    | exact (h3 _ _ _).trans (congrArg (fun l => ((o l j : ℝ) : EReal)) (Fin.ext (by dsimp only; omega)))

variable (m : (ℓ : Loc nD τ sig) → Buf (Elt Ideal) ℓ)

theorem idx_val : ∀ t : Fin cfg0.N, win0_0.index t = ![t.val, 0, 0]
    ∧ win0_1.index t = ![t.val, 0]
    ∧ win0_2.index t = ![0, 0]
    ∧ win0_3.index t = ![0, 0]
    ∧ win0_4.index t = ![0, 0, 0]
    ∧ win0_5.index t = ![0, 0, 0]
    ∧ win0_6.index t = ![t.val, 0]
    ∧ win0_7.index t = ![0, t.val, 0]
    ∧ win0_8.index t = ![0, 0, t.val]
    ∧ win0_9.index t = ![t.val, 0] :=
  (by decide +kernel : ∀ t : Fin grid0.N, _)

/-- The row of the array that row `i` of grid point `t`'s block is. -/
def row (t : Fin cfg0.N) (i : Fin 512) : Fin 8192 :=
  ⟨t.val * 512 + i.val, by have := t.isLt; have h : cfg0.N = 16 := N_0; omega⟩

variable {O X : Fin 8192 → Fin 1024 → ℝ} {g : Fin 1024 → ℝ} {wo : Fin 1024 → Fin 1024 → ℝ} {wu : Fin 1024 → Fin 5632 → ℝ}
  {wd : Fin 2816 → Fin 1024 → ℝ} (c : Dev nD)

/-- The arguments hold the real arrays `O`, `X`, `wo`, `g`, `wu`, `wd`. -/
structure Holds (O X : Fin 8192 → Fin 1024 → ℝ) (wo : Fin 1024 → Fin 1024 → ℝ) (g : Fin 1024 → ℝ) (wu : Fin 1024 → Fin 5632 → ℝ)
    (wd : Fin 2816 → Fin 1024 → ℝ) : Prop where
  h0 : ∀ i j, (show FVec Ideal S8192x1024 .f32 from m ((c : Thread nD τ).loc main_arg0)) (ix2 i j) = (O i j : EReal)
  h1 : ∀ i j, (show FVec Ideal S8192x1024 .f32 from m ((c : Thread nD τ).loc main_arg1)) (ix2 i j) = (X i j : EReal)
  h2 : ∀ i j, (show FVec Ideal S1024x1024 .f32 from m ((c : Thread nD τ).loc main_arg2)) (ix2 i j) = (wo i j : EReal)
  h3 : ∀ j, (show FVec Ideal S1024 .f32 from m ((c : Thread nD τ).loc main_arg3)) (ix1 j) = (g j : EReal)
  h4 : ∀ i j, (show FVec Ideal S1024x5632 .f32 from m ((c : Thread nD τ).loc main_arg4)) (ix2 i j) = (wu i j : EReal)
  h5 : ∀ i j, (show FVec Ideal S2816x1024 .f32 from m ((c : Thread nD τ).loc main_arg5)) (ix2 i j) = (wd i j : EReal)

variable (H : Holds m c O X wo g wu wd)
include H

/-! ## The blocks -/

theorem in0 (t : Fin cfg0.N) (b : Fin 4) (j : Fin 1024) (l : Fin 128) :
    (show FVec Ideal S4x1024x128 .bf16 from iblk m c 0 t) (ix3 b j l) = (O (row t ⟨b.val * 128 + l.val, by omega⟩) j : EReal) := by
  rw [← H.h0]
  blk_simp [iblk, idx_val t]
  entry_read
  pointwise
  blk_ext [idx_val t, row]

theorem in1 (t : Fin cfg0.N) (i : Fin 512) (j : Fin 1024) :
    (show FVec Ideal S512x1024 .f32 from iblk m c 1 t) (ix2 i j) = (X (row t i) j : EReal) := by
  rw [← H.h1]
  blk_ext [iblk, V, idx_val t, row]

theorem in2 (t : Fin cfg0.N) (i : Fin 1024) (j : Fin 1024) :
    (show FVec Ideal S1024x1024 .bf16 from iblk m c 2 t) (ix2 i j) = (wo i j : EReal) := by
  rw [← H.h2]
  blk_simp [iblk, idx_val t]
  entry_read
  pointwise
  blk_ext [idx_val t]

theorem in3 (t : Fin cfg0.N) (i : Fin 1) (j : Fin 1024) :
    (show FVec Ideal S1x1024 .f32 from iblk m c 3 t) (ix2 i j) = (g j : EReal) := by
  rw [← H.h3]
  blk_simp [iblk, idx_val t]
  entry_read
  pointwise
  blk_ext [idx_val t]

theorem in4 (t : Fin cfg0.N) (q : Fin 8) (l : Fin 704) (k : Fin 1024) :
    (show FVec Ideal S8x704x1024 .bf16 from iblk m c 4 t) (ix3 q l k) = (uSlab wu q l k : EReal) := by
  unfold uSlab
  rw [← H.h4]
  blk_simp [iblk, idx_val t]
  entry_read
  pointwise
  blk_ext [idx_val t, colU]

theorem in5 (t : Fin cfg0.N) (p : Fin 4) (l : Fin 704) (k : Fin 1024) :
    (show FVec Ideal S4x704x1024 .bf16 from iblk m c 5 t) (ix3 p l k) = (dSlab wd p l k : EReal) := by
  unfold dSlab
  rw [← H.h5]
  blk_simp [iblk, idx_val t]
  entry_read
  pointwise
  blk_ext [idx_val t, colD]

/-- The sums of one grid point, as the kernel computes them from its loads. -/
abbrev sumB (t : Fin cfg0.N) : FVec Ideal S512x1024 .f32 :=
  k0_pay4 (iblk m c 1 t) (View.ld (iblk m c 0 t) (Rect.unit ![0, 0, 0] ![1, 1024, 128] inb_S4x1024x128_S1x1024x128_0_0_0))
    (View.ld (iblk m c 0 t) (Rect.unit ![1, 0, 0] ![1, 1024, 128] inb_S4x1024x128_S1x1024x128_1_0_0))
    (View.ld (iblk m c 0 t) (Rect.unit ![2, 0, 0] ![1, 1024, 128] inb_S4x1024x128_S1x1024x128_2_0_0))
    (View.ld (iblk m c 0 t) (Rect.unit ![3, 0, 0] ![1, 1024, 128] inb_S4x1024x128_S1x1024x128_3_0_0)) (iblk m c 2 t)

theorem sums (t : Fin cfg0.N) (i : Fin 512) (k : Fin 1024) : sumB m c t (ix2 i k) = (sumX O X wo (row t i) k : EReal) := by
  have e : ∀ (b : Fin 4) (o : ℕ) (ho : b.val = o) (inb) (y : Fin 1) (j : Fin 1024) (l : Fin 128),
      (show FVec Ideal S1x1024x128 .bf16 from View.ld (iblk m c 0 t) (Rect.unit ![o, 0, 0] ![1, 1024, 128] inb)) (ix3 y j l)
        = (O (row t ⟨b.val * 128 + l.val, by omega⟩) j : EReal) := fun b o ho inb y j l =>
    ld_of (f := fun b j l => O (row t ⟨b.val * 128 + l.val, by omega⟩) j) (in0 m c H t) b o ho inb y j l
  have e' : ∀ (b : Fin 4) (j : Fin 1024) (l : Fin 128) (r : Fin 512) (hr : b.val * 128 + l.val = r.val),
      ((O (row t ⟨b.val * 128 + l.val, by omega⟩) j : ℝ) : EReal) = (O (row t r) j : EReal) := fun b j l r hr => by
    rw [show (⟨b.val * 128 + l.val, by omega⟩ : Fin 512) = r from Fin.ext hr]
  exact sum_at (o := fun i => O (row t i)) (in1 m c H t)
    (fun y j l => (e 0 0 rfl _ y j l).trans (e' 0 j l _ (by simp)))
    (fun y j l => (e 1 1 rfl _ y j l).trans (e' 1 j l _ (by simp)))
    (fun y j l => (e 2 2 rfl _ y j l).trans (e' 2 j l _ (by simp)))
    (fun y j l => (e 3 3 rfl _ y j l).trans (e' 3 j l _ (by simp))) (in2 m c H t) i k

omit H in
/-- The norm reads three of its blocks whole. -/
theorem norm_loads (x0 : Vec Ideal S4x1024x128 .bf16) (x1 : Vec Ideal S512x1024 .f32) (x2 : Vec Ideal S1024x1024 .bf16) (x3 : Vec Ideal S1x1024 .f32)
    (x4 : Vec Ideal S8x704x1024 .bf16) (x5 : Vec Ideal S4x704x1024 .bf16) : k0_pay42 (F := Ideal) x0 x1 x2 x3 x4 x5
      = k0_pay5 x1 (View.ld x0 r0_1) (View.ld x0 r0_2) (View.ld x0 r0_3) (View.ld x0 r0_4) x2 x3 := by
  unfold k0_pay42
  rw [View.ld_unit_lit inb_S512x1024_S512x1024_0_0 x1 (by decide), View.ld_unit_lit inb_S1024x1024_S1024x1024_0_0 x2 (by decide),
    View.ld_unit_lit inb_S1x1024_S1x1024_0_0 x3 (by decide)]

/-- The norm of the sums, as the kernel computes it from its loads. -/
abbrev hb (t : Fin cfg0.N) : FVec Ideal S512x1024 .bf16 :=
  k0_pay42 (F := Ideal) (iblk m c 0 t) (iblk m c 1 t) (iblk m c 2 t) (iblk m c 3 t) (iblk m c 4 t) (iblk m c 5 t)

theorem hb_at (t : Fin cfg0.N) (i : Fin 512) (k : Fin 1024) : hb m c t (ix2 i k) = ((hid (sumX O X wo (row t i)) g k : ℝ) : EReal) := by
  refine (congrFun (norm_loads _ _ _ _ _ _) (ix2 i k)).trans ?_
  exact Cert.FfnFinalIdeal.Block.pay4 (X := sumB m c t) (x := fun i => sumX O X wo (row t i)) (sums m c H t) (in3 m c H t) i k

/-- Slab `o` of the first weights. -/
theorem w_at (t : Fin cfg0.N) (q : Fin 8) (o : ℕ) (ho : q.val = o) (inb) (y : Fin 1) (l : Fin 704) (k : Fin 1024) :
    ldW (iblk m c 4 t) o inb (ix3 y l k) = (uSlab wu q l k : EReal) := ld_of (in4 m c H t) q o ho _ y l k

/-- Slab `o` of the second weights. -/
theorem v_at (t : Fin cfg0.N) (p : Fin 4) (o : ℕ) (ho : p.val = o) (inb) (y : Fin 1) (l : Fin 704) (k : Fin 1024) :
    ldD (iblk m c 5 t) o inb (ix3 y l k) = (dSlab wd p l k : EReal) := ld_of (in5 m c H t) p o ho _ y l k

/-! ## The arrays -/

set_option maxHeartbeats 1000000 in
theorem final_6 : (dats m 0 c).arrAt 6 (cfgs 0).N = fun y : S8192x1024.Idx => ((sumX O X wo (y 0) (y 1) : ℝ) : EReal) := by
  refine (dats m 0 c).arrAt_eq_of_covers 6 _ (by decide +kernel) fun t hf y => ?_
  blk_simp
  rw [after0_6]
  have hr : ∀ y : S512x1024.Idx, (((cfg0.win 6).blk t).view.emb y) = (ix2 (row t (y 0)) (y 1) : S8192x1024.Idx) := by
    intro y; blk_ext [idx_val t, row]
  frame_out; rw [hr]; idx_vars y
  exact sums m c H t _ _

set_option maxHeartbeats 2000000 in
theorem final_7 : (dats m 0 c).arrAt 7 (cfgs 0).N
    = fun y : S8x8192x704.Idx => ((factor (hid (sumX O X wo (y 1)) g) (uSlab wu) (y 0) (y 2) : ℝ) : EReal) := by
  refine (dats m 0 c).arrAt_eq_of_covers 7 _ (by decide +kernel) fun t hf y => ?_
  blk_simp
  rw [after0_7]
  have hr : ∀ y : S8x512x704.Idx, (((cfg0.win 7).blk t).view.emb y) = (ix3 (y 0) (row t (y 1)) (y 2) : S8x8192x704.Idx) := by
    intro y; blk_ext [idx_val t, row]
  rw [hr]; idx_vars y
  have hE := hb_at m c H t
  have hW := w_at m c H t
  unfold out0_7
  by_cases h7 : y0 = 7
  · subst h7; exact (slab_hit 7 _ _ _ _ y1 y2 rfl).trans (Cert.FfnFinalIdeal.Block.pay40 hE (hW 3 3 rfl _) (hW 7 7 rfl _) 0 y1 y2)
  refine (slab_miss 7 _ _ _ y0 y1 y2 fun e => h7 (Fin.ext e)).trans ?_
  by_cases h3 : y0 = 3
  · subst h3; exact (slab_hit 3 _ _ _ _ y1 y2 rfl).trans (Cert.FfnFinalIdeal.Block.pay39 hE (hW 3 3 rfl _) 0 y1 y2)
  refine (slab_miss 3 _ _ _ y0 y1 y2 fun e => h3 (Fin.ext e)).trans ?_
  by_cases h6 : y0 = 6
  · subst h6; exact (slab_hit 6 _ _ _ _ y1 y2 rfl).trans (Cert.FfnFinalIdeal.Block.pay40 hE (hW 2 2 rfl _) (hW 6 6 rfl _) 0 y1 y2)
  refine (slab_miss 6 _ _ _ y0 y1 y2 fun e => h6 (Fin.ext e)).trans ?_
  by_cases h2 : y0 = 2
  · subst h2; exact (slab_hit 2 _ _ _ _ y1 y2 rfl).trans (Cert.FfnFinalIdeal.Block.pay39 hE (hW 2 2 rfl _) 0 y1 y2)
  refine (slab_miss 2 _ _ _ y0 y1 y2 fun e => h2 (Fin.ext e)).trans ?_
  by_cases h5 : y0 = 5
  · subst h5; exact (slab_hit 5 _ _ _ _ y1 y2 rfl).trans (Cert.FfnFinalIdeal.Block.pay40 hE (hW 1 1 rfl _) (hW 5 5 rfl _) 0 y1 y2)
  refine (slab_miss 5 _ _ _ y0 y1 y2 fun e => h5 (Fin.ext e)).trans ?_
  by_cases h1 : y0 = 1
  · subst h1; exact (slab_hit 1 _ _ _ _ y1 y2 rfl).trans (Cert.FfnFinalIdeal.Block.pay39 hE (hW 1 1 rfl _) 0 y1 y2)
  refine (slab_miss 1 _ _ _ y0 y1 y2 fun e => h1 (Fin.ext e)).trans ?_
  by_cases h4 : y0 = 4
  · subst h4; exact (slab_hit 4 _ _ _ _ y1 y2 rfl).trans (Cert.FfnFinalIdeal.Block.pay40 hE (hW 0 0 rfl _) (hW 4 4 rfl _) 0 y1 y2)
  refine (slab_miss 4 _ _ _ y0 y1 y2 fun e => h4 (Fin.ext e)).trans ?_
  by_cases h0 : y0 = 0
  · subst h0; exact (slab_hit 0 _ _ _ _ y1 y2 rfl).trans (Cert.FfnFinalIdeal.Block.pay39 hE (hW 0 0 rfl _) 0 y1 y2)
  refine (slab_miss 0 _ _ _ y0 y1 y2 fun e => h0 (Fin.ext e)).trans ?_
  omega

set_option maxHeartbeats 2000000 in
theorem final_8 : (dats m 0 c).arrAt 8 (cfgs 0).N
    = fun y : S4x704x8192.Idx => ((gated (hid (sumX O X wo (y 2)) g) (uSlab wu) (y 0) (y 1) : ℝ) : EReal) := by
  refine (dats m 0 c).arrAt_eq_of_covers 8 _ (by decide +kernel) fun t hf y => ?_
  blk_simp
  rw [after0_8]
  have hr : ∀ y : S4x704x512.Idx, (((cfg0.win 8).blk t).view.emb y) = (ix3 (y 0) (y 1) (row t (y 2)) : S4x704x8192.Idx) := by
    intro y; blk_ext [idx_val t, row]
  rw [hr]; idx_vars y
  have hE := hb_at m c H t
  have hW := w_at m c H t
  unfold out0_8
  by_cases h3 : y0 = 3
  · subst h3; exact (slab_hit 3 _ _ _ _ y1 y2 rfl).trans (Cert.FfnFinalIdeal.Block.pay41 hE (hW 3 3 rfl _) (hW 7 7 rfl _) 0 y1 y2)
  refine (slab_miss 3 _ _ _ y0 y1 y2 fun e => h3 (Fin.ext e)).trans ?_
  by_cases h2 : y0 = 2
  · subst h2; exact (slab_hit 2 _ _ _ _ y1 y2 rfl).trans (Cert.FfnFinalIdeal.Block.pay41 hE (hW 2 2 rfl _) (hW 6 6 rfl _) 0 y1 y2)
  refine (slab_miss 2 _ _ _ y0 y1 y2 fun e => h2 (Fin.ext e)).trans ?_
  by_cases h1 : y0 = 1
  · subst h1; exact (slab_hit 1 _ _ _ _ y1 y2 rfl).trans (Cert.FfnFinalIdeal.Block.pay41 hE (hW 1 1 rfl _) (hW 5 5 rfl _) 0 y1 y2)
  refine (slab_miss 1 _ _ _ y0 y1 y2 fun e => h1 (Fin.ext e)).trans ?_
  by_cases h0 : y0 = 0
  · subst h0; exact (slab_hit 0 _ _ _ _ y1 y2 rfl).trans (Cert.FfnFinalIdeal.Block.pay41 hE (hW 0 0 rfl _) (hW 4 4 rfl _) 0 y1 y2)
  refine (slab_miss 0 _ _ _ y0 y1 y2 fun e => h0 (Fin.ext e)).trans ?_
  omega

omit H in
/-- One of the four products added to the sum so far, in the form each of the four loops' steps has. -/
theorem plus {P : FVec Ideal S512x1024 .f32} {R : FVec Ideal S512x704 .bf16} {V : FVec Ideal S1x704x1024 .bf16} {y : Fin 512 → Fin 1024 → ℝ}
    {r : Fin 512 → Fin 704 → ℝ} {v : Fin 704 → Fin 1024 → ℝ} (hP : ∀ i k, P (ix2 i k) = (y i k : EReal)) (hR : ∀ i l, R (ix2 i l) = (r i l : EReal))
    (hV : ∀ y l k, V (ix3 y l k) = (v l k : EReal)) (i : Fin 512) (k : Fin 1024) :
    k0_pay3 (F := Ideal) P R V (ix2 i k) = ((y i k + ∑ l, r i l * v l k : ℝ) : EReal) := Cert.FfnFinalIdeal.Block.pay42 hP hR hV i k

/-- The gated product of a pair of slabs. -/
theorem act_at (t : Fin cfg0.N) (p : Fin 4) (o o4 : ℕ) (ho : p.val = o) (ho4 : p.val + 4 = o4) (i1 i2) (i : Fin 512) (l : Fin 704) :
    k0_pay39 (F := Ideal) (hb m c t) (ldW (iblk m c 4 t) o i1) (ldW (iblk m c 4 t) o4 i2) (ix2 i l)
      = ((act (dp (hid (sumX O X wo (row t i)) g) (uSlab wu ⟨p.val, by omega⟩ l))
          (dp (hid (sumX O X wo (row t i)) g) (uSlab wu ⟨p.val + 4, by omega⟩ l)) : ℝ) : EReal) :=
  Cert.FfnFinalIdeal.Block.pay38 (hb_at m c H t) (w_at m c H t ⟨p.val, by omega⟩ o ho i1) (w_at m c H t ⟨p.val + 4, by omega⟩ o4 ho4 i2) i l

set_option maxHeartbeats 2000000 in
theorem final_9 : (dats m 0 c).arrAt 9 (cfgs 0).N
    = fun y : S8192x1024.Idx => ((rowY (sumX O X wo) g wu wd (y 0) (y 1) : ℝ) : EReal) := by
  refine (dats m 0 c).arrAt_eq_of_covers 9 _ (by decide +kernel) fun t hf y => ?_
  blk_simp
  rw [after0_9]
  have hr : ∀ y : S512x1024.Idx, (((cfg0.win 9).blk t).view.emb y) = (ix2 (row t (y 0)) (y 1) : S8192x1024.Idx) := by
    intro y; blk_ext [idx_val t, row]
  frame_out; rw [hr]; idx_vars y
  have hV := v_at m c H t
  exact plus (plus (plus (plus (sums m c H t) (act_at m c H t 0 0 4 rfl rfl _ _) (hV 0 0 rfl _)) (act_at m c H t 1 1 5 rfl rfl _ _) (hV 1 1 rfl _))
    (act_at m c H t 2 2 6 rfl rfl _ _) (hV 2 2 rfl _)) (act_at m c H t 3 3 7 rfl rfl _ _) (hV 3 3 rfl _) y0 y1

end Cert.FfnFwdAttnIdeal.Array

end
-- ==== Proof.FfaRef.lean ====
/-
  The stages of the reference of `ffn_fwd0`, when the arguments hold real numbers: the attention's output product added to the input, and the
  stages of the second layer taken at that sum.
-/
module

public import proofs.«01_k».proof.Proof.Gen.FfnFwdAttnRefIdeal.Read
public import proofs.«01_k».proof.Proof.FfaArray
public import proofs.«01_k».proof.Proof.FinRef

@[expose] public section

set_option maxRecDepth 16384

noncomputable section

open Idealize.ShloMosaic Idealize.ShloMosaic.TcCoe

namespace Cert.FfnFwdAttnRefIdeal.Stage

open Cert.FfnFwdAttnRefIdeal Cert.FfnFwdAttnRefIdeal.Gen Cert.FfnFwdAttnRefIdeal.Read Cert.Reals Cert.Ffn Cert.Fin
open Cert.FfnFinalIdeal.Block (factor gated)
open Cert.FfnFinalIdeal.Array (rowY)
open Cert.FfnFwdAttnIdeal.Array (sumX)

variable {x0 x1 : FVec Ideal S8192x1024 .f32} {x2 : FVec Ideal S1024x1024 .f32} {x3 : FVec Ideal S1024 .f32} {x4 : FVec Ideal S1024x5632 .f32}
  {x5 : FVec Ideal S2816x1024 .f32} {O X : Fin 8192 → Fin 1024 → ℝ} {wo : Fin 1024 → Fin 1024 → ℝ} {g : Fin 1024 → ℝ}
  {wu : Fin 1024 → Fin 5632 → ℝ} {wd : Fin 2816 → Fin 1024 → ℝ}

/-- The sum. -/
theorem at1 (h0 : ∀ i j, x0 (ix2 i j) = (O i j : EReal)) (h1 : ∀ i j, x1 (ix2 i j) = (X i j : EReal)) (h2 : ∀ i j, x2 (ix2 i j) = (wo i j : EReal))
    (i : Fin 8192) (k : Fin 1024) : val_main_v1 (F := Ideal) x0 x1 x2 (ix2 i k) = (sumX O X wo i k : EReal) := by
  pointwise [val_main_v1, val_main_v0]
  simp only [h0, h1, h2, lift_mul, lift_sum, lift_add]
  rfl

/-- What the stages of the second layer ask of their arguments, at the sum; the last two are not read. -/
theorem args (h0 : ∀ i j, x0 (ix2 i j) = (O i j : EReal)) (h1 : ∀ i j, x1 (ix2 i j) = (X i j : EReal)) (h2 : ∀ i j, x2 (ix2 i j) = (wo i j : EReal))
    (h3 : ∀ j, x3 (ix1 j) = (g j : EReal)) (h4 : ∀ i j, x4 (ix2 i j) = (wu i j : EReal)) (h5 : ∀ i j, x5 (ix2 i j) = (wd i j : EReal)) :
    Cert.FfnFinalRefIdeal.Stage.Args (val_main_v1 (F := Ideal) x0 x1 x2) x3 x4 x5 (fun _ => 0) (fun _ => 0) (sumX O X wo) g wu wd (fun _ => 0)
      (fun _ _ => 0) :=
  ⟨at1 h0 h1 h2, h3, h4, h5, fun _ => rfl, fun _ _ => rfl⟩

theorem saved : val_main_v27 (F := Ideal) x0 x1 x2 x3 x4
    = Cert.FfnFinalRefIdeal.Read.val_main_v86 (F := Ideal) (val_main_v1 (F := Ideal) x0 x1 x2) x3 x4 := rfl

theorem gate : val_main_v30 (F := Ideal) x0 x1 x2 x3 x4
    = Cert.FfnFinalRefIdeal.Read.val_main_v89 (F := Ideal) (val_main_v1 (F := Ideal) x0 x1 x2) x3 x4 := rfl

theorem last : val_main_v32 (F := Ideal) x0 x1 x2 x3 x4 x5
    = Cert.FfnFinalRefIdeal.Read.val_main_v22 (F := Ideal) (val_main_v1 (F := Ideal) x0 x1 x2) x3 x4 x5 := rfl

end Cert.FfnFwdAttnRefIdeal.Stage

end
-- ==== Proof.FfaPair.lean ====
/-
  The kernel `ffn_fwd0` and the reference's lines end with equal results, when the arguments are finite.
-/
module

public import proofs.«01_k».proof.Defs
public import proofs.«01_k».proof.Proof.Finite
public import proofs.«01_k».proof.Proof.FfaRef
public import proofs.«01_k».proof.Proof.Gen.FfnFwdAttnRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The shape facts the precondition states. -/
theorem facts_finite11 : Cert.Pre_finite11.Facts where
  bcast_S_S8192x1024 := by decide
  bcast_S_S1024x1024 := by decide
  bcast_S_S1024 := by decide
  bcast_S_S1024x5632 := by decide
  bcast_S_S2816x1024 := by decide

attribute [local instance] facts_finite11

section
open Cert.FfnFwdAttnIdeal Cert.FfnFwdAttnIdeal.Array

variable (m : (ℓ : Loc nD τ sig) → Buf (Elt Ideal) ℓ) (c : Dev nD)

/-- Under the precondition the arguments hold real arrays. -/
theorem ffa_holds (h : Cert.Pre_FfnFwdAttnIdeal_finite11 m) :
    Holds m c (fun i j => ((show FVec Ideal S8192x1024 .f32 from m ((c : Thread nD τ).loc main_arg0)) (ix2 i j)).toReal)
      (fun i j => ((show FVec Ideal S8192x1024 .f32 from m ((c : Thread nD τ).loc main_arg1)) (ix2 i j)).toReal)
      (fun i j => ((show FVec Ideal S1024x1024 .f32 from m ((c : Thread nD τ).loc main_arg2)) (ix2 i j)).toReal)
      (fun j => ((show FVec Ideal S1024 .f32 from m ((c : Thread nD τ).loc main_arg3)) (ix1 j)).toReal)
      (fun i j => ((show FVec Ideal S1024x5632 .f32 from m ((c : Thread nD τ).loc main_arg4)) (ix2 i j)).toReal)
      (fun i j => ((show FVec Ideal S2816x1024 .f32 from m ((c : Thread nD τ).loc main_arg5)) (ix2 i j)).toReal) :=
  have ⟨e0, e1, e2, e3, e4, e5⟩ := h c
  ⟨fun i j => Cert.Finite.real_of_pre e0 _, fun i j => Cert.Finite.real_of_pre e1 _, fun i j => Cert.Finite.real_of_pre e2 _,
    fun j => Cert.Finite.real_of_pre e3 _, fun i j => Cert.Finite.real_of_pre e4 _, fun i j => Cert.Finite.real_of_pre e5 _⟩

end

section
open Cert.FfnFwdAttnRefIdeal

/-- The reference ends with its arguments unchanged; it has no semaphore. -/
theorem ffa_ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨fun c => (h c).2.2.2.2, sem_eq_zero_of_no_sems rfl _⟩) (Value.run m ρ)

end

set_option maxHeartbeats 4000000 in
theorem ffa_algebraic : Cert.algebraic_FfnFwdAttnIdeal_FfnFwdAttnRefIdeal_pre_finite11
    (hFfnFwdAttnIdeal := Cert.FfnFwdAttnIdeal.Gen.facts) (hFfnFwdAttnRefIdeal := Cert.FfnFwdAttnRefIdeal.Gen.facts) := by
  pair_intro
  · run_from Cert.FfnFwdAttnIdeal.Value.run_blocks m g
  · run_from Cert.FfnFwdAttnRefIdeal.Value.run m' g'
    · obtain ⟨a0, a1, a2, a3, a4, a5⟩ := hagree c
      have H := ffa_holds m c hpre
      rw [Cert.FfnFwdAttnIdeal.Array.final_6 m c H]
      funext y
      idx_vars y
      exact Cert.FfnFwdAttnRefIdeal.Stage.at1 H.h0 H.h1 H.h2 _ _
    · obtain ⟨a0, a1, a2, a3, a4, a5⟩ := hagree c
      have H := ffa_holds m c hpre
      rw [Cert.FfnFwdAttnRefIdeal.Read.val_main_v27_eq, a0, a1, a2, a3, a4, Cert.FfnFwdAttnIdeal.Array.final_7 m c H,
        Cert.FfnFwdAttnRefIdeal.Stage.saved]
      funext y
      idx_vars y
      exact Cert.FfnFinalRefIdeal.Stage.at86 (Cert.FfnFwdAttnRefIdeal.Stage.args H.h0 H.h1 H.h2 H.h3 H.h4 H.h5) _ _ _
    · obtain ⟨a0, a1, a2, a3, a4, a5⟩ := hagree c
      have H := ffa_holds m c hpre
      rw [Cert.FfnFwdAttnRefIdeal.Read.val_main_v30_eq, a0, a1, a2, a3, a4, Cert.FfnFwdAttnIdeal.Array.final_8 m c H,
        Cert.FfnFwdAttnRefIdeal.Stage.gate]
      funext y
      idx_vars y
      exact Cert.FfnFinalRefIdeal.Stage.at89 (Cert.FfnFwdAttnRefIdeal.Stage.args H.h0 H.h1 H.h2 H.h3 H.h4 H.h5) _ _ _
    · obtain ⟨a0, a1, a2, a3, a4, a5⟩ := hagree c
      have H := ffa_holds m c hpre
      rw [Cert.FfnFwdAttnRefIdeal.Read.val_main_v32_eq, a0, a1, a2, a3, a4, a5, Cert.FfnFwdAttnIdeal.Array.final_9 m c H,
        Cert.FfnFwdAttnRefIdeal.Stage.last]
      funext y
      idx_vars y
      exact Cert.FfnFinalRefIdeal.Stage.at22 (Cert.FfnFwdAttnRefIdeal.Stage.args H.h0 H.h1 H.h2 H.h3 H.h4 H.h5) _ _

end Cert.Proof

end
-- ==== Proof.lean ====
/-
  The claims of the gradient calls, of the attention, of the convolution module's two pointwise products with what stands around them,
  and of the first feed-forward layer: every run ends, with the arguments and the semaphores as they were; and each kernel's results are
  its reference's.
-/
module

public import proofs.«01_k».proof.Defs
public import proofs.«01_k».proof.Proof.Gen.ConvPostBwd
public import proofs.«01_k».proof.Proof.Gen.ConvPostBwd.Skeleton
public import proofs.«01_k».proof.Proof.Gen.ConvPostBwd.Launch
public import proofs.«01_k».proof.Proof.Gen.ConvPostBwd.Points
public import proofs.«01_k».proof.Proof.Gen.ConvPostBwd.Frame
public import proofs.«01_k».proof.Proof.Gen.ConvPostBwdIdeal
public import proofs.«01_k».proof.Proof.Gen.ConvPostBwdIdeal.Skeleton
public import proofs.«01_k».proof.Proof.Gen.ConvPostBwdIdeal.Launch
public import proofs.«01_k».proof.Proof.Gen.ConvPostBwdIdeal.Points
public import proofs.«01_k».proof.Proof.Gen.ConvPostBwdIdeal.Frame
public import proofs.«01_k».proof.Proof.Gen.ConvPostBwdRefIdeal
public import proofs.«01_k».proof.Proof.Gen.ConvPostBwdIdeal.Value
public import proofs.«01_k».proof.Proof.Gen.ConvPostBwdRefIdeal.Run
public import proofs.«01_k».proof.Proof.Gen.ConvPostBwdRefIdeal.Read
public import proofs.«01_k».proof.Proof.Gen.ConvPreBwd
public import proofs.«01_k».proof.Proof.Gen.ConvPreBwd.Skeleton
public import proofs.«01_k».proof.Proof.Gen.ConvPreBwd.Launch
public import proofs.«01_k».proof.Proof.Gen.ConvPreBwd.Points
public import proofs.«01_k».proof.Proof.Gen.ConvPreBwd.Frame
public import proofs.«01_k».proof.Proof.Gen.ConvPreBwdIdeal
public import proofs.«01_k».proof.Proof.Gen.ConvPreBwdIdeal.Skeleton
public import proofs.«01_k».proof.Proof.Gen.ConvPreBwdIdeal.Launch
public import proofs.«01_k».proof.Proof.Gen.ConvPreBwdIdeal.Points
public import proofs.«01_k».proof.Proof.Gen.ConvPreBwdIdeal.Frame
public import proofs.«01_k».proof.Proof.Gen.ConvPreBwdRefIdeal
public import proofs.«01_k».proof.Proof.Gen.ConvPreBwdIdeal.Value
public import proofs.«01_k».proof.Proof.Gen.ConvPreBwdRefIdeal.Run
public import proofs.«01_k».proof.Proof.Gen.ConvPreBwdRefIdeal.Read
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdRefIdeal
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Gen.FfnBwdOut
public import proofs.«01_k».proof.Proof.Gen.FfnBwdOut.Skeleton
public import proofs.«01_k».proof.Proof.Gen.FfnBwdOut.Launch
public import proofs.«01_k».proof.Proof.Gen.FfnBwdOut.Points
public import proofs.«01_k».proof.Proof.Gen.FfnBwdOut.Frame
public import proofs.«01_k».proof.Proof.Gen.FfnBwdOutIdeal
public import proofs.«01_k».proof.Proof.Gen.FfnBwdOutIdeal.Skeleton
public import proofs.«01_k».proof.Proof.Gen.FfnBwdOutIdeal.Launch
public import proofs.«01_k».proof.Proof.Gen.FfnBwdOutIdeal.Points
public import proofs.«01_k».proof.Proof.Gen.FfnBwdOutIdeal.Frame
public import proofs.«01_k».proof.Proof.Gen.FfnBwdOutRefIdeal
public import proofs.«01_k».proof.Proof.Gen.FfnBwdOutIdeal.Value
public import proofs.«01_k».proof.Proof.Gen.FfnBwdOutRefIdeal.Run
public import proofs.«01_k».proof.Proof.Gen.FfnBwdOutRefIdeal.Read
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnFinalRefIdeal
public import proofs.«01_k».proof.Proof.Gen.FfnFinalIdeal.Value
public import proofs.«01_k».proof.Proof.Gen.FfnFinalRefIdeal.Run
public import proofs.«01_k».proof.Proof.Gen.FfnFinalRefIdeal.Read
public import proofs.«01_k».proof.Proof.Gen.AttnPreBwd
public import proofs.«01_k».proof.Proof.Gen.AttnPreBwd.Skeleton
public import proofs.«01_k».proof.Proof.Gen.AttnPreBwd.Launch
public import proofs.«01_k».proof.Proof.Gen.AttnPreBwd.Points
public import proofs.«01_k».proof.Proof.Gen.AttnPreBwd.Frame
public import proofs.«01_k».proof.Proof.Gen.AttnPreBwdIdeal
public import proofs.«01_k».proof.Proof.Gen.AttnPreBwdIdeal.Skeleton
public import proofs.«01_k».proof.Proof.Gen.AttnPreBwdIdeal.Launch
public import proofs.«01_k».proof.Proof.Gen.AttnPreBwdIdeal.Points
public import proofs.«01_k».proof.Proof.Gen.AttnPreBwdIdeal.Frame
public import proofs.«01_k».proof.Proof.Gen.AttnPreBwdRefIdeal
public import proofs.«01_k».proof.Proof.Gen.AttnPreBwdIdeal.Value
public import proofs.«01_k».proof.Proof.Gen.AttnPreBwdRefIdeal.Run
public import proofs.«01_k».proof.Proof.Gen.AttnPreBwdRefIdeal.Read
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.ConvPre
public import proofs.«01_k».proof.Proof.Gen.ConvPre.Skeleton
public import proofs.«01_k».proof.Proof.Gen.ConvPre.Launch
public import proofs.«01_k».proof.Proof.Gen.ConvPre.Points
public import proofs.«01_k».proof.Proof.Gen.ConvPre.Frame
public import proofs.«01_k».proof.Proof.Gen.ConvPreIdeal
public import proofs.«01_k».proof.Proof.Gen.ConvPreIdeal.Skeleton
public import proofs.«01_k».proof.Proof.Gen.ConvPreIdeal.Launch
public import proofs.«01_k».proof.Proof.Gen.ConvPreIdeal.Points
public import proofs.«01_k».proof.Proof.Gen.ConvPreIdeal.Frame
public import proofs.«01_k».proof.Proof.Gen.ConvPreRefIdeal
public import proofs.«01_k».proof.Proof.Gen.ConvPreIdeal.Value
public import proofs.«01_k».proof.Proof.Gen.ConvPreRefIdeal.Run
public import proofs.«01_k».proof.Proof.Gen.ConvPreRefIdeal.Read
public import proofs.«01_k».proof.Proof.Gen.ConvPost
public import proofs.«01_k».proof.Proof.Gen.ConvPost.Skeleton
public import proofs.«01_k».proof.Proof.Gen.ConvPost.Launch
public import proofs.«01_k».proof.Proof.Gen.ConvPost.Points
public import proofs.«01_k».proof.Proof.Gen.ConvPost.Frame
public import proofs.«01_k».proof.Proof.Gen.ConvPostIdeal
public import proofs.«01_k».proof.Proof.Gen.ConvPostIdeal.Skeleton
public import proofs.«01_k».proof.Proof.Gen.ConvPostIdeal.Launch
public import proofs.«01_k».proof.Proof.Gen.ConvPostIdeal.Points
public import proofs.«01_k».proof.Proof.Gen.ConvPostIdeal.Frame
public import proofs.«01_k».proof.Proof.Gen.ConvPostRefIdeal
public import proofs.«01_k».proof.Proof.Gen.ConvPostIdeal.Value
public import proofs.«01_k».proof.Proof.Gen.ConvPostRefIdeal.Run
public import proofs.«01_k».proof.Proof.Gen.ConvPostRefIdeal.Read
public import proofs.«01_k».proof.Proof.Gen.FfnFwdAttn
public import proofs.«01_k».proof.Proof.Gen.FfnFwdAttn.Skeleton
public import proofs.«01_k».proof.Proof.Gen.FfnFwdAttn.Launch
public import proofs.«01_k».proof.Proof.Gen.FfnFwdAttn.Points
public import proofs.«01_k».proof.Proof.Gen.FfnFwdAttn.Frame
public import proofs.«01_k».proof.Proof.Gen.FfnFwdAttnIdeal
public import proofs.«01_k».proof.Proof.Gen.FfnFwdAttnIdeal.Skeleton
public import proofs.«01_k».proof.Proof.Gen.FfnFwdAttnIdeal.Launch
public import proofs.«01_k».proof.Proof.Gen.FfnFwdAttnIdeal.Points
public import proofs.«01_k».proof.Proof.Gen.FfnFwdAttnIdeal.Frame
public import proofs.«01_k».proof.Proof.Gen.FfnFwdAttnRefIdeal
public import proofs.«01_k».proof.Proof.Gen.FfnFwdAttnIdeal.Value
public import proofs.«01_k».proof.Proof.Gen.FfnFwdAttnRefIdeal.Run
public import proofs.«01_k».proof.Proof.Gen.FfnFwdAttnRefIdeal.Read
public import Idealize.ShloMosaic.Adequacy
public import Idealize.ShloMosaic.Init

public import proofs.«01_k».proof.Proof.PostPair
public import proofs.«01_k».proof.Proof.GatePair
public import proofs.«01_k».proof.Proof.FfnPair
public import proofs.«01_k».proof.Proof.FfoPair
public import proofs.«01_k».proof.Proof.FinPair
public import proofs.«01_k».proof.Proof.RopePair
public import proofs.«01_k».proof.Proof.AttnPair
public import proofs.«01_k».proof.Proof.AttnBits
public import proofs.«01_k».proof.Proof.AtfPair
public import proofs.«01_k».proof.Proof.CpfPair
public import proofs.«01_k».proof.Proof.CpoPair
public import proofs.«01_k».proof.Proof.FfaPair

@[expose] public section

noncomputable section

namespace Cert.Proof

open Idealize.ShloMosaic Idealize.SL.Sem

theorem claim : Cert.Claim := ⟨Cert.ConvPostBwd.Gen.facts, Cert.ConvPostBwdIdeal.Gen.facts, Cert.ConvPostBwdRefIdeal.Gen.facts, Cert.ConvPreBwd.Gen.facts, Cert.ConvPreBwdIdeal.Gen.facts, Cert.ConvPreBwdRefIdeal.Gen.facts, Cert.FfnBwd.Gen.facts, Cert.FfnBwdIdeal.Gen.facts, Cert.FfnBwdRefIdeal.Gen.facts, Cert.FfnBwdOut.Gen.facts, Cert.FfnBwdOutIdeal.Gen.facts, Cert.FfnBwdOutRefIdeal.Gen.facts, Cert.FfnFinal.Gen.facts, Cert.FfnFinalIdeal.Gen.facts, Cert.FfnFinalRefIdeal.Gen.facts, Cert.AttnPreBwd.Gen.facts, Cert.AttnPreBwdIdeal.Gen.facts, Cert.AttnPreBwdRefIdeal.Gen.facts, Cert.AttnBwd.Gen.facts, Cert.AttnBwdIdeal.Gen.facts, Cert.AttnBwdRefIdeal.Gen.facts, Cert.AttnFwd.Gen.facts, Cert.AttnFwdIdeal.Gen.facts, Cert.AttnFwdRefIdeal.Gen.facts, Cert.ConvPre.Gen.facts, Cert.ConvPreIdeal.Gen.facts, Cert.ConvPreRefIdeal.Gen.facts, Cert.ConvPost.Gen.facts, Cert.ConvPostIdeal.Gen.facts, Cert.ConvPostRefIdeal.Gen.facts, Cert.FfnFwdAttn.Gen.facts, Cert.FfnFwdAttnIdeal.Gen.facts, Cert.FfnFwdAttnRefIdeal.Gen.facts, facts_all_finite3, facts_finite2, facts_finite4, facts_finite6, facts_finite8, facts_finite7, facts_finite5, facts_finite9, facts_finite11,
  fun m ρ _ => Cert.ConvPostBwd.Gen.frame m ρ,
  fun m ρ _ => Cert.ConvPostBwdIdeal.Gen.frame m ρ,
  fun m ρ _ => Cert.ConvPostBwdIdeal.Gen.frame m ρ,
  fun m ρ _ => post_ref_frame m ρ,
  fun m ρ _ => post_ref_frame m ρ,
  fun m ρ _ => Cert.ConvPreBwd.Gen.frame m ρ,
  fun m ρ _ => Cert.ConvPreBwdIdeal.Gen.frame m ρ,
  fun m ρ _ => Cert.ConvPreBwdIdeal.Gen.frame m ρ,
  fun m ρ _ => gate_ref_frame m ρ,
  fun m ρ _ => gate_ref_frame m ρ,
  fun m ρ _ => Cert.FfnBwd.Gen.frame m ρ,
  fun m ρ _ => Cert.FfnBwdIdeal.Gen.frame m ρ,
  fun m ρ _ => Cert.FfnBwdIdeal.Gen.frame m ρ,
  fun m ρ _ => ffn_ref_frame m ρ,
  fun m ρ _ => ffn_ref_frame m ρ,
  fun m ρ _ => Cert.FfnBwdOut.Gen.frame m ρ,
  fun m ρ _ => Cert.FfnBwdOutIdeal.Gen.frame m ρ,
  fun m ρ _ => Cert.FfnBwdOutIdeal.Gen.frame m ρ,
  fun m ρ _ => ffo_ref_frame m ρ,
  fun m ρ _ => ffo_ref_frame m ρ,
  fun m ρ _ => Cert.FfnFinal.Gen.frame m ρ,
  fun m ρ _ => Cert.FfnFinalIdeal.Gen.frame m ρ,
  fun m ρ _ => Cert.FfnFinalIdeal.Gen.frame m ρ,
  fun m ρ _ => fin_ref_frame m ρ,
  fun m ρ _ => fin_ref_frame m ρ,
  fun m ρ _ => Cert.AttnPreBwd.Gen.frame m ρ,
  fun m ρ _ => Cert.AttnPreBwdIdeal.Gen.frame m ρ,
  fun m ρ _ => Cert.AttnPreBwdIdeal.Gen.frame m ρ,
  fun m ρ _ => rope_ref_frame m ρ,
  fun m ρ _ => rope_ref_frame m ρ,
  attn_bits_frame,
  fun m ρ _ => Cert.AttnBwdIdeal.Body.frame m ρ,
  fun m ρ _ => Cert.AttnBwdIdeal.Body.frame m ρ,
  fun m ρ _ => attn_ref_frame m ρ,
  fun m ρ _ => attn_ref_frame m ρ,
  fun m ρ _ => Cert.AttnFwd.Gen.frame m ρ,
  fun m ρ _ => Cert.AttnFwdIdeal.Gen.frame m ρ,
  fun m ρ _ => Cert.AttnFwdIdeal.Gen.frame m ρ,
  fun m ρ _ => atf_ref_frame m ρ,
  fun m ρ _ => atf_ref_frame m ρ,
  fun m ρ _ => Cert.ConvPre.Gen.frame m ρ,
  fun m ρ _ => Cert.ConvPreIdeal.Gen.frame m ρ,
  fun m ρ _ => cpf_ref_frame m ρ,
  fun m ρ _ => Cert.ConvPost.Gen.frame m ρ,
  fun m ρ _ => Cert.ConvPostIdeal.Gen.frame m ρ,
  fun m ρ _ => cpo_ref_frame m ρ,
  fun m ρ _ => Cert.FfnFwdAttn.Gen.frame m ρ,
  fun m ρ _ => Cert.FfnFwdAttnIdeal.Gen.frame m ρ,
  fun m ρ _ => Cert.FfnFwdAttnIdeal.Gen.frame m ρ,
  fun m ρ _ => ffa_ref_frame m ρ,
  fun m ρ _ => ffa_ref_frame m ρ,
  trivial,
  post_algebraic,
  trivial,
  gate_algebraic,
  trivial,
  ffn_algebraic,
  trivial,
  ffo_algebraic,
  trivial,
  fin_algebraic,
  trivial,
  rope_algebraic,
  trivial,
  attn_algebraic,
  trivial,
  atf_algebraic,
  trivial,
  cpf_algebraic,
  trivial,
  cpo_algebraic,
  trivial,
  ffa_algebraic⟩

end Cert.Proof

end
